-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_v173) = v1 c
          ∧ r.2.mem ((c.tc : Thread Cert.ReferenceIdeal.nD Cert.ReferenceIdeal.τ).loc Cert.ReferenceIdeal.main_v174) = v2 c
          ∧ r.2.mem ((c.tc : Thread Cert.ReferenceIdeal.nD Cert.ReferenceIdeal.τ).loc Cert.ReferenceIdeal.main_v175) = v3 c
          ∧ r.2.mem ((c.tc : Thread Cert.ReferenceIdeal.nD Cert.ReferenceIdeal.τ).loc Cert.ReferenceIdeal.main_v176) = v4 c
          ∧ r.2.mem ((c.tc : Thread Cert.ReferenceIdeal.nD Cert.ReferenceIdeal.τ).loc Cert.ReferenceIdeal.main_v171) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)) →
    ∃ (v0 : (c : Dev Cert.Kernel4Ideal.nD) → Buf (Elt Ideal) ((c.tc : Thread Cert.Kernel4Ideal.nD Cert.Kernel4Ideal.τ).loc Cert.Kernel4Ideal.main_v26_0)) (v1 : (c : Dev Cert.Kernel4Ideal.nD) → Buf (Elt Ideal) ((c.tc : Thread Cert.Kernel4Ideal.nD Cert.Kernel4Ideal.τ).loc Cert.Kernel4Ideal.main_v26_1)) (v2 : (c : Dev Cert.Kernel4Ideal.nD) → Buf (Elt Ideal) ((c.tc : Thread Cert.Kernel4Ideal.nD Cert.Kernel4Ideal.τ).loc Cert.Kernel4Ideal.main_v26_2)) (v3 : (c : Dev Cert.Kernel4Ideal.nD) → Buf (Elt Ideal) ((c.tc : Thread Cert.Kernel4Ideal.nD Cert.Kernel4Ideal.τ).loc Cert.Kernel4Ideal.main_v26_3)) (v4 : (c : Dev Cert.Kernel4Ideal.nD) → Buf (Elt Ideal) ((c.tc : Thread Cert.Kernel4Ideal.nD Cert.Kernel4Ideal.τ).loc Cert.Kernel4Ideal.main_v26_4)) (v5 : (c : Dev Cert.Kernel4Ideal.nD) → Buf (Elt Ideal) ((c.tc : Thread Cert.Kernel4Ideal.nD Cert.Kernel4Ideal.τ).loc Cert.Kernel4Ideal.main_v26_5)) (v6 : (c : Dev Cert.Kernel4Ideal.nD) → Buf (Elt Ideal) ((c.tc : Thread Cert.Kernel4Ideal.nD Cert.Kernel4Ideal.τ).loc Cert.Kernel4Ideal.main_v26_6)) (v7 : (c : Dev Cert.Kernel4Ideal.nD) → Buf (Elt Ideal) ((c.tc : Thread Cert.Kernel4Ideal.nD Cert.Kernel4Ideal.τ).loc Cert.Kernel4Ideal.main_v26_9)) (v8 : (c : Dev Cert.Kernel4Ideal.nD) → Buf (Elt Ideal) ((c.tc : Thread Cert.Kernel4Ideal.nD Cert.Kernel4Ideal.τ).loc Cert.Kernel4Ideal.main_v26_10)) (v9 : (c : Dev Cert.Kernel4Ideal.nD) → Buf (Elt Ideal) ((c.tc : Thread Cert.Kernel4Ideal.nD Cert.Kernel4Ideal.τ).loc Cert.Kernel4Ideal.main_v26_11)) (v10 : (c : Dev Cert.Kernel4Ideal.nD) → Buf (Elt Ideal) ((c.tc : Thread Cert.Kernel4Ideal.nD Cert.Kernel4Ideal.τ).loc Cert.Kernel4Ideal.main_v26_12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26_0) = v0 c
          ∧ r.2.mem ((c.tc : Thread Cert.Kernel4Ideal.nD Cert.Kernel4Ideal.τ).loc Cert.Kernel4Ideal.main_v26_1) = v1 c
          ∧ r.2.mem ((c.tc : Thread Cert.Kernel4Ideal.nD Cert.Kernel4Ideal.τ).loc Cert.Kernel4Ideal.main_v26_2) = v2 c
          ∧ r.2.mem ((c.tc : Thread Cert.Kernel4Ideal.nD Cert.Kernel4Ideal.τ).loc Cert.Kernel4Ideal.main_v26_3) = v3 c
          ∧ r.2.mem ((c.tc : Thread Cert.Kernel4Ideal.nD Cert.Kernel4Ideal.τ).loc Cert.Kernel4Ideal.main_v26_4) = v4 c
          ∧ r.2.mem ((c.tc : Thread Cert.Kernel4Ideal.nD Cert.Kernel4Ideal.τ).loc Cert.Kernel4Ideal.main_v26_5) = v5 c
          ∧ r.2.mem ((c.tc : Thread Cert.Kernel4Ideal.nD Cert.Kernel4Ideal.τ).loc Cert.Kernel4Ideal.main_v26_6) = v6 c
          ∧ r.2.mem ((c.tc : Thread Cert.Kernel4Ideal.nD Cert.Kernel4Ideal.τ).loc Cert.Kernel4Ideal.main_v26_9) = v7 c
          ∧ r.2.mem ((c.tc : Thread Cert.Kernel4Ideal.nD Cert.Kernel4Ideal.τ).loc Cert.Kernel4Ideal.main_v26_10) = v8 c
          ∧ r.2.mem ((c.tc : Thread Cert.Kernel4Ideal.nD Cert.Kernel4Ideal.τ).loc Cert.Kernel4Ideal.main_v26_11) = v9 c
          ∧ r.2.mem ((c.tc : Thread Cert.Kernel4Ideal.nD Cert.Kernel4Ideal.τ).loc Cert.Kernel4Ideal.main_v26_12) = v10 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v368) = v0 c
          ∧ r.2.mem ((c.tc : Thread Cert.Reference4Ideal.nD Cert.Reference4Ideal.τ).loc Cert.Reference4Ideal.main_v369) = v1 c
          ∧ r.2.mem ((c.tc : Thread Cert.Reference4Ideal.nD Cert.Reference4Ideal.τ).loc Cert.Reference4Ideal.main_v31) = v2 c
          ∧ r.2.mem ((c.tc : Thread Cert.Reference4Ideal.nD Cert.Reference4Ideal.τ).loc Cert.Reference4Ideal.main_v78) = v3 c
          ∧ r.2.mem ((c.tc : Thread Cert.Reference4Ideal.nD Cert.Reference4Ideal.τ).loc Cert.Reference4Ideal.main_v370) = v4 c
          ∧ r.2.mem ((c.tc : Thread Cert.Reference4Ideal.nD Cert.Reference4Ideal.τ).loc Cert.Reference4Ideal.main_v362) = v5 c
          ∧ r.2.mem ((c.tc : Thread Cert.Reference4Ideal.nD Cert.Reference4Ideal.τ).loc Cert.Reference4Ideal.main_v38) = v6 c
          ∧ r.2.mem ((c.tc : Thread Cert.Reference4Ideal.nD Cert.Reference4Ideal.τ).loc Cert.Reference4Ideal.main_v61) = v7 c
          ∧ r.2.mem ((c.tc : Thread Cert.Reference4Ideal.nD Cert.Reference4Ideal.τ).loc Cert.Reference4Ideal.main_v371) = v8 c
          ∧ r.2.mem ((c.tc : Thread Cert.Reference4Ideal.nD Cert.Reference4Ideal.τ).loc Cert.Reference4Ideal.main_v326) = v9 c
          ∧ r.2.mem ((c.tc : Thread Cert.Reference4Ideal.nD Cert.Reference4Ideal.τ).loc Cert.Reference4Ideal.main_v325) = v10 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S8192x1024 : Shape := ⟨2, ![8192, 1024]⟩
abbrev S8x1024 : Shape := ⟨2, ![8, 1024]⟩
abbrev S1x1024 : Shape := ⟨2, ![1, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S5x1024 : Shape := ⟨2, ![5, 1024]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  slices_S8x1024_S5x1024_3_0 : S8x1024.Slices ![3, 0] S5x1024
  bcast_S_S5x1024 : S_.BroadcastsInDim S5x1024 (![] : Fin 0 → Fin S5x1024.rank)
  reducesTo_S5x1024_S_d0_1 : S5x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_v29 : IVec S_ 1) (main_v33 : IVec S_ 1) : IVec S_ 1 :=
  let main_v34 : IVec S_ 1 := andi main_v29 main_v33
  main_v34

def fn_part1 {F : FTy → Type} [FloatOps F] (main_arg4 : FVec F S1024 .f32) (main_arg5 : FVec F S1024x5632 .f32) (main_arg6 : FVec F S2816x1024 .f32) (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  let main_v20 : FVec F S1024 .f32 := Host.absf main_arg4
  let main_cst_6 : FVec F S_ .f32 := constant S_ .f32 0x7F800000#32
  let main_v21 : FVec F S1024 .f32 := broadcastInDim S1024 ![] bcast_S_S1024 main_cst_6
  let main_v22 : IVec S1024 1 := cmpf .olt main_v20 main_v21
  let main_c_7 : IVec S_ 1 := constantI S_ 1 1#1
  let main_v23 : IVec S_ 1 := (fun x v => Host.reduce IntOp.andi x v reducesTo_S1024_S_d0 h_S_) main_v22 main_c_7
  let main_v24 : IVec S_ 1 := andi main_v19 main_v23
  let main_v25 : FVec F S1024x5632 .f32 := Host.absf main_arg5
  let main_cst_8 : FVec F S_ .f32 := constant S_ .f32 0x7F800000#32
  let main_v26 : FVec F S1024x5632 .f32 := broadcastInDim S1024x5632 ![] bcast_S_S1024x5632 main_cst_8
  let main_v27 : IVec S1024x5632 1 := cmpf .olt main_v25 main_v26
  let main_c_9 : IVec S_ 1 := constantI S_ 1 1#1
  let main_v28 : IVec S_ 1 := (fun x v => Host.reduce IntOp.andi x v reducesTo_S1024x5632_S_d0_1 h_S_) main_v27 main_c_9
  let main_v29 : IVec S_ 1 := andi main_v24 main_v28
  let main_v30 : FVec F S2816x1024 .f32 := Host.absf main_arg6
  let main_cst_10 : FVec F S_ .f32 := constant S_ .f32 0x7F800000#32
  let main_v31 : FVec F S2816x1024 .f32 := broadcastInDim S2816x1024 ![] bcast_S_S2816x1024 main_cst_10
  let main_v32 : IVec S2816x1024 1 := cmpf .olt main_v30 main_v31
  let main_c_11 : IVec S_ 1 := constantI S_ 1 1#1
  let main_v33 : IVec S_ 1 := (fun x v => Host.reduce IntOp.andi x v reducesTo_S2816x1024_S_d0_1 h_S_) main_v32 main_c_11
  fn_part2 (F := F) main_v29 main_v33

def fn {F : FTy → Type} [FloatOps F] (main_arg0 : FVec F S8192x1024 .f32) (main_arg1 : FVec F S8192x1024 .f32) (main_arg2 : FVec F S8x1024 .f32) (main_arg3 : FVec F S1x1024 .f32) (main_arg4 : FVec F S1024 .f32) (main_arg5 : FVec F S1024x5632 .f32) (main_arg6 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S5x1024 .f32 := (extractStridedSlice S5x1024 ![3, 0] · slices_S8x1024_S5x1024_3_0) main_arg2
  let main_v5 : FVec F S8192x1024 .f32 := Host.absf main_arg1
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v3 main_v8
  let main_v10 : FVec F S5x1024 .f32 := Host.absf main_v4
  let main_cst_2 : FVec F S_ .f32 := constant S_ .f32 0x7F800000#32
  let main_v11 : FVec F S5x1024 .f32 := broadcastInDim S5x1024 ![] bcast_S_S5x1024 main_cst_2
  let main_v12 : IVec S5x1024 1 := cmpf .olt main_v10 main_v11
  let main_c_3 : IVec S_ 1 := constantI S_ 1 1#1
  let main_v13 : IVec S_ 1 := (fun x v => Host.reduce IntOp.andi x v reducesTo_S5x1024_S_d0_1 h_S_) main_v12 main_c_3
  let main_v14 : IVec S_ 1 := andi main_v9 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_arg4 main_arg5 main_arg6 main_v14 main_v15 main_v16
-- ==== Pre_finite4.lean ====
abbrev S8192x1024 : Shape := ⟨2, ![8192, 1024]⟩
abbrev S8x1024 : Shape := ⟨2, ![8, 1024]⟩
abbrev S1x1024 : Shape := ⟨2, ![1, 1024]⟩
abbrev S1024x2048 : Shape := ⟨2, ![1024, 2048]⟩
abbrev S1x2048 : Shape := ⟨2, ![1, 2048]⟩
abbrev S1x512 : Shape := ⟨2, ![1, 512]⟩
abbrev S8x128x128 : Shape := ⟨3, ![8, 128, 128]⟩
abbrev S8x128 : Shape := ⟨2, ![8, 128]⟩
abbrev S31x512 : Shape := ⟨2, ![31, 512]⟩
abbrev S1024x1024 : Shape := ⟨2, ![1024, 1024]⟩
abbrev S2x1024 : Shape := ⟨2, ![2, 1024]⟩
abbrev S_ : Shape := ⟨0, ![]⟩
abbrev S1024x512 : Shape := ⟨2, ![1024, 512]⟩

class Facts : Prop where
  slices_S8x1024_S2x1024_0_0 : S8x1024.Slices ![0, 0] S2x1024
  bcast_S_S2x1024 : S_.BroadcastsInDim S2x1024 (![] : Fin 0 → Fin S2x1024.rank)
  reducesTo_S2x1024_S_d0_1 : S2x1024.ReducesTo [0, 1] S_
  h_S_ : 0 < S_.numel
  slices_S1024x2048_S1024x512_0_1024 : S1024x2048.Slices ![0, 1024] S1024x512
  slices_S1x2048_S1x512_0_1024 : S1x2048.Slices ![0, 1024] S1x512
  bcast_S_S1x1024 : S_.BroadcastsInDim S1x1024 (![] : Fin 0 → Fin S1x1024.rank)
  reducesTo_S1x1024_S_d0_1 : S1x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1x512 : S_.BroadcastsInDim S1x512 (![] : Fin 0 → Fin S1x512.rank)
  reducesTo_S1x512_S_d0_1 : S1x512.ReducesTo [0, 1] S_
  bcast_S_S31x512 : S_.BroadcastsInDim S31x512 (![] : Fin 0 → Fin S31x512.rank)
  reducesTo_S31x512_S_d0_1 : S31x512.ReducesTo [0, 1] S_

variable [Facts]

def fn_part1 {F : FTy → Type} [FloatOps F] (main_arg9 : FVec F S31x512 .f32) (main_arg10 : FVec F S1x512 .f32) (main_v16 : IVec S_ 1) (main_v17 : FVec F S1x512 .f32) : IVec S_ 1 :=
  let main_cst_4 : FVec F S_ .f32 := constant S_ .f32 0x7F800000#32
  let main_v18 : FVec F S1x512 .f32 := broadcastInDim S1x512 ![] bcast_S_S1x512 main_cst_4
  let main_v19 : IVec S1x512 1 := cmpf .olt main_v17 main_v18
  let main_c_5 : IVec S_ 1 := constantI S_ 1 1#1
  let main_v20 : IVec S_ 1 := (fun x v => Host.reduce IntOp.andi x v reducesTo_S1x512_S_d0_1 h_S_) main_v19 main_c_5
  let main_v21 : IVec S_ 1 := andi main_v16 main_v20
  let main_v22 : FVec F S31x512 .f32 := Host.absf main_arg9
  let main_cst_6 : FVec F S_ .f32 := constant S_ .f32 0x7F800000#32
  let main_v23 : FVec F S31x512 .f32 := broadcastInDim S31x512 ![] bcast_S_S31x512 main_cst_6
  let main_v24 : IVec S31x512 1 := cmpf .olt main_v22 main_v23
  let main_c_7 : IVec S_ 1 := constantI S_ 1 1#1
  let main_v25 : IVec S_ 1 := (fun x v => Host.reduce IntOp.andi x v reducesTo_S31x512_S_d0_1 h_S_) main_v24 main_c_7
  let main_v26 : IVec S_ 1 := andi main_v21 main_v25
  let main_v27 : FVec F S1x512 .f32 := Host.absf main_arg10
  let main_cst_8 : FVec F S_ .f32 := constant S_ .f32 0x7F800000#32
  let main_v28 : FVec F S1x512 .f32 := broadcastInDim S1x512 ![] bcast_S_S1x512 main_cst_8
  let main_v29 : IVec S1x512 1 := cmpf .olt main_v27 main_v28
  let main_c_9 : IVec S_ 1 := constantI S_ 1 1#1
  let main_v30 : IVec S_ 1 := (fun x v => Host.reduce IntOp.andi x v reducesTo_S1x512_S_d0_1 h_S_) main_v29 main_c_9
  let main_v31 : IVec S_ 1 := andi main_v26 main_v30
  main_v31

def fn {F : FTy → Type} [FloatOps F] (main_arg0 : FVec F S8192x1024 .f32) (main_arg1 : FVec F S8x1024 .f32) (main_arg2 : FVec F S1x1024 .f32) (main_arg3 : FVec F S1024x2048 .f32) (main_arg4 : FVec F S1x2048 .f32) (main_arg5 : FVec F S1x512 .f32) (main_arg6 : FVec F S1x512 .f32) (main_arg7 : FVec F S8x128x128 .f32) (main_arg8 : FVec F S8x128 .f32) (main_arg9 : FVec F S31x512 .f32) (main_arg10 : FVec F S1x512 .f32) (main_arg11 : FVec F S1x512 .f32) (main_arg12 : FVec F S1x512 .f32) (main_arg13 : FVec F S1x512 .f32) (main_arg14 : FVec F S1x512 .f32) (main_arg15 : FVec F S1024x1024 .f32) : IVec S_ 1 :=
  let main_v0 : FVec F S2x1024 .f32 := (extractStridedSlice S2x1024 ![0, 0] · slices_S8x1024_S2x1024_0_0) main_arg1
  let main_v1 : FVec F S2x1024 .f32 := Host.absf main_v0
  let main_cst : FVec F S_ .f32 := constant S_ .f32 0x7F800000#32
  let main_v2 : FVec F S2x1024 .f32 := broadcastInDim S2x1024 ![] bcast_S_S2x1024 main_cst
  let main_v3 : IVec S2x1024 1 := cmpf .olt main_v1 main_v2
  let main_c : IVec S_ 1 := constantI S_ 1 1#1
  let main_v4 : IVec S_ 1 := (fun x v => Host.reduce IntOp.andi x v reducesTo_S2x1024_S_d0_1 h_S_) main_v3 main_c
  let main_v5 : FVec F S1024x512 .f32 := (extractStridedSlice S1024x512 ![0, 1024] · slices_S1024x2048_S1024x512_0_1024) main_arg3
  let main_v6 : FVec F S1x512 .f32 := (extractStridedSlice S1x512 ![0, 1024] · slices_S1x2048_S1x512_0_1024) main_arg4
  let main_v7 : FVec F S1x1024 .f32 := Host.absf main_arg2
  let main_cst_0 : FVec F S_ .f32 := constant S_ .f32 0x7F800000#32
  let main_v8 : FVec F S1x1024 .f32 := broadcastInDim S1x1024 ![] bcast_S_S1x1024 main_cst_0
  let main_v9 : IVec S1x1024 1 := cmpf .olt main_v7 main_v8
  let main_c_1 : IVec S_ 1 := constantI S_ 1 1#1
  let main_v10 : IVec S_ 1 := (fun x v => Host.reduce IntOp.andi x v reducesTo_S1x1024_S_d0_1 h_S_) main_v9 main_c_1
  let main_v11 : IVec S_ 1 := andi main_v4 main_v10
  let main_v12 : FVec F S1024x512 .f32 := Host.absf main_v5
  let main_cst_2 : FVec F S_ .f32 := constant S_ .f32 0x7F800000#32
  let main_v13 : FVec F S1024x512 .f32 := broadcastInDim S1024x512 ![] bcast_S_S1024x512 main_cst_2
  let main_v14 : IVec S1024x512 1 := cmpf .olt main_v12 main_v13
  let main_c_3 : IVec S_ 1 := constantI S_ 1 1#1
  let main_v15 : IVec S_ 1 := (fun x v => Host.reduce IntOp.andi x v reducesTo_S1024x512_S_d0_1 h_S_) main_v14 main_c_3
  let main_v16 : IVec S_ 1 := andi main_v11 main_v15
  let main_v17 : FVec F S1x512 .f32 := Host.absf main_v6
  fn_part1 (F := F) main_arg9 main_arg10 main_v16 main_v17
-- ==== Kernel.lean ====
abbrev S8192x1024 : Shape := ⟨2, ![8192, 1024]⟩
abbrev S8x1024 : Shape := ⟨2, ![8, 1024]⟩
abbrev S1x1024 : Shape := ⟨2, ![1, 1024]⟩
abbrev S1024 : Shape := ⟨1, ![1024]⟩
abbrev S1024x5632 : Shape := ⟨2, ![1024, 5632]⟩
abbrev S2816x1024 : Shape := ⟨2, ![2816, 1024]⟩
abbrev S5632x1024 : Shape := ⟨2, ![5632, 1024]⟩
abbrev S8192x5632 : Shape := ⟨2, ![8192, 5632]⟩
abbrev S8192x2816 : Shape := ⟨2, ![8192, 2816]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S1024x1024 : Shape := ⟨2, ![1024, 1024]⟩
abbrev S768x1024 : Shape := ⟨2, ![768, 1024]⟩
abbrev S256x768 : Shape := ⟨2, ![256, 768]⟩

abbrev nBuf : Space → Nat
  | .hbm => 17
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8x1024, .f32⟩
  | .hbm, ⟨3, _⟩ => ⟨S1x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1x1024, .f32⟩
  | .hbm, ⟨8, _⟩ => ⟨S5632x1024, .f32⟩
  | .hbm, ⟨9, _⟩ => ⟨S5632x1024, .bf16⟩
  | .hbm, ⟨10, _⟩ => ⟨S2816x1024, .bf16⟩
  | .hbm, ⟨11, _⟩ => ⟨S8192x1024, .f32⟩
  | .hbm, ⟨12, _⟩ => ⟨S8192x1024, .bf16⟩
  | .hbm, ⟨13, _⟩ => ⟨S8192x5632, .bf16⟩
  | .hbm, ⟨14, _⟩ => ⟨S8192x2816, .bf16⟩
  | .hbm, ⟨15, _⟩ => ⟨S8192x1024, .bf16⟩
  | .hbm, ⟨16, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S1x1024, .f32⟩
  | .local _ .vmem, ⟨6, _⟩ => ⟨S1x1024, .f32⟩
  | .local _ .vmem, ⟨7, _⟩ => ⟨S5632x1024, .bf16⟩
  | .local _ .vmem, ⟨8, _⟩ => ⟨S2816x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x5632, .bf16⟩
  | .local _ .vmem, ⟨14, _⟩ => ⟨S256x5632, .bf16⟩
  | .local _ .vmem, ⟨15, _⟩ => ⟨S256x2816, .bf16⟩
  | .local _ .vmem, ⟨16, _⟩ => ⟨S256x2816, .bf16⟩
  | .local _ .vmem, ⟨17, _⟩ => ⟨S256x1024, .bf16⟩
  | .local _ .vmem, ⟨18, _⟩ => ⟨S256x1024, .bf16⟩
  | .local _ .vmem, ⟨19, _⟩ => ⟨S8x1024, .f32⟩
  | .local _ .vmem, ⟨20, _⟩ => ⟨S256x2816, .f32⟩
  | .local _ .vmem, ⟨21, _⟩ => ⟨S256x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5632x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x1024 : Shape := ⟨2, ![8192, 1024]⟩
abbrev S8x1024 : Shape := ⟨2, ![8, 1024]⟩
abbrev S1x1024 : Shape := ⟨2, ![1, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1024x2816 : Shape := ⟨2, ![1024, 2816]⟩
abbrev S5632x1024 : Shape := ⟨2, ![5632, 1024]⟩

abbrev nBuf : Space → Nat
  | .hbm => 238
  | .vmem => 0
  | .smem => 0
  | _ => 0

abbrev hbmTy0_0 (i : Nat) : BufTy := match i % 128 with
  | 0 => ⟨S8192x1024, .f32⟩
  | 1 => ⟨S8192x1024, .f32⟩
  | 2 => ⟨S8x1024, .f32⟩
  | 3 => ⟨S1x1024, .f32⟩
  | 4 => ⟨S1024, .f32⟩
  | 5 => ⟨S1024x5632, .f32⟩
  | 6 => ⟨S2816x1024, .f32⟩
  | 7 => ⟨S1x1024, .f32⟩
  | 8 => ⟨S1024, .f32⟩
  | 9 => ⟨S1x1024, .f32⟩
  | 10 => ⟨S1024, .f32⟩
  | 11 => ⟨S1x1024, .f32⟩
  | 12 => ⟨S1024, .f32⟩
  | 13 => ⟨S1x1024, .f32⟩
  | 14 => ⟨S1024, .f32⟩
  | 15 => ⟨S1x1024, .f32⟩
  | 16 => ⟨S1024, .f32⟩
  | 17 => ⟨S1x1024, .f32⟩
  | 18 => ⟨S1024, .f32⟩
  | 19 => ⟨S1x1024, .f32⟩
  | 20 => ⟨S1024, .f32⟩
  | 21 => ⟨S1x1024, .f32⟩
  | 22 => ⟨S1024, .f32⟩
  | 23 => ⟨S1024, .f32⟩
  | 24 => ⟨S8192x1024, .f32⟩
  | 25 => ⟨S_, .f32⟩
  | 26 => ⟨S8192, .f32⟩
  | 27 => ⟨S8192x1, .f32⟩
  | 28 => ⟨S_, .f32⟩
  | 29 => ⟨S8192x1, .f32⟩
  | 30 => ⟨S8192x1, .f32⟩
  | 31 => ⟨S_, .f32⟩
  | 32 => ⟨S8192x1, .f32⟩
  | 33 => ⟨S8192x1, .f32⟩
  | 34 => ⟨S8192x1, .f32⟩
  | 35 => ⟨S8192x1, .f32⟩
  | 36 => ⟨S_, .f32⟩
  | 37 => ⟨S8192x1, .f32⟩
  | 38 => ⟨S8192x1, .f32⟩
  | 39 => ⟨S8192x1024, .f32⟩
  | 40 => ⟨S8192x1024, .f32⟩
  | 41 => ⟨S1x1024, .f32⟩
  | 42 => ⟨S8192x1024, .f32⟩
  | 43 => ⟨S8192x1024, .f32⟩
  | 44 => ⟨S1x1024, .f32⟩
  | 45 => ⟨S_, .f32⟩
  | 46 => ⟨S1x1024, .f32⟩
  | 47 => ⟨S1x1024, .f32⟩
  | 48 => ⟨S8192x1024, .f32⟩
  | 49 => ⟨S8192x1024, .f32⟩
  | 50 => ⟨S1x1024, .f32⟩
  | 51 => ⟨S8192x1024, .f32⟩
  | 52 => ⟨S8192x1024, .f32⟩
  | 53 => ⟨S8192x5632, .f32⟩
  | 54 => ⟨S8192x2816, .f32⟩
  | 55 => ⟨S8192x2816, .f32⟩
  | 56 => ⟨S8192x2816, .f32⟩
  | 57 => ⟨S8192x2816, .f32⟩
  | 58 => ⟨S_, .f32⟩
  | 59 => ⟨S8192x2816, .f32⟩
  | 60 => ⟨S8192x2816, .f32⟩
  | 61 => ⟨S_, .f32⟩
  | 62 => ⟨S8192x2816, .f32⟩
  | 63 => ⟨S8192x2816, .f32⟩
  | 64 => ⟨S_, .f32⟩
  | 65 => ⟨S8192x2816, .f32⟩
  | 66 => ⟨S8192x2816, .f32⟩
  | 67 => ⟨S8192x2816, .f32⟩
  | 68 => ⟨S8192x2816, .f32⟩
  | 69 => ⟨S8192x2816, .f32⟩
  | 70 => ⟨S8192x1024, .f32⟩
  | 71 => ⟨S1x1024, .f32⟩
  | 72 => ⟨S8192x1024, .f32⟩
  | 73 => ⟨S8192x1024, .f32⟩
  | 74 => ⟨S8192x1024, .f32⟩
  | 75 => ⟨S8192x1024, .f32⟩
  | 76 => ⟨S_, .f32⟩
  | 77 => ⟨S8192, .f32⟩
  | 78 => ⟨S8192x1, .f32⟩
  | 79 => ⟨S_, .f32⟩
  | 80 => ⟨S8192x1, .f32⟩
  | 81 => ⟨S8192x1, .f32⟩
  | 82 => ⟨S_, .f32⟩
  | 83 => ⟨S8192x1, .f32⟩
  | 84 => ⟨S8192x1, .f32⟩
  | 85 => ⟨S8192x1, .f32⟩
  | 86 => ⟨S8192x1, .f32⟩
  | 87 => ⟨S_, .f32⟩
  | 88 => ⟨S8192x1, .f32⟩
  | 89 => ⟨S8192x1, .f32⟩
  | 90 => ⟨S8192x1024, .f32⟩
  | 91 => ⟨S8192x1024, .f32⟩
  | 92 => ⟨S1x1024, .f32⟩
  | 93 => ⟨S8192x1024, .f32⟩
  | 94 => ⟨S8192x1024, .f32⟩
  | 95 => ⟨S1x1024, .f32⟩
  | 96 => ⟨S_, .f32⟩
  | 97 => ⟨S1x1024, .f32⟩
  | 98 => ⟨S1x1024, .f32⟩
  | 99 => ⟨S8192x1024, .f32⟩
  | 100 => ⟨S8192x1024, .f32⟩
  | 101 => ⟨S1x1024, .f32⟩
  | 102 => ⟨S8192x1024, .f32⟩
  | 103 => ⟨S8192x1024, .f32⟩
  | 104 => ⟨S8192x1024, .f32⟩
  | 105 => ⟨S8192x1024, .f32⟩
  | 106 => ⟨S_, .f32⟩
  | 107 => ⟨S8192x1024, .f32⟩
  | 108 => ⟨S8192x1024, .f32⟩
  | 109 => ⟨S_, .f32⟩
  | 110 => ⟨S8192, .f32⟩
  | 111 => ⟨S_, .f32⟩
  | 112 => ⟨S8192, .f32⟩
  | 113 => ⟨S8192, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S8192, .f32⟩
  | 122 => ⟨S_, .f32⟩
  | 123 => ⟨S8192, .f32⟩
  | 124 => ⟨S8192, .f32⟩
  | 125 => ⟨S8192x1024, .f32⟩
  | 126 => ⟨S8192x1024, .f32⟩
  | 127 => ⟨S_, .f32⟩
  | _ => ⟨S8192x1024, .f32⟩

abbrev hbmTy0_1 (i : Nat) : BufTy := match i % 128 with
  | 0 => ⟨S1024, .f32⟩
  | 1 => ⟨S1x1024, .f32⟩
  | 2 => ⟨S_, .f32⟩
  | 3 => ⟨S1024, .f32⟩
  | 4 => ⟨S8192x1024, .f32⟩
  | 5 => ⟨S_, .f32⟩
  | 6 => ⟨S1024, .f32⟩
  | 7 => ⟨S1x1024, .f32⟩
  | 8 => ⟨S8192x1024, .f32⟩
  | 9 => ⟨S8192x1024, .f32⟩
  | 10 => ⟨S_, .f32⟩
  | 11 => ⟨S1024, .f32⟩
  | 12 => ⟨S8192x1024, .f32⟩
  | 13 => ⟨S_, .f32⟩
  | 14 => ⟨S1024, .f32⟩
  | 15 => ⟨S1x1024, .f32⟩
  | 16 => ⟨S8192x1024, .f32⟩
  | 17 => ⟨S8192x1024, .f32⟩
  | 18 => ⟨S_, .f32⟩
  | 19 => ⟨S1024, .f32⟩
  | 20 => ⟨S8192x1024, .f32⟩
  | 21 => ⟨S_, .f32⟩
  | 22 => ⟨S8192, .f32⟩
  | 23 => ⟨S8192x1, .f32⟩
  | 24 => ⟨S8192x1024, .f32⟩
  | 25 => ⟨S8192x1024, .f32⟩
  | 26 => ⟨S8192x1, .f32⟩
  | 27 => ⟨S_, .f32⟩
  | 28 => ⟨S8192x1, .f32⟩
  | 29 => ⟨S8192x1, .f32⟩
  | 30 => ⟨S_, .f32⟩
  | 31 => ⟨S8192, .f32⟩
  | 32 => ⟨S8192x1024, .f32⟩
  | 33 => ⟨S8192x1024, .f32⟩
  | 34 => ⟨S8192x1024, .f32⟩
  | 35 => ⟨S8192x1024, .f32⟩
  | 36 => ⟨S8192x1024, .f32⟩
  | 37 => ⟨S8192x1024, .f32⟩
  | 38 => ⟨S8192x1024, .f32⟩
  | 39 => ⟨S8192x1024, .f32⟩
  | 40 => ⟨S_, .f32⟩
  | 41 => ⟨S1024, .f32⟩
  | 42 => ⟨S1x1024, .f32⟩
  | 43 => ⟨S_, .f32⟩
  | 44 => ⟨S1024, .f32⟩
  | 45 => ⟨S1024x2816, .f32⟩
  | 46 => ⟨S8192x2816, .f32⟩
  | 47 => ⟨S8192x2816, .f32⟩
  | 48 => ⟨S8192x2816, .f32⟩
  | 49 => ⟨S8192x2816, .f32⟩
  | 50 => ⟨S8192x2816, .f32⟩
  | 51 => ⟨S8192x2816, .f32⟩
  | 52 => ⟨S8192x2816, .f32⟩
  | 53 => ⟨S8192x5632, .f32⟩
  | 54 => ⟨S5632x1024, .f32⟩
  | 55 => ⟨S8192x1024, .f32⟩
  | 56 => ⟨S_, .f32⟩
  | 57 => ⟨S1024, .f32⟩
  | 58 => ⟨S1x1024, .f32⟩
  | 59 => ⟨S_, .f32⟩
  | 60 => ⟨S1024, .f32⟩
  | 61 => ⟨S8192x1024, .f32⟩
  | 62 => ⟨S_, .f32⟩
  | 63 => ⟨S1024, .f32⟩
  | 64 => ⟨S1x1024, .f32⟩
  | 65 => ⟨S8192x1024, .f32⟩
  | 66 => ⟨S8192x1024, .f32⟩
  | 67 => ⟨S_, .f32⟩
  | 68 => ⟨S1024, .f32⟩
  | 69 => ⟨S8192x1024, .f32⟩
  | 70 => ⟨S_, .f32⟩
  | 71 => ⟨S1024, .f32⟩
  | 72 => ⟨S1x1024, .f32⟩
  | 73 => ⟨S8192x1024, .f32⟩
  | 74 => ⟨S8192x1024, .f32⟩
  | 75 => ⟨S_, .f32⟩
  | 76 => ⟨S1024, .f32⟩
  | 77 => ⟨S8192x1024, .f32⟩
  | 78 => ⟨S_, .f32⟩
  | 79 => ⟨S8192, .f32⟩
  | 80 => ⟨S8192x1, .f32⟩
  | 81 => ⟨S8192x1024, .f32⟩
  | 82 => ⟨S8192x1024, .f32⟩
  | 83 => ⟨S8192x1, .f32⟩
  | 84 => ⟨S_, .f32⟩
  | 85 => ⟨S8192x1, .f32⟩
  | 86 => ⟨S8192x1, .f32⟩
  | 87 => ⟨S_, .f32⟩
  | 88 => ⟨S8192, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S_, .f32⟩
  | 95 => ⟨S1024, .f32⟩
  | 96 => ⟨S1x1024, .f32⟩
  | 97 => ⟨S1x1024, .f32⟩
  | 98 => ⟨S1x1024, .f32⟩
  | 99 => ⟨S1x1024, .f32⟩
  | 100 => ⟨S1x1024, .f32⟩
  | 101 => ⟨S1x1024, .f32⟩
  | 102 => ⟨S1x1024, .f32⟩
  | 103 => ⟨S1x1024, .f32⟩
  | 104 => ⟨S8x1024, .f32⟩
  | 105 => ⟨S8192x1024, .f32⟩
  | 106 => ⟨S8192x1024, .bf16⟩
  | 107 => ⟨S8192x5632, .bf16⟩
  | 108 => ⟨S8192x2816, .bf16⟩
  | 109 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_v44_2 : Ref sig .tc := ⟨.hbm, 63, rfl⟩
abbrev main_call0_cst_1 : Ref sig .tc := ⟨.hbm, 64, rfl⟩
abbrev main_call0_v6 : Ref sig .tc := ⟨.hbm, 65, rfl⟩
abbrev main_call0_v7 : Ref sig .tc := ⟨.hbm, 66, rfl⟩
abbrev main_v44_1 : Ref sig .tc := ⟨.hbm, 67, rfl⟩
abbrev main_v44_0 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_4 : Ref sig .tc := ⟨.hbm, 76, rfl⟩
abbrev main_v52 : Ref sig .tc := ⟨.hbm, 77, rfl⟩
abbrev main_v53 : Ref sig .tc := ⟨.hbm, 78, rfl⟩
abbrev main_cst_5 : Ref sig .tc := ⟨.hbm, 79, rfl⟩
abbrev main_v54 : Ref sig .tc := ⟨.hbm, 80, rfl⟩
abbrev main_v55 : Ref sig .tc := ⟨.hbm, 81, rfl⟩
abbrev main_cst_6 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_7 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_8 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_9 : Ref sig .tc := ⟨.hbm, 106, rfl⟩
abbrev main_v77 : Ref sig .tc := ⟨.hbm, 107, rfl⟩
abbrev main_v78 : Ref sig .tc := ⟨.hbm, 108, rfl⟩
abbrev main_cst_10 : Ref sig .tc := ⟨.hbm, 109, rfl⟩
abbrev main_v79 : Ref sig .tc := ⟨.hbm, 110, rfl⟩
abbrev main_cst_11 : Ref sig .tc := ⟨.hbm, 111, rfl⟩
abbrev main_v80 : Ref sig .tc := ⟨.hbm, 112, rfl⟩
abbrev main_v81 : Ref sig .tc := ⟨.hbm, 113, rfl⟩
abbrev main_cst_12 : Ref sig .tc := ⟨.hbm, 114, rfl⟩
abbrev main_v82 : Ref sig .tc := ⟨.hbm, 115, rfl⟩
abbrev main_cst_13 : Ref sig .tc := ⟨.hbm, 116, rfl⟩
abbrev main_v83 : Ref sig .tc := ⟨.hbm, 117, rfl⟩
abbrev main_cst_14 : Ref sig .tc := ⟨.hbm, 118, rfl⟩
abbrev main_cst_15 : Ref sig .tc := ⟨.hbm, 119, rfl⟩
abbrev main_v84 : Ref sig .tc := ⟨.hbm, 120, rfl⟩
abbrev main_v85 : Ref sig .tc := ⟨.hbm, 121, rfl⟩
abbrev main_cst_16 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_17 : Ref sig .tc := ⟨.hbm, 127, rfl⟩
abbrev main_v90 : Ref sig .tc := ⟨.hbm, 128, rfl⟩
abbrev main_v91 : Ref sig .tc := ⟨.hbm, 129, rfl⟩
abbrev main_cst_18 : Ref sig .tc := ⟨.hbm, 130, rfl⟩
abbrev main_v92 : Ref sig .tc := ⟨.hbm, 131, rfl⟩
abbrev main_v93 : Ref sig .tc := ⟨.hbm, 132, rfl⟩
abbrev main_cst_19 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_20 : Ref sig .tc := ⟨.hbm, 138, rfl⟩
abbrev main_v98 : Ref sig .tc := ⟨.hbm, 139, rfl⟩
abbrev main_v99 : Ref sig .tc := ⟨.hbm, 140, rfl⟩
abbrev main_cst_21 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_22 : Ref sig .tc := ⟨.hbm, 146, rfl⟩
abbrev main_v104 : Ref sig .tc := ⟨.hbm, 147, rfl⟩
abbrev main_v105 : Ref sig .tc := ⟨.hbm, 148, rfl⟩
abbrev main_cst_23 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_24 : Ref sig .tc := ⟨.hbm, 155, rfl⟩
abbrev main_v111 : Ref sig .tc := ⟨.hbm, 156, rfl⟩
abbrev main_v112 : Ref sig .tc := ⟨.hbm, 157, rfl⟩
abbrev main_cst_25 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_26 : Ref sig .tc := ⟨.hbm, 168, rfl⟩
abbrev main_v122 : Ref sig .tc := ⟨.hbm, 169, rfl⟩
abbrev main_v123 : Ref sig .tc := ⟨.hbm, 170, rfl⟩
abbrev main_cst_27 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_call1_v0 : Ref sig .tc := ⟨.hbm, 177, rfl⟩
abbrev main_call1_v1 : Ref sig .tc := ⟨.hbm, 178, rfl⟩
abbrev main_call1_v2 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_cst_28 : Ref sig .tc := ⟨.hbm, 184, rfl⟩
abbrev main_v133 : Ref sig .tc := ⟨.hbm, 185, rfl⟩
abbrev main_v134 : Ref sig .tc := ⟨.hbm, 186, rfl⟩
abbrev main_cst_29 : Ref sig .tc := ⟨.hbm, 187, rfl⟩
abbrev main_v135 : Ref sig .tc := ⟨.hbm, 188, rfl⟩
abbrev main_v136 : Ref sig .tc := ⟨.hbm, 189, rfl⟩
abbrev main_cst_30 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_cst_31 : Ref sig .tc := ⟨.hbm, 195, rfl⟩
abbrev main_v141 : Ref sig .tc := ⟨.hbm, 196, rfl⟩
abbrev main_v142 : Ref sig .tc := ⟨.hbm, 197, rfl⟩
abbrev main_cst_32 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_cst_33 : Ref sig .tc := ⟨.hbm, 203, rfl⟩
abbrev main_v147 : Ref sig .tc := ⟨.hbm, 204, rfl⟩
abbrev main_v148 : Ref sig .tc := ⟨.hbm, 205, rfl⟩
abbrev main_cst_34 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_cst_35 : Ref sig .tc := ⟨.hbm, 212, rfl⟩
abbrev main_v154 : Ref sig .tc := ⟨.hbm, 213, rfl⟩
abbrev main_v155 : Ref sig .tc := ⟨.hbm, 214, rfl⟩
abbrev main_cst_36 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_cst_37 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩

abbrev nD : Nat := 1
abbrev τ : Topo := Topo.v7x

variable {F : FTy → Type} [FloatOps F]
-- ==== Kernel2.lean ====
abbrev S8192x5632 : Shape := ⟨2, ![8192, 5632]⟩
abbrev S8192x1024 : Shape := ⟨2, ![8192, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8192x5632 : Shape := ⟨2, ![8192, 5632]⟩
abbrev S8192x1024 : Shape := ⟨2, ![8192, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S8192x1024, .f32⟩
  | .hbm, ⟨3, _⟩ => ⟨S8192x5632, .f32⟩
  | .hbm, ⟨4, _⟩ => ⟨S_, .f32⟩
  | .hbm, ⟨5, _⟩ => ⟨S1024x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x1024 : Shape := ⟨2, ![8192, 1024]⟩
abbrev S8x1024 : Shape := ⟨2, ![8, 1024]⟩
abbrev S1x1024 : Shape := ⟨2, ![1, 1024]⟩
abbrev S1024x2048 : Shape := ⟨2, ![1024, 2048]⟩
abbrev S1x2048 : Shape := ⟨2, ![1, 2048]⟩
abbrev S1x512 : Shape := ⟨2, ![1, 512]⟩
abbrev S8x128x128 : Shape := ⟨3, ![8, 128, 128]⟩
abbrev S8x128 : Shape := ⟨2, ![8, 128]⟩
abbrev S31x512 : Shape := ⟨2, ![31, 512]⟩
abbrev S1024x1024 : Shape := ⟨2, ![1024, 1024]⟩
abbrev S1024x8x256 : Shape := ⟨3, ![1024, 8, 256]⟩
abbrev S8x1024x256 : Shape := ⟨3, ![8, 1024, 256]⟩
abbrev S_ : Shape := ⟨0, ![]⟩
abbrev S32x512 : Shape := ⟨2, ![32, 512]⟩
abbrev S128x128 : Shape := ⟨2, ![128, 128]⟩
abbrev S1x128x128 : Shape := ⟨3, ![1, 128, 128]⟩
abbrev S1024x128 : Shape := ⟨2, ![1024, 128]⟩
abbrev S128x8 : Shape := ⟨2, ![128, 8]⟩
abbrev S128x8x64 : Shape := ⟨3, ![128, 8, 64]⟩
abbrev S128x512 : Shape := ⟨2, ![128, 512]⟩
abbrev S512 : Shape := ⟨1, ![512]⟩
abbrev S512x1 : Shape := ⟨2, ![512, 1]⟩
abbrev S512x512 : Shape := ⟨2, ![512, 512]⟩
abbrev S8192x512 : Shape := ⟨2, ![8192, 512]⟩
abbrev S8192x128 : Shape := ⟨2, ![8192, 128]⟩
abbrev S512x1024 : Shape := ⟨2, ![512, 1024]⟩
abbrev S512x128 : Shape := ⟨2, ![512, 128]⟩
abbrev S544x512 : Shape := ⟨2, ![544, 512]⟩
abbrev S7x536x512 : Shape := ⟨3, ![7, 536, 512]⟩
abbrev S1x1024x256 : Shape := ⟨3, ![1, 1024, 256]⟩
abbrev S1024x256 : Shape := ⟨2, ![1024, 256]⟩
abbrev S512x256 : Shape := ⟨2, ![512, 256]⟩
abbrev S512x2048 : Shape := ⟨2, ![512, 2048]⟩
abbrev S536x512 : Shape := ⟨2, ![536, 512]⟩
abbrev S1x536x512 : Shape := ⟨3, ![1, 536, 512]⟩
abbrev S1x512x512 : Shape := ⟨3, ![1, 512, 512]⟩

abbrev nBuf : Space → Nat
  | .hbm => 76
  | .vmem => 46
  | .smem => 0
  | _ => 0

abbrev bufTy : (tb : Table) → Fin (tcTables nBuf tb) → BufTy
  | .hbm, ⟨0, _⟩ => ⟨S8192x1024, .f32⟩
  | .hbm, ⟨1, _⟩ => ⟨S8x1024, .f32⟩
  | .hbm, ⟨2, _⟩ => ⟨S1x1024, .f32⟩
  | .hbm, ⟨3, _⟩ => ⟨S1024x2048, .f32⟩
  | .hbm, ⟨4, _⟩ => ⟨S1x2048, .f32⟩
  | .hbm, ⟨5, _⟩ => ⟨S1x512, .f32⟩
  | .hbm, ⟨6, _⟩ => ⟨S1x512, .f32⟩
  | .hbm, ⟨7, _⟩ => ⟨S8x128x128, .f32⟩
  | .hbm, ⟨8, _⟩ => ⟨S8x128, .f32⟩
  | .hbm, ⟨9, _⟩ => ⟨S31x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1024x1024, .f32⟩
  | .hbm, ⟨16, _⟩ => ⟨S1024x8x256, .f32⟩
  | .hbm, ⟨17, _⟩ => ⟨S8x1024x256, .f32⟩
  | .hbm, ⟨18, _⟩ => ⟨S8x1024x256, .bf16⟩
  | .hbm, ⟨19, _⟩ => ⟨S_, .i32⟩
  | .hbm, ⟨20, _⟩ => ⟨S_, .f32⟩
  | .hbm, ⟨21, _⟩ => ⟨S32x512, .f32⟩
  | .hbm, ⟨22, _⟩ => ⟨S_, .i1⟩
  | .hbm, ⟨23, _⟩ => ⟨S128x128, .i1⟩
  | .hbm, ⟨24, _⟩ => ⟨S128x128, .i32⟩
  | .hbm, ⟨25, _⟩ => ⟨S_, .i32⟩
  | .hbm, ⟨26, _⟩ => ⟨S128x128, .i32⟩
  | .hbm, ⟨27, _⟩ => ⟨S128x128, .i32⟩
  | .hbm, ⟨28, _⟩ => ⟨S128x128, .i32⟩
  | .hbm, ⟨29, _⟩ => ⟨S128x128, .i1⟩
  | .hbm, ⟨30, _⟩ => ⟨S_, .i1⟩
  | .hbm, ⟨31, _⟩ => ⟨S128x128, .i1⟩
  | .hbm, ⟨32, _⟩ => ⟨S128x128, .i1⟩
  | .hbm, ⟨33, _⟩ => ⟨S1x128x128, .i1⟩
  | .hbm, ⟨34, _⟩ => ⟨S_, .f32⟩
  | .hbm, ⟨35, _⟩ => ⟨S_, .f32⟩
  | .hbm, ⟨36, _⟩ => ⟨S8x128x128, .i1⟩
  | .hbm, ⟨37, _⟩ => ⟨S8x128x128, .f32⟩
  | .hbm, ⟨38, _⟩ => ⟨S8x128x128, .f32⟩
  | .hbm, ⟨39, _⟩ => ⟨S8x128x128, .bf16⟩
  | .hbm, ⟨40, _⟩ => ⟨S1024x128, .bf16⟩
  | .hbm, ⟨41, _⟩ => ⟨S128x8, .f32⟩
  | .hbm, ⟨42, _⟩ => ⟨S128x8x64, .f32⟩
  | .hbm, ⟨43, _⟩ => ⟨S128x512, .f32⟩
  | .hbm, ⟨44, _⟩ => ⟨S512, .i32⟩
  | .hbm, ⟨45, _⟩ => ⟨S512x1, .i32⟩
  | .hbm, ⟨46, _⟩ => ⟨S_, .i32⟩
  | .hbm, ⟨47, _⟩ => ⟨S512x1, .i32⟩
  | .hbm, ⟨48, _⟩ => ⟨S512x1, .i32⟩
  | .hbm, ⟨49, _⟩ => ⟨S1x512, .i32⟩
  | .hbm, ⟨50, _⟩ => ⟨S_, .i32⟩
  | .hbm, ⟨51, _⟩ => ⟨S1x512, .i32⟩
  | .hbm, ⟨52, _⟩ => ⟨S1x512, .i32⟩
  | .hbm, ⟨53, _⟩ => ⟨S512x512, .i32⟩
  | .hbm, ⟨54, _⟩ => ⟨S512x512, .i32⟩
  | .hbm, ⟨55, _⟩ => ⟨S512x512, .i1⟩
  | .hbm, ⟨56, _⟩ => ⟨S_, .f32⟩
  | .hbm, ⟨57, _⟩ => ⟨S_, .f32⟩
  | .hbm, ⟨58, _⟩ => ⟨S512x512, .f32⟩
  | .hbm, ⟨59, _⟩ => ⟨S512x512, .f32⟩
  | .hbm, ⟨60, _⟩ => ⟨S512x512, .f32⟩
  | .hbm, ⟨61, _⟩ => ⟨S512x512, .bf16⟩
  | .hbm, ⟨62, _⟩ => ⟨S1024x1024, .bf16⟩
  | .hbm, ⟨63, _⟩ => ⟨S8192x1024, .f32⟩
  | .hbm, ⟨64, _⟩ => ⟨S8192x1024, .bf16⟩
  | .hbm, ⟨65, _⟩ => ⟨S8192x1024, .f32⟩
  | .hbm, ⟨66, _⟩ => ⟨S8192x512, .f32⟩
  | .hbm, ⟨67, _⟩ => ⟨S8192x1024, .bf16⟩
  | .hbm, ⟨68, _⟩ => ⟨S8192x1024, .f32⟩
  | .hbm, ⟨69, _⟩ => ⟨S8192x512, .f32⟩
  | .hbm, ⟨70, _⟩ => ⟨S8192x512, .f32⟩
  | .hbm, ⟨71, _⟩ => ⟨S8192x512, .f32⟩
  | .hbm, ⟨72, _⟩ => ⟨S8192x512, .f32⟩
  | .hbm, ⟨73, _⟩ => ⟨S8192x128, .f32⟩
  | .hbm, ⟨74, _⟩ => ⟨S8192x512, .f32⟩
  | .hbm, ⟨75, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1x1024, .f32⟩
  | .local _ .vmem, ⟨4, _⟩ => ⟨S8x1024x256, .bf16⟩
  | .local _ .vmem, ⟨5, _⟩ => ⟨S1x2048, .f32⟩
  | .local _ .vmem, ⟨6, _⟩ => ⟨S1x512, .f32⟩
  | .local _ .vmem, ⟨7, _⟩ => ⟨S1x512, .f32⟩
  | .local _ .vmem, ⟨8, _⟩ => ⟨S1024x128, .bf16⟩
  | .local _ .vmem, ⟨9, _⟩ => ⟨S128x512, .f32⟩
  | .local _ .vmem, ⟨10, _⟩ => ⟨S32x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1024x1024, .bf16⟩
  | .local _ .vmem, ⟨17, _⟩ => ⟨S512x512, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | .local _ .vmem, ⟨23, _⟩ => ⟨S512x1024, .f32⟩
  | .local _ .vmem, ⟨24, _⟩ => ⟨S512x512, .f32⟩
  | .local _ .vmem, ⟨25, _⟩ => ⟨S512x512, .f32⟩
  | .local _ .vmem, ⟨26, _⟩ => ⟨S512x1024, .bf16⟩
  | .local _ .vmem, ⟨27, _⟩ => ⟨S512x1024, .bf16⟩
  | .local _ .vmem, ⟨28, _⟩ => ⟨S512x1024, .f32⟩
  | .local _ .vmem, ⟨29, _⟩ => ⟨S512x1024, .f32⟩
  | .local _ .vmem, ⟨30, _⟩ => ⟨S512x512, .f32⟩
  | .local _ .vmem, ⟨31, _⟩ => ⟨S512x512, .f32⟩
  | .local _ .vmem, ⟨32, _⟩ => ⟨S512x512, .f32⟩
  | .local _ .vmem, ⟨33, _⟩ => ⟨S512x512, .f32⟩
  | .local _ .vmem, ⟨34, _⟩ => ⟨S512x512, .f32⟩
  | .local _ .vmem, ⟨35, _⟩ => ⟨S512x512, .f32⟩
  | .local _ .vmem, ⟨36, _⟩ => ⟨S512x512, .f32⟩
  | .local _ .vmem, ⟨37, _⟩ => ⟨S512x512, .f32⟩
  | .local _ .vmem, ⟨38, _⟩ => ⟨S512x128, .f32⟩
  | .local _ .vmem, ⟨39, _⟩ => ⟨S512x128, .f32⟩
  | .local _ .vmem, ⟨40, _⟩ => ⟨S512x512, .f32⟩
  | .local _ .vmem, ⟨41, _⟩ => ⟨S512x512, .f32⟩
  | .local _ .vmem, ⟨42, _⟩ => ⟨S512x512, .f32⟩
  | .local _ .vmem, ⟨43, _⟩ => ⟨S512x512, .f32⟩
  | .local _ .vmem, ⟨44, _⟩ => ⟨S544x512, .f32⟩
  | .local _ .vmem, ⟨45, _⟩ => ⟨S7x536x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_call0_v0 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_0 : Ref sig .tc := ⟨.hbm, 30, rfl⟩
abbrev main_call1_v5 : Ref sig .tc := ⟨.hbm, 31, rfl⟩
abbrev main_v5 : Ref sig .tc := ⟨.hbm, 32, rfl⟩
abbrev main_v6 : Ref sig .tc := ⟨.hbm, 33, rfl⟩
abbrev main_cst : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_c_1 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_c_2 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_3 : Ref sig .tc := ⟨.hbm, 56, rfl⟩
abbrev main_cst_4 : Ref sig .tc := ⟨.hbm, 57, rfl⟩
abbrev main_call3_v0 : Ref sig .tc := ⟨.hbm, 58, rfl⟩
abbrev main_call3_v1 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26_0 : Ref sig .tc := ⟨.hbm, 63, rfl⟩
abbrev main_v26_1 : Ref sig .tc := ⟨.hbm, 64, rfl⟩
abbrev main_v26_2 : Ref sig .tc := ⟨.hbm, 65, rfl⟩
abbrev main_v26_3 : Ref sig .tc := ⟨.hbm, 66, rfl⟩
abbrev main_v26_4 : Ref sig .tc := ⟨.hbm, 67, rfl⟩
abbrev main_v26_5 : Ref sig .tc := ⟨.hbm, 68, rfl⟩
abbrev main_v26_6 : Ref sig .tc := ⟨.hbm, 69, rfl⟩
abbrev main_v26_7 : Ref sig .tc := ⟨.hbm, 70, rfl⟩
abbrev main_v26_8 : Ref sig .tc := ⟨.hbm, 71, rfl⟩
abbrev main_v26_9 : Ref sig .tc := ⟨.hbm, 72, rfl⟩
abbrev main_v26_10 : Ref sig .tc := ⟨.hbm, 73, rfl⟩
abbrev main_v26_11 : Ref sig .tc := ⟨.hbm, 74, rfl⟩
abbrev main_v26_12 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_stg22_0 : Ref sig .tc := ⟨.vmem, 28, rfl⟩
abbrev cc0_stg22_1 : Ref sig .tc := ⟨.vmem, 29, rfl⟩
abbrev cc0_stg23_0 : Ref sig .tc := ⟨.vmem, 30, rfl⟩
abbrev cc0_stg23_1 : Ref sig .tc := ⟨.vmem, 31, rfl⟩
abbrev cc0_stg24_0 : Ref sig .tc := ⟨.vmem, 32, rfl⟩
abbrev cc0_stg24_1 : Ref sig .tc := ⟨.vmem, 33, rfl⟩
abbrev cc0_stg25_0 : Ref sig .tc := ⟨.vmem, 34, rfl⟩
abbrev cc0_stg25_1 : Ref sig .tc := ⟨.vmem, 35, rfl⟩
abbrev cc0_stg26_0 : Ref sig .tc := ⟨.vmem, 36, rfl⟩
abbrev cc0_stg26_1 : Ref sig .tc := ⟨.vmem, 37, rfl⟩
abbrev cc0_stg27_0 : Ref sig .tc := ⟨.vmem, 38, rfl⟩
abbrev cc0_stg27_1 : Ref sig .tc := ⟨.vmem, 39, rfl⟩
abbrev cc0_stg28_0 : Ref sig .tc := ⟨.vmem, 40, rfl⟩
abbrev cc0_stg28_1 : Ref sig .tc := ⟨.vmem, 41, rfl⟩
abbrev cc0_stg29_0 : Ref sig .tc := ⟨.vmem, 42, rfl⟩
abbrev cc0_stg29_1 : Ref sig .tc := ⟨.vmem, 43, rfl⟩
abbrev cc0_scratch0 : Ref sig .tc := ⟨.vmem, 44, rfl⟩
abbrev cc0_scratch1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27
abbrev cc0_sem22_0 : DmaSem sig := 28
abbrev cc0_sem22_1 : DmaSem sig := 29
abbrev cc0_sem23_0 : DmaSem sig := 30
abbrev cc0_sem23_1 : DmaSem sig := 31
abbrev cc0_sem24_0 : DmaSem sig := 32
abbrev cc0_sem24_1 : DmaSem sig := 33
abbrev cc0_sem25_0 : DmaSem sig := 34
abbrev cc0_sem25_1 : DmaSem sig := 35
abbrev cc0_sem26_0 : DmaSem sig := 36
abbrev cc0_sem26_1 : DmaSem sig := 37
abbrev cc0_sem27_0 : DmaSem sig := 38
abbrev cc0_sem27_1 : DmaSem sig := 39
abbrev cc0_sem28_0 : DmaSem sig := 40
abbrev cc0_sem28_1 : DmaSem sig := 41
abbrev cc0_sem29_0 : DmaSem sig := 42
abbrev cc0_sem29_1 : DmaSem sig := 43

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S512x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S512x512 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S512x512 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]
-- ==== Reference4Ideal.lean ====
abbrev S8192x1024 : Shape := ⟨2, ![8192, 1024]⟩
abbrev S8x1024 : Shape := ⟨2, ![8, 1024]⟩
abbrev S1x1024 : Shape := ⟨2, ![1, 1024]⟩
abbrev S1024x2048 : Shape := ⟨2, ![1024, 2048]⟩
abbrev S1x2048 : Shape := ⟨2, ![1, 2048]⟩
abbrev S1x512 : Shape := ⟨2, ![1, 512]⟩
abbrev S8x128x128 : Shape := ⟨3, ![8, 128, 128]⟩
abbrev S8x128 : Shape := ⟨2, ![8, 128]⟩
abbrev S31x512 : Shape := ⟨2, ![31, 512]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S8192x512 : Shape := ⟨2, ![8192, 512]⟩
abbrev S64x128x8x64 : Shape := ⟨4, ![64, 128, 8, 64]⟩
abbrev S128x128 : Shape := ⟨2, ![128, 128]⟩
abbrev S1x128x128 : Shape := ⟨3, ![1, 128, 128]⟩
abbrev S8x64x64x128 : Shape := ⟨4, ![8, 64, 64, 128]⟩
abbrev S128x8 : Shape := ⟨2, ![128, 8]⟩
abbrev S1x128x8x1 : Shape := ⟨4, ![1, 128, 8, 1]⟩
abbrev S8222x512 : Shape := ⟨2, ![8222, 512]⟩
abbrev S512 : Shape := ⟨1, ![512]⟩
abbrev S8192x8x64 : Shape := ⟨3, ![8192, 8, 64]⟩
abbrev S8192x8 : Shape := ⟨2, ![8192, 8]⟩
abbrev S8192x8x1 : Shape := ⟨3, ![8192, 8, 1]⟩
abbrev S8192x128 : Shape := ⟨2, ![8192, 128]⟩

abbrev nBuf : Space → Nat
  | .hbm => 435
  | .vmem => 0
  | .smem => 0
  | _ => 0

abbrev hbmTy0_0 (i : Nat) : BufTy := match i % 128 with
  | 0 => ⟨S8192x1024, .f32⟩
  | 1 => ⟨S8x1024, .f32⟩
  | 2 => ⟨S1x1024, .f32⟩
  | 3 => ⟨S1024x2048, .f32⟩
  | 4 => ⟨S1x2048, .f32⟩
  | 5 => ⟨S1x512, .f32⟩
  | 6 => ⟨S1x512, .f32⟩
  | 7 => ⟨S8x128x128, .f32⟩
  | 8 => ⟨S8x128, .f32⟩
  | 9 => ⟨S31x512, .f32⟩
  | 10 => ⟨S1x512, .f32⟩
  | 11 => ⟨S1x512, .f32⟩
  | 12 => ⟨S1x512, .f32⟩
  | 13 => ⟨S1x512, .f32⟩
  | 14 => ⟨S1x512, .f32⟩
  | 15 => ⟨S1024x1024, .f32⟩
  | 16 => ⟨S1024, .f32⟩
  | 17 => ⟨S8192x1024, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S_, .f32⟩
  | 25 => ⟨S8192x1, .f32⟩
  | 26 => ⟨S8192x1, .f32⟩
  | 27 => ⟨S8192x1, .f32⟩
  | 28 => ⟨S8192x1024, .f32⟩
  | 29 => ⟨S8192x1024, .f32⟩
  | 30 => ⟨S1x1024, .f32⟩
  | 31 => ⟨S8192x1024, .f32⟩
  | 32 => ⟨S8192x1024, .f32⟩
  | 33 => ⟨S1x1024, .f32⟩
  | 34 => ⟨S1024, .f32⟩
  | 35 => ⟨S1x1024, .f32⟩
  | 36 => ⟨S1024, .f32⟩
  | 37 => ⟨S1x1024, .f32⟩
  | 38 => ⟨S_, .f32⟩
  | 39 => ⟨S1x1024, .f32⟩
  | 40 => ⟨S1x1024, .f32⟩
  | 41 => ⟨S8192x1024, .f32⟩
  | 42 => ⟨S8192x1024, .f32⟩
  | 43 => ⟨S1x1024, .f32⟩
  | 44 => ⟨S8192x1024, .f32⟩
  | 45 => ⟨S8192x1024, .f32⟩
  | 46 => ⟨S8192x2048, .f32⟩
  | 47 => ⟨S8192x2048, .f32⟩
  | 48 => ⟨S8192x2048, .f32⟩
  | 49 => ⟨S8192x512, .f32⟩
  | 50 => ⟨S8192x512, .f32⟩
  | 51 => ⟨S8192x1024, .f32⟩
  | 52 => ⟨S_, .f32⟩
  | 53 => ⟨S8192x512, .f32⟩
  | 54 => ⟨S8192x512, .f32⟩
  | 55 => ⟨S8192x512, .f32⟩
  | 56 => ⟨S_, .f32⟩
  | 57 => ⟨S8192x512, .f32⟩
  | 58 => ⟨S8192x512, .f32⟩
  | 59 => ⟨S8192x512, .f32⟩
  | 60 => ⟨S8192x512, .f32⟩
  | 61 => ⟨S_, .f32⟩
  | 62 => ⟨S8192x512, .f32⟩
  | 63 => ⟨S8192x512, .f32⟩
  | 64 => ⟨S8192x512, .f32⟩
  | 65 => ⟨S_, .f32⟩
  | 66 => ⟨S8192x512, .f32⟩
  | 67 => ⟨S8192x512, .f32⟩
  | 68 => ⟨S8192x512, .f32⟩
  | 69 => ⟨S8192x512, .f32⟩
  | 70 => ⟨S_, .f32⟩
  | 71 => ⟨S8192, .f32⟩
  | 72 => ⟨S8192x1, .f32⟩
  | 73 => ⟨S_, .f32⟩
  | 74 => ⟨S8192x1, .f32⟩
  | 75 => ⟨S8192x1, .f32⟩
  | 76 => ⟨S8192x512, .f32⟩
  | 77 => ⟨S8192x512, .f32⟩
  | 78 => ⟨S8192x512, .f32⟩
  | 79 => ⟨S_, .f32⟩
  | 80 => ⟨S8192, .f32⟩
  | 81 => ⟨S8192x1, .f32⟩
  | 82 => ⟨S_, .f32⟩
  | 83 => ⟨S8192x1, .f32⟩
  | 84 => ⟨S8192x1, .f32⟩
  | 85 => ⟨S_, .f32⟩
  | 86 => ⟨S8192x1, .f32⟩
  | 87 => ⟨S8192x1, .f32⟩
  | 88 => ⟨S8192x1, .f32⟩
  | 89 => ⟨S8192x512, .f32⟩
  | 90 => ⟨S8192x512, .f32⟩
  | 91 => ⟨S8192x512, .f32⟩
  | 92 => ⟨S8192x512, .f32⟩
  | 93 => ⟨S8192x512, .f32⟩
  | 94 => ⟨S8192x512, .f32⟩
  | 95 => ⟨S64x128x8x64, .f32⟩
  | 96 => ⟨S_, .i1⟩
  | 97 => ⟨S128x128, .i1⟩
  | 98 => ⟨S128x128, .i32⟩
  | 99 => ⟨S_, .i32⟩
  | 100 => ⟨S128x128, .i32⟩
  | 101 => ⟨S128x128, .i32⟩
  | 102 => ⟨S128x128, .i32⟩
  | 103 => ⟨S128x128, .i1⟩
  | 104 => ⟨S_, .i1⟩
  | 105 => ⟨S128x128, .i1⟩
  | 106 => ⟨S128x128, .i1⟩
  | 107 => ⟨S1x128x128, .i1⟩
  | 108 => ⟨S_, .f32⟩
  | 109 => ⟨S8x128x128, .f32⟩
  | 110 => ⟨S8x128x128, .i1⟩
  | 111 => ⟨S8x128x128, .f32⟩
  | 112 => ⟨S8x64x64x128, .f32⟩
  | 113 => ⟨S64x128x8x64, .f32⟩
  | 114 => ⟨S128x8, .f32⟩
  | 115 => ⟨S1x128x8x1, .f32⟩
  | 116 => ⟨S64x128x8x64, .f32⟩
  | 117 => ⟨S64x128x8x64, .f32⟩
  | 118 => ⟨S8192x512, .f32⟩
  | 119 => ⟨S8192x512, .f32⟩
  | 120 => ⟨S8192x512, .f32⟩
  | 121 => ⟨S8192x512, .f32⟩
  | 122 => ⟨S8192x512, .f32⟩
  | 123 => ⟨S_, .f32⟩
  | 124 => ⟨S8192x512, .f32⟩
  | 125 => ⟨S8192x512, .f32⟩
  | 126 => ⟨S_, .f32⟩
  | 127 => ⟨S8192x512, .f32⟩
  | _ => ⟨S8192x1024, .f32⟩

abbrev hbmTy0_1 (i : Nat) : BufTy := match i % 128 with
  | 0 => ⟨S8192x512, .f32⟩
  | 1 => ⟨S8192x512, .f32⟩
  | 2 => ⟨S_, .i32⟩
  | 3 => ⟨S_, .f32⟩
  | 4 => ⟨S8222x512, .f32⟩
  | 5 => ⟨S1x512, .f32⟩
  | 6 => ⟨S512, .f32⟩
  | 7 => ⟨S8192x512, .f32⟩
  | 8 => ⟨S1x512, .f32⟩
  | 9 => ⟨S8192x512, .f32⟩
  | 10 => ⟨S8192x512, .f32⟩
  | 11 => ⟨S8192x512, .f32⟩
  | 12 => ⟨S8192x512, .f32⟩
  | 13 => ⟨S1x512, .f32⟩
  | 14 => ⟨S512, .f32⟩
  | 15 => ⟨S8192x512, .f32⟩
  | 16 => ⟨S1x512, .f32⟩
  | 17 => ⟨S8192x512, .f32⟩
  | 18 => ⟨S8192x512, .f32⟩
  | 19 => ⟨S8192x512, .f32⟩
  | 20 => ⟨S1x512, .f32⟩
  | 21 => ⟨S512, .f32⟩
  | 22 => ⟨S8192x512, .f32⟩
  | 23 => ⟨S1x512, .f32⟩
  | 24 => ⟨S8192x512, .f32⟩
  | 25 => ⟨S8192x512, .f32⟩
  | 26 => ⟨S8192x512, .f32⟩
  | 27 => ⟨S1x512, .f32⟩
  | 28 => ⟨S512, .f32⟩
  | 29 => ⟨S8192x512, .f32⟩
  | 30 => ⟨S1x512, .f32⟩
  | 31 => ⟨S8192x512, .f32⟩
  | 32 => ⟨S8192x512, .f32⟩
  | 33 => ⟨S8192x512, .f32⟩
  | 34 => ⟨S1x512, .f32⟩
  | 35 => ⟨S512, .f32⟩
  | 36 => ⟨S8192x512, .f32⟩
  | 37 => ⟨S1x512, .f32⟩
  | 38 => ⟨S8192x512, .f32⟩
  | 39 => ⟨S8192x512, .f32⟩
  | 40 => ⟨S8192x512, .f32⟩
  | 41 => ⟨S1x512, .f32⟩
  | 42 => ⟨S512, .f32⟩
  | 43 => ⟨S8192x512, .f32⟩
  | 44 => ⟨S1x512, .f32⟩
  | 45 => ⟨S8192x512, .f32⟩
  | 46 => ⟨S8192x512, .f32⟩
  | 47 => ⟨S8192x512, .f32⟩
  | 48 => ⟨S1x512, .f32⟩
  | 49 => ⟨S512, .f32⟩
  | 50 => ⟨S8192x512, .f32⟩
  | 51 => ⟨S1x512, .f32⟩
  | 52 => ⟨S8192x512, .f32⟩
  | 53 => ⟨S8192x512, .f32⟩
  | 54 => ⟨S8192x512, .f32⟩
  | 55 => ⟨S1x512, .f32⟩
  | 56 => ⟨S512, .f32⟩
  | 57 => ⟨S8192x512, .f32⟩
  | 58 => ⟨S1x512, .f32⟩
  | 59 => ⟨S8192x512, .f32⟩
  | 60 => ⟨S8192x512, .f32⟩
  | 61 => ⟨S8192x512, .f32⟩
  | 62 => ⟨S1x512, .f32⟩
  | 63 => ⟨S512, .f32⟩
  | 64 => ⟨S8192x512, .f32⟩
  | 65 => ⟨S1x512, .f32⟩
  | 66 => ⟨S8192x512, .f32⟩
  | 67 => ⟨S8192x512, .f32⟩
  | 68 => ⟨S8192x512, .f32⟩
  | 69 => ⟨S1x512, .f32⟩
  | 70 => ⟨S512, .f32⟩
  | 71 => ⟨S8192x512, .f32⟩
  | 72 => ⟨S1x512, .f32⟩
  | 73 => ⟨S8192x512, .f32⟩
  | 74 => ⟨S8192x512, .f32⟩
  | 75 => ⟨S8192x512, .f32⟩
  | 76 => ⟨S1x512, .f32⟩
  | 77 => ⟨S512, .f32⟩
  | 78 => ⟨S8192x512, .f32⟩
  | 79 => ⟨S1x512, .f32⟩
  | 80 => ⟨S8192x512, .f32⟩
  | 81 => ⟨S8192x512, .f32⟩
  | 82 => ⟨S8192x512, .f32⟩
  | 83 => ⟨S1x512, .f32⟩
  | 84 => ⟨S512, .f32⟩
  | 85 => ⟨S8192x512, .f32⟩
  | 86 => ⟨S1x512, .f32⟩
  | 87 => ⟨S8192x512, .f32⟩
  | 88 => ⟨S8192x512, .f32⟩
  | 89 => ⟨S8192x512, .f32⟩
  | 90 => ⟨S1x512, .f32⟩
  | 91 => ⟨S512, .f32⟩
  | 92 => ⟨S8192x512, .f32⟩
  | 93 => ⟨S1x512, .f32⟩
  | 94 => ⟨S8192x512, .f32⟩
  | 95 => ⟨S8192x512, .f32⟩
  | 96 => ⟨S8192x512, .f32⟩
  | 97 => ⟨S1x512, .f32⟩
  | 98 => ⟨S512, .f32⟩
  | 99 => ⟨S8192x512, .f32⟩
  | 100 => ⟨S1x512, .f32⟩
  | 101 => ⟨S8192x512, .f32⟩
  | 102 => ⟨S8192x512, .f32⟩
  | 103 => ⟨S8192x512, .f32⟩
  | 104 => ⟨S1x512, .f32⟩
  | 105 => ⟨S512, .f32⟩
  | 106 => ⟨S8192x512, .f32⟩
  | 107 => ⟨S1x512, .f32⟩
  | 108 => ⟨S8192x512, .f32⟩
  | 109 => ⟨S8192x512, .f32⟩
  | 110 => ⟨S8192x512, .f32⟩
  | 111 => ⟨S1x512, .f32⟩
  | 112 => ⟨S512, .f32⟩
  | 113 => ⟨S8192x512, .f32⟩
  | 114 => ⟨S1x512, .f32⟩
  | 115 => ⟨S8192x512, .f32⟩
  | 116 => ⟨S8192x512, .f32⟩
  | 117 => ⟨S8192x512, .f32⟩
  | 118 => ⟨S1x512, .f32⟩
  | 119 => ⟨S512, .f32⟩
  | 120 => ⟨S8192x512, .f32⟩
  | 121 => ⟨S1x512, .f32⟩
  | 122 => ⟨S8192x512, .f32⟩
  | 123 => ⟨S8192x512, .f32⟩
  | 124 => ⟨S8192x512, .f32⟩
  | 125 => ⟨S1x512, .f32⟩
  | 126 => ⟨S512, .f32⟩
  | 127 => ⟨S8192x512, .f32⟩
  | _ => ⟨S8192x1024, .f32⟩

abbrev hbmTy0_2 (i : Nat) : BufTy := match i % 128 with
  | 0 => ⟨S1x512, .f32⟩
  | 1 => ⟨S8192x512, .f32⟩
  | 2 => ⟨S8192x512, .f32⟩
  | 3 => ⟨S8192x512, .f32⟩
  | 4 => ⟨S1x512, .f32⟩
  | 5 => ⟨S512, .f32⟩
  | 6 => ⟨S8192x512, .f32⟩
  | 7 => ⟨S1x512, .f32⟩
  | 8 => ⟨S8192x512, .f32⟩
  | 9 => ⟨S8192x512, .f32⟩
  | 10 => ⟨S8192x512, .f32⟩
  | 11 => ⟨S1x512, .f32⟩
  | 12 => ⟨S512, .f32⟩
  | 13 => ⟨S8192x512, .f32⟩
  | 14 => ⟨S1x512, .f32⟩
  | 15 => ⟨S8192x512, .f32⟩
  | 16 => ⟨S8192x512, .f32⟩
  | 17 => ⟨S8192x512, .f32⟩
  | 18 => ⟨S1x512, .f32⟩
  | 19 => ⟨S512, .f32⟩
  | 20 => ⟨S8192x512, .f32⟩
  | 21 => ⟨S1x512, .f32⟩
  | 22 => ⟨S8192x512, .f32⟩
  | 23 => ⟨S8192x512, .f32⟩
  | 24 => ⟨S8192x512, .f32⟩
  | 25 => ⟨S1x512, .f32⟩
  | 26 => ⟨S512, .f32⟩
  | 27 => ⟨S8192x512, .f32⟩
  | 28 => ⟨S1x512, .f32⟩
  | 29 => ⟨S8192x512, .f32⟩
  | 30 => ⟨S8192x512, .f32⟩
  | 31 => ⟨S8192x512, .f32⟩
  | 32 => ⟨S1x512, .f32⟩
  | 33 => ⟨S512, .f32⟩
  | 34 => ⟨S8192x512, .f32⟩
  | 35 => ⟨S1x512, .f32⟩
  | 36 => ⟨S8192x512, .f32⟩
  | 37 => ⟨S8192x512, .f32⟩
  | 38 => ⟨S8192x512, .f32⟩
  | 39 => ⟨S1x512, .f32⟩
  | 40 => ⟨S512, .f32⟩
  | 41 => ⟨S8192x512, .f32⟩
  | 42 => ⟨S1x512, .f32⟩
  | 43 => ⟨S8192x512, .f32⟩
  | 44 => ⟨S8192x512, .f32⟩
  | 45 => ⟨S8192x512, .f32⟩
  | 46 => ⟨S1x512, .f32⟩
  | 47 => ⟨S512, .f32⟩
  | 48 => ⟨S8192x512, .f32⟩
  | 49 => ⟨S1x512, .f32⟩
  | 50 => ⟨S8192x512, .f32⟩
  | 51 => ⟨S8192x512, .f32⟩
  | 52 => ⟨S8192x512, .f32⟩
  | 53 => ⟨S1x512, .f32⟩
  | 54 => ⟨S512, .f32⟩
  | 55 => ⟨S8192x512, .f32⟩
  | 56 => ⟨S1x512, .f32⟩
  | 57 => ⟨S8192x512, .f32⟩
  | 58 => ⟨S8192x512, .f32⟩
  | 59 => ⟨S8192x512, .f32⟩
  | 60 => ⟨S1x512, .f32⟩
  | 61 => ⟨S512, .f32⟩
  | 62 => ⟨S8192x512, .f32⟩
  | 63 => ⟨S1x512, .f32⟩
  | 64 => ⟨S8192x512, .f32⟩
  | 65 => ⟨S8192x512, .f32⟩
  | 66 => ⟨S8192x512, .f32⟩
  | 67 => ⟨S1x512, .f32⟩
  | 68 => ⟨S512, .f32⟩
  | 69 => ⟨S8192x512, .f32⟩
  | 70 => ⟨S1x512, .f32⟩
  | 71 => ⟨S8192x512, .f32⟩
  | 72 => ⟨S8192x512, .f32⟩
  | 73 => ⟨S8192x512, .f32⟩
  | 74 => ⟨S1x512, .f32⟩
  | 75 => ⟨S512, .f32⟩
  | 76 => ⟨S8192x512, .f32⟩
  | 77 => ⟨S1x512, .f32⟩
  | 78 => ⟨S8192x512, .f32⟩
  | 79 => ⟨S8192x512, .f32⟩
  | 80 => ⟨S8192x512, .f32⟩
  | 81 => ⟨S1x512, .f32⟩
  | 82 => ⟨S512, .f32⟩
  | 83 => ⟨S8192x512, .f32⟩
  | 84 => ⟨S1x512, .f32⟩
  | 85 => ⟨S8192x512, .f32⟩
  | 86 => ⟨S8192x512, .f32⟩
  | 87 => ⟨S8192x512, .f32⟩
  | 88 => ⟨S1x512, .f32⟩
  | 89 => ⟨S512, .f32⟩
  | 90 => ⟨S8192x512, .f32⟩
  | 91 => ⟨S1x512, .f32⟩
  | 92 => ⟨S8192x512, .f32⟩
  | 93 => ⟨S8192x512, .f32⟩
  | 94 => ⟨S8192x512, .f32⟩
  | 95 => ⟨S8192x8x64, .f32⟩
  | 96 => ⟨S_, .f32⟩
  | 97 => ⟨S8192x8, .f32⟩
  | 98 => ⟨S8192x8x1, .f32⟩
  | 99 => ⟨S_, .f32⟩
  | 100 => ⟨S8192x8x1, .f32⟩
  | 101 => ⟨S8192x8x1, .f32⟩
  | 102 => ⟨S8192x8x64, .f32⟩
  | 103 => ⟨S8192x8x64, .f32⟩
  | 104 => ⟨S8192x8x64, .f32⟩
  | 105 => ⟨S_, .f32⟩
  | 106 => ⟨S8192x8, .f32⟩
  | 107 => ⟨S8192x8x1, .f32⟩
  | 108 => ⟨S_, .f32⟩
  | 109 => ⟨S8192x8x1, .f32⟩
  | 110 => ⟨S8192x8x1, .f32⟩
  | 111 => ⟨S_, .f32⟩
  | 112 => ⟨S8192x8x1, .f32⟩
  | 113 => ⟨S8192x8x1, .f32⟩
  | 114 => ⟨S8192x8x1, .f32⟩
  | 115 => ⟨S8192x8x64, .f32⟩
  | 116 => ⟨S8192x8x64, .f32⟩
  | 117 => ⟨S8192x8x64, .f32⟩
  | 118 => ⟨S8192x512, .f32⟩
  | 119 => ⟨S8192x512, .f32⟩
  | 120 => ⟨S8192x512, .f32⟩
  | 121 => ⟨S8192x512, .f32⟩
  | 122 => ⟨S8192x512, .f32⟩
  | 123 => ⟨S8192x512, .f32⟩
  | 124 => ⟨S8192x512, .f32⟩
  | 125 => ⟨S8192x512, .f32⟩
  | 126 => ⟨S_, .f32⟩
  | 127 => ⟨S8192x512, .f32⟩
  | _ => ⟨S8192x1024, .f32⟩

abbrev hbmTy0_3 (i : Nat) : BufTy := match i % 128 with
  | 0 => ⟨S8192x512, .f32⟩
  | 1 => ⟨S_, .f32⟩
  | 2 => ⟨S8192x512, .f32⟩
  | 3 => ⟨S8192x512, .f32⟩
  | 4 => ⟨S8192x512, .f32⟩
  | 5 => ⟨S8192x512, .f32⟩
  | 6 => ⟨S512, .f32⟩
  | 7 => ⟨S8192x512, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x512, .f32⟩
  | 19 => ⟨S8192x512, .f32⟩
  | 20 => ⟨S1x512, .f32⟩
  | 21 => ⟨S8192x512, .f32⟩
  | 22 => ⟨S8192x512, .f32⟩
  | 23 => ⟨S512, .f32⟩
  | 24 => ⟨S8192x512, .f32⟩
  | 25 => ⟨S_, .f32⟩
  | 26 => ⟨S8192, .f32⟩
  | 27 => ⟨S8192x1, .f32⟩
  | 28 => ⟨S_, .f32⟩
  | 29 => ⟨S8192x1, .f32⟩
  | 30 => ⟨S8192x1, .f32⟩
  | 31 => ⟨S_, .f32⟩
  | 32 => ⟨S8192x1, .f32⟩
  | 33 => ⟨S8192x1, .f32⟩
  | 34 => ⟨S8192x1, .f32⟩
  | 35 => ⟨S8192x512, .f32⟩
  | 36 => ⟨S8192x512, .f32⟩
  | 37 => ⟨S1x512, .f32⟩
  | 38 => ⟨S8192x512, .f32⟩
  | 39 => ⟨S8192x512, .f32⟩
  | 40 => ⟨S8192x1024, .f32⟩
  | 41 => ⟨S8192x1024, .f32⟩
  | 42 => ⟨S1x1024, .f32⟩
  | 43 => ⟨S1024, .f32⟩
  | 44 => ⟨S1x1024, .f32⟩
  | 45 => ⟨S8192x1024, .f32⟩
  | 46 => ⟨S8192x1024, .f32⟩
  | 47 => ⟨S8192x1024, .f32⟩
  | 48 => ⟨S8192x1024, .bf16⟩
  | 49 => ⟨S8192x1024, .bf16⟩
  | 50 => ⟨S8192x128, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_cst_10 : Ref sig .tc := ⟨.hbm, 82, rfl⟩
abbrev main_v55 : Ref sig .tc := ⟨.hbm, 83, rfl⟩
abbrev main_v56 : Ref sig .tc := ⟨.hbm, 84, rfl⟩
abbrev main_cst_11 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c : Ref sig .tc := ⟨.hbm, 96, rfl⟩
abbrev main_v67 : Ref sig .tc := ⟨.hbm, 97, rfl⟩
abbrev main_call0_v0 : Ref sig .tc := ⟨.hbm, 98, rfl⟩
abbrev main_call0_c : Ref sig .tc := ⟨.hbm, 99, rfl⟩
abbrev main_call0_v1 : Ref sig .tc := ⟨.hbm, 100, rfl⟩
abbrev main_call0_v2 : Ref sig .tc := ⟨.hbm, 101, rfl⟩
abbrev main_call0_v3 : Ref sig .tc := ⟨.hbm, 102, rfl⟩
abbrev main_call0_v4 : Ref sig .tc := ⟨.hbm, 103, rfl⟩
abbrev main_call0_c_0 : Ref sig .tc := ⟨.hbm, 104, rfl⟩
abbrev main_call0_v5 : Ref sig .tc := ⟨.hbm, 105, rfl⟩
abbrev main_v68 : Ref sig .tc := ⟨.hbm, 106, rfl⟩
abbrev main_v69 : Ref sig .tc := ⟨.hbm, 107, rfl⟩
abbrev main_cst_12 : Ref sig .tc := ⟨.hbm, 108, rfl⟩
abbrev main_v70 : Ref sig .tc := ⟨.hbm, 109, rfl⟩
abbrev main_call1_v0 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_13 : Ref sig .tc := ⟨.hbm, 123, rfl⟩
abbrev main_v83 : Ref sig .tc := ⟨.hbm, 124, rfl⟩
abbrev main_v84 : Ref sig .tc := ⟨.hbm, 125, rfl⟩
abbrev main_cst_14 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_c_15 : Ref sig .tc := ⟨.hbm, 130, rfl⟩
abbrev main_call2_v0 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_v244 : Ref sig .tc := ⟨.hbm, 288, rfl⟩
abbrev main_v245 : Ref sig .tc := ⟨.hbm, 289, rfl⟩
abbrev main_v246 : Ref sig .tc := ⟨.hbm, 290, rfl⟩
abbrev main_v247 : Ref sig .tc := ⟨.hbm, 291, rfl⟩
abbrev main_v248 : Ref sig .tc := ⟨.hbm, 292, rfl⟩
abbrev main_v249 : Ref sig .tc := ⟨.hbm, 293, rfl⟩
abbrev main_v250 : Ref sig .tc := ⟨.hbm, 294, rfl⟩
abbrev main_v251 : Ref sig .tc := ⟨.hbm, 295, rfl⟩
abbrev main_v252 : Ref sig .tc := ⟨.hbm, 296, rfl⟩
abbrev main_v253 : Ref sig .tc := ⟨.hbm, 297, rfl⟩
abbrev main_v254 : Ref sig .tc := ⟨.hbm, 298, rfl⟩
abbrev main_v255 : Ref sig .tc := ⟨.hbm, 299, rfl⟩
abbrev main_v256 : Ref sig .tc := ⟨.hbm, 300, rfl⟩
abbrev main_v257 : Ref sig .tc := ⟨.hbm, 301, rfl⟩
abbrev main_v258 : Ref sig .tc := ⟨.hbm, 302, rfl⟩
abbrev main_v259 : Ref sig .tc := ⟨.hbm, 303, rfl⟩
abbrev main_v260 : Ref sig .tc := ⟨.hbm, 304, rfl⟩
abbrev main_v261 : Ref sig .tc := ⟨.hbm, 305, rfl⟩
abbrev main_v262 : Ref sig .tc := ⟨.hbm, 306, rfl⟩
abbrev main_v263 : Ref sig .tc := ⟨.hbm, 307, rfl⟩
abbrev main_v264 : Ref sig .tc := ⟨.hbm, 308, rfl⟩
abbrev main_v265 : Ref sig .tc := ⟨.hbm, 309, rfl⟩
abbrev main_v266 : Ref sig .tc := ⟨.hbm, 310, rfl⟩
abbrev main_v267 : Ref sig .tc := ⟨.hbm, 311, rfl⟩
abbrev main_v268 : Ref sig .tc := ⟨.hbm, 312, rfl⟩
abbrev main_v269 : Ref sig .tc := ⟨.hbm, 313, rfl⟩
abbrev main_v270 : Ref sig .tc := ⟨.hbm, 314, rfl⟩
abbrev main_v271 : Ref sig .tc := ⟨.hbm, 315, rfl⟩
abbrev main_v272 : Ref sig .tc := ⟨.hbm, 316, rfl⟩
abbrev main_v273 : Ref sig .tc := ⟨.hbm, 317, rfl⟩
abbrev main_v274 : Ref sig .tc := ⟨.hbm, 318, rfl⟩
abbrev main_v275 : Ref sig .tc := ⟨.hbm, 319, rfl⟩
abbrev main_v276 : Ref sig .tc := ⟨.hbm, 320, rfl⟩
abbrev main_v277 : Ref sig .tc := ⟨.hbm, 321, rfl⟩
abbrev main_v278 : Ref sig .tc := ⟨.hbm, 322, rfl⟩
abbrev main_v279 : Ref sig .tc := ⟨.hbm, 323, rfl⟩
abbrev main_v280 : Ref sig .tc := ⟨.hbm, 324, rfl⟩
abbrev main_v281 : Ref sig .tc := ⟨.hbm, 325, rfl⟩
abbrev main_v282 : Ref sig .tc := ⟨.hbm, 326, rfl⟩
abbrev main_v283 : Ref sig .tc := ⟨.hbm, 327, rfl⟩
abbrev main_v284 : Ref sig .tc := ⟨.hbm, 328, rfl⟩
abbrev main_v285 : Ref sig .tc := ⟨.hbm, 329, rfl⟩
abbrev main_v286 : Ref sig .tc := ⟨.hbm, 330, rfl⟩
abbrev main_v287 : Ref sig .tc := ⟨.hbm, 331, rfl⟩
abbrev main_v288 : Ref sig .tc := ⟨.hbm, 332, rfl⟩
abbrev main_v289 : Ref sig .tc := ⟨.hbm, 333, rfl⟩
abbrev main_v290 : Ref sig .tc := ⟨.hbm, 334, rfl⟩
abbrev main_v291 : Ref sig .tc := ⟨.hbm, 335, rfl⟩
abbrev main_v292 : Ref sig .tc := ⟨.hbm, 336, rfl⟩
abbrev main_v293 : Ref sig .tc := ⟨.hbm, 337, rfl⟩
abbrev main_v294 : Ref sig .tc := ⟨.hbm, 338, rfl⟩
abbrev main_v295 : Ref sig .tc := ⟨.hbm, 339, rfl⟩
abbrev main_v296 : Ref sig .tc := ⟨.hbm, 340, rfl⟩
abbrev main_v297 : Ref sig .tc := ⟨.hbm, 341, rfl⟩
abbrev main_v298 : Ref sig .tc := ⟨.hbm, 342, rfl⟩
abbrev main_v299 : Ref sig .tc := ⟨.hbm, 343, rfl⟩
abbrev main_v300 : Ref sig .tc := ⟨.hbm, 344, rfl⟩
abbrev main_v301 : Ref sig .tc := ⟨.hbm, 345, rfl⟩
abbrev main_v302 : Ref sig .tc := ⟨.hbm, 346, rfl⟩
abbrev main_v303 : Ref sig .tc := ⟨.hbm, 347, rfl⟩
abbrev main_v304 : Ref sig .tc := ⟨.hbm, 348, rfl⟩
abbrev main_v305 : Ref sig .tc := ⟨.hbm, 349, rfl⟩
abbrev main_v306 : Ref sig .tc := ⟨.hbm, 350, rfl⟩
abbrev main_v307 : Ref sig .tc := ⟨.hbm, 351, rfl⟩
abbrev main_cst_16 : Ref sig .tc := ⟨.hbm, 352, rfl⟩
abbrev main_v308 : Ref sig .tc := ⟨.hbm, 353, rfl⟩
abbrev main_v309 : Ref sig .tc := ⟨.hbm, 354, rfl⟩
abbrev main_cst_17 : Ref sig .tc := ⟨.hbm, 355, rfl⟩
abbrev main_v310 : Ref sig .tc := ⟨.hbm, 356, rfl⟩
abbrev main_v311 : Ref sig .tc := ⟨.hbm, 357, rfl⟩
abbrev main_v312 : Ref sig .tc := ⟨.hbm, 358, rfl⟩
abbrev main_v313 : Ref sig .tc := ⟨.hbm, 359, rfl⟩
abbrev main_v314 : Ref sig .tc := ⟨.hbm, 360, rfl⟩
abbrev main_cst_18 : Ref sig .tc := ⟨.hbm, 361, rfl⟩
abbrev main_v315 : Ref sig .tc := ⟨.hbm, 362, rfl⟩
abbrev main_v316 : Ref sig .tc := ⟨.hbm, 363, rfl⟩
abbrev main_cst_19 : Ref sig .tc := ⟨.hbm, 364, rfl⟩
abbrev main_v317 : Ref sig .tc := ⟨.hbm, 365, rfl⟩
abbrev main_v318 : Ref sig .tc := ⟨.hbm, 366, rfl⟩
abbrev main_cst_20 : Ref sig .tc := ⟨.hbm, 367, rfl⟩
abbrev main_v319 : Ref sig .tc := ⟨.hbm, 368, rfl⟩
abbrev main_v320 : Ref sig .tc := ⟨.hbm, 369, rfl⟩
abbrev main_v321 : Ref sig .tc := ⟨.hbm, 370, rfl⟩
abbrev main_v322 : Ref sig .tc := ⟨.hbm, 371, rfl⟩
abbrev main_v323 : Ref sig .tc := ⟨.hbm, 372, rfl⟩
abbrev main_v324 : Ref sig .tc := ⟨.hbm, 373, rfl⟩
abbrev main_v325 : Ref sig .tc := ⟨.hbm, 374, rfl⟩
abbrev main_v326 : Ref sig .tc := ⟨.hbm, 375, rfl⟩
abbrev main_v327 : Ref sig .tc := ⟨.hbm, 376, rfl⟩
abbrev main_v328 : Ref sig .tc := ⟨.hbm, 377, rfl⟩
abbrev main_v329 : Ref sig .tc := ⟨.hbm, 378, rfl⟩
abbrev main_v330 : Ref sig .tc := ⟨.hbm, 379, rfl⟩
abbrev main_call3_v0 : Ref sig .tc := ⟨.hbm, 380, rfl⟩
abbrev main_call3_v1 : Ref sig .tc := ⟨.hbm, 381, rfl⟩
abbrev main_call3_cst : Ref sig .tc := ⟨.hbm, 382, rfl⟩
abbrev main_call3_v2 : Ref sig .tc := ⟨.hbm, 383, rfl⟩
abbrev main_call3_v3 : Ref sig .tc := ⟨.hbm, 384, rfl⟩
abbrev main_call3_cst_0 : Ref sig .tc := ⟨.hbm, 385, rfl⟩
abbrev main_call3_v4 : Ref sig .tc := ⟨.hbm, 386, rfl⟩
abbrev main_call3_v5 : Ref sig .tc := ⟨.hbm, 387, rfl⟩
abbrev main_v331 : Ref sig .tc := ⟨.hbm, 388, rfl⟩
abbrev main_v332 : Ref sig .tc := ⟨.hbm, 389, rfl⟩
abbrev main_v333 : Ref sig .tc := ⟨.hbm, 390, rfl⟩
abbrev main_v334 : Ref sig .tc := ⟨.hbm, 391, rfl⟩
abbrev main_cst_21 : Ref sig .tc := ⟨.hbm, 392, rfl⟩
abbrev main_v335 : Ref sig .tc := ⟨.hbm, 393, rfl⟩
abbrev main_v336 : Ref sig .tc := ⟨.hbm, 394, rfl⟩
abbrev main_cst_22 : Ref sig .tc := ⟨.hbm, 395, rfl⟩
abbrev main_v337 : Ref sig .tc := ⟨.hbm, 396, rfl⟩
abbrev main_v338 : Ref sig .tc := ⟨.hbm, 397, rfl⟩
abbrev main_cst_23 : Ref sig .tc := ⟨.hbm, 398, rfl⟩
abbrev main_v339 : Ref sig .tc := ⟨.hbm, 399, rfl⟩
abbrev main_v340 : Ref sig .tc := ⟨.hbm, 400, rfl⟩
abbrev main_v341 : Ref sig .tc := ⟨.hbm, 401, rfl⟩
abbrev main_v342 : Ref sig .tc := ⟨.hbm, 402, rfl⟩
abbrev main_v343 : Ref sig .tc := ⟨.hbm, 403, rfl⟩
abbrev main_v344 : Ref sig .tc := ⟨.hbm, 404, rfl⟩
abbrev main_v345 : Ref sig .tc := ⟨.hbm, 405, rfl⟩
abbrev main_v346 : Ref sig .tc := ⟨.hbm, 406, rfl⟩
abbrev main_v347 : Ref sig .tc := ⟨.hbm, 407, rfl⟩
abbrev main_v348 : Ref sig .tc := ⟨.hbm, 408, rfl⟩
abbrev main_cst_24 : Ref sig .tc := ⟨.hbm, 409, rfl⟩
abbrev main_v349 : Ref sig .tc := ⟨.hbm, 410, rfl⟩
abbrev main_v350 : Ref sig .tc := ⟨.hbm, 411, rfl⟩
abbrev main_cst_25 : Ref sig .tc := ⟨.hbm, 412, rfl⟩
abbrev main_v351 : Ref sig .tc := ⟨.hbm, 413, rfl⟩
abbrev main_v352 : Ref sig .tc := ⟨.hbm, 414, rfl⟩
abbrev main_cst_26 : Ref sig .tc := ⟨.hbm, 415, rfl⟩
abbrev main_v353 : Ref sig .tc := ⟨.hbm, 416, rfl⟩
abbrev main_v354 : Ref sig .tc := ⟨.hbm, 417, rfl⟩
abbrev main_v355 : Ref sig .tc := ⟨.hbm, 418, rfl⟩
abbrev main_v356 : Ref sig .tc := ⟨.hbm, 419, rfl⟩
abbrev main_v357 : Ref sig .tc := ⟨.hbm, 420, rfl⟩
abbrev main_v358 : Ref sig .tc := ⟨.hbm, 421, rfl⟩
abbrev main_v359 : Ref sig .tc := ⟨.hbm, 422, rfl⟩
abbrev main_v360 : Ref sig .tc := ⟨.hbm, 423, rfl⟩
abbrev main_v361 : Ref sig .tc := ⟨.hbm, 424, rfl⟩
abbrev main_v362 : Ref sig .tc := ⟨.hbm, 425, rfl⟩
abbrev main_v363 : Ref sig .tc := ⟨.hbm, 426, rfl⟩
abbrev main_v364 : Ref sig .tc := ⟨.hbm, 427, rfl⟩
abbrev main_v365 : Ref sig .tc := ⟨.hbm, 428, rfl⟩
abbrev main_v366 : Ref sig .tc := ⟨.hbm, 429, rfl⟩
abbrev main_v367 : Ref sig .tc := ⟨.hbm, 430, rfl⟩
abbrev main_v368 : Ref sig .tc := ⟨.hbm, 431, rfl⟩
abbrev main_v369 : Ref sig .tc := ⟨.hbm, 432, rfl⟩
abbrev main_v370 : Ref sig .tc := ⟨.hbm, 433, rfl⟩
abbrev main_v371 : Ref sig .tc := ⟨.hbm, 434, rfl⟩

abbrev nD : Nat := 1
abbrev τ : Topo := Topo.v7x

variable {F : FTy → Type} [FloatOps F]
-- ==== Proof.MixRun.lean ====
/-
The mixer's forward call, run at one grid point: from the staging buffers of its operands, whatever the outputs hold, the body ends with its operands as they were, and with eleven of the outputs and the
rows carried to the next point written. The two saved derivatives and the shifted copies end at contents that are not named.
-/
module

public import proofs.«01_k».proof.Proof.Gen.Kernel4Ideal.Frame
public import proofs.«01_k».proof.Proof.Gen.Kernel4Ideal.Skeleton

@[expose] public section

set_option maxRecDepth 16384

noncomputable section

namespace Cert.Kernel4Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

/-- Assertions about the machine this program runs on. -/
abbrev Asr (F : FTy → Type) := sProp (MT nD τ sig Unit (Elt F) ℕ (UR sig nD τ) ℕ)

/-- Whether the body clears the first rows of its carried buffer at this point. -/
abbrev starts (i : grid0.Coords) : Prop :=
  (Scalar.cmpi .ne (Scalar.extui (Scalar.cmpi .eq (BitVec.ofNat 32 (i 0).val) 0#32)) 0#32) = 1#1

variable (c : Dev nD) (i : grid0.Coords)
  (a0 : Memref sig .tc .vmem S512x1024 .f32) (h0 : a0.IsWhole)
  (a1 : Memref sig .tc .vmem S8x1024 .f32) (h1 : a1.IsWhole)
  (a2 : Memref sig .tc .vmem S1x1024 .f32) (h2 : a2.IsWhole)
  (a3 : Memref sig .tc .vmem S8x1024x256 .bf16) (h3 : a3.IsWhole)
  (a4 : Memref sig .tc .vmem S1x2048 .f32) (h4 : a4.IsWhole)
  (a5 : Memref sig .tc .vmem S1x512 .f32) (h5 : a5.IsWhole)
  (a6 : Memref sig .tc .vmem S1x512 .f32) (h6 : a6.IsWhole)
  (a7 : Memref sig .tc .vmem S1024x128 .bf16) (h7 : a7.IsWhole)
  (a8 : Memref sig .tc .vmem S128x512 .f32) (h8 : a8.IsWhole)
  (a9 : Memref sig .tc .vmem S32x512 .f32) (h9 : a9.IsWhole)
  (a10 : Memref sig .tc .vmem S1x512 .f32) (h10 : a10.IsWhole)
  (a11 : Memref sig .tc .vmem S1x512 .f32) (h11 : a11.IsWhole)
  (a12 : Memref sig .tc .vmem S1x512 .f32) (h12 : a12.IsWhole)
  (a13 : Memref sig .tc .vmem S1x512 .f32) (h13 : a13.IsWhole)
  (a14 : Memref sig .tc .vmem S1x512 .f32) (h14 : a14.IsWhole)
  (a15 : Memref sig .tc .vmem S1024x1024 .bf16) (h15 : a15.IsWhole)
  (a16 : Memref sig .tc .vmem S512x512 .bf16) (h16 : a16.IsWhole)
  (a17 : Memref sig .tc .vmem S512x1024 .f32) (h17 : a17.IsWhole)
  (a18 : Memref sig .tc .vmem S512x1024 .bf16) (h18 : a18.IsWhole)
  (a19 : Memref sig .tc .vmem S512x1024 .f32) (h19 : a19.IsWhole)
  (a20 : Memref sig .tc .vmem S512x512 .f32) (h20 : a20.IsWhole)
  (a21 : Memref sig .tc .vmem S512x1024 .bf16) (h21 : a21.IsWhole)
  (a22 : Memref sig .tc .vmem S512x1024 .f32) (h22 : a22.IsWhole)
  (a23 : Memref sig .tc .vmem S512x512 .f32) (h23 : a23.IsWhole)
  (a24 : Memref sig .tc .vmem S512x512 .f32) (h24 : a24.IsWhole)
  (a25 : Memref sig .tc .vmem S512x512 .f32) (h25 : a25.IsWhole)
  (a26 : Memref sig .tc .vmem S512x512 .f32) (h26 : a26.IsWhole)
  (a27 : Memref sig .tc .vmem S512x128 .f32) (h27 : a27.IsWhole)
  (a28 : Memref sig .tc .vmem S512x512 .f32) (h28 : a28.IsWhole)
  (a29 : Memref sig .tc .vmem S512x512 .f32) (h29 : a29.IsWhole)
  (a30 : Memref sig .tc .vmem S544x512 .f32) (h30 : a30.IsWhole)
  (a31 : Memref sig .tc .vmem S7x536x512 .f32) (h31 : a31.IsWhole)
  (x0 : Vec F S512x1024 .f32) (x1 : Vec F S8x1024 .f32) (x2 : Vec F S1x1024 .f32) (x3 : Vec F S8x1024x256 .bf16) (x4 : Vec F S1x2048 .f32) (x5 : Vec F S1x512 .f32) (x6 : Vec F S1x512 .f32) (x7 : Vec F S1024x128 .bf16) (x8 : Vec F S128x512 .f32) (x9 : Vec F S32x512 .f32) (x10 : Vec F S1x512 .f32) (x11 : Vec F S1x512 .f32) (x12 : Vec F S1x512 .f32) (x13 : Vec F S1x512 .f32) (x14 : Vec F S1x512 .f32) (x15 : Vec F S1024x1024 .bf16) (x16 : Vec F S512x512 .bf16)

/-- The operands' buffers, at their contents. -/
def held : Asr F :=
  iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16)

/-- The buffers of which nothing is named. -/
def free : Asr F :=
  iprop((∃ d, owns (c : Thread nD τ) a24 fullShare d) ∗ (∃ d, owns (c : Thread nD τ) a25 fullShare d))

variable (x30 : Vec F S544x512 .f32) (x31 : Vec F S7x536x512 .f32)

set_option maxHeartbeats 40000000 in
/-- The body at a point that clears the carried rows, with the pieces it writes into the named outputs and the carried buffer. -/
def runA (hc : starts i) :
    Σ' (L17 : List (View.Piece (Elt F) S512x1024 .f32)), Σ' (L18 : List (View.Piece (Elt F) S512x1024 .bf16)), Σ' (L19 : List (View.Piece (Elt F) S512x1024 .f32)), Σ' (L20 : List (View.Piece (Elt F) S512x512 .f32)), Σ' (L21 : List (View.Piece (Elt F) S512x1024 .bf16)), Σ' (L22 : List (View.Piece (Elt F) S512x1024 .f32)), Σ' (L23 : List (View.Piece (Elt F) S512x512 .f32)), Σ' (L26 : List (View.Piece (Elt F) S512x512 .f32)), Σ' (L27 : List (View.Piece (Elt F) S512x128 .f32)), Σ' (L28 : List (View.Piece (Elt F) S512x512 .f32)), Σ' (L29 : List (View.Piece (Elt F) S512x512 .f32)),
      { L30 : List (View.Piece (Elt F) S544x512 .f32) //
      ∀ (E : Set ℕ) (K : PUnit → Asr F),
        iprop(held c a0 a1 a2 a3 a4 a5 a6 a7 a8 a9 a10 a11 a12 a13 a14 a15 a16 x0 x1 x2 x3 x4 x5 x6 x7 x8 x9 x10 x11 x12 x13 x14 x15 x16 ∗ free (F := F) c a24 a25
            ∗ owns (c : Thread nD τ) a30 fullShare x30 ∗ owns (c : Thread nD τ) a31 fullShare x31
            ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d) ∗ (∃ d, owns (c : Thread nD τ) a21 fullShare d) ∗ (∃ d, owns (c : Thread nD τ) a22 fullShare d) ∗ (∃ d, owns (c : Thread nD τ) a23 fullShare d) ∗ (∃ d, owns (c : Thread nD τ) a26 fullShare d) ∗ (∃ d, owns (c : Thread nD τ) a27 fullShare d) ∗ (∃ d, owns (c : Thread nD τ) a28 fullShare d) ∗ (∃ d, owns (c : Thread nD τ) a29 fullShare d)
            ∗ (iprop(held c a0 a1 a2 a3 a4 a5 a6 a7 a8 a9 a10 a11 a12 a13 a14 a15 a16 x0 x1 x2 x3 x4 x5 x6 x7 x8 x9 x10 x11 x12 x13 x14 x15 x16 ∗ free (F := F) c a24 a25
              ∗ (a30.view.loc (c : Thread nD τ) ↦[a30.view.set]{fullShare} a30.view.writes (Elt F) (h30.unread x30) L30) ∗ (∃ d, owns (c : Thread nD τ) a31 fullShare d)
              ∗ (∃ f, a17.view.loc (c : Thread nD τ) ↦[a17.view.set]{fullShare} a17.view.writes (Elt F) f L17) ∗ (∃ f, a18.view.loc (c : Thread nD τ) ↦[a18.view.set]{fullShare} a18.view.writes (Elt F) f L18) ∗ (∃ f, a19.view.loc (c : Thread nD τ) ↦[a19.view.set]{fullShare} a19.view.writes (Elt F) f L19) ∗ (∃ f, a20.view.loc (c : Thread nD τ) ↦[a20.view.set]{fullShare} a20.view.writes (Elt F) f L20) ∗ (∃ f, a21.view.loc (c : Thread nD τ) ↦[a21.view.set]{fullShare} a21.view.writes (Elt F) f L21) ∗ (∃ f, a22.view.loc (c : Thread nD τ) ↦[a22.view.set]{fullShare} a22.view.writes (Elt F) f L22) ∗ (∃ f, a23.view.loc (c : Thread nD τ) ↦[a23.view.set]{fullShare} a23.view.writes (Elt F) f L23) ∗ (∃ f, a26.view.loc (c : Thread nD τ) ↦[a26.view.set]{fullShare} a26.view.writes (Elt F) f L26) ∗ (∃ f, a27.view.loc (c : Thread nD τ) ↦[a27.view.set]{fullShare} a27.view.writes (Elt F) f L27) ∗ (∃ f, a28.view.loc (c : Thread nD τ) ↦[a28.view.set]{fullShare} a28.view.writes (Elt F) f L28) ∗ (∃ f, a29.view.loc (c : Thread nD τ) ↦[a29.view.set]{fullShare} a29.view.writes (Elt F) f L29)) -∗ K ⟨⟩))
          ⊢ wp frame (wpE (defs₀ (F := F)) Variants.none c none) E (cc0_mix_fwd i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31) K } := by
  refine ⟨?_, ?_, ?_, ?_, ?_, ?_, ?_, ?_, ?_, ?_, ?_, ?_, fun E K => ?run⟩
  case run =>
    simp only [cc0_mix_fwd_eq_skeleton]; unfold cc0_mix_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold held free owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, ⟨⟨%d24, %f24, -, H24⟩, ⟨%d25, %f25, -, H25⟩⟩, ⟨%f30, %hf30, H30⟩, ⟨%f31, %hf31, H31⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d26, %f26, -, H26⟩, ⟨%d27, %f27, -, H27⟩, ⟨%d28, %f28, -, H28⟩, ⟨%d29, %f29, -, H29⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15; obtain rfl := h16.eq_unread hf16; obtain rfl := h30.eq_unread hf30; obtain rfl := h31.eq_unread hf31
    sl_exec (disch := first | sl_exact hc)
    sl_step
    iapply Hk
    isplitl [H0 H1 H2 H3 H4 H5 H6 H7 H8 H9 H10 H11 H12 H13 H14 H15 H16]
    · isplitl [H0]
      · iexists _; isplitr; · ipureintro; exact h0.read_unread _
        iexact H0
      isplitl [H1]
      · iexists _; isplitr; · ipureintro; exact h1.read_unread _
        iexact H1
      isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      isplitl [H12]
      · iexists _; isplitr; · ipureintro; exact h12.read_unread _
        iexact H12
      isplitl [H13]
      · iexists _; isplitr; · ipureintro; exact h13.read_unread _
        iexact H13
      isplitl [H14]
      · iexists _; isplitr; · ipureintro; exact h14.read_unread _
        iexact H14
      isplitl [H15]
      · iexists _; isplitr; · ipureintro; exact h15.read_unread _
        iexact H15
      iexists _; isplitr; · ipureintro; exact h16.read_unread _
      iexact H16
    isplitl [H24 H25]
    · isplitl [H24]
      · iexists _, _; isplitr; swap; · iexact H24
        ipureintro; rfl
      iexists _, _; isplitr; swap; · iexact H25
      ipureintro; rfl
    isplitl [H30]; · iexact H30
    isplitl [H31]
    · iexists _, _; isplitr; swap; · iexact H31
      ipureintro; rfl
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H26]; · iexists _; iexact H26
    isplitl [H27]; · iexists _; iexact H27
    isplitl [H28]; · iexists _; iexact H28
    iexists _; iexact H29

set_option maxHeartbeats 40000000 in
/-- The body at a point that does not clear the carried rows, with the pieces it writes into the named outputs and the carried buffer. -/
def runB (hc : ¬starts i) :
    Σ' (L17 : List (View.Piece (Elt F) S512x1024 .f32)), Σ' (L18 : List (View.Piece (Elt F) S512x1024 .bf16)), Σ' (L19 : List (View.Piece (Elt F) S512x1024 .f32)), Σ' (L20 : List (View.Piece (Elt F) S512x512 .f32)), Σ' (L21 : List (View.Piece (Elt F) S512x1024 .bf16)), Σ' (L22 : List (View.Piece (Elt F) S512x1024 .f32)), Σ' (L23 : List (View.Piece (Elt F) S512x512 .f32)), Σ' (L26 : List (View.Piece (Elt F) S512x512 .f32)), Σ' (L27 : List (View.Piece (Elt F) S512x128 .f32)), Σ' (L28 : List (View.Piece (Elt F) S512x512 .f32)), Σ' (L29 : List (View.Piece (Elt F) S512x512 .f32)),
      { L30 : List (View.Piece (Elt F) S544x512 .f32) //
      ∀ (E : Set ℕ) (K : PUnit → Asr F),
        iprop(held c a0 a1 a2 a3 a4 a5 a6 a7 a8 a9 a10 a11 a12 a13 a14 a15 a16 x0 x1 x2 x3 x4 x5 x6 x7 x8 x9 x10 x11 x12 x13 x14 x15 x16 ∗ free (F := F) c a24 a25
            ∗ owns (c : Thread nD τ) a30 fullShare x30 ∗ owns (c : Thread nD τ) a31 fullShare x31
            ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d) ∗ (∃ d, owns (c : Thread nD τ) a21 fullShare d) ∗ (∃ d, owns (c : Thread nD τ) a22 fullShare d) ∗ (∃ d, owns (c : Thread nD τ) a23 fullShare d) ∗ (∃ d, owns (c : Thread nD τ) a26 fullShare d) ∗ (∃ d, owns (c : Thread nD τ) a27 fullShare d) ∗ (∃ d, owns (c : Thread nD τ) a28 fullShare d) ∗ (∃ d, owns (c : Thread nD τ) a29 fullShare d)
            ∗ (iprop(held c a0 a1 a2 a3 a4 a5 a6 a7 a8 a9 a10 a11 a12 a13 a14 a15 a16 x0 x1 x2 x3 x4 x5 x6 x7 x8 x9 x10 x11 x12 x13 x14 x15 x16 ∗ free (F := F) c a24 a25
              ∗ (a30.view.loc (c : Thread nD τ) ↦[a30.view.set]{fullShare} a30.view.writes (Elt F) (h30.unread x30) L30) ∗ (∃ d, owns (c : Thread nD τ) a31 fullShare d)
              ∗ (∃ f, a17.view.loc (c : Thread nD τ) ↦[a17.view.set]{fullShare} a17.view.writes (Elt F) f L17) ∗ (∃ f, a18.view.loc (c : Thread nD τ) ↦[a18.view.set]{fullShare} a18.view.writes (Elt F) f L18) ∗ (∃ f, a19.view.loc (c : Thread nD τ) ↦[a19.view.set]{fullShare} a19.view.writes (Elt F) f L19) ∗ (∃ f, a20.view.loc (c : Thread nD τ) ↦[a20.view.set]{fullShare} a20.view.writes (Elt F) f L20) ∗ (∃ f, a21.view.loc (c : Thread nD τ) ↦[a21.view.set]{fullShare} a21.view.writes (Elt F) f L21) ∗ (∃ f, a22.view.loc (c : Thread nD τ) ↦[a22.view.set]{fullShare} a22.view.writes (Elt F) f L22) ∗ (∃ f, a23.view.loc (c : Thread nD τ) ↦[a23.view.set]{fullShare} a23.view.writes (Elt F) f L23) ∗ (∃ f, a26.view.loc (c : Thread nD τ) ↦[a26.view.set]{fullShare} a26.view.writes (Elt F) f L26) ∗ (∃ f, a27.view.loc (c : Thread nD τ) ↦[a27.view.set]{fullShare} a27.view.writes (Elt F) f L27) ∗ (∃ f, a28.view.loc (c : Thread nD τ) ↦[a28.view.set]{fullShare} a28.view.writes (Elt F) f L28) ∗ (∃ f, a29.view.loc (c : Thread nD τ) ↦[a29.view.set]{fullShare} a29.view.writes (Elt F) f L29)) -∗ K ⟨⟩))
          ⊢ wp frame (wpE (defs₀ (F := F)) Variants.none c none) E (cc0_mix_fwd i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31) K } := by
  refine ⟨?_, ?_, ?_, ?_, ?_, ?_, ?_, ?_, ?_, ?_, ?_, ?_, fun E K => ?run⟩
  case run =>
    simp only [cc0_mix_fwd_eq_skeleton]; unfold cc0_mix_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold held free owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, ⟨⟨%d24, %f24, -, H24⟩, ⟨%d25, %f25, -, H25⟩⟩, ⟨%f30, %hf30, H30⟩, ⟨%f31, %hf31, H31⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d26, %f26, -, H26⟩, ⟨%d27, %f27, -, H27⟩, ⟨%d28, %f28, -, H28⟩, ⟨%d29, %f29, -, H29⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15; obtain rfl := h16.eq_unread hf16; obtain rfl := h30.eq_unread hf30; obtain rfl := h31.eq_unread hf31
    sl_exec (disch := first | sl_exact hc)
    sl_step
    iapply Hk
    isplitl [H0 H1 H2 H3 H4 H5 H6 H7 H8 H9 H10 H11 H12 H13 H14 H15 H16]
    · isplitl [H0]
      · iexists _; isplitr; · ipureintro; exact h0.read_unread _
        iexact H0
      isplitl [H1]
      · iexists _; isplitr; · ipureintro; exact h1.read_unread _
        iexact H1
      isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      isplitl [H12]
      · iexists _; isplitr; · ipureintro; exact h12.read_unread _
        iexact H12
      isplitl [H13]
      · iexists _; isplitr; · ipureintro; exact h13.read_unread _
        iexact H13
      isplitl [H14]
      · iexists _; isplitr; · ipureintro; exact h14.read_unread _
        iexact H14
      isplitl [H15]
      · iexists _; isplitr; · ipureintro; exact h15.read_unread _
        iexact H15
      iexists _; isplitr; · ipureintro; exact h16.read_unread _
      iexact H16
    isplitl [H24 H25]
    · isplitl [H24]
      · iexists _, _; isplitr; swap; · iexact H24
        ipureintro; rfl
      iexists _, _; isplitr; swap; · iexact H25
      ipureintro; rfl
    isplitl [H30]; · iexact H30
    isplitl [H31]
    · iexists _, _; isplitr; swap; · iexact H31
      ipureintro; rfl
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H26]; · iexists _; iexact H26
    isplitl [H27]; · iexists _; iexact H27
    isplitl [H28]; · iexists _; iexact H28
    iexists _; iexact H29

end Cert.Kernel4Ideal.Mix

end
-- ==== Proof.MixVals.lean ====
/-
What the named outputs hold after one grid point, as functions of the blocks of the operands and of
the gated block laid below the rows carried over, and that the pieces
the body writes read back as these.
-/
module

public import proofs.«01_k».proof.Proof.MixRun
public import Idealize.ShloMosaic.Lib.Pipeline.ReadBack
public import Idealize.ShloMosaic.Lib.WholeRead
public import Idealize.ShloMosaic.Lib.Pipeline.ValueKit
public import Idealize.ShloMosaic.Lib.WritesUnit
public import Idealize.ShloMosaic.Lib.ValueLayout

@[expose] public section

set_option maxRecDepth 16384

noncomputable section

namespace Cert.Kernel4Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

/-- The modulated input's block. -/
def hV (x0 : Vec F S512x1024 .f32) (x1 : Vec F S8x1024 .f32) (x2 : Vec F S1x1024 .f32) : FVec F S512x1024 .bf16 :=
  k0_pay4 (View.ld (Val := Elt F) x0 (Rect.unit ![0, 0] S512x1024.size inb_S512x1024_S512x1024_0_0)) (View.ld (Val := Elt F) x1 (Rect.unit ![0, 0] S1x1024.size inb_S8x1024_S1x1024_0_0))
    (View.ld (Val := Elt F) x1 (Rect.unit ![1, 0] S1x1024.size inb_S8x1024_S1x1024_1_0)) (View.ld (Val := Elt F) x2 (Rect.unit ![0, 0] S1x1024.size inb_S1x1024_S1x1024_0_0))

/-- The projection's block, with its bias. -/
def zV (x0 : Vec F S512x1024 .f32) (x1 : Vec F S8x1024 .f32) (x2 : Vec F S1x1024 .f32) (x3 : Vec F S8x1024x256 .bf16) (x4 : Vec F S1x2048 .f32) : FVec F S512x2048 .f32 :=
  k0_pay7 (hV x0 x1 x2) (k0_pay5 (View.ld (Val := Elt F) x0 (Rect.unit ![0, 0] S512x1024.size inb_S512x1024_S512x1024_0_0)) (View.ld (Val := Elt F) x1 (Rect.unit ![0, 0] S1x1024.size inb_S8x1024_S1x1024_0_0)) (View.ld (Val := Elt F) x1 (Rect.unit ![1, 0] S1x1024.size inb_S8x1024_S1x1024_1_0)) (View.ld (Val := Elt F) x2 (Rect.unit ![0, 0] S1x1024.size inb_S1x1024_S1x1024_0_0)) (View.ld (Val := Elt F) x3 (Rect.unit ![0, 0, 0] S1x1024x256.size inb_S8x1024x256_S1x1024x256_0_0_0))) (k0_pay6 (View.ld (Val := Elt F) x0 (Rect.unit ![0, 0] S512x1024.size inb_S512x1024_S512x1024_0_0)) (View.ld (Val := Elt F) x1 (Rect.unit ![0, 0] S1x1024.size inb_S8x1024_S1x1024_0_0)) (View.ld (Val := Elt F) x1 (Rect.unit ![1, 0] S1x1024.size inb_S8x1024_S1x1024_1_0)) (View.ld (Val := Elt F) x2 (Rect.unit ![0, 0] S1x1024.size inb_S1x1024_S1x1024_0_0)) (View.ld (Val := Elt F) x3 (Rect.unit ![1, 0, 0] S1x1024x256.size inb_S8x1024x256_S1x1024x256_1_0_0)))
    (View.ld (Val := Elt F) x3 (Rect.unit ![2, 0, 0] S1x1024x256.size inb_S8x1024x256_S1x1024x256_2_0_0))
    (View.ld (Val := Elt F) x3 (Rect.unit ![3, 0, 0] S1x1024x256.size inb_S8x1024x256_S1x1024x256_3_0_0))
    (View.ld (Val := Elt F) x3 (Rect.unit ![4, 0, 0] S1x1024x256.size inb_S8x1024x256_S1x1024x256_4_0_0))
    (View.ld (Val := Elt F) x3 (Rect.unit ![5, 0, 0] S1x1024x256.size inb_S8x1024x256_S1x1024x256_5_0_0))
    (View.ld (Val := Elt F) x3 (Rect.unit ![6, 0, 0] S1x1024x256.size inb_S8x1024x256_S1x1024x256_6_0_0))
    (View.ld (Val := Elt F) x3 (Rect.unit ![7, 0, 0] S1x1024x256.size inb_S8x1024x256_S1x1024x256_7_0_0)) (View.ld (Val := Elt F) x4 (Rect.unit ![0, 0] S1x2048.size inb_S1x2048_S1x2048_0_0))

/-- The gate half's block. -/
def vgV (x0 : Vec F S512x1024 .f32) (x1 : Vec F S8x1024 .f32) (x2 : Vec F S1x1024 .f32) (x3 : Vec F S8x1024x256 .bf16) (x4 : Vec F S1x2048 .f32) : FVec F S512x1024 .f32 :=
  k0_pay8 (hV x0 x1 x2) (k0_pay5 (View.ld (Val := Elt F) x0 (Rect.unit ![0, 0] S512x1024.size inb_S512x1024_S512x1024_0_0)) (View.ld (Val := Elt F) x1 (Rect.unit ![0, 0] S1x1024.size inb_S8x1024_S1x1024_0_0)) (View.ld (Val := Elt F) x1 (Rect.unit ![1, 0] S1x1024.size inb_S8x1024_S1x1024_1_0)) (View.ld (Val := Elt F) x2 (Rect.unit ![0, 0] S1x1024.size inb_S1x1024_S1x1024_0_0)) (View.ld (Val := Elt F) x3 (Rect.unit ![0, 0, 0] S1x1024x256.size inb_S8x1024x256_S1x1024x256_0_0_0))) (k0_pay6 (View.ld (Val := Elt F) x0 (Rect.unit ![0, 0] S512x1024.size inb_S512x1024_S512x1024_0_0)) (View.ld (Val := Elt F) x1 (Rect.unit ![0, 0] S1x1024.size inb_S8x1024_S1x1024_0_0)) (View.ld (Val := Elt F) x1 (Rect.unit ![1, 0] S1x1024.size inb_S8x1024_S1x1024_1_0)) (View.ld (Val := Elt F) x2 (Rect.unit ![0, 0] S1x1024.size inb_S1x1024_S1x1024_0_0)) (View.ld (Val := Elt F) x3 (Rect.unit ![1, 0, 0] S1x1024x256.size inb_S8x1024x256_S1x1024x256_1_0_0)))
    (View.ld (Val := Elt F) x3 (Rect.unit ![2, 0, 0] S1x1024x256.size inb_S8x1024x256_S1x1024x256_2_0_0))
    (View.ld (Val := Elt F) x3 (Rect.unit ![3, 0, 0] S1x1024x256.size inb_S8x1024x256_S1x1024x256_3_0_0))
    (View.ld (Val := Elt F) x3 (Rect.unit ![4, 0, 0] S1x1024x256.size inb_S8x1024x256_S1x1024x256_4_0_0))
    (View.ld (Val := Elt F) x3 (Rect.unit ![5, 0, 0] S1x1024x256.size inb_S8x1024x256_S1x1024x256_5_0_0))
    (View.ld (Val := Elt F) x3 (Rect.unit ![6, 0, 0] S1x1024x256.size inb_S8x1024x256_S1x1024x256_6_0_0))
    (View.ld (Val := Elt F) x3 (Rect.unit ![7, 0, 0] S1x1024x256.size inb_S8x1024x256_S1x1024x256_7_0_0)) (View.ld (Val := Elt F) x4 (Rect.unit ![0, 0] S1x2048.size inb_S1x2048_S1x2048_0_0))

/-- The activated first group's block. -/
def guV (x0 : Vec F S512x1024 .f32) (x1 : Vec F S8x1024 .f32) (x2 : Vec F S1x1024 .f32) (x3 : Vec F S8x1024x256 .bf16) (x4 : Vec F S1x2048 .f32) : FVec F S512x512 .f32 :=
  k0_pay13 (k0_pay9 (hV x0 x1 x2) (k0_pay5 (View.ld (Val := Elt F) x0 (Rect.unit ![0, 0] S512x1024.size inb_S512x1024_S512x1024_0_0)) (View.ld (Val := Elt F) x1 (Rect.unit ![0, 0] S1x1024.size inb_S8x1024_S1x1024_0_0)) (View.ld (Val := Elt F) x1 (Rect.unit ![1, 0] S1x1024.size inb_S8x1024_S1x1024_1_0)) (View.ld (Val := Elt F) x2 (Rect.unit ![0, 0] S1x1024.size inb_S1x1024_S1x1024_0_0)) (View.ld (Val := Elt F) x3 (Rect.unit ![0, 0, 0] S1x1024x256.size inb_S8x1024x256_S1x1024x256_0_0_0))) (k0_pay6 (View.ld (Val := Elt F) x0 (Rect.unit ![0, 0] S512x1024.size inb_S512x1024_S512x1024_0_0)) (View.ld (Val := Elt F) x1 (Rect.unit ![0, 0] S1x1024.size inb_S8x1024_S1x1024_0_0)) (View.ld (Val := Elt F) x1 (Rect.unit ![1, 0] S1x1024.size inb_S8x1024_S1x1024_1_0)) (View.ld (Val := Elt F) x2 (Rect.unit ![0, 0] S1x1024.size inb_S1x1024_S1x1024_0_0)) (View.ld (Val := Elt F) x3 (Rect.unit ![1, 0, 0] S1x1024x256.size inb_S8x1024x256_S1x1024x256_1_0_0)))
    (View.ld (Val := Elt F) x3 (Rect.unit ![2, 0, 0] S1x1024x256.size inb_S8x1024x256_S1x1024x256_2_0_0))
    (View.ld (Val := Elt F) x3 (Rect.unit ![3, 0, 0] S1x1024x256.size inb_S8x1024x256_S1x1024x256_3_0_0))
    (View.ld (Val := Elt F) x3 (Rect.unit ![4, 0, 0] S1x1024x256.size inb_S8x1024x256_S1x1024x256_4_0_0))
    (View.ld (Val := Elt F) x3 (Rect.unit ![5, 0, 0] S1x1024x256.size inb_S8x1024x256_S1x1024x256_5_0_0))
    (View.ld (Val := Elt F) x3 (Rect.unit ![6, 0, 0] S1x1024x256.size inb_S8x1024x256_S1x1024x256_6_0_0))
    (View.ld (Val := Elt F) x3 (Rect.unit ![7, 0, 0] S1x1024x256.size inb_S8x1024x256_S1x1024x256_7_0_0)) (View.ld (Val := Elt F) x4 (Rect.unit ![0, 0] S1x2048.size inb_S1x2048_S1x2048_0_0)))
    (k0_pay10 (hV x0 x1 x2) (k0_pay5 (View.ld (Val := Elt F) x0 (Rect.unit ![0, 0] S512x1024.size inb_S512x1024_S512x1024_0_0)) (View.ld (Val := Elt F) x1 (Rect.unit ![0, 0] S1x1024.size inb_S8x1024_S1x1024_0_0)) (View.ld (Val := Elt F) x1 (Rect.unit ![1, 0] S1x1024.size inb_S8x1024_S1x1024_1_0)) (View.ld (Val := Elt F) x2 (Rect.unit ![0, 0] S1x1024.size inb_S1x1024_S1x1024_0_0)) (View.ld (Val := Elt F) x3 (Rect.unit ![0, 0, 0] S1x1024x256.size inb_S8x1024x256_S1x1024x256_0_0_0))) (k0_pay6 (View.ld (Val := Elt F) x0 (Rect.unit ![0, 0] S512x1024.size inb_S512x1024_S512x1024_0_0)) (View.ld (Val := Elt F) x1 (Rect.unit ![0, 0] S1x1024.size inb_S8x1024_S1x1024_0_0)) (View.ld (Val := Elt F) x1 (Rect.unit ![1, 0] S1x1024.size inb_S8x1024_S1x1024_1_0)) (View.ld (Val := Elt F) x2 (Rect.unit ![0, 0] S1x1024.size inb_S1x1024_S1x1024_0_0)) (View.ld (Val := Elt F) x3 (Rect.unit ![1, 0, 0] S1x1024x256.size inb_S8x1024x256_S1x1024x256_1_0_0)))
    (View.ld (Val := Elt F) x3 (Rect.unit ![2, 0, 0] S1x1024x256.size inb_S8x1024x256_S1x1024x256_2_0_0))
    (View.ld (Val := Elt F) x3 (Rect.unit ![3, 0, 0] S1x1024x256.size inb_S8x1024x256_S1x1024x256_3_0_0))
    (View.ld (Val := Elt F) x3 (Rect.unit ![4, 0, 0] S1x1024x256.size inb_S8x1024x256_S1x1024x256_4_0_0))
    (View.ld (Val := Elt F) x3 (Rect.unit ![5, 0, 0] S1x1024x256.size inb_S8x1024x256_S1x1024x256_5_0_0))
    (View.ld (Val := Elt F) x3 (Rect.unit ![6, 0, 0] S1x1024x256.size inb_S8x1024x256_S1x1024x256_6_0_0))
    (View.ld (Val := Elt F) x3 (Rect.unit ![7, 0, 0] S1x1024x256.size inb_S8x1024x256_S1x1024x256_7_0_0)) (View.ld (Val := Elt F) x4 (Rect.unit ![0, 0] S1x2048.size inb_S1x2048_S1x2048_0_0))) k0_pay11

/-- The normalised second group's block. -/
def vhV (x0 : Vec F S512x1024 .f32) (x1 : Vec F S8x1024 .f32) (x2 : Vec F S1x1024 .f32) (x3 : Vec F S8x1024x256 .bf16) (x4 : Vec F S1x2048 .f32) : FVec F S512x512 .f32 :=
  k0_pay22 (k0_pay18 (zV x0 x1 x2 x3 x4)) (k0_pay19 (zV x0 x1 x2 x3 x4)) k0_pay20

/-- A gated block below the thirty-two rows carried into it. -/
def gbuf (tail : Vec F S32x512 .f32) (gl : Vec F S512x512 .f32) : Vec F S544x512 .f32 := fun y =>
  if h : (y 0).val < 32 then tail (ix2 ⟨(y 0).val, h⟩ (y 1))
  else gl (ix2 ⟨(y 0).val - 32, by have : (y 0).val < 544 := (y 0).isLt; omega⟩ (y 1))

/-- The seven copies of it, each a row further up. -/
def shift (g : Vec F S544x512 .f32) : Vec F S7x536x512 .f32 := fun y =>
  g (ix2 ⟨(y 0).val + 1 + (y 1).val, by
    have : (y 0).val < 7 := (y 0).isLt
    have : (y 1).val < 536 := (y 1).isLt
    omega⟩ (y 2))

/-- The first thirty-two rows. -/
def top (g : Vec F S544x512 .f32) : Vec F S32x512 .f32 := fun y =>
  g (ix2 ⟨(y 0).val, by have : (y 0).val < 32 := (y 0).isLt; omega⟩ (y 1))

def s9 (z : FVec F S512x2048 .f32) : FVec F S512x512 .f32 :=
  k0_pay18 z

def s10 (z : FVec F S512x2048 .f32) : FVec F S512x1 .f32 :=
  k0_pay19 z

def s11 (z : FVec F S512x2048 .f32) (x5 : Vec F S1x512 .f32) (x6 : Vec F S1x512 .f32) : FVec F S512x512 .bf16 :=
  k0_pay24 (s9 z) (s10 z) k0_pay20 (View.ld (Val := Elt F) x5 (Rect.unit ![0, 0] S1x512.size inb_S1x512_S1x512_0_0)) (View.ld (Val := Elt F) x6 (Rect.unit ![0, 0] S1x512.size inb_S1x512_S1x512_0_0))

def s12 (z : FVec F S512x2048 .f32) (x5 : Vec F S1x512 .f32) (x6 : Vec F S1x512 .f32) : FVec F S128x512 .bf16 :=
  k0_pay26 (s9 z) (s10 z) k0_pay20 (View.ld (Val := Elt F) x5 (Rect.unit ![0, 0] S1x512.size inb_S1x512_S1x512_0_0)) (View.ld (Val := Elt F) x6 (Rect.unit ![0, 0] S1x512.size inb_S1x512_S1x512_0_0))

def s13 (z : FVec F S512x2048 .f32) (x5 : Vec F S1x512 .f32) (x6 : Vec F S1x512 .f32) (x7 : Vec F S1024x128 .bf16) : FVec F S128x128 .f32 :=
  k0_pay27 (s9 z) (s10 z) k0_pay20 (View.ld (Val := Elt F) x5 (Rect.unit ![0, 0] S1x512.size inb_S1x512_S1x512_0_0)) (View.ld (Val := Elt F) x6 (Rect.unit ![0, 0] S1x512.size inb_S1x512_S1x512_0_0)) (View.ld (Val := Elt F) x7 (Rect.unit ![0, 0] S128x128.size inb_S1024x128_S128x128_0_0)) (View.ld (Val := Elt F) x7 (Rect.unit ![128, 0] S128x128.size inb_S1024x128_S128x128_128_0))

def s14 (z : FVec F S512x2048 .f32) (x5 : Vec F S1x512 .f32) (x6 : Vec F S1x512 .f32) (x7 : Vec F S1024x128 .bf16) : FVec F S128x128 .f32 :=
  k0_pay29 (s9 z) (s10 z) k0_pay20 (View.ld (Val := Elt F) x5 (Rect.unit ![0, 0] S1x512.size inb_S1x512_S1x512_0_0)) (View.ld (Val := Elt F) x6 (Rect.unit ![0, 0] S1x512.size inb_S1x512_S1x512_0_0)) (View.ld (Val := Elt F) x7 (Rect.unit ![256, 0] S128x128.size inb_S1024x128_S128x128_256_0))

def s15 (z : FVec F S512x2048 .f32) (x5 : Vec F S1x512 .f32) (x6 : Vec F S1x512 .f32) (x7 : Vec F S1024x128 .bf16) : FVec F S128x128 .f32 :=
  k0_pay30 (s9 z) (s10 z) k0_pay20 (View.ld (Val := Elt F) x5 (Rect.unit ![0, 0] S1x512.size inb_S1x512_S1x512_0_0)) (View.ld (Val := Elt F) x6 (Rect.unit ![0, 0] S1x512.size inb_S1x512_S1x512_0_0)) (View.ld (Val := Elt F) x7 (Rect.unit ![384, 0] S128x128.size inb_S1024x128_S128x128_384_0))

def s16 (z : FVec F S512x2048 .f32) (x5 : Vec F S1x512 .f32) (x6 : Vec F S1x512 .f32) (x7 : Vec F S1024x128 .bf16) (x8 : Vec F S128x512 .f32) : FVec F S128x512 .f32 :=
  k0_pay31 k0_pay25 (s12 z x5 x6) (s13 z x5 x6 x7) (s14 z x5 x6 x7) (s15 z x5 x6 x7) (View.ld (Val := Elt F) x7 (Rect.unit ![512, 0] S128x128.size inb_S1024x128_S128x128_512_0)) (View.ld (Val := Elt F) x7 (Rect.unit ![640, 0] S128x128.size inb_S1024x128_S128x128_640_0)) (View.ld (Val := Elt F) x7 (Rect.unit ![768, 0] S128x128.size inb_S1024x128_S128x128_768_0)) (View.ld (Val := Elt F) x7 (Rect.unit ![896, 0] S128x128.size inb_S1024x128_S128x128_896_0)) (View.ld (Val := Elt F) x8 (Rect.unit ![0, 0] S128x512.size inb_S128x512_S128x512_0_0))

def s17 (z : FVec F S512x2048 .f32) (x5 : Vec F S1x512 .f32) (x6 : Vec F S1x512 .f32) : FVec F S128x512 .bf16 :=
  k0_pay32 (s11 z x5 x6)

def s18 (z : FVec F S512x2048 .f32) (x5 : Vec F S1x512 .f32) (x6 : Vec F S1x512 .f32) (x7 : Vec F S1024x128 .bf16) : FVec F S128x128 .f32 :=
  k0_pay33 (s11 z x5 x6) k0_pay25 (View.ld (Val := Elt F) x7 (Rect.unit ![0, 0] S128x128.size inb_S1024x128_S128x128_0_0)) (View.ld (Val := Elt F) x7 (Rect.unit ![128, 0] S128x128.size inb_S1024x128_S128x128_128_0))

def s19 (z : FVec F S512x2048 .f32) (x5 : Vec F S1x512 .f32) (x6 : Vec F S1x512 .f32) : FVec F S128x128 .bf16 :=
  k0_pay34 (s11 z x5 x6)

def s20 (z : FVec F S512x2048 .f32) (x5 : Vec F S1x512 .f32) (x6 : Vec F S1x512 .f32) (x7 : Vec F S1024x128 .bf16) : FVec F S128x128 .f32 :=
  k0_pay35 (s11 z x5 x6) (View.ld (Val := Elt F) x7 (Rect.unit ![256, 0] S128x128.size inb_S1024x128_S128x128_256_0))

def s22 (z : FVec F S512x2048 .f32) (x5 : Vec F S1x512 .f32) (x6 : Vec F S1x512 .f32) (x7 : Vec F S1024x128 .bf16) (x8 : Vec F S128x512 .f32) : FVec F S128x512 .f32 :=
  k0_pay36 k0_pay25 (s17 z x5 x6) (s18 z x5 x6 x7) (s19 z x5 x6) (s20 z x5 x6 x7) (View.ld (Val := Elt F) x7 (Rect.unit ![384, 0] S128x128.size inb_S1024x128_S128x128_384_0)) (View.ld (Val := Elt F) x7 (Rect.unit ![512, 0] S128x128.size inb_S1024x128_S128x128_512_0)) (View.ld (Val := Elt F) x7 (Rect.unit ![640, 0] S128x128.size inb_S1024x128_S128x128_640_0)) (View.ld (Val := Elt F) x7 (Rect.unit ![768, 0] S128x128.size inb_S1024x128_S128x128_768_0)) (View.ld (Val := Elt F) x7 (Rect.unit ![896, 0] S128x128.size inb_S1024x128_S128x128_896_0)) (View.ld (Val := Elt F) x8 (Rect.unit ![0, 0] S128x512.size inb_S128x512_S128x512_0_0))

def s23 (z : FVec F S512x2048 .f32) (x5 : Vec F S1x512 .f32) (x6 : Vec F S1x512 .f32) : FVec F S128x512 .bf16 :=
  k0_pay37 (s11 z x5 x6)

def s24 (z : FVec F S512x2048 .f32) (x5 : Vec F S1x512 .f32) (x6 : Vec F S1x512 .f32) (x7 : Vec F S1024x128 .bf16) : FVec F S128x128 .f32 :=
  k0_pay38 (s11 z x5 x6) k0_pay25 (View.ld (Val := Elt F) x7 (Rect.unit ![0, 0] S128x128.size inb_S1024x128_S128x128_0_0)) (View.ld (Val := Elt F) x7 (Rect.unit ![128, 0] S128x128.size inb_S1024x128_S128x128_128_0))

def s25 (z : FVec F S512x2048 .f32) (x5 : Vec F S1x512 .f32) (x6 : Vec F S1x512 .f32) : FVec F S128x128 .bf16 :=
  k0_pay39 (s11 z x5 x6)

def s26 (z : FVec F S512x2048 .f32) (x5 : Vec F S1x512 .f32) (x6 : Vec F S1x512 .f32) (x7 : Vec F S1024x128 .bf16) : FVec F S128x128 .f32 :=
  k0_pay40 (s11 z x5 x6) (View.ld (Val := Elt F) x7 (Rect.unit ![256, 0] S128x128.size inb_S1024x128_S128x128_256_0))

def s27 (z : FVec F S512x2048 .f32) (x5 : Vec F S1x512 .f32) (x6 : Vec F S1x512 .f32) (x7 : Vec F S1024x128 .bf16) (x8 : Vec F S128x512 .f32) : FVec F S128x512 .f32 :=
  k0_pay41 k0_pay25 (s23 z x5 x6) (s24 z x5 x6 x7) (s25 z x5 x6) (s26 z x5 x6 x7) (View.ld (Val := Elt F) x7 (Rect.unit ![384, 0] S128x128.size inb_S1024x128_S128x128_384_0)) (View.ld (Val := Elt F) x7 (Rect.unit ![512, 0] S128x128.size inb_S1024x128_S128x128_512_0)) (View.ld (Val := Elt F) x7 (Rect.unit ![640, 0] S128x128.size inb_S1024x128_S128x128_640_0)) (View.ld (Val := Elt F) x7 (Rect.unit ![768, 0] S128x128.size inb_S1024x128_S128x128_768_0)) (View.ld (Val := Elt F) x7 (Rect.unit ![896, 0] S128x128.size inb_S1024x128_S128x128_896_0)) (View.ld (Val := Elt F) x8 (Rect.unit ![0, 0] S128x512.size inb_S128x512_S128x512_0_0))

def s28 (z : FVec F S512x2048 .f32) (x5 : Vec F S1x512 .f32) (x6 : Vec F S1x512 .f32) : FVec F S128x512 .bf16 :=
  k0_pay42 (s11 z x5 x6)

def s29 (z : FVec F S512x2048 .f32) (x5 : Vec F S1x512 .f32) (x6 : Vec F S1x512 .f32) (x7 : Vec F S1024x128 .bf16) : FVec F S128x128 .f32 :=
  k0_pay43 (s11 z x5 x6) k0_pay25 (View.ld (Val := Elt F) x7 (Rect.unit ![0, 0] S128x128.size inb_S1024x128_S128x128_0_0)) (View.ld (Val := Elt F) x7 (Rect.unit ![128, 0] S128x128.size inb_S1024x128_S128x128_128_0))

def s30 (z : FVec F S512x2048 .f32) (x5 : Vec F S1x512 .f32) (x6 : Vec F S1x512 .f32) : FVec F S128x128 .bf16 :=
  k0_pay44 (s11 z x5 x6)

def s32 (z : FVec F S512x2048 .f32) (u : FVec F S512x512 .f32) (x5 : Vec F S1x512 .f32) (x6 : Vec F S1x512 .f32) (x7 : Vec F S1024x128 .bf16) (x8 : Vec F S128x512 .f32) : FVec F S512x512 .f32 :=
  k0_pay46 u k0_pay25 (s16 z x5 x6 x7 x8) (s22 z x5 x6 x7 x8) (s27 z x5 x6 x7 x8) (s28 z x5 x6) (s29 z x5 x6 x7) (s30 z x5 x6) (View.ld (Val := Elt F) x7 (Rect.unit ![256, 0] S128x128.size inb_S1024x128_S128x128_256_0)) (View.ld (Val := Elt F) x7 (Rect.unit ![384, 0] S128x128.size inb_S1024x128_S128x128_384_0)) (View.ld (Val := Elt F) x7 (Rect.unit ![512, 0] S128x128.size inb_S1024x128_S128x128_512_0)) (View.ld (Val := Elt F) x7 (Rect.unit ![640, 0] S128x128.size inb_S1024x128_S128x128_640_0)) (View.ld (Val := Elt F) x7 (Rect.unit ![768, 0] S128x128.size inb_S1024x128_S128x128_768_0)) (View.ld (Val := Elt F) x7 (Rect.unit ![896, 0] S128x128.size inb_S1024x128_S128x128_896_0)) (View.ld (Val := Elt F) x8 (Rect.unit ![0, 0] S128x512.size inb_S128x512_S128x512_0_0))

def s33 (z : FVec F S512x2048 .f32) : FVec F S512x512 .f32 :=
  k0_pay47 z

def s34 (z : FVec F S512x2048 .f32) : FVec F S512x512 .f32 :=
  k0_pay48 z

def s35 (z : FVec F S512x2048 .f32) : FVec F S512x512 .f32 :=
  k0_pay49 (s33 z) (s34 z) (Scalar.ofBits .f32 0x3F800000#32)

def s36 (g : Vec F S544x512 .f32) (x9 : Vec F S32x512 .f32) (x10 : Vec F S1x512 .f32) : FVec F S512x512 .f32 :=
  k0_pay59 (View.ld (Val := Elt F) x10 (Rect.unit ![0, 0] S1x512.size inb_S1x512_S1x512_0_0)) (View.ld (Val := Elt F) x9 (Rect.unit ![0, 0] S1x512.size inb_S32x512_S1x512_0_0)) (View.ld (Val := Elt F) (shift g) (Rect.unit ![1, 0, 0] S1x512x512.size inb_S7x536x512_S1x512x512_1_0_0)) (View.ld (Val := Elt F) x9 (Rect.unit ![1, 0] S1x512.size inb_S32x512_S1x512_1_0)) (View.ld (Val := Elt F) (shift g) (Rect.unit ![2, 0, 0] S1x512x512.size inb_S7x536x512_S1x512x512_2_0_0))

def s37 (x9 : Vec F S32x512 .f32) : FVec F S1x512 .f32 :=
  k0_pay60 (View.ld (Val := Elt F) x9 (Rect.unit ![2, 0] S1x512.size inb_S32x512_S1x512_2_0))

def s38 (g : Vec F S544x512 .f32) (x9 : Vec F S32x512 .f32) (x10 : Vec F S1x512 .f32) : FVec F S512x512 .f32 :=
  k0_pay61 (s36 g x9 x10) (s37 x9) (View.ld (Val := Elt F) (shift g) (Rect.unit ![3, 0, 0] S1x512x512.size inb_S7x536x512_S1x512x512_3_0_0)) (View.ld (Val := Elt F) x9 (Rect.unit ![3, 0] S1x512.size inb_S32x512_S1x512_3_0)) (View.ld (Val := Elt F) (shift g) (Rect.unit ![4, 0, 0] S1x512x512.size inb_S7x536x512_S1x512x512_4_0_0)) (View.ld (Val := Elt F) x9 (Rect.unit ![4, 0] S1x512.size inb_S32x512_S1x512_4_0)) (View.ld (Val := Elt F) (shift g) (Rect.unit ![5, 0, 0] S1x512x512.size inb_S7x536x512_S1x512x512_5_0_0)) (View.ld (Val := Elt F) x9 (Rect.unit ![5, 0] S1x512.size inb_S32x512_S1x512_5_0)) (View.ld (Val := Elt F) (shift g) (Rect.unit ![6, 0, 0] S1x512x512.size inb_S7x536x512_S1x512x512_6_0_0)) (View.ld (Val := Elt F) x9 (Rect.unit ![6, 0] S1x512.size inb_S32x512_S1x512_6_0)) (View.ld (Val := Elt F) g (Rect.unit ![8, 0] S512x512.size inb_S544x512_S512x512_8_0))

def s39 (x9 : Vec F S32x512 .f32) : FVec F S1x512 .f32 :=
  k0_pay62 (View.ld (Val := Elt F) x9 (Rect.unit ![7, 0] S1x512.size inb_S32x512_S1x512_7_0))

def s40 (g : Vec F S544x512 .f32) (x9 : Vec F S32x512 .f32) (x10 : Vec F S1x512 .f32) : FVec F S512x512 .f32 :=
  k0_pay63 (s38 g x9 x10) (s39 x9) (View.ld (Val := Elt F) (shift g) (Rect.unit ![0, 8, 0] S1x512x512.size inb_S7x536x512_S1x512x512_0_8_0)) (View.ld (Val := Elt F) x9 (Rect.unit ![8, 0] S1x512.size inb_S32x512_S1x512_8_0)) (View.ld (Val := Elt F) (shift g) (Rect.unit ![1, 8, 0] S1x512x512.size inb_S7x536x512_S1x512x512_1_8_0)) (View.ld (Val := Elt F) x9 (Rect.unit ![9, 0] S1x512.size inb_S32x512_S1x512_9_0)) (View.ld (Val := Elt F) (shift g) (Rect.unit ![2, 8, 0] S1x512x512.size inb_S7x536x512_S1x512x512_2_8_0)) (View.ld (Val := Elt F) x9 (Rect.unit ![10, 0] S1x512.size inb_S32x512_S1x512_10_0)) (View.ld (Val := Elt F) (shift g) (Rect.unit ![3, 8, 0] S1x512x512.size inb_S7x536x512_S1x512x512_3_8_0)) (View.ld (Val := Elt F) x9 (Rect.unit ![11, 0] S1x512.size inb_S32x512_S1x512_11_0)) (View.ld (Val := Elt F) (shift g) (Rect.unit ![4, 8, 0] S1x512x512.size inb_S7x536x512_S1x512x512_4_8_0))

def s41 (x9 : Vec F S32x512 .f32) : FVec F S1x512 .f32 :=
  k0_pay64 (View.ld (Val := Elt F) x9 (Rect.unit ![12, 0] S1x512.size inb_S32x512_S1x512_12_0))

def s42 (g : Vec F S544x512 .f32) (x9 : Vec F S32x512 .f32) (x10 : Vec F S1x512 .f32) : FVec F S512x512 .f32 :=
  k0_pay65 (s40 g x9 x10) (s41 x9) (View.ld (Val := Elt F) (shift g) (Rect.unit ![5, 8, 0] S1x512x512.size inb_S7x536x512_S1x512x512_5_8_0)) (View.ld (Val := Elt F) x9 (Rect.unit ![13, 0] S1x512.size inb_S32x512_S1x512_13_0)) (View.ld (Val := Elt F) (shift g) (Rect.unit ![6, 8, 0] S1x512x512.size inb_S7x536x512_S1x512x512_6_8_0)) (View.ld (Val := Elt F) x9 (Rect.unit ![14, 0] S1x512.size inb_S32x512_S1x512_14_0)) (View.ld (Val := Elt F) g (Rect.unit ![16, 0] S512x512.size inb_S544x512_S512x512_16_0)) (View.ld (Val := Elt F) x9 (Rect.unit ![15, 0] S1x512.size inb_S32x512_S1x512_15_0)) (View.ld (Val := Elt F) (shift g) (Rect.unit ![0, 16, 0] S1x512x512.size inb_S7x536x512_S1x512x512_0_16_0)) (View.ld (Val := Elt F) x9 (Rect.unit ![16, 0] S1x512.size inb_S32x512_S1x512_16_0)) (View.ld (Val := Elt F) (shift g) (Rect.unit ![1, 16, 0] S1x512x512.size inb_S7x536x512_S1x512x512_1_16_0))

def s43 (x9 : Vec F S32x512 .f32) : FVec F S1x512 .f32 :=
  k0_pay66 (View.ld (Val := Elt F) x9 (Rect.unit ![17, 0] S1x512.size inb_S32x512_S1x512_17_0))

def s44 (g : Vec F S544x512 .f32) (x9 : Vec F S32x512 .f32) (x10 : Vec F S1x512 .f32) : FVec F S512x512 .f32 :=
  k0_pay67 (s42 g x9 x10) (s43 x9) (View.ld (Val := Elt F) (shift g) (Rect.unit ![2, 16, 0] S1x512x512.size inb_S7x536x512_S1x512x512_2_16_0)) (View.ld (Val := Elt F) x9 (Rect.unit ![18, 0] S1x512.size inb_S32x512_S1x512_18_0)) (View.ld (Val := Elt F) (shift g) (Rect.unit ![3, 16, 0] S1x512x512.size inb_S7x536x512_S1x512x512_3_16_0)) (View.ld (Val := Elt F) x9 (Rect.unit ![19, 0] S1x512.size inb_S32x512_S1x512_19_0)) (View.ld (Val := Elt F) (shift g) (Rect.unit ![4, 16, 0] S1x512x512.size inb_S7x536x512_S1x512x512_4_16_0)) (View.ld (Val := Elt F) x9 (Rect.unit ![20, 0] S1x512.size inb_S32x512_S1x512_20_0)) (View.ld (Val := Elt F) (shift g) (Rect.unit ![5, 16, 0] S1x512x512.size inb_S7x536x512_S1x512x512_5_16_0)) (View.ld (Val := Elt F) x9 (Rect.unit ![21, 0] S1x512.size inb_S32x512_S1x512_21_0)) (View.ld (Val := Elt F) (shift g) (Rect.unit ![6, 16, 0] S1x512x512.size inb_S7x536x512_S1x512x512_6_16_0))

def s45 (x9 : Vec F S32x512 .f32) : FVec F S512x512 .f32 :=
  k0_pay68 (View.ld (Val := Elt F) x9 (Rect.unit ![22, 0] S1x512.size inb_S32x512_S1x512_22_0))

def s46 (g : Vec F S544x512 .f32) (x9 : Vec F S32x512 .f32) (x10 : Vec F S1x512 .f32) : FVec F S512x512 .f32 :=
  k0_pay69 (s44 g x9 x10) (View.ld (Val := Elt F) g (Rect.unit ![24, 0] S512x512.size inb_S544x512_S512x512_24_0)) (s45 x9) (View.ld (Val := Elt F) x9 (Rect.unit ![23, 0] S1x512.size inb_S32x512_S1x512_23_0)) (View.ld (Val := Elt F) (shift g) (Rect.unit ![0, 24, 0] S1x512x512.size inb_S7x536x512_S1x512x512_0_24_0)) (View.ld (Val := Elt F) x9 (Rect.unit ![24, 0] S1x512.size inb_S32x512_S1x512_24_0)) (View.ld (Val := Elt F) (shift g) (Rect.unit ![1, 24, 0] S1x512x512.size inb_S7x536x512_S1x512x512_1_24_0)) (View.ld (Val := Elt F) x9 (Rect.unit ![25, 0] S1x512.size inb_S32x512_S1x512_25_0)) (View.ld (Val := Elt F) (shift g) (Rect.unit ![2, 24, 0] S1x512x512.size inb_S7x536x512_S1x512x512_2_24_0)) (View.ld (Val := Elt F) x9 (Rect.unit ![26, 0] S1x512.size inb_S32x512_S1x512_26_0)) (View.ld (Val := Elt F) (shift g) (Rect.unit ![3, 24, 0] S1x512x512.size inb_S7x536x512_S1x512x512_3_24_0))

def s47 (g : Vec F S544x512 .f32) : FVec F S512x512 .f32 :=
  k0_pay70 (View.ld (Val := Elt F) (shift g) (Rect.unit ![4, 24, 0] S1x512x512.size inb_S7x536x512_S1x512x512_4_24_0))

def s48 (x9 : Vec F S32x512 .f32) : FVec F S512x512 .f32 :=
  k0_pay71 (View.ld (Val := Elt F) x9 (Rect.unit ![27, 0] S1x512.size inb_S32x512_S1x512_27_0))

def s49 (x16 : Vec F S512x512 .bf16) : FVec F S512x512 .bf16 :=
  k0_pay73 (View.ld (Val := Elt F) x16 (Rect.unit ![0, 0] S512x512.size inb_S512x512_S512x512_0_0))

def s50 (g : Vec F S544x512 .f32) (x9 : Vec F S32x512 .f32) (x10 : Vec F S1x512 .f32) (x16 : Vec F S512x512 .bf16) : FVec F S512x512 .f32 :=
  k0_pay74 (s46 g x9 x10) (s47 g) (s48 x9) (View.ld (Val := Elt F) x9 (Rect.unit ![28, 0] S1x512.size inb_S32x512_S1x512_28_0)) (View.ld (Val := Elt F) (shift g) (Rect.unit ![5, 24, 0] S1x512x512.size inb_S7x536x512_S1x512x512_5_24_0)) (View.ld (Val := Elt F) x9 (Rect.unit ![29, 0] S1x512.size inb_S32x512_S1x512_29_0)) (View.ld (Val := Elt F) (shift g) (Rect.unit ![6, 24, 0] S1x512x512.size inb_S7x536x512_S1x512x512_6_24_0)) (View.ld (Val := Elt F) x9 (Rect.unit ![30, 0] S1x512.size inb_S32x512_S1x512_30_0)) (View.ld (Val := Elt F) g (Rect.unit ![32, 0] S512x512.size inb_S544x512_S512x512_32_0)) (View.ld (Val := Elt F) x16 (Rect.unit ![0, 0] S512x512.size inb_S512x512_S512x512_0_0))

def s51 (g : Vec F S544x512 .f32) (x9 : Vec F S32x512 .f32) (x10 : Vec F S1x512 .f32) (x16 : Vec F S512x512 .bf16) : FVec F S512x512 .f32 :=
  k0_pay75 (s46 g x9 x10) (s47 g) (s48 x9) (View.ld (Val := Elt F) x9 (Rect.unit ![28, 0] S1x512.size inb_S32x512_S1x512_28_0)) (View.ld (Val := Elt F) (shift g) (Rect.unit ![5, 24, 0] S1x512x512.size inb_S7x536x512_S1x512x512_5_24_0)) (View.ld (Val := Elt F) x9 (Rect.unit ![29, 0] S1x512.size inb_S32x512_S1x512_29_0)) (View.ld (Val := Elt F) (shift g) (Rect.unit ![6, 24, 0] S1x512x512.size inb_S7x536x512_S1x512x512_6_24_0)) (View.ld (Val := Elt F) x9 (Rect.unit ![30, 0] S1x512.size inb_S32x512_S1x512_30_0)) (View.ld (Val := Elt F) g (Rect.unit ![32, 0] S512x512.size inb_S544x512_S512x512_32_0)) (View.ld (Val := Elt F) x16 (Rect.unit ![0, 0] S512x512.size inb_S512x512_S512x512_0_0))

def s52 (g : Vec F S544x512 .f32) (x9 : Vec F S32x512 .f32) (x10 : Vec F S1x512 .f32) (x16 : Vec F S512x512 .bf16) : FVec F S512x512 .bf16 :=
  k0_pay76 (s46 g x9 x10) (s47 g) (s48 x9) (View.ld (Val := Elt F) x9 (Rect.unit ![28, 0] S1x512.size inb_S32x512_S1x512_28_0)) (View.ld (Val := Elt F) (shift g) (Rect.unit ![5, 24, 0] S1x512x512.size inb_S7x536x512_S1x512x512_5_24_0)) (View.ld (Val := Elt F) x9 (Rect.unit ![29, 0] S1x512.size inb_S32x512_S1x512_29_0)) (View.ld (Val := Elt F) (shift g) (Rect.unit ![6, 24, 0] S1x512x512.size inb_S7x536x512_S1x512x512_6_24_0)) (View.ld (Val := Elt F) x9 (Rect.unit ![30, 0] S1x512.size inb_S32x512_S1x512_30_0)) (View.ld (Val := Elt F) g (Rect.unit ![32, 0] S512x512.size inb_S544x512_S512x512_32_0)) (View.ld (Val := Elt F) x16 (Rect.unit ![0, 0] S512x512.size inb_S512x512_S512x512_0_0))

def s53 (g : Vec F S544x512 .f32) (x9 : Vec F S32x512 .f32) (x10 : Vec F S1x512 .f32) (x16 : Vec F S512x512 .bf16) : FVec F S512x512 .f32 :=
  k0_pay77 (s46 g x9 x10) (s47 g) (s48 x9) (View.ld (Val := Elt F) x9 (Rect.unit ![28, 0] S1x512.size inb_S32x512_S1x512_28_0)) (View.ld (Val := Elt F) (shift g) (Rect.unit ![5, 24, 0] S1x512x512.size inb_S7x536x512_S1x512x512_5_24_0)) (View.ld (Val := Elt F) x9 (Rect.unit ![29, 0] S1x512.size inb_S32x512_S1x512_29_0)) (View.ld (Val := Elt F) (shift g) (Rect.unit ![6, 24, 0] S1x512x512.size inb_S7x536x512_S1x512x512_6_24_0)) (View.ld (Val := Elt F) x9 (Rect.unit ![30, 0] S1x512.size inb_S32x512_S1x512_30_0)) (View.ld (Val := Elt F) g (Rect.unit ![32, 0] S512x512.size inb_S544x512_S512x512_32_0)) (View.ld (Val := Elt F) x16 (Rect.unit ![0, 0] S512x512.size inb_S512x512_S512x512_0_0))

def s54 (g : Vec F S544x512 .f32) (x9 : Vec F S32x512 .f32) (x10 : Vec F S1x512 .f32) (x11 : Vec F S1x512 .f32) (x12 : Vec F S1x512 .f32) (x16 : Vec F S512x512 .bf16) : FVec F S512x512 .f32 :=
  k0_pay80 (s49 x16) (s50 g x9 x10 x16) (s51 g x9 x10 x16) (s52 g x9 x10 x16) (s53 g x9 x10 x16) (View.ld (Val := Elt F) x11 (Rect.unit ![0, 0] S1x512.size inb_S1x512_S1x512_0_0)) (View.ld (Val := Elt F) x12 (Rect.unit ![0, 0] S1x512.size inb_S1x512_S1x512_0_0))

def s55 (z : FVec F S512x2048 .f32) (u : FVec F S512x512 .f32) (x5 : Vec F S1x512 .f32) (x6 : Vec F S1x512 .f32) (x7 : Vec F S1024x128 .bf16) (x8 : Vec F S128x512 .f32) (x13 : Vec F S1x512 .f32) : FVec F S512x512 .f32 :=
  k0_pay81 (s32 z u x5 x6 x7 x8) (View.ld (Val := Elt F) x13 (Rect.unit ![0, 0] S1x512.size inb_S1x512_S1x512_0_0))

def s56 (g : Vec F S544x512 .f32) (x9 : Vec F S32x512 .f32) (x10 : Vec F S1x512 .f32) (x11 : Vec F S1x512 .f32) (x12 : Vec F S1x512 .f32) (x16 : Vec F S512x512 .bf16) : FVec F S512x512 .f32 :=
  k0_pay82 (s49 x16) (s50 g x9 x10 x16) (s51 g x9 x10 x16) (s52 g x9 x10 x16) (s53 g x9 x10 x16) (View.ld (Val := Elt F) x11 (Rect.unit ![0, 0] S1x512.size inb_S1x512_S1x512_0_0)) (View.ld (Val := Elt F) x12 (Rect.unit ![0, 0] S1x512.size inb_S1x512_S1x512_0_0))

/-- The residual's block. -/
def x1V (z : FVec F S512x2048 .f32) (u : FVec F S512x512 .f32) (g : Vec F S544x512 .f32) (x0 : Vec F S512x1024 .f32) (x1 : Vec F S8x1024 .f32) (x5 : Vec F S1x512 .f32) (x6 : Vec F S1x512 .f32) (x7 : Vec F S1024x128 .bf16) (x8 : Vec F S128x512 .f32) (x9 : Vec F S32x512 .f32) (x10 : Vec F S1x512 .f32) (x11 : Vec F S1x512 .f32) (x12 : Vec F S1x512 .f32) (x13 : Vec F S1x512 .f32) (x14 : Vec F S1x512 .f32) (x15 : Vec F S1024x1024 .bf16) (x16 : Vec F S512x512 .bf16) : FVec F S512x1024 .f32 :=
  k0_pay3 (View.ld (Val := Elt F) x0 (Rect.unit ![0, 0] S512x1024.size inb_S512x1024_S512x1024_0_0)) (View.ld (Val := Elt F) x1 (Rect.unit ![2, 0] S1x1024.size inb_S8x1024_S1x1024_2_0)) (s54 g x9 x10 x11 x12 x16) (s55 z u x5 x6 x7 x8 x13) (s56 g x9 x10 x11 x12 x16) (View.ld (Val := Elt F) x14 (Rect.unit ![0, 0] S1x512.size inb_S1x512_S1x512_0_0)) (View.ld (Val := Elt F) x15 (Rect.unit ![0, 0] S1024x1024.size inb_S1024x1024_S1024x1024_0_0))

/-- The mixed group's block. -/
def mxV (z : FVec F S512x2048 .f32) (x5 : Vec F S1x512 .f32) (x6 : Vec F S1x512 .f32) (x7 : Vec F S1024x128 .bf16) (x8 : Vec F S128x512 .f32) : FVec F S512x512 .f32 :=
  k0_pay45 k0_pay25 (s16 z x5 x6 x7 x8) (s22 z x5 x6 x7 x8) (s27 z x5 x6 x7 x8) (s28 z x5 x6) (s29 z x5 x6 x7) (s30 z x5 x6) (View.ld (Val := Elt F) x7 (Rect.unit ![256, 0] S128x128.size inb_S1024x128_S128x128_256_0)) (View.ld (Val := Elt F) x7 (Rect.unit ![384, 0] S128x128.size inb_S1024x128_S128x128_384_0)) (View.ld (Val := Elt F) x7 (Rect.unit ![512, 0] S128x128.size inb_S1024x128_S128x128_512_0)) (View.ld (Val := Elt F) x7 (Rect.unit ![640, 0] S128x128.size inb_S1024x128_S128x128_640_0)) (View.ld (Val := Elt F) x7 (Rect.unit ![768, 0] S128x128.size inb_S1024x128_S128x128_768_0)) (View.ld (Val := Elt F) x7 (Rect.unit ![896, 0] S128x128.size inb_S1024x128_S128x128_896_0)) (View.ld (Val := Elt F) x8 (Rect.unit ![0, 0] S128x512.size inb_S128x512_S128x512_0_0))

/-- The two groups' block, joined. -/
def yV (z : FVec F S512x2048 .f32) (u : FVec F S512x512 .f32) (g : Vec F S544x512 .f32) (x5 : Vec F S1x512 .f32) (x6 : Vec F S1x512 .f32) (x7 : Vec F S1024x128 .bf16) (x8 : Vec F S128x512 .f32) (x9 : Vec F S32x512 .f32) (x10 : Vec F S1x512 .f32) (x11 : Vec F S1x512 .f32) (x12 : Vec F S1x512 .f32) (x13 : Vec F S1x512 .f32) (x14 : Vec F S1x512 .f32) (x16 : Vec F S512x512 .bf16) : FVec F S512x1024 .bf16 :=
  k0_pay1 (s54 g x9 x10 x11 x12 x16) (s55 z u x5 x6 x7 x8 x13) (s56 g x9 x10 x11 x12 x16) (View.ld (Val := Elt F) x14 (Rect.unit ![0, 0] S1x512.size inb_S1x512_S1x512_0_0))

/-- The output projection's block. -/
def oV (z : FVec F S512x2048 .f32) (u : FVec F S512x512 .f32) (g : Vec F S544x512 .f32) (x5 : Vec F S1x512 .f32) (x6 : Vec F S1x512 .f32) (x7 : Vec F S1024x128 .bf16) (x8 : Vec F S128x512 .f32) (x9 : Vec F S32x512 .f32) (x10 : Vec F S1x512 .f32) (x11 : Vec F S1x512 .f32) (x12 : Vec F S1x512 .f32) (x13 : Vec F S1x512 .f32) (x14 : Vec F S1x512 .f32) (x15 : Vec F S1024x1024 .bf16) (x16 : Vec F S512x512 .bf16) : FVec F S512x1024 .f32 :=
  k0_pay2 (s54 g x9 x10 x11 x12 x16) (s55 z u x5 x6 x7 x8 x13) (s56 g x9 x10 x11 x12 x16) (View.ld (Val := Elt F) x14 (Rect.unit ![0, 0] S1x512.size inb_S1x512_S1x512_0_0)) (View.ld (Val := Elt F) x15 (Rect.unit ![0, 0] S1024x1024.size inb_S1024x1024_S1024x1024_0_0))

/-- The second group's scale, at every lane. -/
def rsV (z : FVec F S512x2048 .f32) : FVec F S512x128 .f32 :=
  k0_pay23 (s10 z) k0_pay20

/-- The convolved group's block, normalised. -/
def yhV (g : Vec F S544x512 .f32) (x9 : Vec F S32x512 .f32) (x10 : Vec F S1x512 .f32) (x16 : Vec F S512x512 .bf16) : FVec F S512x512 .f32 :=
  k0_pay79 (s49 x16) (s50 g x9 x10 x16) (s51 g x9 x10 x16) (s52 g x9 x10 x16) (s53 g x9 x10 x16)

/-- The convolved group's scale at every lane. -/
def rgV (g : Vec F S544x512 .f32) (x9 : Vec F S32x512 .f32) (x10 : Vec F S1x512 .f32) (x16 : Vec F S512x512 .bf16) : FVec F S512x512 .f32 :=
  k0_pay78 (s49 x16) (s51 g x9 x10 x16) (s52 g x9 x10 x16) (s53 g x9 x10 x16)

/-- The gated block. -/
def glV (z : FVec F S512x2048 .f32) : FVec F S512x512 .f32 :=
  k0_pay51 (k0_pay47 z) (k0_pay48 z) (Scalar.ofBits .f32 0x3F800000#32)

/-- The rows it carries into the next block. -/
def carV (z : FVec F S512x2048 .f32) : FVec F S32x512 .f32 := k0_pay72 (s35 z)

/-- A load out of a whole buffer at known contents. -/

theorem load_eq {s : Shape} {e : EltTy} {a : Memref sig .tc .vmem s e} (h : a.IsWhole) (x : Vec F s e) (R : Rect s) :
    View.readAt (Elt F) a.view R.toLoadRect (h.unread x) = View.ld (Val := Elt F) x R := funext fun j => h.readAt_unread x R.toLoadRect j

/-- A buffer written whole reads back as what was written. -/
theorem whole_eq {n k : ℕ} {e : EltTy} {a : Memref sig .tc .vmem ⟨2, ![n, k]⟩ e} (f) (inb : ∀ d, (![0, 0] : Fin 2 → ℕ) d + (![n, k] : Fin 2 → ℕ) d ≤ (![n, k] : Fin 2 → ℕ) d)
    (v : (⟨2, ![n, k]⟩ : Shape).Idx → Elt F e) :
    a.view.read (Elt F) (a.view.writes (Elt F) f [⟨Rect.unit (s := ⟨2, ![n, k]⟩) ![0, 0] ![n, k] inb, v⟩]) = v := by
  funext y
  have hy : (Rect.unit (s := ⟨2, ![n, k]⟩) ![0, 0] ![n, k] inb).emb y = y := by
    funext d; refine Fin.ext ((ValueKit.rect_emb_unit_val _ _ inb y d).trans ?_); fin_cases d <;> exact Nat.zero_add _
  have := View.read_writes_cons_emb a.view f (Rect.unit (s := ⟨2, ![n, k]⟩) ![0, 0] ![n, k] inb) v [] y
  rw [hy] at this
  exact this

theorem gbuf_rest (t : Vec F S32x512 .f32) (gl : Vec F S512x512 .f32) :
    View.ld (Val := Elt F) (gbuf t gl) (Rect.unit ![32, 0] S512x512.size inb_S544x512_S512x512_32_0) = gl := by
  funext y
  obtain ⟨r, k, rfl⟩ : ∃ (r : Fin 512) (k : Fin 512), y = ix2 r k := ⟨y 0, y 1, (ix2_eta y).symm⟩
  have e : (Rect.unit (s := S544x512) ![32, 0] S512x512.size inb_S544x512_S512x512_32_0).emb (ix2 r k) = ix2 (⟨32 + r.val, by omega⟩ : Fin 544) k := by
    funext d; refine Fin.ext ((ValueKit.rect_emb_unit_val _ _ _ _ d).trans ?_); fin_cases d
    · rfl
    · exact Nat.zero_add _
  show gbuf t gl ((Rect.unit (s := S544x512) ![32, 0] S512x512.size inb_S544x512_S512x512_32_0).emb (ix2 r k)) = _
  rw [e]
  unfold gbuf
  rw [dif_neg (by show ¬(32 + r.val < 32); omega)]
  exact congrArg gl (congrArg₂ ix2 (Fin.ext (by show 32 + r.val - 32 = r.val; omega)) rfl)

theorem read_rest {a : Memref sig .tc .vmem S544x512 .f32} (f) (gl : Vec F S512x512 .f32) :
    a.view.read (Elt F) (a.view.writes (Elt F) f [⟨Rect.unit ![32, 0] S512x512.size inb_S544x512_S512x512_32_0, gl⟩])
      = gbuf (top (a.view.read (Elt F) f)) gl := by
  funext y
  obtain ⟨r, k, rfl⟩ : ∃ (r : Fin 544) (k : Fin 512), y = ix2 r k := ⟨y 0, y 1, (ix2_eta y).symm⟩
  by_cases h : r.val < 32
  · rw [show gbuf (top (a.view.read (Elt F) f)) gl (ix2 r k) = a.view.read (Elt F) f (ix2 r k) from dif_pos h]
    exact View.read_writes_cons_unit_of_not_mem a.view f _ gl [] (ix2 r k) rfl 0 (Or.inl h)
  · rw [show gbuf (top (a.view.read (Elt F) f)) gl (ix2 r k) = gl (ix2 ⟨r.val - 32, by omega⟩ k) from dif_neg h]
    refine View.read_writes_cons_unit_of_mem a.view f _ gl [] (ix2 r k) (ix2 (⟨r.val - 32, by omega⟩ : Fin 512) k) rfl ?_
    intro d; fin_cases d
    · show r.val = 32 + (r.val - 32); omega
    · exact (Nat.zero_add _).symm

theorem read_top {a : Memref sig .tc .vmem S544x512 .f32} (f) (t : Vec F S32x512 .f32) (L) :
    top (a.view.read (Elt F) (a.view.writes (Elt F) f (⟨Rect.unit ![0, 0] S32x512.size inb_S544x512_S32x512_0_0, t⟩ :: L))) = t := by
  funext y
  obtain ⟨r, k, rfl⟩ : ∃ (r : Fin 32) (k : Fin 512), y = ix2 r k := ⟨y 0, y 1, (ix2_eta y).symm⟩
  refine View.read_writes_cons_unit_of_mem a.view f _ t L (ix2 (⟨r.val, by omega⟩ : Fin 544) k) (ix2 r k) rfl ?_
  intro d; fin_cases d
  · exact (Nat.zero_add _).symm
  · exact (Nat.zero_add _).symm

theorem read_both {a : Memref sig .tc .vmem S544x512 .f32} (f) (t : Vec F S32x512 .f32) (gl : Vec F S512x512 .f32) :
    a.view.read (Elt F) (a.view.writes (Elt F) f [⟨Rect.unit ![32, 0] S512x512.size inb_S544x512_S512x512_32_0, gl⟩, ⟨Rect.unit ![0, 0] S32x512.size inb_S544x512_S32x512_0_0, t⟩])
      = gbuf t gl := by
  funext y
  obtain ⟨r, k, rfl⟩ : ∃ (r : Fin 544) (k : Fin 512), y = ix2 r k := ⟨y 0, y 1, (ix2_eta y).symm⟩
  by_cases h : r.val < 32
  · rw [show gbuf t gl (ix2 r k) = t (ix2 ⟨r.val, h⟩ k) from dif_pos h]
    refine (View.read_writes_cons_unit_of_not_mem a.view f _ gl _ (ix2 r k) rfl 0 (Or.inl h)).trans ?_
    refine View.read_writes_cons_unit_of_mem a.view f _ t [] (ix2 r k) (ix2 (⟨r.val, h⟩ : Fin 32) k) rfl ?_
    intro d; fin_cases d
    · exact (Nat.zero_add _).symm
    · exact (Nat.zero_add _).symm
  · rw [show gbuf t gl (ix2 r k) = gl (ix2 ⟨r.val - 32, by omega⟩ k) from dif_neg h]
    refine View.read_writes_cons_unit_of_mem a.view f _ gl _ (ix2 r k) (ix2 (⟨r.val - 32, by omega⟩ : Fin 512) k) rfl ?_
    intro d; fin_cases d
    · show r.val = 32 + (r.val - 32); omega
    · exact (Nat.zero_add _).symm

/-- One of the seven copies, at an index. -/
theorem slab (g : Vec F S544x512 .f32) {b : ℕ} (hb : b < 7) (inb : ∀ d, (![b + 1, 0] : Fin 2 → ℕ) d + S536x512.size d ≤ S544x512.size d)
    (v : Vec F S536x512 .f32) (hv : v = View.ld (Val := Elt F) g (Rect.unit ![b + 1, 0] S536x512.size inb)) (r : Fin 536) (k : Fin 512) :
    shapeCast S1x536x512 v shapeCasts_S536x512_S1x536x512 (ix3 (0 : Fin 1) r k) = shift g (ix3 (⟨b, hb⟩ : Fin 7) r k) := by
  subst hv
  rw [show shapeCast S1x536x512 (View.ld (Val := Elt F) g (Rect.unit ![b + 1, 0] S536x512.size inb)) shapeCasts_S536x512_S1x536x512 (ix3 (0 : Fin 1) r k)
      = View.ld (Val := Elt F) g (Rect.unit ![b + 1, 0] S536x512.size inb) (ix2 r k) from ValueIdx.shapeCast_ab_1ab_apply _ _ 0 r k]
  refine congrArg g ?_
  funext d; refine Fin.ext ((ValueKit.rect_emb_unit_val _ _ _ _ d).trans ?_); fin_cases d
  · rfl
  · exact Nat.zero_add _

theorem read_shift {a : Memref sig .tc .vmem S7x536x512 .f32} (f) (g : Vec F S544x512 .f32) :
    a.view.read (Elt F) (a.view.writes (Elt F) f [⟨Rect.unit ![6, 0, 0] S1x536x512.size inb_S7x536x512_S1x536x512_6_0_0, k0_pay58 (View.ld (Val := Elt F) g (Rect.unit ![7, 0] S536x512.size inb_S544x512_S536x512_7_0))⟩, ⟨Rect.unit ![5, 0, 0] S1x536x512.size inb_S7x536x512_S1x536x512_5_0_0, k0_pay57 (View.ld (Val := Elt F) g (Rect.unit ![6, 0] S536x512.size inb_S544x512_S536x512_6_0))⟩, ⟨Rect.unit ![4, 0, 0] S1x536x512.size inb_S7x536x512_S1x536x512_4_0_0, k0_pay56 (View.ld (Val := Elt F) g (Rect.unit ![5, 0] S536x512.size inb_S544x512_S536x512_5_0))⟩, ⟨Rect.unit ![3, 0, 0] S1x536x512.size inb_S7x536x512_S1x536x512_3_0_0, k0_pay55 (View.ld (Val := Elt F) g (Rect.unit ![4, 0] S536x512.size inb_S544x512_S536x512_4_0))⟩, ⟨Rect.unit ![2, 0, 0] S1x536x512.size inb_S7x536x512_S1x536x512_2_0_0, k0_pay54 (View.ld (Val := Elt F) g (Rect.unit ![3, 0] S536x512.size inb_S544x512_S536x512_3_0))⟩, ⟨Rect.unit ![1, 0, 0] S1x536x512.size inb_S7x536x512_S1x536x512_1_0_0, k0_pay53 (View.ld (Val := Elt F) g (Rect.unit ![2, 0] S536x512.size inb_S544x512_S536x512_2_0))⟩, ⟨Rect.unit ![0, 0, 0] S1x536x512.size inb_S7x536x512_S1x536x512_0_0_0, k0_pay52 (View.ld (Val := Elt F) g (Rect.unit ![1, 0] S536x512.size inb_S544x512_S536x512_1_0))⟩])
      = shift g := by
  funext y
  obtain ⟨b, r, k, rfl⟩ : ∃ (b : Fin 7) (r : Fin 536) (k : Fin 512), y = ix3 b r k := ⟨y 0, y 1, y 2, (ix3_eta y).symm⟩
  fin_cases b
  · refine (View.read_writes_cons_unit_of_not_mem a.view f _ _ _ _ rfl 0 (Or.inl (show 0 < 6 by decide))).trans ?_
    refine (View.read_writes_cons_unit_of_not_mem a.view f _ _ _ _ rfl 0 (Or.inl (show 0 < 5 by decide))).trans ?_
    refine (View.read_writes_cons_unit_of_not_mem a.view f _ _ _ _ rfl 0 (Or.inl (show 0 < 4 by decide))).trans ?_
    refine (View.read_writes_cons_unit_of_not_mem a.view f _ _ _ _ rfl 0 (Or.inl (show 0 < 3 by decide))).trans ?_
    refine (View.read_writes_cons_unit_of_not_mem a.view f _ _ _ _ rfl 0 (Or.inl (show 0 < 2 by decide))).trans ?_
    refine (View.read_writes_cons_unit_of_not_mem a.view f _ _ _ _ rfl 0 (Or.inl (show 0 < 1 by decide))).trans ?_
    refine (View.read_writes_cons_unit_of_mem a.view f _ _ _ _ (ix3 (0 : Fin 1) r k) rfl ?_).trans (slab g (b := 0) (by decide) inb_S544x512_S536x512_1_0 _ rfl r k)
    intro d; fin_cases d
    · rfl
    · exact (Nat.zero_add _).symm
    · exact (Nat.zero_add _).symm
  · refine (View.read_writes_cons_unit_of_not_mem a.view f _ _ _ _ rfl 0 (Or.inl (show 1 < 6 by decide))).trans ?_
    refine (View.read_writes_cons_unit_of_not_mem a.view f _ _ _ _ rfl 0 (Or.inl (show 1 < 5 by decide))).trans ?_
    refine (View.read_writes_cons_unit_of_not_mem a.view f _ _ _ _ rfl 0 (Or.inl (show 1 < 4 by decide))).trans ?_
    refine (View.read_writes_cons_unit_of_not_mem a.view f _ _ _ _ rfl 0 (Or.inl (show 1 < 3 by decide))).trans ?_
    refine (View.read_writes_cons_unit_of_not_mem a.view f _ _ _ _ rfl 0 (Or.inl (show 1 < 2 by decide))).trans ?_
    refine (View.read_writes_cons_unit_of_mem a.view f _ _ _ _ (ix3 (0 : Fin 1) r k) rfl ?_).trans (slab g (b := 1) (by decide) inb_S544x512_S536x512_2_0 _ rfl r k)
    intro d; fin_cases d
    · rfl
    · exact (Nat.zero_add _).symm
    · exact (Nat.zero_add _).symm
  · refine (View.read_writes_cons_unit_of_not_mem a.view f _ _ _ _ rfl 0 (Or.inl (show 2 < 6 by decide))).trans ?_
    refine (View.read_writes_cons_unit_of_not_mem a.view f _ _ _ _ rfl 0 (Or.inl (show 2 < 5 by decide))).trans ?_
    refine (View.read_writes_cons_unit_of_not_mem a.view f _ _ _ _ rfl 0 (Or.inl (show 2 < 4 by decide))).trans ?_
    refine (View.read_writes_cons_unit_of_not_mem a.view f _ _ _ _ rfl 0 (Or.inl (show 2 < 3 by decide))).trans ?_
    refine (View.read_writes_cons_unit_of_mem a.view f _ _ _ _ (ix3 (0 : Fin 1) r k) rfl ?_).trans (slab g (b := 2) (by decide) inb_S544x512_S536x512_3_0 _ rfl r k)
    intro d; fin_cases d
    · rfl
    · exact (Nat.zero_add _).symm
    · exact (Nat.zero_add _).symm
  · refine (View.read_writes_cons_unit_of_not_mem a.view f _ _ _ _ rfl 0 (Or.inl (show 3 < 6 by decide))).trans ?_
    refine (View.read_writes_cons_unit_of_not_mem a.view f _ _ _ _ rfl 0 (Or.inl (show 3 < 5 by decide))).trans ?_
    refine (View.read_writes_cons_unit_of_not_mem a.view f _ _ _ _ rfl 0 (Or.inl (show 3 < 4 by decide))).trans ?_
    refine (View.read_writes_cons_unit_of_mem a.view f _ _ _ _ (ix3 (0 : Fin 1) r k) rfl ?_).trans (slab g (b := 3) (by decide) inb_S544x512_S536x512_4_0 _ rfl r k)
    intro d; fin_cases d
    · rfl
    · exact (Nat.zero_add _).symm
    · exact (Nat.zero_add _).symm
  · refine (View.read_writes_cons_unit_of_not_mem a.view f _ _ _ _ rfl 0 (Or.inl (show 4 < 6 by decide))).trans ?_
    refine (View.read_writes_cons_unit_of_not_mem a.view f _ _ _ _ rfl 0 (Or.inl (show 4 < 5 by decide))).trans ?_
    refine (View.read_writes_cons_unit_of_mem a.view f _ _ _ _ (ix3 (0 : Fin 1) r k) rfl ?_).trans (slab g (b := 4) (by decide) inb_S544x512_S536x512_5_0 _ rfl r k)
    intro d; fin_cases d
    · rfl
    · exact (Nat.zero_add _).symm
    · exact (Nat.zero_add _).symm
  · refine (View.read_writes_cons_unit_of_not_mem a.view f _ _ _ _ rfl 0 (Or.inl (show 5 < 6 by decide))).trans ?_
    refine (View.read_writes_cons_unit_of_mem a.view f _ _ _ _ (ix3 (0 : Fin 1) r k) rfl ?_).trans (slab g (b := 5) (by decide) inb_S544x512_S536x512_6_0 _ rfl r k)
    intro d; fin_cases d
    · rfl
    · exact (Nat.zero_add _).symm
    · exact (Nat.zero_add _).symm
  · refine (View.read_writes_cons_unit_of_mem a.view f _ _ _ _ (ix3 (0 : Fin 1) r k) rfl ?_).trans (slab g (b := 6) (by decide) inb_S544x512_S536x512_7_0 _ rfl r k)
    intro d; fin_cases d
    · rfl
    · exact (Nat.zero_add _).symm
    · exact (Nat.zero_add _).symm

end Cert.Kernel4Ideal.Mix

end
-- ==== Proof.MixOuts.lean ====
/-
That the pieces the body writes at one grid point read back as the named values of its operands' blocks.
-/
module

public import proofs.«01_k».proof.Proof.MixVals
public import proofs.«01_k».proof.Proof.MixRun

@[expose] public section

set_option maxRecDepth 16384

noncomputable section

namespace Cert.Kernel4Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

variable (c : Dev nD)
 (i : grid0.Coords)
  (a0 : Memref sig .tc .vmem S512x1024 .f32) (h0 : a0.IsWhole)
  (a1 : Memref sig .tc .vmem S8x1024 .f32) (h1 : a1.IsWhole)
  (a2 : Memref sig .tc .vmem S1x1024 .f32) (h2 : a2.IsWhole)
  (a3 : Memref sig .tc .vmem S8x1024x256 .bf16) (h3 : a3.IsWhole)
  (a4 : Memref sig .tc .vmem S1x2048 .f32) (h4 : a4.IsWhole)
  (a5 : Memref sig .tc .vmem S1x512 .f32) (h5 : a5.IsWhole)
  (a6 : Memref sig .tc .vmem S1x512 .f32) (h6 : a6.IsWhole)
  (a7 : Memref sig .tc .vmem S1024x128 .bf16) (h7 : a7.IsWhole)
  (a8 : Memref sig .tc .vmem S128x512 .f32) (h8 : a8.IsWhole)
  (a9 : Memref sig .tc .vmem S32x512 .f32) (h9 : a9.IsWhole)
  (a10 : Memref sig .tc .vmem S1x512 .f32) (h10 : a10.IsWhole)
  (a11 : Memref sig .tc .vmem S1x512 .f32) (h11 : a11.IsWhole)
  (a12 : Memref sig .tc .vmem S1x512 .f32) (h12 : a12.IsWhole)
  (a13 : Memref sig .tc .vmem S1x512 .f32) (h13 : a13.IsWhole)
  (a14 : Memref sig .tc .vmem S1x512 .f32) (h14 : a14.IsWhole)
  (a15 : Memref sig .tc .vmem S1024x1024 .bf16) (h15 : a15.IsWhole)
  (a16 : Memref sig .tc .vmem S512x512 .bf16) (h16 : a16.IsWhole)
  (a17 : Memref sig .tc .vmem S512x1024 .f32) (h17 : a17.IsWhole)
  (a18 : Memref sig .tc .vmem S512x1024 .bf16) (h18 : a18.IsWhole)
  (a19 : Memref sig .tc .vmem S512x1024 .f32) (h19 : a19.IsWhole)
  (a20 : Memref sig .tc .vmem S512x512 .f32) (h20 : a20.IsWhole)
  (a21 : Memref sig .tc .vmem S512x1024 .bf16) (h21 : a21.IsWhole)
  (a22 : Memref sig .tc .vmem S512x1024 .f32) (h22 : a22.IsWhole)
  (a23 : Memref sig .tc .vmem S512x512 .f32) (h23 : a23.IsWhole)
  (a24 : Memref sig .tc .vmem S512x512 .f32) (h24 : a24.IsWhole)
  (a25 : Memref sig .tc .vmem S512x512 .f32) (h25 : a25.IsWhole)
  (a26 : Memref sig .tc .vmem S512x512 .f32) (h26 : a26.IsWhole)
  (a27 : Memref sig .tc .vmem S512x128 .f32) (h27 : a27.IsWhole)
  (a28 : Memref sig .tc .vmem S512x512 .f32) (h28 : a28.IsWhole)
  (a29 : Memref sig .tc .vmem S512x512 .f32) (h29 : a29.IsWhole)
  (a30 : Memref sig .tc .vmem S544x512 .f32) (h30 : a30.IsWhole)
  (a31 : Memref sig .tc .vmem S7x536x512 .f32) (h31 : a31.IsWhole)
  (x0 : Vec F S512x1024 .f32) (x1 : Vec F S8x1024 .f32) (x2 : Vec F S1x1024 .f32) (x3 : Vec F S8x1024x256 .bf16) (x4 : Vec F S1x2048 .f32) (x5 : Vec F S1x512 .f32) (x6 : Vec F S1x512 .f32) (x7 : Vec F S1024x128 .bf16) (x8 : Vec F S128x512 .f32) (x9 : Vec F S32x512 .f32) (x10 : Vec F S1x512 .f32) (x11 : Vec F S1x512 .f32) (x12 : Vec F S1x512 .f32) (x13 : Vec F S1x512 .f32) (x14 : Vec F S1x512 .f32) (x15 : Vec F S1024x1024 .bf16) (x16 : Vec F S512x512 .bf16) (x30 : Vec F S544x512 .f32) (x31 : Vec F S7x536x512 .f32)

theorem runA_z : runA.sl.r_5 c a0 h0 a1 h1 a2 h2 a3 h3 a4 h4 x0 x1 x2 x3 x4 = zV x0 x1 x2 x3 x4 := by
  simp only [runA.sl.r_6, runA.sl.r_3, runA.sl.r_8, runA.sl.r_2, runA.sl.r_1, runA.sl.r_5, runA.sl.r_7, runA.sl.r_4, View.readAt_eq_ld, Memref.IsWhole.read_unread, hV, zV, vgV, guV]

theorem runA_u : runA.sl.r_8 c a0 h0 a1 h1 a2 h2 a3 h3 a4 h4 x0 x1 x2 x3 x4 = guV x0 x1 x2 x3 x4 := by
  simp only [runA.sl.r_6, runA.sl.r_3, runA.sl.r_8, runA.sl.r_2, runA.sl.r_1, runA.sl.r_5, runA.sl.r_7, runA.sl.r_4, View.readAt_eq_ld, Memref.IsWhole.read_unread, hV, zV, vgV, guV]

theorem runB_z : runB.sl.r_5 c a0 h0 a1 h1 a2 h2 a3 h3 a4 h4 x0 x1 x2 x3 x4 = zV x0 x1 x2 x3 x4 := by
  simp only [runB.sl.r_4, runB.sl.r_7, runB.sl.r_5, runB.sl.r_8, runB.sl.r_6, runB.sl.r_2, runB.sl.r_3, runB.sl.r_1, View.readAt_eq_ld, Memref.IsWhole.read_unread, hV, zV, vgV, guV]

theorem runB_u : runB.sl.r_8 c a0 h0 a1 h1 a2 h2 a3 h3 a4 h4 x0 x1 x2 x3 x4 = guV x0 x1 x2 x3 x4 := by
  simp only [runB.sl.r_4, runB.sl.r_7, runB.sl.r_5, runB.sl.r_8, runB.sl.r_6, runB.sl.r_2, runB.sl.r_3, runB.sl.r_1, View.readAt_eq_ld, Memref.IsWhole.read_unread, hV, zV, vgV, guV]

theorem runA_gl : k0_pay51 (runA.sl.r_33 c a0 h0 a1 h1 a2 h2 a3 h3 a4 h4 x0 x1 x2 x3 x4) (runA.sl.r_34 c a0 h0 a1 h1 a2 h2 a3 h3 a4 h4 x0 x1 x2 x3 x4) runA.sl.cst_173 = glV (zV x0 x1 x2 x3 x4) := by
  unfold runA.sl.r_33 runA.sl.r_34
  rw [runA_z]
  rfl

theorem runA_H30 (f) : a30.view.read (Elt F) (a30.view.writes (Elt F) f (runA.sl.H30_2 c a0 h0 a1 h1 a2 h2 a3 h3 a4 h4 x0 x1 x2 x3 x4)) = (gbuf k0_pay50 (glV (zV x0 x1 x2 x3 x4))) :=
  (read_both f _ _).trans (by rw [runA_gl])

theorem runA_v530 : runA.sl.v530 c a0 h0 a1 h1 a2 h2 a3 h3 a4 h4 a30 x0 x1 x2 x3 x4 = View.ld (Val := Elt F) (gbuf k0_pay50 (glV (zV x0 x1 x2 x3 x4))) (Rect.unit ![32, 0] S512x512.size inb_S544x512_S512x512_32_0) :=
  (congrArg (fun b : Vec F S544x512 .f32 => View.ld (Val := Elt F) b (Rect.unit ![32, 0] S512x512.size inb_S544x512_S512x512_32_0)) (runA_H30 c a0 h0 a1 h1 a2 h2 a3 h3 a4 h4 a30 x0 x1 x2 x3 x4 a30.view.junk))

theorem runA_v289 : runA.sl.v289 c a0 h0 a1 h1 a2 h2 a3 h3 a4 h4 a30 x0 x1 x2 x3 x4 = View.ld (Val := Elt F) (gbuf k0_pay50 (glV (zV x0 x1 x2 x3 x4))) (Rect.unit ![1, 0] S536x512.size inb_S544x512_S536x512_1_0) :=
  congrArg (fun b : Vec F S544x512 .f32 => View.ld (Val := Elt F) b (Rect.unit ![1, 0] S536x512.size inb_S544x512_S536x512_1_0)) (runA_H30 c a0 h0 a1 h1 a2 h2 a3 h3 a4 h4 a30 x0 x1 x2 x3 x4 a30.view.junk)

theorem runA_v293 : runA.sl.v293 c a0 h0 a1 h1 a2 h2 a3 h3 a4 h4 a30 x0 x1 x2 x3 x4 = View.ld (Val := Elt F) (gbuf k0_pay50 (glV (zV x0 x1 x2 x3 x4))) (Rect.unit ![2, 0] S536x512.size inb_S544x512_S536x512_2_0) :=
  congrArg (fun b : Vec F S544x512 .f32 => View.ld (Val := Elt F) b (Rect.unit ![2, 0] S536x512.size inb_S544x512_S536x512_2_0)) (runA_H30 c a0 h0 a1 h1 a2 h2 a3 h3 a4 h4 a30 x0 x1 x2 x3 x4 a30.view.junk)

theorem runA_v297 : runA.sl.v297 c a0 h0 a1 h1 a2 h2 a3 h3 a4 h4 a30 x0 x1 x2 x3 x4 = View.ld (Val := Elt F) (gbuf k0_pay50 (glV (zV x0 x1 x2 x3 x4))) (Rect.unit ![3, 0] S536x512.size inb_S544x512_S536x512_3_0) :=
  congrArg (fun b : Vec F S544x512 .f32 => View.ld (Val := Elt F) b (Rect.unit ![3, 0] S536x512.size inb_S544x512_S536x512_3_0)) (runA_H30 c a0 h0 a1 h1 a2 h2 a3 h3 a4 h4 a30 x0 x1 x2 x3 x4 a30.view.junk)

theorem runA_v301 : runA.sl.v301 c a0 h0 a1 h1 a2 h2 a3 h3 a4 h4 a30 x0 x1 x2 x3 x4 = View.ld (Val := Elt F) (gbuf k0_pay50 (glV (zV x0 x1 x2 x3 x4))) (Rect.unit ![4, 0] S536x512.size inb_S544x512_S536x512_4_0) :=
  congrArg (fun b : Vec F S544x512 .f32 => View.ld (Val := Elt F) b (Rect.unit ![4, 0] S536x512.size inb_S544x512_S536x512_4_0)) (runA_H30 c a0 h0 a1 h1 a2 h2 a3 h3 a4 h4 a30 x0 x1 x2 x3 x4 a30.view.junk)

theorem runA_v305 : runA.sl.v305 c a0 h0 a1 h1 a2 h2 a3 h3 a4 h4 a30 x0 x1 x2 x3 x4 = View.ld (Val := Elt F) (gbuf k0_pay50 (glV (zV x0 x1 x2 x3 x4))) (Rect.unit ![5, 0] S536x512.size inb_S544x512_S536x512_5_0) :=
  congrArg (fun b : Vec F S544x512 .f32 => View.ld (Val := Elt F) b (Rect.unit ![5, 0] S536x512.size inb_S544x512_S536x512_5_0)) (runA_H30 c a0 h0 a1 h1 a2 h2 a3 h3 a4 h4 a30 x0 x1 x2 x3 x4 a30.view.junk)

theorem runA_v309 : runA.sl.v309 c a0 h0 a1 h1 a2 h2 a3 h3 a4 h4 a30 x0 x1 x2 x3 x4 = View.ld (Val := Elt F) (gbuf k0_pay50 (glV (zV x0 x1 x2 x3 x4))) (Rect.unit ![6, 0] S536x512.size inb_S544x512_S536x512_6_0) :=
  congrArg (fun b : Vec F S544x512 .f32 => View.ld (Val := Elt F) b (Rect.unit ![6, 0] S536x512.size inb_S544x512_S536x512_6_0)) (runA_H30 c a0 h0 a1 h1 a2 h2 a3 h3 a4 h4 a30 x0 x1 x2 x3 x4 a30.view.junk)

theorem runA_v313 : runA.sl.v313 c a0 h0 a1 h1 a2 h2 a3 h3 a4 h4 a30 x0 x1 x2 x3 x4 = View.ld (Val := Elt F) (gbuf k0_pay50 (glV (zV x0 x1 x2 x3 x4))) (Rect.unit ![7, 0] S536x512.size inb_S544x512_S536x512_7_0) :=
  congrArg (fun b : Vec F S544x512 .f32 => View.ld (Val := Elt F) b (Rect.unit ![7, 0] S536x512.size inb_S544x512_S536x512_7_0)) (runA_H30 c a0 h0 a1 h1 a2 h2 a3 h3 a4 h4 a30 x0 x1 x2 x3 x4 a30.view.junk)

theorem runA_v365 : runA.sl.v365 c a0 h0 a1 h1 a2 h2 a3 h3 a4 h4 a30 x0 x1 x2 x3 x4 = View.ld (Val := Elt F) (gbuf k0_pay50 (glV (zV x0 x1 x2 x3 x4))) (Rect.unit ![8, 0] S512x512.size inb_S544x512_S512x512_8_0) :=
  congrArg (fun b : Vec F S544x512 .f32 => View.ld (Val := Elt F) b (Rect.unit ![8, 0] S512x512.size inb_S544x512_S512x512_8_0)) (runA_H30 c a0 h0 a1 h1 a2 h2 a3 h3 a4 h4 a30 x0 x1 x2 x3 x4 a30.view.junk)

theorem runA_v420 : runA.sl.v420 c a0 h0 a1 h1 a2 h2 a3 h3 a4 h4 a30 x0 x1 x2 x3 x4 = View.ld (Val := Elt F) (gbuf k0_pay50 (glV (zV x0 x1 x2 x3 x4))) (Rect.unit ![16, 0] S512x512.size inb_S544x512_S512x512_16_0) :=
  congrArg (fun b : Vec F S544x512 .f32 => View.ld (Val := Elt F) b (Rect.unit ![16, 0] S512x512.size inb_S544x512_S512x512_16_0)) (runA_H30 c a0 h0 a1 h1 a2 h2 a3 h3 a4 h4 a30 x0 x1 x2 x3 x4 a30.view.junk)

theorem runA_v475 : runA.sl.v475 c a0 h0 a1 h1 a2 h2 a3 h3 a4 h4 a30 x0 x1 x2 x3 x4 = View.ld (Val := Elt F) (gbuf k0_pay50 (glV (zV x0 x1 x2 x3 x4))) (Rect.unit ![24, 0] S512x512.size inb_S544x512_S512x512_24_0) :=
  congrArg (fun b : Vec F S544x512 .f32 => View.ld (Val := Elt F) b (Rect.unit ![24, 0] S512x512.size inb_S544x512_S512x512_24_0)) (runA_H30 c a0 h0 a1 h1 a2 h2 a3 h3 a4 h4 a30 x0 x1 x2 x3 x4 a30.view.junk)

theorem runA_H31 (f) : a31.view.read (Elt F) (a31.view.writes (Elt F) f (runA.sl.H31_7 c a0 h0 a1 h1 a2 h2 a3 h3 a4 h4 a30 x0 x1 x2 x3 x4)) = shift (gbuf k0_pay50 (glV (zV x0 x1 x2 x3 x4))) := by
  unfold runA.sl.H31_7
  rw [runA_v289, runA_v293, runA_v297, runA_v301, runA_v305, runA_v309, runA_v313]
  exact read_shift f _

theorem runA_v323 : runA.sl.v323 c a0 h0 a1 h1 a2 h2 a3 h3 a4 h4 a30 a31 x0 x1 x2 x3 x4 = View.ld (Val := Elt F) (shift (gbuf k0_pay50 (glV (zV x0 x1 x2 x3 x4)))) (Rect.unit ![1, 0, 0] S1x512x512.size inb_S7x536x512_S1x512x512_1_0_0) :=
  congrArg (fun b : Vec F S7x536x512 .f32 => View.ld (Val := Elt F) b (Rect.unit ![1, 0, 0] S1x512x512.size inb_S7x536x512_S1x512x512_1_0_0)) (runA_H31 c a0 h0 a1 h1 a2 h2 a3 h3 a4 h4 a30 a31 x0 x1 x2 x3 x4 a31.view.junk)

theorem runA_v330 : runA.sl.v330 c a0 h0 a1 h1 a2 h2 a3 h3 a4 h4 a30 a31 x0 x1 x2 x3 x4 = View.ld (Val := Elt F) (shift (gbuf k0_pay50 (glV (zV x0 x1 x2 x3 x4)))) (Rect.unit ![2, 0, 0] S1x512x512.size inb_S7x536x512_S1x512x512_2_0_0) :=
  congrArg (fun b : Vec F S7x536x512 .f32 => View.ld (Val := Elt F) b (Rect.unit ![2, 0, 0] S1x512x512.size inb_S7x536x512_S1x512x512_2_0_0)) (runA_H31 c a0 h0 a1 h1 a2 h2 a3 h3 a4 h4 a30 a31 x0 x1 x2 x3 x4 a31.view.junk)

theorem runA_v337 : runA.sl.v337 c a0 h0 a1 h1 a2 h2 a3 h3 a4 h4 a30 a31 x0 x1 x2 x3 x4 = View.ld (Val := Elt F) (shift (gbuf k0_pay50 (glV (zV x0 x1 x2 x3 x4)))) (Rect.unit ![3, 0, 0] S1x512x512.size inb_S7x536x512_S1x512x512_3_0_0) :=
  congrArg (fun b : Vec F S7x536x512 .f32 => View.ld (Val := Elt F) b (Rect.unit ![3, 0, 0] S1x512x512.size inb_S7x536x512_S1x512x512_3_0_0)) (runA_H31 c a0 h0 a1 h1 a2 h2 a3 h3 a4 h4 a30 a31 x0 x1 x2 x3 x4 a31.view.junk)

theorem runA_v344 : runA.sl.v344 c a0 h0 a1 h1 a2 h2 a3 h3 a4 h4 a30 a31 x0 x1 x2 x3 x4 = View.ld (Val := Elt F) (shift (gbuf k0_pay50 (glV (zV x0 x1 x2 x3 x4)))) (Rect.unit ![4, 0, 0] S1x512x512.size inb_S7x536x512_S1x512x512_4_0_0) :=
  congrArg (fun b : Vec F S7x536x512 .f32 => View.ld (Val := Elt F) b (Rect.unit ![4, 0, 0] S1x512x512.size inb_S7x536x512_S1x512x512_4_0_0)) (runA_H31 c a0 h0 a1 h1 a2 h2 a3 h3 a4 h4 a30 a31 x0 x1 x2 x3 x4 a31.view.junk)

theorem runA_v351 : runA.sl.v351 c a0 h0 a1 h1 a2 h2 a3 h3 a4 h4 a30 a31 x0 x1 x2 x3 x4 = View.ld (Val := Elt F) (shift (gbuf k0_pay50 (glV (zV x0 x1 x2 x3 x4)))) (Rect.unit ![5, 0, 0] S1x512x512.size inb_S7x536x512_S1x512x512_5_0_0) :=
  congrArg (fun b : Vec F S7x536x512 .f32 => View.ld (Val := Elt F) b (Rect.unit ![5, 0, 0] S1x512x512.size inb_S7x536x512_S1x512x512_5_0_0)) (runA_H31 c a0 h0 a1 h1 a2 h2 a3 h3 a4 h4 a30 a31 x0 x1 x2 x3 x4 a31.view.junk)

theorem runA_v358 : runA.sl.v358 c a0 h0 a1 h1 a2 h2 a3 h3 a4 h4 a30 a31 x0 x1 x2 x3 x4 = View.ld (Val := Elt F) (shift (gbuf k0_pay50 (glV (zV x0 x1 x2 x3 x4)))) (Rect.unit ![6, 0, 0] S1x512x512.size inb_S7x536x512_S1x512x512_6_0_0) :=
  congrArg (fun b : Vec F S7x536x512 .f32 => View.ld (Val := Elt F) b (Rect.unit ![6, 0, 0] S1x512x512.size inb_S7x536x512_S1x512x512_6_0_0)) (runA_H31 c a0 h0 a1 h1 a2 h2 a3 h3 a4 h4 a30 a31 x0 x1 x2 x3 x4 a31.view.junk)

theorem runA_v371 : runA.sl.v371 c a0 h0 a1 h1 a2 h2 a3 h3 a4 h4 a30 a31 x0 x1 x2 x3 x4 = View.ld (Val := Elt F) (shift (gbuf k0_pay50 (glV (zV x0 x1 x2 x3 x4)))) (Rect.unit ![0, 8, 0] S1x512x512.size inb_S7x536x512_S1x512x512_0_8_0) :=
  congrArg (fun b : Vec F S7x536x512 .f32 => View.ld (Val := Elt F) b (Rect.unit ![0, 8, 0] S1x512x512.size inb_S7x536x512_S1x512x512_0_8_0)) (runA_H31 c a0 h0 a1 h1 a2 h2 a3 h3 a4 h4 a30 a31 x0 x1 x2 x3 x4 a31.view.junk)

theorem runA_v378 : runA.sl.v378 c a0 h0 a1 h1 a2 h2 a3 h3 a4 h4 a30 a31 x0 x1 x2 x3 x4 = View.ld (Val := Elt F) (shift (gbuf k0_pay50 (glV (zV x0 x1 x2 x3 x4)))) (Rect.unit ![1, 8, 0] S1x512x512.size inb_S7x536x512_S1x512x512_1_8_0) :=
  congrArg (fun b : Vec F S7x536x512 .f32 => View.ld (Val := Elt F) b (Rect.unit ![1, 8, 0] S1x512x512.size inb_S7x536x512_S1x512x512_1_8_0)) (runA_H31 c a0 h0 a1 h1 a2 h2 a3 h3 a4 h4 a30 a31 x0 x1 x2 x3 x4 a31.view.junk)

theorem runA_v385 : runA.sl.v385 c a0 h0 a1 h1 a2 h2 a3 h3 a4 h4 a30 a31 x0 x1 x2 x3 x4 = View.ld (Val := Elt F) (shift (gbuf k0_pay50 (glV (zV x0 x1 x2 x3 x4)))) (Rect.unit ![2, 8, 0] S1x512x512.size inb_S7x536x512_S1x512x512_2_8_0) :=
  congrArg (fun b : Vec F S7x536x512 .f32 => View.ld (Val := Elt F) b (Rect.unit ![2, 8, 0] S1x512x512.size inb_S7x536x512_S1x512x512_2_8_0)) (runA_H31 c a0 h0 a1 h1 a2 h2 a3 h3 a4 h4 a30 a31 x0 x1 x2 x3 x4 a31.view.junk)

theorem runA_v392 : runA.sl.v392 c a0 h0 a1 h1 a2 h2 a3 h3 a4 h4 a30 a31 x0 x1 x2 x3 x4 = View.ld (Val := Elt F) (shift (gbuf k0_pay50 (glV (zV x0 x1 x2 x3 x4)))) (Rect.unit ![3, 8, 0] S1x512x512.size inb_S7x536x512_S1x512x512_3_8_0) :=
  congrArg (fun b : Vec F S7x536x512 .f32 => View.ld (Val := Elt F) b (Rect.unit ![3, 8, 0] S1x512x512.size inb_S7x536x512_S1x512x512_3_8_0)) (runA_H31 c a0 h0 a1 h1 a2 h2 a3 h3 a4 h4 a30 a31 x0 x1 x2 x3 x4 a31.view.junk)

theorem runA_v399 : runA.sl.v399 c a0 h0 a1 h1 a2 h2 a3 h3 a4 h4 a30 a31 x0 x1 x2 x3 x4 = View.ld (Val := Elt F) (shift (gbuf k0_pay50 (glV (zV x0 x1 x2 x3 x4)))) (Rect.unit ![4, 8, 0] S1x512x512.size inb_S7x536x512_S1x512x512_4_8_0) :=
  congrArg (fun b : Vec F S7x536x512 .f32 => View.ld (Val := Elt F) b (Rect.unit ![4, 8, 0] S1x512x512.size inb_S7x536x512_S1x512x512_4_8_0)) (runA_H31 c a0 h0 a1 h1 a2 h2 a3 h3 a4 h4 a30 a31 x0 x1 x2 x3 x4 a31.view.junk)

theorem runA_v406 : runA.sl.v406 c a0 h0 a1 h1 a2 h2 a3 h3 a4 h4 a30 a31 x0 x1 x2 x3 x4 = View.ld (Val := Elt F) (shift (gbuf k0_pay50 (glV (zV x0 x1 x2 x3 x4)))) (Rect.unit ![5, 8, 0] S1x512x512.size inb_S7x536x512_S1x512x512_5_8_0) :=
  congrArg (fun b : Vec F S7x536x512 .f32 => View.ld (Val := Elt F) b (Rect.unit ![5, 8, 0] S1x512x512.size inb_S7x536x512_S1x512x512_5_8_0)) (runA_H31 c a0 h0 a1 h1 a2 h2 a3 h3 a4 h4 a30 a31 x0 x1 x2 x3 x4 a31.view.junk)

theorem runA_v413 : runA.sl.v413 c a0 h0 a1 h1 a2 h2 a3 h3 a4 h4 a30 a31 x0 x1 x2 x3 x4 = View.ld (Val := Elt F) (shift (gbuf k0_pay50 (glV (zV x0 x1 x2 x3 x4)))) (Rect.unit ![6, 8, 0] S1x512x512.size inb_S7x536x512_S1x512x512_6_8_0) :=
  congrArg (fun b : Vec F S7x536x512 .f32 => View.ld (Val := Elt F) b (Rect.unit ![6, 8, 0] S1x512x512.size inb_S7x536x512_S1x512x512_6_8_0)) (runA_H31 c a0 h0 a1 h1 a2 h2 a3 h3 a4 h4 a30 a31 x0 x1 x2 x3 x4 a31.view.junk)

theorem runA_v426 : runA.sl.v426 c a0 h0 a1 h1 a2 h2 a3 h3 a4 h4 a30 a31 x0 x1 x2 x3 x4 = View.ld (Val := Elt F) (shift (gbuf k0_pay50 (glV (zV x0 x1 x2 x3 x4)))) (Rect.unit ![0, 16, 0] S1x512x512.size inb_S7x536x512_S1x512x512_0_16_0) :=
  congrArg (fun b : Vec F S7x536x512 .f32 => View.ld (Val := Elt F) b (Rect.unit ![0, 16, 0] S1x512x512.size inb_S7x536x512_S1x512x512_0_16_0)) (runA_H31 c a0 h0 a1 h1 a2 h2 a3 h3 a4 h4 a30 a31 x0 x1 x2 x3 x4 a31.view.junk)

theorem runA_v433 : runA.sl.v433 c a0 h0 a1 h1 a2 h2 a3 h3 a4 h4 a30 a31 x0 x1 x2 x3 x4 = View.ld (Val := Elt F) (shift (gbuf k0_pay50 (glV (zV x0 x1 x2 x3 x4)))) (Rect.unit ![1, 16, 0] S1x512x512.size inb_S7x536x512_S1x512x512_1_16_0) :=
  congrArg (fun b : Vec F S7x536x512 .f32 => View.ld (Val := Elt F) b (Rect.unit ![1, 16, 0] S1x512x512.size inb_S7x536x512_S1x512x512_1_16_0)) (runA_H31 c a0 h0 a1 h1 a2 h2 a3 h3 a4 h4 a30 a31 x0 x1 x2 x3 x4 a31.view.junk)

theorem runA_v440 : runA.sl.v440 c a0 h0 a1 h1 a2 h2 a3 h3 a4 h4 a30 a31 x0 x1 x2 x3 x4 = View.ld (Val := Elt F) (shift (gbuf k0_pay50 (glV (zV x0 x1 x2 x3 x4)))) (Rect.unit ![2, 16, 0] S1x512x512.size inb_S7x536x512_S1x512x512_2_16_0) :=
  congrArg (fun b : Vec F S7x536x512 .f32 => View.ld (Val := Elt F) b (Rect.unit ![2, 16, 0] S1x512x512.size inb_S7x536x512_S1x512x512_2_16_0)) (runA_H31 c a0 h0 a1 h1 a2 h2 a3 h3 a4 h4 a30 a31 x0 x1 x2 x3 x4 a31.view.junk)

theorem runA_v447 : runA.sl.v447 c a0 h0 a1 h1 a2 h2 a3 h3 a4 h4 a30 a31 x0 x1 x2 x3 x4 = View.ld (Val := Elt F) (shift (gbuf k0_pay50 (glV (zV x0 x1 x2 x3 x4)))) (Rect.unit ![3, 16, 0] S1x512x512.size inb_S7x536x512_S1x512x512_3_16_0) :=
  congrArg (fun b : Vec F S7x536x512 .f32 => View.ld (Val := Elt F) b (Rect.unit ![3, 16, 0] S1x512x512.size inb_S7x536x512_S1x512x512_3_16_0)) (runA_H31 c a0 h0 a1 h1 a2 h2 a3 h3 a4 h4 a30 a31 x0 x1 x2 x3 x4 a31.view.junk)

theorem runA_v454 : runA.sl.v454 c a0 h0 a1 h1 a2 h2 a3 h3 a4 h4 a30 a31 x0 x1 x2 x3 x4 = View.ld (Val := Elt F) (shift (gbuf k0_pay50 (glV (zV x0 x1 x2 x3 x4)))) (Rect.unit ![4, 16, 0] S1x512x512.size inb_S7x536x512_S1x512x512_4_16_0) :=
  congrArg (fun b : Vec F S7x536x512 .f32 => View.ld (Val := Elt F) b (Rect.unit ![4, 16, 0] S1x512x512.size inb_S7x536x512_S1x512x512_4_16_0)) (runA_H31 c a0 h0 a1 h1 a2 h2 a3 h3 a4 h4 a30 a31 x0 x1 x2 x3 x4 a31.view.junk)

theorem runA_v461 : runA.sl.v461 c a0 h0 a1 h1 a2 h2 a3 h3 a4 h4 a30 a31 x0 x1 x2 x3 x4 = View.ld (Val := Elt F) (shift (gbuf k0_pay50 (glV (zV x0 x1 x2 x3 x4)))) (Rect.unit ![5, 16, 0] S1x512x512.size inb_S7x536x512_S1x512x512_5_16_0) :=
  congrArg (fun b : Vec F S7x536x512 .f32 => View.ld (Val := Elt F) b (Rect.unit ![5, 16, 0] S1x512x512.size inb_S7x536x512_S1x512x512_5_16_0)) (runA_H31 c a0 h0 a1 h1 a2 h2 a3 h3 a4 h4 a30 a31 x0 x1 x2 x3 x4 a31.view.junk)

theorem runA_v468 : runA.sl.v468 c a0 h0 a1 h1 a2 h2 a3 h3 a4 h4 a30 a31 x0 x1 x2 x3 x4 = View.ld (Val := Elt F) (shift (gbuf k0_pay50 (glV (zV x0 x1 x2 x3 x4)))) (Rect.unit ![6, 16, 0] S1x512x512.size inb_S7x536x512_S1x512x512_6_16_0) :=
  congrArg (fun b : Vec F S7x536x512 .f32 => View.ld (Val := Elt F) b (Rect.unit ![6, 16, 0] S1x512x512.size inb_S7x536x512_S1x512x512_6_16_0)) (runA_H31 c a0 h0 a1 h1 a2 h2 a3 h3 a4 h4 a30 a31 x0 x1 x2 x3 x4 a31.view.junk)

theorem runA_v481 : runA.sl.v481 c a0 h0 a1 h1 a2 h2 a3 h3 a4 h4 a30 a31 x0 x1 x2 x3 x4 = View.ld (Val := Elt F) (shift (gbuf k0_pay50 (glV (zV x0 x1 x2 x3 x4)))) (Rect.unit ![0, 24, 0] S1x512x512.size inb_S7x536x512_S1x512x512_0_24_0) :=
  congrArg (fun b : Vec F S7x536x512 .f32 => View.ld (Val := Elt F) b (Rect.unit ![0, 24, 0] S1x512x512.size inb_S7x536x512_S1x512x512_0_24_0)) (runA_H31 c a0 h0 a1 h1 a2 h2 a3 h3 a4 h4 a30 a31 x0 x1 x2 x3 x4 a31.view.junk)

theorem runA_v488 : runA.sl.v488 c a0 h0 a1 h1 a2 h2 a3 h3 a4 h4 a30 a31 x0 x1 x2 x3 x4 = View.ld (Val := Elt F) (shift (gbuf k0_pay50 (glV (zV x0 x1 x2 x3 x4)))) (Rect.unit ![1, 24, 0] S1x512x512.size inb_S7x536x512_S1x512x512_1_24_0) :=
  congrArg (fun b : Vec F S7x536x512 .f32 => View.ld (Val := Elt F) b (Rect.unit ![1, 24, 0] S1x512x512.size inb_S7x536x512_S1x512x512_1_24_0)) (runA_H31 c a0 h0 a1 h1 a2 h2 a3 h3 a4 h4 a30 a31 x0 x1 x2 x3 x4 a31.view.junk)

theorem runA_v495 : runA.sl.v495 c a0 h0 a1 h1 a2 h2 a3 h3 a4 h4 a30 a31 x0 x1 x2 x3 x4 = View.ld (Val := Elt F) (shift (gbuf k0_pay50 (glV (zV x0 x1 x2 x3 x4)))) (Rect.unit ![2, 24, 0] S1x512x512.size inb_S7x536x512_S1x512x512_2_24_0) :=
  congrArg (fun b : Vec F S7x536x512 .f32 => View.ld (Val := Elt F) b (Rect.unit ![2, 24, 0] S1x512x512.size inb_S7x536x512_S1x512x512_2_24_0)) (runA_H31 c a0 h0 a1 h1 a2 h2 a3 h3 a4 h4 a30 a31 x0 x1 x2 x3 x4 a31.view.junk)

theorem runA_v502 : runA.sl.v502 c a0 h0 a1 h1 a2 h2 a3 h3 a4 h4 a30 a31 x0 x1 x2 x3 x4 = View.ld (Val := Elt F) (shift (gbuf k0_pay50 (glV (zV x0 x1 x2 x3 x4)))) (Rect.unit ![3, 24, 0] S1x512x512.size inb_S7x536x512_S1x512x512_3_24_0) :=
  congrArg (fun b : Vec F S7x536x512 .f32 => View.ld (Val := Elt F) b (Rect.unit ![3, 24, 0] S1x512x512.size inb_S7x536x512_S1x512x512_3_24_0)) (runA_H31 c a0 h0 a1 h1 a2 h2 a3 h3 a4 h4 a30 a31 x0 x1 x2 x3 x4 a31.view.junk)

theorem runA_v509 : runA.sl.v509 c a0 h0 a1 h1 a2 h2 a3 h3 a4 h4 a30 a31 x0 x1 x2 x3 x4 = View.ld (Val := Elt F) (shift (gbuf k0_pay50 (glV (zV x0 x1 x2 x3 x4)))) (Rect.unit ![4, 24, 0] S1x512x512.size inb_S7x536x512_S1x512x512_4_24_0) :=
  congrArg (fun b : Vec F S7x536x512 .f32 => View.ld (Val := Elt F) b (Rect.unit ![4, 24, 0] S1x512x512.size inb_S7x536x512_S1x512x512_4_24_0)) (runA_H31 c a0 h0 a1 h1 a2 h2 a3 h3 a4 h4 a30 a31 x0 x1 x2 x3 x4 a31.view.junk)

theorem runA_v516 : runA.sl.v516 c a0 h0 a1 h1 a2 h2 a3 h3 a4 h4 a30 a31 x0 x1 x2 x3 x4 = View.ld (Val := Elt F) (shift (gbuf k0_pay50 (glV (zV x0 x1 x2 x3 x4)))) (Rect.unit ![5, 24, 0] S1x512x512.size inb_S7x536x512_S1x512x512_5_24_0) :=
  congrArg (fun b : Vec F S7x536x512 .f32 => View.ld (Val := Elt F) b (Rect.unit ![5, 24, 0] S1x512x512.size inb_S7x536x512_S1x512x512_5_24_0)) (runA_H31 c a0 h0 a1 h1 a2 h2 a3 h3 a4 h4 a30 a31 x0 x1 x2 x3 x4 a31.view.junk)

theorem runA_v523 : runA.sl.v523 c a0 h0 a1 h1 a2 h2 a3 h3 a4 h4 a30 a31 x0 x1 x2 x3 x4 = View.ld (Val := Elt F) (shift (gbuf k0_pay50 (glV (zV x0 x1 x2 x3 x4)))) (Rect.unit ![6, 24, 0] S1x512x512.size inb_S7x536x512_S1x512x512_6_24_0) :=
  congrArg (fun b : Vec F S7x536x512 .f32 => View.ld (Val := Elt F) b (Rect.unit ![6, 24, 0] S1x512x512.size inb_S7x536x512_S1x512x512_6_24_0)) (runA_H31 c a0 h0 a1 h1 a2 h2 a3 h3 a4 h4 a30 a31 x0 x1 x2 x3 x4 a31.view.junk)

theorem runB_gl : k0_pay51 (runB.sl.r_33 c a0 h0 a1 h1 a2 h2 a3 h3 a4 h4 x0 x1 x2 x3 x4) (runB.sl.r_34 c a0 h0 a1 h1 a2 h2 a3 h3 a4 h4 x0 x1 x2 x3 x4) runB.sl.cst_173 = glV (zV x0 x1 x2 x3 x4) := by
  unfold runB.sl.r_33 runB.sl.r_34
  rw [runB_z]
  rfl

theorem runB_H30  : a30.view.read (Elt F) (a30.view.writes (Elt F) (h30.unread x30) (runB.sl.H30_1 c a0 h0 a1 h1 a2 h2 a3 h3 a4 h4 x0 x1 x2 x3 x4)) = (gbuf (top x30) (glV (zV x0 x1 x2 x3 x4))) :=
  (read_rest (h30.unread x30) _).trans (by rw [runB_gl, h30.read_unread])

theorem runB_v530 : runB.sl.v530 c a0 h0 a1 h1 a2 h2 a3 h3 a4 h4 a30 x0 x1 x2 x3 x4 = View.ld (Val := Elt F) (gbuf (top x30) (glV (zV x0 x1 x2 x3 x4))) (Rect.unit ![32, 0] S512x512.size inb_S544x512_S512x512_32_0) :=
  (congrArg (fun b : Vec F S544x512 .f32 => View.ld (Val := Elt F) b (Rect.unit ![32, 0] S512x512.size inb_S544x512_S512x512_32_0)) (read_rest a30.view.junk _)).trans ((gbuf_rest _ _).trans ((by rw [runB_gl] : _ = glV (zV x0 x1 x2 x3 x4)).trans (gbuf_rest _ _).symm))

theorem runB_v289 : runB.sl.v289 c a0 h0 a1 h1 a2 h2 a3 h3 a4 h4 a30 h30 x0 x1 x2 x3 x4 x30 = View.ld (Val := Elt F) (gbuf (top x30) (glV (zV x0 x1 x2 x3 x4))) (Rect.unit ![1, 0] S536x512.size inb_S544x512_S536x512_1_0) :=
  congrArg (fun b : Vec F S544x512 .f32 => View.ld (Val := Elt F) b (Rect.unit ![1, 0] S536x512.size inb_S544x512_S536x512_1_0)) (runB_H30 c a0 h0 a1 h1 a2 h2 a3 h3 a4 h4 a30 h30 x0 x1 x2 x3 x4 x30)

theorem runB_v293 : runB.sl.v293 c a0 h0 a1 h1 a2 h2 a3 h3 a4 h4 a30 h30 x0 x1 x2 x3 x4 x30 = View.ld (Val := Elt F) (gbuf (top x30) (glV (zV x0 x1 x2 x3 x4))) (Rect.unit ![2, 0] S536x512.size inb_S544x512_S536x512_2_0) :=
  congrArg (fun b : Vec F S544x512 .f32 => View.ld (Val := Elt F) b (Rect.unit ![2, 0] S536x512.size inb_S544x512_S536x512_2_0)) (runB_H30 c a0 h0 a1 h1 a2 h2 a3 h3 a4 h4 a30 h30 x0 x1 x2 x3 x4 x30)

theorem runB_v297 : runB.sl.v297 c a0 h0 a1 h1 a2 h2 a3 h3 a4 h4 a30 h30 x0 x1 x2 x3 x4 x30 = View.ld (Val := Elt F) (gbuf (top x30) (glV (zV x0 x1 x2 x3 x4))) (Rect.unit ![3, 0] S536x512.size inb_S544x512_S536x512_3_0) :=
  congrArg (fun b : Vec F S544x512 .f32 => View.ld (Val := Elt F) b (Rect.unit ![3, 0] S536x512.size inb_S544x512_S536x512_3_0)) (runB_H30 c a0 h0 a1 h1 a2 h2 a3 h3 a4 h4 a30 h30 x0 x1 x2 x3 x4 x30)

theorem runB_v301 : runB.sl.v301 c a0 h0 a1 h1 a2 h2 a3 h3 a4 h4 a30 h30 x0 x1 x2 x3 x4 x30 = View.ld (Val := Elt F) (gbuf (top x30) (glV (zV x0 x1 x2 x3 x4))) (Rect.unit ![4, 0] S536x512.size inb_S544x512_S536x512_4_0) :=
  congrArg (fun b : Vec F S544x512 .f32 => View.ld (Val := Elt F) b (Rect.unit ![4, 0] S536x512.size inb_S544x512_S536x512_4_0)) (runB_H30 c a0 h0 a1 h1 a2 h2 a3 h3 a4 h4 a30 h30 x0 x1 x2 x3 x4 x30)

theorem runB_v305 : runB.sl.v305 c a0 h0 a1 h1 a2 h2 a3 h3 a4 h4 a30 h30 x0 x1 x2 x3 x4 x30 = View.ld (Val := Elt F) (gbuf (top x30) (glV (zV x0 x1 x2 x3 x4))) (Rect.unit ![5, 0] S536x512.size inb_S544x512_S536x512_5_0) :=
  congrArg (fun b : Vec F S544x512 .f32 => View.ld (Val := Elt F) b (Rect.unit ![5, 0] S536x512.size inb_S544x512_S536x512_5_0)) (runB_H30 c a0 h0 a1 h1 a2 h2 a3 h3 a4 h4 a30 h30 x0 x1 x2 x3 x4 x30)

theorem runB_v309 : runB.sl.v309 c a0 h0 a1 h1 a2 h2 a3 h3 a4 h4 a30 h30 x0 x1 x2 x3 x4 x30 = View.ld (Val := Elt F) (gbuf (top x30) (glV (zV x0 x1 x2 x3 x4))) (Rect.unit ![6, 0] S536x512.size inb_S544x512_S536x512_6_0) :=
  congrArg (fun b : Vec F S544x512 .f32 => View.ld (Val := Elt F) b (Rect.unit ![6, 0] S536x512.size inb_S544x512_S536x512_6_0)) (runB_H30 c a0 h0 a1 h1 a2 h2 a3 h3 a4 h4 a30 h30 x0 x1 x2 x3 x4 x30)

theorem runB_v313 : runB.sl.v313 c a0 h0 a1 h1 a2 h2 a3 h3 a4 h4 a30 h30 x0 x1 x2 x3 x4 x30 = View.ld (Val := Elt F) (gbuf (top x30) (glV (zV x0 x1 x2 x3 x4))) (Rect.unit ![7, 0] S536x512.size inb_S544x512_S536x512_7_0) :=
  congrArg (fun b : Vec F S544x512 .f32 => View.ld (Val := Elt F) b (Rect.unit ![7, 0] S536x512.size inb_S544x512_S536x512_7_0)) (runB_H30 c a0 h0 a1 h1 a2 h2 a3 h3 a4 h4 a30 h30 x0 x1 x2 x3 x4 x30)

theorem runB_v365 : runB.sl.v365 c a0 h0 a1 h1 a2 h2 a3 h3 a4 h4 a30 h30 x0 x1 x2 x3 x4 x30 = View.ld (Val := Elt F) (gbuf (top x30) (glV (zV x0 x1 x2 x3 x4))) (Rect.unit ![8, 0] S512x512.size inb_S544x512_S512x512_8_0) :=
  congrArg (fun b : Vec F S544x512 .f32 => View.ld (Val := Elt F) b (Rect.unit ![8, 0] S512x512.size inb_S544x512_S512x512_8_0)) (runB_H30 c a0 h0 a1 h1 a2 h2 a3 h3 a4 h4 a30 h30 x0 x1 x2 x3 x4 x30)

theorem runB_v420 : runB.sl.v420 c a0 h0 a1 h1 a2 h2 a3 h3 a4 h4 a30 h30 x0 x1 x2 x3 x4 x30 = View.ld (Val := Elt F) (gbuf (top x30) (glV (zV x0 x1 x2 x3 x4))) (Rect.unit ![16, 0] S512x512.size inb_S544x512_S512x512_16_0) :=
  congrArg (fun b : Vec F S544x512 .f32 => View.ld (Val := Elt F) b (Rect.unit ![16, 0] S512x512.size inb_S544x512_S512x512_16_0)) (runB_H30 c a0 h0 a1 h1 a2 h2 a3 h3 a4 h4 a30 h30 x0 x1 x2 x3 x4 x30)

theorem runB_v475 : runB.sl.v475 c a0 h0 a1 h1 a2 h2 a3 h3 a4 h4 a30 h30 x0 x1 x2 x3 x4 x30 = View.ld (Val := Elt F) (gbuf (top x30) (glV (zV x0 x1 x2 x3 x4))) (Rect.unit ![24, 0] S512x512.size inb_S544x512_S512x512_24_0) :=
  congrArg (fun b : Vec F S544x512 .f32 => View.ld (Val := Elt F) b (Rect.unit ![24, 0] S512x512.size inb_S544x512_S512x512_24_0)) (runB_H30 c a0 h0 a1 h1 a2 h2 a3 h3 a4 h4 a30 h30 x0 x1 x2 x3 x4 x30)

theorem runB_H31 (f) : a31.view.read (Elt F) (a31.view.writes (Elt F) f (runB.sl.H31_7 c a0 h0 a1 h1 a2 h2 a3 h3 a4 h4 a30 h30 x0 x1 x2 x3 x4 x30)) = shift (gbuf (top x30) (glV (zV x0 x1 x2 x3 x4))) := by
  unfold runB.sl.H31_7
  rw [runB_v289, runB_v293, runB_v297, runB_v301, runB_v305, runB_v309, runB_v313]
  exact read_shift f _

theorem runB_v323 : runB.sl.v323 c a0 h0 a1 h1 a2 h2 a3 h3 a4 h4 a30 h30 a31 x0 x1 x2 x3 x4 x30 = View.ld (Val := Elt F) (shift (gbuf (top x30) (glV (zV x0 x1 x2 x3 x4)))) (Rect.unit ![1, 0, 0] S1x512x512.size inb_S7x536x512_S1x512x512_1_0_0) :=
  congrArg (fun b : Vec F S7x536x512 .f32 => View.ld (Val := Elt F) b (Rect.unit ![1, 0, 0] S1x512x512.size inb_S7x536x512_S1x512x512_1_0_0)) (runB_H31 c a0 h0 a1 h1 a2 h2 a3 h3 a4 h4 a30 h30 a31 x0 x1 x2 x3 x4 x30 a31.view.junk)

theorem runB_v330 : runB.sl.v330 c a0 h0 a1 h1 a2 h2 a3 h3 a4 h4 a30 h30 a31 x0 x1 x2 x3 x4 x30 = View.ld (Val := Elt F) (shift (gbuf (top x30) (glV (zV x0 x1 x2 x3 x4)))) (Rect.unit ![2, 0, 0] S1x512x512.size inb_S7x536x512_S1x512x512_2_0_0) :=
  congrArg (fun b : Vec F S7x536x512 .f32 => View.ld (Val := Elt F) b (Rect.unit ![2, 0, 0] S1x512x512.size inb_S7x536x512_S1x512x512_2_0_0)) (runB_H31 c a0 h0 a1 h1 a2 h2 a3 h3 a4 h4 a30 h30 a31 x0 x1 x2 x3 x4 x30 a31.view.junk)

theorem runB_v337 : runB.sl.v337 c a0 h0 a1 h1 a2 h2 a3 h3 a4 h4 a30 h30 a31 x0 x1 x2 x3 x4 x30 = View.ld (Val := Elt F) (shift (gbuf (top x30) (glV (zV x0 x1 x2 x3 x4)))) (Rect.unit ![3, 0, 0] S1x512x512.size inb_S7x536x512_S1x512x512_3_0_0) :=
  congrArg (fun b : Vec F S7x536x512 .f32 => View.ld (Val := Elt F) b (Rect.unit ![3, 0, 0] S1x512x512.size inb_S7x536x512_S1x512x512_3_0_0)) (runB_H31 c a0 h0 a1 h1 a2 h2 a3 h3 a4 h4 a30 h30 a31 x0 x1 x2 x3 x4 x30 a31.view.junk)

theorem runB_v344 : runB.sl.v344 c a0 h0 a1 h1 a2 h2 a3 h3 a4 h4 a30 h30 a31 x0 x1 x2 x3 x4 x30 = View.ld (Val := Elt F) (shift (gbuf (top x30) (glV (zV x0 x1 x2 x3 x4)))) (Rect.unit ![4, 0, 0] S1x512x512.size inb_S7x536x512_S1x512x512_4_0_0) :=
  congrArg (fun b : Vec F S7x536x512 .f32 => View.ld (Val := Elt F) b (Rect.unit ![4, 0, 0] S1x512x512.size inb_S7x536x512_S1x512x512_4_0_0)) (runB_H31 c a0 h0 a1 h1 a2 h2 a3 h3 a4 h4 a30 h30 a31 x0 x1 x2 x3 x4 x30 a31.view.junk)

theorem runB_v351 : runB.sl.v351 c a0 h0 a1 h1 a2 h2 a3 h3 a4 h4 a30 h30 a31 x0 x1 x2 x3 x4 x30 = View.ld (Val := Elt F) (shift (gbuf (top x30) (glV (zV x0 x1 x2 x3 x4)))) (Rect.unit ![5, 0, 0] S1x512x512.size inb_S7x536x512_S1x512x512_5_0_0) :=
  congrArg (fun b : Vec F S7x536x512 .f32 => View.ld (Val := Elt F) b (Rect.unit ![5, 0, 0] S1x512x512.size inb_S7x536x512_S1x512x512_5_0_0)) (runB_H31 c a0 h0 a1 h1 a2 h2 a3 h3 a4 h4 a30 h30 a31 x0 x1 x2 x3 x4 x30 a31.view.junk)

theorem runB_v358 : runB.sl.v358 c a0 h0 a1 h1 a2 h2 a3 h3 a4 h4 a30 h30 a31 x0 x1 x2 x3 x4 x30 = View.ld (Val := Elt F) (shift (gbuf (top x30) (glV (zV x0 x1 x2 x3 x4)))) (Rect.unit ![6, 0, 0] S1x512x512.size inb_S7x536x512_S1x512x512_6_0_0) :=
  congrArg (fun b : Vec F S7x536x512 .f32 => View.ld (Val := Elt F) b (Rect.unit ![6, 0, 0] S1x512x512.size inb_S7x536x512_S1x512x512_6_0_0)) (runB_H31 c a0 h0 a1 h1 a2 h2 a3 h3 a4 h4 a30 h30 a31 x0 x1 x2 x3 x4 x30 a31.view.junk)

theorem runB_v371 : runB.sl.v371 c a0 h0 a1 h1 a2 h2 a3 h3 a4 h4 a30 h30 a31 x0 x1 x2 x3 x4 x30 = View.ld (Val := Elt F) (shift (gbuf (top x30) (glV (zV x0 x1 x2 x3 x4)))) (Rect.unit ![0, 8, 0] S1x512x512.size inb_S7x536x512_S1x512x512_0_8_0) :=
  congrArg (fun b : Vec F S7x536x512 .f32 => View.ld (Val := Elt F) b (Rect.unit ![0, 8, 0] S1x512x512.size inb_S7x536x512_S1x512x512_0_8_0)) (runB_H31 c a0 h0 a1 h1 a2 h2 a3 h3 a4 h4 a30 h30 a31 x0 x1 x2 x3 x4 x30 a31.view.junk)

theorem runB_v378 : runB.sl.v378 c a0 h0 a1 h1 a2 h2 a3 h3 a4 h4 a30 h30 a31 x0 x1 x2 x3 x4 x30 = View.ld (Val := Elt F) (shift (gbuf (top x30) (glV (zV x0 x1 x2 x3 x4)))) (Rect.unit ![1, 8, 0] S1x512x512.size inb_S7x536x512_S1x512x512_1_8_0) :=
  congrArg (fun b : Vec F S7x536x512 .f32 => View.ld (Val := Elt F) b (Rect.unit ![1, 8, 0] S1x512x512.size inb_S7x536x512_S1x512x512_1_8_0)) (runB_H31 c a0 h0 a1 h1 a2 h2 a3 h3 a4 h4 a30 h30 a31 x0 x1 x2 x3 x4 x30 a31.view.junk)

theorem runB_v385 : runB.sl.v385 c a0 h0 a1 h1 a2 h2 a3 h3 a4 h4 a30 h30 a31 x0 x1 x2 x3 x4 x30 = View.ld (Val := Elt F) (shift (gbuf (top x30) (glV (zV x0 x1 x2 x3 x4)))) (Rect.unit ![2, 8, 0] S1x512x512.size inb_S7x536x512_S1x512x512_2_8_0) :=
  congrArg (fun b : Vec F S7x536x512 .f32 => View.ld (Val := Elt F) b (Rect.unit ![2, 8, 0] S1x512x512.size inb_S7x536x512_S1x512x512_2_8_0)) (runB_H31 c a0 h0 a1 h1 a2 h2 a3 h3 a4 h4 a30 h30 a31 x0 x1 x2 x3 x4 x30 a31.view.junk)

theorem runB_v392 : runB.sl.v392 c a0 h0 a1 h1 a2 h2 a3 h3 a4 h4 a30 h30 a31 x0 x1 x2 x3 x4 x30 = View.ld (Val := Elt F) (shift (gbuf (top x30) (glV (zV x0 x1 x2 x3 x4)))) (Rect.unit ![3, 8, 0] S1x512x512.size inb_S7x536x512_S1x512x512_3_8_0) :=
  congrArg (fun b : Vec F S7x536x512 .f32 => View.ld (Val := Elt F) b (Rect.unit ![3, 8, 0] S1x512x512.size inb_S7x536x512_S1x512x512_3_8_0)) (runB_H31 c a0 h0 a1 h1 a2 h2 a3 h3 a4 h4 a30 h30 a31 x0 x1 x2 x3 x4 x30 a31.view.junk)

theorem runB_v399 : runB.sl.v399 c a0 h0 a1 h1 a2 h2 a3 h3 a4 h4 a30 h30 a31 x0 x1 x2 x3 x4 x30 = View.ld (Val := Elt F) (shift (gbuf (top x30) (glV (zV x0 x1 x2 x3 x4)))) (Rect.unit ![4, 8, 0] S1x512x512.size inb_S7x536x512_S1x512x512_4_8_0) :=
  congrArg (fun b : Vec F S7x536x512 .f32 => View.ld (Val := Elt F) b (Rect.unit ![4, 8, 0] S1x512x512.size inb_S7x536x512_S1x512x512_4_8_0)) (runB_H31 c a0 h0 a1 h1 a2 h2 a3 h3 a4 h4 a30 h30 a31 x0 x1 x2 x3 x4 x30 a31.view.junk)

theorem runB_v406 : runB.sl.v406 c a0 h0 a1 h1 a2 h2 a3 h3 a4 h4 a30 h30 a31 x0 x1 x2 x3 x4 x30 = View.ld (Val := Elt F) (shift (gbuf (top x30) (glV (zV x0 x1 x2 x3 x4)))) (Rect.unit ![5, 8, 0] S1x512x512.size inb_S7x536x512_S1x512x512_5_8_0) :=
  congrArg (fun b : Vec F S7x536x512 .f32 => View.ld (Val := Elt F) b (Rect.unit ![5, 8, 0] S1x512x512.size inb_S7x536x512_S1x512x512_5_8_0)) (runB_H31 c a0 h0 a1 h1 a2 h2 a3 h3 a4 h4 a30 h30 a31 x0 x1 x2 x3 x4 x30 a31.view.junk)

theorem runB_v413 : runB.sl.v413 c a0 h0 a1 h1 a2 h2 a3 h3 a4 h4 a30 h30 a31 x0 x1 x2 x3 x4 x30 = View.ld (Val := Elt F) (shift (gbuf (top x30) (glV (zV x0 x1 x2 x3 x4)))) (Rect.unit ![6, 8, 0] S1x512x512.size inb_S7x536x512_S1x512x512_6_8_0) :=
  congrArg (fun b : Vec F S7x536x512 .f32 => View.ld (Val := Elt F) b (Rect.unit ![6, 8, 0] S1x512x512.size inb_S7x536x512_S1x512x512_6_8_0)) (runB_H31 c a0 h0 a1 h1 a2 h2 a3 h3 a4 h4 a30 h30 a31 x0 x1 x2 x3 x4 x30 a31.view.junk)

theorem runB_v426 : runB.sl.v426 c a0 h0 a1 h1 a2 h2 a3 h3 a4 h4 a30 h30 a31 x0 x1 x2 x3 x4 x30 = View.ld (Val := Elt F) (shift (gbuf (top x30) (glV (zV x0 x1 x2 x3 x4)))) (Rect.unit ![0, 16, 0] S1x512x512.size inb_S7x536x512_S1x512x512_0_16_0) :=
  congrArg (fun b : Vec F S7x536x512 .f32 => View.ld (Val := Elt F) b (Rect.unit ![0, 16, 0] S1x512x512.size inb_S7x536x512_S1x512x512_0_16_0)) (runB_H31 c a0 h0 a1 h1 a2 h2 a3 h3 a4 h4 a30 h30 a31 x0 x1 x2 x3 x4 x30 a31.view.junk)

theorem runB_v433 : runB.sl.v433 c a0 h0 a1 h1 a2 h2 a3 h3 a4 h4 a30 h30 a31 x0 x1 x2 x3 x4 x30 = View.ld (Val := Elt F) (shift (gbuf (top x30) (glV (zV x0 x1 x2 x3 x4)))) (Rect.unit ![1, 16, 0] S1x512x512.size inb_S7x536x512_S1x512x512_1_16_0) :=
  congrArg (fun b : Vec F S7x536x512 .f32 => View.ld (Val := Elt F) b (Rect.unit ![1, 16, 0] S1x512x512.size inb_S7x536x512_S1x512x512_1_16_0)) (runB_H31 c a0 h0 a1 h1 a2 h2 a3 h3 a4 h4 a30 h30 a31 x0 x1 x2 x3 x4 x30 a31.view.junk)

theorem runB_v440 : runB.sl.v440 c a0 h0 a1 h1 a2 h2 a3 h3 a4 h4 a30 h30 a31 x0 x1 x2 x3 x4 x30 = View.ld (Val := Elt F) (shift (gbuf (top x30) (glV (zV x0 x1 x2 x3 x4)))) (Rect.unit ![2, 16, 0] S1x512x512.size inb_S7x536x512_S1x512x512_2_16_0) :=
  congrArg (fun b : Vec F S7x536x512 .f32 => View.ld (Val := Elt F) b (Rect.unit ![2, 16, 0] S1x512x512.size inb_S7x536x512_S1x512x512_2_16_0)) (runB_H31 c a0 h0 a1 h1 a2 h2 a3 h3 a4 h4 a30 h30 a31 x0 x1 x2 x3 x4 x30 a31.view.junk)

theorem runB_v447 : runB.sl.v447 c a0 h0 a1 h1 a2 h2 a3 h3 a4 h4 a30 h30 a31 x0 x1 x2 x3 x4 x30 = View.ld (Val := Elt F) (shift (gbuf (top x30) (glV (zV x0 x1 x2 x3 x4)))) (Rect.unit ![3, 16, 0] S1x512x512.size inb_S7x536x512_S1x512x512_3_16_0) :=
  congrArg (fun b : Vec F S7x536x512 .f32 => View.ld (Val := Elt F) b (Rect.unit ![3, 16, 0] S1x512x512.size inb_S7x536x512_S1x512x512_3_16_0)) (runB_H31 c a0 h0 a1 h1 a2 h2 a3 h3 a4 h4 a30 h30 a31 x0 x1 x2 x3 x4 x30 a31.view.junk)

theorem runB_v454 : runB.sl.v454 c a0 h0 a1 h1 a2 h2 a3 h3 a4 h4 a30 h30 a31 x0 x1 x2 x3 x4 x30 = View.ld (Val := Elt F) (shift (gbuf (top x30) (glV (zV x0 x1 x2 x3 x4)))) (Rect.unit ![4, 16, 0] S1x512x512.size inb_S7x536x512_S1x512x512_4_16_0) :=
  congrArg (fun b : Vec F S7x536x512 .f32 => View.ld (Val := Elt F) b (Rect.unit ![4, 16, 0] S1x512x512.size inb_S7x536x512_S1x512x512_4_16_0)) (runB_H31 c a0 h0 a1 h1 a2 h2 a3 h3 a4 h4 a30 h30 a31 x0 x1 x2 x3 x4 x30 a31.view.junk)

theorem runB_v461 : runB.sl.v461 c a0 h0 a1 h1 a2 h2 a3 h3 a4 h4 a30 h30 a31 x0 x1 x2 x3 x4 x30 = View.ld (Val := Elt F) (shift (gbuf (top x30) (glV (zV x0 x1 x2 x3 x4)))) (Rect.unit ![5, 16, 0] S1x512x512.size inb_S7x536x512_S1x512x512_5_16_0) :=
  congrArg (fun b : Vec F S7x536x512 .f32 => View.ld (Val := Elt F) b (Rect.unit ![5, 16, 0] S1x512x512.size inb_S7x536x512_S1x512x512_5_16_0)) (runB_H31 c a0 h0 a1 h1 a2 h2 a3 h3 a4 h4 a30 h30 a31 x0 x1 x2 x3 x4 x30 a31.view.junk)

theorem runB_v468 : runB.sl.v468 c a0 h0 a1 h1 a2 h2 a3 h3 a4 h4 a30 h30 a31 x0 x1 x2 x3 x4 x30 = View.ld (Val := Elt F) (shift (gbuf (top x30) (glV (zV x0 x1 x2 x3 x4)))) (Rect.unit ![6, 16, 0] S1x512x512.size inb_S7x536x512_S1x512x512_6_16_0) :=
  congrArg (fun b : Vec F S7x536x512 .f32 => View.ld (Val := Elt F) b (Rect.unit ![6, 16, 0] S1x512x512.size inb_S7x536x512_S1x512x512_6_16_0)) (runB_H31 c a0 h0 a1 h1 a2 h2 a3 h3 a4 h4 a30 h30 a31 x0 x1 x2 x3 x4 x30 a31.view.junk)

theorem runB_v481 : runB.sl.v481 c a0 h0 a1 h1 a2 h2 a3 h3 a4 h4 a30 h30 a31 x0 x1 x2 x3 x4 x30 = View.ld (Val := Elt F) (shift (gbuf (top x30) (glV (zV x0 x1 x2 x3 x4)))) (Rect.unit ![0, 24, 0] S1x512x512.size inb_S7x536x512_S1x512x512_0_24_0) :=
  congrArg (fun b : Vec F S7x536x512 .f32 => View.ld (Val := Elt F) b (Rect.unit ![0, 24, 0] S1x512x512.size inb_S7x536x512_S1x512x512_0_24_0)) (runB_H31 c a0 h0 a1 h1 a2 h2 a3 h3 a4 h4 a30 h30 a31 x0 x1 x2 x3 x4 x30 a31.view.junk)

theorem runB_v488 : runB.sl.v488 c a0 h0 a1 h1 a2 h2 a3 h3 a4 h4 a30 h30 a31 x0 x1 x2 x3 x4 x30 = View.ld (Val := Elt F) (shift (gbuf (top x30) (glV (zV x0 x1 x2 x3 x4)))) (Rect.unit ![1, 24, 0] S1x512x512.size inb_S7x536x512_S1x512x512_1_24_0) :=
  congrArg (fun b : Vec F S7x536x512 .f32 => View.ld (Val := Elt F) b (Rect.unit ![1, 24, 0] S1x512x512.size inb_S7x536x512_S1x512x512_1_24_0)) (runB_H31 c a0 h0 a1 h1 a2 h2 a3 h3 a4 h4 a30 h30 a31 x0 x1 x2 x3 x4 x30 a31.view.junk)

theorem runB_v495 : runB.sl.v495 c a0 h0 a1 h1 a2 h2 a3 h3 a4 h4 a30 h30 a31 x0 x1 x2 x3 x4 x30 = View.ld (Val := Elt F) (shift (gbuf (top x30) (glV (zV x0 x1 x2 x3 x4)))) (Rect.unit ![2, 24, 0] S1x512x512.size inb_S7x536x512_S1x512x512_2_24_0) :=
  congrArg (fun b : Vec F S7x536x512 .f32 => View.ld (Val := Elt F) b (Rect.unit ![2, 24, 0] S1x512x512.size inb_S7x536x512_S1x512x512_2_24_0)) (runB_H31 c a0 h0 a1 h1 a2 h2 a3 h3 a4 h4 a30 h30 a31 x0 x1 x2 x3 x4 x30 a31.view.junk)

theorem runB_v502 : runB.sl.v502 c a0 h0 a1 h1 a2 h2 a3 h3 a4 h4 a30 h30 a31 x0 x1 x2 x3 x4 x30 = View.ld (Val := Elt F) (shift (gbuf (top x30) (glV (zV x0 x1 x2 x3 x4)))) (Rect.unit ![3, 24, 0] S1x512x512.size inb_S7x536x512_S1x512x512_3_24_0) :=
  congrArg (fun b : Vec F S7x536x512 .f32 => View.ld (Val := Elt F) b (Rect.unit ![3, 24, 0] S1x512x512.size inb_S7x536x512_S1x512x512_3_24_0)) (runB_H31 c a0 h0 a1 h1 a2 h2 a3 h3 a4 h4 a30 h30 a31 x0 x1 x2 x3 x4 x30 a31.view.junk)

theorem runB_v509 : runB.sl.v509 c a0 h0 a1 h1 a2 h2 a3 h3 a4 h4 a30 h30 a31 x0 x1 x2 x3 x4 x30 = View.ld (Val := Elt F) (shift (gbuf (top x30) (glV (zV x0 x1 x2 x3 x4)))) (Rect.unit ![4, 24, 0] S1x512x512.size inb_S7x536x512_S1x512x512_4_24_0) :=
  congrArg (fun b : Vec F S7x536x512 .f32 => View.ld (Val := Elt F) b (Rect.unit ![4, 24, 0] S1x512x512.size inb_S7x536x512_S1x512x512_4_24_0)) (runB_H31 c a0 h0 a1 h1 a2 h2 a3 h3 a4 h4 a30 h30 a31 x0 x1 x2 x3 x4 x30 a31.view.junk)

theorem runB_v516 : runB.sl.v516 c a0 h0 a1 h1 a2 h2 a3 h3 a4 h4 a30 h30 a31 x0 x1 x2 x3 x4 x30 = View.ld (Val := Elt F) (shift (gbuf (top x30) (glV (zV x0 x1 x2 x3 x4)))) (Rect.unit ![5, 24, 0] S1x512x512.size inb_S7x536x512_S1x512x512_5_24_0) :=
  congrArg (fun b : Vec F S7x536x512 .f32 => View.ld (Val := Elt F) b (Rect.unit ![5, 24, 0] S1x512x512.size inb_S7x536x512_S1x512x512_5_24_0)) (runB_H31 c a0 h0 a1 h1 a2 h2 a3 h3 a4 h4 a30 h30 a31 x0 x1 x2 x3 x4 x30 a31.view.junk)

theorem runB_v523 : runB.sl.v523 c a0 h0 a1 h1 a2 h2 a3 h3 a4 h4 a30 h30 a31 x0 x1 x2 x3 x4 x30 = View.ld (Val := Elt F) (shift (gbuf (top x30) (glV (zV x0 x1 x2 x3 x4)))) (Rect.unit ![6, 24, 0] S1x512x512.size inb_S7x536x512_S1x512x512_6_24_0) :=
  congrArg (fun b : Vec F S7x536x512 .f32 => View.ld (Val := Elt F) b (Rect.unit ![6, 24, 0] S1x512x512.size inb_S7x536x512_S1x512x512_6_24_0)) (runB_H31 c a0 h0 a1 h1 a2 h2 a3 h3 a4 h4 a30 h30 a31 x0 x1 x2 x3 x4 x30 a31.view.junk)

theorem runA_s9 : runA.sl.r_9 c a0 h0 a1 h1 a2 h2 a3 h3 a4 h4 x0 x1 x2 x3 x4 = s9 (zV x0 x1 x2 x3 x4) := by
  simp only [runA.sl.r_9, runA_z, View.readAt_eq_ld, Memref.IsWhole.read_unread, s9]

theorem runA_s10 : runA.sl.r_10 c a0 h0 a1 h1 a2 h2 a3 h3 a4 h4 x0 x1 x2 x3 x4 = s10 (zV x0 x1 x2 x3 x4) := by
  simp only [runA.sl.r_10, runA_z, View.readAt_eq_ld, Memref.IsWhole.read_unread, s10]

theorem runA_s11 : runA.sl.r_11 c a0 h0 a1 h1 a2 h2 a3 h3 a4 h4 a5 h5 a6 h6 x0 x1 x2 x3 x4 x5 x6 = s11 (zV x0 x1 x2 x3 x4) x5 x6 := by
  simp only [runA.sl.r_11, runA_s10, runA_s9, View.readAt_eq_ld, Memref.IsWhole.read_unread, s11]

theorem runA_s12 : runA.sl.r_12 c a0 h0 a1 h1 a2 h2 a3 h3 a4 h4 a5 h5 a6 h6 x0 x1 x2 x3 x4 x5 x6 = s12 (zV x0 x1 x2 x3 x4) x5 x6 := by
  simp only [runA.sl.r_12, runA_s10, runA_s9, View.readAt_eq_ld, Memref.IsWhole.read_unread, s12]

theorem runA_s13 : runA.sl.r_13 c a0 h0 a1 h1 a2 h2 a3 h3 a4 h4 a5 h5 a6 h6 a7 h7 x0 x1 x2 x3 x4 x5 x6 x7 = s13 (zV x0 x1 x2 x3 x4) x5 x6 x7 := by
  simp only [runA.sl.r_13, runA_s10, runA_s9, View.readAt_eq_ld, Memref.IsWhole.read_unread, s13]

theorem runA_s14 : runA.sl.r_14 c a0 h0 a1 h1 a2 h2 a3 h3 a4 h4 a5 h5 a6 h6 a7 h7 x0 x1 x2 x3 x4 x5 x6 x7 = s14 (zV x0 x1 x2 x3 x4) x5 x6 x7 := by
  simp only [runA.sl.r_14, runA_s10, runA_s9, View.readAt_eq_ld, Memref.IsWhole.read_unread, s14]

theorem runA_s15 : runA.sl.r_15 c a0 h0 a1 h1 a2 h2 a3 h3 a4 h4 a5 h5 a6 h6 a7 h7 x0 x1 x2 x3 x4 x5 x6 x7 = s15 (zV x0 x1 x2 x3 x4) x5 x6 x7 := by
  simp only [runA.sl.r_15, runA_s10, runA_s9, View.readAt_eq_ld, Memref.IsWhole.read_unread, s15]

theorem runA_s16 : runA.sl.r_16 c a0 h0 a1 h1 a2 h2 a3 h3 a4 h4 a5 h5 a6 h6 a7 h7 a8 h8 x0 x1 x2 x3 x4 x5 x6 x7 x8 = s16 (zV x0 x1 x2 x3 x4) x5 x6 x7 x8 := by
  simp only [runA.sl.r_16, runA_s12, runA_s13, runA_s14, runA_s15, View.readAt_eq_ld, Memref.IsWhole.read_unread, s16]

theorem runA_s17 : runA.sl.r_17 c a0 h0 a1 h1 a2 h2 a3 h3 a4 h4 a5 h5 a6 h6 x0 x1 x2 x3 x4 x5 x6 = s17 (zV x0 x1 x2 x3 x4) x5 x6 := by
  simp only [runA.sl.r_17, runA_s11, View.readAt_eq_ld, Memref.IsWhole.read_unread, s17]

theorem runA_s18 : runA.sl.r_18 c a0 h0 a1 h1 a2 h2 a3 h3 a4 h4 a5 h5 a6 h6 a7 h7 x0 x1 x2 x3 x4 x5 x6 x7 = s18 (zV x0 x1 x2 x3 x4) x5 x6 x7 := by
  simp only [runA.sl.r_18, runA_s11, View.readAt_eq_ld, Memref.IsWhole.read_unread, s18]

theorem runA_s19 : runA.sl.r_19 c a0 h0 a1 h1 a2 h2 a3 h3 a4 h4 a5 h5 a6 h6 x0 x1 x2 x3 x4 x5 x6 = s19 (zV x0 x1 x2 x3 x4) x5 x6 := by
  simp only [runA.sl.r_19, runA_s11, View.readAt_eq_ld, Memref.IsWhole.read_unread, s19]

theorem runA_s20 : runA.sl.r_20 c a0 h0 a1 h1 a2 h2 a3 h3 a4 h4 a5 h5 a6 h6 a7 h7 x0 x1 x2 x3 x4 x5 x6 x7 = s20 (zV x0 x1 x2 x3 x4) x5 x6 x7 := by
  simp only [runA.sl.r_20, runA_s11, View.readAt_eq_ld, Memref.IsWhole.read_unread, s20]

theorem runA_s22 : runA.sl.r_22 c a0 h0 a1 h1 a2 h2 a3 h3 a4 h4 a5 h5 a6 h6 a7 h7 a8 h8 x0 x1 x2 x3 x4 x5 x6 x7 x8 = s22 (zV x0 x1 x2 x3 x4) x5 x6 x7 x8 := by
  simp only [runA.sl.r_22, runA_s17, runA_s18, runA_s19, runA_s20, runA.sl.r_21, View.readAt_eq_ld, Memref.IsWhole.read_unread, s22]

theorem runA_s23 : runA.sl.r_23 c a0 h0 a1 h1 a2 h2 a3 h3 a4 h4 a5 h5 a6 h6 x0 x1 x2 x3 x4 x5 x6 = s23 (zV x0 x1 x2 x3 x4) x5 x6 := by
  simp only [runA.sl.r_23, runA_s11, View.readAt_eq_ld, Memref.IsWhole.read_unread, s23]

theorem runA_s24 : runA.sl.r_24 c a0 h0 a1 h1 a2 h2 a3 h3 a4 h4 a5 h5 a6 h6 a7 h7 x0 x1 x2 x3 x4 x5 x6 x7 = s24 (zV x0 x1 x2 x3 x4) x5 x6 x7 := by
  simp only [runA.sl.r_24, runA_s11, View.readAt_eq_ld, Memref.IsWhole.read_unread, s24]

theorem runA_s25 : runA.sl.r_25 c a0 h0 a1 h1 a2 h2 a3 h3 a4 h4 a5 h5 a6 h6 x0 x1 x2 x3 x4 x5 x6 = s25 (zV x0 x1 x2 x3 x4) x5 x6 := by
  simp only [runA.sl.r_25, runA_s11, View.readAt_eq_ld, Memref.IsWhole.read_unread, s25]

theorem runA_s26 : runA.sl.r_26 c a0 h0 a1 h1 a2 h2 a3 h3 a4 h4 a5 h5 a6 h6 a7 h7 x0 x1 x2 x3 x4 x5 x6 x7 = s26 (zV x0 x1 x2 x3 x4) x5 x6 x7 := by
  simp only [runA.sl.r_26, runA_s11, View.readAt_eq_ld, Memref.IsWhole.read_unread, s26]

theorem runA_s27 : runA.sl.r_27 c a0 h0 a1 h1 a2 h2 a3 h3 a4 h4 a5 h5 a6 h6 a7 h7 a8 h8 x0 x1 x2 x3 x4 x5 x6 x7 x8 = s27 (zV x0 x1 x2 x3 x4) x5 x6 x7 x8 := by
  simp only [runA.sl.r_27, runA_s23, runA_s24, runA_s25, runA_s26, View.readAt_eq_ld, Memref.IsWhole.read_unread, s27]

theorem runA_s28 : runA.sl.r_28 c a0 h0 a1 h1 a2 h2 a3 h3 a4 h4 a5 h5 a6 h6 x0 x1 x2 x3 x4 x5 x6 = s28 (zV x0 x1 x2 x3 x4) x5 x6 := by
  simp only [runA.sl.r_28, runA_s11, View.readAt_eq_ld, Memref.IsWhole.read_unread, s28]

theorem runA_s29 : runA.sl.r_29 c a0 h0 a1 h1 a2 h2 a3 h3 a4 h4 a5 h5 a6 h6 a7 h7 x0 x1 x2 x3 x4 x5 x6 x7 = s29 (zV x0 x1 x2 x3 x4) x5 x6 x7 := by
  simp only [runA.sl.r_29, runA_s11, View.readAt_eq_ld, Memref.IsWhole.read_unread, s29]

theorem runA_s30 : runA.sl.r_30 c a0 h0 a1 h1 a2 h2 a3 h3 a4 h4 a5 h5 a6 h6 x0 x1 x2 x3 x4 x5 x6 = s30 (zV x0 x1 x2 x3 x4) x5 x6 := by
  simp only [runA.sl.r_30, runA_s11, View.readAt_eq_ld, Memref.IsWhole.read_unread, s30]

theorem runA_s32 : runA.sl.r_32 c a0 h0 a1 h1 a2 h2 a3 h3 a4 h4 a5 h5 a6 h6 a7 h7 a8 h8 x0 x1 x2 x3 x4 x5 x6 x7 x8 = s32 (zV x0 x1 x2 x3 x4) (guV x0 x1 x2 x3 x4) x5 x6 x7 x8 := by
  simp only [runA.sl.r_32, runA_s16, runA_s22, runA_s27, runA_s28, runA_s29, runA_s30, runA.sl.r_31, runA_u, View.readAt_eq_ld, Memref.IsWhole.read_unread, s32]

theorem runA_s33 : runA.sl.r_33 c a0 h0 a1 h1 a2 h2 a3 h3 a4 h4 x0 x1 x2 x3 x4 = s33 (zV x0 x1 x2 x3 x4) := by
  simp only [runA.sl.r_33, runA_z, View.readAt_eq_ld, Memref.IsWhole.read_unread, s33]

theorem runA_s34 : runA.sl.r_34 c a0 h0 a1 h1 a2 h2 a3 h3 a4 h4 x0 x1 x2 x3 x4 = s34 (zV x0 x1 x2 x3 x4) := by
  simp only [runA.sl.r_34, runA_z, View.readAt_eq_ld, Memref.IsWhole.read_unread, s34]

theorem runA_s35 : runA.sl.r_35 c a0 h0 a1 h1 a2 h2 a3 h3 a4 h4 x0 x1 x2 x3 x4 = s35 (zV x0 x1 x2 x3 x4) := by
  simp only [runA.sl.r_35, runA.sl.cst_173, runA_s33, runA_s34, View.readAt_eq_ld, Memref.IsWhole.read_unread, s35]

theorem runA_s36 : runA.sl.r_36 c a0 h0 a1 h1 a2 h2 a3 h3 a4 h4 a9 h9 a10 h10 a30 a31 x0 x1 x2 x3 x4 x9 x10 = s36 (gbuf k0_pay50 (glV (zV x0 x1 x2 x3 x4))) x9 x10 := by
  simp only [runA.sl.r_36, runA_v323, runA_v330, View.readAt_eq_ld, Memref.IsWhole.read_unread, s36]

theorem runA_s37 : runA.sl.r_37 c a9 h9 x9 = s37 x9 := by
  simp only [runA.sl.r_37, View.readAt_eq_ld, Memref.IsWhole.read_unread, s37]

theorem runA_s38 : runA.sl.r_38 c a0 h0 a1 h1 a2 h2 a3 h3 a4 h4 a9 h9 a10 h10 a30 a31 x0 x1 x2 x3 x4 x9 x10 = s38 (gbuf k0_pay50 (glV (zV x0 x1 x2 x3 x4))) x9 x10 := by
  simp only [runA.sl.r_38, runA_s36, runA_s37, runA_v337, runA_v344, runA_v351, runA_v358, runA_v365, View.readAt_eq_ld, Memref.IsWhole.read_unread, s38]

theorem runA_s39 : runA.sl.r_39 c a9 h9 x9 = s39 x9 := by
  simp only [runA.sl.r_39, View.readAt_eq_ld, Memref.IsWhole.read_unread, s39]

theorem runA_s40 : runA.sl.r_40 c a0 h0 a1 h1 a2 h2 a3 h3 a4 h4 a9 h9 a10 h10 a30 a31 x0 x1 x2 x3 x4 x9 x10 = s40 (gbuf k0_pay50 (glV (zV x0 x1 x2 x3 x4))) x9 x10 := by
  simp only [runA.sl.r_40, runA_s38, runA_s39, runA_v371, runA_v378, runA_v385, runA_v392, runA_v399, View.readAt_eq_ld, Memref.IsWhole.read_unread, s40]

theorem runA_s41 : runA.sl.r_41 c a9 h9 x9 = s41 x9 := by
  simp only [runA.sl.r_41, View.readAt_eq_ld, Memref.IsWhole.read_unread, s41]

theorem runA_s42 : runA.sl.r_42 c a0 h0 a1 h1 a2 h2 a3 h3 a4 h4 a9 h9 a10 h10 a30 a31 x0 x1 x2 x3 x4 x9 x10 = s42 (gbuf k0_pay50 (glV (zV x0 x1 x2 x3 x4))) x9 x10 := by
  simp only [runA.sl.r_42, runA_s40, runA_s41, runA_v406, runA_v413, runA_v420, runA_v426, runA_v433, View.readAt_eq_ld, Memref.IsWhole.read_unread, s42]

theorem runA_s43 : runA.sl.r_43 c a9 h9 x9 = s43 x9 := by
  simp only [runA.sl.r_43, View.readAt_eq_ld, Memref.IsWhole.read_unread, s43]

theorem runA_s44 : runA.sl.r_44 c a0 h0 a1 h1 a2 h2 a3 h3 a4 h4 a9 h9 a10 h10 a30 a31 x0 x1 x2 x3 x4 x9 x10 = s44 (gbuf k0_pay50 (glV (zV x0 x1 x2 x3 x4))) x9 x10 := by
  simp only [runA.sl.r_44, runA_s42, runA_s43, runA_v440, runA_v447, runA_v454, runA_v461, runA_v468, View.readAt_eq_ld, Memref.IsWhole.read_unread, s44]

theorem runA_s45 : runA.sl.r_45 c a9 h9 x9 = s45 x9 := by
  simp only [runA.sl.r_45, View.readAt_eq_ld, Memref.IsWhole.read_unread, s45]

theorem runA_s46 : runA.sl.r_46 c a0 h0 a1 h1 a2 h2 a3 h3 a4 h4 a9 h9 a10 h10 a30 a31 x0 x1 x2 x3 x4 x9 x10 = s46 (gbuf k0_pay50 (glV (zV x0 x1 x2 x3 x4))) x9 x10 := by
  simp only [runA.sl.r_46, runA_s44, runA_s45, runA_v475, runA_v481, runA_v488, runA_v495, runA_v502, View.readAt_eq_ld, Memref.IsWhole.read_unread, s46]

theorem runA_s47 : runA.sl.r_47 c a0 h0 a1 h1 a2 h2 a3 h3 a4 h4 a30 a31 x0 x1 x2 x3 x4 = s47 (gbuf k0_pay50 (glV (zV x0 x1 x2 x3 x4))) := by
  simp only [runA.sl.r_47, runA_v509, View.readAt_eq_ld, Memref.IsWhole.read_unread, s47]

theorem runA_s48 : runA.sl.r_48 c a9 h9 x9 = s48 x9 := by
  simp only [runA.sl.r_48, View.readAt_eq_ld, Memref.IsWhole.read_unread, s48]

theorem runA_s49 : runA.sl.r_49 c a16 h16 x16 = s49 x16 := by
  simp only [runA.sl.r_49, View.readAt_eq_ld, Memref.IsWhole.read_unread, s49]

theorem runA_s50 : runA.sl.r_50 c a0 h0 a1 h1 a2 h2 a3 h3 a4 h4 a9 h9 a10 h10 a16 h16 a30 a31 x0 x1 x2 x3 x4 x9 x10 x16 = s50 (gbuf k0_pay50 (glV (zV x0 x1 x2 x3 x4))) x9 x10 x16 := by
  simp only [runA.sl.r_50, runA_s46, runA_s47, runA_s48, runA_v516, runA_v523, runA_v530, View.readAt_eq_ld, Memref.IsWhole.read_unread, s50]

theorem runA_s51 : runA.sl.r_51 c a0 h0 a1 h1 a2 h2 a3 h3 a4 h4 a9 h9 a10 h10 a16 h16 a30 a31 x0 x1 x2 x3 x4 x9 x10 x16 = s51 (gbuf k0_pay50 (glV (zV x0 x1 x2 x3 x4))) x9 x10 x16 := by
  simp only [runA.sl.r_51, runA_s46, runA_s47, runA_s48, runA_v516, runA_v523, runA_v530, View.readAt_eq_ld, Memref.IsWhole.read_unread, s51]

theorem runA_s52 : runA.sl.r_52 c a0 h0 a1 h1 a2 h2 a3 h3 a4 h4 a9 h9 a10 h10 a16 h16 a30 a31 x0 x1 x2 x3 x4 x9 x10 x16 = s52 (gbuf k0_pay50 (glV (zV x0 x1 x2 x3 x4))) x9 x10 x16 := by
  simp only [runA.sl.r_52, runA_s46, runA_s47, runA_s48, runA_v516, runA_v523, runA_v530, View.readAt_eq_ld, Memref.IsWhole.read_unread, s52]

theorem runA_s53 : runA.sl.r_53 c a0 h0 a1 h1 a2 h2 a3 h3 a4 h4 a9 h9 a10 h10 a16 h16 a30 a31 x0 x1 x2 x3 x4 x9 x10 x16 = s53 (gbuf k0_pay50 (glV (zV x0 x1 x2 x3 x4))) x9 x10 x16 := by
  simp only [runA.sl.r_53, runA_s46, runA_s47, runA_s48, runA_v516, runA_v523, runA_v530, View.readAt_eq_ld, Memref.IsWhole.read_unread, s53]

theorem runA_s54 : runA.sl.r_54 c a0 h0 a1 h1 a2 h2 a3 h3 a4 h4 a9 h9 a10 h10 a11 h11 a12 h12 a16 h16 a30 a31 x0 x1 x2 x3 x4 x9 x10 x11 x12 x16 = s54 (gbuf k0_pay50 (glV (zV x0 x1 x2 x3 x4))) x9 x10 x11 x12 x16 := by
  simp only [runA.sl.r_54, runA_s49, runA_s50, runA_s51, runA_s52, runA_s53, View.readAt_eq_ld, Memref.IsWhole.read_unread, s54]

theorem runA_s55 : runA.sl.r_55 c a0 h0 a1 h1 a2 h2 a3 h3 a4 h4 a5 h5 a6 h6 a7 h7 a8 h8 a13 h13 x0 x1 x2 x3 x4 x5 x6 x7 x8 x13 = s55 (zV x0 x1 x2 x3 x4) (guV x0 x1 x2 x3 x4) x5 x6 x7 x8 x13 := by
  simp only [runA.sl.r_55, runA_s32, View.readAt_eq_ld, Memref.IsWhole.read_unread, s55]

theorem runA_s56 : runA.sl.r_56 c a0 h0 a1 h1 a2 h2 a3 h3 a4 h4 a9 h9 a10 h10 a11 h11 a12 h12 a16 h16 a30 a31 x0 x1 x2 x3 x4 x9 x10 x11 x12 x16 = s56 (gbuf k0_pay50 (glV (zV x0 x1 x2 x3 x4))) x9 x10 x11 x12 x16 := by
  simp only [runA.sl.r_56, runA_s49, runA_s50, runA_s51, runA_s52, runA_s53, View.readAt_eq_ld, Memref.IsWhole.read_unread, s56]

theorem runB_s9 : runB.sl.r_9 c a0 h0 a1 h1 a2 h2 a3 h3 a4 h4 x0 x1 x2 x3 x4 = s9 (zV x0 x1 x2 x3 x4) := by
  simp only [runB.sl.r_9, runB_z, View.readAt_eq_ld, Memref.IsWhole.read_unread, s9]

theorem runB_s10 : runB.sl.r_10 c a0 h0 a1 h1 a2 h2 a3 h3 a4 h4 x0 x1 x2 x3 x4 = s10 (zV x0 x1 x2 x3 x4) := by
  simp only [runB.sl.r_10, runB_z, View.readAt_eq_ld, Memref.IsWhole.read_unread, s10]

theorem runB_s11 : runB.sl.r_11 c a0 h0 a1 h1 a2 h2 a3 h3 a4 h4 a5 h5 a6 h6 x0 x1 x2 x3 x4 x5 x6 = s11 (zV x0 x1 x2 x3 x4) x5 x6 := by
  simp only [runB.sl.r_11, runB_s10, runB_s9, View.readAt_eq_ld, Memref.IsWhole.read_unread, s11]

theorem runB_s12 : runB.sl.r_12 c a0 h0 a1 h1 a2 h2 a3 h3 a4 h4 a5 h5 a6 h6 x0 x1 x2 x3 x4 x5 x6 = s12 (zV x0 x1 x2 x3 x4) x5 x6 := by
  simp only [runB.sl.r_12, runB_s10, runB_s9, View.readAt_eq_ld, Memref.IsWhole.read_unread, s12]

theorem runB_s13 : runB.sl.r_13 c a0 h0 a1 h1 a2 h2 a3 h3 a4 h4 a5 h5 a6 h6 a7 h7 x0 x1 x2 x3 x4 x5 x6 x7 = s13 (zV x0 x1 x2 x3 x4) x5 x6 x7 := by
  simp only [runB.sl.r_13, runB_s10, runB_s9, View.readAt_eq_ld, Memref.IsWhole.read_unread, s13]

theorem runB_s14 : runB.sl.r_14 c a0 h0 a1 h1 a2 h2 a3 h3 a4 h4 a5 h5 a6 h6 a7 h7 x0 x1 x2 x3 x4 x5 x6 x7 = s14 (zV x0 x1 x2 x3 x4) x5 x6 x7 := by
  simp only [runB.sl.r_14, runB_s10, runB_s9, View.readAt_eq_ld, Memref.IsWhole.read_unread, s14]

theorem runB_s15 : runB.sl.r_15 c a0 h0 a1 h1 a2 h2 a3 h3 a4 h4 a5 h5 a6 h6 a7 h7 x0 x1 x2 x3 x4 x5 x6 x7 = s15 (zV x0 x1 x2 x3 x4) x5 x6 x7 := by
  simp only [runB.sl.r_15, runB_s10, runB_s9, View.readAt_eq_ld, Memref.IsWhole.read_unread, s15]

theorem runB_s16 : runB.sl.r_16 c a0 h0 a1 h1 a2 h2 a3 h3 a4 h4 a5 h5 a6 h6 a7 h7 a8 h8 x0 x1 x2 x3 x4 x5 x6 x7 x8 = s16 (zV x0 x1 x2 x3 x4) x5 x6 x7 x8 := by
  simp only [runB.sl.r_16, runB_s12, runB_s13, runB_s14, runB_s15, View.readAt_eq_ld, Memref.IsWhole.read_unread, s16]

theorem runB_s17 : runB.sl.r_17 c a0 h0 a1 h1 a2 h2 a3 h3 a4 h4 a5 h5 a6 h6 x0 x1 x2 x3 x4 x5 x6 = s17 (zV x0 x1 x2 x3 x4) x5 x6 := by
  simp only [runB.sl.r_17, runB_s11, View.readAt_eq_ld, Memref.IsWhole.read_unread, s17]

theorem runB_s18 : runB.sl.r_18 c a0 h0 a1 h1 a2 h2 a3 h3 a4 h4 a5 h5 a6 h6 a7 h7 x0 x1 x2 x3 x4 x5 x6 x7 = s18 (zV x0 x1 x2 x3 x4) x5 x6 x7 := by
  simp only [runB.sl.r_18, runB_s11, View.readAt_eq_ld, Memref.IsWhole.read_unread, s18]

theorem runB_s19 : runB.sl.r_19 c a0 h0 a1 h1 a2 h2 a3 h3 a4 h4 a5 h5 a6 h6 x0 x1 x2 x3 x4 x5 x6 = s19 (zV x0 x1 x2 x3 x4) x5 x6 := by
  simp only [runB.sl.r_19, runB_s11, View.readAt_eq_ld, Memref.IsWhole.read_unread, s19]

theorem runB_s20 : runB.sl.r_20 c a0 h0 a1 h1 a2 h2 a3 h3 a4 h4 a5 h5 a6 h6 a7 h7 x0 x1 x2 x3 x4 x5 x6 x7 = s20 (zV x0 x1 x2 x3 x4) x5 x6 x7 := by
  simp only [runB.sl.r_20, runB_s11, View.readAt_eq_ld, Memref.IsWhole.read_unread, s20]

theorem runB_s22 : runB.sl.r_22 c a0 h0 a1 h1 a2 h2 a3 h3 a4 h4 a5 h5 a6 h6 a7 h7 a8 h8 x0 x1 x2 x3 x4 x5 x6 x7 x8 = s22 (zV x0 x1 x2 x3 x4) x5 x6 x7 x8 := by
  simp only [runB.sl.r_22, runB_s17, runB_s18, runB_s19, runB_s20, runB.sl.r_21, View.readAt_eq_ld, Memref.IsWhole.read_unread, s22]

theorem runB_s23 : runB.sl.r_23 c a0 h0 a1 h1 a2 h2 a3 h3 a4 h4 a5 h5 a6 h6 x0 x1 x2 x3 x4 x5 x6 = s23 (zV x0 x1 x2 x3 x4) x5 x6 := by
  simp only [runB.sl.r_23, runB_s11, View.readAt_eq_ld, Memref.IsWhole.read_unread, s23]

theorem runB_s24 : runB.sl.r_24 c a0 h0 a1 h1 a2 h2 a3 h3 a4 h4 a5 h5 a6 h6 a7 h7 x0 x1 x2 x3 x4 x5 x6 x7 = s24 (zV x0 x1 x2 x3 x4) x5 x6 x7 := by
  simp only [runB.sl.r_24, runB_s11, View.readAt_eq_ld, Memref.IsWhole.read_unread, s24]

theorem runB_s25 : runB.sl.r_25 c a0 h0 a1 h1 a2 h2 a3 h3 a4 h4 a5 h5 a6 h6 x0 x1 x2 x3 x4 x5 x6 = s25 (zV x0 x1 x2 x3 x4) x5 x6 := by
  simp only [runB.sl.r_25, runB_s11, View.readAt_eq_ld, Memref.IsWhole.read_unread, s25]

theorem runB_s26 : runB.sl.r_26 c a0 h0 a1 h1 a2 h2 a3 h3 a4 h4 a5 h5 a6 h6 a7 h7 x0 x1 x2 x3 x4 x5 x6 x7 = s26 (zV x0 x1 x2 x3 x4) x5 x6 x7 := by
  simp only [runB.sl.r_26, runB_s11, View.readAt_eq_ld, Memref.IsWhole.read_unread, s26]

theorem runB_s27 : runB.sl.r_27 c a0 h0 a1 h1 a2 h2 a3 h3 a4 h4 a5 h5 a6 h6 a7 h7 a8 h8 x0 x1 x2 x3 x4 x5 x6 x7 x8 = s27 (zV x0 x1 x2 x3 x4) x5 x6 x7 x8 := by
  simp only [runB.sl.r_27, runB_s23, runB_s24, runB_s25, runB_s26, View.readAt_eq_ld, Memref.IsWhole.read_unread, s27]

theorem runB_s28 : runB.sl.r_28 c a0 h0 a1 h1 a2 h2 a3 h3 a4 h4 a5 h5 a6 h6 x0 x1 x2 x3 x4 x5 x6 = s28 (zV x0 x1 x2 x3 x4) x5 x6 := by
  simp only [runB.sl.r_28, runB_s11, View.readAt_eq_ld, Memref.IsWhole.read_unread, s28]

theorem runB_s29 : runB.sl.r_29 c a0 h0 a1 h1 a2 h2 a3 h3 a4 h4 a5 h5 a6 h6 a7 h7 x0 x1 x2 x3 x4 x5 x6 x7 = s29 (zV x0 x1 x2 x3 x4) x5 x6 x7 := by
  simp only [runB.sl.r_29, runB_s11, View.readAt_eq_ld, Memref.IsWhole.read_unread, s29]

theorem runB_s30 : runB.sl.r_30 c a0 h0 a1 h1 a2 h2 a3 h3 a4 h4 a5 h5 a6 h6 x0 x1 x2 x3 x4 x5 x6 = s30 (zV x0 x1 x2 x3 x4) x5 x6 := by
  simp only [runB.sl.r_30, runB_s11, View.readAt_eq_ld, Memref.IsWhole.read_unread, s30]

theorem runB_s32 : runB.sl.r_32 c a0 h0 a1 h1 a2 h2 a3 h3 a4 h4 a5 h5 a6 h6 a7 h7 a8 h8 x0 x1 x2 x3 x4 x5 x6 x7 x8 = s32 (zV x0 x1 x2 x3 x4) (guV x0 x1 x2 x3 x4) x5 x6 x7 x8 := by
  simp only [runB.sl.r_32, runB_s16, runB_s22, runB_s27, runB_s28, runB_s29, runB_s30, runB.sl.r_31, runB_u, View.readAt_eq_ld, Memref.IsWhole.read_unread, s32]

theorem runB_s33 : runB.sl.r_33 c a0 h0 a1 h1 a2 h2 a3 h3 a4 h4 x0 x1 x2 x3 x4 = s33 (zV x0 x1 x2 x3 x4) := by
  simp only [runB.sl.r_33, runB_z, View.readAt_eq_ld, Memref.IsWhole.read_unread, s33]

theorem runB_s34 : runB.sl.r_34 c a0 h0 a1 h1 a2 h2 a3 h3 a4 h4 x0 x1 x2 x3 x4 = s34 (zV x0 x1 x2 x3 x4) := by
  simp only [runB.sl.r_34, runB_z, View.readAt_eq_ld, Memref.IsWhole.read_unread, s34]

theorem runB_s35 : runB.sl.r_35 c a0 h0 a1 h1 a2 h2 a3 h3 a4 h4 x0 x1 x2 x3 x4 = s35 (zV x0 x1 x2 x3 x4) := by
  simp only [runB.sl.r_35, runB.sl.cst_173, runB_s33, runB_s34, View.readAt_eq_ld, Memref.IsWhole.read_unread, s35]

theorem runB_s36 : runB.sl.r_36 c a0 h0 a1 h1 a2 h2 a3 h3 a4 h4 a9 h9 a10 h10 a30 h30 a31 x0 x1 x2 x3 x4 x9 x10 x30 = s36 (gbuf (top x30) (glV (zV x0 x1 x2 x3 x4))) x9 x10 := by
  simp only [runB.sl.r_36, runB_v323, runB_v330, View.readAt_eq_ld, Memref.IsWhole.read_unread, s36]

theorem runB_s37 : runB.sl.r_37 c a9 h9 x9 = s37 x9 := by
  simp only [runB.sl.r_37, View.readAt_eq_ld, Memref.IsWhole.read_unread, s37]

theorem runB_s38 : runB.sl.r_38 c a0 h0 a1 h1 a2 h2 a3 h3 a4 h4 a9 h9 a10 h10 a30 h30 a31 x0 x1 x2 x3 x4 x9 x10 x30 = s38 (gbuf (top x30) (glV (zV x0 x1 x2 x3 x4))) x9 x10 := by
  simp only [runB.sl.r_38, runB_s36, runB_s37, runB_v337, runB_v344, runB_v351, runB_v358, runB_v365, View.readAt_eq_ld, Memref.IsWhole.read_unread, s38]

theorem runB_s39 : runB.sl.r_39 c a9 h9 x9 = s39 x9 := by
  simp only [runB.sl.r_39, View.readAt_eq_ld, Memref.IsWhole.read_unread, s39]

theorem runB_s40 : runB.sl.r_40 c a0 h0 a1 h1 a2 h2 a3 h3 a4 h4 a9 h9 a10 h10 a30 h30 a31 x0 x1 x2 x3 x4 x9 x10 x30 = s40 (gbuf (top x30) (glV (zV x0 x1 x2 x3 x4))) x9 x10 := by
  simp only [runB.sl.r_40, runB_s38, runB_s39, runB_v371, runB_v378, runB_v385, runB_v392, runB_v399, View.readAt_eq_ld, Memref.IsWhole.read_unread, s40]

theorem runB_s41 : runB.sl.r_41 c a9 h9 x9 = s41 x9 := by
  simp only [runB.sl.r_41, View.readAt_eq_ld, Memref.IsWhole.read_unread, s41]

theorem runB_s42 : runB.sl.r_42 c a0 h0 a1 h1 a2 h2 a3 h3 a4 h4 a9 h9 a10 h10 a30 h30 a31 x0 x1 x2 x3 x4 x9 x10 x30 = s42 (gbuf (top x30) (glV (zV x0 x1 x2 x3 x4))) x9 x10 := by
  simp only [runB.sl.r_42, runB_s40, runB_s41, runB_v406, runB_v413, runB_v420, runB_v426, runB_v433, View.readAt_eq_ld, Memref.IsWhole.read_unread, s42]

theorem runB_s43 : runB.sl.r_43 c a9 h9 x9 = s43 x9 := by
  simp only [runB.sl.r_43, View.readAt_eq_ld, Memref.IsWhole.read_unread, s43]

theorem runB_s44 : runB.sl.r_44 c a0 h0 a1 h1 a2 h2 a3 h3 a4 h4 a9 h9 a10 h10 a30 h30 a31 x0 x1 x2 x3 x4 x9 x10 x30 = s44 (gbuf (top x30) (glV (zV x0 x1 x2 x3 x4))) x9 x10 := by
  simp only [runB.sl.r_44, runB_s42, runB_s43, runB_v440, runB_v447, runB_v454, runB_v461, runB_v468, View.readAt_eq_ld, Memref.IsWhole.read_unread, s44]

theorem runB_s45 : runB.sl.r_45 c a9 h9 x9 = s45 x9 := by
  simp only [runB.sl.r_45, View.readAt_eq_ld, Memref.IsWhole.read_unread, s45]

theorem runB_s46 : runB.sl.r_46 c a0 h0 a1 h1 a2 h2 a3 h3 a4 h4 a9 h9 a10 h10 a30 h30 a31 x0 x1 x2 x3 x4 x9 x10 x30 = s46 (gbuf (top x30) (glV (zV x0 x1 x2 x3 x4))) x9 x10 := by
  simp only [runB.sl.r_46, runB_s44, runB_s45, runB_v475, runB_v481, runB_v488, runB_v495, runB_v502, View.readAt_eq_ld, Memref.IsWhole.read_unread, s46]

theorem runB_s47 : runB.sl.r_47 c a0 h0 a1 h1 a2 h2 a3 h3 a4 h4 a30 h30 a31 x0 x1 x2 x3 x4 x30 = s47 (gbuf (top x30) (glV (zV x0 x1 x2 x3 x4))) := by
  simp only [runB.sl.r_47, runB_v509, View.readAt_eq_ld, Memref.IsWhole.read_unread, s47]

theorem runB_s48 : runB.sl.r_48 c a9 h9 x9 = s48 x9 := by
  simp only [runB.sl.r_48, View.readAt_eq_ld, Memref.IsWhole.read_unread, s48]

theorem runB_s49 : runB.sl.r_49 c a16 h16 x16 = s49 x16 := by
  simp only [runB.sl.r_49, View.readAt_eq_ld, Memref.IsWhole.read_unread, s49]

theorem runB_s50 : runB.sl.r_50 c a0 h0 a1 h1 a2 h2 a3 h3 a4 h4 a9 h9 a10 h10 a16 h16 a30 h30 a31 x0 x1 x2 x3 x4 x9 x10 x16 x30 = s50 (gbuf (top x30) (glV (zV x0 x1 x2 x3 x4))) x9 x10 x16 := by
  simp only [runB.sl.r_50, runB_s46, runB_s47, runB_s48, runB_v516, runB_v523, runB_v530 c a0 h0 a1 h1 a2 h2 a3 h3 a4 h4 a30 x0 x1 x2 x3 x4 x30, View.readAt_eq_ld, Memref.IsWhole.read_unread, s50]

theorem runB_s51 : runB.sl.r_51 c a0 h0 a1 h1 a2 h2 a3 h3 a4 h4 a9 h9 a10 h10 a16 h16 a30 h30 a31 x0 x1 x2 x3 x4 x9 x10 x16 x30 = s51 (gbuf (top x30) (glV (zV x0 x1 x2 x3 x4))) x9 x10 x16 := by
  simp only [runB.sl.r_51, runB_s46, runB_s47, runB_s48, runB_v516, runB_v523, runB_v530 c a0 h0 a1 h1 a2 h2 a3 h3 a4 h4 a30 x0 x1 x2 x3 x4 x30, View.readAt_eq_ld, Memref.IsWhole.read_unread, s51]

theorem runB_s52 : runB.sl.r_52 c a0 h0 a1 h1 a2 h2 a3 h3 a4 h4 a9 h9 a10 h10 a16 h16 a30 h30 a31 x0 x1 x2 x3 x4 x9 x10 x16 x30 = s52 (gbuf (top x30) (glV (zV x0 x1 x2 x3 x4))) x9 x10 x16 := by
  simp only [runB.sl.r_52, runB_s46, runB_s47, runB_s48, runB_v516, runB_v523, runB_v530 c a0 h0 a1 h1 a2 h2 a3 h3 a4 h4 a30 x0 x1 x2 x3 x4 x30, View.readAt_eq_ld, Memref.IsWhole.read_unread, s52]

theorem runB_s53 : runB.sl.r_53 c a0 h0 a1 h1 a2 h2 a3 h3 a4 h4 a9 h9 a10 h10 a16 h16 a30 h30 a31 x0 x1 x2 x3 x4 x9 x10 x16 x30 = s53 (gbuf (top x30) (glV (zV x0 x1 x2 x3 x4))) x9 x10 x16 := by
  simp only [runB.sl.r_53, runB_s46, runB_s47, runB_s48, runB_v516, runB_v523, runB_v530 c a0 h0 a1 h1 a2 h2 a3 h3 a4 h4 a30 x0 x1 x2 x3 x4 x30, View.readAt_eq_ld, Memref.IsWhole.read_unread, s53]

theorem runB_s54 : runB.sl.r_54 c a0 h0 a1 h1 a2 h2 a3 h3 a4 h4 a9 h9 a10 h10 a11 h11 a12 h12 a16 h16 a30 h30 a31 x0 x1 x2 x3 x4 x9 x10 x11 x12 x16 x30 = s54 (gbuf (top x30) (glV (zV x0 x1 x2 x3 x4))) x9 x10 x11 x12 x16 := by
  simp only [runB.sl.r_54, runB_s49, runB_s50, runB_s51, runB_s52, runB_s53, View.readAt_eq_ld, Memref.IsWhole.read_unread, s54]

theorem runB_s55 : runB.sl.r_55 c a0 h0 a1 h1 a2 h2 a3 h3 a4 h4 a5 h5 a6 h6 a7 h7 a8 h8 a13 h13 x0 x1 x2 x3 x4 x5 x6 x7 x8 x13 = s55 (zV x0 x1 x2 x3 x4) (guV x0 x1 x2 x3 x4) x5 x6 x7 x8 x13 := by
  simp only [runB.sl.r_55, runB_s32, View.readAt_eq_ld, Memref.IsWhole.read_unread, s55]

theorem runB_s56 : runB.sl.r_56 c a0 h0 a1 h1 a2 h2 a3 h3 a4 h4 a9 h9 a10 h10 a11 h11 a12 h12 a16 h16 a30 h30 a31 x0 x1 x2 x3 x4 x9 x10 x11 x12 x16 x30 = s56 (gbuf (top x30) (glV (zV x0 x1 x2 x3 x4))) x9 x10 x11 x12 x16 := by
  simp only [runB.sl.r_56, runB_s49, runB_s50, runB_s51, runB_s52, runB_s53, View.readAt_eq_ld, Memref.IsWhole.read_unread, s56]

theorem out17_A (hc : starts i) (f) :
    a17.view.read (Elt F) (a17.view.writes (Elt F) f (runA c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 x30 x31 hc).1) = x1V (zV x0 x1 x2 x3 x4) (guV x0 x1 x2 x3 x4) (gbuf k0_pay50 (glV (zV x0 x1 x2 x3 x4))) x0 x1 x5 x6 x7 x8 x9 x10 x11 x12 x13 x14 x15 x16 := by
  refine Eq.trans ?_ (whole_eq f inb_S512x1024_S512x1024_0_0 _)
  unfold runA
  dsimp only
  simp only [runA_z, runA_u, runA_s9, runA_s10, runA_s11, runA_s12, runA_s13, runA_s14, runA_s15, runA_s16, runA_s17, runA_s18, runA_s19, runA_s20, runA_s22, runA_s23, runA_s24, runA_s25, runA_s26, runA_s27, runA_s28, runA_s29, runA_s30, runA_s32, runA_s33, runA_s34, runA_s35, runA_s36, runA_s37, runA_s38, runA_s39, runA_s40, runA_s41, runA_s42, runA_s43, runA_s44, runA_s45, runA_s46, runA_s47, runA_s48, runA_s49, runA_s50, runA_s51, runA_s52, runA_s53, runA_s54, runA_s55, runA_s56, runA.sl.r_1, runA.sl.cst_173, runA.sl.r_21, runA.sl.r_31, runA.sl.r, runA_v293, runA_v309, runA_v351, runA_v337, runA_v426, runA_v509, runA_v313, runA_v495, runA_v330, runA_v454, runA_v468, runA_v433, runA_v301, runA_v297, runA_v344, runA_v530, runA_v475, runA_v305, runA_v502, runA_v447, runA_v371, runA_v420, runA_v440, runA_v399, runA_v481, runA_v516, runA_v413, runA_v289, runA_v392, runA_v378, runA_v488, runA_v523, runA_v461, runA_v365, runA_v323, runA_v385, runA_v358, runA_v406, View.readCov, View.readAt_eq_ld, read_both, read_rest, read_top, read_shift, Memref.IsWhole.read_unread, gbuf_rest, x1V]

theorem out18_A (hc : starts i) (f) :
    a18.view.read (Elt F) (a18.view.writes (Elt F) f (runA c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 x30 x31 hc).2.1) = hV x0 x1 x2 := by
  refine Eq.trans ?_ (whole_eq f inb_S512x1024_S512x1024_0_0 _)
  unfold runA
  dsimp only
  simp only [runA.sl.r_6, runA.sl.r_9, runA.sl.r_3, runA.sl.v293, runA.sl.r_8, runA.sl.r_54, runA.sl.v309, runA.sl.r_16, runA.sl.v351, runA.sl.v283, runA.sl.v337, runA.sl.v426, runA.sl.r_2, runA.sl.r_34, runA.sl.r_43, runA.sl.r_26, runA.sl.r_41, runA.sl.r_1, runA.sl.r_52, runA.sl.v509, runA.sl.cst_173, runA.sl.v313, runA.sl.r_23, runA.sl.r_53, runA.sl.v495, runA.sl.r_45, runA.sl.v330, runA.sl.v454, runA.sl.r_38, runA.sl.v468, runA.sl.r_24, runA.sl.v284, runA.sl.r_21, runA.sl.r_51, runA.sl.r_25, runA.sl.r_36, runA.sl.v433, runA.sl.v301, runA.sl.r_11, runA.sl.v297, runA.sl.r_44, runA.sl.v344, runA.sl.v530, runA.sl.v475, runA.sl.r_5, runA.sl.v305, runA.sl.v502, runA.sl.r_37, runA.sl.v447, runA.sl.H31_7, runA.sl.r_49, runA.sl.H30_2, runA.sl.r_22, runA.sl.r_47, runA.sl.v371, runA.sl.v420, runA.sl.v440, runA.sl.v399, runA.sl.r_33, runA.sl.r_7, runA.sl.r_12, runA.sl.r_17, runA.sl.r_56, runA.sl.v481, runA.sl.r_48, runA.sl.v516, runA.sl.v413, runA.sl.v289, runA.sl.r_31, runA.sl.r_42, runA.sl.v392, runA.sl.r_13, runA.sl.v378, runA.sl.r_35, runA.sl.r_18, runA.sl.v488, runA.sl.v523, runA.sl.r_19, runA.sl.r_4, runA.sl.r_30, runA.sl.r_10, runA.sl.v461, runA.sl.v365, runA.sl.r_28, runA.sl.r_14, runA.sl.r_40, runA.sl.r_15, runA.sl.v323, runA.sl.r_32, runA.sl.r, runA.sl.r_39, runA.sl.r_50, runA.sl.v285, runA.sl.v385, runA.sl.v358, runA.sl.r_29, runA.sl.r_20, runA.sl.r_27, runA.sl.r_55, runA.sl.r_46, runA.sl.v406, View.readCov, View.readAt_eq_ld, read_both, read_rest, read_top, read_shift, Memref.IsWhole.read_unread, gbuf_rest, hV, zV, vgV, guV, vhV]

theorem out19_A (hc : starts i) (f) :
    a19.view.read (Elt F) (a19.view.writes (Elt F) f (runA c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 x30 x31 hc).2.2.1) = vgV x0 x1 x2 x3 x4 := by
  refine Eq.trans ?_ (whole_eq f inb_S512x1024_S512x1024_0_0 _)
  unfold runA
  dsimp only
  simp only [runA.sl.r_6, runA.sl.r_9, runA.sl.r_3, runA.sl.v293, runA.sl.r_8, runA.sl.r_54, runA.sl.v309, runA.sl.r_16, runA.sl.v351, runA.sl.v283, runA.sl.v337, runA.sl.v426, runA.sl.r_2, runA.sl.r_34, runA.sl.r_43, runA.sl.r_26, runA.sl.r_41, runA.sl.r_1, runA.sl.r_52, runA.sl.v509, runA.sl.cst_173, runA.sl.v313, runA.sl.r_23, runA.sl.r_53, runA.sl.v495, runA.sl.r_45, runA.sl.v330, runA.sl.v454, runA.sl.r_38, runA.sl.v468, runA.sl.r_24, runA.sl.v284, runA.sl.r_21, runA.sl.r_51, runA.sl.r_25, runA.sl.r_36, runA.sl.v433, runA.sl.v301, runA.sl.r_11, runA.sl.v297, runA.sl.r_44, runA.sl.v344, runA.sl.v530, runA.sl.v475, runA.sl.r_5, runA.sl.v305, runA.sl.v502, runA.sl.r_37, runA.sl.v447, runA.sl.H31_7, runA.sl.r_49, runA.sl.H30_2, runA.sl.r_22, runA.sl.r_47, runA.sl.v371, runA.sl.v420, runA.sl.v440, runA.sl.v399, runA.sl.r_33, runA.sl.r_7, runA.sl.r_12, runA.sl.r_17, runA.sl.r_56, runA.sl.v481, runA.sl.r_48, runA.sl.v516, runA.sl.v413, runA.sl.v289, runA.sl.r_31, runA.sl.r_42, runA.sl.v392, runA.sl.r_13, runA.sl.v378, runA.sl.r_35, runA.sl.r_18, runA.sl.v488, runA.sl.v523, runA.sl.r_19, runA.sl.r_4, runA.sl.r_30, runA.sl.r_10, runA.sl.v461, runA.sl.v365, runA.sl.r_28, runA.sl.r_14, runA.sl.r_40, runA.sl.r_15, runA.sl.v323, runA.sl.r_32, runA.sl.r, runA.sl.r_39, runA.sl.r_50, runA.sl.v285, runA.sl.v385, runA.sl.v358, runA.sl.r_29, runA.sl.r_20, runA.sl.r_27, runA.sl.r_55, runA.sl.r_46, runA.sl.v406, View.readCov, View.readAt_eq_ld, read_both, read_rest, read_top, read_shift, Memref.IsWhole.read_unread, gbuf_rest, hV, zV, vgV, guV, vhV]

theorem out20_A (hc : starts i) (f) :
    a20.view.read (Elt F) (a20.view.writes (Elt F) f (runA c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 x30 x31 hc).2.2.2.1) = mxV (zV x0 x1 x2 x3 x4) x5 x6 x7 x8 := by
  refine Eq.trans ?_ (whole_eq f inb_S512x512_S512x512_0_0 _)
  unfold runA
  dsimp only
  simp only [runA_z, runA_u, runA_s9, runA_s10, runA_s11, runA_s12, runA_s13, runA_s14, runA_s15, runA_s16, runA_s17, runA_s18, runA_s19, runA_s20, runA_s22, runA_s23, runA_s24, runA_s25, runA_s26, runA_s27, runA_s28, runA_s29, runA_s30, runA_s32, runA_s33, runA_s34, runA_s35, runA_s36, runA_s37, runA_s38, runA_s39, runA_s40, runA_s41, runA_s42, runA_s43, runA_s44, runA_s45, runA_s46, runA_s47, runA_s48, runA_s49, runA_s50, runA_s51, runA_s52, runA_s53, runA_s54, runA_s55, runA_s56, runA.sl.r_1, runA.sl.cst_173, runA.sl.r_21, runA.sl.r_31, runA.sl.r, View.readCov, View.readAt_eq_ld, read_both, read_rest, read_top, read_shift, Memref.IsWhole.read_unread, gbuf_rest, mxV]

theorem out21_A (hc : starts i) (f) :
    a21.view.read (Elt F) (a21.view.writes (Elt F) f (runA c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 x30 x31 hc).2.2.2.2.1) = yV (zV x0 x1 x2 x3 x4) (guV x0 x1 x2 x3 x4) (gbuf k0_pay50 (glV (zV x0 x1 x2 x3 x4))) x5 x6 x7 x8 x9 x10 x11 x12 x13 x14 x16 := by
  refine Eq.trans ?_ (whole_eq f inb_S512x1024_S512x1024_0_0 _)
  unfold runA
  dsimp only
  simp only [runA_z, runA_u, runA_s9, runA_s10, runA_s11, runA_s12, runA_s13, runA_s14, runA_s15, runA_s16, runA_s17, runA_s18, runA_s19, runA_s20, runA_s22, runA_s23, runA_s24, runA_s25, runA_s26, runA_s27, runA_s28, runA_s29, runA_s30, runA_s32, runA_s33, runA_s34, runA_s35, runA_s36, runA_s37, runA_s38, runA_s39, runA_s40, runA_s41, runA_s42, runA_s43, runA_s44, runA_s45, runA_s46, runA_s47, runA_s48, runA_s49, runA_s50, runA_s51, runA_s52, runA_s53, runA_s54, runA_s55, runA_s56, runA.sl.r_1, runA.sl.cst_173, runA.sl.r_21, runA.sl.r_31, runA.sl.r, runA_v293, runA_v309, runA_v351, runA_v337, runA_v426, runA_v509, runA_v313, runA_v495, runA_v330, runA_v454, runA_v468, runA_v433, runA_v301, runA_v297, runA_v344, runA_v530, runA_v475, runA_v305, runA_v502, runA_v447, runA_v371, runA_v420, runA_v440, runA_v399, runA_v481, runA_v516, runA_v413, runA_v289, runA_v392, runA_v378, runA_v488, runA_v523, runA_v461, runA_v365, runA_v323, runA_v385, runA_v358, runA_v406, View.readCov, View.readAt_eq_ld, read_both, read_rest, read_top, read_shift, Memref.IsWhole.read_unread, gbuf_rest, yV]

theorem out22_A (hc : starts i) (f) :
    a22.view.read (Elt F) (a22.view.writes (Elt F) f (runA c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 x30 x31 hc).2.2.2.2.2.1) = oV (zV x0 x1 x2 x3 x4) (guV x0 x1 x2 x3 x4) (gbuf k0_pay50 (glV (zV x0 x1 x2 x3 x4))) x5 x6 x7 x8 x9 x10 x11 x12 x13 x14 x15 x16 := by
  refine Eq.trans ?_ (whole_eq f inb_S512x1024_S512x1024_0_0 _)
  unfold runA
  dsimp only
  simp only [runA_z, runA_u, runA_s9, runA_s10, runA_s11, runA_s12, runA_s13, runA_s14, runA_s15, runA_s16, runA_s17, runA_s18, runA_s19, runA_s20, runA_s22, runA_s23, runA_s24, runA_s25, runA_s26, runA_s27, runA_s28, runA_s29, runA_s30, runA_s32, runA_s33, runA_s34, runA_s35, runA_s36, runA_s37, runA_s38, runA_s39, runA_s40, runA_s41, runA_s42, runA_s43, runA_s44, runA_s45, runA_s46, runA_s47, runA_s48, runA_s49, runA_s50, runA_s51, runA_s52, runA_s53, runA_s54, runA_s55, runA_s56, runA.sl.r_1, runA.sl.cst_173, runA.sl.r_21, runA.sl.r_31, runA.sl.r, runA_v293, runA_v309, runA_v351, runA_v337, runA_v426, runA_v509, runA_v313, runA_v495, runA_v330, runA_v454, runA_v468, runA_v433, runA_v301, runA_v297, runA_v344, runA_v530, runA_v475, runA_v305, runA_v502, runA_v447, runA_v371, runA_v420, runA_v440, runA_v399, runA_v481, runA_v516, runA_v413, runA_v289, runA_v392, runA_v378, runA_v488, runA_v523, runA_v461, runA_v365, runA_v323, runA_v385, runA_v358, runA_v406, View.readCov, View.readAt_eq_ld, read_both, read_rest, read_top, read_shift, Memref.IsWhole.read_unread, gbuf_rest, oV]

theorem out23_A (hc : starts i) (f) :
    a23.view.read (Elt F) (a23.view.writes (Elt F) f (runA c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 x30 x31 hc).2.2.2.2.2.2.1) = guV x0 x1 x2 x3 x4 := by
  refine Eq.trans ?_ (whole_eq f inb_S512x512_S512x512_0_0 _)
  unfold runA
  dsimp only
  simp only [runA.sl.r_6, runA.sl.r_9, runA.sl.r_3, runA.sl.v293, runA.sl.r_8, runA.sl.r_54, runA.sl.v309, runA.sl.r_16, runA.sl.v351, runA.sl.v283, runA.sl.v337, runA.sl.v426, runA.sl.r_2, runA.sl.r_34, runA.sl.r_43, runA.sl.r_26, runA.sl.r_41, runA.sl.r_1, runA.sl.r_52, runA.sl.v509, runA.sl.cst_173, runA.sl.v313, runA.sl.r_23, runA.sl.r_53, runA.sl.v495, runA.sl.r_45, runA.sl.v330, runA.sl.v454, runA.sl.r_38, runA.sl.v468, runA.sl.r_24, runA.sl.v284, runA.sl.r_21, runA.sl.r_51, runA.sl.r_25, runA.sl.r_36, runA.sl.v433, runA.sl.v301, runA.sl.r_11, runA.sl.v297, runA.sl.r_44, runA.sl.v344, runA.sl.v530, runA.sl.v475, runA.sl.r_5, runA.sl.v305, runA.sl.v502, runA.sl.r_37, runA.sl.v447, runA.sl.H31_7, runA.sl.r_49, runA.sl.H30_2, runA.sl.r_22, runA.sl.r_47, runA.sl.v371, runA.sl.v420, runA.sl.v440, runA.sl.v399, runA.sl.r_33, runA.sl.r_7, runA.sl.r_12, runA.sl.r_17, runA.sl.r_56, runA.sl.v481, runA.sl.r_48, runA.sl.v516, runA.sl.v413, runA.sl.v289, runA.sl.r_31, runA.sl.r_42, runA.sl.v392, runA.sl.r_13, runA.sl.v378, runA.sl.r_35, runA.sl.r_18, runA.sl.v488, runA.sl.v523, runA.sl.r_19, runA.sl.r_4, runA.sl.r_30, runA.sl.r_10, runA.sl.v461, runA.sl.v365, runA.sl.r_28, runA.sl.r_14, runA.sl.r_40, runA.sl.r_15, runA.sl.v323, runA.sl.r_32, runA.sl.r, runA.sl.r_39, runA.sl.r_50, runA.sl.v285, runA.sl.v385, runA.sl.v358, runA.sl.r_29, runA.sl.r_20, runA.sl.r_27, runA.sl.r_55, runA.sl.r_46, runA.sl.v406, View.readCov, View.readAt_eq_ld, read_both, read_rest, read_top, read_shift, Memref.IsWhole.read_unread, gbuf_rest, hV, zV, vgV, guV, vhV]

theorem out26_A (hc : starts i) (f) :
    a26.view.read (Elt F) (a26.view.writes (Elt F) f (runA c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 x30 x31 hc).2.2.2.2.2.2.2.1) = vhV x0 x1 x2 x3 x4 := by
  refine Eq.trans ?_ (whole_eq f inb_S512x512_S512x512_0_0 _)
  unfold runA
  dsimp only
  simp only [runA.sl.r_6, runA.sl.r_9, runA.sl.r_3, runA.sl.v293, runA.sl.r_8, runA.sl.r_54, runA.sl.v309, runA.sl.r_16, runA.sl.v351, runA.sl.v283, runA.sl.v337, runA.sl.v426, runA.sl.r_2, runA.sl.r_34, runA.sl.r_43, runA.sl.r_26, runA.sl.r_41, runA.sl.r_1, runA.sl.r_52, runA.sl.v509, runA.sl.cst_173, runA.sl.v313, runA.sl.r_23, runA.sl.r_53, runA.sl.v495, runA.sl.r_45, runA.sl.v330, runA.sl.v454, runA.sl.r_38, runA.sl.v468, runA.sl.r_24, runA.sl.v284, runA.sl.r_21, runA.sl.r_51, runA.sl.r_25, runA.sl.r_36, runA.sl.v433, runA.sl.v301, runA.sl.r_11, runA.sl.v297, runA.sl.r_44, runA.sl.v344, runA.sl.v530, runA.sl.v475, runA.sl.r_5, runA.sl.v305, runA.sl.v502, runA.sl.r_37, runA.sl.v447, runA.sl.H31_7, runA.sl.r_49, runA.sl.H30_2, runA.sl.r_22, runA.sl.r_47, runA.sl.v371, runA.sl.v420, runA.sl.v440, runA.sl.v399, runA.sl.r_33, runA.sl.r_7, runA.sl.r_12, runA.sl.r_17, runA.sl.r_56, runA.sl.v481, runA.sl.r_48, runA.sl.v516, runA.sl.v413, runA.sl.v289, runA.sl.r_31, runA.sl.r_42, runA.sl.v392, runA.sl.r_13, runA.sl.v378, runA.sl.r_35, runA.sl.r_18, runA.sl.v488, runA.sl.v523, runA.sl.r_19, runA.sl.r_4, runA.sl.r_30, runA.sl.r_10, runA.sl.v461, runA.sl.v365, runA.sl.r_28, runA.sl.r_14, runA.sl.r_40, runA.sl.r_15, runA.sl.v323, runA.sl.r_32, runA.sl.r, runA.sl.r_39, runA.sl.r_50, runA.sl.v285, runA.sl.v385, runA.sl.v358, runA.sl.r_29, runA.sl.r_20, runA.sl.r_27, runA.sl.r_55, runA.sl.r_46, runA.sl.v406, View.readCov, View.readAt_eq_ld, read_both, read_rest, read_top, read_shift, Memref.IsWhole.read_unread, gbuf_rest, hV, zV, vgV, guV, vhV]

theorem out27_A (hc : starts i) (f) :
    a27.view.read (Elt F) (a27.view.writes (Elt F) f (runA c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 x30 x31 hc).2.2.2.2.2.2.2.2.1) = rsV (zV x0 x1 x2 x3 x4) := by
  refine Eq.trans ?_ (whole_eq f inb_S512x128_S512x128_0_0 _)
  unfold runA
  dsimp only
  simp only [runA_z, runA_u, runA_s9, runA_s10, runA_s11, runA_s12, runA_s13, runA_s14, runA_s15, runA_s16, runA_s17, runA_s18, runA_s19, runA_s20, runA_s22, runA_s23, runA_s24, runA_s25, runA_s26, runA_s27, runA_s28, runA_s29, runA_s30, runA_s32, runA_s33, runA_s34, runA_s35, runA_s36, runA_s37, runA_s38, runA_s39, runA_s40, runA_s41, runA_s42, runA_s43, runA_s44, runA_s45, runA_s46, runA_s47, runA_s48, runA_s49, runA_s50, runA_s51, runA_s52, runA_s53, runA_s54, runA_s55, runA_s56, runA.sl.r_1, runA.sl.cst_173, runA.sl.r_21, runA.sl.r_31, runA.sl.r, View.readCov, View.readAt_eq_ld, read_both, read_rest, read_top, read_shift, Memref.IsWhole.read_unread, gbuf_rest, rsV]

theorem out28_A (hc : starts i) (f) :
    a28.view.read (Elt F) (a28.view.writes (Elt F) f (runA c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 x30 x31 hc).2.2.2.2.2.2.2.2.2.1) = yhV (gbuf k0_pay50 (glV (zV x0 x1 x2 x3 x4))) x9 x10 x16 := by
  refine Eq.trans ?_ (whole_eq f inb_S512x512_S512x512_0_0 _)
  unfold runA
  dsimp only
  simp only [runA_z, runA_u, runA_s9, runA_s10, runA_s11, runA_s12, runA_s13, runA_s14, runA_s15, runA_s16, runA_s17, runA_s18, runA_s19, runA_s20, runA_s22, runA_s23, runA_s24, runA_s25, runA_s26, runA_s27, runA_s28, runA_s29, runA_s30, runA_s32, runA_s33, runA_s34, runA_s35, runA_s36, runA_s37, runA_s38, runA_s39, runA_s40, runA_s41, runA_s42, runA_s43, runA_s44, runA_s45, runA_s46, runA_s47, runA_s48, runA_s49, runA_s50, runA_s51, runA_s52, runA_s53, runA_s54, runA_s55, runA_s56, runA.sl.r_1, runA.sl.cst_173, runA.sl.r_21, runA.sl.r_31, runA.sl.r, runA_v293, runA_v309, runA_v351, runA_v337, runA_v426, runA_v509, runA_v313, runA_v495, runA_v330, runA_v454, runA_v468, runA_v433, runA_v301, runA_v297, runA_v344, runA_v530, runA_v475, runA_v305, runA_v502, runA_v447, runA_v371, runA_v420, runA_v440, runA_v399, runA_v481, runA_v516, runA_v413, runA_v289, runA_v392, runA_v378, runA_v488, runA_v523, runA_v461, runA_v365, runA_v323, runA_v385, runA_v358, runA_v406, View.readCov, View.readAt_eq_ld, read_both, read_rest, read_top, read_shift, Memref.IsWhole.read_unread, gbuf_rest, yhV]

theorem out29_A (hc : starts i) (f) :
    a29.view.read (Elt F) (a29.view.writes (Elt F) f (runA c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 x30 x31 hc).2.2.2.2.2.2.2.2.2.2.1) = rgV (gbuf k0_pay50 (glV (zV x0 x1 x2 x3 x4))) x9 x10 x16 := by
  refine Eq.trans ?_ (whole_eq f inb_S512x512_S512x512_0_0 _)
  unfold runA
  dsimp only
  simp only [runA_z, runA_u, runA_s9, runA_s10, runA_s11, runA_s12, runA_s13, runA_s14, runA_s15, runA_s16, runA_s17, runA_s18, runA_s19, runA_s20, runA_s22, runA_s23, runA_s24, runA_s25, runA_s26, runA_s27, runA_s28, runA_s29, runA_s30, runA_s32, runA_s33, runA_s34, runA_s35, runA_s36, runA_s37, runA_s38, runA_s39, runA_s40, runA_s41, runA_s42, runA_s43, runA_s44, runA_s45, runA_s46, runA_s47, runA_s48, runA_s49, runA_s50, runA_s51, runA_s52, runA_s53, runA_s54, runA_s55, runA_s56, runA.sl.r_1, runA.sl.cst_173, runA.sl.r_21, runA.sl.r_31, runA.sl.r, runA_v293, runA_v309, runA_v351, runA_v337, runA_v426, runA_v509, runA_v313, runA_v495, runA_v330, runA_v454, runA_v468, runA_v433, runA_v301, runA_v297, runA_v344, runA_v530, runA_v475, runA_v305, runA_v502, runA_v447, runA_v371, runA_v420, runA_v440, runA_v399, runA_v481, runA_v516, runA_v413, runA_v289, runA_v392, runA_v378, runA_v488, runA_v523, runA_v461, runA_v365, runA_v323, runA_v385, runA_v358, runA_v406, View.readCov, View.readAt_eq_ld, read_both, read_rest, read_top, read_shift, Memref.IsWhole.read_unread, gbuf_rest, rgV]

theorem out30_A (hc : starts i) :
    top (a30.view.read (Elt F) (a30.view.writes (Elt F) (h30.unread x30) (runA c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 x30 x31 hc).2.2.2.2.2.2.2.2.2.2.2.1)) = carV (zV x0 x1 x2 x3 x4) := by
  unfold runA
  dsimp only
  refine (read_top (h30.unread x30) _ _).trans ?_
  rw [runA_s35]
  rfl

theorem out17_B (hc : ¬starts i) (f) :
    a17.view.read (Elt F) (a17.view.writes (Elt F) f (runB c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 x30 x31 hc).1) = x1V (zV x0 x1 x2 x3 x4) (guV x0 x1 x2 x3 x4) (gbuf (top x30) (glV (zV x0 x1 x2 x3 x4))) x0 x1 x5 x6 x7 x8 x9 x10 x11 x12 x13 x14 x15 x16 := by
  refine Eq.trans ?_ (whole_eq f inb_S512x1024_S512x1024_0_0 _)
  unfold runB
  dsimp only
  simp only [runB_z, runB_u, runB_s9, runB_s10, runB_s11, runB_s12, runB_s13, runB_s14, runB_s15, runB_s16, runB_s17, runB_s18, runB_s19, runB_s20, runB_s22, runB_s23, runB_s24, runB_s25, runB_s26, runB_s27, runB_s28, runB_s29, runB_s30, runB_s32, runB_s33, runB_s34, runB_s35, runB_s36, runB_s37, runB_s38, runB_s39, runB_s40, runB_s41, runB_s42, runB_s43, runB_s44, runB_s45, runB_s46, runB_s47, runB_s48, runB_s49, runB_s50, runB_s51, runB_s52, runB_s53, runB_s54, runB_s55, runB_s56, runB.sl.cst_173, runB.sl.r_1, runB.sl.r_21, runB.sl.r_31, runB.sl.r, runB_v392, runB_v385, runB_v297, runB_v413, runB_v523, runB_v406, runB_v426, runB_v481, runB_v509, runB_v454, runB_v447, runB_v440, runB_v344, runB_v433, runB_v358, runB_v475, runB_v420, runB_v351, runB_v495, runB_v378, runB_v365, runB_v289, runB_v468, runB_v461, runB_v323, runB_v309, runB_v502, runB_v371, runB_v488, runB_v293, runB_v305, runB_v301, runB_v516, runB_v530, runB_v330, runB_v399, runB_v313, runB_v337, View.readCov, View.readAt_eq_ld, read_both, read_rest, read_top, read_shift, Memref.IsWhole.read_unread, gbuf_rest, x1V]

theorem out18_B (hc : ¬starts i) (f) :
    a18.view.read (Elt F) (a18.view.writes (Elt F) f (runB c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 x30 x31 hc).2.1) = hV x0 x1 x2 := by
  refine Eq.trans ?_ (whole_eq f inb_S512x1024_S512x1024_0_0 _)
  unfold runB
  dsimp only
  simp only [runB.sl.v392, runB.sl.v385, runB.sl.r_45, runB.sl.r_43, runB.sl.v283, runB.sl.r_4, runB.sl.r_7, runB.sl.r_36, runB.sl.r_55, runB.sl.r_30, runB.sl.r_50, runB.sl.v297, runB.sl.r_5, runB.sl.r_51, runB.sl.v413, runB.sl.r_8, runB.sl.v523, runB.sl.v406, runB.sl.v426, runB.sl.v481, runB.sl.r_49, runB.sl.cst_173, runB.sl.v509, runB.sl.r_42, runB.sl.r_22, runB.sl.v284, runB.sl.r_28, runB.sl.r_6, runB.sl.r_56, runB.sl.r_17, runB.sl.r_47, runB.sl.v454, runB.sl.v447, runB.sl.r_9, runB.sl.r_11, runB.sl.r_2, runB.sl.v440, runB.sl.r_27, runB.sl.v344, runB.sl.v433, runB.sl.v358, runB.sl.v475, runB.sl.r_48, runB.sl.r_12, runB.sl.r_19, runB.sl.v420, runB.sl.r_52, runB.sl.r_3, runB.sl.r_33, runB.sl.H31_7, runB.sl.v351, runB.sl.v495, runB.sl.r_13, runB.sl.v285, runB.sl.r_1, runB.sl.r_35, runB.sl.r_46, runB.sl.v378, runB.sl.v365, runB.sl.v289, runB.sl.v468, runB.sl.r_14, runB.sl.r_16, runB.sl.r_23, runB.sl.v461, runB.sl.r_38, runB.sl.r_20, runB.sl.r_40, runB.sl.v323, runB.sl.v309, runB.sl.v502, runB.sl.r_26, runB.sl.r_44, runB.sl.v371, runB.sl.v488, runB.sl.r_53, runB.sl.r_10, runB.sl.v293, runB.sl.r_21, runB.sl.H30_1, runB.sl.r_24, runB.sl.v305, runB.sl.v301, runB.sl.r_37, runB.sl.v516, runB.sl.r_54, runB.sl.r_41, runB.sl.v530, runB.sl.r_18, runB.sl.r_32, runB.sl.v330, runB.sl.v399, runB.sl.r_39, runB.sl.r_15, runB.sl.v313, runB.sl.r_31, runB.sl.r_25, runB.sl.r_34, runB.sl.v337, runB.sl.r, runB.sl.r_29, View.readCov, View.readAt_eq_ld, read_both, read_rest, read_top, read_shift, Memref.IsWhole.read_unread, gbuf_rest, hV, zV, vgV, guV, vhV]

theorem out19_B (hc : ¬starts i) (f) :
    a19.view.read (Elt F) (a19.view.writes (Elt F) f (runB c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 x30 x31 hc).2.2.1) = vgV x0 x1 x2 x3 x4 := by
  refine Eq.trans ?_ (whole_eq f inb_S512x1024_S512x1024_0_0 _)
  unfold runB
  dsimp only
  simp only [runB.sl.v392, runB.sl.v385, runB.sl.r_45, runB.sl.r_43, runB.sl.v283, runB.sl.r_4, runB.sl.r_7, runB.sl.r_36, runB.sl.r_55, runB.sl.r_30, runB.sl.r_50, runB.sl.v297, runB.sl.r_5, runB.sl.r_51, runB.sl.v413, runB.sl.r_8, runB.sl.v523, runB.sl.v406, runB.sl.v426, runB.sl.v481, runB.sl.r_49, runB.sl.cst_173, runB.sl.v509, runB.sl.r_42, runB.sl.r_22, runB.sl.v284, runB.sl.r_28, runB.sl.r_6, runB.sl.r_56, runB.sl.r_17, runB.sl.r_47, runB.sl.v454, runB.sl.v447, runB.sl.r_9, runB.sl.r_11, runB.sl.r_2, runB.sl.v440, runB.sl.r_27, runB.sl.v344, runB.sl.v433, runB.sl.v358, runB.sl.v475, runB.sl.r_48, runB.sl.r_12, runB.sl.r_19, runB.sl.v420, runB.sl.r_52, runB.sl.r_3, runB.sl.r_33, runB.sl.H31_7, runB.sl.v351, runB.sl.v495, runB.sl.r_13, runB.sl.v285, runB.sl.r_1, runB.sl.r_35, runB.sl.r_46, runB.sl.v378, runB.sl.v365, runB.sl.v289, runB.sl.v468, runB.sl.r_14, runB.sl.r_16, runB.sl.r_23, runB.sl.v461, runB.sl.r_38, runB.sl.r_20, runB.sl.r_40, runB.sl.v323, runB.sl.v309, runB.sl.v502, runB.sl.r_26, runB.sl.r_44, runB.sl.v371, runB.sl.v488, runB.sl.r_53, runB.sl.r_10, runB.sl.v293, runB.sl.r_21, runB.sl.H30_1, runB.sl.r_24, runB.sl.v305, runB.sl.v301, runB.sl.r_37, runB.sl.v516, runB.sl.r_54, runB.sl.r_41, runB.sl.v530, runB.sl.r_18, runB.sl.r_32, runB.sl.v330, runB.sl.v399, runB.sl.r_39, runB.sl.r_15, runB.sl.v313, runB.sl.r_31, runB.sl.r_25, runB.sl.r_34, runB.sl.v337, runB.sl.r, runB.sl.r_29, View.readCov, View.readAt_eq_ld, read_both, read_rest, read_top, read_shift, Memref.IsWhole.read_unread, gbuf_rest, hV, zV, vgV, guV, vhV]

theorem out20_B (hc : ¬starts i) (f) :
    a20.view.read (Elt F) (a20.view.writes (Elt F) f (runB c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 x30 x31 hc).2.2.2.1) = mxV (zV x0 x1 x2 x3 x4) x5 x6 x7 x8 := by
  refine Eq.trans ?_ (whole_eq f inb_S512x512_S512x512_0_0 _)
  unfold runB
  dsimp only
  simp only [runB_z, runB_u, runB_s9, runB_s10, runB_s11, runB_s12, runB_s13, runB_s14, runB_s15, runB_s16, runB_s17, runB_s18, runB_s19, runB_s20, runB_s22, runB_s23, runB_s24, runB_s25, runB_s26, runB_s27, runB_s28, runB_s29, runB_s30, runB_s32, runB_s33, runB_s34, runB_s35, runB_s36, runB_s37, runB_s38, runB_s39, runB_s40, runB_s41, runB_s42, runB_s43, runB_s44, runB_s45, runB_s46, runB_s47, runB_s48, runB_s49, runB_s50, runB_s51, runB_s52, runB_s53, runB_s54, runB_s55, runB_s56, runB.sl.cst_173, runB.sl.r_1, runB.sl.r_21, runB.sl.r_31, runB.sl.r, View.readCov, View.readAt_eq_ld, read_both, read_rest, read_top, read_shift, Memref.IsWhole.read_unread, gbuf_rest, mxV]

theorem out21_B (hc : ¬starts i) (f) :
    a21.view.read (Elt F) (a21.view.writes (Elt F) f (runB c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 x30 x31 hc).2.2.2.2.1) = yV (zV x0 x1 x2 x3 x4) (guV x0 x1 x2 x3 x4) (gbuf (top x30) (glV (zV x0 x1 x2 x3 x4))) x5 x6 x7 x8 x9 x10 x11 x12 x13 x14 x16 := by
  refine Eq.trans ?_ (whole_eq f inb_S512x1024_S512x1024_0_0 _)
  unfold runB
  dsimp only
  simp only [runB_z, runB_u, runB_s9, runB_s10, runB_s11, runB_s12, runB_s13, runB_s14, runB_s15, runB_s16, runB_s17, runB_s18, runB_s19, runB_s20, runB_s22, runB_s23, runB_s24, runB_s25, runB_s26, runB_s27, runB_s28, runB_s29, runB_s30, runB_s32, runB_s33, runB_s34, runB_s35, runB_s36, runB_s37, runB_s38, runB_s39, runB_s40, runB_s41, runB_s42, runB_s43, runB_s44, runB_s45, runB_s46, runB_s47, runB_s48, runB_s49, runB_s50, runB_s51, runB_s52, runB_s53, runB_s54, runB_s55, runB_s56, runB.sl.cst_173, runB.sl.r_1, runB.sl.r_21, runB.sl.r_31, runB.sl.r, runB_v392, runB_v385, runB_v297, runB_v413, runB_v523, runB_v406, runB_v426, runB_v481, runB_v509, runB_v454, runB_v447, runB_v440, runB_v344, runB_v433, runB_v358, runB_v475, runB_v420, runB_v351, runB_v495, runB_v378, runB_v365, runB_v289, runB_v468, runB_v461, runB_v323, runB_v309, runB_v502, runB_v371, runB_v488, runB_v293, runB_v305, runB_v301, runB_v516, runB_v530, runB_v330, runB_v399, runB_v313, runB_v337, View.readCov, View.readAt_eq_ld, read_both, read_rest, read_top, read_shift, Memref.IsWhole.read_unread, gbuf_rest, yV]

theorem out22_B (hc : ¬starts i) (f) :
    a22.view.read (Elt F) (a22.view.writes (Elt F) f (runB c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 x30 x31 hc).2.2.2.2.2.1) = oV (zV x0 x1 x2 x3 x4) (guV x0 x1 x2 x3 x4) (gbuf (top x30) (glV (zV x0 x1 x2 x3 x4))) x5 x6 x7 x8 x9 x10 x11 x12 x13 x14 x15 x16 := by
  refine Eq.trans ?_ (whole_eq f inb_S512x1024_S512x1024_0_0 _)
  unfold runB
  dsimp only
  simp only [runB_z, runB_u, runB_s9, runB_s10, runB_s11, runB_s12, runB_s13, runB_s14, runB_s15, runB_s16, runB_s17, runB_s18, runB_s19, runB_s20, runB_s22, runB_s23, runB_s24, runB_s25, runB_s26, runB_s27, runB_s28, runB_s29, runB_s30, runB_s32, runB_s33, runB_s34, runB_s35, runB_s36, runB_s37, runB_s38, runB_s39, runB_s40, runB_s41, runB_s42, runB_s43, runB_s44, runB_s45, runB_s46, runB_s47, runB_s48, runB_s49, runB_s50, runB_s51, runB_s52, runB_s53, runB_s54, runB_s55, runB_s56, runB.sl.cst_173, runB.sl.r_1, runB.sl.r_21, runB.sl.r_31, runB.sl.r, runB_v392, runB_v385, runB_v297, runB_v413, runB_v523, runB_v406, runB_v426, runB_v481, runB_v509, runB_v454, runB_v447, runB_v440, runB_v344, runB_v433, runB_v358, runB_v475, runB_v420, runB_v351, runB_v495, runB_v378, runB_v365, runB_v289, runB_v468, runB_v461, runB_v323, runB_v309, runB_v502, runB_v371, runB_v488, runB_v293, runB_v305, runB_v301, runB_v516, runB_v530, runB_v330, runB_v399, runB_v313, runB_v337, View.readCov, View.readAt_eq_ld, read_both, read_rest, read_top, read_shift, Memref.IsWhole.read_unread, gbuf_rest, oV]

theorem out23_B (hc : ¬starts i) (f) :
    a23.view.read (Elt F) (a23.view.writes (Elt F) f (runB c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 x30 x31 hc).2.2.2.2.2.2.1) = guV x0 x1 x2 x3 x4 := by
  refine Eq.trans ?_ (whole_eq f inb_S512x512_S512x512_0_0 _)
  unfold runB
  dsimp only
  simp only [runB.sl.v392, runB.sl.v385, runB.sl.r_45, runB.sl.r_43, runB.sl.v283, runB.sl.r_4, runB.sl.r_7, runB.sl.r_36, runB.sl.r_55, runB.sl.r_30, runB.sl.r_50, runB.sl.v297, runB.sl.r_5, runB.sl.r_51, runB.sl.v413, runB.sl.r_8, runB.sl.v523, runB.sl.v406, runB.sl.v426, runB.sl.v481, runB.sl.r_49, runB.sl.cst_173, runB.sl.v509, runB.sl.r_42, runB.sl.r_22, runB.sl.v284, runB.sl.r_28, runB.sl.r_6, runB.sl.r_56, runB.sl.r_17, runB.sl.r_47, runB.sl.v454, runB.sl.v447, runB.sl.r_9, runB.sl.r_11, runB.sl.r_2, runB.sl.v440, runB.sl.r_27, runB.sl.v344, runB.sl.v433, runB.sl.v358, runB.sl.v475, runB.sl.r_48, runB.sl.r_12, runB.sl.r_19, runB.sl.v420, runB.sl.r_52, runB.sl.r_3, runB.sl.r_33, runB.sl.H31_7, runB.sl.v351, runB.sl.v495, runB.sl.r_13, runB.sl.v285, runB.sl.r_1, runB.sl.r_35, runB.sl.r_46, runB.sl.v378, runB.sl.v365, runB.sl.v289, runB.sl.v468, runB.sl.r_14, runB.sl.r_16, runB.sl.r_23, runB.sl.v461, runB.sl.r_38, runB.sl.r_20, runB.sl.r_40, runB.sl.v323, runB.sl.v309, runB.sl.v502, runB.sl.r_26, runB.sl.r_44, runB.sl.v371, runB.sl.v488, runB.sl.r_53, runB.sl.r_10, runB.sl.v293, runB.sl.r_21, runB.sl.H30_1, runB.sl.r_24, runB.sl.v305, runB.sl.v301, runB.sl.r_37, runB.sl.v516, runB.sl.r_54, runB.sl.r_41, runB.sl.v530, runB.sl.r_18, runB.sl.r_32, runB.sl.v330, runB.sl.v399, runB.sl.r_39, runB.sl.r_15, runB.sl.v313, runB.sl.r_31, runB.sl.r_25, runB.sl.r_34, runB.sl.v337, runB.sl.r, runB.sl.r_29, View.readCov, View.readAt_eq_ld, read_both, read_rest, read_top, read_shift, Memref.IsWhole.read_unread, gbuf_rest, hV, zV, vgV, guV, vhV]

theorem out26_B (hc : ¬starts i) (f) :
    a26.view.read (Elt F) (a26.view.writes (Elt F) f (runB c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 x30 x31 hc).2.2.2.2.2.2.2.1) = vhV x0 x1 x2 x3 x4 := by
  refine Eq.trans ?_ (whole_eq f inb_S512x512_S512x512_0_0 _)
  unfold runB
  dsimp only
  simp only [runB.sl.v392, runB.sl.v385, runB.sl.r_45, runB.sl.r_43, runB.sl.v283, runB.sl.r_4, runB.sl.r_7, runB.sl.r_36, runB.sl.r_55, runB.sl.r_30, runB.sl.r_50, runB.sl.v297, runB.sl.r_5, runB.sl.r_51, runB.sl.v413, runB.sl.r_8, runB.sl.v523, runB.sl.v406, runB.sl.v426, runB.sl.v481, runB.sl.r_49, runB.sl.cst_173, runB.sl.v509, runB.sl.r_42, runB.sl.r_22, runB.sl.v284, runB.sl.r_28, runB.sl.r_6, runB.sl.r_56, runB.sl.r_17, runB.sl.r_47, runB.sl.v454, runB.sl.v447, runB.sl.r_9, runB.sl.r_11, runB.sl.r_2, runB.sl.v440, runB.sl.r_27, runB.sl.v344, runB.sl.v433, runB.sl.v358, runB.sl.v475, runB.sl.r_48, runB.sl.r_12, runB.sl.r_19, runB.sl.v420, runB.sl.r_52, runB.sl.r_3, runB.sl.r_33, runB.sl.H31_7, runB.sl.v351, runB.sl.v495, runB.sl.r_13, runB.sl.v285, runB.sl.r_1, runB.sl.r_35, runB.sl.r_46, runB.sl.v378, runB.sl.v365, runB.sl.v289, runB.sl.v468, runB.sl.r_14, runB.sl.r_16, runB.sl.r_23, runB.sl.v461, runB.sl.r_38, runB.sl.r_20, runB.sl.r_40, runB.sl.v323, runB.sl.v309, runB.sl.v502, runB.sl.r_26, runB.sl.r_44, runB.sl.v371, runB.sl.v488, runB.sl.r_53, runB.sl.r_10, runB.sl.v293, runB.sl.r_21, runB.sl.H30_1, runB.sl.r_24, runB.sl.v305, runB.sl.v301, runB.sl.r_37, runB.sl.v516, runB.sl.r_54, runB.sl.r_41, runB.sl.v530, runB.sl.r_18, runB.sl.r_32, runB.sl.v330, runB.sl.v399, runB.sl.r_39, runB.sl.r_15, runB.sl.v313, runB.sl.r_31, runB.sl.r_25, runB.sl.r_34, runB.sl.v337, runB.sl.r, runB.sl.r_29, View.readCov, View.readAt_eq_ld, read_both, read_rest, read_top, read_shift, Memref.IsWhole.read_unread, gbuf_rest, hV, zV, vgV, guV, vhV]

theorem out27_B (hc : ¬starts i) (f) :
    a27.view.read (Elt F) (a27.view.writes (Elt F) f (runB c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 x30 x31 hc).2.2.2.2.2.2.2.2.1) = rsV (zV x0 x1 x2 x3 x4) := by
  refine Eq.trans ?_ (whole_eq f inb_S512x128_S512x128_0_0 _)
  unfold runB
  dsimp only
  simp only [runB_z, runB_u, runB_s9, runB_s10, runB_s11, runB_s12, runB_s13, runB_s14, runB_s15, runB_s16, runB_s17, runB_s18, runB_s19, runB_s20, runB_s22, runB_s23, runB_s24, runB_s25, runB_s26, runB_s27, runB_s28, runB_s29, runB_s30, runB_s32, runB_s33, runB_s34, runB_s35, runB_s36, runB_s37, runB_s38, runB_s39, runB_s40, runB_s41, runB_s42, runB_s43, runB_s44, runB_s45, runB_s46, runB_s47, runB_s48, runB_s49, runB_s50, runB_s51, runB_s52, runB_s53, runB_s54, runB_s55, runB_s56, runB.sl.cst_173, runB.sl.r_1, runB.sl.r_21, runB.sl.r_31, runB.sl.r, View.readCov, View.readAt_eq_ld, read_both, read_rest, read_top, read_shift, Memref.IsWhole.read_unread, gbuf_rest, rsV]

theorem out28_B (hc : ¬starts i) (f) :
    a28.view.read (Elt F) (a28.view.writes (Elt F) f (runB c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 x30 x31 hc).2.2.2.2.2.2.2.2.2.1) = yhV (gbuf (top x30) (glV (zV x0 x1 x2 x3 x4))) x9 x10 x16 := by
  refine Eq.trans ?_ (whole_eq f inb_S512x512_S512x512_0_0 _)
  unfold runB
  dsimp only
  simp only [runB_z, runB_u, runB_s9, runB_s10, runB_s11, runB_s12, runB_s13, runB_s14, runB_s15, runB_s16, runB_s17, runB_s18, runB_s19, runB_s20, runB_s22, runB_s23, runB_s24, runB_s25, runB_s26, runB_s27, runB_s28, runB_s29, runB_s30, runB_s32, runB_s33, runB_s34, runB_s35, runB_s36, runB_s37, runB_s38, runB_s39, runB_s40, runB_s41, runB_s42, runB_s43, runB_s44, runB_s45, runB_s46, runB_s47, runB_s48, runB_s49, runB_s50, runB_s51, runB_s52, runB_s53, runB_s54, runB_s55, runB_s56, runB.sl.cst_173, runB.sl.r_1, runB.sl.r_21, runB.sl.r_31, runB.sl.r, runB_v392, runB_v385, runB_v297, runB_v413, runB_v523, runB_v406, runB_v426, runB_v481, runB_v509, runB_v454, runB_v447, runB_v440, runB_v344, runB_v433, runB_v358, runB_v475, runB_v420, runB_v351, runB_v495, runB_v378, runB_v365, runB_v289, runB_v468, runB_v461, runB_v323, runB_v309, runB_v502, runB_v371, runB_v488, runB_v293, runB_v305, runB_v301, runB_v516, runB_v530, runB_v330, runB_v399, runB_v313, runB_v337, View.readCov, View.readAt_eq_ld, read_both, read_rest, read_top, read_shift, Memref.IsWhole.read_unread, gbuf_rest, yhV]

theorem out29_B (hc : ¬starts i) (f) :
    a29.view.read (Elt F) (a29.view.writes (Elt F) f (runB c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 x30 x31 hc).2.2.2.2.2.2.2.2.2.2.1) = rgV (gbuf (top x30) (glV (zV x0 x1 x2 x3 x4))) x9 x10 x16 := by
  refine Eq.trans ?_ (whole_eq f inb_S512x512_S512x512_0_0 _)
  unfold runB
  dsimp only
  simp only [runB_z, runB_u, runB_s9, runB_s10, runB_s11, runB_s12, runB_s13, runB_s14, runB_s15, runB_s16, runB_s17, runB_s18, runB_s19, runB_s20, runB_s22, runB_s23, runB_s24, runB_s25, runB_s26, runB_s27, runB_s28, runB_s29, runB_s30, runB_s32, runB_s33, runB_s34, runB_s35, runB_s36, runB_s37, runB_s38, runB_s39, runB_s40, runB_s41, runB_s42, runB_s43, runB_s44, runB_s45, runB_s46, runB_s47, runB_s48, runB_s49, runB_s50, runB_s51, runB_s52, runB_s53, runB_s54, runB_s55, runB_s56, runB.sl.cst_173, runB.sl.r_1, runB.sl.r_21, runB.sl.r_31, runB.sl.r, runB_v392, runB_v385, runB_v297, runB_v413, runB_v523, runB_v406, runB_v426, runB_v481, runB_v509, runB_v454, runB_v447, runB_v440, runB_v344, runB_v433, runB_v358, runB_v475, runB_v420, runB_v351, runB_v495, runB_v378, runB_v365, runB_v289, runB_v468, runB_v461, runB_v323, runB_v309, runB_v502, runB_v371, runB_v488, runB_v293, runB_v305, runB_v301, runB_v516, runB_v530, runB_v330, runB_v399, runB_v313, runB_v337, View.readCov, View.readAt_eq_ld, read_both, read_rest, read_top, read_shift, Memref.IsWhole.read_unread, gbuf_rest, rgV]

theorem out30_B (hc : ¬starts i) :
    top (a30.view.read (Elt F) (a30.view.writes (Elt F) (h30.unread x30) (runB c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 x30 x31 hc).2.2.2.2.2.2.2.2.2.2.2.1)) = carV (zV x0 x1 x2 x3 x4) := by
  unfold runB
  dsimp only
  refine (read_top (h30.unread x30) _ _).trans ?_
  rw [runB_s35]
  rfl

end Cert.Kernel4Ideal.Mix

end
-- ==== Proof.MixFrame.lean ====
/-
The mixer's forward call over its whole grid: the operands end unchanged, and eleven of the results end as their blocks,
point after point. The first scratch buffer carries the last rows of a point's gated block into the next point. The
other two results and the second scratch buffer end at contents that are not named.
-/
module

public import proofs.«01_k».proof.Proof.MixOuts

@[expose] public section

set_option maxRecDepth 16384

noncomputable section

namespace Cert.Kernel4Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

variable (m : (ℓ : Loc nD τ sig) → Buf (Elt F) ℓ) (ρ : Dev nD → PrngReg)

/-- The buffer window 0 is staged in at a point. -/
abbrev buf0 (t : Fin cfg0.N) : Memref sig .tc .vmem S512x1024 .f32 := win0_0.stage (cfg0.slots t 0)
/-- The buffer window 1 is staged in at a point. -/
abbrev buf1 (t : Fin cfg0.N) : Memref sig .tc .vmem S8x1024 .f32 := win0_1.stage (cfg0.slots t 1)
/-- The buffer window 2 is staged in at a point. -/
abbrev buf2 (t : Fin cfg0.N) : Memref sig .tc .vmem S1x1024 .f32 := win0_2.stage (cfg0.slots t 2)
/-- The buffer window 3 is staged in at a point. -/
abbrev buf3 (t : Fin cfg0.N) : Memref sig .tc .vmem S8x1024x256 .bf16 := win0_3.stage (cfg0.slots t 3)
/-- The buffer window 4 is staged in at a point. -/
abbrev buf4 (t : Fin cfg0.N) : Memref sig .tc .vmem S1x2048 .f32 := win0_4.stage (cfg0.slots t 4)
/-- The buffer window 5 is staged in at a point. -/
abbrev buf5 (t : Fin cfg0.N) : Memref sig .tc .vmem S1x512 .f32 := win0_5.stage (cfg0.slots t 5)
/-- The buffer window 6 is staged in at a point. -/
abbrev buf6 (t : Fin cfg0.N) : Memref sig .tc .vmem S1x512 .f32 := win0_6.stage (cfg0.slots t 6)
/-- The buffer window 7 is staged in at a point. -/
abbrev buf7 (t : Fin cfg0.N) : Memref sig .tc .vmem S1024x128 .bf16 := win0_7.stage (cfg0.slots t 7)
/-- The buffer window 8 is staged in at a point. -/
abbrev buf8 (t : Fin cfg0.N) : Memref sig .tc .vmem S128x512 .f32 := win0_8.stage (cfg0.slots t 8)
/-- The buffer window 9 is staged in at a point. -/
abbrev buf9 (t : Fin cfg0.N) : Memref sig .tc .vmem S32x512 .f32 := win0_9.stage (cfg0.slots t 9)
/-- The buffer window 10 is staged in at a point. -/
abbrev buf10 (t : Fin cfg0.N) : Memref sig .tc .vmem S1x512 .f32 := win0_10.stage (cfg0.slots t 10)
/-- The buffer window 11 is staged in at a point. -/
abbrev buf11 (t : Fin cfg0.N) : Memref sig .tc .vmem S1x512 .f32 := win0_11.stage (cfg0.slots t 11)
/-- The buffer window 12 is staged in at a point. -/
abbrev buf12 (t : Fin cfg0.N) : Memref sig .tc .vmem S1x512 .f32 := win0_12.stage (cfg0.slots t 12)
/-- The buffer window 13 is staged in at a point. -/
abbrev buf13 (t : Fin cfg0.N) : Memref sig .tc .vmem S1x512 .f32 := win0_13.stage (cfg0.slots t 13)
/-- The buffer window 14 is staged in at a point. -/
abbrev buf14 (t : Fin cfg0.N) : Memref sig .tc .vmem S1x512 .f32 := win0_14.stage (cfg0.slots t 14)
/-- The buffer window 15 is staged in at a point. -/
abbrev buf15 (t : Fin cfg0.N) : Memref sig .tc .vmem S1024x1024 .bf16 := win0_15.stage (cfg0.slots t 15)
/-- The buffer window 16 is staged in at a point. -/
abbrev buf16 (t : Fin cfg0.N) : Memref sig .tc .vmem S512x512 .bf16 := win0_16.stage (cfg0.slots t 16)
/-- The buffer window 17 is staged in at a point. -/
abbrev buf17 (t : Fin cfg0.N) : Memref sig .tc .vmem S512x1024 .f32 := win0_17.stage (cfg0.slots t 17)
/-- The buffer window 18 is staged in at a point. -/
abbrev buf18 (t : Fin cfg0.N) : Memref sig .tc .vmem S512x1024 .bf16 := win0_18.stage (cfg0.slots t 18)
/-- The buffer window 19 is staged in at a point. -/
abbrev buf19 (t : Fin cfg0.N) : Memref sig .tc .vmem S512x1024 .f32 := win0_19.stage (cfg0.slots t 19)
/-- The buffer window 20 is staged in at a point. -/
abbrev buf20 (t : Fin cfg0.N) : Memref sig .tc .vmem S512x512 .f32 := win0_20.stage (cfg0.slots t 20)
/-- The buffer window 21 is staged in at a point. -/
abbrev buf21 (t : Fin cfg0.N) : Memref sig .tc .vmem S512x1024 .bf16 := win0_21.stage (cfg0.slots t 21)
/-- The buffer window 22 is staged in at a point. -/
abbrev buf22 (t : Fin cfg0.N) : Memref sig .tc .vmem S512x1024 .f32 := win0_22.stage (cfg0.slots t 22)
/-- The buffer window 23 is staged in at a point. -/
abbrev buf23 (t : Fin cfg0.N) : Memref sig .tc .vmem S512x512 .f32 := win0_23.stage (cfg0.slots t 23)
/-- The buffer window 24 is staged in at a point. -/
abbrev buf24 (t : Fin cfg0.N) : Memref sig .tc .vmem S512x512 .f32 := win0_24.stage (cfg0.slots t 24)
/-- The buffer window 25 is staged in at a point. -/
abbrev buf25 (t : Fin cfg0.N) : Memref sig .tc .vmem S512x512 .f32 := win0_25.stage (cfg0.slots t 25)
/-- The buffer window 26 is staged in at a point. -/
abbrev buf26 (t : Fin cfg0.N) : Memref sig .tc .vmem S512x512 .f32 := win0_26.stage (cfg0.slots t 26)
/-- The buffer window 27 is staged in at a point. -/
abbrev buf27 (t : Fin cfg0.N) : Memref sig .tc .vmem S512x128 .f32 := win0_27.stage (cfg0.slots t 27)
/-- The buffer window 28 is staged in at a point. -/
abbrev buf28 (t : Fin cfg0.N) : Memref sig .tc .vmem S512x512 .f32 := win0_28.stage (cfg0.slots t 28)
/-- The buffer window 29 is staged in at a point. -/
abbrev buf29 (t : Fin cfg0.N) : Memref sig .tc .vmem S512x512 .f32 := win0_29.stage (cfg0.slots t 29)

/-- The first scratch buffer. -/
abbrev scr0 : Memref sig .tc .vmem S544x512 .f32 := Memref.whole cc0_scratch0
/-- The second scratch buffer. -/
abbrev scr1 : Memref sig .tc .vmem S7x536x512 .f32 := Memref.whole cc0_scratch1

/-- What the loop keeps: the scratch buffers and the generator's register, at anything. -/
theorem kept_eq (c : Dev nD) :
    (Pipeline.ΦA spec0 c : Asr F)
      = iprop(((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; rfl

/-- The carried rows are cleared at the first point only. -/
theorem starts_iff (t : Fin cfg0.N) : starts (grid0.coords t) ↔ t.val = 0 := by
  have ht : t.val < 16 := Nat.lt_of_lt_of_eq t.isLt N_0
  have e0 : (grid0.coords t 0).val = t.val / 1 % 16 := Pipeline.Grid.coords_val t 0 (by decide) rfl
  have h1 : starts (grid0.coords t) ↔ t.val % 16 = 0 := by
    simp only [starts, e0]
    word_cmp
  rw [h1]; omega

/-- The results of which nothing is named. -/
def unseen : Fin 30 → Bool := fun w =>
  w.val == 24 || w.val == 25

/-- The projection's block at a point. -/
def zB (c : Dev nD) (t : Fin cfg0.N) : FVec F S512x2048 .f32 := zV (iblk m c 0 t) (iblk m c 1 t) (iblk m c 2 t) (iblk m c 3 t) (iblk m c 4 t)

/-- The activated first group's block at a point. -/
def uB (c : Dev nD) (t : Fin cfg0.N) : FVec F S512x512 .f32 := guV (iblk m c 0 t) (iblk m c 1 t) (iblk m c 2 t) (iblk m c 3 t) (iblk m c 4 t)

/-- The rows carried into a point: zero into the first. -/
def tB (c : Dev nD) (t : Fin cfg0.N) : FVec F S32x512 .f32 :=
  if t.val = 0 then k0_pay50 else carV (zB m c ⟨t.val - 1, lt_of_le_of_lt (Nat.sub_le _ _) t.isLt⟩)

/-- The gated block at a point, below the rows carried into it. -/
def gB (c : Dev nD) (t : Fin cfg0.N) : Vec F S544x512 .f32 := gbuf (tB m c t) (glV (zB m c t))

/-- What the first scratch buffer holds before a point: past the first, the rows carried into it. -/
def carries (c : Dev nD) (n : ℕ) (d : Vec F S544x512 .f32) : Prop :=
  ∀ s : Fin cfg0.N, n = s.val + 1 → top d = carV (zB m c s)

theorem carries_next (c : Dev nD) (t : Fin cfg0.N) {d : Vec F S544x512 .f32} (h : top d = carV (zB m c t)) : carries m c (t.val + 1) d :=
  fun s hs => (Fin.ext (by omega) : t = s) ▸ h

theorem gB_first (c : Dev nD) (t : Fin cfg0.N) (h : t.val = 0) : gB m c t = gbuf k0_pay50 (glV (zB m c t)) := by
  unfold gB tB; rw [if_pos h]

theorem gB_next (c : Dev nD) (t : Fin cfg0.N) (h : ¬t.val = 0) {d : Vec F S544x512 .f32} (hd : carries m c t.val d) :
    gB m c t = gbuf (top d) (glV (zB m c t)) := by
  unfold gB tB; rw [if_neg h, hd ⟨t.val - 1, lt_of_le_of_lt (Nat.sub_le _ _) t.isLt⟩ (by show t.val = t.val - 1 + 1; omega)]

/-- What the loop keeps before a point. -/
def kept (c : Dev nD) (n : ℕ) : Asr F :=
  iprop(((∃ f, ⌜carries m c n (scr0.view.read (Elt F) f)⌝ ∗ (scr0.view.loc (c : Thread nD τ) ↦[scr0.view.set]{fullShare} f)) ∗ (∃ d, owns (c : Thread nD τ) scr1 fullShare d)) ∗ (∃ r, prngReg c r))

theorem kept_in (c : Dev nD) : (Pipeline.ΦA spec0 c : Asr F) ⊢ kept m c 0 := by
  rw [kept_eq]; unfold kept
  iintro ⟨⟨⟨%d, H30⟩, H31⟩, Hg⟩
  isplitl [H30 H31]
  · isplitl [H30]
    · unfold owns; icases H30 with ⟨%f, %e, H30⟩
      iexists f
      isplitr
      · ipureintro; intro s hs; omega
      iexact H30
    iexact H31
  iexact Hg

theorem kept_out (c : Dev nD) (n : ℕ) : kept m c n ⊢ (Pipeline.ΦA spec0 c : Asr F) := by
  rw [kept_eq]; unfold kept
  iintro ⟨⟨⟨%d, %e, H30⟩, H31⟩, Hg⟩
  isplitl [H30 H31]
  · isplitl [H30]
    · iexists (scr0.view.read (Elt F) d); unfold owns; iexists d
      isplitr
      · ipureintro; rfl
      iexact H30
    iexact H31
  iexact Hg

/-- The contents the loop is followed by: each operand's buffer at its block, the named outputs at their values. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => x1V (zB m c t) (uB m c t) (gB m c t) (iblk m c 0 t) (iblk m c 1 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨18, _⟩ => hV (iblk m c 0 t) (iblk m c 1 t) (iblk m c 2 t)
    | ⟨19, _⟩ => vgV (iblk m c 0 t) (iblk m c 1 t) (iblk m c 2 t) (iblk m c 3 t) (iblk m c 4 t)
    | ⟨20, _⟩ => mxV (zB m c t) (iblk m c 5 t) (iblk m c 6 t) (iblk m c 7 t) (iblk m c 8 t)
    | ⟨21, _⟩ => yV (zB m c t) (uB m c t) (gB m c t) (iblk m c 5 t) (iblk m c 6 t) (iblk m c 7 t) (iblk m c 8 t) (iblk m c 9 t) (iblk m c 10 t) (iblk m c 11 t) (iblk m c 12 t) (iblk m c 13 t) (iblk m c 14 t) (iblk m c 16 t)
    | ⟨22, _⟩ => oV (zB m c t) (uB m c t) (gB m c t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨23, _⟩ => guV (iblk m c 0 t) (iblk m c 1 t) (iblk m c 2 t) (iblk m c 3 t) (iblk m c 4 t)
    | ⟨24, h⟩ => Pipeline.Dat.unnamed (cfg := cfg0) ⟨24, h⟩ t
    | ⟨25, h⟩ => Pipeline.Dat.unnamed (cfg := cfg0) ⟨25, h⟩ t
    | ⟨26, _⟩ => vhV (iblk m c 0 t) (iblk m c 1 t) (iblk m c 2 t) (iblk m c 3 t) (iblk m c 4 t)
    | ⟨27, _⟩ => rsV (zB m c t)
    | ⟨28, _⟩ => yhV (gB m c t) (iblk m c 9 t) (iblk m c 10 t) (iblk m c 16 t)
    | ⟨29, _⟩ => rgV (gB m c t) (iblk m c 9 t) (iblk m c 10 t) (iblk m c 16 t)
    | ⟨_ + 30, h⟩ => absurd h (Nat.not_lt.2 (Nat.le_add_left _ _))
  Φ t := kept m c t.val
  q _ := fullShare
  owed _ := 0

theorem data_A (c : Dev nD) (w : Fin cfg0.W) : (data m 0 c).A w = V m c (Pipeline.arrRef spec0 w) := by
  dsimp only [data]

theorem after0 (c : Dev nD) (t : Fin cfg0.N) : (data m 0 c).after 0 t = iblk m c 0 t := by dsimp only [data]
theorem after1 (c : Dev nD) (t : Fin cfg0.N) : (data m 0 c).after 1 t = iblk m c 1 t := by dsimp only [data]
theorem after2 (c : Dev nD) (t : Fin cfg0.N) : (data m 0 c).after 2 t = iblk m c 2 t := by dsimp only [data]
theorem after3 (c : Dev nD) (t : Fin cfg0.N) : (data m 0 c).after 3 t = iblk m c 3 t := by dsimp only [data]
theorem after4 (c : Dev nD) (t : Fin cfg0.N) : (data m 0 c).after 4 t = iblk m c 4 t := by dsimp only [data]
theorem after5 (c : Dev nD) (t : Fin cfg0.N) : (data m 0 c).after 5 t = iblk m c 5 t := by dsimp only [data]
theorem after6 (c : Dev nD) (t : Fin cfg0.N) : (data m 0 c).after 6 t = iblk m c 6 t := by dsimp only [data]
theorem after7 (c : Dev nD) (t : Fin cfg0.N) : (data m 0 c).after 7 t = iblk m c 7 t := by dsimp only [data]
theorem after8 (c : Dev nD) (t : Fin cfg0.N) : (data m 0 c).after 8 t = iblk m c 8 t := by dsimp only [data]
theorem after9 (c : Dev nD) (t : Fin cfg0.N) : (data m 0 c).after 9 t = iblk m c 9 t := by dsimp only [data]
theorem after10 (c : Dev nD) (t : Fin cfg0.N) : (data m 0 c).after 10 t = iblk m c 10 t := by dsimp only [data]
theorem after11 (c : Dev nD) (t : Fin cfg0.N) : (data m 0 c).after 11 t = iblk m c 11 t := by dsimp only [data]
theorem after12 (c : Dev nD) (t : Fin cfg0.N) : (data m 0 c).after 12 t = iblk m c 12 t := by dsimp only [data]
theorem after13 (c : Dev nD) (t : Fin cfg0.N) : (data m 0 c).after 13 t = iblk m c 13 t := by dsimp only [data]
theorem after14 (c : Dev nD) (t : Fin cfg0.N) : (data m 0 c).after 14 t = iblk m c 14 t := by dsimp only [data]
theorem after15 (c : Dev nD) (t : Fin cfg0.N) : (data m 0 c).after 15 t = iblk m c 15 t := by dsimp only [data]
theorem after16 (c : Dev nD) (t : Fin cfg0.N) : (data m 0 c).after 16 t = iblk m c 16 t := by dsimp only [data]
theorem after18 (c : Dev nD) (t : Fin cfg0.N) : (data m 0 c).after 18 t = hV (iblk m c 0 t) (iblk m c 1 t) (iblk m c 2 t) := by dsimp only [data]
theorem after19 (c : Dev nD) (t : Fin cfg0.N) : (data m 0 c).after 19 t = vgV (iblk m c 0 t) (iblk m c 1 t) (iblk m c 2 t) (iblk m c 3 t) (iblk m c 4 t) := by dsimp only [data]
theorem after23 (c : Dev nD) (t : Fin cfg0.N) : (data m 0 c).after 23 t = guV (iblk m c 0 t) (iblk m c 1 t) (iblk m c 2 t) (iblk m c 3 t) (iblk m c 4 t) := by dsimp only [data]
theorem after26 (c : Dev nD) (t : Fin cfg0.N) : (data m 0 c).after 26 t = vhV (iblk m c 0 t) (iblk m c 1 t) (iblk m c 2 t) (iblk m c 3 t) (iblk m c 4 t) := by dsimp only [data]
theorem after17 (c : Dev nD) (t : Fin cfg0.N) : (data m 0 c).after 17 t = x1V (zB m c t) (uB m c t) (gB m c t) (iblk m c 0 t) (iblk m c 1 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [data]
theorem after20 (c : Dev nD) (t : Fin cfg0.N) : (data m 0 c).after 20 t = mxV (zB m c t) (iblk m c 5 t) (iblk m c 6 t) (iblk m c 7 t) (iblk m c 8 t) := by dsimp only [data]
theorem after21 (c : Dev nD) (t : Fin cfg0.N) : (data m 0 c).after 21 t = yV (zB m c t) (uB m c t) (gB m c t) (iblk m c 5 t) (iblk m c 6 t) (iblk m c 7 t) (iblk m c 8 t) (iblk m c 9 t) (iblk m c 10 t) (iblk m c 11 t) (iblk m c 12 t) (iblk m c 13 t) (iblk m c 14 t) (iblk m c 16 t) := by dsimp only [data]
theorem after22 (c : Dev nD) (t : Fin cfg0.N) : (data m 0 c).after 22 t = oV (zB m c t) (uB m c t) (gB m c t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [data]
theorem after27 (c : Dev nD) (t : Fin cfg0.N) : (data m 0 c).after 27 t = rsV (zB m c t) := by dsimp only [data]
theorem after28 (c : Dev nD) (t : Fin cfg0.N) : (data m 0 c).after 28 t = yhV (gB m c t) (iblk m c 9 t) (iblk m c 10 t) (iblk m c 16 t) := by dsimp only [data]
theorem after29 (c : Dev nD) (t : Fin cfg0.N) : (data m 0 c).after 29 t = rgV (gB m c t) (iblk m c 9 t) (iblk m c 10 t) (iblk m c 16 t) := by dsimp only [data]
theorem before0 (c : Dev nD) (t : Fin cfg0.N) (d) : (data m 0 c).before 0 t d = iblk m c 0 t :=
  before0_0_of m (data m 0 c) (data_A m c 0) (after0 m c) t d
theorem before1 (c : Dev nD) (t : Fin cfg0.N) (d) : (data m 0 c).before 1 t d = iblk m c 1 t :=
  before0_1_of m (data m 0 c) (data_A m c 1) (after1 m c) t d
theorem before2 (c : Dev nD) (t : Fin cfg0.N) (d) : (data m 0 c).before 2 t d = iblk m c 2 t :=
  before0_2_of m (data m 0 c) (data_A m c 2) (after2 m c) t d
theorem before3 (c : Dev nD) (t : Fin cfg0.N) (d) : (data m 0 c).before 3 t d = iblk m c 3 t :=
  before0_3_of m (data m 0 c) (data_A m c 3) (after3 m c) t d
theorem before4 (c : Dev nD) (t : Fin cfg0.N) (d) : (data m 0 c).before 4 t d = iblk m c 4 t :=
  before0_4_of m (data m 0 c) (data_A m c 4) (after4 m c) t d
theorem before5 (c : Dev nD) (t : Fin cfg0.N) (d) : (data m 0 c).before 5 t d = iblk m c 5 t :=
  before0_5_of m (data m 0 c) (data_A m c 5) (after5 m c) t d
theorem before6 (c : Dev nD) (t : Fin cfg0.N) (d) : (data m 0 c).before 6 t d = iblk m c 6 t :=
  before0_6_of m (data m 0 c) (data_A m c 6) (after6 m c) t d
theorem before7 (c : Dev nD) (t : Fin cfg0.N) (d) : (data m 0 c).before 7 t d = iblk m c 7 t :=
  before0_7_of m (data m 0 c) (data_A m c 7) (after7 m c) t d
theorem before8 (c : Dev nD) (t : Fin cfg0.N) (d) : (data m 0 c).before 8 t d = iblk m c 8 t :=
  before0_8_of m (data m 0 c) (data_A m c 8) (after8 m c) t d
theorem before9 (c : Dev nD) (t : Fin cfg0.N) (d) : (data m 0 c).before 9 t d = iblk m c 9 t :=
  before0_9_of m (data m 0 c) (data_A m c 9) (after9 m c) t d
theorem before10 (c : Dev nD) (t : Fin cfg0.N) (d) : (data m 0 c).before 10 t d = iblk m c 10 t :=
  before0_10_of m (data m 0 c) (data_A m c 10) (after10 m c) t d
theorem before11 (c : Dev nD) (t : Fin cfg0.N) (d) : (data m 0 c).before 11 t d = iblk m c 11 t :=
  before0_11_of m (data m 0 c) (data_A m c 11) (after11 m c) t d
theorem before12 (c : Dev nD) (t : Fin cfg0.N) (d) : (data m 0 c).before 12 t d = iblk m c 12 t :=
  before0_12_of m (data m 0 c) (data_A m c 12) (after12 m c) t d
theorem before13 (c : Dev nD) (t : Fin cfg0.N) (d) : (data m 0 c).before 13 t d = iblk m c 13 t :=
  before0_13_of m (data m 0 c) (data_A m c 13) (after13 m c) t d
theorem before14 (c : Dev nD) (t : Fin cfg0.N) (d) : (data m 0 c).before 14 t d = iblk m c 14 t :=
  before0_14_of m (data m 0 c) (data_A m c 14) (after14 m c) t d
theorem before15 (c : Dev nD) (t : Fin cfg0.N) (d) : (data m 0 c).before 15 t d = iblk m c 15 t :=
  before0_15_of m (data m 0 c) (data_A m c 15) (after15 m c) t d
theorem before16 (c : Dev nD) (t : Fin cfg0.N) (d) : (data m 0 c).before 16 t d = iblk m c 16 t :=
  before0_16_of m (data m 0 c) (data_A m c 16) (after16 m c) t d

/-- What the body finds at a point. -/
def found (c : Dev nD) (t : Fin cfg0.N) : Asr F :=
  iprop((data m 0 c).Φ t.castSucc ∗ (data m 0 c).owesAt () t.castSucc
    ∗ (∃ d, owns (c : Thread nD τ) (buf0 t) fullShare ((data m 0 c).before 0 t d))
    ∗ (∃ d, owns (c : Thread nD τ) (buf1 t) fullShare ((data m 0 c).before 1 t d))
    ∗ (∃ d, owns (c : Thread nD τ) (buf2 t) fullShare ((data m 0 c).before 2 t d))
    ∗ (∃ d, owns (c : Thread nD τ) (buf3 t) fullShare ((data m 0 c).before 3 t d))
    ∗ (∃ d, owns (c : Thread nD τ) (buf4 t) fullShare ((data m 0 c).before 4 t d))
    ∗ (∃ d, owns (c : Thread nD τ) (buf5 t) fullShare ((data m 0 c).before 5 t d))
    ∗ (∃ d, owns (c : Thread nD τ) (buf6 t) fullShare ((data m 0 c).before 6 t d))
    ∗ (∃ d, owns (c : Thread nD τ) (buf7 t) fullShare ((data m 0 c).before 7 t d))
    ∗ (∃ d, owns (c : Thread nD τ) (buf8 t) fullShare ((data m 0 c).before 8 t d))
    ∗ (∃ d, owns (c : Thread nD τ) (buf9 t) fullShare ((data m 0 c).before 9 t d))
    ∗ (∃ d, owns (c : Thread nD τ) (buf10 t) fullShare ((data m 0 c).before 10 t d))
    ∗ (∃ d, owns (c : Thread nD τ) (buf11 t) fullShare ((data m 0 c).before 11 t d))
    ∗ (∃ d, owns (c : Thread nD τ) (buf12 t) fullShare ((data m 0 c).before 12 t d))
    ∗ (∃ d, owns (c : Thread nD τ) (buf13 t) fullShare ((data m 0 c).before 13 t d))
    ∗ (∃ d, owns (c : Thread nD τ) (buf14 t) fullShare ((data m 0 c).before 14 t d))
    ∗ (∃ d, owns (c : Thread nD τ) (buf15 t) fullShare ((data m 0 c).before 15 t d))
    ∗ (∃ d, owns (c : Thread nD τ) (buf16 t) fullShare ((data m 0 c).before 16 t d))
    ∗ (∃ d, owns (c : Thread nD τ) (buf17 t) fullShare ((data m 0 c).before 17 t d))
    ∗ (∃ d, owns (c : Thread nD τ) (buf18 t) fullShare ((data m 0 c).before 18 t d))
    ∗ (∃ d, owns (c : Thread nD τ) (buf19 t) fullShare ((data m 0 c).before 19 t d))
    ∗ (∃ d, owns (c : Thread nD τ) (buf20 t) fullShare ((data m 0 c).before 20 t d))
    ∗ (∃ d, owns (c : Thread nD τ) (buf21 t) fullShare ((data m 0 c).before 21 t d))
    ∗ (∃ d, owns (c : Thread nD τ) (buf22 t) fullShare ((data m 0 c).before 22 t d))
    ∗ (∃ d, owns (c : Thread nD τ) (buf23 t) fullShare ((data m 0 c).before 23 t d))
    ∗ (∃ d, owns (c : Thread nD τ) (buf24 t) fullShare d)
    ∗ (∃ d, owns (c : Thread nD τ) (buf25 t) fullShare d)
    ∗ (∃ d, owns (c : Thread nD τ) (buf26 t) fullShare ((data m 0 c).before 26 t d))
    ∗ (∃ d, owns (c : Thread nD τ) (buf27 t) fullShare ((data m 0 c).before 27 t d))
    ∗ (∃ d, owns (c : Thread nD τ) (buf28 t) fullShare ((data m 0 c).before 28 t d))
    ∗ (∃ d, owns (c : Thread nD τ) (buf29 t) fullShare ((data m 0 c).before 29 t d)))

/-- What the body leaves at a point. -/
def left (c : Dev nD) (t : Fin cfg0.N) : Asr F :=
  iprop((data m 0 c).Φ t.succ ∗ (data m 0 c).owesAt () t.succ
    ∗ owns (c : Thread nD τ) (buf0 t) fullShare ((data m 0 c).after 0 t)
    ∗ owns (c : Thread nD τ) (buf1 t) fullShare ((data m 0 c).after 1 t)
    ∗ owns (c : Thread nD τ) (buf2 t) fullShare ((data m 0 c).after 2 t)
    ∗ owns (c : Thread nD τ) (buf3 t) fullShare ((data m 0 c).after 3 t)
    ∗ owns (c : Thread nD τ) (buf4 t) fullShare ((data m 0 c).after 4 t)
    ∗ owns (c : Thread nD τ) (buf5 t) fullShare ((data m 0 c).after 5 t)
    ∗ owns (c : Thread nD τ) (buf6 t) fullShare ((data m 0 c).after 6 t)
    ∗ owns (c : Thread nD τ) (buf7 t) fullShare ((data m 0 c).after 7 t)
    ∗ owns (c : Thread nD τ) (buf8 t) fullShare ((data m 0 c).after 8 t)
    ∗ owns (c : Thread nD τ) (buf9 t) fullShare ((data m 0 c).after 9 t)
    ∗ owns (c : Thread nD τ) (buf10 t) fullShare ((data m 0 c).after 10 t)
    ∗ owns (c : Thread nD τ) (buf11 t) fullShare ((data m 0 c).after 11 t)
    ∗ owns (c : Thread nD τ) (buf12 t) fullShare ((data m 0 c).after 12 t)
    ∗ owns (c : Thread nD τ) (buf13 t) fullShare ((data m 0 c).after 13 t)
    ∗ owns (c : Thread nD τ) (buf14 t) fullShare ((data m 0 c).after 14 t)
    ∗ owns (c : Thread nD τ) (buf15 t) fullShare ((data m 0 c).after 15 t)
    ∗ owns (c : Thread nD τ) (buf16 t) fullShare ((data m 0 c).after 16 t)
    ∗ owns (c : Thread nD τ) (buf17 t) fullShare ((data m 0 c).after 17 t)
    ∗ owns (c : Thread nD τ) (buf18 t) fullShare ((data m 0 c).after 18 t)
    ∗ owns (c : Thread nD τ) (buf19 t) fullShare ((data m 0 c).after 19 t)
    ∗ owns (c : Thread nD τ) (buf20 t) fullShare ((data m 0 c).after 20 t)
    ∗ owns (c : Thread nD τ) (buf21 t) fullShare ((data m 0 c).after 21 t)
    ∗ owns (c : Thread nD τ) (buf22 t) fullShare ((data m 0 c).after 22 t)
    ∗ owns (c : Thread nD τ) (buf23 t) fullShare ((data m 0 c).after 23 t)
    ∗ (∃ d, owns (c : Thread nD τ) (buf24 t) fullShare d)
    ∗ (∃ d, owns (c : Thread nD τ) (buf25 t) fullShare d)
    ∗ owns (c : Thread nD τ) (buf26 t) fullShare ((data m 0 c).after 26 t)
    ∗ owns (c : Thread nD τ) (buf27 t) fullShare ((data m 0 c).after 27 t)
    ∗ owns (c : Thread nD τ) (buf28 t) fullShare ((data m 0 c).after 28 t)
    ∗ owns (c : Thread nD τ) (buf29 t) fullShare ((data m 0 c).after 29 t))

set_option maxHeartbeats 20000000 in
theorem sound (c : Dev nD) (t : Fin cfg0.N) :
    found m c t ⊢ wp frame (wpE (defs₀ (F := F)) Variants.none c none) Set.univ (bodyAt0 t) (fun _ => left m c t) := by
  unfold found left bodyAt0
  simp only [before0, before1, before2, before3, before4, before5, before6, before7, before8, before9, before10, before11, before12, before13, before14, before15, before16]
  rw [show (data m 0 c).owesAt () t.succ = (data m 0 c).owesAt () t.castSucc from rfl,
    after0, after1, after2, after3, after4, after5, after6, after7, after8, after9, after10, after11, after12, after13, after14, after15, after16, after17, after18, after19, after20, after21, after22, after23, after26, after27, after28, after29]
  rw [show (data m 0 c).Φ t.succ = kept m c (t.val + 1) from rfl, show (data m 0 c).Φ t.castSucc = kept m c t.val from rfl]
  unfold kept
  by_cases hz : t.val = 0
  · iintro ⟨⟨⟨⟨%f30, %e30, H30⟩, ⟨%d31, H31⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, H17, H18, H19, H20, H21, H22, H23, H24, H25, H26, H27, H28, H29⟩
    iapply ((runA c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (scr0.view.read (Elt F) f30) d31 ((starts_iff t).mpr hz)).2.2.2.2.2.2.2.2.2.2.2.2 Set.univ _)
    unfold held free
    isplitl [H0 H1 H2 H3 H4 H5 H6 H7 H8 H9 H10 H11 H12 H13 H14 H15 H16]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    isplitl [H24 H25]
    · isplitl [H24]; · iexact H24
      iexact H25
    isplitl [H30]
    · unfold owns; iexists f30; isplitr; · ipureintro; rfl
      iexact H30
    isplitl [H31]; · iexact H31
    isplitl [H17]; · icases H17 with ⟨%d, H17⟩; iexists _; iexact H17
    isplitl [H18]; · icases H18 with ⟨%d, H18⟩; iexists _; iexact H18
    isplitl [H19]; · icases H19 with ⟨%d, H19⟩; iexists _; iexact H19
    isplitl [H20]; · icases H20 with ⟨%d, H20⟩; iexists _; iexact H20
    isplitl [H21]; · icases H21 with ⟨%d, H21⟩; iexists _; iexact H21
    isplitl [H22]; · icases H22 with ⟨%d, H22⟩; iexists _; iexact H22
    isplitl [H23]; · icases H23 with ⟨%d, H23⟩; iexists _; iexact H23
    isplitl [H26]; · icases H26 with ⟨%d, H26⟩; iexists _; iexact H26
    isplitl [H27]; · icases H27 with ⟨%d, H27⟩; iexists _; iexact H27
    isplitl [H28]; · icases H28 with ⟨%d, H28⟩; iexists _; iexact H28
    isplitl [H29]; · icases H29 with ⟨%d, H29⟩; iexists _; iexact H29
    iintro ⟨⟨H0, H1, H2, H3, H4, H5, H6, H7, H8, H9, H10, H11, H12, H13, H14, H15, H16⟩, ⟨H24, H25⟩, H30, ⟨%e31, H31⟩, ⟨%f17, H17⟩, ⟨%f18, H18⟩, ⟨%f19, H19⟩, ⟨%f20, H20⟩, ⟨%f21, H21⟩, ⟨%f22, H22⟩, ⟨%f23, H23⟩, ⟨%f26, H26⟩, ⟨%f27, H27⟩, ⟨%f28, H28⟩, ⟨%f29, H29⟩⟩
    isplitl [H30 H31 Hg]
    · isplitl [H30 H31]
      · isplitl [H30]
        · iexists _
          isplitr
          swap; · iexact H30
          · ipureintro; exact carries_next m c t (out30_A c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (scr0.view.read (Elt F) f30) d31 ((starts_iff t).mpr hz))
        iexists _; iexact H31
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]
    · unfold owns; iexists _; isplitr; swap; · iexact H17
      ipureintro; exact (out17_A c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (scr0.view.read (Elt F) f30) d31 ((starts_iff t).mpr hz) _).trans (by rw [gB_first m c t hz]; rfl)
    isplitl [H18]
    · unfold owns; iexists _; isplitr; swap; · iexact H18
      ipureintro; exact (out18_A c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (scr0.view.read (Elt F) f30) d31 ((starts_iff t).mpr hz) _).trans rfl
    isplitl [H19]
    · unfold owns; iexists _; isplitr; swap; · iexact H19
      ipureintro; exact (out19_A c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (scr0.view.read (Elt F) f30) d31 ((starts_iff t).mpr hz) _).trans rfl
    isplitl [H20]
    · unfold owns; iexists _; isplitr; swap; · iexact H20
      ipureintro; exact (out20_A c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (scr0.view.read (Elt F) f30) d31 ((starts_iff t).mpr hz) _).trans rfl
    isplitl [H21]
    · unfold owns; iexists _; isplitr; swap; · iexact H21
      ipureintro; exact (out21_A c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (scr0.view.read (Elt F) f30) d31 ((starts_iff t).mpr hz) _).trans (by rw [gB_first m c t hz]; rfl)
    isplitl [H22]
    · unfold owns; iexists _; isplitr; swap; · iexact H22
      ipureintro; exact (out22_A c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (scr0.view.read (Elt F) f30) d31 ((starts_iff t).mpr hz) _).trans (by rw [gB_first m c t hz]; rfl)
    isplitl [H23]
    · unfold owns; iexists _; isplitr; swap; · iexact H23
      ipureintro; exact (out23_A c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (scr0.view.read (Elt F) f30) d31 ((starts_iff t).mpr hz) _).trans rfl
    isplitl [H24]; · iexact H24
    isplitl [H25]; · iexact H25
    isplitl [H26]
    · unfold owns; iexists _; isplitr; swap; · iexact H26
      ipureintro; exact (out26_A c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (scr0.view.read (Elt F) f30) d31 ((starts_iff t).mpr hz) _).trans rfl
    isplitl [H27]
    · unfold owns; iexists _; isplitr; swap; · iexact H27
      ipureintro; exact (out27_A c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (scr0.view.read (Elt F) f30) d31 ((starts_iff t).mpr hz) _).trans rfl
    isplitl [H28]
    · unfold owns; iexists _; isplitr; swap; · iexact H28
      ipureintro; exact (out28_A c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (scr0.view.read (Elt F) f30) d31 ((starts_iff t).mpr hz) _).trans (by rw [gB_first m c t hz]; rfl)
    · unfold owns; iexists _; isplitr; swap; · iexact H29
      ipureintro; exact (out29_A c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (scr0.view.read (Elt F) f30) d31 ((starts_iff t).mpr hz) _).trans (by rw [gB_first m c t hz]; rfl)
  · iintro ⟨⟨⟨⟨%f30, %e30, H30⟩, ⟨%d31, H31⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, H17, H18, H19, H20, H21, H22, H23, H24, H25, H26, H27, H28, H29⟩
    iapply ((runB c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (scr0.view.read (Elt F) f30) d31 (fun h => hz ((starts_iff t).mp h))).2.2.2.2.2.2.2.2.2.2.2.2 Set.univ _)
    unfold held free
    isplitl [H0 H1 H2 H3 H4 H5 H6 H7 H8 H9 H10 H11 H12 H13 H14 H15 H16]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    isplitl [H24 H25]
    · isplitl [H24]; · iexact H24
      iexact H25
    isplitl [H30]
    · unfold owns; iexists f30; isplitr; · ipureintro; rfl
      iexact H30
    isplitl [H31]; · iexact H31
    isplitl [H17]; · icases H17 with ⟨%d, H17⟩; iexists _; iexact H17
    isplitl [H18]; · icases H18 with ⟨%d, H18⟩; iexists _; iexact H18
    isplitl [H19]; · icases H19 with ⟨%d, H19⟩; iexists _; iexact H19
    isplitl [H20]; · icases H20 with ⟨%d, H20⟩; iexists _; iexact H20
    isplitl [H21]; · icases H21 with ⟨%d, H21⟩; iexists _; iexact H21
    isplitl [H22]; · icases H22 with ⟨%d, H22⟩; iexists _; iexact H22
    isplitl [H23]; · icases H23 with ⟨%d, H23⟩; iexists _; iexact H23
    isplitl [H26]; · icases H26 with ⟨%d, H26⟩; iexists _; iexact H26
    isplitl [H27]; · icases H27 with ⟨%d, H27⟩; iexists _; iexact H27
    isplitl [H28]; · icases H28 with ⟨%d, H28⟩; iexists _; iexact H28
    isplitl [H29]; · icases H29 with ⟨%d, H29⟩; iexists _; iexact H29
    iintro ⟨⟨H0, H1, H2, H3, H4, H5, H6, H7, H8, H9, H10, H11, H12, H13, H14, H15, H16⟩, ⟨H24, H25⟩, H30, ⟨%e31, H31⟩, ⟨%f17, H17⟩, ⟨%f18, H18⟩, ⟨%f19, H19⟩, ⟨%f20, H20⟩, ⟨%f21, H21⟩, ⟨%f22, H22⟩, ⟨%f23, H23⟩, ⟨%f26, H26⟩, ⟨%f27, H27⟩, ⟨%f28, H28⟩, ⟨%f29, H29⟩⟩
    isplitl [H30 H31 Hg]
    · isplitl [H30 H31]
      · isplitl [H30]
        · iexists _
          isplitr
          swap; · iexact H30
          · ipureintro; exact carries_next m c t (out30_B c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (scr0.view.read (Elt F) f30) d31 (fun h => hz ((starts_iff t).mp h)))
        iexists _; iexact H31
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]
    · unfold owns; iexists _; isplitr; swap; · iexact H17
      ipureintro; exact (out17_B c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (scr0.view.read (Elt F) f30) d31 (fun h => hz ((starts_iff t).mp h)) _).trans (by rw [gB_next m c t hz e30]; rfl)
    isplitl [H18]
    · unfold owns; iexists _; isplitr; swap; · iexact H18
      ipureintro; exact (out18_B c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (scr0.view.read (Elt F) f30) d31 (fun h => hz ((starts_iff t).mp h)) _).trans rfl
    isplitl [H19]
    · unfold owns; iexists _; isplitr; swap; · iexact H19
      ipureintro; exact (out19_B c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (scr0.view.read (Elt F) f30) d31 (fun h => hz ((starts_iff t).mp h)) _).trans rfl
    isplitl [H20]
    · unfold owns; iexists _; isplitr; swap; · iexact H20
      ipureintro; exact (out20_B c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (scr0.view.read (Elt F) f30) d31 (fun h => hz ((starts_iff t).mp h)) _).trans rfl
    isplitl [H21]
    · unfold owns; iexists _; isplitr; swap; · iexact H21
      ipureintro; exact (out21_B c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (scr0.view.read (Elt F) f30) d31 (fun h => hz ((starts_iff t).mp h)) _).trans (by rw [gB_next m c t hz e30]; rfl)
    isplitl [H22]
    · unfold owns; iexists _; isplitr; swap; · iexact H22
      ipureintro; exact (out22_B c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (scr0.view.read (Elt F) f30) d31 (fun h => hz ((starts_iff t).mp h)) _).trans (by rw [gB_next m c t hz e30]; rfl)
    isplitl [H23]
    · unfold owns; iexists _; isplitr; swap; · iexact H23
      ipureintro; exact (out23_B c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (scr0.view.read (Elt F) f30) d31 (fun h => hz ((starts_iff t).mp h)) _).trans rfl
    isplitl [H24]; · iexact H24
    isplitl [H25]; · iexact H25
    isplitl [H26]
    · unfold owns; iexists _; isplitr; swap; · iexact H26
      ipureintro; exact (out26_B c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (scr0.view.read (Elt F) f30) d31 (fun h => hz ((starts_iff t).mp h)) _).trans rfl
    isplitl [H27]
    · unfold owns; iexists _; isplitr; swap; · iexact H27
      ipureintro; exact (out27_B c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (scr0.view.read (Elt F) f30) d31 (fun h => hz ((starts_iff t).mp h)) _).trans rfl
    isplitl [H28]
    · unfold owns; iexists _; isplitr; swap; · iexact H28
      ipureintro; exact (out28_B c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (scr0.view.read (Elt F) f30) d31 (fun h => hz ((starts_iff t).mp h)) _).trans (by rw [gB_next m c t hz e30]; rfl)
    · unfold owns; iexists _; isplitr; swap; · iexact H29
      ipureintro; exact (out29_B c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (scr0.view.read (Elt F) f30) d31 (fun h => hz ((starts_iff t).mp h)) _).trans (by rw [gB_next m c t hz e30]; rfl)

theorem row (t : Fin cfg0.N) :
    defs₀ (F := F) .tc cfg0.body (cfg0.bodyArgs t (cfg0.slots t)) = bodyAt0 t := by
  unfold defs₀; rw [Defs.onTc_tc]

set_option maxHeartbeats 4000000 in
theorem obligation (c : Dev nD) : BodyObligation (data (F := F) m 0 c) (defs₀ (F := F)) Variants.none () Set.univ unseen := fun t => by
  rw [bigSep_W0, bigSep_W0, row]
  exact triple_restated (sound m c t) rfl .rfl fun _ => .rfl

set_option maxHeartbeats 4000000 in
set_option backward.isDefEq.respectTransparency.types false in
/-- The launch: every array as the loop leaves it, every counter at zero. -/
theorem ran : θ_run defs (onTc (τ := τ) (main (F := F))) (s₀ m ρ)
    (fun r => (Pipeline.RDat.FramePost (cfgs 0) (fun c => (data m 0 c).toRForget unseen) (V m)) r ∧ r.2.sem = fun _ => 0) :=
  Pipeline.θ_run_frame_track_forget (Q' := _) cfgs (data m) (0 : Fin 1) launch0 defs₀ Variants.none unseen m ρ main
    (hbody := fun c => (obligation m c).loose) (hshare := fun c => (data m 0 c).share_full fun _ => rfl)
    (howed := fun _ _ => rfl) (V := V m) (hmain := hmain m Variants.none) (hA := data_A m) (hin := kept_in m) (hout := fun c => kept_out m c _)

set_option maxHeartbeats 2000000 in
/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun _ hq => ⟨fun c => by
    have h := hq.1
    exact ⟨(Pipeline.RDat.FramePost.arr_in (cfg₁ := cfgs 0) (rdat := fun c => (data m 0 c).toRForget unseen) h c 0 rfl).trans ((data_A m c 0).trans (V_main_arg0 m c)),
      (Pipeline.RDat.FramePost.arr_in (cfg₁ := cfgs 0) (rdat := fun c => (data m 0 c).toRForget unseen) h c 1 rfl).trans ((data_A m c 1).trans (V_main_arg1 m c)),
      (Pipeline.RDat.FramePost.arr_in (cfg₁ := cfgs 0) (rdat := fun c => (data m 0 c).toRForget unseen) h c 2 rfl).trans ((data_A m c 2).trans (V_main_arg2 m c)),
      ((h c).2 main_arg3 (Pipeline.mem_restRefs_of main_arg3 (by decide) (by decide))).trans (V_main_arg3 m c),
      (Pipeline.RDat.FramePost.arr_in (cfg₁ := cfgs 0) (rdat := fun c => (data m 0 c).toRForget unseen) h c 4 rfl).trans ((data_A m c 4).trans (V_main_arg4 m c)),
      (Pipeline.RDat.FramePost.arr_in (cfg₁ := cfgs 0) (rdat := fun c => (data m 0 c).toRForget unseen) h c 5 rfl).trans ((data_A m c 5).trans (V_main_arg5 m c)),
      (Pipeline.RDat.FramePost.arr_in (cfg₁ := cfgs 0) (rdat := fun c => (data m 0 c).toRForget unseen) h c 6 rfl).trans ((data_A m c 6).trans (V_main_arg6 m c)),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      (Pipeline.RDat.FramePost.arr_in (cfg₁ := cfgs 0) (rdat := fun c => (data m 0 c).toRForget unseen) h c 10 rfl).trans ((data_A m c 10).trans (V_main_arg10 m c)),
      (Pipeline.RDat.FramePost.arr_in (cfg₁ := cfgs 0) (rdat := fun c => (data m 0 c).toRForget unseen) h c 11 rfl).trans ((data_A m c 11).trans (V_main_arg11 m c)),
      (Pipeline.RDat.FramePost.arr_in (cfg₁ := cfgs 0) (rdat := fun c => (data m 0 c).toRForget unseen) h c 12 rfl).trans ((data_A m c 12).trans (V_main_arg12 m c)),
      (Pipeline.RDat.FramePost.arr_in (cfg₁ := cfgs 0) (rdat := fun c => (data m 0 c).toRForget unseen) h c 13 rfl).trans ((data_A m c 13).trans (V_main_arg13 m c)),
      (Pipeline.RDat.FramePost.arr_in (cfg₁ := cfgs 0) (rdat := fun c => (data m 0 c).toRForget unseen) h c 14 rfl).trans ((data_A m c 14).trans (V_main_arg14 m c)),
      ((h c).2 main_arg15 (Pipeline.mem_restRefs_of main_arg15 (by decide) (by decide))).trans (V_main_arg15 m c)⟩, hq.2⟩) (ran m ρ)

end Cert.Kernel4Ideal.Mix

end
-- ==== Proof.MixModel.lean ====
/-
The mixer at one token, over the extended reals, and that the reference's arrays are these rows.
-/
module

public import proofs.«01_k».proof.Proof.Gen.Reference4Ideal.Read
public import Idealize.ShloMosaic.PureOps.Ideal.Laws
public import Idealize.ShloMosaic.Lib.Pointwise

@[expose] public section

set_option maxRecDepth 16384

noncomputable section

namespace Cert.Mixer

open Idealize.ShloMosaic Idealize.ShloMosaic.TcCoe
open Cert.Reference4Ideal Cert.Reference4Ideal.Gen Cert.Reference4Ideal.Read

/-- The pattern of one half. -/
abbrev cHalf : EReal := Ideal.ofBits .f32 0x3F000000#32
/-- The pattern the argument of the error function is scaled by. -/
abbrev cSqrt : EReal := Ideal.ofBits .f32 0x3F3504F3#32
/-- The pattern added under the square roots. -/
abbrev cEps : EReal := Ideal.ofBits .f32 0x358637BD#32

/-- One token's normalised and modulated row. -/
def rowH (x sc sh g : Fin 1024 → EReal) (k : Fin 1024) : EReal :=
  x k * Ideal.rsqrt (Ideal.div (∑ i, x i * x i) (Ideal.ofBits .f32 0x44800000#32) + cEps) * g k * (1 + sc k) + sh k

/-- One token's projection. -/
def rowZ (h : Fin 1024 → EReal) (W : Fin 1024 → Fin 2048 → EReal) (b : Fin 2048 → EReal) (j : Fin 2048) : EReal :=
  (∑ k, h k * W k j) + b j

/-- The activation. -/
def act (v : EReal) : EReal := v * (cHalf * (1 + Ideal.erf (v * cSqrt)))

/-- A row less its mean. -/
def cent (g : Fin 512 → EReal) (j : Fin 512) : EReal := g j - Ideal.div (∑ i, g i) (Ideal.ofBits .f32 0x44000000#32)

/-- The scale that normalises a row. -/
def scal (g : Fin 512 → EReal) : EReal :=
  Ideal.rsqrt (Ideal.div (∑ i, cent g i * cent g i) (Ideal.ofBits .f32 0x44000000#32) + cEps)

/-- A row normalised. -/
def norm (g : Fin 512 → EReal) (j : Fin 512) : EReal := cent g j * scal g

/-- A row scaled and shifted, number by number. -/
def scaled (v g b : Fin 512 → EReal) (j : Fin 512) : EReal := v j * g j + b j

/-- The logistic function. -/
def sg (v : EReal) : EReal := Ideal.div 1 (1 + Ideal.exp (-v))

/-- A number times its logistic. -/
def silu (v : EReal) : EReal := v * sg v

/-- A row divided by its root mean square, and scaled. -/
def rms (v g : Fin 512 → EReal) (j : Fin 512) : EReal :=
  v j * Ideal.rsqrt (Ideal.div (∑ i, v i * v i) (Ideal.ofBits .f32 0x44000000#32) + cEps) * g j

/-- Two rows, one after the other. -/
def join (a b : Fin 512 → EReal) (j : Fin 1024) : EReal := if h : j.val < 512 then a ⟨j.val, h⟩ else b ⟨j.val - 512, by omega⟩

/-- The group of a number of a row. -/
def grp (j : Fin 512) : Fin 8 := ⟨j.val / 64, by omega⟩
/-- The place of a number in its group. -/
def off (j : Fin 512) : Fin 64 := ⟨j.val % 64, by omega⟩
/-- The number of a row that a group's place is. -/
def lane (a : Fin 8) (b : Fin 64) : Fin 512 := ⟨64 * a.val + b.val, by omega⟩

/-- A row of a group less the group's mean. -/
def gcent (c : Fin 512 → EReal) (a : Fin 8) (b : Fin 64) : EReal :=
  c (lane a b) - Ideal.div (∑ i, c (lane a i)) (Ideal.ofBits .f32 0x42800000#32)

/-- The scale that normalises a group. -/
def gscal (c : Fin 512 → EReal) (a : Fin 8) : EReal :=
  Ideal.rsqrt (Ideal.div (∑ i, gcent c a i * gcent c a i) (Ideal.ofBits .f32 0x42800000#32) + cEps)

/-- A row normalised, group by group. -/
def gnorm (c : Fin 512 → EReal) (j : Fin 512) : EReal := gcent c (grp j) (off j) * gscal c (grp j)

/-- A token's row mixed with the earlier rows of its chunk. -/
def mixed (w : Fin 8 → Fin 128 → Fin 128 → EReal) (b : Fin 8 → Fin 128 → EReal) (n : Fin 8192 → Fin 512 → EReal) (r : Fin 8192) (j : Fin 512) : EReal :=
  (∑ s : Fin 128, w (grp j) ⟨r.val % 128, by omega⟩ s * n ⟨128 * (r.val / 128) + s.val, by omega⟩ j) + b (grp j) ⟨r.val % 128, by omega⟩

/-- Rows after thirty rows of zeros. -/
def pads (g : Fin 8192 → Fin 512 → EReal) (p : ℕ) (j : Fin 512) : EReal :=
  if h : 30 ≤ p ∧ p < 8222 then g ⟨p - 30, by omega⟩ j else 0

/-- The convolution's sum. -/
def conv (w t : Fin 31 → EReal) (b : EReal) : EReal :=
  b + w 0 * t 0 + w 1 * t 1 + w 2 * t 2 + w 3 * t 3 + w 4 * t 4 + w 5 * t 5 + w 6 * t 6 + w 7 * t 7 + w 8 * t 8 + w 9 * t 9 + w 10 * t 10 + w 11 * t 11 + w 12 * t 12 + w 13 * t 13 + w 14 * t 14 + w 15 * t 15 + w 16 * t 16 + w 17 * t 17 + w 18 * t 18 + w 19 * t 19 + w 20 * t 20 + w 21 * t 21 + w 22 * t 22 + w 23 * t 23 + w 24 * t 24 + w 25 * t 25 + w 26 * t 26 + w 27 * t 27 + w 28 * t 28 + w 29 * t 29 + w 30 * t 30

/-- The activation, written with the complementary error function. -/
theorem act_eq (v : EReal) : cHalf * v * Ideal.erfc (-v * cSqrt) = act v := by
  rw [EReal.neg_mul, Ideal.erfc_neg, act, mul_comm cHalf v, mul_assoc]

section Reference

variable (x0 : FVec Ideal S8192x1024 .f32) (x1 : FVec Ideal S8x1024 .f32) (x2 : FVec Ideal S1x1024 .f32)
  (x3 : FVec Ideal S1024x2048 .f32) (x4 : FVec Ideal S1x2048 .f32)

/-- A token's row of the modulated input. -/
def refH (r : Fin 8192) : Fin 1024 → EReal :=
  rowH (fun k => x0 (ix2 r k)) (fun k => x1 (ix2 1 k)) (fun k => x1 (ix2 0 k)) (fun k => x2 (ix2 0 k))

/-- A token's row of the projection. -/
def refZ (r : Fin 8192) : Fin 2048 → EReal :=
  rowZ (refH x0 x1 x2 r) (fun k j => x3 (ix2 k j)) (fun j => x4 (ix2 0 j))

theorem v25_eq (r : Fin 8192) (k : Fin 1024) : val_main_v25 (F := Ideal) x0 x1 x2 (ix2 r k) = refH x0 x1 x2 r k := by
  unfold refH rowH
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

theorem v28_eq (r : Fin 8192) (j : Fin 2048) : val_main_v28 (F := Ideal) x0 x1 x2 x3 x4 (ix2 r j) = refZ x0 x1 x2 x3 x4 r j := by
  pointwise [val_main_v28, val_main_v27, val_main_v26]
  simp only [v25_eq]
  rfl

theorem v369_eq (r : Fin 8192) (k : Fin 1024) : val_main_v369 (F := Ideal) x0 x1 x2 (ix2 r k) = refH x0 x1 x2 r k := by
  pointwise [val_main_v369]
  exact v25_eq x0 x1 x2 r k

theorem v31_eq (r : Fin 8192) (j : Fin 1024) :
    val_main_v31 (F := Ideal) x0 x1 x2 x3 x4 (ix2 r j) = refZ x0 x1 x2 x3 x4 r ⟨1024 + j.val, by omega⟩ := by
  pointwise [val_main_v31]
  exact v28_eq x0 x1 x2 x3 x4 r _

theorem v38_eq (r : Fin 8192) (j : Fin 512) :
    val_main_v38 (F := Ideal) x0 x1 x2 x3 x4 (ix2 r j) = act (refZ x0 x1 x2 x3 x4 r ⟨j.val, by omega⟩) := by
  pointwise [val_main_v38, val_main_v37, val_main_v36, val_main_v35, val_main_v34, val_main_v33, val_main_v32, val_main_v29, val_main_cst_3, val_main_cst_4]
  rw [v28_eq]
  exact act_eq _

theorem v45_eq (r : Fin 8192) (j : Fin 512) :
    val_main_v45 (F := Ideal) x0 x1 x2 x3 x4 (ix2 r j) = act (refZ x0 x1 x2 x3 x4 r ⟨512 + j.val, by omega⟩) := by
  pointwise [val_main_v45, val_main_v44, val_main_v43, val_main_v42, val_main_v41, val_main_v40, val_main_v39, val_main_v30, val_main_cst_5, val_main_cst_6]
  rw [v28_eq]
  exact act_eq _

/-- A token's activated second group. -/
def refV (r : Fin 8192) (j : Fin 512) : EReal := act (refZ x0 x1 x2 x3 x4 r ⟨512 + j.val, by omega⟩)

theorem v51_eq (r : Fin 8192) (j : Fin 512) :
    val_main_v51 (F := Ideal) x0 x1 x2 x3 x4 (ix2 r j) = cent (refV x0 x1 x2 x3 x4 r) j := by
  pointwise [val_main_v51, val_main_v50, val_main_v49, val_main_v48, val_main_v47, val_main_v46, val_main_cst_7, val_main_cst_8]
  simp only [v45_eq]
  rfl

theorem v59_eq (r : Fin 8192) :
    val_main_v59 (F := Ideal) x0 x1 x2 x3 x4 (ix2 r 0) = scal (refV x0 x1 x2 x3 x4 r) := by
  pointwise [val_main_v59, val_main_v58, val_main_v57, val_main_v56, val_main_v55, val_main_v54, val_main_v53, val_main_v52, val_main_cst_9, val_main_cst_10, val_main_cst_11]
  simp only [v51_eq]
  rfl

theorem v61_eq (r : Fin 8192) (j : Fin 512) :
    val_main_v61 (F := Ideal) x0 x1 x2 x3 x4 (ix2 r j) = norm (refV x0 x1 x2 x3 x4 r) j := by
  pointwise [val_main_v61, val_main_v60]
  simp only [v51_eq, v59_eq]
  rfl

theorem v371_eq (r : Fin 8192) (j : Fin 128) :
    val_main_v371 (F := Ideal) x0 x1 x2 x3 x4 (ix2 r j) = scal (refV x0 x1 x2 x3 x4 r) := by
  pointwise [val_main_v371]
  exact v59_eq x0 x1 x2 x3 x4 r

variable (x5 x6 : FVec Ideal S1x512 .f32) (x7 : FVec Ideal S8x128x128 .f32) (x8 : FVec Ideal S8x128 .f32)

/-- A token's second group, normalised, scaled and shifted. -/
def refN (r : Fin 8192) : Fin 512 → EReal :=
  scaled (norm (refV x0 x1 x2 x3 x4 r)) (fun j => x5 (ix2 0 j)) (fun j => x6 (ix2 0 j))

theorem v65_eq (r : Fin 8192) (j : Fin 512) :
    val_main_v65 (F := Ideal) x0 x1 x2 x3 x4 x5 x6 (ix2 r j) = refN x0 x1 x2 x3 x4 x5 x6 r j := by
  pointwise [val_main_v65, val_main_v64, val_main_v63, val_main_v62]
  simp only [v61_eq]
  rfl

/-- The mixing weight, its later tokens left out. -/
def refW (h : Fin 8) (a b : Fin 128) : EReal := if b.val ≤ a.val then x7 (ix3 h a b) else 0

theorem tril (a b : Fin 128) : IntOp.cmpi .sge (IntOp.addi (BitVec.ofNat 32 a.val) 0#32) (BitVec.ofNat 32 b.val) = if b.val ≤ a.val then 1#1 else 0#1 := by
  revert a b
  decide +kernel

theorem v71_eq (h : Fin 8) (a b : Fin 128) : val_main_v71 (F := Ideal) x7 (ix3 h a b) = refW x7 h a b := by
  pointwise [val_main_v71, val_main_call1_v0, val_main_v70, val_main_cst_12, val_main_v69, val_main_v68, val_main_call0_v5, val_main_call0_c_0, val_main_call0_v4, val_main_call0_v3, val_main_call0_v2, val_main_call0_v1, val_main_call0_c, val_main_call0_v0, val_main_v67, val_main_c]
  unfold refW
  rw [tril]
  split_ifs <;> rfl

/-- A token's mixed group. -/
def refM (r : Fin 8192) : Fin 512 → EReal :=
  mixed (refW x7) (fun h a => x8 (ix2 h a)) (refN x0 x1 x2 x3 x4 x5 x6) r

theorem v78_eq (r : Fin 8192) (j : Fin 512) :
    val_main_v78 (F := Ideal) x0 x1 x2 x3 x4 x5 x6 x7 x8 (ix2 r j) = refM x0 x1 x2 x3 x4 x5 x6 x7 x8 r j := by
  pointwise [val_main_v78, val_main_v77, val_main_v76, val_main_v75, val_main_v74, val_main_v73, val_main_v72, val_main_v66]
  unfold refM mixed
  refine congrArg (· + _) (Finset.sum_congr rfl fun s _ => ?_)
  rw [v71_eq, v65_eq, mul_comm]
  refine congrArg (fun a => refW x7 (grp j) _ s * refN x0 x1 x2 x3 x4 x5 x6 a j) (Fin.ext ?_)
  show r.val / 128 * 128 + s.val = 128 * (r.val / 128) + s.val
  omega

/-- A token's gated group. -/
def refG (r : Fin 8192) (j : Fin 512) : EReal :=
  refZ x0 x1 x2 x3 x4 r ⟨1024 + j.val, by omega⟩ * sg (refZ x0 x1 x2 x3 x4 r ⟨1536 + j.val, by omega⟩)

theorem v87_eq (r : Fin 8192) (j : Fin 512) :
    val_main_v87 (F := Ideal) x0 x1 x2 x3 x4 (ix2 r j) = refG x0 x1 x2 x3 x4 r j := by
  pointwise [val_main_v87, val_main_v86, val_main_v85, val_main_v84, val_main_v83, val_main_v82, val_main_v81, val_main_v80, val_main_v79, val_main_cst_13, val_main_cst_14]
  simp only [v31_eq]
  unfold refG sg
  have e : (⟨1024 + (512 + j.val), by omega⟩ : Fin 2048) = ⟨1536 + j.val, by omega⟩ := Fin.ext (show 1024 + (512 + j.val) = 1536 + j.val by omega)
  rw [e]

theorem v88_eq (p : Fin 8222) (j : Fin 512) :
    val_main_v88 (F := Ideal) x0 x1 x2 x3 x4 (ix2 p j) = pads (refG x0 x1 x2 x3 x4) p.val j := by
  pointwise [val_main_v88, val_main_call2_v0, val_main_c_15]
  unfold pads
  have hz : (FloatOps.sitofp .f32 0#32 : Ideal .f32) = (0 : EReal) := by
    show (((0#32).toInt : ℝ) : EReal) = 0
    simp
  have hp := p.isLt
  by_cases h : 30 ≤ p.val
  · rw [dif_pos ⟨h, by omega⟩, dif_pos ⟨h, hp⟩, v87_eq]
  · rw [dif_neg (fun e => h e.1), dif_neg (fun e => h e.1), hz]

variable (x9 : FVec Ideal S31x512 .f32) (x10 : FVec Ideal S1x512 .f32)

/-- A token's convolved group. -/
def refC (r : Fin 8192) (j : Fin 512) : EReal :=
  conv (fun k => x9 (ix2 k j)) (fun k => pads (refG x0 x1 x2 x3 x4) (r.val + k.val) j) (x10 (ix2 0 j))

theorem tap0 (r : Fin 8192) (j : Fin 512) :
    val_main_v94 (F := Ideal) x0 x1 x2 x3 x4 x9 (ix2 r j) = x9 (ix2 0 j) * pads (refG x0 x1 x2 x3 x4) (r.val + 0) j := by
  pointwise [val_main_v94, val_main_v93, val_main_v92, val_main_v91, val_main_v90, val_main_v89]
  refine congrArg _ ((v88_eq x0 x1 x2 x3 x4 _ j).trans (congrArg (fun p => pads _ p j) ?_))
  first | rfl | exact Nat.add_comm _ _

theorem tap1 (r : Fin 8192) (j : Fin 512) :
    val_main_v102 (F := Ideal) x0 x1 x2 x3 x4 x9 (ix2 r j) = x9 (ix2 1 j) * pads (refG x0 x1 x2 x3 x4) (r.val + 1) j := by
  pointwise [val_main_v102, val_main_v101, val_main_v100, val_main_v99, val_main_v98, val_main_v97]
  refine congrArg _ ((v88_eq x0 x1 x2 x3 x4 _ j).trans (congrArg (fun p => pads _ p j) ?_))
  first | rfl | exact Nat.add_comm _ _

theorem tap2 (r : Fin 8192) (j : Fin 512) :
    val_main_v109 (F := Ideal) x0 x1 x2 x3 x4 x9 (ix2 r j) = x9 (ix2 2 j) * pads (refG x0 x1 x2 x3 x4) (r.val + 2) j := by
  pointwise [val_main_v109, val_main_v108, val_main_v107, val_main_v106, val_main_v105, val_main_v104]
  refine congrArg _ ((v88_eq x0 x1 x2 x3 x4 _ j).trans (congrArg (fun p => pads _ p j) ?_))
  first | rfl | exact Nat.add_comm _ _

theorem tap3 (r : Fin 8192) (j : Fin 512) :
    val_main_v116 (F := Ideal) x0 x1 x2 x3 x4 x9 (ix2 r j) = x9 (ix2 3 j) * pads (refG x0 x1 x2 x3 x4) (r.val + 3) j := by
  pointwise [val_main_v116, val_main_v115, val_main_v114, val_main_v113, val_main_v112, val_main_v111]
  refine congrArg _ ((v88_eq x0 x1 x2 x3 x4 _ j).trans (congrArg (fun p => pads _ p j) ?_))
  first | rfl | exact Nat.add_comm _ _

theorem tap4 (r : Fin 8192) (j : Fin 512) :
    val_main_v123 (F := Ideal) x0 x1 x2 x3 x4 x9 (ix2 r j) = x9 (ix2 4 j) * pads (refG x0 x1 x2 x3 x4) (r.val + 4) j := by
  pointwise [val_main_v123, val_main_v122, val_main_v121, val_main_v120, val_main_v119, val_main_v118]
  refine congrArg _ ((v88_eq x0 x1 x2 x3 x4 _ j).trans (congrArg (fun p => pads _ p j) ?_))
  first | rfl | exact Nat.add_comm _ _

theorem tap5 (r : Fin 8192) (j : Fin 512) :
    val_main_v130 (F := Ideal) x0 x1 x2 x3 x4 x9 (ix2 r j) = x9 (ix2 5 j) * pads (refG x0 x1 x2 x3 x4) (r.val + 5) j := by
  pointwise [val_main_v130, val_main_v129, val_main_v128, val_main_v127, val_main_v126, val_main_v125]
  refine congrArg _ ((v88_eq x0 x1 x2 x3 x4 _ j).trans (congrArg (fun p => pads _ p j) ?_))
  first | rfl | exact Nat.add_comm _ _

theorem tap6 (r : Fin 8192) (j : Fin 512) :
    val_main_v137 (F := Ideal) x0 x1 x2 x3 x4 x9 (ix2 r j) = x9 (ix2 6 j) * pads (refG x0 x1 x2 x3 x4) (r.val + 6) j := by
  pointwise [val_main_v137, val_main_v136, val_main_v135, val_main_v134, val_main_v133, val_main_v132]
  refine congrArg _ ((v88_eq x0 x1 x2 x3 x4 _ j).trans (congrArg (fun p => pads _ p j) ?_))
  first | rfl | exact Nat.add_comm _ _

theorem tap7 (r : Fin 8192) (j : Fin 512) :
    val_main_v144 (F := Ideal) x0 x1 x2 x3 x4 x9 (ix2 r j) = x9 (ix2 7 j) * pads (refG x0 x1 x2 x3 x4) (r.val + 7) j := by
  pointwise [val_main_v144, val_main_v143, val_main_v142, val_main_v141, val_main_v140, val_main_v139]
  refine congrArg _ ((v88_eq x0 x1 x2 x3 x4 _ j).trans (congrArg (fun p => pads _ p j) ?_))
  first | rfl | exact Nat.add_comm _ _

theorem tap8 (r : Fin 8192) (j : Fin 512) :
    val_main_v151 (F := Ideal) x0 x1 x2 x3 x4 x9 (ix2 r j) = x9 (ix2 8 j) * pads (refG x0 x1 x2 x3 x4) (r.val + 8) j := by
  pointwise [val_main_v151, val_main_v150, val_main_v149, val_main_v148, val_main_v147, val_main_v146]
  refine congrArg _ ((v88_eq x0 x1 x2 x3 x4 _ j).trans (congrArg (fun p => pads _ p j) ?_))
  first | rfl | exact Nat.add_comm _ _

theorem tap9 (r : Fin 8192) (j : Fin 512) :
    val_main_v158 (F := Ideal) x0 x1 x2 x3 x4 x9 (ix2 r j) = x9 (ix2 9 j) * pads (refG x0 x1 x2 x3 x4) (r.val + 9) j := by
  pointwise [val_main_v158, val_main_v157, val_main_v156, val_main_v155, val_main_v154, val_main_v153]
  refine congrArg _ ((v88_eq x0 x1 x2 x3 x4 _ j).trans (congrArg (fun p => pads _ p j) ?_))
  first | rfl | exact Nat.add_comm _ _

theorem tap10 (r : Fin 8192) (j : Fin 512) :
    val_main_v165 (F := Ideal) x0 x1 x2 x3 x4 x9 (ix2 r j) = x9 (ix2 10 j) * pads (refG x0 x1 x2 x3 x4) (r.val + 10) j := by
  pointwise [val_main_v165, val_main_v164, val_main_v163, val_main_v162, val_main_v161, val_main_v160]
  refine congrArg _ ((v88_eq x0 x1 x2 x3 x4 _ j).trans (congrArg (fun p => pads _ p j) ?_))
  first | rfl | exact Nat.add_comm _ _

theorem tap11 (r : Fin 8192) (j : Fin 512) :
    val_main_v172 (F := Ideal) x0 x1 x2 x3 x4 x9 (ix2 r j) = x9 (ix2 11 j) * pads (refG x0 x1 x2 x3 x4) (r.val + 11) j := by
  pointwise [val_main_v172, val_main_v171, val_main_v170, val_main_v169, val_main_v168, val_main_v167]
  refine congrArg _ ((v88_eq x0 x1 x2 x3 x4 _ j).trans (congrArg (fun p => pads _ p j) ?_))
  first | rfl | exact Nat.add_comm _ _

theorem tap12 (r : Fin 8192) (j : Fin 512) :
    val_main_v179 (F := Ideal) x0 x1 x2 x3 x4 x9 (ix2 r j) = x9 (ix2 12 j) * pads (refG x0 x1 x2 x3 x4) (r.val + 12) j := by
  pointwise [val_main_v179, val_main_v178, val_main_v177, val_main_v176, val_main_v175, val_main_v174]
  refine congrArg _ ((v88_eq x0 x1 x2 x3 x4 _ j).trans (congrArg (fun p => pads _ p j) ?_))
  first | rfl | exact Nat.add_comm _ _

theorem tap13 (r : Fin 8192) (j : Fin 512) :
    val_main_v186 (F := Ideal) x0 x1 x2 x3 x4 x9 (ix2 r j) = x9 (ix2 13 j) * pads (refG x0 x1 x2 x3 x4) (r.val + 13) j := by
  pointwise [val_main_v186, val_main_v185, val_main_v184, val_main_v183, val_main_v182, val_main_v181]
  refine congrArg _ ((v88_eq x0 x1 x2 x3 x4 _ j).trans (congrArg (fun p => pads _ p j) ?_))
  first | rfl | exact Nat.add_comm _ _

theorem tap14 (r : Fin 8192) (j : Fin 512) :
    val_main_v193 (F := Ideal) x0 x1 x2 x3 x4 x9 (ix2 r j) = x9 (ix2 14 j) * pads (refG x0 x1 x2 x3 x4) (r.val + 14) j := by
  pointwise [val_main_v193, val_main_v192, val_main_v191, val_main_v190, val_main_v189, val_main_v188]
  refine congrArg _ ((v88_eq x0 x1 x2 x3 x4 _ j).trans (congrArg (fun p => pads _ p j) ?_))
  first | rfl | exact Nat.add_comm _ _

theorem tap15 (r : Fin 8192) (j : Fin 512) :
    val_main_v200 (F := Ideal) x0 x1 x2 x3 x4 x9 (ix2 r j) = x9 (ix2 15 j) * pads (refG x0 x1 x2 x3 x4) (r.val + 15) j := by
  pointwise [val_main_v200, val_main_v199, val_main_v198, val_main_v197, val_main_v196, val_main_v195]
  refine congrArg _ ((v88_eq x0 x1 x2 x3 x4 _ j).trans (congrArg (fun p => pads _ p j) ?_))
  first | rfl | exact Nat.add_comm _ _

theorem tap16 (r : Fin 8192) (j : Fin 512) :
    val_main_v207 (F := Ideal) x0 x1 x2 x3 x4 x9 (ix2 r j) = x9 (ix2 16 j) * pads (refG x0 x1 x2 x3 x4) (r.val + 16) j := by
  pointwise [val_main_v207, val_main_v206, val_main_v205, val_main_v204, val_main_v203, val_main_v202]
  refine congrArg _ ((v88_eq x0 x1 x2 x3 x4 _ j).trans (congrArg (fun p => pads _ p j) ?_))
  first | rfl | exact Nat.add_comm _ _

theorem tap17 (r : Fin 8192) (j : Fin 512) :
    val_main_v214 (F := Ideal) x0 x1 x2 x3 x4 x9 (ix2 r j) = x9 (ix2 17 j) * pads (refG x0 x1 x2 x3 x4) (r.val + 17) j := by
  pointwise [val_main_v214, val_main_v213, val_main_v212, val_main_v211, val_main_v210, val_main_v209]
  refine congrArg _ ((v88_eq x0 x1 x2 x3 x4 _ j).trans (congrArg (fun p => pads _ p j) ?_))
  first | rfl | exact Nat.add_comm _ _

theorem tap18 (r : Fin 8192) (j : Fin 512) :
    val_main_v221 (F := Ideal) x0 x1 x2 x3 x4 x9 (ix2 r j) = x9 (ix2 18 j) * pads (refG x0 x1 x2 x3 x4) (r.val + 18) j := by
  pointwise [val_main_v221, val_main_v220, val_main_v219, val_main_v218, val_main_v217, val_main_v216]
  refine congrArg _ ((v88_eq x0 x1 x2 x3 x4 _ j).trans (congrArg (fun p => pads _ p j) ?_))
  first | rfl | exact Nat.add_comm _ _

theorem tap19 (r : Fin 8192) (j : Fin 512) :
    val_main_v228 (F := Ideal) x0 x1 x2 x3 x4 x9 (ix2 r j) = x9 (ix2 19 j) * pads (refG x0 x1 x2 x3 x4) (r.val + 19) j := by
  pointwise [val_main_v228, val_main_v227, val_main_v226, val_main_v225, val_main_v224, val_main_v223]
  refine congrArg _ ((v88_eq x0 x1 x2 x3 x4 _ j).trans (congrArg (fun p => pads _ p j) ?_))
  first | rfl | exact Nat.add_comm _ _

theorem tap20 (r : Fin 8192) (j : Fin 512) :
    val_main_v235 (F := Ideal) x0 x1 x2 x3 x4 x9 (ix2 r j) = x9 (ix2 20 j) * pads (refG x0 x1 x2 x3 x4) (r.val + 20) j := by
  pointwise [val_main_v235, val_main_v234, val_main_v233, val_main_v232, val_main_v231, val_main_v230]
  refine congrArg _ ((v88_eq x0 x1 x2 x3 x4 _ j).trans (congrArg (fun p => pads _ p j) ?_))
  first | rfl | exact Nat.add_comm _ _

theorem tap21 (r : Fin 8192) (j : Fin 512) :
    val_main_v242 (F := Ideal) x0 x1 x2 x3 x4 x9 (ix2 r j) = x9 (ix2 21 j) * pads (refG x0 x1 x2 x3 x4) (r.val + 21) j := by
  pointwise [val_main_v242, val_main_v241, val_main_v240, val_main_v239, val_main_v238, val_main_v237]
  refine congrArg _ ((v88_eq x0 x1 x2 x3 x4 _ j).trans (congrArg (fun p => pads _ p j) ?_))
  first | rfl | exact Nat.add_comm _ _

theorem tap22 (r : Fin 8192) (j : Fin 512) :
    val_main_v249 (F := Ideal) x0 x1 x2 x3 x4 x9 (ix2 r j) = x9 (ix2 22 j) * pads (refG x0 x1 x2 x3 x4) (r.val + 22) j := by
  pointwise [val_main_v249, val_main_v248, val_main_v247, val_main_v246, val_main_v245, val_main_v244]
  refine congrArg _ ((v88_eq x0 x1 x2 x3 x4 _ j).trans (congrArg (fun p => pads _ p j) ?_))
  first | rfl | exact Nat.add_comm _ _

theorem tap23 (r : Fin 8192) (j : Fin 512) :
    val_main_v256 (F := Ideal) x0 x1 x2 x3 x4 x9 (ix2 r j) = x9 (ix2 23 j) * pads (refG x0 x1 x2 x3 x4) (r.val + 23) j := by
  pointwise [val_main_v256, val_main_v255, val_main_v254, val_main_v253, val_main_v252, val_main_v251]
  refine congrArg _ ((v88_eq x0 x1 x2 x3 x4 _ j).trans (congrArg (fun p => pads _ p j) ?_))
  first | rfl | exact Nat.add_comm _ _

theorem tap24 (r : Fin 8192) (j : Fin 512) :
    val_main_v263 (F := Ideal) x0 x1 x2 x3 x4 x9 (ix2 r j) = x9 (ix2 24 j) * pads (refG x0 x1 x2 x3 x4) (r.val + 24) j := by
  pointwise [val_main_v263, val_main_v262, val_main_v261, val_main_v260, val_main_v259, val_main_v258]
  refine congrArg _ ((v88_eq x0 x1 x2 x3 x4 _ j).trans (congrArg (fun p => pads _ p j) ?_))
  first | rfl | exact Nat.add_comm _ _

theorem tap25 (r : Fin 8192) (j : Fin 512) :
    val_main_v270 (F := Ideal) x0 x1 x2 x3 x4 x9 (ix2 r j) = x9 (ix2 25 j) * pads (refG x0 x1 x2 x3 x4) (r.val + 25) j := by
  pointwise [val_main_v270, val_main_v269, val_main_v268, val_main_v267, val_main_v266, val_main_v265]
  refine congrArg _ ((v88_eq x0 x1 x2 x3 x4 _ j).trans (congrArg (fun p => pads _ p j) ?_))
  first | rfl | exact Nat.add_comm _ _

theorem tap26 (r : Fin 8192) (j : Fin 512) :
    val_main_v277 (F := Ideal) x0 x1 x2 x3 x4 x9 (ix2 r j) = x9 (ix2 26 j) * pads (refG x0 x1 x2 x3 x4) (r.val + 26) j := by
  pointwise [val_main_v277, val_main_v276, val_main_v275, val_main_v274, val_main_v273, val_main_v272]
  refine congrArg _ ((v88_eq x0 x1 x2 x3 x4 _ j).trans (congrArg (fun p => pads _ p j) ?_))
  first | rfl | exact Nat.add_comm _ _

theorem tap27 (r : Fin 8192) (j : Fin 512) :
    val_main_v284 (F := Ideal) x0 x1 x2 x3 x4 x9 (ix2 r j) = x9 (ix2 27 j) * pads (refG x0 x1 x2 x3 x4) (r.val + 27) j := by
  pointwise [val_main_v284, val_main_v283, val_main_v282, val_main_v281, val_main_v280, val_main_v279]
  refine congrArg _ ((v88_eq x0 x1 x2 x3 x4 _ j).trans (congrArg (fun p => pads _ p j) ?_))
  first | rfl | exact Nat.add_comm _ _

theorem tap28 (r : Fin 8192) (j : Fin 512) :
    val_main_v291 (F := Ideal) x0 x1 x2 x3 x4 x9 (ix2 r j) = x9 (ix2 28 j) * pads (refG x0 x1 x2 x3 x4) (r.val + 28) j := by
  pointwise [val_main_v291, val_main_v290, val_main_v289, val_main_v288, val_main_v287, val_main_v286]
  refine congrArg _ ((v88_eq x0 x1 x2 x3 x4 _ j).trans (congrArg (fun p => pads _ p j) ?_))
  first | rfl | exact Nat.add_comm _ _

theorem tap29 (r : Fin 8192) (j : Fin 512) :
    val_main_v298 (F := Ideal) x0 x1 x2 x3 x4 x9 (ix2 r j) = x9 (ix2 29 j) * pads (refG x0 x1 x2 x3 x4) (r.val + 29) j := by
  pointwise [val_main_v298, val_main_v297, val_main_v296, val_main_v295, val_main_v294, val_main_v293]
  refine congrArg _ ((v88_eq x0 x1 x2 x3 x4 _ j).trans (congrArg (fun p => pads _ p j) ?_))
  first | rfl | exact Nat.add_comm _ _

theorem tap30 (r : Fin 8192) (j : Fin 512) :
    val_main_v305 (F := Ideal) x0 x1 x2 x3 x4 x9 (ix2 r j) = x9 (ix2 30 j) * pads (refG x0 x1 x2 x3 x4) (r.val + 30) j := by
  pointwise [val_main_v305, val_main_v304, val_main_v303, val_main_v302, val_main_v301, val_main_v300]
  refine congrArg _ ((v88_eq x0 x1 x2 x3 x4 _ j).trans (congrArg (fun p => pads _ p j) ?_))
  first | rfl | exact Nat.add_comm _ _

theorem v306_eq (r : Fin 8192) (j : Fin 512) :
    val_main_v306 (F := Ideal) x0 x1 x2 x3 x4 x9 x10 (ix2 r j) = refC x0 x1 x2 x3 x4 x9 x10 r j := by
  pointwise [val_main_v306, val_main_v299, val_main_v292, val_main_v285, val_main_v278, val_main_v271, val_main_v264, val_main_v257, val_main_v250, val_main_v243, val_main_v236, val_main_v229, val_main_v222, val_main_v215, val_main_v208, val_main_v201, val_main_v194, val_main_v187, val_main_v180, val_main_v173, val_main_v166, val_main_v159, val_main_v152, val_main_v145, val_main_v138, val_main_v131, val_main_v124, val_main_v117, val_main_v110, val_main_v103, val_main_v96, val_main_v95]
  simp only [tap0, tap1, tap2, tap3, tap4, tap5, tap6, tap7, tap8, tap9, tap10, tap11, tap12, tap13, tap14, tap15, tap16, tap17, tap18, tap19, tap20, tap21, tap22, tap23, tap24, tap25, tap26, tap27, tap28, tap29, tap30]
  rfl

theorem v307_eq (r : Fin 8192) (a : Fin 8) (b : Fin 64) :
    val_main_v307 (F := Ideal) x0 x1 x2 x3 x4 x9 x10 (ix3 r a b) = refC x0 x1 x2 x3 x4 x9 x10 r (lane a b) := by
  refine Eq.trans ?_ (v306_eq x0 x1 x2 x3 x4 x9 x10 r (lane a b))
  pointwise [val_main_v307]
  refine congrArg (fun a => val_main_v306 (F := Ideal) x0 x1 x2 x3 x4 x9 x10 (ix2 r a)) (Fin.ext ?_)
  exact congrArg (· + b.val) (Nat.mul_comm _ _)

theorem v313_eq (r : Fin 8192) (a : Fin 8) (b : Fin 64) :
    val_main_v313 (F := Ideal) x0 x1 x2 x3 x4 x9 x10 (ix3 r a b) = gcent (refC x0 x1 x2 x3 x4 x9 x10 r) a b := by
  pointwise [val_main_v313, val_main_v312, val_main_v311, val_main_v310, val_main_v309, val_main_v308, val_main_cst_16, val_main_cst_17]
  simp only [v307_eq]
  rfl

theorem v321_eq (r : Fin 8192) (a : Fin 8) :
    val_main_v321 (F := Ideal) x0 x1 x2 x3 x4 x9 x10 (ix3 r a 0) = gscal (refC x0 x1 x2 x3 x4 x9 x10 r) a := by
  pointwise [val_main_v321, val_main_v320, val_main_v319, val_main_v318, val_main_v317, val_main_v316, val_main_v315, val_main_v314, val_main_cst_18, val_main_cst_19, val_main_cst_20]
  simp only [v313_eq]
  rfl

theorem v325_eq (r : Fin 8192) (j : Fin 512) :
    val_main_v325 (F := Ideal) x0 x1 x2 x3 x4 x9 x10 (ix2 r j) = gscal (refC x0 x1 x2 x3 x4 x9 x10 r) (grp j) := by
  pointwise [val_main_v325, val_main_v324]
  exact v321_eq x0 x1 x2 x3 x4 x9 x10 r _

/-- A token's convolved group, normalised. -/
def refY (r : Fin 8192) : Fin 512 → EReal := gnorm (refC x0 x1 x2 x3 x4 x9 x10 r)

theorem v326_eq (r : Fin 8192) (j : Fin 512) :
    val_main_v326 (F := Ideal) x0 x1 x2 x3 x4 x9 x10 (ix2 r j) = refY x0 x1 x2 x3 x4 x9 x10 r j := by
  pointwise [val_main_v326, val_main_v323, val_main_v322]
  simp only [v313_eq, v321_eq]
  rfl

variable (x11 x12 x13 x14 : FVec Ideal S1x512 .f32) (x15 : FVec Ideal S1024x1024 .f32)

/-- A token's convolved group at the end. -/
def refB (r : Fin 8192) (j : Fin 512) : EReal :=
  silu (scaled (refY x0 x1 x2 x3 x4 x9 x10 r) (fun j => x11 (ix2 0 j)) (fun j => x12 (ix2 0 j)) j)

theorem v331_eq (r : Fin 8192) (j : Fin 512) :
    val_main_v331 (F := Ideal) x0 x1 x2 x3 x4 x9 x10 x11 x12 (ix2 r j) = refB x0 x1 x2 x3 x4 x9 x10 x11 x12 r j := by
  pointwise [val_main_v331, val_main_call3_v5, val_main_call3_v4, val_main_call3_cst_0, val_main_call3_v3, val_main_call3_v2, val_main_call3_cst, val_main_call3_v1, val_main_call3_v0, val_main_v330, val_main_v329, val_main_v328, val_main_v327]
  simp only [v326_eq]
  rfl

/-- A token's mixed group at the end. -/
def refA (r : Fin 8192) (j : Fin 512) : EReal :=
  act (refZ x0 x1 x2 x3 x4 r ⟨j.val, by omega⟩) * refM x0 x1 x2 x3 x4 x5 x6 x7 x8 r j

theorem v332_eq (r : Fin 8192) (j : Fin 512) :
    val_main_v332 (F := Ideal) x0 x1 x2 x3 x4 x5 x6 x7 x8 (ix2 r j) = refA x0 x1 x2 x3 x4 x5 x6 x7 x8 r j := by
  pointwise [val_main_v332]
  simp only [v38_eq, v78_eq]
  rfl

theorem v346_eq (r : Fin 8192) (j : Fin 512) :
    val_main_v346 (F := Ideal) x0 x1 x2 x3 x4 x5 x6 x7 x8 x13 (ix2 r j) = rms (refA x0 x1 x2 x3 x4 x5 x6 x7 x8 r) (fun j => x13 (ix2 0 j)) j := by
  pointwise [val_main_v346, val_main_v345, val_main_v344, val_main_v343, val_main_v342, val_main_v341, val_main_v340, val_main_v339, val_main_v338, val_main_v337, val_main_v336, val_main_v335, val_main_v334, val_main_v333, val_main_cst_21, val_main_cst_22, val_main_cst_23]
  simp only [v332_eq]
  rfl

theorem v360_eq (r : Fin 8192) (j : Fin 512) :
    val_main_v360 (F := Ideal) x0 x1 x2 x3 x4 x9 x10 x11 x12 x14 (ix2 r j) = rms (refB x0 x1 x2 x3 x4 x9 x10 x11 x12 r) (fun j => x14 (ix2 0 j)) j := by
  pointwise [val_main_v360, val_main_v359, val_main_v358, val_main_v357, val_main_v356, val_main_v355, val_main_v354, val_main_v353, val_main_v352, val_main_v351, val_main_v350, val_main_v349, val_main_v348, val_main_v347, val_main_cst_24, val_main_cst_25, val_main_cst_26]
  simp only [v331_eq]
  rfl

/-- A token's two groups, joined. -/
def refJ (r : Fin 8192) : Fin 1024 → EReal :=
  join (rms (refA x0 x1 x2 x3 x4 x5 x6 x7 x8 r) (fun j => x13 (ix2 0 j))) (rms (refB x0 x1 x2 x3 x4 x9 x10 x11 x12 r) (fun j => x14 (ix2 0 j)))

theorem v361_eq (r : Fin 8192) (j : Fin 1024) :
    val_main_v361 (F := Ideal) x0 x1 x2 x3 x4 x5 x6 x7 x8 x9 x10 x11 x12 x13 x14 (ix2 r j) = refJ x0 x1 x2 x3 x4 x5 x6 x7 x8 x9 x10 x11 x12 x13 x14 r j := by
  pointwise [val_main_v361]
  unfold refJ join
  simp only [v346_eq, v360_eq]

theorem v370_eq (r : Fin 8192) (j : Fin 1024) :
    val_main_v370 (F := Ideal) x0 x1 x2 x3 x4 x5 x6 x7 x8 x9 x10 x11 x12 x13 x14 (ix2 r j) = refJ x0 x1 x2 x3 x4 x5 x6 x7 x8 x9 x10 x11 x12 x13 x14 r j := by
  pointwise [val_main_v370]
  exact v361_eq x0 x1 x2 x3 x4 x5 x6 x7 x8 x9 x10 x11 x12 x13 x14 r j

/-- A token's output projection. -/
def refO (r : Fin 8192) (j : Fin 1024) : EReal := ∑ k, refJ x0 x1 x2 x3 x4 x5 x6 x7 x8 x9 x10 x11 x12 x13 x14 r k * x15 (ix2 k j)

theorem v362_eq (r : Fin 8192) (j : Fin 1024) :
    val_main_v362 (F := Ideal) x0 x1 x2 x3 x4 x5 x6 x7 x8 x9 x10 x11 x12 x13 x14 x15 (ix2 r j) = refO x0 x1 x2 x3 x4 x5 x6 x7 x8 x9 x10 x11 x12 x13 x14 x15 r j := by
  pointwise [val_main_v362]
  simp only [v361_eq]
  rfl

theorem v368_eq (r : Fin 8192) (j : Fin 1024) :
    val_main_v368 (F := Ideal) x0 x1 x2 x3 x4 x5 x6 x7 x8 x9 x10 x11 x12 x13 x14 x15 (ix2 r j)
      = x0 (ix2 r j) + x1 (ix2 2 j) * refO x0 x1 x2 x3 x4 x5 x6 x7 x8 x9 x10 x11 x12 x13 x14 x15 r j := by
  pointwise [val_main_v368, val_main_v367, val_main_v366, val_main_v365, val_main_v364, val_main_v363]
  simp only [v362_eq]

end Reference

end Cert.Mixer
-- ==== Proof.MixPay.lean ====
/-
The printed values of the mixer's body at an index, over the extended reals.
-/
module

public import proofs.«01_k».proof.Proof.MixModel
public import proofs.«01_k».proof.Proof.Gen.Kernel4Ideal.Skeleton

@[expose] public section

set_option maxRecDepth 16384

noncomputable section

namespace Cert.Kernel4Ideal.Mix

open Idealize.ShloMosaic Idealize.ShloMosaic.TcCoe
open Cert.Kernel4Ideal Cert.Kernel4Ideal.Gen Cert.Mixer

theorem pay4 (x : FVec Ideal S512x1024 .f32) (sh sc g : FVec Ideal S1x1024 .f32) (r : Fin 512) (k : Fin 1024) :
    k0_pay4 (F := Ideal) x sh sc g (ix2 r k) = rowH (fun k => x (ix2 r k)) (fun k => sc (ix2 0 k)) (fun k => sh (ix2 0 k)) (fun k => g (ix2 0 k)) k := by
  pointwise [k0_pay4]
  rfl

theorem pay13 (v60 v55 : FVec Ideal S512x512 .f32) (r k : Fin 512) :
    k0_pay13 (F := Ideal) v55 v60 k0_pay11 (ix2 r k) = v55 (ix2 r k) * (cHalf * v60 (ix2 r k)) := by
  pointwise [k0_pay13, k0_pay12, k0_pay11]

theorem pay16 (z : FVec Ideal S512x2048 .f32) (r k : Fin 512) :
    k0_pay15 (F := Ideal) z (ix2 r k) * k0_pay16 (F := Ideal) z (ix2 r k) = act (z (ix2 r ⟨512 + k.val, by omega⟩)) := by
  pointwise [k0_pay15, k0_pay16]
  rfl

theorem pay18 (z : FVec Ideal S512x2048 .f32) (r k : Fin 512) :
    k0_pay18 (F := Ideal) z (ix2 r k) = cent (fun k => act (z (ix2 r ⟨512 + k.val, by omega⟩))) k := by
  pointwise [k0_pay18]
  simp only [pay16]
  rfl

theorem pay22 (z : FVec Ideal S512x2048 .f32) (r k : Fin 512) :
    k0_pay22 (F := Ideal) (k0_pay18 z) (k0_pay19 z) k0_pay20 (ix2 r k) = norm (fun k => act (z (ix2 r ⟨512 + k.val, by omega⟩))) k := by
  pointwise [k0_pay22, k0_pay21, k0_pay19, k0_pay20]
  simp only [pay18]
  rfl

theorem pay5 (x : FVec Ideal S512x1024 .f32) (sh sc g : FVec Ideal S1x1024 .f32) (w : FVec Ideal S1x1024x256 .bf16) (r : Fin 512) (j : Fin 256) :
    k0_pay5 (F := Ideal) x sh sc g w (ix2 r j) = ∑ k, k0_pay4 (F := Ideal) x sh sc g (ix2 r k) * w (ix3 0 k j) := by
  pointwise [k0_pay5]

theorem pay6 (x : FVec Ideal S512x1024 .f32) (sh sc g : FVec Ideal S1x1024 .f32) (w : FVec Ideal S1x1024x256 .bf16) (r : Fin 512) (j : Fin 256) :
    k0_pay6 (F := Ideal) x sh sc g w (ix2 r j) = ∑ k, k0_pay4 (F := Ideal) x sh sc g (ix2 r k) * w (ix3 0 k j) := by
  pointwise [k0_pay6]

/-- The eight shards of the weight, as one matrix. -/
def glue (w : FVec Ideal S8x1024x256 .bf16) (k : Fin 1024) (j : Fin 2048) : EReal :=
  w (ix3 ⟨j.val / 256, by omega⟩ k ⟨j.val % 256, by omega⟩)

theorem glue_of (w : FVec Ideal S8x1024x256 .bf16) (k : Fin 1024) (j : Fin 2048) (a : Fin 8) (u : ℕ) (hu : u < 256)
    (ha : j.val / 256 = a.val) (hj : j.val % 256 = u) : w (ix3 a k ⟨u, hu⟩) = glue w k j := by
  subst hj
  have : a = ⟨j.val / 256, by omega⟩ := Fin.ext ha.symm
  rw [this]
  rfl

theorem pay7 (h : FVec Ideal S512x1024 .bf16) (a0 a1 : FVec Ideal S512x256 .f32) (w : FVec Ideal S8x1024x256 .bf16) (w2 w3 w4 w5 w6 w7 : FVec Ideal S1x1024x256 .bf16)
    (b : FVec Ideal S1x2048 .f32) (r : Fin 512) (j : Fin 2048)
    (h0 : ∀ j, a0 (ix2 r j) = ∑ k, h (ix2 r k) * w (ix3 0 k j)) (h1 : ∀ j, a1 (ix2 r j) = ∑ k, h (ix2 r k) * w (ix3 1 k j))
    (h2 : ∀ k j, w2 (ix3 0 k j) = w (ix3 2 k j)) (h3 : ∀ k j, w3 (ix3 0 k j) = w (ix3 3 k j))
    (h4 : ∀ k j, w4 (ix3 0 k j) = w (ix3 4 k j)) (h5 : ∀ k j, w5 (ix3 0 k j) = w (ix3 5 k j))
    (h6 : ∀ k j, w6 (ix3 0 k j) = w (ix3 6 k j)) (h7 : ∀ k j, w7 (ix3 0 k j) = w (ix3 7 k j)) :
    k0_pay7 (F := Ideal) h a0 a1 w2 w3 w4 w5 w6 w7 b (ix2 r j) = rowZ (fun k => h (ix2 r k)) (glue w) (fun j => b (ix2 0 j)) j := by
  have hj := j.isLt
  pointwise [k0_pay7]
  simp only [h0, h1, h2, h3, h4, h5, h6, h7]
  unfold rowZ
  refine congrArg (· + _) ?_
  split_ifs
  all_goals
    refine Finset.sum_congr rfl fun k _ => congrArg (h (ix2 r k) * ·) (glue_of w k j _ _ _ ?_ ?_)
  all_goals first | omega | (simp only [Fin.isValue]; omega) | (show _ = (_ : ℕ); norm_num; omega)

end Cert.Kernel4Ideal.Mix
-- ==== Proof.MixRows.lean ====
/-
The mixer's remaining blocks at an index, over the extended reals.
-/
module

public import proofs.«01_k».proof.Proof.MixVals
public import proofs.«01_k».proof.Proof.MixPay

@[expose] public section

set_option maxRecDepth 16384

noncomputable section

namespace Cert.Kernel4Ideal.Mix

open Idealize.ShloMosaic Idealize.ShloMosaic.TcCoe
open Cert.Kernel4Ideal Cert.Kernel4Ideal.Gen Cert.Mixer

/-! ## The second group -/

section Second

variable (z : FVec Ideal S512x2048 .f32)

/-- A row of the second group at a point. -/
def ptV (r k : Fin 512) : EReal := act (z (ix2 r ⟨512 + k.val, by omega⟩))

theorem rsV_apply (r : Fin 512) (j : Fin 128) : rsV (F := Ideal) z (ix2 r j) = scal (ptV z r) := by
  unfold rsV s10
  pointwise [k0_pay23, k0_pay21, k0_pay19, k0_pay20]
  simp only [pay18]
  rfl

variable (x5 x6 : Vec Ideal S1x512 .f32)

theorem s11_apply (r k : Fin 512) :
    s11 (F := Ideal) z x5 x6 (ix2 r k) = scaled (norm (ptV z r)) (fun j => x5 (ix2 0 j)) (fun j => x6 (ix2 0 j)) k := by
  unfold s11 s9 s10
  pointwise [k0_pay24]
  simp only [pay22]
  rfl

variable (x7 : Vec Ideal S1024x128 .bf16) (x8 : Vec Ideal S128x512 .f32)

/-- A chunk's row, mixed. -/
def ptM (n : Fin 128 → Fin 512 → EReal) (a : Fin 128) (j : Fin 512) : EReal :=
  (∑ s : Fin 128, x7 (ix2 ⟨128 * (j.val / 64) + a.val, by omega⟩ s) * n s j) + x8 (ix2 a j)

/-- Which half of a pair of heads a number lies in. -/
theorem below (n : Fin 128) : IntOp.cmpi .slt (BitVec.ofNat 32 n.val) 64#32 = if n.val < 64 then 1#1 else 0#1 := by
  revert n
  decide +kernel

theorem select_below (n : ℕ) (h : n < 128) (x y : EReal) :
    Scalar.select (IntOp.cmpi .slt (BitVec.ofNat 32 n) 64#32) x y = if n < 64 then x else y := by
  have e : IntOp.cmpi .slt (BitVec.ofNat 32 n) 64#32 = if n < 64 then 1#1 else 0#1 := below ⟨n, h⟩
  rw [e]
  split_ifs <;> rfl

/-- The pairs of heads joined, each number taken from its head. -/
theorem heads (f : Fin 8 → Fin 512 → EReal) (f0 : Fin 512 → EReal) (h0 : ∀ j, f0 j = f 0 j) (j : Fin 512) :
    (if h : j.val < 128 then Scalar.select (IntOp.cmpi .slt (BitVec.ofNat 32 j.val) 64#32) (f0 j) (f 1 j)
      else if h : j.val - 128 < 128 then
        Scalar.select (IntOp.cmpi .slt (BitVec.ofNat 32 (j.val - 128)) 64#32) (f 2 ⟨128 + (j.val - 128), by omega⟩) (f 3 ⟨128 + (j.val - 128), by omega⟩)
      else if h : j.val - 128 - 128 < 128 then
        Scalar.select (IntOp.cmpi .slt (BitVec.ofNat 32 (j.val - 128 - 128)) 64#32) (f 4 ⟨256 + (j.val - 128 - 128), by omega⟩)
          (f 5 ⟨256 + (j.val - 128 - 128), by omega⟩)
      else
        Scalar.select (IntOp.cmpi .slt (BitVec.ofNat 32 (j.val - 128 - 128 - 128)) 64#32) (f 6 ⟨384 + (j.val - 128 - 128 - 128), by omega⟩)
          (f 7 ⟨384 + (j.val - 128 - 128 - 128), by omega⟩)) = f (grp j) j := by
  have hj := j.isLt
  have e : ∀ (n : ℕ) (h : n < 512), n = j.val → (⟨n, h⟩ : Fin 512) = j := fun n h q => Fin.ext q
  have g : ∀ k : Fin 8, k.val = j.val / 64 → f k j = f (grp j) j := fun k q => congrArg (fun a => f a j) (Fin.ext q)
  split_ifs with h1 h2 h3
  · rw [select_below _ h1, h0]
    split_ifs with h
    · exact g 0 (show 0 = j.val / 64 by omega)
    · exact g 1 (show 1 = j.val / 64 by omega)
  · rw [select_below _ h2, e _ _ (by omega)]
    split_ifs with h
    · exact g 2 (show 2 = j.val / 64 by omega)
    · exact g 3 (show 3 = j.val / 64 by omega)
  · rw [select_below _ h3, e _ _ (by omega)]
    split_ifs with h
    · exact g 4 (show 4 = j.val / 64 by omega)
    · exact g 5 (show 5 = j.val / 64 by omega)
  · rw [select_below _ (by omega), e _ _ (by omega)]
    split_ifs with h
    · exact g 6 (show 6 = j.val / 64 by omega)
    · exact g 7 (show 7 = j.val / 64 by omega)

/-- The first head's term. -/
theorem head_zero (n : Fin 128 → Fin 512 → EReal) (a : Fin 128) (j : Fin 512) :
    (∑ s : Fin 128, x7 (ix2 ⟨a.val, by omega⟩ s) * n s j) = ∑ s : Fin 128, x7 (ix2 ⟨128 * (0 : Fin 8).val + a.val, by omega⟩ s) * n s j := by
  have e : (⟨a.val, by omega⟩ : Fin 1024) = ⟨128 * (0 : Fin 8).val + a.val, by omega⟩ := Fin.ext (show a.val = 128 * 0 + a.val by omega)
  rw [e]

theorem s16_apply (a : Fin 128) (j : Fin 512) : s16 (F := Ideal) z x5 x6 x7 x8 (ix2 a j)
    = ptM x7 x8 (fun s j => s11 (F := Ideal) z x5 x6 (ix2 ⟨s.val, by omega⟩ j)) a j := by
  unfold s16 s12 s13 s14 s15
  pointwise [k0_pay31, k0_pay25, k0_pay26, k0_pay27, k0_pay28, k0_pay29, k0_pay30]
  exact congrArg (· + x8 (ix2 a j)) (heads (fun h j => ∑ s : Fin 128, x7 (ix2 ⟨128 * h.val + a.val, by omega⟩ s)
    * s11 (F := Ideal) z x5 x6 (ix2 ⟨s.val, by omega⟩ j)) _ (head_zero x7 (fun s j => s11 (F := Ideal) z x5 x6 (ix2 ⟨s.val, by omega⟩ j)) a) j)

theorem s22_apply (a : Fin 128) (j : Fin 512) : s22 (F := Ideal) z x5 x6 x7 x8 (ix2 a j)
    = ptM x7 x8 (fun s j => s11 (F := Ideal) z x5 x6 (ix2 ⟨128 + s.val, by omega⟩ j)) a j := by
  unfold s22 s17 s18 s19 s20
  pointwise [k0_pay36, k0_pay25, k0_pay32, k0_pay33, k0_pay34, k0_pay35]
  exact congrArg (· + x8 (ix2 a j)) (heads (fun h j => ∑ s : Fin 128, x7 (ix2 ⟨128 * h.val + a.val, by omega⟩ s)
    * s11 (F := Ideal) z x5 x6 (ix2 ⟨128 + s.val, by omega⟩ j)) _ (head_zero x7 (fun s j => s11 (F := Ideal) z x5 x6 (ix2 ⟨128 + s.val, by omega⟩ j)) a) j)

theorem s27_apply (a : Fin 128) (j : Fin 512) : s27 (F := Ideal) z x5 x6 x7 x8 (ix2 a j)
    = ptM x7 x8 (fun s j => s11 (F := Ideal) z x5 x6 (ix2 ⟨256 + s.val, by omega⟩ j)) a j := by
  unfold s27 s23 s24 s25 s26
  pointwise [k0_pay41, k0_pay25, k0_pay37, k0_pay38, k0_pay39, k0_pay40]
  exact congrArg (· + x8 (ix2 a j)) (heads (fun h j => ∑ s : Fin 128, x7 (ix2 ⟨128 * h.val + a.val, by omega⟩ s)
    * s11 (F := Ideal) z x5 x6 (ix2 ⟨256 + s.val, by omega⟩ j)) _ (head_zero x7 (fun s j => s11 (F := Ideal) z x5 x6 (ix2 ⟨256 + s.val, by omega⟩ j)) a) j)

/-- The last chunk's rows, mixed. -/
def s31 : FVec Ideal S128x512 .f32 :=
  k0_pay41 k0_pay25 (s28 z x5 x6) (s29 z x5 x6 x7) (s30 z x5 x6) (matmul (φ₁ := .bf16) dot_S128x128_S128x128_S128x128_1_0_0_1_n_n none
    (shapeCast S128x128 (View.ld (Val := Elt Ideal) x7 (Rect.unit ![256, 0] S128x128.size inb_S1024x128_S128x128_256_0)) shapeCasts_S128x128_S128x128) (s30 z x5 x6) (constant S128x128 .f32 0x00000000#32)) (View.ld (Val := Elt Ideal) x7 (Rect.unit ![384, 0] S128x128.size inb_S1024x128_S128x128_384_0)) (View.ld (Val := Elt Ideal) x7 (Rect.unit ![512, 0] S128x128.size inb_S1024x128_S128x128_512_0)) (View.ld (Val := Elt Ideal) x7 (Rect.unit ![640, 0] S128x128.size inb_S1024x128_S128x128_640_0)) (View.ld (Val := Elt Ideal) x7 (Rect.unit ![768, 0] S128x128.size inb_S1024x128_S128x128_768_0)) (View.ld (Val := Elt Ideal) x7 (Rect.unit ![896, 0] S128x128.size inb_S1024x128_S128x128_896_0)) (View.ld (Val := Elt Ideal) x8 (Rect.unit ![0, 0] S128x512.size inb_S128x512_S128x512_0_0))

theorem s31_apply (a : Fin 128) (j : Fin 512) : s31 z x5 x6 x7 x8 (ix2 a j)
    = ptM x7 x8 (fun s j => s11 (F := Ideal) z x5 x6 (ix2 ⟨384 + s.val, by omega⟩ j)) a j := by
  unfold s31 s28 s29 s30
  pointwise [k0_pay41, k0_pay25, k0_pay42, k0_pay43, k0_pay44]
  exact congrArg (· + x8 (ix2 a j)) (heads (fun h j => ∑ s : Fin 128, x7 (ix2 ⟨128 * h.val + a.val, by omega⟩ s)
    * s11 (F := Ideal) z x5 x6 (ix2 ⟨384 + s.val, by omega⟩ j)) _ (head_zero x7 (fun s j => s11 (F := Ideal) z x5 x6 (ix2 ⟨384 + s.val, by omega⟩ j)) a) j)

/-- Four chunks joined. -/
def cat (A B C D : FVec Ideal S128x512 .f32) : FVec Ideal S512x512 .f32 :=
  concatenate S512x512 0 [⟨S128x512, A⟩, ⟨S128x512, B⟩, ⟨S128x512, C⟩, ⟨S128x512, D⟩] concatenates_S128x512_S128x512_S128x512_S128x512_S512x512_d0

theorem cat_apply (A B C D : FVec Ideal S128x512 .f32) (r j : Fin 512) : cat A B C D (ix2 r j)
    = if h : r.val < 128 then A (ix2 ⟨r.val, h⟩ j) else if h : r.val - 128 < 128 then B (ix2 ⟨r.val - 128, h⟩ j)
      else if h : r.val - 128 - 128 < 128 then C (ix2 ⟨r.val - 128 - 128, h⟩ j) else D (ix2 ⟨r.val - 128 - 128 - 128, by omega⟩ j) := by
  pointwise [cat]

theorem mxV_apply (r j : Fin 512) : mxV (F := Ideal) z x5 x6 x7 x8 (ix2 r j)
    = ptM x7 x8 (fun s j => s11 (F := Ideal) z x5 x6 (ix2 ⟨128 * (r.val / 128) + s.val, by omega⟩ j)) ⟨r.val % 128, by omega⟩ j := by
  have hA := s16_apply z x5 x6 x7 x8
  have hB := s22_apply z x5 x6 x7 x8
  have hC := s27_apply z x5 x6 x7 x8
  have hD := s31_apply z x5 x6 x7 x8
  show cat (s16 z x5 x6 x7 x8) (s22 z x5 x6 x7 x8) (s27 z x5 x6 x7 x8) (s31 z x5 x6 x7 x8) (ix2 r j) = _
  generalize s16 (F := Ideal) z x5 x6 x7 x8 = A at hA ⊢
  generalize s22 (F := Ideal) z x5 x6 x7 x8 = B at hB ⊢
  generalize s27 (F := Ideal) z x5 x6 x7 x8 = C at hC ⊢
  generalize s31 z x5 x6 x7 x8 = D at hD ⊢
  have hr := r.isLt
  have fin : ∀ (n : Fin 128 → Fin 512) (a : Fin 128), (∀ s, (n s).val = 128 * (r.val / 128) + s.val) → a.val = r.val % 128 →
      ptM x7 x8 (fun s j => s11 (F := Ideal) z x5 x6 (ix2 (n s) j)) a j
        = ptM x7 x8 (fun s j => s11 (F := Ideal) z x5 x6 (ix2 ⟨128 * (r.val / 128) + s.val, by omega⟩ j)) ⟨r.val % 128, by omega⟩ j := by
    intro n a hn ha
    have en : n = fun s => ⟨128 * (r.val / 128) + s.val, by omega⟩ := funext fun s => Fin.ext (hn s)
    have ea : a = ⟨r.val % 128, by omega⟩ := Fin.ext ha
    rw [en]
    exact congrArg (fun a => ptM x7 x8 _ a j) ea
  rw [cat_apply]
  split_ifs with h1 h2 h3
  · rw [hA]
    exact fin _ _ (fun s => show s.val = _ by omega) (show r.val = _ by omega)
  · rw [hB]
    exact fin _ _ (fun s => show 128 + s.val = _ by omega) (show r.val - 128 = _ by omega)
  · rw [hC]
    exact fin _ _ (fun s => show 256 + s.val = _ by omega) (show r.val - 128 - 128 = _ by omega)
  · rw [hD]
    exact fin _ _ (fun s => show 384 + s.val = _ by omega) (show r.val - 128 - 128 - 128 = _ by omega)

end Second

/-! ## The gated group -/

section Gated

variable (z : FVec Ideal S512x2048 .f32)

/-- A row of the gated group at a point. -/
def ptG (r j : Fin 512) : EReal := z (ix2 r ⟨1024 + j.val, by omega⟩) * sg (z (ix2 r ⟨1536 + j.val, by omega⟩))

theorem glV_apply (r j : Fin 512) : glV (F := Ideal) z (ix2 r j) = ptG z r j := by
  unfold glV
  pointwise [k0_pay51, k0_pay49, k0_pay48, k0_pay47]
  unfold ptG sg
  rw [zero_sub]

theorem carV_apply (r : Fin 32) (j : Fin 512) : carV (F := Ideal) z (ix2 r j) = ptG z ⟨480 + r.val, by omega⟩ j := by
  unfold carV s35 s34 s33
  pointwise [k0_pay72, k0_pay49, k0_pay48, k0_pay47]
  unfold ptG sg
  rw [zero_sub]

variable (g : Vec Ideal S544x512 .f32) (x9 : Vec Ideal S32x512 .f32) (x10 : Vec Ideal S1x512 .f32) (x16 : Vec Ideal S512x512 .bf16)

/-- The shifted copies, read from their first row. -/
theorem shift_zero (b : Fin 7) (r j : Fin 512) (h : r.val < 536) :
    shift g (ix3 b ⟨r.val, h⟩ j) = g (ix2 ⟨b.val + 1 + r.val, by omega⟩ j) := rfl

/-- The shifted copies, read from a later row. -/
theorem shift_add (b : Fin 7) (o : ℕ) (r j : Fin 512) (h : o + r.val < 536) :
    shift g (ix3 b ⟨o + r.val, h⟩ j) = g (ix2 ⟨b.val + 1 + o + r.val, by omega⟩ j) :=
  congrArg (fun a => g (ix2 a j)) (Fin.ext (Nat.add_assoc _ _ _).symm)

/-- One term of a convolved row at a point. -/
abbrev tm (k : ℕ) (hk : k < 31) (r j : Fin 512) : EReal := x9 (ix2 ⟨k, by omega⟩ j) * g (ix2 ⟨2 + k + r.val, by omega⟩ j)

/-- A convolved row at a point. -/
def ptC (r j : Fin 512) : EReal :=
  conv (fun k => x9 (ix2 ⟨k.val, by omega⟩ j)) (fun k => g (ix2 ⟨2 + k.val + r.val, by omega⟩ j)) (x10 (ix2 0 j))

theorem s36_apply (r j : Fin 512) : s36 (F := Ideal) g x9 x10 (ix2 r j)
    = x10 (ix2 0 j) + tm g x9 0 (by decide) r j + tm g x9 1 (by decide) r j := by
  unfold s36
  pointwise [k0_pay59]
  simp only [shift_zero, shift_add]
  rfl

theorem s38_apply (r j : Fin 512) : s38 (F := Ideal) g x9 x10 (ix2 r j)
    = s36 (F := Ideal) g x9 x10 (ix2 r j) + tm g x9 2 (by decide) r j + tm g x9 3 (by decide) r j + tm g x9 4 (by decide) r j + tm g x9 5 (by decide) r j + tm g x9 6 (by decide) r j := by
  unfold s38 s37
  pointwise [k0_pay61, k0_pay60]
  simp only [shift_zero, shift_add]
  rfl

theorem s40_apply (r j : Fin 512) : s40 (F := Ideal) g x9 x10 (ix2 r j)
    = s38 (F := Ideal) g x9 x10 (ix2 r j) + tm g x9 7 (by decide) r j + tm g x9 8 (by decide) r j + tm g x9 9 (by decide) r j + tm g x9 10 (by decide) r j + tm g x9 11 (by decide) r j := by
  unfold s40 s39
  pointwise [k0_pay63, k0_pay62]
  simp only [shift_zero, shift_add]
  rfl

theorem s42_apply (r j : Fin 512) : s42 (F := Ideal) g x9 x10 (ix2 r j)
    = s40 (F := Ideal) g x9 x10 (ix2 r j) + tm g x9 12 (by decide) r j + tm g x9 13 (by decide) r j + tm g x9 14 (by decide) r j + tm g x9 15 (by decide) r j + tm g x9 16 (by decide) r j := by
  unfold s42 s41
  pointwise [k0_pay65, k0_pay64]
  simp only [shift_zero, shift_add]
  rfl

theorem s44_apply (r j : Fin 512) : s44 (F := Ideal) g x9 x10 (ix2 r j)
    = s42 (F := Ideal) g x9 x10 (ix2 r j) + tm g x9 17 (by decide) r j + tm g x9 18 (by decide) r j + tm g x9 19 (by decide) r j + tm g x9 20 (by decide) r j + tm g x9 21 (by decide) r j := by
  unfold s44 s43
  pointwise [k0_pay67, k0_pay66]
  simp only [shift_zero, shift_add]
  rfl

theorem s46_apply (r j : Fin 512) : s46 (F := Ideal) g x9 x10 (ix2 r j)
    = s44 (F := Ideal) g x9 x10 (ix2 r j) + tm g x9 22 (by decide) r j + tm g x9 23 (by decide) r j + tm g x9 24 (by decide) r j + tm g x9 25 (by decide) r j + tm g x9 26 (by decide) r j := by
  unfold s46 s45
  pointwise [k0_pay69, k0_pay68]
  simp only [shift_zero, shift_add]
  rfl

/-- A convolved row less its group's mean, as the kernel computes it. -/
def ptD (r j : Fin 512) : EReal :=
  ptC g x9 x10 r j - ((∑ i : Fin 512, ptC g x9 x10 r i * x16 (ix2 i j)) + ∑ i : Fin 512, (ptC g x9 x10 r i - ptC g x9 x10 r i) * x16 (ix2 i j))

theorem sum_apply (r j : Fin 512) : s46 (F := Ideal) g x9 x10 (ix2 r j) + tm g x9 27 (by decide) r j + tm g x9 28 (by decide) r j + tm g x9 29 (by decide) r j + tm g x9 30 (by decide) r j = ptC g x9 x10 r j := by
  simp only [s46_apply, s44_apply, s42_apply, s40_apply, s38_apply, s36_apply]
  rfl

theorem s50_apply (r j : Fin 512) : s50 (F := Ideal) g x9 x10 x16 (ix2 r j) = ptD g x9 x10 x16 r j := by
  unfold s50 s48 s47
  pointwise [k0_pay74, k0_pay73, k0_pay71, k0_pay70]
  unfold ptD
  simp only [← sum_apply g x9 x10, shift_add]
  rfl

theorem s51_apply (r j : Fin 512) : s51 (F := Ideal) g x9 x10 x16 (ix2 r j) = ptD g x9 x10 x16 r j * ptD g x9 x10 x16 r j := by
  rw [← s50_apply]
  rfl

theorem s52_apply (r j : Fin 512) : s52 (F := Ideal) g x9 x10 x16 (ix2 r j) = ptD g x9 x10 x16 r j * ptD g x9 x10 x16 r j := s51_apply g x9 x10 x16 r j

theorem s53_apply (r j : Fin 512) : s53 (F := Ideal) g x9 x10 x16 (ix2 r j) = ptD g x9 x10 x16 r j * ptD g x9 x10 x16 r j := s51_apply g x9 x10 x16 r j

/-- The scale of a convolved row at a point, as the kernel computes it. -/
def ptS (r j : Fin 512) : EReal :=
  Ideal.rsqrt ((∑ i : Fin 512, ptD g x9 x10 x16 r i * ptD g x9 x10 x16 r i * x16 (ix2 i j))
    + (∑ i : Fin 512, (ptD g x9 x10 x16 r i * ptD g x9 x10 x16 r i - ptD g x9 x10 x16 r i * ptD g x9 x10 x16 r i) * x16 (ix2 i j)) + cEps)

theorem rgV_apply (r j : Fin 512) : rgV (F := Ideal) g x9 x10 x16 (ix2 r j) = ptS g x9 x10 x16 r j := by
  unfold rgV s49
  pointwise [k0_pay78, k0_pay73]
  simp only [s51_apply, s52_apply, s53_apply]
  rfl

theorem yhV_apply (r j : Fin 512) : yhV (F := Ideal) g x9 x10 x16 (ix2 r j) = ptD g x9 x10 x16 r j * ptS g x9 x10 x16 r j := by
  rw [← s50_apply, ← rgV_apply]
  rfl

variable (x11 x12 : Vec Ideal S1x512 .f32)

/-- A convolved row at a point, at the end. -/
def ptB (r j : Fin 512) : EReal :=
  silu (scaled (fun j => ptD g x9 x10 x16 r j * ptS g x9 x10 x16 r j) (fun j => x11 (ix2 0 j)) (fun j => x12 (ix2 0 j)) j)

theorem s54_apply (r j : Fin 512) : s54 (F := Ideal) g x9 x10 x11 x12 x16 (ix2 r j) = ptB g x9 x10 x16 x11 x12 r j := by
  have e : ∀ r j, k0_pay79 (F := Ideal) (s49 x16) (s50 g x9 x10 x16) (s51 g x9 x10 x16) (s52 g x9 x10 x16) (s53 g x9 x10 x16) (ix2 r j) = _ := yhV_apply g x9 x10 x16
  unfold s54
  pointwise [k0_pay80]
  simp only [e]
  unfold ptB silu sg scaled
  rw [zero_sub]

theorem s56_apply (r j : Fin 512) : s56 (F := Ideal) g x9 x10 x11 x12 x16 (ix2 r j) = ptB g x9 x10 x16 x11 x12 r j * ptB g x9 x10 x16 x11 x12 r j := by
  rw [← s54_apply]
  rfl

end Gated

/-! ## The two groups together -/

section Both

variable (z : FVec Ideal S512x2048 .f32) (u : FVec Ideal S512x512 .f32) (g : Vec Ideal S544x512 .f32) (x0 : Vec Ideal S512x1024 .f32) (x1 : Vec Ideal S8x1024 .f32)
  (x5 x6 : Vec Ideal S1x512 .f32) (x7 : Vec Ideal S1024x128 .bf16) (x8 : Vec Ideal S128x512 .f32) (x9 : Vec Ideal S32x512 .f32) (x10 x11 x12 x13 x14 : Vec Ideal S1x512 .f32)
  (x15 : Vec Ideal S1024x1024 .bf16) (x16 : Vec Ideal S512x512 .bf16)

/-- A mixed row at a point, before its norm. -/
def ptA (r j : Fin 512) : EReal := u (ix2 r j) * mxV (F := Ideal) z x5 x6 x7 x8 (ix2 r j)

theorem s32_apply (r j : Fin 512) : s32 (F := Ideal) z u x5 x6 x7 x8 (ix2 r j) = ptA z u x5 x6 x7 x8 r j := rfl

theorem s55_apply (r j : Fin 512) : s55 (F := Ideal) z u x5 x6 x7 x8 x13 (ix2 r j) = rms (ptA z u x5 x6 x7 x8 r) (fun j => x13 (ix2 0 j)) j := by
  unfold s55
  pointwise [k0_pay81]
  simp only [s32_apply]
  rfl

/-- The two groups' row at a point, joined. -/
def ptJ (r : Fin 512) : Fin 1024 → EReal :=
  join (rms (ptA z u x5 x6 x7 x8 r) (fun j => x13 (ix2 0 j))) (rms (ptB g x9 x10 x16 x11 x12 r) (fun j => x14 (ix2 0 j)))

theorem yV_apply (r : Fin 512) (j : Fin 1024) : yV (F := Ideal) z u g x5 x6 x7 x8 x9 x10 x11 x12 x13 x14 x16 (ix2 r j)
    = ptJ z u g x5 x6 x7 x8 x9 x10 x11 x12 x13 x14 x16 r j := by
  unfold yV
  pointwise [k0_pay1]
  simp only [s54_apply, s55_apply, s56_apply]
  rfl

theorem oV_apply (r : Fin 512) (j : Fin 1024) : oV (F := Ideal) z u g x5 x6 x7 x8 x9 x10 x11 x12 x13 x14 x15 x16 (ix2 r j)
    = ∑ k, ptJ z u g x5 x6 x7 x8 x9 x10 x11 x12 x13 x14 x16 r k * x15 (ix2 k j) := by
  have e : ∀ r j, k0_pay1 (F := Ideal) (s54 g x9 x10 x11 x12 x16) (s55 z u x5 x6 x7 x8 x13) (s56 g x9 x10 x11 x12 x16)
    (View.ld (Val := Elt Ideal) x14 (Rect.unit ![0, 0] S1x512.size inb_S1x512_S1x512_0_0)) (ix2 r j) = _ := yV_apply z u g x5 x6 x7 x8 x9 x10 x11 x12 x13 x14 x16
  unfold oV
  pointwise [k0_pay2]
  simp only [e]

theorem x1V_apply (r : Fin 512) (j : Fin 1024) : x1V (F := Ideal) z u g x0 x1 x5 x6 x7 x8 x9 x10 x11 x12 x13 x14 x15 x16 (ix2 r j)
    = x0 (ix2 r j) + x1 (ix2 2 j) * ∑ k, ptJ z u g x5 x6 x7 x8 x9 x10 x11 x12 x13 x14 x16 r k * x15 (ix2 k j) := by
  rw [← oV_apply]
  unfold x1V
  pointwise [k0_pay3]
  rfl

end Both

end Cert.Kernel4Ideal.Mix
-- ==== Proof.Coe.lean ====
/- Arrays of finite numbers: an extended-real array all of whose elements are real, and the scalar operations on them. -/
module

public import Idealize.ShloMosaic.Lib.Pipeline.ValueKit

@[expose] public section

set_option maxRecDepth 16384

noncomputable section

namespace Cert.Coe

open Idealize.ShloMosaic

/-- The rank-1 array of the real numbers `f i`. -/
def cov1 {n : ℕ} {φ : FTy} (f : Fin n → ℝ) : FVec Ideal ⟨1, ![n]⟩ φ := fun i => ((f (i 0) : ℝ) : EReal)

/-- The rank-2 array of the real numbers `f i j`. -/
def cov2 {a b : ℕ} {φ : FTy} (f : Fin a → Fin b → ℝ) : FVec Ideal ⟨2, ![a, b]⟩ φ := fun i => ((f (i 0) (i 1) : ℝ) : EReal)

theorem cov1_apply {n : ℕ} {φ : FTy} (f : Fin n → ℝ) (i : Fin n) : (cov1 (φ := φ) f) (ix1 i) = ((f i : ℝ) : EReal) := rfl

theorem cov2_apply {a b : ℕ} {φ : FTy} (f : Fin a → Fin b → ℝ) (i : Fin a) (j : Fin b) :
    (cov2 (φ := φ) f) (ix2 i j) = ((f i j : ℝ) : EReal) := rfl

/-- A finite sum of real numbers, taken in the extended reals. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The reciprocal square root of a positive number. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- The quotient of two numbers, the divisor not zero. -/
theorem div_real {x y : ℝ} (h : y ≠ 0) : Ideal.div (x : EReal) (y : EReal) = ((x / y : ℝ) : EReal) := by
  rw [Ideal.div_coe h, ← EReal.coe_mul]; congr 1; ring

theorem ofBits_1024 : Ideal.ofBits .f32 0x44800000#32 = ((1024 : ℝ) : EReal) := by
  simp [Ideal.ofBits, Ideal.ieee, -EReal.coe_mul]; norm_num

theorem ofBits_inv1024 : Ideal.ofBits .f32 0x3A800000#32 = ((1 / 1024 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

theorem ofBits_two : Ideal.ofBits .f32 0x40000000#32 = ((2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

/-- The small number added under the square roots: the nearest binary32 number to 1e-6. -/
def eps : ℝ := 8796093 / 2 ^ 43

theorem eps_pos : 0 < eps := by unfold eps; norm_num

theorem ofBits_eps : Ideal.ofBits .f32 0x358637BD#32 = ((eps : ℝ) : EReal) := by
  unfold eps
  simp [Ideal.ofBits, Ideal.ieee, -EReal.coe_mul]; norm_num

theorem ofBits_inf : Ideal.ofBits .f32 0x7F800000#32 = (⊤ : EReal) := by
  simp [Ideal.ofBits, Ideal.ieee]

/-- A number whose magnitude is below infinity is real. -/
theorem real_of_abs_lt (x : EReal) (h : max x (-x) < ⊤) : ∃ r : ℝ, x = (r : EReal) := by
  induction x with
  | bot => simp at h
  | top => simp at h
  | coe r => exact ⟨r, rfl⟩

/-! ## Operations on arrays' elements that are known to be real -/

theorem coe_congr {x y : ℝ} (h : x = y) : (x : EReal) = (y : EReal) := congrArg _ h

theorem mul_r {a b : EReal} {x y : ℝ} (ha : a = x) (hb : b = y) : a * b = ((x * y : ℝ) : EReal) := by
  rw [ha, hb, EReal.coe_mul]

theorem add_r {a b : EReal} {x y : ℝ} (ha : a = x) (hb : b = y) : a + b = ((x + y : ℝ) : EReal) := by
  rw [ha, hb, EReal.coe_add]

theorem sub_r {a b : EReal} {x y : ℝ} (ha : a = x) (hb : b = y) : a - b = ((x - y : ℝ) : EReal) := by
  rw [ha, hb, EReal.coe_sub]

theorem neg_r {a : EReal} {x : ℝ} (ha : a = x) : -a = ((-x : ℝ) : EReal) := by
  rw [ha, EReal.coe_neg]

theorem div_r {a b : EReal} {x y : ℝ} (ha : a = x) (hb : b = y) (h : y ≠ 0) : Ideal.div a b = ((x / y : ℝ) : EReal) := by
  rw [ha, hb, div_real h]

theorem rsqrt_r {a : EReal} {x : ℝ} (ha : a = x) (h : 0 < x) : Ideal.rsqrt a = (((Real.sqrt x)⁻¹ : ℝ) : EReal) := by
  rw [ha, rsqrt_pos h]

theorem exp_r {a : EReal} {x : ℝ} (ha : a = x) : Ideal.exp a = ((Real.exp x : ℝ) : EReal) := by
  rw [ha, Ideal.exp_coe]

theorem sum_r {n : ℕ} {f : Fin n → EReal} {g : Fin n → ℝ} (h : ∀ k, f k = (g k : EReal)) : (∑ k, f k) = ((∑ k, g k : ℝ) : EReal) :=
  (Finset.sum_congr rfl fun k _ => h k).trans (sum_coe _ _)

theorem dot_r {n : ℕ} {f f' : Fin n → EReal} {g g' : Fin n → ℝ} (h : ∀ k, f k = (g k : EReal)) (h' : ∀ k, f' k = (g' k : EReal)) :
    (∑ k, f k * f' k) = ((∑ k, g k * g' k : ℝ) : EReal) := sum_r fun k => mul_r (h k) (h' k)

theorem zsum_r {n : ℕ} {z : EReal} {f : Fin n → EReal} {g : Fin n → ℝ} (hz : z = 0) (h : ∀ k, f k = (g k : EReal)) :
    z + (∑ k, f k) = ((∑ k, g k : ℝ) : EReal) := by rw [hz, zero_add, sum_r h]

theorem ofBits_zero : Ideal.ofBits .f32 0x00000000#32 = (0 : EReal) := by
  simp [Ideal.ofBits, Ideal.ieee]

end Cert.Coe

end
-- ==== Proof.MixReal.lean ====
/-
The mixer's gated group is real where its arguments are, and the mean over a group of a row of real numbers.
-/
module

public import proofs.«01_k».proof.Proof.MixModel
public import proofs.«01_k».proof.Proof.Coe

@[expose] public section

set_option maxRecDepth 16384

noncomputable section

namespace Cert.Mixer

open Idealize.ShloMosaic Cert.Coe

/-- A number that is real. -/
def IsR (x : EReal) : Prop := ∃ r : ℝ, x = (r : EReal)

theorem IsR.add {a b : EReal} (ha : IsR a) (hb : IsR b) : IsR (a + b) := by
  obtain ⟨x, hx⟩ := ha; obtain ⟨y, hy⟩ := hb; exact ⟨_, add_r hx hy⟩

theorem IsR.mul {a b : EReal} (ha : IsR a) (hb : IsR b) : IsR (a * b) := by
  obtain ⟨x, hx⟩ := ha; obtain ⟨y, hy⟩ := hb; exact ⟨_, mul_r hx hy⟩

theorem IsR.zero : IsR 0 := ⟨0, EReal.coe_zero.symm⟩
theorem IsR.one : IsR 1 := ⟨1, EReal.coe_one.symm⟩

theorem IsR.sum {n : ℕ} {f : Fin n → EReal} (h : ∀ k, IsR (f k)) : IsR (∑ k, f k) := by
  choose g hg using h
  exact ⟨_, sum_r hg⟩

/-- A logistic is real at every number, infinite or not. -/
theorem IsR.sg (v : EReal) : IsR (sg v) := by
  induction v with
  | bot => exact ⟨0, by
    show Ideal.div 1 (1 + ⊤) = _
    rw [show (1 + ⊤ : EReal) = ⊤ from EReal.coe_add_top 1]
    simp [Ideal.div]⟩
  | top => exact ⟨1, by show Ideal.div 1 (1 + 0) = _; simp [Ideal.div]⟩
  | coe x =>
    refine ⟨_, div_r EReal.coe_one.symm (add_r EReal.coe_one.symm (exp_r (neg_r rfl))) ?_⟩
    have := Real.exp_pos (-x)
    exact ne_of_gt (by linarith)

theorem sq_nonneg' (v : EReal) : 0 ≤ v * v := by
  induction v with
  | bot => simp
  | top => simp
  | coe x => exact EReal.coe_nonneg.2 (mul_self_nonneg x)

theorem sq_top {v : EReal} (h : ¬IsR v) : v * v = ⊤ := by
  induction v with
  | bot => simp
  | top => simp
  | coe x => exact absurd ⟨x, rfl⟩ h

/-- A row over its root mean square is real: with an infinite number in it, it is zero. -/
theorem IsR.over (x : Fin 1024 → EReal) (k : Fin 1024) :
    IsR (x k * Ideal.rsqrt (Ideal.div (∑ i, x i * x i) (Ideal.ofBits .f32 0x44800000#32) + cEps)) := by
  by_cases hx : ∀ k, IsR (x k)
  · refine .mul (hx k) ?_
    choose f hf using hx
    refine ⟨_, rsqrt_r (add_r (div_r (dot_r hf hf) ofBits_1024 (by norm_num)) ofBits_eps) ?_⟩
    have : 0 ≤ ∑ k, f k * f k := Finset.sum_nonneg fun k _ => mul_self_nonneg _
    have := eps_pos
    positivity
  · obtain ⟨i, hi⟩ := not_forall.1 hx
    have e : (∑ i, x i * x i) = ⊤ := top_le_iff.1 ((sq_top hi).symm.le.trans
      (Finset.single_le_sum (f := fun i => x i * x i) (fun j _ => sq_nonneg' (x j)) (Finset.mem_univ i)))
    have d : Ideal.div ⊤ ((1024 : ℝ) : EReal) = ⊤ := by
      have h : ((1024 : ℝ) : EReal) ≠ 0 := EReal.coe_ne_zero.2 (by norm_num)
      rw [Ideal.div, if_neg h, ← EReal.coe_inv]
      exact EReal.top_mul_coe_of_pos (by norm_num)
    have q : (⊤ : EReal) + cEps = ⊤ := by
      rw [show cEps = ((eps : ℝ) : EReal) from ofBits_eps]
      exact EReal.top_add_coe _
    rw [e, ofBits_1024, d, q]
    exact ⟨0, mul_zero _⟩

theorem IsR.rowH {sc sh g : Fin 1024 → EReal} (x : Fin 1024 → EReal) (hsc : ∀ k, IsR (sc k)) (hsh : ∀ k, IsR (sh k)) (hg : ∀ k, IsR (g k)) (k : Fin 1024) :
    IsR (rowH x sc sh g k) :=
  .add (.mul (.mul (.over x k) (hg k)) (.add .one (hsc k))) (hsh k)

theorem IsR.pads {g : Fin 8192 → Fin 512 → EReal} (h : ∀ r j, IsR (g r j)) (p : ℕ) (j : Fin 512) : IsR (pads g p j) := by
  unfold Cert.Mixer.pads
  split_ifs
  · exact h _ _
  · exact .zero

theorem IsR.conv {w t : Fin 31 → EReal} {b : EReal} (hw : ∀ k, IsR (w k)) (ht : ∀ k, IsR (t k)) (hb : IsR b) : IsR (conv w t b) := by
  unfold Cert.Mixer.conv
  repeat' apply IsR.add
  all_goals first | exact hb | exact .mul (hw _) (ht _)

/-- A token's convolved group is real where the arguments are. -/
theorem real_refC (x0 : FVec Ideal Cert.Reference4Ideal.S8192x1024 .f32) (x1 : FVec Ideal Cert.Reference4Ideal.S8x1024 .f32) (x2 : FVec Ideal Cert.Reference4Ideal.S1x1024 .f32)
    (x3 : FVec Ideal Cert.Reference4Ideal.S1024x2048 .f32) (x4 : FVec Ideal Cert.Reference4Ideal.S1x2048 .f32) (x9 : FVec Ideal Cert.Reference4Ideal.S31x512 .f32)
    (x10 : FVec Ideal Cert.Reference4Ideal.S1x512 .f32) (h1 : ∀ (r : Fin 8) k, r.val < 2 → IsR (x1 (ix2 r k))) (h2 : ∀ i, IsR (x2 i))
    (h3 : ∀ k (j : Fin 512), IsR (x3 (ix2 k ⟨1024 + j.val, by omega⟩))) (h4 : ∀ j : Fin 512, IsR (x4 (ix2 0 ⟨1024 + j.val, by omega⟩))) (h9 : ∀ i, IsR (x9 i))
    (h10 : ∀ i, IsR (x10 i)) (r : Fin 8192) (j : Fin 512) : IsR (refC x0 x1 x2 x3 x4 x9 x10 r j) := by
  have hz : ∀ r (j : Fin 512), IsR (refZ x0 x1 x2 x3 x4 r ⟨1024 + j.val, by omega⟩) := fun r j =>
    .add (.sum fun k => .mul (.rowH _ (fun k => h1 1 k (by decide)) (fun k => h1 0 k (by decide)) (fun k => h2 _) k) (h3 k j)) (h4 j)
  exact .conv (fun k => h9 _) (fun k => .pads (fun r j => .mul (hz r j) (.sg _)) _ _) (h10 _)

/-! ## The mean over a group -/

theorem ofBits_64 : Ideal.ofBits .f32 0x42800000#32 = ((64 : ℝ) : EReal) := by
  simp [Ideal.ofBits, Ideal.ieee, -EReal.coe_mul]; norm_num

/-- A sum over a row, all its numbers outside one group left out. -/
theorem sum_group (f : Fin 512 → ℝ) (a : Fin 8) :
    (∑ i : Fin 512, f i * if i.val / 64 = a.val then (1 / 64 : ℝ) else 0) = (∑ b : Fin 64, f (lane a b)) / 64 := by
  have e : (∑ i : Fin 512, f i * if i.val / 64 = a.val then (1 / 64 : ℝ) else 0)
      = ∑ i : Fin (8 * 64), f i * if i.val / 64 = a.val then (1 / 64 : ℝ) else 0 := rfl
  rw [e, ← Equiv.sum_comp finProdFinEquiv, Fintype.sum_prod_type, Finset.sum_eq_single a]
  · rw [Finset.sum_div]
    refine Finset.sum_congr rfl fun b _ => ?_
    have hv : (finProdFinEquiv (a, b) : Fin (8 * 64)).val = b.val + 64 * a.val := rfl
    have hb := b.isLt
    have hi : (finProdFinEquiv (a, b) : Fin (8 * 64)) = lane a b := Fin.ext (by rw [hv]; exact Nat.add_comm _ _)
    rw [if_pos (by rw [hv]; omega), hi, mul_one_div]
  · intro k _ hk
    refine Finset.sum_eq_zero fun b _ => ?_
    have hv : (finProdFinEquiv (k, b) : Fin (8 * 64)).val = b.val + 64 * k.val := rfl
    have hb := b.isLt
    rw [if_neg (by rw [hv]; intro h; exact hk (Fin.ext (by omega))), mul_zero]
  · intro h
    exact absurd (Finset.mem_univ a) h

/-- The matrix of the group means. -/
def gm (i j : Fin 512) : EReal := if i.val / 64 = j.val / 64 then ((1 / 64 : ℝ) : EReal) else 0

/-- A row of real numbers, split in two, times the matrix is its groups' means. -/
theorem mean_group {c : Fin 512 → EReal} (hc : ∀ i, IsR (c i)) (j : Fin 512) :
    (∑ i : Fin 512, c i * gm i j) + (∑ i : Fin 512, (c i - c i) * gm i j)
      = Ideal.div (∑ i : Fin 64, c (lane (grp j) i)) (Ideal.ofBits .f32 0x42800000#32) := by
  choose f hf using hc
  have hg : ∀ i, gm i j = ((if i.val / 64 = (grp j).val then (1 / 64 : ℝ) else 0 : ℝ) : EReal) := fun i => by
    unfold gm grp
    split_ifs
    · rfl
    · exact EReal.coe_zero.symm
  refine (add_r (dot_r hf hg) (dot_r (fun i => sub_r (hf i) (hf i)) hg)).trans ?_
  refine Eq.trans (coe_congr ?_) (div_r (sum_r fun i => hf (lane (grp j) i)) ofBits_64 (by norm_num)).symm
  rw [sum_group]
  simp only [sub_self, zero_mul, Finset.sum_const_zero, add_zero]

theorem lane_eta (j : Fin 512) : lane (grp j) (off j) = j := Fin.ext (Nat.div_add_mod j.val 64)

theorem grp_lane (a : Fin 8) (b : Fin 64) : grp (lane a b) = a := Fin.ext (by have := b.isLt; show (64 * a.val + b.val) / 64 = a.val; omega)

theorem off_lane (a : Fin 8) (b : Fin 64) : off (lane a b) = b := Fin.ext (by have := b.isLt; show (64 * a.val + b.val) % 64 = b.val; omega)

/-- A row less its group's mean, as the kernel computes it. -/
def kcent (c : Fin 512 → EReal) (j : Fin 512) : EReal := c j - ((∑ i : Fin 512, c i * gm i j) + ∑ i : Fin 512, (c i - c i) * gm i j)

theorem kcent_eq {c : Fin 512 → EReal} (hc : ∀ i, IsR (c i)) (j : Fin 512) : kcent c j = gcent c (grp j) (off j) := by
  unfold kcent gcent
  rw [mean_group hc, lane_eta]

theorem IsR.gcent {c : Fin 512 → EReal} (hc : ∀ i, IsR (c i)) (a : Fin 8) (b : Fin 64) : IsR (gcent c a b) := by
  choose f hf using hc
  exact ⟨_, sub_r (hf _) (div_r (sum_r fun i => hf (lane a i)) ofBits_64 (by norm_num))⟩

/-- The scale of a row's group, as the kernel computes it. -/
def kscal (d : Fin 512 → EReal) (j : Fin 512) : EReal :=
  Ideal.rsqrt ((∑ i : Fin 512, d i * d i * gm i j) + (∑ i : Fin 512, (d i * d i - d i * d i) * gm i j) + cEps)

theorem kscal_eq {c : Fin 512 → EReal} (hc : ∀ i, IsR (c i)) (j : Fin 512) : kscal (kcent c) j = gscal c (grp j) := by
  have hd : ∀ i, IsR (kcent c i * kcent c i) := fun i => by rw [kcent_eq hc]; exact .mul (.gcent hc _ _) (.gcent hc _ _)
  unfold kscal gscal
  rw [mean_group hd]
  simp only [kcent_eq hc, grp_lane, off_lane]

theorem knorm_eq {c : Fin 512 → EReal} (hc : ∀ i, IsR (c i)) (j : Fin 512) : kcent c j * kscal (kcent c) j = gnorm c j := by
  rw [kscal_eq hc, kcent_eq hc]
  rfl

end Cert.Mixer
-- ==== Proof.MixHost.lean ====
/-
The mixer's arrays made before the launch, at an index.
-/
module

public import proofs.«01_k».proof.Proof.Gen.Kernel4Ideal.Frame
public import proofs.«01_k».proof.Proof.MixReal
public import Idealize.ShloMosaic.Lib.Pipeline.ValueKit
public import Idealize.ShloMosaic.Lib.Pointwise

@[expose] public section

set_option maxRecDepth 16384

noncomputable section

namespace Cert.Kernel4Ideal.Mix

open Idealize.ShloMosaic Idealize.ShloMosaic.TcCoe Idealize.SL.Sem
open Cert.Kernel4Ideal Cert.Kernel4Ideal.Gen Cert.Mixer

/-- The mask of the tokens already seen. -/
def maskV : IVec S128x128 1 :=
  select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))

/-- The mixing weight, masked, head under head. -/
def headsV (w : FVec Ideal S8x128x128 .f32) : FVec Ideal S1024x128 .bf16 :=
  shapeCast S1024x128 (truncf .bf16 (select (broadcastInDim S8x128x128 ![0, 1, 2] bcast_S1x128x128_S8x128x128_0_1_2
    (broadcastInDim S1x128x128 ![1, 2] bcast_S128x128_S1x128x128_1_2 maskV)) w
    (broadcastInDim S8x128x128 ![] bcast_S_S8x128x128 (constant S_ .f32 0#32))) bitsLt_bf16_f32) shapeCasts_S8x128x128_S1024x128

/-- The matrix of the group means. -/
def meanV : FVec Ideal S512x512 .f32 :=
  select (cmpi .eq
      (broadcastInDim S512x512 ![0, 1] bcast_S512x1_S512x512_0_1
        (Host.shrsi (broadcastInDim S512x1 ![0] bcast_S512_S512x1_0 (iotaInDim S512 32 0)) (broadcastInDim S512x1 ![] bcast_S_S512x1 (constantI S_ 32 6#32))))
      (broadcastInDim S512x512 ![0, 1] bcast_S1x512_S512x512_0_1
        (Host.shrsi (broadcastInDim S1x512 ![1] bcast_S512_S1x512_1 (iotaInDim S512 32 0)) (broadcastInDim S1x512 ![] bcast_S_S1x512 (constantI S_ 32 6#32)))))
    (broadcastInDim S512x512 ![] bcast_S_S512x512 (constant S_ .f32 1015021568#32)) (broadcastInDim S512x512 ![] bcast_S_S512x512 (constant S_ .f32 0#32))

/-- The convolution's weight over a row of zeros. -/
def tapsV (w : FVec Ideal S31x512 .f32) : FVec Ideal S32x512 .f32 :=
  pad S32x512 ![0, 0] ![1, 0] ![0, 0] w (sitofp .f32 (constantI S_ 32 0#32)) pads_S31x512_S32x512_010_000 h_S_

theorem headsV_apply (w : FVec Ideal S8x128x128 .f32) (h : Fin 8) (a b : Fin 128) :
    headsV w (ix2 (⟨128 * h.val + a.val, by omega⟩ : Fin 1024) b) = refW w h a b := by
  pointwise [headsV, maskV]
  unfold refW
  rw [tril]
  split_ifs <;> rfl

/-- Two numbers' groups, compared. -/
theorem same_group (a j : Fin 512) : IntOp.cmpi .eq (IntOp.shrsi ArithUnit.host (BitVec.ofNat 32 a.val) 6#32) (IntOp.shrsi ArithUnit.host (BitVec.ofNat 32 j.val) 6#32)
    = if a.val / 64 = j.val / 64 then 1#1 else 0#1 := by
  have e : ∀ a : Fin 512, IntOp.shrsi ArithUnit.host (BitVec.ofNat 32 a.val) 6#32 = BitVec.ofNat 32 (a.val / 64) := by decide +kernel
  have q : ∀ a b : Fin 8, IntOp.cmpi .eq (BitVec.ofNat 32 a.val) (BitVec.ofNat 32 b.val) = if a.val = b.val then 1#1 else 0#1 := by decide +kernel
  rw [e, e]
  exact q ⟨a.val / 64, by omega⟩ ⟨j.val / 64, by omega⟩

theorem ofBits_inv64 : Ideal.ofBits .f32 1015021568#32 = ((1 / 64 : ℝ) : EReal) := by
  simp [Ideal.ofBits, Ideal.ieee, -EReal.coe_mul]; norm_num

theorem meanV_apply (a j : Fin 512) : meanV (ix2 a j) = gm a j := by
  pointwise [meanV]
  unfold gm
  rw [same_group, ofBits_inv64]
  split_ifs <;> rfl

theorem tapsV_apply (w : FVec Ideal S31x512 .f32) (k : Fin 31) (j : Fin 512) : tapsV w (ix2 (⟨k.val, by omega⟩ : Fin 32) j) = w (ix2 k j) := by
  pointwise [tapsV]

variable (m : (ℓ : Loc nD τ sig) → Buf (Elt Ideal) ℓ) (c : Dev nD)

/-- The convolution's weight, one row of zeros under it. -/
theorem V_taps (k : Fin 31) (j : Fin 512) :
    V m c main_v3 (ix2 (⟨k.val, by omega⟩ : Fin 32) j) = m ((c : Thread nD τ).loc main_arg9) (ix2 k j) := by
  unfold V
  simp only [hostOps0, hostOps0_1, hostOps0_2, hostOps0_3, hostOps0_4, hostOps0_5, hostOps0_6, hostOps0_7, hostOps0_8, List.flatten_cons, List.flatten_nil, List.append_nil, List.cons_append,
    List.nil_append]
  after_results
  exact tapsV_apply _ k j

/-- The mixing weight, head under head, its later tokens left out. -/
theorem V_heads (h : Fin 8) (a b : Fin 128) :
    V m c main_v9 (ix2 (⟨128 * h.val + a.val, by omega⟩ : Fin 1024) b) = refW (m ((c : Thread nD τ).loc main_arg7)) h a b := by
  unfold V
  simp only [hostOps0, hostOps0_1, hostOps0_2, hostOps0_3, hostOps0_4, hostOps0_5, hostOps0_6, hostOps0_7, hostOps0_8, List.flatten_cons, List.flatten_nil, List.append_nil, List.cons_append,
    List.nil_append]
  after_results
  exact headsV_apply _ h a b

/-- The mixing's offsets, each head's over its numbers. -/
theorem V_offs (a : Fin 128) (j : Fin 512) :
    V m c main_v12 (ix2 a j) = m ((c : Thread nD τ).loc main_arg8) (ix2 (grp j) a) := by
  unfold V
  simp only [hostOps0, hostOps0_1, hostOps0_2, hostOps0_3, hostOps0_4, hostOps0_5, hostOps0_6, hostOps0_7, hostOps0_8, List.flatten_cons, List.flatten_nil, List.append_nil, List.cons_append,
    List.nil_append]
  after_results
  pointwise []
  rfl

/-- The output weight. -/
theorem V_out (a j : Fin 1024) : V m c main_v25 (ix2 a j) = m ((c : Thread nD τ).loc main_arg15) (ix2 a j) := by
  unfold V
  simp only [hostOps0, hostOps0_1, hostOps0_2, hostOps0_3, hostOps0_4, hostOps0_5, hostOps0_6, hostOps0_7, hostOps0_8, List.flatten_cons, List.flatten_nil, List.append_nil, List.cons_append,
    List.nil_append]
  after_results
  pointwise []

/-- The matrix of the group means. -/
theorem V_mean (a j : Fin 512) : V m c main_v24 (ix2 a j) = gm a j := by
  unfold V
  simp only [hostOps0, hostOps0_1, hostOps0_2, hostOps0_3, hostOps0_4, hostOps0_5, hostOps0_6, hostOps0_7, hostOps0_8, List.flatten_cons, List.flatten_nil, List.append_nil, List.cons_append,
    List.nil_append]
  after_results
  exact meanV_apply a j

end Cert.Kernel4Ideal.Mix
-- ==== Proof.Model.lean ====
/- The feed-forward half of the step over real numbers, one token at a time: the modulated norm, the gated product, the
   loss head's norm and error, and the gradients of all of it. `H` stands for the number of tokens. -/
module

public import proofs.«01_k».proof.Proof.Coe

@[expose] public section

noncomputable section

namespace Cert.Model

open Cert.Coe

/-- The reciprocal root of a row's mean square. -/
def rs (x : Fin 1024 → ℝ) : ℝ := (Real.sqrt ((∑ k, x k * x k) / 1024 + eps))⁻¹

/-- The logistic function. -/
def sig (v : ℝ) : ℝ := 1 / (1 + Real.exp (-v))

/-- The normed row. -/
def nrm (x : Fin 1024 → ℝ) (c : Fin 1024) : ℝ := x c * rs x

/-- The modulated normed row. -/
def modn (g sc sh x : Fin 1024 → ℝ) (c : Fin 1024) : ℝ := nrm x c * g c * (1 + sc c) + sh c

/-- What the gradient of the norm makes of the gradient `d` of the normed row. -/
def nback (x d : Fin 1024 → ℝ) (c : Fin 1024) : ℝ :=
  rs x * (d c - nrm x c * ((∑ k, d k * nrm x k) / 1024))

/-- Column `j` of the first half of the widened weight, `j` of the second. -/
def lo (j : Fin 2816) : Fin 5632 := ⟨j.val, by omega⟩
def hi (j : Fin 2816) : Fin 5632 := ⟨2816 + j.val, by omega⟩

/-- A row times a matrix. -/
def mv {n k : ℕ} (w : Fin n → Fin k → ℝ) (h : Fin n → ℝ) (j : Fin k) : ℝ := ∑ c, h c * w c j

/-- The gated activation of the gate `g` and the value `u`. -/
def gact (g u : ℝ) : ℝ := g * sig g * u

/-- The parameters of the call. -/
structure Par where
  /-- the first norm's weight, and its scale and shift -/
  g2 : Fin 1024 → ℝ
  sc2 : Fin 1024 → ℝ
  sh2 : Fin 1024 → ℝ
  /-- the gate of the branch -/
  gate : Fin 1024 → ℝ
  /-- the last norm's weight, and its scale and shift -/
  gf : Fin 1024 → ℝ
  scf : Fin 1024 → ℝ
  shf : Fin 1024 → ℝ
  /-- the widening and the narrowing weights -/
  wi : Fin 1024 → Fin 5632 → ℝ
  wo : Fin 2816 → Fin 1024 → ℝ

variable (p : Par) (x t : Fin 1024 → ℝ)

def h2 (c : Fin 1024) : ℝ := modn p.g2 p.sc2 p.sh2 x c
def zg (j : Fin 2816) : ℝ := mv p.wi (h2 p x) (lo j)
def zu (j : Fin 2816) : ℝ := mv p.wi (h2 p x) (hi j)
def act (j : Fin 2816) : ℝ := gact (zg p x j) (zu p x j)
def ff (c : Fin 1024) : ℝ := mv p.wo (act p x) c
def x2 (c : Fin 1024) : ℝ := x c + p.gate c * ff p x c
def err (c : Fin 1024) : ℝ := modn p.gf p.scf p.shf (x2 p x) c - t c
def dout (c : Fin 1024) : ℝ := err p x t c * (1 / 1024)
def dxnf (c : Fin 1024) : ℝ := dout p x t c * (1 + p.scf c) * p.gf c
def dx2 (c : Fin 1024) : ℝ := nback (x2 p x) (dxnf p x t) c
def dff (c : Fin 1024) : ℝ := dx2 p x t c * p.gate c
def dact (j : Fin 2816) : ℝ := ∑ c, dff p x t c * p.wo j c
def dg (j : Fin 2816) : ℝ := dact p x t j * zu p x j * (sig (zg p x j) * (1 + zg p x j * (1 - sig (zg p x j))))
def du (j : Fin 2816) : ℝ := dact p x t j * (zg p x j * sig (zg p x j))
def dz (j : Fin 5632) : ℝ :=
  if h : j.val < 2816 then dg p x t ⟨j.val, h⟩ else du p x t ⟨j.val - 2816, by omega⟩
def dh2 (c : Fin 1024) : ℝ := ∑ j, dz p x t j * p.wi c j
def dxn2 (c : Fin 1024) : ℝ := dh2 p x t c * (1 + p.sc2 c) * p.g2 c
def dx (c : Fin 1024) : ℝ := dx2 p x t c + nback x (dxn2 p x t) c

/-- One token's share of the eight rows of parameter gradients. -/
def row (r : Fin 8) (c : Fin 1024) : ℝ :=
  match r with
  | 0 => dout p x t c
  | 1 => dout p x t c * nrm (x2 p x) c * p.gf c
  | 2 => dout p x t c * (1 + p.scf c) * nrm (x2 p x) c
  | 3 => dx2 p x t c * ff p x c
  | 4 => dh2 p x t c
  | 5 => dh2 p x t c * nrm x c * p.g2 c
  | 6 => dh2 p x t c * (1 + p.sc2 c) * nrm x c
  | 7 => err p x t c * err p x t c

theorem ms_pos (x : Fin 1024 → ℝ) : 0 < (∑ k, x k * x k) / 1024 + eps := by
  have h : 0 ≤ ∑ k, x k * x k := Finset.sum_nonneg fun k _ => mul_self_nonneg _
  have := eps_pos
  positivity

/-- The gradient of the norm as the chain rule writes it: through the reciprocal root, its quotient and the mean. -/
theorem nback_chain (x d : Fin 1024 → ℝ) (c : Fin 1024) :
    d c * rs x + x c * ((∑ k, x k * d k) * (-(1 / 2) * (rs x / ((∑ k, x k * x k) / 1024 + eps))) / 1024)
      + (∑ k, x k * d k) * (-(1 / 2) * (rs x / ((∑ k, x k * x k) / 1024 + eps))) / 1024 * x c = nback x d c := by
  have hp := ms_pos x
  have hr : rs x / ((∑ k, x k * x k) / 1024 + eps) = rs x * rs x * rs x := by
    unfold rs
    generalize (∑ k, x k * x k) / 1024 + eps = v at hp
    obtain ⟨s, hs, rfl⟩ : ∃ s, 0 < s ∧ v = s * s := ⟨_, Real.sqrt_pos.mpr hp, (Real.mul_self_sqrt hp.le).symm⟩
    rw [Real.sqrt_mul_self hs.le]
    field_simp
  have hsum : (∑ k, d k * nrm x k) = (∑ k, x k * d k) * rs x := by
    rw [Finset.sum_mul]; exact Finset.sum_congr rfl fun k _ => by unfold nrm; ring
  unfold nback
  rw [hr, hsum]; unfold nrm; ring

/-- A sum over the widened axis, half by half. -/
theorem sum_halves (f : Fin 5632 → ℝ) : (∑ j, f j) = (∑ j : Fin 2816, f (lo j)) + ∑ j : Fin 2816, f (hi j) := by
  exact Fin.sum_univ_add (a := 2816) (b := 2816) f

/-- The three blocks of columns the gated product is computed in. -/
def b0 (j : Fin 1024) : Fin 2816 := ⟨j.val, by omega⟩
def b1 (j : Fin 1024) : Fin 2816 := ⟨1024 + j.val, by omega⟩
def b2 (j : Fin 768) : Fin 2816 := ⟨2048 + j.val, by omega⟩

/-- A sum over the columns, block by block. -/
theorem sum_thirds (f : Fin 2816 → ℝ) :
    (∑ j, f j) = (∑ j, f (b0 j)) + (∑ j, f (b1 j)) + ∑ j, f (b2 j) := by
  rw [show (∑ j, f j) = _ from Fin.sum_univ_add (a := 2048) (b := 768) f]
  rw [show (∑ j : Fin 2048, f (Fin.castAdd 768 j)) = _ from
    Fin.sum_univ_add (a := 1024) (b := 1024) fun j : Fin 2048 => f (Fin.castAdd 768 j)]
  rfl

theorem dz_lo (p : Par) (x t : Fin 1024 → ℝ) (j : Fin 2816) : dz p x t (lo j) = dg p x t j := dif_pos j.isLt

theorem dz_hi (p : Par) (x t : Fin 1024 → ℝ) (j : Fin 2816) : dz p x t (hi j) = du p x t j := by
  refine (dif_neg (by show ¬(2816 + j.val < 2816); omega)).trans ?_
  exact congrArg _ (Fin.ext (Nat.add_sub_cancel_left 2816 j.val))

/-- The gradient that reaches the modulated row, block by block and half by half. -/
theorem dh2_blocks (p : Par) (x t : Fin 1024 → ℝ) (c : Fin 1024) :
    (∑ j, dg p x t (b0 j) * p.wi c (lo (b0 j))) + (∑ j, du p x t (b0 j) * p.wi c (hi (b0 j)))
      + (∑ j, dg p x t (b1 j) * p.wi c (lo (b1 j))) + (∑ j, du p x t (b1 j) * p.wi c (hi (b1 j)))
      + (∑ j, dg p x t (b2 j) * p.wi c (lo (b2 j))) + (∑ j, du p x t (b2 j) * p.wi c (hi (b2 j))) = dh2 p x t c := by
  unfold dh2
  rw [sum_halves, sum_thirds, sum_thirds fun j => dz p x t (hi j) * p.wi c (hi j)]
  simp only [dz_lo, dz_hi]
  ring

theorem ff_blocks (p : Par) (x : Fin 1024 → ℝ) (c : Fin 1024) :
    (∑ j, act p x (b0 j) * p.wo (b0 j) c) + (∑ j, act p x (b1 j) * p.wo (b1 j) c) + (∑ j, act p x (b2 j) * p.wo (b2 j) c)
      = ff p x c := (sum_thirds fun j => act p x j * p.wo j c).symm

end Cert.Model

end
-- ==== Proof.KOps.lean ====
/- The array operations the feed-forward kernel's body is printed with, at an index of their result, over the extended
   reals: one lemma for each operation and pair of shapes the body uses. -/
module

public import proofs.«01_k».proof.Proof.Model
public import proofs.«01_k».proof.Proof.Gen.KernelIdeal.Value
public import Idealize.ShloMosaic.Lib.Pointwise

@[expose] public section

set_option maxRecDepth 16384

noncomputable section

namespace Cert.Kern

open Idealize.ShloMosaic Cert.Coe Cert.Model Cert.KernelIdeal Cert.KernelIdeal.Gen

/-- The array `v` holds the real numbers `f`. -/
def R2 {a b : ℕ} {φ : FTy} (v : FVec Ideal ⟨2, ![a, b]⟩ φ) (f : Fin a → Fin b → ℝ) : Prop :=
  ∀ i, v i = ((f (i 0) (i 1) : ℝ) : EReal)

theorem bt_col (v : FVec Ideal S256x1 .f32) (i : S256x1024.Idx) :
    broadcastTo S256x1024 v broadcasts_S256x1_S256x1024 i = v (ix2 (i 0) 0) := by
  pointwise []

theorem bt_row (v : FVec Ideal S1x1024 .f32) (i : S256x1024.Idx) :
    broadcastTo S256x1024 v broadcasts_S1x1024_S256x1024 i = v (ix2 0 (i 1)) := by
  pointwise []

theorem red1 (v : FVec Ideal S256x1024 .f32) (i : S256x1.Idx) :
    shapeCast S256x1 (multiReduction .add [1] S256 v 0x00000000#32 reduces_S256x1024_S256 (.inl rfl) rfl) shapeCasts_S256_S256x1 i
      = ∑ k, v (ix2 (i 0) k) := by
  pointwise []

theorem red0 (v : FVec Ideal S256x1024 .f32) (i : S1x1024.Idx) :
    shapeCast S1x1024 (multiReduction .add [0] S1024 v 0x00000000#32 reduces_S256x1024_S1024 (.inl rfl) rfl) shapeCasts_S1024_S1x1024 i
      = ∑ k, v (ix2 k (i 1)) := by
  pointwise []

theorem dot_nt (a : FVec Ideal S256x1024 .bf16) (b : FVec Ideal S1024x1024 .bf16) (i : S256x1024.Idx) :
    matmul dot_S256x1024_S1024x1024_S256x1024_1_1_0_0_n_n none a b (constant S256x1024 .f32 0x00000000#32) i
      = ∑ k : Fin 1024, a (ix2 (i 0) k) * b (ix2 (i 1) k) := by
  pointwise []

theorem dot_nn (a : FVec Ideal S256x1024 .bf16) (b : FVec Ideal S1024x1024 .bf16) (i : S256x1024.Idx) :
    matmul dot_S256x1024_S1024x1024_S256x1024_1_0_0_1_n_n none a b (constant S256x1024 .f32 0x00000000#32) i
      = ∑ k : Fin 1024, a (ix2 (i 0) k) * b (ix2 k (i 1)) := by
  pointwise []

theorem dot_nt3 (a : FVec Ideal S256x1024 .bf16) (b : FVec Ideal S768x1024 .bf16) (i : S256x768.Idx) :
    matmul dot_S256x1024_S768x1024_S256x768_1_1_0_0_n_n none a b (constant S256x768 .f32 0x00000000#32) i
      = ∑ k : Fin 1024, a (ix2 (i 0) k) * b (ix2 (i 1) k) := by
  pointwise []

theorem dot_nn3 (a : FVec Ideal S256x768 .bf16) (b : FVec Ideal S768x1024 .bf16) (i : S256x1024.Idx) :
    matmul dot_S256x768_S768x1024_S256x1024_1_0_0_1_n_n none a b (constant S256x1024 .f32 0x00000000#32) i
      = ∑ k : Fin 768, a (ix2 (i 0) k) * b (ix2 k (i 1)) := by
  pointwise []

theorem sc_same {s : Shape} {φ : FTy} (v : FVec Ideal s φ) (h : Shape.ShapeCasts s s) (i : s.Idx) : shapeCast s v h i = v i := by
  rw [shapeCast_self]

section Elementwise
variable {s : Shape} {φ : FTy} {a b : FVec Ideal s φ} {i : s.Idx} {x y : ℝ}

theorem mulv (ha : a i = (x : EReal)) (hb : b i = (y : EReal)) : mulf a b i = ((x * y : ℝ) : EReal) := mul_r ha hb

theorem addv (ha : a i = (x : EReal)) (hb : b i = (y : EReal)) : addf a b i = ((x + y : ℝ) : EReal) := add_r ha hb

theorem subv (ha : a i = (x : EReal)) (hb : b i = (y : EReal)) : subf a b i = ((x - y : ℝ) : EReal) := sub_r ha hb

theorem divv (h : y ≠ 0) (ha : a i = (x : EReal)) (hb : b i = (y : EReal)) : divf a b i = ((x / y : ℝ) : EReal) := div_r ha hb h

theorem expv (ha : a i = (x : EReal)) : exp a i = ((Real.exp x : ℝ) : EReal) := exp_r ha

theorem rsqrtv (h : 0 < x) (ha : a i = (x : EReal)) : rsqrt a i = (((Real.sqrt x)⁻¹ : ℝ) : EReal) := rsqrt_r ha h

end Elementwise

theorem h1024 : (1024 : ℝ) ≠ 0 := by norm_num

theorem one_exp (z : ℝ) : 1 + Real.exp z ≠ 0 := by positivity

theorem sig_eq (z : ℝ) : 1 / (1 + Real.exp (0 - z)) = Model.sig z := by unfold Model.sig; rw [zero_sub]

end Cert.Kern

end
-- ==== Proof.Pays.lean ====
/- The feed-forward kernel's body at one grid point, over real numbers: each value the body computes from the blocks of one
   point holds what the model names, row by row. The rows of the point's block are `X`, its targets' `T`, and `A` are the
   eight accumulated rows before the point. -/
module

public import proofs.«01_k».proof.Proof.KOps

@[expose] public section

set_option maxRecDepth 16384

noncomputable section

namespace Cert.Kern

open Idealize.ShloMosaic Cert.Coe Cert.Model Cert.KernelIdeal Cert.KernelIdeal.Gen

variable {p : Par} {X T : Fin 256 → Fin 1024 → ℝ} {A : Fin 8 → Fin 1024 → ℝ}

theorem p_4 {v10 : FVec Ideal S1x1024 .f32} (h_v10 : R2 v10 fun _ c => p.gf c) :
    R2 (k0_pay4 (F := Idealize.ShloMosaic.Ideal) v10) fun _ c => p.gf c := fun i =>
  Eq.trans (b := ((_ : ℝ) : EReal)) ((sc_same _ _ _).trans (h_v10 _)) (coe_congr (rfl))

theorem p_5 {v3 : FVec Ideal S256x1024 .f32} (h_v3 : R2 v3 fun r c => X r c) :
    R2 (k0_pay5 (F := Idealize.ShloMosaic.Ideal) v3) fun r _ => rs (X r) := fun i =>
  Eq.trans (b := ((_ : ℝ) : EReal)) (rsqrtv (ms_pos _) (addv (divv h1024 ((red1 _ _).trans (sum_r fun _ => (mulv (h_v3 _) (h_v3 _)))) (ofBits_1024)) (ofBits_eps))) (coe_congr (rfl))

theorem p_6 {v3 : FVec Ideal S256x1024 .f32} (h_v3 : R2 v3 fun r c => X r c) :
    R2 (k0_pay6 (F := Idealize.ShloMosaic.Ideal) v3) fun r c => nrm (X r) c := fun i =>
  Eq.trans (b := ((_ : ℝ) : EReal)) (mulv (h_v3 _) ((bt_col _ _).trans (p_5 h_v3 _))) (coe_congr (rfl))

theorem p_7 {v3 : FVec Ideal S256x1024 .f32} {v4 : FVec Ideal S1x1024 .f32} {v5 : FVec Ideal S1x1024 .f32} {v9 : FVec Ideal S1x1024 .f32} (h_v3 : R2 v3 fun r c => X r c) (h_v4 : R2 v4 fun _ c => p.sh2 c) (h_v5 : R2 v5 fun _ c => p.sc2 c) (h_v9 : R2 v9 fun _ c => p.g2 c) :
    R2 (k0_pay7 (F := Idealize.ShloMosaic.Ideal) v3 v4 v5 v9) fun r c => h2 p (X r) c := fun i =>
  Eq.trans (b := ((_ : ℝ) : EReal)) (addv (mulv (mulv (p_6 h_v3 _) ((bt_row _ _).trans (h_v9 _))) ((bt_row _ _).trans (addv (ofBits_one) (h_v5 _)))) ((bt_row _ _).trans (h_v4 _))) (coe_congr (rfl))

theorem p_8 {v30 : FVec Ideal S256x1024 .bf16} {v33 : FVec Ideal S1024x1024 .bf16} (h_v30 : R2 v30 fun r c => h2 p (X r) c) (h_v33 : R2 v33 fun r c => p.wi c (lo (b0 r))) :
    R2 (k0_pay8 (F := Idealize.ShloMosaic.Ideal) v30 v33) fun r c => zg p (X r) (b0 c) := fun i =>
  Eq.trans (b := ((_ : ℝ) : EReal)) ((dot_nt _ _ _).trans (dot_r (fun _ => (h_v30 _)) (fun _ => ((sc_same _ _ _).trans (h_v33 _))))) (coe_congr (rfl))

theorem p_9 {v30 : FVec Ideal S256x1024 .bf16} {v36 : FVec Ideal S1024x1024 .bf16} (h_v30 : R2 v30 fun r c => h2 p (X r) c) (h_v36 : R2 v36 fun r c => p.wi c (hi (b0 r))) :
    R2 (k0_pay9 (F := Idealize.ShloMosaic.Ideal) v30 v36) fun r c => zu p (X r) (b0 c) := fun i =>
  Eq.trans (b := ((_ : ℝ) : EReal)) ((dot_nt _ _ _).trans (dot_r (fun _ => (h_v30 _)) (fun _ => ((sc_same _ _ _).trans (h_v36 _))))) (coe_congr (rfl))

theorem p_10 {v30 : FVec Ideal S256x1024 .bf16} {v33 : FVec Ideal S1024x1024 .bf16} (h_v30 : R2 v30 fun r c => h2 p (X r) c) (h_v33 : R2 v33 fun r c => p.wi c (lo (b0 r))) :
    R2 (k0_pay10 (F := Idealize.ShloMosaic.Ideal) v30 v33) fun r c => zg p (X r) (b0 c) := fun i =>
  Eq.trans (b := ((_ : ℝ) : EReal)) ((sc_same _ _ _).trans (p_8 h_v30 h_v33 _)) (coe_congr (rfl))

theorem p_11 {v30 : FVec Ideal S256x1024 .bf16} {v36 : FVec Ideal S1024x1024 .bf16} (h_v30 : R2 v30 fun r c => h2 p (X r) c) (h_v36 : R2 v36 fun r c => p.wi c (hi (b0 r))) :
    R2 (k0_pay11 (F := Idealize.ShloMosaic.Ideal) v30 v36) fun r c => zu p (X r) (b0 c) := fun i =>
  Eq.trans (b := ((_ : ℝ) : EReal)) ((sc_same _ _ _).trans (p_9 h_v30 h_v36 _)) (coe_congr (rfl))

theorem p_12 {v30 : FVec Ideal S256x1024 .bf16} {v33 : FVec Ideal S1024x1024 .bf16} {v36 : FVec Ideal S1024x1024 .bf16} (h_v30 : R2 v30 fun r c => h2 p (X r) c) (h_v33 : R2 v33 fun r c => p.wi c (lo (b0 r))) (h_v36 : R2 v36 fun r c => p.wi c (hi (b0 r))) :
    R2 (k0_pay12 (F := Idealize.ShloMosaic.Ideal) v30 v33 v36) fun r c => act p (X r) (b0 c) := fun i =>
  Eq.trans (b := ((_ : ℝ) : EReal)) (mulv (mulv (p_8 h_v30 h_v33 _) (divv (one_exp _) (ofBits_one) (addv (ofBits_one) (expv (subv (ofBits_zero.trans EReal.coe_zero.symm) (p_8 h_v30 h_v33 _)))))) (p_9 h_v30 h_v36 _)) (coe_congr (by simp only [sig_eq]; rfl))

theorem p_13 {v30 : FVec Ideal S256x1024 .bf16} {v33 : FVec Ideal S1024x1024 .bf16} {v36 : FVec Ideal S1024x1024 .bf16} {v56 : FVec Ideal S1024x1024 .bf16} (h_v30 : R2 v30 fun r c => h2 p (X r) c) (h_v33 : R2 v33 fun r c => p.wi c (lo (b0 r))) (h_v36 : R2 v36 fun r c => p.wi c (hi (b0 r))) (h_v56 : R2 v56 fun r c => p.wo (b0 r) c) :
    R2 (k0_pay13 (F := Idealize.ShloMosaic.Ideal) v30 (Scalar.ofBits .f32 0x00000000#32 : Ideal .f32) v33 v36 v56) fun r c => (∑ j, act p (X r) (b0 j) * p.wo (b0 j) c) := fun i =>
  Eq.trans (b := ((_ : ℝ) : EReal)) (addv (ofBits_zero.trans EReal.coe_zero.symm) ((dot_nn _ _ _).trans (dot_r (fun _ => (p_12 h_v30 h_v33 h_v36 _)) (fun _ => ((sc_same _ _ _).trans (h_v56 _)))))) (coe_congr (zero_add _))

theorem p_14 {v30 : FVec Ideal S256x1024 .bf16} {v60 : FVec Ideal S1024x1024 .bf16} (h_v30 : R2 v30 fun r c => h2 p (X r) c) (h_v60 : R2 v60 fun r c => p.wi c (lo (b1 r))) :
    R2 (k0_pay14 (F := Idealize.ShloMosaic.Ideal) v30 v60) fun r c => zg p (X r) (b1 c) := fun i =>
  Eq.trans (b := ((_ : ℝ) : EReal)) ((dot_nt _ _ _).trans (dot_r (fun _ => (h_v30 _)) (fun _ => ((sc_same _ _ _).trans (h_v60 _))))) (coe_congr (rfl))

theorem p_15 {v63 : FVec Ideal S1024x1024 .bf16} (h_v63 : R2 v63 fun r c => p.wi c (hi (b1 r))) :
    R2 (k0_pay15 (F := Idealize.ShloMosaic.Ideal) v63) fun r c => p.wi c (hi (b1 r)) := fun i =>
  Eq.trans (b := ((_ : ℝ) : EReal)) ((sc_same _ _ _).trans (h_v63 _)) (coe_congr (rfl))

theorem p_16 {v30 : FVec Ideal S256x1024 .bf16} {v64 : FVec Ideal S1024x1024 .bf16} (h_v30 : R2 v30 fun r c => h2 p (X r) c) (h_v64 : R2 v64 fun r c => p.wi c (hi (b1 r))) :
    R2 (k0_pay16 (F := Idealize.ShloMosaic.Ideal) v30 v64 (constant S256x1024 .f32 0x00000000#32 : FVec Ideal S256x1024 .f32)) fun r c => zu p (X r) (b1 c) := fun i =>
  Eq.trans (b := ((_ : ℝ) : EReal)) ((dot_nt _ _ _).trans (dot_r (fun _ => (h_v30 _)) (fun _ => (h_v64 _)))) (coe_congr (rfl))

theorem p_17 {v62 : FVec Ideal S256x1024 .f32} (h_v62 : R2 v62 fun r c => zg p (X r) (b1 c)) :
    R2 (k0_pay17 (F := Idealize.ShloMosaic.Ideal) v62) fun r c => zg p (X r) (b1 c) := fun i =>
  Eq.trans (b := ((_ : ℝ) : EReal)) ((sc_same _ _ _).trans (h_v62 _)) (coe_congr (rfl))

theorem p_18 {v30 : FVec Ideal S256x1024 .bf16} {v64 : FVec Ideal S1024x1024 .bf16} (h_v30 : R2 v30 fun r c => h2 p (X r) c) (h_v64 : R2 v64 fun r c => p.wi c (hi (b1 r))) :
    R2 (k0_pay18 (F := Idealize.ShloMosaic.Ideal) v30 v64 (constant S256x1024 .f32 0x00000000#32 : FVec Ideal S256x1024 .f32)) fun r c => zu p (X r) (b1 c) := fun i =>
  Eq.trans (b := ((_ : ℝ) : EReal)) ((sc_same _ _ _).trans (p_16 h_v30 h_v64 _)) (coe_congr (rfl))

theorem p_19 {v30 : FVec Ideal S256x1024 .bf16} {v62 : FVec Ideal S256x1024 .f32} {v64 : FVec Ideal S1024x1024 .bf16} (h_v30 : R2 v30 fun r c => h2 p (X r) c) (h_v62 : R2 v62 fun r c => zg p (X r) (b1 c)) (h_v64 : R2 v64 fun r c => p.wi c (hi (b1 r))) :
    R2 (k0_pay19 (F := Idealize.ShloMosaic.Ideal) v30 v62 v64 (constant S256x1024 .f32 0x00000000#32 : FVec Ideal S256x1024 .f32)) fun r c => act p (X r) (b1 c) := fun i =>
  Eq.trans (b := ((_ : ℝ) : EReal)) (mulv (mulv (h_v62 _) (divv (one_exp _) (ofBits_one) (addv (ofBits_one) (expv (subv (ofBits_zero.trans EReal.coe_zero.symm) (h_v62 _)))))) (p_16 h_v30 h_v64 _)) (coe_congr (by simp only [sig_eq]; rfl))

theorem p_20 {v30 : FVec Ideal S256x1024 .bf16} {v59 : FVec Ideal S256x1024 .f32} {v62 : FVec Ideal S256x1024 .f32} {v64 : FVec Ideal S1024x1024 .bf16} {v83 : FVec Ideal S1024x1024 .bf16} (h_v30 : R2 v30 fun r c => h2 p (X r) c) (h_v59 : R2 v59 fun r c => (∑ j, act p (X r) (b0 j) * p.wo (b0 j) c)) (h_v62 : R2 v62 fun r c => zg p (X r) (b1 c)) (h_v64 : R2 v64 fun r c => p.wi c (hi (b1 r))) (h_v83 : R2 v83 fun r c => p.wo (b1 r) c) :
    R2 (k0_pay20 (F := Idealize.ShloMosaic.Ideal) v30 v59 v62 v64 (constant S256x1024 .f32 0x00000000#32 : FVec Ideal S256x1024 .f32) v83) fun r c => (∑ j, act p (X r) (b0 j) * p.wo (b0 j) c) + (∑ j, act p (X r) (b1 j) * p.wo (b1 j) c) := fun i =>
  Eq.trans (b := ((_ : ℝ) : EReal)) (addv (h_v59 _) ((dot_nn _ _ _).trans (dot_r (fun _ => (p_19 h_v30 h_v62 h_v64 _)) (fun _ => ((sc_same _ _ _).trans (h_v83 _)))))) (coe_congr (rfl))

theorem p_21 {v30 : FVec Ideal S256x1024 .bf16} {v87 : FVec Ideal S768x1024 .bf16} (h_v30 : R2 v30 fun r c => h2 p (X r) c) (h_v87 : R2 v87 fun r c => p.wi c (lo (b2 r))) :
    R2 (k0_pay21 (F := Idealize.ShloMosaic.Ideal) v30 v87) fun r c => zg p (X r) (b2 c) := fun i =>
  Eq.trans (b := ((_ : ℝ) : EReal)) ((dot_nt3 _ _ _).trans (dot_r (fun _ => (h_v30 _)) (fun _ => ((sc_same _ _ _).trans (h_v87 _))))) (coe_congr (rfl))

theorem p_22 {v30 : FVec Ideal S256x1024 .bf16} {v90 : FVec Ideal S768x1024 .bf16} (h_v30 : R2 v30 fun r c => h2 p (X r) c) (h_v90 : R2 v90 fun r c => p.wi c (hi (b2 r))) :
    R2 (k0_pay22 (F := Idealize.ShloMosaic.Ideal) v30 v90) fun r c => zu p (X r) (b2 c) := fun i =>
  Eq.trans (b := ((_ : ℝ) : EReal)) ((dot_nt3 _ _ _).trans (dot_r (fun _ => (h_v30 _)) (fun _ => ((sc_same _ _ _).trans (h_v90 _))))) (coe_congr (rfl))

theorem p_23 {v30 : FVec Ideal S256x1024 .bf16} {v87 : FVec Ideal S768x1024 .bf16} (h_v30 : R2 v30 fun r c => h2 p (X r) c) (h_v87 : R2 v87 fun r c => p.wi c (lo (b2 r))) :
    R2 (k0_pay23 (F := Idealize.ShloMosaic.Ideal) v30 v87) fun r c => zg p (X r) (b2 c) := fun i =>
  Eq.trans (b := ((_ : ℝ) : EReal)) ((sc_same _ _ _).trans (p_21 h_v30 h_v87 _)) (coe_congr (rfl))

theorem p_24 {v30 : FVec Ideal S256x1024 .bf16} {v90 : FVec Ideal S768x1024 .bf16} (h_v30 : R2 v30 fun r c => h2 p (X r) c) (h_v90 : R2 v90 fun r c => p.wi c (hi (b2 r))) :
    R2 (k0_pay24 (F := Idealize.ShloMosaic.Ideal) v30 v90) fun r c => zu p (X r) (b2 c) := fun i =>
  Eq.trans (b := ((_ : ℝ) : EReal)) ((sc_same _ _ _).trans (p_22 h_v30 h_v90 _)) (coe_congr (rfl))

theorem p_25 {v89 : FVec Ideal S256x768 .f32} {v92 : FVec Ideal S256x768 .f32} (h_v89 : R2 v89 fun r c => zg p (X r) (b2 c)) (h_v92 : R2 v92 fun r c => zu p (X r) (b2 c)) :
    R2 (k0_pay25 (F := Idealize.ShloMosaic.Ideal) v89 v92) fun r c => act p (X r) (b2 c) := fun i =>
  Eq.trans (b := ((_ : ℝ) : EReal)) (mulv (mulv (h_v89 _) (divv (one_exp _) (ofBits_one) (addv (ofBits_one) (expv (subv (ofBits_zero.trans EReal.coe_zero.symm) (h_v89 _)))))) (h_v92 _)) (coe_congr (by simp only [sig_eq]; rfl))

theorem p_26 {v86 : FVec Ideal S256x1024 .f32} {v89 : FVec Ideal S256x768 .f32} {v92 : FVec Ideal S256x768 .f32} {v110 : FVec Ideal S768x1024 .bf16} (h_v86 : R2 v86 fun r c => (∑ j, act p (X r) (b0 j) * p.wo (b0 j) c) + (∑ j, act p (X r) (b1 j) * p.wo (b1 j) c)) (h_v89 : R2 v89 fun r c => zg p (X r) (b2 c)) (h_v92 : R2 v92 fun r c => zu p (X r) (b2 c)) (h_v110 : R2 v110 fun r c => p.wo (b2 r) c) :
    R2 (k0_pay26 (F := Idealize.ShloMosaic.Ideal) v86 v89 v92 v110) fun r c => ff p (X r) c := fun i =>
  Eq.trans (b := ((_ : ℝ) : EReal)) (addv (h_v86 _) ((dot_nn3 _ _ _).trans (dot_r (fun _ => (p_25 h_v89 h_v92 _)) (fun _ => ((sc_same _ _ _).trans (h_v110 _)))))) (coe_congr (ff_blocks _ _ _))

theorem p_27 {v3 : FVec Ideal S256x1024 .f32} {v6 : FVec Ideal S1x1024 .f32} {v86 : FVec Ideal S256x1024 .f32} {v89 : FVec Ideal S256x768 .f32} {v92 : FVec Ideal S256x768 .f32} {v110 : FVec Ideal S768x1024 .bf16} (h_v3 : R2 v3 fun r c => X r c) (h_v6 : R2 v6 fun _ c => p.gate c) (h_v86 : R2 v86 fun r c => (∑ j, act p (X r) (b0 j) * p.wo (b0 j) c) + (∑ j, act p (X r) (b1 j) * p.wo (b1 j) c)) (h_v89 : R2 v89 fun r c => zg p (X r) (b2 c)) (h_v92 : R2 v92 fun r c => zu p (X r) (b2 c)) (h_v110 : R2 v110 fun r c => p.wo (b2 r) c) :
    R2 (k0_pay27 (F := Idealize.ShloMosaic.Ideal) v3 v6 v86 v89 v92 v110) fun r c => Model.x2 p (X r) c := fun i =>
  Eq.trans (b := ((_ : ℝ) : EReal)) (addv (h_v3 _) (mulv ((bt_row _ _).trans (h_v6 _)) (p_26 h_v86 h_v89 h_v92 h_v110 _))) (coe_congr (rfl))

theorem p_28 {v3 : FVec Ideal S256x1024 .f32} {v6 : FVec Ideal S1x1024 .f32} {v86 : FVec Ideal S256x1024 .f32} {v89 : FVec Ideal S256x768 .f32} {v92 : FVec Ideal S256x768 .f32} {v110 : FVec Ideal S768x1024 .bf16} (h_v3 : R2 v3 fun r c => X r c) (h_v6 : R2 v6 fun _ c => p.gate c) (h_v86 : R2 v86 fun r c => (∑ j, act p (X r) (b0 j) * p.wo (b0 j) c) + (∑ j, act p (X r) (b1 j) * p.wo (b1 j) c)) (h_v89 : R2 v89 fun r c => zg p (X r) (b2 c)) (h_v92 : R2 v92 fun r c => zu p (X r) (b2 c)) (h_v110 : R2 v110 fun r c => p.wo (b2 r) c) :
    R2 (k0_pay28 (F := Idealize.ShloMosaic.Ideal) v3 v6 v86 v89 v92 v110) fun r _ => rs (Model.x2 p (X r)) := fun i =>
  Eq.trans (b := ((_ : ℝ) : EReal)) (rsqrtv (ms_pos _) (addv (divv h1024 ((red1 _ _).trans (sum_r fun _ => (mulv (p_27 h_v3 h_v6 h_v86 h_v89 h_v92 h_v110 _) (p_27 h_v3 h_v6 h_v86 h_v89 h_v92 h_v110 _)))) (ofBits_1024)) (ofBits_eps))) (coe_congr (rfl))

theorem p_29 {v3 : FVec Ideal S256x1024 .f32} {v6 : FVec Ideal S1x1024 .f32} {v86 : FVec Ideal S256x1024 .f32} {v89 : FVec Ideal S256x768 .f32} {v92 : FVec Ideal S256x768 .f32} {v110 : FVec Ideal S768x1024 .bf16} (h_v3 : R2 v3 fun r c => X r c) (h_v6 : R2 v6 fun _ c => p.gate c) (h_v86 : R2 v86 fun r c => (∑ j, act p (X r) (b0 j) * p.wo (b0 j) c) + (∑ j, act p (X r) (b1 j) * p.wo (b1 j) c)) (h_v89 : R2 v89 fun r c => zg p (X r) (b2 c)) (h_v92 : R2 v92 fun r c => zu p (X r) (b2 c)) (h_v110 : R2 v110 fun r c => p.wo (b2 r) c) :
    R2 (k0_pay29 (F := Idealize.ShloMosaic.Ideal) v3 v6 v86 v89 v92 v110) fun r c => nrm (Model.x2 p (X r)) c := fun i =>
  Eq.trans (b := ((_ : ℝ) : EReal)) (mulv (p_27 h_v3 h_v6 h_v86 h_v89 h_v92 h_v110 _) ((bt_col _ _).trans (p_28 h_v3 h_v6 h_v86 h_v89 h_v92 h_v110 _))) (coe_congr (rfl))

theorem p_30 {v3 : FVec Ideal S256x1024 .f32} {v6 : FVec Ideal S1x1024 .f32} {v7 : FVec Ideal S1x1024 .f32} {v8 : FVec Ideal S1x1024 .f32} {v11 : FVec Ideal S1x1024 .f32} {v86 : FVec Ideal S256x1024 .f32} {v89 : FVec Ideal S256x768 .f32} {v92 : FVec Ideal S256x768 .f32} {v110 : FVec Ideal S768x1024 .bf16} {v135 : FVec Ideal S256x1024 .f32} (h_v3 : R2 v3 fun r c => X r c) (h_v6 : R2 v6 fun _ c => p.gate c) (h_v7 : R2 v7 fun _ c => p.shf c) (h_v8 : R2 v8 fun _ c => p.scf c) (h_v11 : R2 v11 fun _ c => p.gf c) (h_v86 : R2 v86 fun r c => (∑ j, act p (X r) (b0 j) * p.wo (b0 j) c) + (∑ j, act p (X r) (b1 j) * p.wo (b1 j) c)) (h_v89 : R2 v89 fun r c => zg p (X r) (b2 c)) (h_v92 : R2 v92 fun r c => zu p (X r) (b2 c)) (h_v110 : R2 v110 fun r c => p.wo (b2 r) c) (h_v135 : R2 v135 fun r c => T r c) :
    R2 (k0_pay30 (F := Idealize.ShloMosaic.Ideal) v3 v6 v7 v8 v11 v86 v89 v92 v110 v135) fun r c => err p (X r) (T r) c := fun i =>
  Eq.trans (b := ((_ : ℝ) : EReal)) (subv (addv (mulv (mulv (p_29 h_v3 h_v6 h_v86 h_v89 h_v92 h_v110 _) ((bt_row _ _).trans (h_v11 _))) ((bt_row _ _).trans (addv (ofBits_one) (h_v8 _)))) ((bt_row _ _).trans (h_v7 _))) (h_v135 _)) (coe_congr (rfl))

theorem p_31 {v3 : FVec Ideal S256x1024 .f32} {v6 : FVec Ideal S1x1024 .f32} {v7 : FVec Ideal S1x1024 .f32} {v8 : FVec Ideal S1x1024 .f32} {v11 : FVec Ideal S1x1024 .f32} {v86 : FVec Ideal S256x1024 .f32} {v89 : FVec Ideal S256x768 .f32} {v92 : FVec Ideal S256x768 .f32} {v110 : FVec Ideal S768x1024 .bf16} {v135 : FVec Ideal S256x1024 .f32} (h_v3 : R2 v3 fun r c => X r c) (h_v6 : R2 v6 fun _ c => p.gate c) (h_v7 : R2 v7 fun _ c => p.shf c) (h_v8 : R2 v8 fun _ c => p.scf c) (h_v11 : R2 v11 fun _ c => p.gf c) (h_v86 : R2 v86 fun r c => (∑ j, act p (X r) (b0 j) * p.wo (b0 j) c) + (∑ j, act p (X r) (b1 j) * p.wo (b1 j) c)) (h_v89 : R2 v89 fun r c => zg p (X r) (b2 c)) (h_v92 : R2 v92 fun r c => zu p (X r) (b2 c)) (h_v110 : R2 v110 fun r c => p.wo (b2 r) c) (h_v135 : R2 v135 fun r c => T r c) :
    R2 (k0_pay31 (F := Idealize.ShloMosaic.Ideal) v3 v6 v7 v8 v11 v86 v89 v92 v110 v135) fun r c => dout p (X r) (T r) c := fun i =>
  Eq.trans (b := ((_ : ℝ) : EReal)) (mulv (p_30 h_v3 h_v6 h_v7 h_v8 h_v11 h_v86 h_v89 h_v92 h_v110 h_v135 _) (ofBits_inv1024)) (coe_congr (rfl))

theorem p_32 {v136 : FVec Ideal S256x1024 .f32} {v139 : FVec Ideal S1x1024 .f32} (h_v136 : R2 v136 fun r c => err p (X r) (T r) c) (h_v139 : R2 v139 fun _ c => A 7 c) :
    R2 (k0_pay32 (F := Idealize.ShloMosaic.Ideal) v136 v139) fun _ c => A 7 c + ∑ q, row p (X q) (T q) 7 c := fun i =>
  Eq.trans (b := ((_ : ℝ) : EReal)) (addv ((sc_same _ _ _).trans (h_v139 _)) ((red0 _ _).trans (sum_r fun _ => (mulv (h_v136 _) (h_v136 _))))) (coe_congr (rfl))

theorem p_33 {v138 : FVec Ideal S256x1024 .f32} {v146 : FVec Ideal S1x1024 .f32} (h_v138 : R2 v138 fun r c => dout p (X r) (T r) c) (h_v146 : R2 v146 fun _ c => A 0 c) :
    R2 (k0_pay33 (F := Idealize.ShloMosaic.Ideal) v138 v146) fun _ c => A 0 c + ∑ q, row p (X q) (T q) 0 c := fun i =>
  Eq.trans (b := ((_ : ℝ) : EReal)) (addv ((sc_same _ _ _).trans (h_v146 _)) ((red0 _ _).trans (sum_r fun _ => (h_v138 _)))) (coe_congr (rfl))

theorem p_34 {v11 : FVec Ideal S1x1024 .f32} {v126 : FVec Ideal S256x1024 .f32} {v138 : FVec Ideal S256x1024 .f32} {v152 : FVec Ideal S1x1024 .f32} (h_v11 : R2 v11 fun _ c => p.gf c) (h_v126 : R2 v126 fun r c => nrm (Model.x2 p (X r)) c) (h_v138 : R2 v138 fun r c => dout p (X r) (T r) c) (h_v152 : R2 v152 fun _ c => A 1 c) :
    R2 (k0_pay34 (F := Idealize.ShloMosaic.Ideal) v11 v126 v138 v152) fun _ c => A 1 c + ∑ q, row p (X q) (T q) 1 c := fun i =>
  Eq.trans (b := ((_ : ℝ) : EReal)) (addv ((sc_same _ _ _).trans (h_v152 _)) ((red0 _ _).trans (sum_r fun _ => (mulv (mulv (h_v138 _) (h_v126 _)) ((bt_row _ _).trans (h_v11 _)))))) (coe_congr (rfl))

theorem p_35 {v8 : FVec Ideal S1x1024 .f32} {v126 : FVec Ideal S256x1024 .f32} {v138 : FVec Ideal S256x1024 .f32} {v161 : FVec Ideal S1x1024 .f32} (h_v8 : R2 v8 fun _ c => p.scf c) (h_v126 : R2 v126 fun r c => nrm (Model.x2 p (X r)) c) (h_v138 : R2 v138 fun r c => dout p (X r) (T r) c) (h_v161 : R2 v161 fun _ c => A 2 c) :
    R2 (k0_pay35 (F := Idealize.ShloMosaic.Ideal) v8 v126 v138 v161) fun _ c => A 2 c + ∑ q, row p (X q) (T q) 2 c := fun i =>
  Eq.trans (b := ((_ : ℝ) : EReal)) (addv ((sc_same _ _ _).trans (h_v161 _)) ((red0 _ _).trans (sum_r fun _ => (mulv (mulv (h_v138 _) ((bt_row _ _).trans (addv (ofBits_one) (h_v8 _)))) (h_v126 _))))) (coe_congr (rfl))

theorem p_36 {v8 : FVec Ideal S1x1024 .f32} {v138 : FVec Ideal S256x1024 .f32} (h_v8 : R2 v8 fun _ c => p.scf c) (h_v138 : R2 v138 fun r c => dout p (X r) (T r) c) :
    R2 (k0_pay36 (F := Idealize.ShloMosaic.Ideal) v8 v138) fun r c => dout p (X r) (T r) c * (1 + p.scf c) := fun i =>
  Eq.trans (b := ((_ : ℝ) : EReal)) (mulv (h_v138 _) ((bt_row _ _).trans (addv (ofBits_one) (h_v8 _)))) (coe_congr (rfl))

theorem p_37 {v11 : FVec Ideal S1x1024 .f32} {v124 : FVec Ideal S256x1 .f32} {v126 : FVec Ideal S256x1024 .f32} {v175 : FVec Ideal S256x1024 .f32} (h_v11 : R2 v11 fun _ c => p.gf c) (h_v124 : R2 v124 fun r _ => rs (Model.x2 p (X r))) (h_v126 : R2 v126 fun r c => nrm (Model.x2 p (X r)) c) (h_v175 : R2 v175 fun r c => dout p (X r) (T r) c * (1 + p.scf c)) :
    R2 (k0_pay37 (F := Idealize.ShloMosaic.Ideal) v11 v124 v126 v175) fun r c => dx2 p (X r) (T r) c := fun i =>
  Eq.trans (b := ((_ : ℝ) : EReal)) (mulv ((bt_col _ _).trans (h_v124 _)) (subv (mulv (h_v175 _) ((bt_row _ _).trans (h_v11 _))) (mulv (h_v126 _) ((bt_col _ _).trans (divv h1024 ((red1 _ _).trans (sum_r fun _ => (mulv (mulv (h_v175 _) ((bt_row _ _).trans (h_v11 _))) (h_v126 _)))) (ofBits_1024)))))) (coe_congr (rfl))

theorem p_38 {v11 : FVec Ideal S1x1024 .f32} {v113 : FVec Ideal S256x1024 .f32} {v124 : FVec Ideal S256x1 .f32} {v126 : FVec Ideal S256x1024 .f32} {v175 : FVec Ideal S256x1024 .f32} {v188 : FVec Ideal S1x1024 .f32} (h_v11 : R2 v11 fun _ c => p.gf c) (h_v113 : R2 v113 fun r c => ff p (X r) c) (h_v124 : R2 v124 fun r _ => rs (Model.x2 p (X r))) (h_v126 : R2 v126 fun r c => nrm (Model.x2 p (X r)) c) (h_v175 : R2 v175 fun r c => dout p (X r) (T r) c * (1 + p.scf c)) (h_v188 : R2 v188 fun _ c => A 3 c) :
    R2 (k0_pay38 (F := Idealize.ShloMosaic.Ideal) v11 v113 v124 v126 v175 v188) fun _ c => A 3 c + ∑ q, row p (X q) (T q) 3 c := fun i =>
  Eq.trans (b := ((_ : ℝ) : EReal)) (addv ((sc_same _ _ _).trans (h_v188 _)) ((red0 _ _).trans (sum_r fun _ => (mulv (p_37 h_v11 h_v124 h_v126 h_v175 _) (h_v113 _))))) (coe_congr (rfl))

theorem p_39 {v6 : FVec Ideal S1x1024 .f32} {v11 : FVec Ideal S1x1024 .f32} {v124 : FVec Ideal S256x1 .f32} {v126 : FVec Ideal S256x1024 .f32} {v175 : FVec Ideal S256x1024 .f32} (h_v6 : R2 v6 fun _ c => p.gate c) (h_v11 : R2 v11 fun _ c => p.gf c) (h_v124 : R2 v124 fun r _ => rs (Model.x2 p (X r))) (h_v126 : R2 v126 fun r c => nrm (Model.x2 p (X r)) c) (h_v175 : R2 v175 fun r c => dout p (X r) (T r) c * (1 + p.scf c)) :
    R2 (k0_pay39 (F := Idealize.ShloMosaic.Ideal) v6 v11 v124 v126 v175) fun r c => dff p (X r) (T r) c := fun i =>
  Eq.trans (b := ((_ : ℝ) : EReal)) (mulv (p_37 h_v11 h_v124 h_v126 h_v175 _) ((bt_row _ _).trans (h_v6 _))) (coe_congr (rfl))

theorem p_40 :
    R2 (k0_pay40 (F := Idealize.ShloMosaic.Ideal) ) fun _ _ => 0 := fun i =>
  Eq.trans (b := ((_ : ℝ) : EReal)) (ofBits_zero.trans EReal.coe_zero.symm) (coe_congr (rfl))

theorem p_41 {v6 : FVec Ideal S1x1024 .f32} {v11 : FVec Ideal S1x1024 .f32} {v124 : FVec Ideal S256x1 .f32} {v126 : FVec Ideal S256x1024 .f32} {v175 : FVec Ideal S256x1024 .f32} {v200 : FVec Ideal S1024x1024 .bf16} (h_v6 : R2 v6 fun _ c => p.gate c) (h_v11 : R2 v11 fun _ c => p.gf c) (h_v124 : R2 v124 fun r _ => rs (Model.x2 p (X r))) (h_v126 : R2 v126 fun r c => nrm (Model.x2 p (X r)) c) (h_v175 : R2 v175 fun r c => dout p (X r) (T r) c * (1 + p.scf c)) (h_v200 : R2 v200 fun r c => p.wo (b0 r) c) :
    R2 (k0_pay41 (F := Idealize.ShloMosaic.Ideal) v6 v11 v124 v126 v175 v200) fun r c => dact p (X r) (T r) (b0 c) := fun i =>
  Eq.trans (b := ((_ : ℝ) : EReal)) ((dot_nt _ _ _).trans (dot_r (fun _ => (p_39 h_v6 h_v11 h_v124 h_v126 h_v175 _)) (fun _ => ((sc_same _ _ _).trans (h_v200 _))))) (coe_congr (rfl))

theorem p_42 {v203 : FVec Ideal S256x1024 .f32} (h_v203 : R2 v203 fun r c => zg p (X r) (b0 c)) :
    R2 (k0_pay42 (F := Idealize.ShloMosaic.Ideal) v203) fun r c => Model.sig (zg p (X r) (b0 c)) := fun i =>
  Eq.trans (b := ((_ : ℝ) : EReal)) (divv (one_exp _) (ofBits_one) (addv (ofBits_one) (expv (subv (ofBits_zero.trans EReal.coe_zero.symm) (h_v203 _))))) (coe_congr (sig_eq _))

theorem p_43 {v6 : FVec Ideal S1x1024 .f32} {v11 : FVec Ideal S1x1024 .f32} {v124 : FVec Ideal S256x1 .f32} {v126 : FVec Ideal S256x1024 .f32} {v175 : FVec Ideal S256x1024 .f32} {v200 : FVec Ideal S1024x1024 .bf16} {v204 : FVec Ideal S256x1024 .f32} (h_v6 : R2 v6 fun _ c => p.gate c) (h_v11 : R2 v11 fun _ c => p.gf c) (h_v124 : R2 v124 fun r _ => rs (Model.x2 p (X r))) (h_v126 : R2 v126 fun r c => nrm (Model.x2 p (X r)) c) (h_v175 : R2 v175 fun r c => dout p (X r) (T r) c * (1 + p.scf c)) (h_v200 : R2 v200 fun r c => p.wo (b0 r) c) (h_v204 : R2 v204 fun r c => zu p (X r) (b0 c)) :
    R2 (k0_pay43 (F := Idealize.ShloMosaic.Ideal) v6 v11 v124 v126 v175 v200 v204) fun r c => dact p (X r) (T r) (b0 c) * zu p (X r) (b0 c) := fun i =>
  Eq.trans (b := ((_ : ℝ) : EReal)) (mulv (p_41 h_v6 h_v11 h_v124 h_v126 h_v175 h_v200 _) (h_v204 _)) (coe_congr (rfl))

theorem p_44 {v203 : FVec Ideal S256x1024 .f32} {v211 : FVec Ideal S256x1024 .f32} {v212 : FVec Ideal S256x1024 .f32} (h_v203 : R2 v203 fun r c => zg p (X r) (b0 c)) (h_v211 : R2 v211 fun r c => Model.sig (zg p (X r) (b0 c))) (h_v212 : R2 v212 fun r c => dact p (X r) (T r) (b0 c) * zu p (X r) (b0 c)) :
    R2 (k0_pay44 (F := Idealize.ShloMosaic.Ideal) v203 v211 v212 (Scalar.ofBits .f32 0x3F800000#32 : Ideal .f32)) fun r c => dg p (X r) (T r) (b0 c) := fun i =>
  Eq.trans (b := ((_ : ℝ) : EReal)) (mulv (h_v212 _) (mulv (h_v211 _) (addv (ofBits_one) (mulv (h_v203 _) (subv (ofBits_one) (h_v211 _)))))) (coe_congr (rfl))

theorem p_45 {v202 : FVec Ideal S256x1024 .f32} {v203 : FVec Ideal S256x1024 .f32} {v211 : FVec Ideal S256x1024 .f32} (h_v202 : R2 v202 fun r c => dact p (X r) (T r) (b0 c)) (h_v203 : R2 v203 fun r c => zg p (X r) (b0 c)) (h_v211 : R2 v211 fun r c => Model.sig (zg p (X r) (b0 c))) :
    R2 (k0_pay45 (F := Idealize.ShloMosaic.Ideal) v202 v203 v211) fun r c => du p (X r) (T r) (b0 c) := fun i =>
  Eq.trans (b := ((_ : ℝ) : EReal)) (mulv (h_v202 _) (mulv (h_v203 _) (h_v211 _))) (coe_congr (rfl))

theorem p_46 {v199 : FVec Ideal S256x1024 .f32} {v202 : FVec Ideal S256x1024 .f32} {v203 : FVec Ideal S256x1024 .f32} {v211 : FVec Ideal S256x1024 .f32} {v212 : FVec Ideal S256x1024 .f32} {v226 : FVec Ideal S1024x1024 .bf16} {v230 : FVec Ideal S1024x1024 .bf16} (h_v199 : R2 v199 fun _ _ => 0) (h_v202 : R2 v202 fun r c => dact p (X r) (T r) (b0 c)) (h_v203 : R2 v203 fun r c => zg p (X r) (b0 c)) (h_v211 : R2 v211 fun r c => Model.sig (zg p (X r) (b0 c))) (h_v212 : R2 v212 fun r c => dact p (X r) (T r) (b0 c) * zu p (X r) (b0 c)) (h_v226 : R2 v226 fun r c => p.wi c (lo (b0 r))) (h_v230 : R2 v230 fun r c => p.wi c (hi (b0 r))) :
    R2 (k0_pay46 (F := Idealize.ShloMosaic.Ideal) v199 v202 v203 v211 v212 (Scalar.ofBits .f32 0x3F800000#32 : Ideal .f32) v226 v230) fun r c => (∑ j, dg p (X r) (T r) (b0 j) * p.wi c (lo (b0 j))) + (∑ j, du p (X r) (T r) (b0 j) * p.wi c (hi (b0 j))) := fun i =>
  Eq.trans (b := ((_ : ℝ) : EReal)) (addv (addv (h_v199 _) ((dot_nn _ _ _).trans (dot_r (fun _ => (p_44 h_v203 h_v211 h_v212 _)) (fun _ => ((sc_same _ _ _).trans (h_v226 _)))))) ((dot_nn _ _ _).trans (dot_r (fun _ => (p_45 h_v202 h_v203 h_v211 _)) (fun _ => ((sc_same _ _ _).trans (h_v230 _)))))) (coe_congr (congrArg (· + _) (zero_add _)))

theorem p_47 {v197 : FVec Ideal S256x1024 .bf16} {v234 : FVec Ideal S1024x1024 .bf16} (h_v197 : R2 v197 fun r c => dff p (X r) (T r) c) (h_v234 : R2 v234 fun r c => p.wo (b1 r) c) :
    R2 (k0_pay47 (F := Idealize.ShloMosaic.Ideal) v197 v234) fun r c => dact p (X r) (T r) (b1 c) := fun i =>
  Eq.trans (b := ((_ : ℝ) : EReal)) ((dot_nt _ _ _).trans (dot_r (fun _ => (h_v197 _)) (fun _ => ((sc_same _ _ _).trans (h_v234 _))))) (coe_congr (rfl))

theorem p_48 {v237 : FVec Ideal S256x1024 .f32} (h_v237 : R2 v237 fun r c => zg p (X r) (b1 c)) :
    R2 (k0_pay48 (F := Idealize.ShloMosaic.Ideal) v237) fun r c => Model.sig (zg p (X r) (b1 c)) := fun i =>
  Eq.trans (b := ((_ : ℝ) : EReal)) (divv (one_exp _) (ofBits_one) (addv (ofBits_one) (expv (subv (ofBits_zero.trans EReal.coe_zero.symm) (h_v237 _))))) (coe_congr (sig_eq _))

theorem p_49 {v197 : FVec Ideal S256x1024 .bf16} {v234 : FVec Ideal S1024x1024 .bf16} {v238 : FVec Ideal S256x1024 .f32} (h_v197 : R2 v197 fun r c => dff p (X r) (T r) c) (h_v234 : R2 v234 fun r c => p.wo (b1 r) c) (h_v238 : R2 v238 fun r c => zu p (X r) (b1 c)) :
    R2 (k0_pay49 (F := Idealize.ShloMosaic.Ideal) v197 v234 v238) fun r c => dact p (X r) (T r) (b1 c) * zu p (X r) (b1 c) := fun i =>
  Eq.trans (b := ((_ : ℝ) : EReal)) (mulv (p_47 h_v197 h_v234 _) (h_v238 _)) (coe_congr (rfl))

theorem p_50 {v237 : FVec Ideal S256x1024 .f32} (h_v237 : R2 v237 fun r c => zg p (X r) (b1 c)) :
    R2 (k0_pay50 (F := Idealize.ShloMosaic.Ideal) v237) fun r c => 1 - Model.sig (zg p (X r) (b1 c)) := fun i =>
  Eq.trans (b := ((_ : ℝ) : EReal)) (subv (ofBits_one) (p_48 h_v237 _)) (coe_congr (rfl))

theorem p_51 {v237 : FVec Ideal S256x1024 .f32} {v245 : FVec Ideal S256x1024 .f32} {v246 : FVec Ideal S256x1024 .f32} {v248 : FVec Ideal S256x1024 .f32} (h_v237 : R2 v237 fun r c => zg p (X r) (b1 c)) (h_v245 : R2 v245 fun r c => Model.sig (zg p (X r) (b1 c))) (h_v246 : R2 v246 fun r c => dact p (X r) (T r) (b1 c) * zu p (X r) (b1 c)) (h_v248 : R2 v248 fun r c => 1 - Model.sig (zg p (X r) (b1 c))) :
    R2 (k0_pay51 (F := Idealize.ShloMosaic.Ideal) v237 v245 v246 v248) fun r c => dg p (X r) (T r) (b1 c) := fun i =>
  Eq.trans (b := ((_ : ℝ) : EReal)) (mulv (h_v246 _) (mulv (h_v245 _) (addv (ofBits_one) (mulv (h_v237 _) (h_v248 _))))) (coe_congr (rfl))

theorem p_52 {v236 : FVec Ideal S256x1024 .f32} {v237 : FVec Ideal S256x1024 .f32} {v245 : FVec Ideal S256x1024 .f32} (h_v236 : R2 v236 fun r c => dact p (X r) (T r) (b1 c)) (h_v237 : R2 v237 fun r c => zg p (X r) (b1 c)) (h_v245 : R2 v245 fun r c => Model.sig (zg p (X r) (b1 c))) :
    R2 (k0_pay52 (F := Idealize.ShloMosaic.Ideal) v236 v237 v245) fun r c => du p (X r) (T r) (b1 c) := fun i =>
  Eq.trans (b := ((_ : ℝ) : EReal)) (mulv (h_v236 _) (mulv (h_v237 _) (h_v245 _))) (coe_congr (rfl))

theorem p_53 {v233 : FVec Ideal S256x1024 .f32} {v236 : FVec Ideal S256x1024 .f32} {v237 : FVec Ideal S256x1024 .f32} {v245 : FVec Ideal S256x1024 .f32} {v246 : FVec Ideal S256x1024 .f32} {v248 : FVec Ideal S256x1024 .f32} {v260 : FVec Ideal S1024x1024 .bf16} {v264 : FVec Ideal S1024x1024 .bf16} (h_v233 : R2 v233 fun r c => (∑ j, dg p (X r) (T r) (b0 j) * p.wi c (lo (b0 j))) + (∑ j, du p (X r) (T r) (b0 j) * p.wi c (hi (b0 j)))) (h_v236 : R2 v236 fun r c => dact p (X r) (T r) (b1 c)) (h_v237 : R2 v237 fun r c => zg p (X r) (b1 c)) (h_v245 : R2 v245 fun r c => Model.sig (zg p (X r) (b1 c))) (h_v246 : R2 v246 fun r c => dact p (X r) (T r) (b1 c) * zu p (X r) (b1 c)) (h_v248 : R2 v248 fun r c => 1 - Model.sig (zg p (X r) (b1 c))) (h_v260 : R2 v260 fun r c => p.wi c (lo (b1 r))) (h_v264 : R2 v264 fun r c => p.wi c (hi (b1 r))) :
    R2 (k0_pay53 (F := Idealize.ShloMosaic.Ideal) v233 v236 v237 v245 v246 v248 v260 v264) fun r c => (∑ j, dg p (X r) (T r) (b0 j) * p.wi c (lo (b0 j))) + (∑ j, du p (X r) (T r) (b0 j) * p.wi c (hi (b0 j))) + (∑ j, dg p (X r) (T r) (b1 j) * p.wi c (lo (b1 j))) + (∑ j, du p (X r) (T r) (b1 j) * p.wi c (hi (b1 j))) := fun i =>
  Eq.trans (b := ((_ : ℝ) : EReal)) (addv (addv (h_v233 _) ((dot_nn _ _ _).trans (dot_r (fun _ => (p_51 h_v237 h_v245 h_v246 h_v248 _)) (fun _ => ((sc_same _ _ _).trans (h_v260 _)))))) ((dot_nn _ _ _).trans (dot_r (fun _ => (p_52 h_v236 h_v237 h_v245 _)) (fun _ => ((sc_same _ _ _).trans (h_v264 _)))))) (coe_congr (rfl))

theorem p_54 {v197 : FVec Ideal S256x1024 .bf16} {v268 : FVec Ideal S768x1024 .bf16} (h_v197 : R2 v197 fun r c => dff p (X r) (T r) c) (h_v268 : R2 v268 fun r c => p.wo (b2 r) c) :
    R2 (k0_pay54 (F := Idealize.ShloMosaic.Ideal) v197 v268) fun r c => dact p (X r) (T r) (b2 c) := fun i =>
  Eq.trans (b := ((_ : ℝ) : EReal)) ((dot_nt3 _ _ _).trans (dot_r (fun _ => (h_v197 _)) (fun _ => ((sc_same _ _ _).trans (h_v268 _))))) (coe_congr (rfl))

theorem p_55 {v271 : FVec Ideal S256x768 .f32} (h_v271 : R2 v271 fun r c => zg p (X r) (b2 c)) :
    R2 (k0_pay55 (F := Idealize.ShloMosaic.Ideal) v271) fun r c => Model.sig (zg p (X r) (b2 c)) := fun i =>
  Eq.trans (b := ((_ : ℝ) : EReal)) (divv (one_exp _) (ofBits_one) (addv (ofBits_one) (expv (subv (ofBits_zero.trans EReal.coe_zero.symm) (h_v271 _))))) (coe_congr (sig_eq _))

theorem p_56 {v197 : FVec Ideal S256x1024 .bf16} {v268 : FVec Ideal S768x1024 .bf16} {v272 : FVec Ideal S256x768 .f32} (h_v197 : R2 v197 fun r c => dff p (X r) (T r) c) (h_v268 : R2 v268 fun r c => p.wo (b2 r) c) (h_v272 : R2 v272 fun r c => zu p (X r) (b2 c)) :
    R2 (k0_pay56 (F := Idealize.ShloMosaic.Ideal) v197 v268 v272) fun r c => dact p (X r) (T r) (b2 c) * zu p (X r) (b2 c) := fun i =>
  Eq.trans (b := ((_ : ℝ) : EReal)) (mulv (p_54 h_v197 h_v268 _) (h_v272 _)) (coe_congr (rfl))

theorem p_57 {v271 : FVec Ideal S256x768 .f32} (h_v271 : R2 v271 fun r c => zg p (X r) (b2 c)) :
    R2 (k0_pay57 (F := Idealize.ShloMosaic.Ideal) v271) fun r c => zg p (X r) (b2 c) * (1 - Model.sig (zg p (X r) (b2 c))) := fun i =>
  Eq.trans (b := ((_ : ℝ) : EReal)) (mulv (h_v271 _) (subv (ofBits_one) (p_55 h_v271 _))) (coe_congr (rfl))

theorem p_58 {v279 : FVec Ideal S256x768 .f32} {v280 : FVec Ideal S256x768 .f32} {v283 : FVec Ideal S256x768 .f32} (h_v279 : R2 v279 fun r c => Model.sig (zg p (X r) (b2 c))) (h_v280 : R2 v280 fun r c => dact p (X r) (T r) (b2 c) * zu p (X r) (b2 c)) (h_v283 : R2 v283 fun r c => zg p (X r) (b2 c) * (1 - Model.sig (zg p (X r) (b2 c)))) :
    R2 (k0_pay58 (F := Idealize.ShloMosaic.Ideal) v279 v280 v283 (Scalar.ofBits .f32 0x3F800000#32 : Ideal .f32)) fun r c => dg p (X r) (T r) (b2 c) := fun i =>
  Eq.trans (b := ((_ : ℝ) : EReal)) (mulv (h_v280 _) (mulv (h_v279 _) (addv (ofBits_one) (h_v283 _)))) (coe_congr (rfl))

theorem p_59 {v270 : FVec Ideal S256x768 .f32} {v271 : FVec Ideal S256x768 .f32} {v279 : FVec Ideal S256x768 .f32} (h_v270 : R2 v270 fun r c => dact p (X r) (T r) (b2 c)) (h_v271 : R2 v271 fun r c => zg p (X r) (b2 c)) (h_v279 : R2 v279 fun r c => Model.sig (zg p (X r) (b2 c))) :
    R2 (k0_pay59 (F := Idealize.ShloMosaic.Ideal) v270 v271 v279) fun r c => du p (X r) (T r) (b2 c) := fun i =>
  Eq.trans (b := ((_ : ℝ) : EReal)) (mulv (h_v270 _) (mulv (h_v271 _) (h_v279 _))) (coe_congr (rfl))

theorem p_60 {v267 : FVec Ideal S256x1024 .f32} {v270 : FVec Ideal S256x768 .f32} {v271 : FVec Ideal S256x768 .f32} {v279 : FVec Ideal S256x768 .f32} {v280 : FVec Ideal S256x768 .f32} {v283 : FVec Ideal S256x768 .f32} {v294 : FVec Ideal S768x1024 .bf16} {v298 : FVec Ideal S768x1024 .bf16} (h_v267 : R2 v267 fun r c => (∑ j, dg p (X r) (T r) (b0 j) * p.wi c (lo (b0 j))) + (∑ j, du p (X r) (T r) (b0 j) * p.wi c (hi (b0 j))) + (∑ j, dg p (X r) (T r) (b1 j) * p.wi c (lo (b1 j))) + (∑ j, du p (X r) (T r) (b1 j) * p.wi c (hi (b1 j)))) (h_v270 : R2 v270 fun r c => dact p (X r) (T r) (b2 c)) (h_v271 : R2 v271 fun r c => zg p (X r) (b2 c)) (h_v279 : R2 v279 fun r c => Model.sig (zg p (X r) (b2 c))) (h_v280 : R2 v280 fun r c => dact p (X r) (T r) (b2 c) * zu p (X r) (b2 c)) (h_v283 : R2 v283 fun r c => zg p (X r) (b2 c) * (1 - Model.sig (zg p (X r) (b2 c)))) (h_v294 : R2 v294 fun r c => p.wi c (lo (b2 r))) (h_v298 : R2 v298 fun r c => p.wi c (hi (b2 r))) :
    R2 (k0_pay60 (F := Idealize.ShloMosaic.Ideal) v267 v270 v271 v279 v280 v283 (Scalar.ofBits .f32 0x3F800000#32 : Ideal .f32) v294 v298) fun r c => dh2 p (X r) (T r) c := fun i =>
  Eq.trans (b := ((_ : ℝ) : EReal)) (addv (addv (h_v267 _) ((dot_nn3 _ _ _).trans (dot_r (fun _ => (p_58 h_v279 h_v280 h_v283 _)) (fun _ => ((sc_same _ _ _).trans (h_v294 _)))))) ((dot_nn3 _ _ _).trans (dot_r (fun _ => (p_59 h_v270 h_v271 h_v279 _)) (fun _ => ((sc_same _ _ _).trans (h_v298 _)))))) (coe_congr (dh2_blocks _ _ _ _))

theorem p_61 {v267 : FVec Ideal S256x1024 .f32} {v270 : FVec Ideal S256x768 .f32} {v271 : FVec Ideal S256x768 .f32} {v279 : FVec Ideal S256x768 .f32} {v280 : FVec Ideal S256x768 .f32} {v283 : FVec Ideal S256x768 .f32} {v294 : FVec Ideal S768x1024 .bf16} {v298 : FVec Ideal S768x1024 .bf16} {v302 : FVec Ideal S1x1024 .f32} (h_v267 : R2 v267 fun r c => (∑ j, dg p (X r) (T r) (b0 j) * p.wi c (lo (b0 j))) + (∑ j, du p (X r) (T r) (b0 j) * p.wi c (hi (b0 j))) + (∑ j, dg p (X r) (T r) (b1 j) * p.wi c (lo (b1 j))) + (∑ j, du p (X r) (T r) (b1 j) * p.wi c (hi (b1 j)))) (h_v270 : R2 v270 fun r c => dact p (X r) (T r) (b2 c)) (h_v271 : R2 v271 fun r c => zg p (X r) (b2 c)) (h_v279 : R2 v279 fun r c => Model.sig (zg p (X r) (b2 c))) (h_v280 : R2 v280 fun r c => dact p (X r) (T r) (b2 c) * zu p (X r) (b2 c)) (h_v283 : R2 v283 fun r c => zg p (X r) (b2 c) * (1 - Model.sig (zg p (X r) (b2 c)))) (h_v294 : R2 v294 fun r c => p.wi c (lo (b2 r))) (h_v298 : R2 v298 fun r c => p.wi c (hi (b2 r))) (h_v302 : R2 v302 fun _ c => A 4 c) :
    R2 (k0_pay61 (F := Idealize.ShloMosaic.Ideal) v267 v270 v271 v279 v280 v283 (Scalar.ofBits .f32 0x3F800000#32 : Ideal .f32) v294 v298 v302) fun _ c => A 4 c + ∑ q, row p (X q) (T q) 4 c := fun i =>
  Eq.trans (b := ((_ : ℝ) : EReal)) (addv ((sc_same _ _ _).trans (h_v302 _)) ((red0 _ _).trans (sum_r fun _ => (p_60 h_v267 h_v270 h_v271 h_v279 h_v280 h_v283 h_v294 h_v298 _)))) (coe_congr (rfl))

theorem p_62 {v9 : FVec Ideal S1x1024 .f32} {v21 : FVec Ideal S256x1024 .f32} {v267 : FVec Ideal S256x1024 .f32} {v270 : FVec Ideal S256x768 .f32} {v271 : FVec Ideal S256x768 .f32} {v279 : FVec Ideal S256x768 .f32} {v280 : FVec Ideal S256x768 .f32} {v283 : FVec Ideal S256x768 .f32} {v294 : FVec Ideal S768x1024 .bf16} {v298 : FVec Ideal S768x1024 .bf16} {v308 : FVec Ideal S1x1024 .f32} (h_v9 : R2 v9 fun _ c => p.g2 c) (h_v21 : R2 v21 fun r c => nrm (X r) c) (h_v267 : R2 v267 fun r c => (∑ j, dg p (X r) (T r) (b0 j) * p.wi c (lo (b0 j))) + (∑ j, du p (X r) (T r) (b0 j) * p.wi c (hi (b0 j))) + (∑ j, dg p (X r) (T r) (b1 j) * p.wi c (lo (b1 j))) + (∑ j, du p (X r) (T r) (b1 j) * p.wi c (hi (b1 j)))) (h_v270 : R2 v270 fun r c => dact p (X r) (T r) (b2 c)) (h_v271 : R2 v271 fun r c => zg p (X r) (b2 c)) (h_v279 : R2 v279 fun r c => Model.sig (zg p (X r) (b2 c))) (h_v280 : R2 v280 fun r c => dact p (X r) (T r) (b2 c) * zu p (X r) (b2 c)) (h_v283 : R2 v283 fun r c => zg p (X r) (b2 c) * (1 - Model.sig (zg p (X r) (b2 c)))) (h_v294 : R2 v294 fun r c => p.wi c (lo (b2 r))) (h_v298 : R2 v298 fun r c => p.wi c (hi (b2 r))) (h_v308 : R2 v308 fun _ c => A 5 c) :
    R2 (k0_pay62 (F := Idealize.ShloMosaic.Ideal) v9 v21 v267 v270 v271 v279 v280 v283 (Scalar.ofBits .f32 0x3F800000#32 : Ideal .f32) v294 v298 v308) fun _ c => A 5 c + ∑ q, row p (X q) (T q) 5 c := fun i =>
  Eq.trans (b := ((_ : ℝ) : EReal)) (addv ((sc_same _ _ _).trans (h_v308 _)) ((red0 _ _).trans (sum_r fun _ => (mulv (mulv (p_60 h_v267 h_v270 h_v271 h_v279 h_v280 h_v283 h_v294 h_v298 _) (h_v21 _)) ((bt_row _ _).trans (h_v9 _)))))) (coe_congr (rfl))

theorem p_1 {v5 : FVec Ideal S1x1024 .f32} {v21 : FVec Ideal S256x1024 .f32} {v301 : FVec Ideal S256x1024 .f32} {v317 : FVec Ideal S1x1024 .f32} (h_v5 : R2 v5 fun _ c => p.sc2 c) (h_v21 : R2 v21 fun r c => nrm (X r) c) (h_v301 : R2 v301 fun r c => dh2 p (X r) (T r) c) (h_v317 : R2 v317 fun _ c => A 6 c) :
    R2 (k0_pay1 (F := Idealize.ShloMosaic.Ideal) v5 v21 v301 v317) fun _ c => A 6 c + ∑ q, row p (X q) (T q) 6 c := fun i =>
  Eq.trans (b := ((_ : ℝ) : EReal)) (addv ((sc_same _ _ _).trans (h_v317 _)) ((red0 _ _).trans (sum_r fun _ => (mulv (mulv (h_v301 _) ((bt_row _ _).trans (addv (ofBits_one) (h_v5 _)))) (h_v21 _))))) (coe_congr (rfl))

theorem p_2 {v5 : FVec Ideal S1x1024 .f32} {v9 : FVec Ideal S1x1024 .f32} {v19 : FVec Ideal S256x1 .f32} {v21 : FVec Ideal S256x1024 .f32} {v187 : FVec Ideal S256x1024 .f32} {v301 : FVec Ideal S256x1024 .f32} (h_v5 : R2 v5 fun _ c => p.sc2 c) (h_v9 : R2 v9 fun _ c => p.g2 c) (h_v19 : R2 v19 fun r _ => rs (X r)) (h_v21 : R2 v21 fun r c => nrm (X r) c) (h_v187 : R2 v187 fun r c => dx2 p (X r) (T r) c) (h_v301 : R2 v301 fun r c => dh2 p (X r) (T r) c) :
    R2 (k0_pay2 (F := Idealize.ShloMosaic.Ideal) v5 v9 v19 v21 v187 v301) fun r c => dx p (X r) (T r) c := fun i =>
  Eq.trans (b := ((_ : ℝ) : EReal)) (addv (h_v187 _) (mulv ((bt_col _ _).trans (h_v19 _)) (subv (mulv (mulv (h_v301 _) ((bt_row _ _).trans (addv (ofBits_one) (h_v5 _)))) ((bt_row _ _).trans (h_v9 _))) (mulv (h_v21 _) ((bt_col _ _).trans (divv h1024 ((red1 _ _).trans (sum_r fun _ => (mulv (mulv (mulv (h_v301 _) ((bt_row _ _).trans (addv (ofBits_one) (h_v5 _)))) ((bt_row _ _).trans (h_v9 _))) (h_v21 _)))) (ofBits_1024))))))) (coe_congr (rfl))

end Cert.Kern

end
-- ==== Proof.Body.lean ====
/- What one grid point of the feed-forward kernel leaves in each output's block: the blocks' real numbers, and the eight
   accumulated rows with the point's share added. -/
module

public import proofs.«01_k».proof.Proof.Pays
public import Idealize.ShloMosaic.Lib.Pipeline.ReadBack

@[expose] public section

set_option maxRecDepth 16384

noncomputable section

namespace Cert.Kern

open Cert.KernelIdeal Cert.KernelIdeal.Gen Idealize.ShloMosaic Idealize.ShloMosaic.TcCoe Idealize.SL.Sem
open Cert.Coe Cert.Model

/-- A load of `s` whole rows from row `o` on. -/
theorem ld_rows {n k s : ℕ} {x : FVec Ideal ⟨2, ![n, k]⟩ .bf16} {f : Fin n → Fin k → ℝ} (h : R2 x f) (o : ℕ)
    (inb : ∀ a, (![o, 0] : Fin 2 → ℕ) a + (![s, k] : Fin 2 → ℕ) a ≤ (![n, k] : Fin 2 → ℕ) a) (g : Fin s → Fin n) (hg : ∀ a, (g a).val = o + a.val) :
    R2 (φ := .bf16) (View.ld (Val := Elt Ideal) (e' := .bf16) x (Rect.unit (s := ⟨2, ![n, k]⟩) ![o, 0] ![s, k] inb)) fun a b => f (g a) b := by
  intro i
  refine (View.ld_unit_apply_of (Val := Elt Ideal) (S := ⟨2, ![n, k]⟩) (e := .bf16) x _ _ inb i (ix2 (g (i 0)) (i 1)) fun a => ?_).trans (h _)
  fin_cases a
  · exact hg (i 0)
  · exact (Nat.zero_add _).symm

/-- A load of one row. -/
theorem ld_row {n k : ℕ} {x : FVec Ideal ⟨2, ![n, k]⟩ .f32} {f : Fin k → ℝ} (o : ℕ)
    (h : ∀ i : (⟨2, ![n, k]⟩ : Shape).Idx, (i 0).val = o → x i = ((f (i 1) : ℝ) : EReal))
    (inb : ∀ a, (![o, 0] : Fin 2 → ℕ) a + (![1, k] : Fin 2 → ℕ) a ≤ (![n, k] : Fin 2 → ℕ) a) :
    R2 (φ := .f32) (View.ld (Val := Elt Ideal) (e' := .f32) x (Rect.unit (s := ⟨2, ![n, k]⟩) ![o, 0] ![1, k] inb)) fun _ b => f b := by
  intro i
  have ho : o < n := inb 0
  refine (View.ld_unit_apply_of (Val := Elt Ideal) (S := ⟨2, ![n, k]⟩) (e := .f32) x _ _ inb i (ix2 ⟨o, ho⟩ (i 1)) fun a => ?_).trans (h _ rfl)
  fin_cases a
  · have h0 : (i 0).val < 1 := (i 0).isLt
    show o = o + (i 0).val
    omega
  · exact (Nat.zero_add _).symm

/-- A value that a piece of a block holds, at the piece's place in the block. -/
theorem piece {n k s r : ℕ} {φ : FTy} (f : Fin n → Fin k → ℝ) {v : FVec Ideal ⟨2, ![s, r]⟩ φ} {g : Fin s → Fin r → ℝ} (h : R2 v g) (o q : ℕ)
    (inb : ∀ a, (![o, q] : Fin 2 → ℕ) a + (![s, r] : Fin 2 → ℕ) a ≤ (![n, k] : Fin 2 → ℕ) a)
    (hg : ∀ (a : Fin s) (b : Fin r) (a' : Fin n) (b' : Fin k), a'.val = o + a.val → b'.val = q + b.val → g a b = f a' b')
    (x : (Rect.unit (s := ⟨2, ![n, k]⟩) ![o, q] ![s, r] inb).shape.Idx) :
    v x = ((f ((Rect.unit (s := ⟨2, ![n, k]⟩) ![o, q] ![s, r] inb).emb x 0) ((Rect.unit (s := ⟨2, ![n, k]⟩) ![o, q] ![s, r] inb).emb x 1) : ℝ) : EReal) :=
  (h x).trans (coe_congr (hg _ _ _ _ (ValueKit.rect_emb_unit_val _ _ inb x 0) (ValueKit.rect_emb_unit_val _ _ inb x 1)))

/-- The blocks of one point hold the rows `X` and `T` and the parameters. -/
structure Blk (x0 x1 : FVec Ideal S256x1024 .f32) (x2 : FVec Ideal S8x1024 .f32) (x3 x4 : FVec Ideal S1x1024 .f32) (x5 : FVec Ideal S5632x1024 .bf16)
    (x6 : FVec Ideal S2816x1024 .bf16) (p : Par) (X T : Fin 256 → Fin 1024 → ℝ) : Prop where
  hx : R2 x0 X
  ht : R2 x1 T
  hm3 : ∀ i, (i 0).val = 3 → x2 i = ((p.sh2 (i 1) : ℝ) : EReal)
  hm4 : ∀ i, (i 0).val = 4 → x2 i = ((p.sc2 (i 1) : ℝ) : EReal)
  hm5 : ∀ i, (i 0).val = 5 → x2 i = ((p.gate (i 1) : ℝ) : EReal)
  hm6 : ∀ i, (i 0).val = 6 → x2 i = ((p.shf (i 1) : ℝ) : EReal)
  hm7 : ∀ i, (i 0).val = 7 → x2 i = ((p.scf (i 1) : ℝ) : EReal)
  hg2 : R2 x3 fun _ c => p.g2 c
  hgf : R2 x4 fun _ c => p.gf c
  hwi : R2 x5 fun j c => p.wi c j
  hwo : R2 x6 fun j c => p.wo j c

/-- A buffer that 3 stores cover. -/
theorem pieces3 {s : Shape} {e : EltTy} (G : s.Idx → Elt Ideal e) {p1 p2 p3 : View.Piece (Elt Ideal) s e} (h1 : ∀ x, p1.2 x = G (p1.1.emb x)) (h2 : ∀ x, p2.2 x = G (p2.1.emb x)) (h3 : ∀ x, p3.2 x = G (p3.1.emb x))
    (y : s.Idx) (hc : ∃ p ∈ [p1, p2, p3], y ∈ p.1.set) : View.canon [p1, p2, p3] y = G y :=
  View.canon_append_of_piecesOf G [] [p1, p2, p3] ⟨h1, h2, h3, trivial⟩ y hc

/-- A buffer that 6 stores cover. -/
theorem pieces6 {s : Shape} {e : EltTy} (G : s.Idx → Elt Ideal e) {p1 p2 p3 p4 p5 p6 : View.Piece (Elt Ideal) s e} (h1 : ∀ x, p1.2 x = G (p1.1.emb x)) (h2 : ∀ x, p2.2 x = G (p2.1.emb x)) (h3 : ∀ x, p3.2 x = G (p3.1.emb x)) (h4 : ∀ x, p4.2 x = G (p4.1.emb x)) (h5 : ∀ x, p5.2 x = G (p5.1.emb x)) (h6 : ∀ x, p6.2 x = G (p6.1.emb x))
    (y : s.Idx) (hc : ∃ p ∈ [p1, p2, p3, p4, p5, p6], y ∈ p.1.set) : View.canon [p1, p2, p3, p4, p5, p6] y = G y :=
  View.canon_append_of_piecesOf G [] [p1, p2, p3, p4, p5, p6] ⟨h1, h2, h3, h4, h5, h6, trivial⟩ y hc

/-- A buffer that 8 stores cover. -/
theorem pieces8 {s : Shape} {e : EltTy} (G : s.Idx → Elt Ideal e) {p1 p2 p3 p4 p5 p6 p7 p8 : View.Piece (Elt Ideal) s e} (h1 : ∀ x, p1.2 x = G (p1.1.emb x)) (h2 : ∀ x, p2.2 x = G (p2.1.emb x)) (h3 : ∀ x, p3.2 x = G (p3.1.emb x)) (h4 : ∀ x, p4.2 x = G (p4.1.emb x)) (h5 : ∀ x, p5.2 x = G (p5.1.emb x)) (h6 : ∀ x, p6.2 x = G (p6.1.emb x)) (h7 : ∀ x, p7.2 x = G (p7.1.emb x)) (h8 : ∀ x, p8.2 x = G (p8.1.emb x))
    (y : s.Idx) (hc : ∃ p ∈ [p1, p2, p3, p4, p5, p6, p7, p8], y ∈ p.1.set) : View.canon [p1, p2, p3, p4, p5, p6, p7, p8] y = G y :=
  View.canon_append_of_piecesOf G [] [p1, p2, p3, p4, p5, p6, p7, p8] ⟨h1, h2, h3, h4, h5, h6, h7, h8, trivial⟩ y hc

/-- A buffer that 8 stores cover, over one earlier store. -/
theorem pieces8_over {s : Shape} {e : EltTy} (G : s.Idx → Elt Ideal e) {p1 p2 p3 p4 p5 p6 p7 p8 q : View.Piece (Elt Ideal) s e} (h1 : ∀ x, p1.2 x = G (p1.1.emb x)) (h2 : ∀ x, p2.2 x = G (p2.1.emb x)) (h3 : ∀ x, p3.2 x = G (p3.1.emb x)) (h4 : ∀ x, p4.2 x = G (p4.1.emb x)) (h5 : ∀ x, p5.2 x = G (p5.1.emb x)) (h6 : ∀ x, p6.2 x = G (p6.1.emb x)) (h7 : ∀ x, p7.2 x = G (p7.1.emb x)) (h8 : ∀ x, p8.2 x = G (p8.1.emb x))
    (y : s.Idx) (hc : ∃ p ∈ [p1, p2, p3, p4, p5, p6, p7, p8], y ∈ p.1.set) : View.canon [p1, p2, p3, p4, p5, p6, p7, p8, q] y = G y :=
  View.canon_append_of_piecesOf G [q] [p1, p2, p3, p4, p5, p6, p7, p8] ⟨h1, h2, h3, h4, h5, h6, h7, h8, trivial⟩ y hc

theorem c1 {n : ℕ} {a b : Fin n} (h : a.val = 0 + b.val) : b = a := Fin.ext (by omega)

theorem z8 (i : S8x1024.Idx) : k0_pay3 (F := Idealize.ShloMosaic.Ideal) i = ((0 : ℝ) : EReal) := ofBits_zero.trans EReal.coe_zero.symm

variable (m : (ℓ : Loc nD τ sig) → Buf (Elt Ideal) ℓ) (c : Dev nD)
variable {p : Par} {X T : Fin 256 → Fin 1024 → ℝ} {A : Fin 8 → Fin 1024 → ℝ}

/-- What a point leaves, the first: its rows alone. -/
theorem point_A (t : Fin cfg0.N) (h : t.val % 32 = 0) (hb : Blk (iblk m c 0 t) (iblk m c 1 t) (iblk m c 2 t) (iblk m c 3 t) (iblk m c 4 t) (iblk m c 5 t) (iblk m c 6 t) p X T) :
    R2 (φ := .f32) (outsAt0 m c t.val t.isLt).1 (fun r k => dx p (X r) (T r) k)
    ∧ R2 (φ := .bf16) (outsAt0 m c t.val t.isLt).2.1 (fun r k => h2 p (X r) k)
    ∧ R2 (φ := .bf16) (outsAt0 m c t.val t.isLt).2.2.1 (fun r k => dz p (X r) (T r) k)
    ∧ R2 (φ := .bf16) (outsAt0 m c t.val t.isLt).2.2.2.1 (fun r k => act p (X r) k)
    ∧ R2 (φ := .bf16) (outsAt0 m c t.val t.isLt).2.2.2.2.1 (fun r k => dff p (X r) (T r) k)
    ∧ R2 (φ := .f32) (outsAt0 m c t.val t.isLt).2.2.2.2.2 (fun r k => ∑ q, row p (X q) (T q) r k) := by
  have h_v3 := hb.hx
  have h_v4 := ld_row 3 hb.hm3 inb_S8x1024_S1x1024_3_0
  have h_v5 := ld_row 4 hb.hm4 inb_S8x1024_S1x1024_4_0
  have h_v6 := ld_row 5 hb.hm5 inb_S8x1024_S1x1024_5_0
  have h_v7 := ld_row 6 hb.hm6 inb_S8x1024_S1x1024_6_0
  have h_v8 := ld_row 7 hb.hm7 inb_S8x1024_S1x1024_7_0
  have h_v9 := hb.hg2
  have h_v10 := hb.hgf
  have h_v135 := hb.ht
  have h_v33 := ld_rows hb.hwi 0 inb_S5632x1024_S1024x1024_0_0 (fun j => lo (b0 j)) (fun j => (Nat.zero_add _).symm)
  have h_v60 := ld_rows hb.hwi 1024 inb_S5632x1024_S1024x1024_1024_0 (fun j => lo (b1 j)) (fun _ => rfl)
  have h_v87 := ld_rows hb.hwi 2048 inb_S5632x1024_S768x1024_2048_0 (fun j => lo (b2 j)) (fun _ => rfl)
  have h_v226 := ld_rows hb.hwi 0 inb_S5632x1024_S1024x1024_0_0 (fun j => lo (b0 j)) (fun j => (Nat.zero_add _).symm)
  have h_v260 := ld_rows hb.hwi 1024 inb_S5632x1024_S1024x1024_1024_0 (fun j => lo (b1 j)) (fun _ => rfl)
  have h_v294 := ld_rows hb.hwi 2048 inb_S5632x1024_S768x1024_2048_0 (fun j => lo (b2 j)) (fun _ => rfl)
  have h_v36 := ld_rows hb.hwi 2816 inb_S5632x1024_S1024x1024_2816_0 (fun j => hi (b0 j)) (fun j => by show 2816 + j.val = _; omega)
  have h_v63 := ld_rows hb.hwi 3840 inb_S5632x1024_S1024x1024_3840_0 (fun j => hi (b1 j)) (fun j => by show 2816 + (1024 + j.val) = _; omega)
  have h_v90 := ld_rows hb.hwi 4864 inb_S5632x1024_S768x1024_4864_0 (fun j => hi (b2 j)) (fun j => by show 2816 + (2048 + j.val) = _; omega)
  have h_v230 := ld_rows hb.hwi 2816 inb_S5632x1024_S1024x1024_2816_0 (fun j => hi (b0 j)) (fun j => by show 2816 + j.val = _; omega)
  have h_v264 := ld_rows hb.hwi 3840 inb_S5632x1024_S1024x1024_3840_0 (fun j => hi (b1 j)) (fun j => by show 2816 + (1024 + j.val) = _; omega)
  have h_v298 := ld_rows hb.hwi 4864 inb_S5632x1024_S768x1024_4864_0 (fun j => hi (b2 j)) (fun j => by show 2816 + (2048 + j.val) = _; omega)
  have h_v56 := ld_rows hb.hwo 0 inb_S2816x1024_S1024x1024_0_0 b0 (fun j => (Nat.zero_add _).symm)
  have h_v83 := ld_rows hb.hwo 1024 inb_S2816x1024_S1024x1024_1024_0 b1 (fun _ => rfl)
  have h_v110 := ld_rows hb.hwo 2048 inb_S2816x1024_S768x1024_2048_0 b2 (fun _ => rfl)
  have h_v200 := ld_rows hb.hwo 0 inb_S2816x1024_S1024x1024_0_0 b0 (fun j => (Nat.zero_add _).symm)
  have h_v234 := ld_rows hb.hwo 1024 inb_S2816x1024_S1024x1024_1024_0 b1 (fun _ => rfl)
  have h_v268 := ld_rows hb.hwo 2048 inb_S2816x1024_S768x1024_2048_0 b2 (fun _ => rfl)
  have h_v19 := p_5 h_v3
  have h_v21 := p_6 h_v3
  have h_v11 := p_4 h_v10
  have h_v30 := p_7 h_v3 h_v4 h_v5 h_v9
  have h_v59 := p_13 h_v30 h_v33 h_v36 h_v56
  have h_v62 := p_14 h_v30 h_v60
  have h_v64 := p_15 h_v63
  have h_v86 := p_20 h_v30 h_v59 h_v62 h_v64 h_v83
  have h_v89 := p_21 h_v30 h_v87
  have h_v92 := p_22 h_v30 h_v90
  have h_v124 := p_28 h_v3 h_v6 h_v86 h_v89 h_v92 h_v110
  have h_v126 := p_29 h_v3 h_v6 h_v86 h_v89 h_v92 h_v110
  have h_v138 := p_31 h_v3 h_v6 h_v7 h_v8 h_v11 h_v86 h_v89 h_v92 h_v110 h_v135
  have h_v175 := p_36 h_v8 h_v138
  have h_v187 := p_37 h_v11 h_v124 h_v126 h_v175
  have h_v199 := p_40
  have h_v202 := p_41 h_v6 h_v11 h_v124 h_v126 h_v175 h_v200
  have h_v203 := p_10 h_v30 h_v33
  have h_v211 := p_42 h_v203
  have h_v204 := p_11 h_v30 h_v36
  have h_v212 := p_43 h_v6 h_v11 h_v124 h_v126 h_v175 h_v200 h_v204
  have h_v233 := p_46 h_v199 h_v202 h_v203 h_v211 h_v212 h_v226 h_v230
  have h_v197 := p_39 h_v6 h_v11 h_v124 h_v126 h_v175
  have h_v236 := p_47 h_v197 h_v234
  have h_v237 := p_17 h_v62
  have h_v245 := p_48 h_v237
  have h_v238 := p_18 h_v30 h_v64
  have h_v246 := p_49 h_v197 h_v234 h_v238
  have h_v248 := p_50 h_v237
  have h_v267 := p_53 h_v233 h_v236 h_v237 h_v245 h_v246 h_v248 h_v260 h_v264
  have h_v270 := p_54 h_v197 h_v268
  have h_v271 := p_23 h_v30 h_v87
  have h_v279 := p_55 h_v271
  have h_v272 := p_24 h_v30 h_v90
  have h_v280 := p_56 h_v197 h_v268 h_v272
  have h_v283 := p_57 h_v271
  have h_v301 := p_60 h_v267 h_v270 h_v271 h_v279 h_v280 h_v283 h_v294 h_v298
  have h_v344 := p_2 h_v5 h_v9 h_v19 h_v21 h_v187 h_v301
  have h_v220 := p_44 h_v203 h_v211 h_v212
  have h_v223 := p_45 h_v202 h_v203 h_v211
  have h_v254 := p_51 h_v237 h_v245 h_v246 h_v248
  have h_v257 := p_52 h_v236 h_v237 h_v245
  have h_v288 := p_58 h_v279 h_v280 h_v283
  have h_v291 := p_59 h_v270 h_v271 h_v279
  have h_v54 := p_12 h_v30 h_v33 h_v36
  have h_v81 := p_19 h_v30 h_v62 h_v64
  have h_v108 := p_25 h_v89 h_v92
  have h_v136 := p_30 h_v3 h_v6 h_v7 h_v8 h_v11 h_v86 h_v89 h_v92 h_v110 h_v135
  have h_v113 := p_26 h_v86 h_v89 h_v92 h_v110
  have h_v139 := ld_row 7 (f := fun _ => 0) (fun i _ => (z8 i)) inb_S8x1024_S1x1024_7_0
  have h_v146 := ld_row 0 (f := fun _ => 0) (fun i _ => (z8 i)) inb_S8x1024_S1x1024_0_0
  have h_v152 := ld_row 1 (f := fun _ => 0) (fun i _ => (z8 i)) inb_S8x1024_S1x1024_1_0
  have h_v161 := ld_row 2 (f := fun _ => 0) (fun i _ => (z8 i)) inb_S8x1024_S1x1024_2_0
  have h_v188 := ld_row 3 (f := fun _ => 0) (fun i _ => (z8 i)) inb_S8x1024_S1x1024_3_0
  have h_v302 := ld_row 4 (f := fun _ => 0) (fun i _ => (z8 i)) inb_S8x1024_S1x1024_4_0
  have h_v308 := ld_row 5 (f := fun _ => 0) (fun i _ => (z8 i)) inb_S8x1024_S1x1024_5_0
  have h_v317 := ld_row 6 (f := fun _ => 0) (fun i _ => (z8 i)) inb_S8x1024_S1x1024_6_0
  rw [outsAt0_A m c t h]
  refine ⟨?_, ?_, ?_, ?_, ?_, ?_⟩
  · frame_out
    simp (disch := decide) only [↓ View.readCov_skip, ↓ View.readCov_cons_toLoadRect, ↓ View.readCov_fill]
    exact p_2 h_v5 h_v9 h_v19 h_v21 h_v187 h_v301
  · frame_out
    exact h_v30
  · frame_out
    simp (disch := decide) only [↓ View.readCov_skip, ↓ View.readCov_cons_toLoadRect, ↓ View.readCov_fill]
    intro i
    let F : Fin 256 → Fin 5632 → ℝ := fun r j => dz p (X r) (T r) j
    refine pieces6 (e := .bf16) (fun i : S256x5632.Idx => ((F (i 0) (i 1) : ℝ) : EReal)) ?_ ?_ ?_ ?_ ?_ ?_ i (View.cover_of_tiledBy _ ![256, 256] (by sl_kernel_rfl) i)
    · exact piece F h_v291 0 4864 inb_S256x5632_S256x768_0_4864 fun a j a' j' ha hj => by
        rw [c1 ha, show j' = hi (b2 j) from Fin.ext (hj.trans (show 4864 + j.val = 2816 + (2048 + j.val) from by omega))]; exact (dz_hi _ _ _ _).symm
    · exact piece F h_v288 0 2048 inb_S256x5632_S256x768_0_2048 fun a j a' j' ha hj => by
        rw [c1 ha, show j' = lo (b2 j) from Fin.ext (hj.trans (show 2048 + j.val = 2048 + j.val from by omega))]; exact (dz_lo _ _ _ _).symm
    · exact piece F h_v257 0 3840 inb_S256x5632_S256x1024_0_3840 fun a j a' j' ha hj => by
        rw [c1 ha, show j' = hi (b1 j) from Fin.ext (hj.trans (show 3840 + j.val = 2816 + (1024 + j.val) from by omega))]; exact (dz_hi _ _ _ _).symm
    · exact piece F h_v254 0 1024 inb_S256x5632_S256x1024_0_1024 fun a j a' j' ha hj => by
        rw [c1 ha, show j' = lo (b1 j) from Fin.ext (hj.trans (show 1024 + j.val = 1024 + j.val from by omega))]; exact (dz_lo _ _ _ _).symm
    · exact piece F h_v223 0 2816 inb_S256x5632_S256x1024_0_2816 fun a j a' j' ha hj => by
        rw [c1 ha, show j' = hi (b0 j) from Fin.ext (hj.trans (show 2816 + j.val = 2816 + (j.val) from by omega))]; exact (dz_hi _ _ _ _).symm
    · exact piece F h_v220 0 0 inb_S256x5632_S256x1024_0_0 fun a j a' j' ha hj => by
        rw [c1 ha, show j' = lo (b0 j) from Fin.ext (hj.trans (show 0 + j.val = j.val from by omega))]; exact (dz_lo _ _ _ _).symm
  · frame_out
    intro i
    let F : Fin 256 → Fin 2816 → ℝ := fun r j => act p (X r) j
    refine pieces3 (e := .bf16) (fun i : S256x2816.Idx => ((F (i 0) (i 1) : ℝ) : EReal)) ?_ ?_ ?_ i (View.cover_of_tiledBy _ ![256, 256] (by sl_kernel_rfl) i)
    · exact piece F h_v108 0 2048 inb_S256x2816_S256x768_0_2048 fun a j a' j' ha hj => by
        rw [c1 ha, show j' = b2 j from Fin.ext (hj.trans (show 2048 + j.val = 2048 + j.val from by omega))]
    · exact piece F h_v81 0 1024 inb_S256x2816_S256x1024_0_1024 fun a j a' j' ha hj => by
        rw [c1 ha, show j' = b1 j from Fin.ext (hj.trans (show 1024 + j.val = 1024 + j.val from by omega))]
    · exact piece F h_v54 0 0 inb_S256x2816_S256x1024_0_0 fun a j a' j' ha hj => by
        rw [c1 ha, show j' = b0 j from Fin.ext (hj.trans (show 0 + j.val = j.val from by omega))]
  · frame_out
    exact h_v197
  · frame_out
    intro i
    let F : Fin 8 → Fin 1024 → ℝ := fun r k => ∑ q, row p (X q) (T q) r k
    refine pieces8_over (e := .f32) (fun i : S8x1024.Idx => ((F (i 0) (i 1) : ℝ) : EReal)) ?_ ?_ ?_ ?_ ?_ ?_ ?_ ?_ i (View.cover_of_tiledL _ ![1, 1024] (by sl_kernel_rfl) i)
    · intro x
      simp (disch := decide) only [↓ View.readCov_skip, ↓ View.readCov_cons_toLoadRect, ↓ View.readCov_fill]
      exact piece F (p_1 (A := fun _ _ => 0) h_v5 h_v21 h_v301 h_v317) 6 0 inb_S8x1024_S1x1024_6_0 (fun a j a' j' ha hj => by
        rw [← c1 hj, show a' = 6 from Fin.ext (ha.trans (by have := a.isLt; show 6 + a.val = 6; omega))]; exact zero_add _) x
    · intro x
      simp (disch := decide) only [↓ View.readCov_skip, ↓ View.readCov_cons_toLoadRect, ↓ View.readCov_fill]
      exact piece F (p_62 (A := fun _ _ => 0) h_v9 h_v21 h_v267 h_v270 h_v271 h_v279 h_v280 h_v283 h_v294 h_v298 h_v308) 5 0 inb_S8x1024_S1x1024_5_0 (fun a j a' j' ha hj => by
        rw [← c1 hj, show a' = 5 from Fin.ext (ha.trans (by have := a.isLt; show 5 + a.val = 5; omega))]; exact zero_add _) x
    · intro x
      simp (disch := decide) only [↓ View.readCov_skip, ↓ View.readCov_cons_toLoadRect, ↓ View.readCov_fill]
      exact piece F (p_61 (A := fun _ _ => 0) h_v267 h_v270 h_v271 h_v279 h_v280 h_v283 h_v294 h_v298 h_v302) 4 0 inb_S8x1024_S1x1024_4_0 (fun a j a' j' ha hj => by
        rw [← c1 hj, show a' = 4 from Fin.ext (ha.trans (by have := a.isLt; show 4 + a.val = 4; omega))]; exact zero_add _) x
    · intro x
      simp (disch := decide) only [↓ View.readCov_skip, ↓ View.readCov_cons_toLoadRect, ↓ View.readCov_fill]
      exact piece F (p_38 (A := fun _ _ => 0) h_v11 h_v113 h_v124 h_v126 h_v175 h_v188) 3 0 inb_S8x1024_S1x1024_3_0 (fun a j a' j' ha hj => by
        rw [← c1 hj, show a' = 3 from Fin.ext (ha.trans (by have := a.isLt; show 3 + a.val = 3; omega))]; exact zero_add _) x
    · intro x
      simp (disch := decide) only [↓ View.readCov_skip, ↓ View.readCov_cons_toLoadRect, ↓ View.readCov_fill]
      exact piece F (p_35 (A := fun _ _ => 0) h_v8 h_v126 h_v138 h_v161) 2 0 inb_S8x1024_S1x1024_2_0 (fun a j a' j' ha hj => by
        rw [← c1 hj, show a' = 2 from Fin.ext (ha.trans (by have := a.isLt; show 2 + a.val = 2; omega))]; exact zero_add _) x
    · intro x
      simp (disch := decide) only [↓ View.readCov_skip, ↓ View.readCov_cons_toLoadRect, ↓ View.readCov_fill]
      exact piece F (p_34 (A := fun _ _ => 0) h_v11 h_v126 h_v138 h_v152) 1 0 inb_S8x1024_S1x1024_1_0 (fun a j a' j' ha hj => by
        rw [← c1 hj, show a' = 1 from Fin.ext (ha.trans (by have := a.isLt; show 1 + a.val = 1; omega))]; exact zero_add _) x
    · intro x
      simp (disch := decide) only [↓ View.readCov_skip, ↓ View.readCov_cons_toLoadRect, ↓ View.readCov_fill]
      exact piece F (p_33 (A := fun _ _ => 0) h_v138 h_v146) 0 0 inb_S8x1024_S1x1024_0_0 (fun a j a' j' ha hj => by
        rw [← c1 hj, show a' = 0 from Fin.ext (ha.trans (by have := a.isLt; show 0 + a.val = 0; omega))]; exact zero_add _) x
    · intro x
      simp (disch := decide) only [↓ View.readCov_skip, ↓ View.readCov_cons_toLoadRect, ↓ View.readCov_fill]
      exact piece F (p_32 (A := fun _ _ => 0) h_v136 h_v139) 7 0 inb_S8x1024_S1x1024_7_0 (fun a j a' j' ha hj => by
        rw [← c1 hj, show a' = 7 from Fin.ext (ha.trans (by have := a.isLt; show 7 + a.val = 7; omega))]; exact zero_add _) x

/-- What a point leaves, the others: the accumulated rows with its own added. -/
theorem point_B (t : Fin cfg0.N) (h : ¬t.val % 32 = 0) (hb : Blk (iblk m c 0 t) (iblk m c 1 t) (iblk m c 2 t) (iblk m c 3 t) (iblk m c 4 t) (iblk m c 5 t) (iblk m c 6 t) p X T)
    (hA : R2 (φ := .f32) (outsAt0 m c (t.val - 1) (Nat.lt_of_le_of_lt (Nat.sub_le _ _) t.isLt)).2.2.2.2.2 A) :
    R2 (φ := .f32) (outsAt0 m c t.val t.isLt).1 (fun r k => dx p (X r) (T r) k)
    ∧ R2 (φ := .bf16) (outsAt0 m c t.val t.isLt).2.1 (fun r k => h2 p (X r) k)
    ∧ R2 (φ := .bf16) (outsAt0 m c t.val t.isLt).2.2.1 (fun r k => dz p (X r) (T r) k)
    ∧ R2 (φ := .bf16) (outsAt0 m c t.val t.isLt).2.2.2.1 (fun r k => act p (X r) k)
    ∧ R2 (φ := .bf16) (outsAt0 m c t.val t.isLt).2.2.2.2.1 (fun r k => dff p (X r) (T r) k)
    ∧ R2 (φ := .f32) (outsAt0 m c t.val t.isLt).2.2.2.2.2 (fun r k => A r k + ∑ q, row p (X q) (T q) r k) := by
  have h_v3 := hb.hx
  have h_v4 := ld_row 3 hb.hm3 inb_S8x1024_S1x1024_3_0
  have h_v5 := ld_row 4 hb.hm4 inb_S8x1024_S1x1024_4_0
  have h_v6 := ld_row 5 hb.hm5 inb_S8x1024_S1x1024_5_0
  have h_v7 := ld_row 6 hb.hm6 inb_S8x1024_S1x1024_6_0
  have h_v8 := ld_row 7 hb.hm7 inb_S8x1024_S1x1024_7_0
  have h_v9 := hb.hg2
  have h_v10 := hb.hgf
  have h_v135 := hb.ht
  have h_v33 := ld_rows hb.hwi 0 inb_S5632x1024_S1024x1024_0_0 (fun j => lo (b0 j)) (fun j => (Nat.zero_add _).symm)
  have h_v60 := ld_rows hb.hwi 1024 inb_S5632x1024_S1024x1024_1024_0 (fun j => lo (b1 j)) (fun _ => rfl)
  have h_v87 := ld_rows hb.hwi 2048 inb_S5632x1024_S768x1024_2048_0 (fun j => lo (b2 j)) (fun _ => rfl)
  have h_v226 := ld_rows hb.hwi 0 inb_S5632x1024_S1024x1024_0_0 (fun j => lo (b0 j)) (fun j => (Nat.zero_add _).symm)
  have h_v260 := ld_rows hb.hwi 1024 inb_S5632x1024_S1024x1024_1024_0 (fun j => lo (b1 j)) (fun _ => rfl)
  have h_v294 := ld_rows hb.hwi 2048 inb_S5632x1024_S768x1024_2048_0 (fun j => lo (b2 j)) (fun _ => rfl)
  have h_v36 := ld_rows hb.hwi 2816 inb_S5632x1024_S1024x1024_2816_0 (fun j => hi (b0 j)) (fun j => by show 2816 + j.val = _; omega)
  have h_v63 := ld_rows hb.hwi 3840 inb_S5632x1024_S1024x1024_3840_0 (fun j => hi (b1 j)) (fun j => by show 2816 + (1024 + j.val) = _; omega)
  have h_v90 := ld_rows hb.hwi 4864 inb_S5632x1024_S768x1024_4864_0 (fun j => hi (b2 j)) (fun j => by show 2816 + (2048 + j.val) = _; omega)
  have h_v230 := ld_rows hb.hwi 2816 inb_S5632x1024_S1024x1024_2816_0 (fun j => hi (b0 j)) (fun j => by show 2816 + j.val = _; omega)
  have h_v264 := ld_rows hb.hwi 3840 inb_S5632x1024_S1024x1024_3840_0 (fun j => hi (b1 j)) (fun j => by show 2816 + (1024 + j.val) = _; omega)
  have h_v298 := ld_rows hb.hwi 4864 inb_S5632x1024_S768x1024_4864_0 (fun j => hi (b2 j)) (fun j => by show 2816 + (2048 + j.val) = _; omega)
  have h_v56 := ld_rows hb.hwo 0 inb_S2816x1024_S1024x1024_0_0 b0 (fun j => (Nat.zero_add _).symm)
  have h_v83 := ld_rows hb.hwo 1024 inb_S2816x1024_S1024x1024_1024_0 b1 (fun _ => rfl)
  have h_v110 := ld_rows hb.hwo 2048 inb_S2816x1024_S768x1024_2048_0 b2 (fun _ => rfl)
  have h_v200 := ld_rows hb.hwo 0 inb_S2816x1024_S1024x1024_0_0 b0 (fun j => (Nat.zero_add _).symm)
  have h_v234 := ld_rows hb.hwo 1024 inb_S2816x1024_S1024x1024_1024_0 b1 (fun _ => rfl)
  have h_v268 := ld_rows hb.hwo 2048 inb_S2816x1024_S768x1024_2048_0 b2 (fun _ => rfl)
  have h_v19 := p_5 h_v3
  have h_v21 := p_6 h_v3
  have h_v11 := p_4 h_v10
  have h_v30 := p_7 h_v3 h_v4 h_v5 h_v9
  have h_v59 := p_13 h_v30 h_v33 h_v36 h_v56
  have h_v62 := p_14 h_v30 h_v60
  have h_v64 := p_15 h_v63
  have h_v86 := p_20 h_v30 h_v59 h_v62 h_v64 h_v83
  have h_v89 := p_21 h_v30 h_v87
  have h_v92 := p_22 h_v30 h_v90
  have h_v124 := p_28 h_v3 h_v6 h_v86 h_v89 h_v92 h_v110
  have h_v126 := p_29 h_v3 h_v6 h_v86 h_v89 h_v92 h_v110
  have h_v138 := p_31 h_v3 h_v6 h_v7 h_v8 h_v11 h_v86 h_v89 h_v92 h_v110 h_v135
  have h_v175 := p_36 h_v8 h_v138
  have h_v187 := p_37 h_v11 h_v124 h_v126 h_v175
  have h_v199 := p_40
  have h_v202 := p_41 h_v6 h_v11 h_v124 h_v126 h_v175 h_v200
  have h_v203 := p_10 h_v30 h_v33
  have h_v211 := p_42 h_v203
  have h_v204 := p_11 h_v30 h_v36
  have h_v212 := p_43 h_v6 h_v11 h_v124 h_v126 h_v175 h_v200 h_v204
  have h_v233 := p_46 h_v199 h_v202 h_v203 h_v211 h_v212 h_v226 h_v230
  have h_v197 := p_39 h_v6 h_v11 h_v124 h_v126 h_v175
  have h_v236 := p_47 h_v197 h_v234
  have h_v237 := p_17 h_v62
  have h_v245 := p_48 h_v237
  have h_v238 := p_18 h_v30 h_v64
  have h_v246 := p_49 h_v197 h_v234 h_v238
  have h_v248 := p_50 h_v237
  have h_v267 := p_53 h_v233 h_v236 h_v237 h_v245 h_v246 h_v248 h_v260 h_v264
  have h_v270 := p_54 h_v197 h_v268
  have h_v271 := p_23 h_v30 h_v87
  have h_v279 := p_55 h_v271
  have h_v272 := p_24 h_v30 h_v90
  have h_v280 := p_56 h_v197 h_v268 h_v272
  have h_v283 := p_57 h_v271
  have h_v301 := p_60 h_v267 h_v270 h_v271 h_v279 h_v280 h_v283 h_v294 h_v298
  have h_v344 := p_2 h_v5 h_v9 h_v19 h_v21 h_v187 h_v301
  have h_v220 := p_44 h_v203 h_v211 h_v212
  have h_v223 := p_45 h_v202 h_v203 h_v211
  have h_v254 := p_51 h_v237 h_v245 h_v246 h_v248
  have h_v257 := p_52 h_v236 h_v237 h_v245
  have h_v288 := p_58 h_v279 h_v280 h_v283
  have h_v291 := p_59 h_v270 h_v271 h_v279
  have h_v54 := p_12 h_v30 h_v33 h_v36
  have h_v81 := p_19 h_v30 h_v62 h_v64
  have h_v108 := p_25 h_v89 h_v92
  have h_v136 := p_30 h_v3 h_v6 h_v7 h_v8 h_v11 h_v86 h_v89 h_v92 h_v110 h_v135
  have h_v113 := p_26 h_v86 h_v89 h_v92 h_v110
  have h_v139 := ld_row 7 (f := A 7) (fun i hi => (hA i).trans (coe_congr (congrArg (fun r : Fin 8 => A r (i 1)) (Fin.ext hi)))) inb_S8x1024_S1x1024_7_0
  have h_v146 := ld_row 0 (f := A 0) (fun i hi => (hA i).trans (coe_congr (congrArg (fun r : Fin 8 => A r (i 1)) (Fin.ext hi)))) inb_S8x1024_S1x1024_0_0
  have h_v152 := ld_row 1 (f := A 1) (fun i hi => (hA i).trans (coe_congr (congrArg (fun r : Fin 8 => A r (i 1)) (Fin.ext hi)))) inb_S8x1024_S1x1024_1_0
  have h_v161 := ld_row 2 (f := A 2) (fun i hi => (hA i).trans (coe_congr (congrArg (fun r : Fin 8 => A r (i 1)) (Fin.ext hi)))) inb_S8x1024_S1x1024_2_0
  have h_v188 := ld_row 3 (f := A 3) (fun i hi => (hA i).trans (coe_congr (congrArg (fun r : Fin 8 => A r (i 1)) (Fin.ext hi)))) inb_S8x1024_S1x1024_3_0
  have h_v302 := ld_row 4 (f := A 4) (fun i hi => (hA i).trans (coe_congr (congrArg (fun r : Fin 8 => A r (i 1)) (Fin.ext hi)))) inb_S8x1024_S1x1024_4_0
  have h_v308 := ld_row 5 (f := A 5) (fun i hi => (hA i).trans (coe_congr (congrArg (fun r : Fin 8 => A r (i 1)) (Fin.ext hi)))) inb_S8x1024_S1x1024_5_0
  have h_v317 := ld_row 6 (f := A 6) (fun i hi => (hA i).trans (coe_congr (congrArg (fun r : Fin 8 => A r (i 1)) (Fin.ext hi)))) inb_S8x1024_S1x1024_6_0
  rw [outsAt0_B m c t h]
  refine ⟨?_, ?_, ?_, ?_, ?_, ?_⟩
  · frame_out
    simp (disch := decide) only [↓ View.readCov_skip, ↓ View.readCov_cons_toLoadRect, ↓ View.readCov_fill]
    exact p_2 h_v5 h_v9 h_v19 h_v21 h_v187 h_v301
  · frame_out
    exact h_v30
  · frame_out
    simp (disch := decide) only [↓ View.readCov_skip, ↓ View.readCov_cons_toLoadRect, ↓ View.readCov_fill]
    intro i
    let F : Fin 256 → Fin 5632 → ℝ := fun r j => dz p (X r) (T r) j
    refine pieces6 (e := .bf16) (fun i : S256x5632.Idx => ((F (i 0) (i 1) : ℝ) : EReal)) ?_ ?_ ?_ ?_ ?_ ?_ i (View.cover_of_tiledBy _ ![256, 256] (by sl_kernel_rfl) i)
    · exact piece F h_v291 0 4864 inb_S256x5632_S256x768_0_4864 fun a j a' j' ha hj => by
        rw [c1 ha, show j' = hi (b2 j) from Fin.ext (hj.trans (show 4864 + j.val = 2816 + (2048 + j.val) from by omega))]; exact (dz_hi _ _ _ _).symm
    · exact piece F h_v288 0 2048 inb_S256x5632_S256x768_0_2048 fun a j a' j' ha hj => by
        rw [c1 ha, show j' = lo (b2 j) from Fin.ext (hj.trans (show 2048 + j.val = 2048 + j.val from by omega))]; exact (dz_lo _ _ _ _).symm
    · exact piece F h_v257 0 3840 inb_S256x5632_S256x1024_0_3840 fun a j a' j' ha hj => by
        rw [c1 ha, show j' = hi (b1 j) from Fin.ext (hj.trans (show 3840 + j.val = 2816 + (1024 + j.val) from by omega))]; exact (dz_hi _ _ _ _).symm
    · exact piece F h_v254 0 1024 inb_S256x5632_S256x1024_0_1024 fun a j a' j' ha hj => by
        rw [c1 ha, show j' = lo (b1 j) from Fin.ext (hj.trans (show 1024 + j.val = 1024 + j.val from by omega))]; exact (dz_lo _ _ _ _).symm
    · exact piece F h_v223 0 2816 inb_S256x5632_S256x1024_0_2816 fun a j a' j' ha hj => by
        rw [c1 ha, show j' = hi (b0 j) from Fin.ext (hj.trans (show 2816 + j.val = 2816 + (j.val) from by omega))]; exact (dz_hi _ _ _ _).symm
    · exact piece F h_v220 0 0 inb_S256x5632_S256x1024_0_0 fun a j a' j' ha hj => by
        rw [c1 ha, show j' = lo (b0 j) from Fin.ext (hj.trans (show 0 + j.val = j.val from by omega))]; exact (dz_lo _ _ _ _).symm
  · frame_out
    intro i
    let F : Fin 256 → Fin 2816 → ℝ := fun r j => act p (X r) j
    refine pieces3 (e := .bf16) (fun i : S256x2816.Idx => ((F (i 0) (i 1) : ℝ) : EReal)) ?_ ?_ ?_ i (View.cover_of_tiledBy _ ![256, 256] (by sl_kernel_rfl) i)
    · exact piece F h_v108 0 2048 inb_S256x2816_S256x768_0_2048 fun a j a' j' ha hj => by
        rw [c1 ha, show j' = b2 j from Fin.ext (hj.trans (show 2048 + j.val = 2048 + j.val from by omega))]
    · exact piece F h_v81 0 1024 inb_S256x2816_S256x1024_0_1024 fun a j a' j' ha hj => by
        rw [c1 ha, show j' = b1 j from Fin.ext (hj.trans (show 1024 + j.val = 1024 + j.val from by omega))]
    · exact piece F h_v54 0 0 inb_S256x2816_S256x1024_0_0 fun a j a' j' ha hj => by
        rw [c1 ha, show j' = b0 j from Fin.ext (hj.trans (show 0 + j.val = j.val from by omega))]
  · frame_out
    exact h_v197
  · frame_out
    intro i
    let F : Fin 8 → Fin 1024 → ℝ := fun r k => A r k + ∑ q, row p (X q) (T q) r k
    refine pieces8 (e := .f32) (fun i : S8x1024.Idx => ((F (i 0) (i 1) : ℝ) : EReal)) ?_ ?_ ?_ ?_ ?_ ?_ ?_ ?_ i (View.cover_of_tiledL _ ![1, 1024] (by sl_kernel_rfl) i)
    · intro x
      simp (disch := decide) only [↓ View.readCov_skip, ↓ View.readCov_cons_toLoadRect, ↓ View.readCov_fill]
      exact piece F (p_1 h_v5 h_v21 h_v301 h_v317) 6 0 inb_S8x1024_S1x1024_6_0 (fun a j a' j' ha hj => by
        rw [← c1 hj, show a' = 6 from Fin.ext (ha.trans (by have := a.isLt; show 6 + a.val = 6; omega))]) x
    · intro x
      simp (disch := decide) only [↓ View.readCov_skip, ↓ View.readCov_cons_toLoadRect, ↓ View.readCov_fill]
      exact piece F (p_62 h_v9 h_v21 h_v267 h_v270 h_v271 h_v279 h_v280 h_v283 h_v294 h_v298 h_v308) 5 0 inb_S8x1024_S1x1024_5_0 (fun a j a' j' ha hj => by
        rw [← c1 hj, show a' = 5 from Fin.ext (ha.trans (by have := a.isLt; show 5 + a.val = 5; omega))]) x
    · intro x
      simp (disch := decide) only [↓ View.readCov_skip, ↓ View.readCov_cons_toLoadRect, ↓ View.readCov_fill]
      exact piece F (p_61 h_v267 h_v270 h_v271 h_v279 h_v280 h_v283 h_v294 h_v298 h_v302) 4 0 inb_S8x1024_S1x1024_4_0 (fun a j a' j' ha hj => by
        rw [← c1 hj, show a' = 4 from Fin.ext (ha.trans (by have := a.isLt; show 4 + a.val = 4; omega))]) x
    · intro x
      simp (disch := decide) only [↓ View.readCov_skip, ↓ View.readCov_cons_toLoadRect, ↓ View.readCov_fill]
      exact piece F (p_38 h_v11 h_v113 h_v124 h_v126 h_v175 h_v188) 3 0 inb_S8x1024_S1x1024_3_0 (fun a j a' j' ha hj => by
        rw [← c1 hj, show a' = 3 from Fin.ext (ha.trans (by have := a.isLt; show 3 + a.val = 3; omega))]) x
    · intro x
      simp (disch := decide) only [↓ View.readCov_skip, ↓ View.readCov_cons_toLoadRect, ↓ View.readCov_fill]
      exact piece F (p_35 h_v8 h_v126 h_v138 h_v161) 2 0 inb_S8x1024_S1x1024_2_0 (fun a j a' j' ha hj => by
        rw [← c1 hj, show a' = 2 from Fin.ext (ha.trans (by have := a.isLt; show 2 + a.val = 2; omega))]) x
    · intro x
      simp (disch := decide) only [↓ View.readCov_skip, ↓ View.readCov_cons_toLoadRect, ↓ View.readCov_fill]
      exact piece F (p_34 h_v11 h_v126 h_v138 h_v152) 1 0 inb_S8x1024_S1x1024_1_0 (fun a j a' j' ha hj => by
        rw [← c1 hj, show a' = 1 from Fin.ext (ha.trans (by have := a.isLt; show 1 + a.val = 1; omega))]) x
    · intro x
      simp (disch := decide) only [↓ View.readCov_skip, ↓ View.readCov_cons_toLoadRect, ↓ View.readCov_fill]
      exact piece F (p_33 h_v138 h_v146) 0 0 inb_S8x1024_S1x1024_0_0 (fun a j a' j' ha hj => by
        rw [← c1 hj, show a' = 0 from Fin.ext (ha.trans (by have := a.isLt; show 0 + a.val = 0; omega))]) x
    · intro x
      simp (disch := decide) only [↓ View.readCov_skip, ↓ View.readCov_cons_toLoadRect, ↓ View.readCov_fill]
      exact piece F (p_32 h_v136 h_v139) 7 0 inb_S8x1024_S1x1024_7_0 (fun a j a' j' ha hj => by
        rw [← c1 hj, show a' = 7 from Fin.ext (ha.trans (by have := a.isLt; show 7 + a.val = 7; omega))]) x

end Cert.Kern

end
-- ==== Proof.Ref.lean ====
/- The reference at an index: each stage of the plain computation, over arrays of real numbers, is the real expression the
   model names. One lemma a stage, in the order of the computation. -/
module

public import proofs.«01_k».proof.Proof.Model
public import proofs.«01_k».proof.Proof.Gen.ReferenceIdeal.Read
public import Idealize.ShloMosaic.Lib.Pointwise

@[expose] public section

set_option maxRecDepth 16384

noncomputable section

namespace Cert.Ref

open Idealize.ShloMosaic Cert.Coe Cert.Model Cert.ReferenceIdeal Cert.ReferenceIdeal.Gen Cert.ReferenceIdeal.Read

/-- The arrays hold the real numbers `X`, `T` and `p`. -/
structure Args (x0 x1 : (⟨S8192x1024, .f32⟩ : BufTy).Contents (Elt Ideal)) (x2 : (⟨S8x1024, .f32⟩ : BufTy).Contents (Elt Ideal)) (x3 : (⟨S1x1024, .f32⟩ : BufTy).Contents (Elt Ideal)) (x4 : (⟨S1024, .f32⟩ : BufTy).Contents (Elt Ideal)) (x5 : (⟨S1024x5632, .f32⟩ : BufTy).Contents (Elt Ideal)) (x6 : (⟨S2816x1024, .f32⟩ : BufTy).Contents (Elt Ideal))
    (p : Par) (X T : Fin 8192 → Fin 1024 → ℝ) : Prop where
  hx : ∀ i, x0 i = ((X (i 0) (i 1) : ℝ) : EReal)
  ht : ∀ i, x1 i = ((T (i 0) (i 1) : ℝ) : EReal)
  hm3 : ∀ i, (i 0).val = 3 → x2 i = ((p.sh2 (i 1) : ℝ) : EReal)
  hm4 : ∀ i, (i 0).val = 4 → x2 i = ((p.sc2 (i 1) : ℝ) : EReal)
  hm5 : ∀ i, (i 0).val = 5 → x2 i = ((p.gate (i 1) : ℝ) : EReal)
  hm6 : ∀ i, (i 0).val = 6 → x2 i = ((p.shf (i 1) : ℝ) : EReal)
  hm7 : ∀ i, (i 0).val = 7 → x2 i = ((p.scf (i 1) : ℝ) : EReal)
  hg2 : ∀ i, x3 i = ((p.g2 (i 1) : ℝ) : EReal)
  hgf : ∀ i, x4 i = ((p.gf (i 0) : ℝ) : EReal)
  hwi : ∀ i, x5 i = ((p.wi (i 0) (i 1) : ℝ) : EReal)
  hwo : ∀ i, x6 i = ((p.wo (i 0) (i 1) : ℝ) : EReal)

theorem q1 (i : S1x1024.Idx) : (i 0).val * 1024 + (i 1).val = (i 1).val := by
  have h0 : (i 0).val < 1 := (i 0).isLt
  omega

theorem q2 (i : S8192x1.Idx) : (i 0).val * 1 + (i 1).val = (i 0).val := by
  have h0 : (i 1).val < 1 := (i 1).isLt
  omega

theorem h1024 : (1024 : ℝ) ≠ 0 := by norm_num

variable {x0 x1 : (⟨S8192x1024, .f32⟩ : BufTy).Contents (Elt Ideal)} {x2 : (⟨S8x1024, .f32⟩ : BufTy).Contents (Elt Ideal)} {x3 : (⟨S1x1024, .f32⟩ : BufTy).Contents (Elt Ideal)} {x4 : (⟨S1024, .f32⟩ : BufTy).Contents (Elt Ideal)} {x5 : (⟨S1024x5632, .f32⟩ : BufTy).Contents (Elt Ideal)} {x6 : (⟨S2816x1024, .f32⟩ : BufTy).Contents (Elt Ideal)}
  {p : Par} {X T : Fin 8192 → Fin 1024 → ℝ} (h : Args x0 x1 x2 x3 x4 x5 x6 p X T)
include h

theorem e_v7 (i : S1024.Idx) : val_main_v7 (F := Idealize.ShloMosaic.Ideal) x2 i = ((p.sh2 (i 0) : ℝ) : EReal) :=
  (val_main_v7_apply (F := Idealize.ShloMosaic.Ideal) x2 i).trans ((val_main_v6_apply (F := Idealize.ShloMosaic.Ideal) x2 _).trans ((h.hm3 _ rfl).trans (coe_congr (congrArg p.sh2 (Fin.ext (Nat.mod_eq_of_lt (i 0).isLt))))))

theorem e_v9 (i : S1024.Idx) : val_main_v9 (F := Idealize.ShloMosaic.Ideal) x2 i = ((p.sc2 (i 0) : ℝ) : EReal) :=
  (val_main_v9_apply (F := Idealize.ShloMosaic.Ideal) x2 i).trans ((val_main_v8_apply (F := Idealize.ShloMosaic.Ideal) x2 _).trans ((h.hm4 _ rfl).trans (coe_congr (congrArg p.sc2 (Fin.ext (Nat.mod_eq_of_lt (i 0).isLt))))))

theorem e_v11 (i : S1024.Idx) : val_main_v11 (F := Idealize.ShloMosaic.Ideal) x2 i = ((p.gate (i 0) : ℝ) : EReal) :=
  (val_main_v11_apply (F := Idealize.ShloMosaic.Ideal) x2 i).trans ((val_main_v10_apply (F := Idealize.ShloMosaic.Ideal) x2 _).trans ((h.hm5 _ rfl).trans (coe_congr (congrArg p.gate (Fin.ext (Nat.mod_eq_of_lt (i 0).isLt))))))

theorem e_v13 (i : S1024.Idx) : val_main_v13 (F := Idealize.ShloMosaic.Ideal) x2 i = ((p.shf (i 0) : ℝ) : EReal) :=
  (val_main_v13_apply (F := Idealize.ShloMosaic.Ideal) x2 i).trans ((val_main_v12_apply (F := Idealize.ShloMosaic.Ideal) x2 _).trans ((h.hm6 _ rfl).trans (coe_congr (congrArg p.shf (Fin.ext (Nat.mod_eq_of_lt (i 0).isLt))))))

theorem e_v15 (i : S1024.Idx) : val_main_v15 (F := Idealize.ShloMosaic.Ideal) x2 i = ((p.scf (i 0) : ℝ) : EReal) :=
  (val_main_v15_apply (F := Idealize.ShloMosaic.Ideal) x2 i).trans ((val_main_v14_apply (F := Idealize.ShloMosaic.Ideal) x2 _).trans ((h.hm7 _ rfl).trans (coe_congr (congrArg p.scf (Fin.ext (Nat.mod_eq_of_lt (i 0).isLt))))))

theorem e_v16 (i : S1024.Idx) : val_main_v16 (F := Idealize.ShloMosaic.Ideal) x3 i = ((p.g2 (i 0) : ℝ) : EReal) :=
  (val_main_v16_apply (F := Idealize.ShloMosaic.Ideal) x3 i).trans (((h.hg2 _)).trans (coe_congr (congrArg p.g2 (Fin.ext (Nat.mod_eq_of_lt (i 0).isLt)))))

theorem e_v17 (i : S8192x1024.Idx) : val_main_v17 (F := Idealize.ShloMosaic.Ideal) x0 i = (((X (i 0)) (i 1) * (X (i 0)) (i 1) : ℝ) : EReal) :=
  (val_main_v17_apply (F := Idealize.ShloMosaic.Ideal) x0 i).trans ((mul_r (h.hx _) (h.hx _)).trans (coe_congr (rfl)))

theorem e_v18 (i : S8192.Idx) : val_main_v18 (F := Idealize.ShloMosaic.Ideal) x0 i = ((∑ k, (X (i 0)) k * (X (i 0)) k : ℝ) : EReal) :=
  (val_main_v18_apply x0 i).trans ((zsum_r ofBits_zero fun k => (e_v17 h _)).trans (coe_congr (rfl)))

theorem e_v19 (i : S8192x1.Idx) : val_main_v19 (F := Idealize.ShloMosaic.Ideal) x0 i = ((∑ k, (X (i 0)) k * (X (i 0)) k : ℝ) : EReal) :=
  (val_main_v19_apply (F := Idealize.ShloMosaic.Ideal) x0 i).trans (((e_v18 h _)).trans (coe_congr (rfl)))

theorem e_v20 (i : S8192x1.Idx) : val_main_v20 (F := Idealize.ShloMosaic.Ideal) i = ((1024 : ℝ) : EReal) :=
  (val_main_v20_apply (F := Idealize.ShloMosaic.Ideal)  i).trans ((ofBits_1024).trans (coe_congr (rfl)))

theorem e_v21 (i : S8192x1.Idx) : val_main_v21 (F := Idealize.ShloMosaic.Ideal) x0 i = (((∑ k, (X (i 0)) k * (X (i 0)) k) / 1024 : ℝ) : EReal) :=
  (val_main_v21_apply (F := Idealize.ShloMosaic.Ideal) x0 i).trans ((div_r (e_v19 h _) (e_v20 h _) h1024).trans (coe_congr (rfl)))

theorem e_v22 (i : S8192x1.Idx) : val_main_v22 (F := Idealize.ShloMosaic.Ideal) i = ((eps : ℝ) : EReal) :=
  (val_main_v22_apply (F := Idealize.ShloMosaic.Ideal)  i).trans ((ofBits_eps).trans (coe_congr (rfl)))

theorem e_v23 (i : S8192x1.Idx) : val_main_v23 (F := Idealize.ShloMosaic.Ideal) x0 i = ((((∑ k, (X (i 0)) k * (X (i 0)) k) / 1024 + eps) : ℝ) : EReal) :=
  (val_main_v23_apply (F := Idealize.ShloMosaic.Ideal) x0 i).trans ((add_r (e_v21 h _) (e_v22 h _)).trans (coe_congr (rfl)))

theorem e_v24 (i : S8192x1.Idx) : val_main_v24 (F := Idealize.ShloMosaic.Ideal) x0 i = ((rs (X (i 0)) : ℝ) : EReal) :=
  (val_main_v24_apply (F := Idealize.ShloMosaic.Ideal) x0 i).trans ((rsqrt_r (e_v23 h _) (ms_pos _)).trans (coe_congr (rfl)))

theorem e_v25 (i : S8192x1.Idx) : val_main_v25 (F := Idealize.ShloMosaic.Ideal) x0 i = ((rs (X (i 0)) / ((∑ k, (X (i 0)) k * (X (i 0)) k) / 1024 + eps) : ℝ) : EReal) :=
  (val_main_v25_apply (F := Idealize.ShloMosaic.Ideal) x0 i).trans ((div_r (e_v24 h _) (e_v23 h _) (ne_of_gt (ms_pos _))).trans (coe_congr (rfl)))

theorem e_v26 (i : S8192x1.Idx) : val_main_v26 (F := Idealize.ShloMosaic.Ideal) i = ((-(1 / 2) : ℝ) : EReal) :=
  (val_main_v26_apply (F := Idealize.ShloMosaic.Ideal)  i).trans ((ofBits_neg_half).trans (coe_congr (rfl)))

theorem e_v27 (i : S8192x1.Idx) : val_main_v27 (F := Idealize.ShloMosaic.Ideal) x0 i = ((-(1 / 2) * (rs (X (i 0)) / ((∑ k, (X (i 0)) k * (X (i 0)) k) / 1024 + eps)) : ℝ) : EReal) :=
  (val_main_v27_apply (F := Idealize.ShloMosaic.Ideal) x0 i).trans ((mul_r (e_v26 h _) (e_v25 h _)).trans (coe_congr (rfl)))

theorem e_v28 (i : S8192x1024.Idx) : val_main_v28 (F := Idealize.ShloMosaic.Ideal) x0 i = ((rs (X (i 0)) : ℝ) : EReal) :=
  (val_main_v28_apply (F := Idealize.ShloMosaic.Ideal) x0 i).trans (((e_v24 h _)).trans (coe_congr (rfl)))

theorem e_v29 (i : S8192x1024.Idx) : val_main_v29 (F := Idealize.ShloMosaic.Ideal) x0 i = ((nrm (X (i 0)) (i 1) : ℝ) : EReal) :=
  (val_main_v29_apply (F := Idealize.ShloMosaic.Ideal) x0 i).trans ((mul_r (h.hx _) (e_v28 h _)).trans (coe_congr (rfl)))

theorem e_v30 (i : S1x1024.Idx) : val_main_v30 (F := Idealize.ShloMosaic.Ideal) x3 i = ((p.g2 (i 1) : ℝ) : EReal) :=
  (val_main_v30_apply (F := Idealize.ShloMosaic.Ideal) x3 i).trans (((e_v16 h _)).trans (coe_congr (rfl)))

theorem e_v31 (i : S8192x1024.Idx) : val_main_v31 (F := Idealize.ShloMosaic.Ideal) x3 i = ((p.g2 (i 1) : ℝ) : EReal) :=
  (val_main_v31_apply (F := Idealize.ShloMosaic.Ideal) x3 i).trans (((e_v30 h _)).trans (coe_congr (rfl)))

theorem e_v32 (i : S8192x1024.Idx) : val_main_v32 (F := Idealize.ShloMosaic.Ideal) x0 x3 i = ((nrm (X (i 0)) (i 1) * p.g2 (i 1) : ℝ) : EReal) :=
  (val_main_v32_apply (F := Idealize.ShloMosaic.Ideal) x0 x3 i).trans ((mul_r (e_v29 h _) (e_v31 h _)).trans (coe_congr (rfl)))

theorem e_v33 (i : S1x1024.Idx) : val_main_v33 (F := Idealize.ShloMosaic.Ideal) x2 i = ((p.sc2 (i 1) : ℝ) : EReal) :=
  (val_main_v33_apply (F := Idealize.ShloMosaic.Ideal) x2 i).trans (((e_v9 h _)).trans (coe_congr (rfl)))

theorem e_v34 (i : S1x1024.Idx) : val_main_v34 (F := Idealize.ShloMosaic.Ideal) i = ((1 : ℝ) : EReal) :=
  (val_main_v34_apply (F := Idealize.ShloMosaic.Ideal)  i).trans ((ofBits_one).trans (coe_congr (rfl)))

theorem e_v35 (i : S1x1024.Idx) : val_main_v35 (F := Idealize.ShloMosaic.Ideal) x2 i = ((1 + p.sc2 (i 1) : ℝ) : EReal) :=
  (val_main_v35_apply (F := Idealize.ShloMosaic.Ideal) x2 i).trans ((add_r (e_v34 h _) (e_v33 h _)).trans (coe_congr (rfl)))

theorem e_v36 (i : S8192x1024.Idx) : val_main_v36 (F := Idealize.ShloMosaic.Ideal) x2 i = ((1 + p.sc2 (i 1) : ℝ) : EReal) :=
  (val_main_v36_apply (F := Idealize.ShloMosaic.Ideal) x2 i).trans (((e_v35 h _)).trans (coe_congr (rfl)))

theorem e_v37 (i : S8192x1024.Idx) : val_main_v37 (F := Idealize.ShloMosaic.Ideal) x0 x2 x3 i = ((nrm (X (i 0)) (i 1) * p.g2 (i 1) * (1 + p.sc2 (i 1)) : ℝ) : EReal) :=
  (val_main_v37_apply (F := Idealize.ShloMosaic.Ideal) x0 x2 x3 i).trans ((mul_r (e_v32 h _) (e_v36 h _)).trans (coe_congr (rfl)))

theorem e_v38 (i : S1x1024.Idx) : val_main_v38 (F := Idealize.ShloMosaic.Ideal) x2 i = ((p.sh2 (i 1) : ℝ) : EReal) :=
  (val_main_v38_apply (F := Idealize.ShloMosaic.Ideal) x2 i).trans (((e_v7 h _)).trans (coe_congr (rfl)))

theorem e_v39 (i : S8192x1024.Idx) : val_main_v39 (F := Idealize.ShloMosaic.Ideal) x2 i = ((p.sh2 (i 1) : ℝ) : EReal) :=
  (val_main_v39_apply (F := Idealize.ShloMosaic.Ideal) x2 i).trans (((e_v38 h _)).trans (coe_congr (rfl)))

theorem e_v40 (i : S8192x1024.Idx) : val_main_v40 (F := Idealize.ShloMosaic.Ideal) x0 x2 x3 i = ((h2 p (X (i 0)) (i 1) : ℝ) : EReal) :=
  (val_main_v40_apply (F := Idealize.ShloMosaic.Ideal) x0 x2 x3 i).trans ((add_r (e_v37 h _) (e_v39 h _)).trans (coe_congr (rfl)))

theorem e_v41 (i : S8192x5632.Idx) : val_main_v41 (F := Idealize.ShloMosaic.Ideal) x0 x2 x3 x5 i = ((mv p.wi (h2 p (X (i 0))) (i 1) : ℝ) : EReal) :=
  (val_main_v41_apply x0 x2 x3 x5 i).trans ((dot_r (fun k => (e_v40 h _)) (fun k => (h.hwi _))).trans (coe_congr (rfl)))

theorem e_v42 (i : S8192x2816.Idx) : val_main_v42 (F := Idealize.ShloMosaic.Ideal) x0 x2 x3 x5 i = ((zg p (X (i 0)) (i 1) : ℝ) : EReal) :=
  (val_main_v42_apply (F := Idealize.ShloMosaic.Ideal) x0 x2 x3 x5 i).trans (((e_v41 h _)).trans (coe_congr (rfl)))

theorem e_v43 (i : S8192x2816.Idx) : val_main_v43 (F := Idealize.ShloMosaic.Ideal) x0 x2 x3 x5 i = ((zu p (X (i 0)) (i 1) : ℝ) : EReal) :=
  (val_main_v43_apply (F := Idealize.ShloMosaic.Ideal) x0 x2 x3 x5 i).trans (((e_v41 h _)).trans (coe_congr (rfl)))

theorem e_call0_v0 (i : S8192x2816.Idx) : val_main_call0_v0 (F := Idealize.ShloMosaic.Ideal) x0 x2 x3 x5 i = ((-(zg p (X (i 0)) (i 1)) : ℝ) : EReal) :=
  (val_main_call0_v0_apply (F := Idealize.ShloMosaic.Ideal) x0 x2 x3 x5 i).trans ((neg_r (e_v42 h _)).trans (coe_congr (rfl)))

theorem e_call0_v1 (i : S8192x2816.Idx) : val_main_call0_v1 (F := Idealize.ShloMosaic.Ideal) x0 x2 x3 x5 i = ((Real.exp (-(zg p (X (i 0)) (i 1))) : ℝ) : EReal) :=
  (val_main_call0_v1_apply (F := Idealize.ShloMosaic.Ideal) x0 x2 x3 x5 i).trans ((exp_r (e_call0_v0 h _)).trans (coe_congr (rfl)))

theorem e_call0_v2 (i : S8192x2816.Idx) : val_main_call0_v2 (F := Idealize.ShloMosaic.Ideal) i = ((1 : ℝ) : EReal) :=
  (val_main_call0_v2_apply (F := Idealize.ShloMosaic.Ideal)  i).trans ((ofBits_one).trans (coe_congr (rfl)))

theorem e_call0_v3 (i : S8192x2816.Idx) : val_main_call0_v3 (F := Idealize.ShloMosaic.Ideal) x0 x2 x3 x5 i = ((1 + Real.exp (-(zg p (X (i 0)) (i 1))) : ℝ) : EReal) :=
  (val_main_call0_v3_apply (F := Idealize.ShloMosaic.Ideal) x0 x2 x3 x5 i).trans ((add_r (e_call0_v2 h _) (e_call0_v1 h _)).trans (coe_congr (rfl)))

theorem e_call0_v4 (i : S8192x2816.Idx) : val_main_call0_v4 (F := Idealize.ShloMosaic.Ideal) i = ((1 : ℝ) : EReal) :=
  (val_main_call0_v4_apply (F := Idealize.ShloMosaic.Ideal)  i).trans ((ofBits_one).trans (coe_congr (rfl)))

theorem e_v44_2 (i : S8192x2816.Idx) : val_main_v44_2 (F := Idealize.ShloMosaic.Ideal) x0 x2 x3 x5 i = ((sig (zg p (X (i 0)) (i 1)) : ℝ) : EReal) :=
  (val_main_v44_2_apply (F := Idealize.ShloMosaic.Ideal) x0 x2 x3 x5 i).trans ((div_r (e_call0_v4 h _) (e_call0_v3 h _) (ne_of_gt (by positivity))).trans (coe_congr (rfl)))

theorem e_call0_v6 (i : S8192x2816.Idx) : val_main_call0_v6 (F := Idealize.ShloMosaic.Ideal) i = ((1 : ℝ) : EReal) :=
  (val_main_call0_v6_apply (F := Idealize.ShloMosaic.Ideal)  i).trans ((ofBits_one).trans (coe_congr (rfl)))

theorem e_call0_v7 (i : S8192x2816.Idx) : val_main_call0_v7 (F := Idealize.ShloMosaic.Ideal) x0 x2 x3 x5 i = ((1 - sig (zg p (X (i 0)) (i 1)) : ℝ) : EReal) :=
  (val_main_call0_v7_apply (F := Idealize.ShloMosaic.Ideal) x0 x2 x3 x5 i).trans ((sub_r (e_call0_v6 h _) (e_v44_2 h _)).trans (coe_congr (rfl)))

theorem e_v44_1 (i : S8192x2816.Idx) : val_main_v44_1 (F := Idealize.ShloMosaic.Ideal) x0 x2 x3 x5 i = ((sig (zg p (X (i 0)) (i 1)) * (1 - sig (zg p (X (i 0)) (i 1))) : ℝ) : EReal) :=
  (val_main_v44_1_apply (F := Idealize.ShloMosaic.Ideal) x0 x2 x3 x5 i).trans ((mul_r (e_v44_2 h _) (e_call0_v7 h _)).trans (coe_congr (rfl)))

theorem e_v44_0 (i : S8192x2816.Idx) : val_main_v44_0 (F := Idealize.ShloMosaic.Ideal) x0 x2 x3 x5 i = ((zg p (X (i 0)) (i 1) * sig (zg p (X (i 0)) (i 1)) : ℝ) : EReal) :=
  (val_main_v44_0_apply (F := Idealize.ShloMosaic.Ideal) x0 x2 x3 x5 i).trans ((mul_r (e_v42 h _) (e_v44_2 h _)).trans (coe_congr (rfl)))

theorem e_v45 (i : S8192x2816.Idx) : val_main_v45 (F := Idealize.ShloMosaic.Ideal) x0 x2 x3 x5 i = ((act p (X (i 0)) (i 1) : ℝ) : EReal) :=
  (val_main_v45_apply (F := Idealize.ShloMosaic.Ideal) x0 x2 x3 x5 i).trans ((mul_r (e_v44_0 h _) (e_v43 h _)).trans (coe_congr (rfl)))

theorem e_v46 (i : S8192x1024.Idx) : val_main_v46 (F := Idealize.ShloMosaic.Ideal) x0 x2 x3 x5 x6 i = ((ff p (X (i 0)) (i 1) : ℝ) : EReal) :=
  (val_main_v46_apply x0 x2 x3 x5 x6 i).trans ((dot_r (fun k => (e_v45 h _)) (fun k => (h.hwo _))).trans (coe_congr (rfl)))

theorem e_v47 (i : S1x1024.Idx) : val_main_v47 (F := Idealize.ShloMosaic.Ideal) x2 i = ((p.gate (i 1) : ℝ) : EReal) :=
  (val_main_v47_apply (F := Idealize.ShloMosaic.Ideal) x2 i).trans (((e_v11 h _)).trans (coe_congr (rfl)))

theorem e_v48 (i : S8192x1024.Idx) : val_main_v48 (F := Idealize.ShloMosaic.Ideal) x2 i = ((p.gate (i 1) : ℝ) : EReal) :=
  (val_main_v48_apply (F := Idealize.ShloMosaic.Ideal) x2 i).trans (((e_v47 h _)).trans (coe_congr (rfl)))

theorem e_v49 (i : S8192x1024.Idx) : val_main_v49 (F := Idealize.ShloMosaic.Ideal) x0 x2 x3 x5 x6 i = ((p.gate (i 1) * ff p (X (i 0)) (i 1) : ℝ) : EReal) :=
  (val_main_v49_apply (F := Idealize.ShloMosaic.Ideal) x0 x2 x3 x5 x6 i).trans ((mul_r (e_v48 h _) (e_v46 h _)).trans (coe_congr (rfl)))

theorem e_v50 (i : S8192x1024.Idx) : val_main_v50 (F := Idealize.ShloMosaic.Ideal) x0 x2 x3 x5 x6 i = ((Model.x2 p (X (i 0)) (i 1) : ℝ) : EReal) :=
  (val_main_v50_apply (F := Idealize.ShloMosaic.Ideal) x0 x2 x3 x5 x6 i).trans ((add_r (h.hx _) (e_v49 h _)).trans (coe_congr (rfl)))

theorem e_v51 (i : S8192x1024.Idx) : val_main_v51 (F := Idealize.ShloMosaic.Ideal) x0 x2 x3 x5 x6 i = (((Model.x2 p (X (i 0))) (i 1) * (Model.x2 p (X (i 0))) (i 1) : ℝ) : EReal) :=
  (val_main_v51_apply (F := Idealize.ShloMosaic.Ideal) x0 x2 x3 x5 x6 i).trans ((mul_r (e_v50 h _) (e_v50 h _)).trans (coe_congr (rfl)))

theorem e_v52 (i : S8192.Idx) : val_main_v52 (F := Idealize.ShloMosaic.Ideal) x0 x2 x3 x5 x6 i = ((∑ k, (Model.x2 p (X (i 0))) k * (Model.x2 p (X (i 0))) k : ℝ) : EReal) :=
  (val_main_v52_apply x0 x2 x3 x5 x6 i).trans ((zsum_r ofBits_zero fun k => (e_v51 h _)).trans (coe_congr (rfl)))

theorem e_v53 (i : S8192x1.Idx) : val_main_v53 (F := Idealize.ShloMosaic.Ideal) x0 x2 x3 x5 x6 i = ((∑ k, (Model.x2 p (X (i 0))) k * (Model.x2 p (X (i 0))) k : ℝ) : EReal) :=
  (val_main_v53_apply (F := Idealize.ShloMosaic.Ideal) x0 x2 x3 x5 x6 i).trans (((e_v52 h _)).trans (coe_congr (rfl)))

theorem e_v54 (i : S8192x1.Idx) : val_main_v54 (F := Idealize.ShloMosaic.Ideal) i = ((1024 : ℝ) : EReal) :=
  (val_main_v54_apply (F := Idealize.ShloMosaic.Ideal)  i).trans ((ofBits_1024).trans (coe_congr (rfl)))

theorem e_v55 (i : S8192x1.Idx) : val_main_v55 (F := Idealize.ShloMosaic.Ideal) x0 x2 x3 x5 x6 i = (((∑ k, (Model.x2 p (X (i 0))) k * (Model.x2 p (X (i 0))) k) / 1024 : ℝ) : EReal) :=
  (val_main_v55_apply (F := Idealize.ShloMosaic.Ideal) x0 x2 x3 x5 x6 i).trans ((div_r (e_v53 h _) (e_v54 h _) h1024).trans (coe_congr (rfl)))

theorem e_v56 (i : S8192x1.Idx) : val_main_v56 (F := Idealize.ShloMosaic.Ideal) i = ((eps : ℝ) : EReal) :=
  (val_main_v56_apply (F := Idealize.ShloMosaic.Ideal)  i).trans ((ofBits_eps).trans (coe_congr (rfl)))

theorem e_v57 (i : S8192x1.Idx) : val_main_v57 (F := Idealize.ShloMosaic.Ideal) x0 x2 x3 x5 x6 i = ((((∑ k, (Model.x2 p (X (i 0))) k * (Model.x2 p (X (i 0))) k) / 1024 + eps) : ℝ) : EReal) :=
  (val_main_v57_apply (F := Idealize.ShloMosaic.Ideal) x0 x2 x3 x5 x6 i).trans ((add_r (e_v55 h _) (e_v56 h _)).trans (coe_congr (rfl)))

theorem e_v58 (i : S8192x1.Idx) : val_main_v58 (F := Idealize.ShloMosaic.Ideal) x0 x2 x3 x5 x6 i = ((rs (Model.x2 p (X (i 0))) : ℝ) : EReal) :=
  (val_main_v58_apply (F := Idealize.ShloMosaic.Ideal) x0 x2 x3 x5 x6 i).trans ((rsqrt_r (e_v57 h _) (ms_pos _)).trans (coe_congr (rfl)))

theorem e_v59 (i : S8192x1.Idx) : val_main_v59 (F := Idealize.ShloMosaic.Ideal) x0 x2 x3 x5 x6 i = ((rs (Model.x2 p (X (i 0))) / ((∑ k, (Model.x2 p (X (i 0))) k * (Model.x2 p (X (i 0))) k) / 1024 + eps) : ℝ) : EReal) :=
  (val_main_v59_apply (F := Idealize.ShloMosaic.Ideal) x0 x2 x3 x5 x6 i).trans ((div_r (e_v58 h _) (e_v57 h _) (ne_of_gt (ms_pos _))).trans (coe_congr (rfl)))

theorem e_v60 (i : S8192x1.Idx) : val_main_v60 (F := Idealize.ShloMosaic.Ideal) i = ((-(1 / 2) : ℝ) : EReal) :=
  (val_main_v60_apply (F := Idealize.ShloMosaic.Ideal)  i).trans ((ofBits_neg_half).trans (coe_congr (rfl)))

theorem e_v61 (i : S8192x1.Idx) : val_main_v61 (F := Idealize.ShloMosaic.Ideal) x0 x2 x3 x5 x6 i = ((-(1 / 2) * (rs (Model.x2 p (X (i 0))) / ((∑ k, (Model.x2 p (X (i 0))) k * (Model.x2 p (X (i 0))) k) / 1024 + eps)) : ℝ) : EReal) :=
  (val_main_v61_apply (F := Idealize.ShloMosaic.Ideal) x0 x2 x3 x5 x6 i).trans ((mul_r (e_v60 h _) (e_v59 h _)).trans (coe_congr (rfl)))

theorem e_v62 (i : S8192x1024.Idx) : val_main_v62 (F := Idealize.ShloMosaic.Ideal) x0 x2 x3 x5 x6 i = ((rs (Model.x2 p (X (i 0))) : ℝ) : EReal) :=
  (val_main_v62_apply (F := Idealize.ShloMosaic.Ideal) x0 x2 x3 x5 x6 i).trans (((e_v58 h _)).trans (coe_congr (rfl)))

theorem e_v63 (i : S8192x1024.Idx) : val_main_v63 (F := Idealize.ShloMosaic.Ideal) x0 x2 x3 x5 x6 i = ((nrm (Model.x2 p (X (i 0))) (i 1) : ℝ) : EReal) :=
  (val_main_v63_apply (F := Idealize.ShloMosaic.Ideal) x0 x2 x3 x5 x6 i).trans ((mul_r (e_v50 h _) (e_v62 h _)).trans (coe_congr (rfl)))

theorem e_v64 (i : S1x1024.Idx) : val_main_v64 (F := Idealize.ShloMosaic.Ideal) x4 i = ((p.gf (i 1) : ℝ) : EReal) :=
  (val_main_v64_apply (F := Idealize.ShloMosaic.Ideal) x4 i).trans (((h.hgf _)).trans (coe_congr (rfl)))

theorem e_v65 (i : S8192x1024.Idx) : val_main_v65 (F := Idealize.ShloMosaic.Ideal) x4 i = ((p.gf (i 1) : ℝ) : EReal) :=
  (val_main_v65_apply (F := Idealize.ShloMosaic.Ideal) x4 i).trans (((e_v64 h _)).trans (coe_congr (rfl)))

theorem e_v66 (i : S8192x1024.Idx) : val_main_v66 (F := Idealize.ShloMosaic.Ideal) x0 x2 x3 x4 x5 x6 i = ((nrm (Model.x2 p (X (i 0))) (i 1) * p.gf (i 1) : ℝ) : EReal) :=
  (val_main_v66_apply (F := Idealize.ShloMosaic.Ideal) x0 x2 x3 x4 x5 x6 i).trans ((mul_r (e_v63 h _) (e_v65 h _)).trans (coe_congr (rfl)))

theorem e_v67 (i : S1x1024.Idx) : val_main_v67 (F := Idealize.ShloMosaic.Ideal) x2 i = ((p.scf (i 1) : ℝ) : EReal) :=
  (val_main_v67_apply (F := Idealize.ShloMosaic.Ideal) x2 i).trans (((e_v15 h _)).trans (coe_congr (rfl)))

theorem e_v68 (i : S1x1024.Idx) : val_main_v68 (F := Idealize.ShloMosaic.Ideal) i = ((1 : ℝ) : EReal) :=
  (val_main_v68_apply (F := Idealize.ShloMosaic.Ideal)  i).trans ((ofBits_one).trans (coe_congr (rfl)))

theorem e_v69 (i : S1x1024.Idx) : val_main_v69 (F := Idealize.ShloMosaic.Ideal) x2 i = ((1 + p.scf (i 1) : ℝ) : EReal) :=
  (val_main_v69_apply (F := Idealize.ShloMosaic.Ideal) x2 i).trans ((add_r (e_v68 h _) (e_v67 h _)).trans (coe_congr (rfl)))

theorem e_v70 (i : S8192x1024.Idx) : val_main_v70 (F := Idealize.ShloMosaic.Ideal) x2 i = ((1 + p.scf (i 1) : ℝ) : EReal) :=
  (val_main_v70_apply (F := Idealize.ShloMosaic.Ideal) x2 i).trans (((e_v69 h _)).trans (coe_congr (rfl)))

theorem e_v71 (i : S8192x1024.Idx) : val_main_v71 (F := Idealize.ShloMosaic.Ideal) x0 x2 x3 x4 x5 x6 i = ((nrm (Model.x2 p (X (i 0))) (i 1) * p.gf (i 1) * (1 + p.scf (i 1)) : ℝ) : EReal) :=
  (val_main_v71_apply (F := Idealize.ShloMosaic.Ideal) x0 x2 x3 x4 x5 x6 i).trans ((mul_r (e_v66 h _) (e_v70 h _)).trans (coe_congr (rfl)))

theorem e_v72 (i : S1x1024.Idx) : val_main_v72 (F := Idealize.ShloMosaic.Ideal) x2 i = ((p.shf (i 1) : ℝ) : EReal) :=
  (val_main_v72_apply (F := Idealize.ShloMosaic.Ideal) x2 i).trans (((e_v13 h _)).trans (coe_congr (rfl)))

theorem e_v73 (i : S8192x1024.Idx) : val_main_v73 (F := Idealize.ShloMosaic.Ideal) x2 i = ((p.shf (i 1) : ℝ) : EReal) :=
  (val_main_v73_apply (F := Idealize.ShloMosaic.Ideal) x2 i).trans (((e_v72 h _)).trans (coe_congr (rfl)))

theorem e_v74 (i : S8192x1024.Idx) : val_main_v74 (F := Idealize.ShloMosaic.Ideal) x0 x2 x3 x4 x5 x6 i = ((modn p.gf p.scf p.shf (Model.x2 p (X (i 0))) (i 1) : ℝ) : EReal) :=
  (val_main_v74_apply (F := Idealize.ShloMosaic.Ideal) x0 x2 x3 x4 x5 x6 i).trans ((add_r (e_v71 h _) (e_v73 h _)).trans (coe_congr (rfl)))

theorem e_v75 (i : S8192x1024.Idx) : val_main_v75 (F := Idealize.ShloMosaic.Ideal) x0 x1 x2 x3 x4 x5 x6 i = ((err p (X (i 0)) (T (i 0)) (i 1) : ℝ) : EReal) :=
  (val_main_v75_apply (F := Idealize.ShloMosaic.Ideal) x0 x1 x2 x3 x4 x5 x6 i).trans ((sub_r (e_v74 h _) (h.ht _)).trans (coe_congr (rfl)))

theorem e_v76 (i : S8192x1024.Idx) : val_main_v76 (F := Idealize.ShloMosaic.Ideal) x0 x1 x2 x3 x4 x5 x6 i = ((err p (X (i 0)) (T (i 0)) (i 1) * err p (X (i 0)) (T (i 0)) (i 1) : ℝ) : EReal) :=
  (val_main_v76_apply (F := Idealize.ShloMosaic.Ideal) x0 x1 x2 x3 x4 x5 x6 i).trans ((mul_r (e_v75 h _) (e_v75 h _)).trans (coe_congr (rfl)))

theorem e_v77 (i : S8192x1024.Idx) : val_main_v77 (F := Idealize.ShloMosaic.Ideal) i = ((2 : ℝ) : EReal) :=
  (val_main_v77_apply (F := Idealize.ShloMosaic.Ideal)  i).trans ((ofBits_two).trans (coe_congr (rfl)))

theorem e_v78 (i : S8192x1024.Idx) : val_main_v78 (F := Idealize.ShloMosaic.Ideal) x0 x1 x2 x3 x4 x5 x6 i = ((2 * err p (X (i 0)) (T (i 0)) (i 1) : ℝ) : EReal) :=
  (val_main_v78_apply (F := Idealize.ShloMosaic.Ideal) x0 x1 x2 x3 x4 x5 x6 i).trans ((mul_r (e_v77 h _) (e_v75 h _)).trans (coe_congr (rfl)))

theorem e_v84 (i : S_.Idx) : val_main_v84 (F := Idealize.ShloMosaic.Ideal) i = ((1 / 2 * 1 : ℝ) : EReal) :=
  (val_main_v84_apply (F := Idealize.ShloMosaic.Ideal)  i).trans ((mul_r ofBits_half ofBits_one).trans (coe_congr (rfl)))

theorem e_v85 (i : S8192.Idx) : val_main_v85 (F := Idealize.ShloMosaic.Ideal) i = ((1 / 2 * 1 : ℝ) : EReal) :=
  (val_main_v85_apply (F := Idealize.ShloMosaic.Ideal)  i).trans (((e_v84 h _)).trans (coe_congr (rfl)))

theorem e_v86 (i : S8192.Idx) : val_main_v86 (F := Idealize.ShloMosaic.Ideal) i = ((1024 : ℝ) : EReal) :=
  (val_main_v86_apply (F := Idealize.ShloMosaic.Ideal)  i).trans ((ofBits_1024).trans (coe_congr (rfl)))

theorem e_v87 (i : S8192.Idx) : val_main_v87 (F := Idealize.ShloMosaic.Ideal) i = ((1 / 2 * 1 / 1024 : ℝ) : EReal) :=
  (val_main_v87_apply (F := Idealize.ShloMosaic.Ideal)  i).trans ((div_r (e_v85 h _) (e_v86 h _) h1024).trans (coe_congr (rfl)))

theorem e_v88 (i : S8192x1024.Idx) : val_main_v88 (F := Idealize.ShloMosaic.Ideal) i = ((1 / 2 * 1 / 1024 : ℝ) : EReal) :=
  (val_main_v88_apply (F := Idealize.ShloMosaic.Ideal)  i).trans (((e_v87 h _)).trans (coe_congr (rfl)))

theorem e_v89 (i : S8192x1024.Idx) : val_main_v89 (F := Idealize.ShloMosaic.Ideal) x0 x1 x2 x3 x4 x5 x6 i = ((dout p (X (i 0)) (T (i 0)) (i 1) : ℝ) : EReal) :=
  (val_main_v89_apply (F := Idealize.ShloMosaic.Ideal) x0 x1 x2 x3 x4 x5 x6 i).trans ((mul_r (e_v88 h _) (e_v78 h _)).trans (coe_congr (by unfold dout; ring)))

theorem e_v90 (i : S1024.Idx) : val_main_v90 (F := Idealize.ShloMosaic.Ideal) x0 x1 x2 x3 x4 x5 x6 i = ((∑ r, dout p (X r) (T r) (i 0) : ℝ) : EReal) :=
  (val_main_v90_apply x0 x1 x2 x3 x4 x5 x6 i).trans ((zsum_r ofBits_zero fun k => (e_v89 h _)).trans (coe_congr (rfl)))

theorem e_v91 (i : S1x1024.Idx) : val_main_v91 (F := Idealize.ShloMosaic.Ideal) x0 x1 x2 x3 x4 x5 x6 i = ((∑ r, dout p (X r) (T r) (i 1) : ℝ) : EReal) :=
  (val_main_v91_apply (F := Idealize.ShloMosaic.Ideal) x0 x1 x2 x3 x4 x5 x6 i).trans (((e_v90 h _)).trans (coe_congr (congrArg (fun c : Fin 1024 => ∑ r, dout p (X r) (T r) c) (Fin.ext (q1 i)))))

theorem e_v92 (i : S1024.Idx) : val_main_v92 (F := Idealize.ShloMosaic.Ideal) x0 x1 x2 x3 x4 x5 x6 i = ((∑ r, dout p (X r) (T r) (i 0) : ℝ) : EReal) :=
  (val_main_v92_apply x0 x1 x2 x3 x4 x5 x6 i).trans ((zsum_r ofBits_zero fun k => (e_v91 h _)).trans (coe_congr (Fin.sum_univ_one _)))

theorem e_v93 (i : S8192x1024.Idx) : val_main_v93 (F := Idealize.ShloMosaic.Ideal) x0 x1 x2 x3 x4 x5 x6 i = ((dout p (X (i 0)) (T (i 0)) (i 1) * nrm (Model.x2 p (X (i 0))) (i 1) * p.gf (i 1) : ℝ) : EReal) :=
  (val_main_v93_apply (F := Idealize.ShloMosaic.Ideal) x0 x1 x2 x3 x4 x5 x6 i).trans ((mul_r (e_v66 h _) (e_v89 h _)).trans (coe_congr (by ring)))

theorem e_v94 (i : S1024.Idx) : val_main_v94 (F := Idealize.ShloMosaic.Ideal) x0 x1 x2 x3 x4 x5 x6 i = ((∑ r, dout p (X r) (T r) (i 0) * nrm (Model.x2 p (X r)) (i 0) * p.gf (i 0) : ℝ) : EReal) :=
  (val_main_v94_apply x0 x1 x2 x3 x4 x5 x6 i).trans ((zsum_r ofBits_zero fun k => (e_v93 h _)).trans (coe_congr (rfl)))

theorem e_v95 (i : S1x1024.Idx) : val_main_v95 (F := Idealize.ShloMosaic.Ideal) x0 x1 x2 x3 x4 x5 x6 i = ((∑ r, dout p (X r) (T r) (i 1) * nrm (Model.x2 p (X r)) (i 1) * p.gf (i 1) : ℝ) : EReal) :=
  (val_main_v95_apply (F := Idealize.ShloMosaic.Ideal) x0 x1 x2 x3 x4 x5 x6 i).trans (((e_v94 h _)).trans (coe_congr (congrArg (fun c : Fin 1024 => ∑ r, dout p (X r) (T r) c * nrm (Model.x2 p (X r)) c * p.gf c) (Fin.ext (q1 i)))))

theorem e_v98 (i : S1024.Idx) : val_main_v98 (F := Idealize.ShloMosaic.Ideal) x0 x1 x2 x3 x4 x5 x6 i = ((∑ r, dout p (X r) (T r) (i 0) * nrm (Model.x2 p (X r)) (i 0) * p.gf (i 0) : ℝ) : EReal) :=
  (val_main_v98_apply x0 x1 x2 x3 x4 x5 x6 i).trans ((zsum_r ofBits_zero fun k => (e_v95 h _)).trans (coe_congr (Fin.sum_univ_one _)))

theorem e_v96 (i : S8192x1024.Idx) : val_main_v96 (F := Idealize.ShloMosaic.Ideal) x2 i = ((1 + p.scf (i 1) : ℝ) : EReal) :=
  (val_main_v96_apply (F := Idealize.ShloMosaic.Ideal) x2 i).trans (((e_v69 h _)).trans (coe_congr (rfl)))

theorem e_v97 (i : S8192x1024.Idx) : val_main_v97 (F := Idealize.ShloMosaic.Ideal) x0 x1 x2 x3 x4 x5 x6 i = ((dout p (X (i 0)) (T (i 0)) (i 1) * (1 + p.scf (i 1)) : ℝ) : EReal) :=
  (val_main_v97_apply (F := Idealize.ShloMosaic.Ideal) x0 x1 x2 x3 x4 x5 x6 i).trans ((mul_r (e_v89 h _) (e_v96 h _)).trans (coe_congr (rfl)))

theorem e_v99 (i : S8192x1024.Idx) : val_main_v99 (F := Idealize.ShloMosaic.Ideal) x0 x1 x2 x3 x4 x5 x6 i = ((dout p (X (i 0)) (T (i 0)) (i 1) * (1 + p.scf (i 1)) * nrm (Model.x2 p (X (i 0))) (i 1) : ℝ) : EReal) :=
  (val_main_v99_apply (F := Idealize.ShloMosaic.Ideal) x0 x1 x2 x3 x4 x5 x6 i).trans ((mul_r (e_v63 h _) (e_v97 h _)).trans (coe_congr (mul_comm _ _)))

theorem e_v100 (i : S1024.Idx) : val_main_v100 (F := Idealize.ShloMosaic.Ideal) x0 x1 x2 x3 x4 x5 x6 i = ((∑ r, dout p (X r) (T r) (i 0) * (1 + p.scf (i 0)) * nrm (Model.x2 p (X r)) (i 0) : ℝ) : EReal) :=
  (val_main_v100_apply x0 x1 x2 x3 x4 x5 x6 i).trans ((zsum_r ofBits_zero fun k => (e_v99 h _)).trans (coe_congr (rfl)))

theorem e_v101 (i : S1x1024.Idx) : val_main_v101 (F := Idealize.ShloMosaic.Ideal) x0 x1 x2 x3 x4 x5 x6 i = ((∑ r, dout p (X r) (T r) (i 1) * (1 + p.scf (i 1)) * nrm (Model.x2 p (X r)) (i 1) : ℝ) : EReal) :=
  (val_main_v101_apply (F := Idealize.ShloMosaic.Ideal) x0 x1 x2 x3 x4 x5 x6 i).trans (((e_v100 h _)).trans (coe_congr (congrArg (fun c : Fin 1024 => ∑ r, dout p (X r) (T r) c * (1 + p.scf c) * nrm (Model.x2 p (X r)) c) (Fin.ext (q1 i)))))

theorem e_v104 (i : S1024.Idx) : val_main_v104 (F := Idealize.ShloMosaic.Ideal) x0 x1 x2 x3 x4 x5 x6 i = ((∑ r, dout p (X r) (T r) (i 0) * (1 + p.scf (i 0)) * nrm (Model.x2 p (X r)) (i 0) : ℝ) : EReal) :=
  (val_main_v104_apply x0 x1 x2 x3 x4 x5 x6 i).trans ((zsum_r ofBits_zero fun k => (e_v101 h _)).trans (coe_congr (Fin.sum_univ_one _)))

theorem e_v102 (i : S8192x1024.Idx) : val_main_v102 (F := Idealize.ShloMosaic.Ideal) x4 i = ((p.gf (i 1) : ℝ) : EReal) :=
  (val_main_v102_apply (F := Idealize.ShloMosaic.Ideal) x4 i).trans (((e_v64 h _)).trans (coe_congr (rfl)))

theorem e_v103 (i : S8192x1024.Idx) : val_main_v103 (F := Idealize.ShloMosaic.Ideal) x0 x1 x2 x3 x4 x5 x6 i = ((dxnf p (X (i 0)) (T (i 0)) (i 1) : ℝ) : EReal) :=
  (val_main_v103_apply (F := Idealize.ShloMosaic.Ideal) x0 x1 x2 x3 x4 x5 x6 i).trans ((mul_r (e_v97 h _) (e_v102 h _)).trans (coe_congr (rfl)))

theorem e_v105 (i : S8192x1024.Idx) : val_main_v105 (F := Idealize.ShloMosaic.Ideal) x0 x1 x2 x3 x4 x5 x6 i = (((Model.x2 p (X (i 0))) (i 1) * (dxnf p (X (i 0)) (T (i 0))) (i 1) : ℝ) : EReal) :=
  (val_main_v105_apply (F := Idealize.ShloMosaic.Ideal) x0 x1 x2 x3 x4 x5 x6 i).trans ((mul_r (e_v50 h _) (e_v103 h _)).trans (coe_congr (rfl)))

theorem e_v106 (i : S8192.Idx) : val_main_v106 (F := Idealize.ShloMosaic.Ideal) x0 x1 x2 x3 x4 x5 x6 i = (((∑ k, (Model.x2 p (X (i 0))) k * (dxnf p (X (i 0)) (T (i 0))) k) : ℝ) : EReal) :=
  (val_main_v106_apply x0 x1 x2 x3 x4 x5 x6 i).trans ((zsum_r ofBits_zero fun k => (e_v105 h _)).trans (coe_congr (rfl)))

theorem e_v107 (i : S8192x1.Idx) : val_main_v107 (F := Idealize.ShloMosaic.Ideal) x0 x1 x2 x3 x4 x5 x6 i = (((∑ k, (Model.x2 p (X (i 0))) k * (dxnf p (X (i 0)) (T (i 0))) k) : ℝ) : EReal) :=
  (val_main_v107_apply (F := Idealize.ShloMosaic.Ideal) x0 x1 x2 x3 x4 x5 x6 i).trans (((e_v106 h _)).trans (coe_congr (congrArg (fun q : Fin 8192 => (∑ k, (Model.x2 p (X q)) k * (dxnf p (X q) (T q)) k)) (Fin.ext (q2 i)))))

theorem e_v108 (i : S8192x1024.Idx) : val_main_v108 (F := Idealize.ShloMosaic.Ideal) x0 x2 x3 x5 x6 i = ((rs (Model.x2 p (X (i 0))) : ℝ) : EReal) :=
  (val_main_v108_apply (F := Idealize.ShloMosaic.Ideal) x0 x2 x3 x5 x6 i).trans (((e_v58 h _)).trans (coe_congr (rfl)))

theorem e_v109 (i : S8192x1024.Idx) : val_main_v109 (F := Idealize.ShloMosaic.Ideal) x0 x1 x2 x3 x4 x5 x6 i = (((dxnf p (X (i 0)) (T (i 0))) (i 1) * rs (Model.x2 p (X (i 0))) : ℝ) : EReal) :=
  (val_main_v109_apply (F := Idealize.ShloMosaic.Ideal) x0 x1 x2 x3 x4 x5 x6 i).trans ((mul_r (e_v103 h _) (e_v108 h _)).trans (coe_congr (rfl)))

theorem e_v110 (i : S8192x1.Idx) : val_main_v110 (F := Idealize.ShloMosaic.Ideal) x0 x1 x2 x3 x4 x5 x6 i = (((∑ k, (Model.x2 p (X (i 0))) k * (dxnf p (X (i 0)) (T (i 0))) k) * (-(1 / 2) * (rs (Model.x2 p (X (i 0))) / ((∑ k, (Model.x2 p (X (i 0))) k * (Model.x2 p (X (i 0))) k) / 1024 + eps))) : ℝ) : EReal) :=
  (val_main_v110_apply (F := Idealize.ShloMosaic.Ideal) x0 x1 x2 x3 x4 x5 x6 i).trans ((mul_r (e_v107 h _) (e_v61 h _)).trans (coe_congr (rfl)))

theorem e_v111 (i : S8192x1.Idx) : val_main_v111 (F := Idealize.ShloMosaic.Ideal) i = ((1024 : ℝ) : EReal) :=
  (val_main_v111_apply (F := Idealize.ShloMosaic.Ideal)  i).trans ((ofBits_1024).trans (coe_congr (rfl)))

theorem e_v112 (i : S8192x1.Idx) : val_main_v112 (F := Idealize.ShloMosaic.Ideal) x0 x1 x2 x3 x4 x5 x6 i = (((∑ k, (Model.x2 p (X (i 0))) k * (dxnf p (X (i 0)) (T (i 0))) k) * (-(1 / 2) * (rs (Model.x2 p (X (i 0))) / ((∑ k, (Model.x2 p (X (i 0))) k * (Model.x2 p (X (i 0))) k) / 1024 + eps))) / 1024 : ℝ) : EReal) :=
  (val_main_v112_apply (F := Idealize.ShloMosaic.Ideal) x0 x1 x2 x3 x4 x5 x6 i).trans ((div_r (e_v110 h _) (e_v111 h _) h1024).trans (coe_congr (rfl)))

theorem e_v113 (i : S8192.Idx) : val_main_v113 (F := Idealize.ShloMosaic.Ideal) x0 x1 x2 x3 x4 x5 x6 i = (((∑ k, (Model.x2 p (X (i 0))) k * (dxnf p (X (i 0)) (T (i 0))) k) * (-(1 / 2) * (rs (Model.x2 p (X (i 0))) / ((∑ k, (Model.x2 p (X (i 0))) k * (Model.x2 p (X (i 0))) k) / 1024 + eps))) / 1024 : ℝ) : EReal) :=
  (val_main_v113_apply x0 x1 x2 x3 x4 x5 x6 i).trans ((zsum_r ofBits_zero fun k => (e_v112 h _)).trans (coe_congr (Fin.sum_univ_one _)))

theorem e_v114 (i : S8192x1024.Idx) : val_main_v114 (F := Idealize.ShloMosaic.Ideal) x0 x1 x2 x3 x4 x5 x6 i = (((∑ k, (Model.x2 p (X (i 0))) k * (dxnf p (X (i 0)) (T (i 0))) k) * (-(1 / 2) * (rs (Model.x2 p (X (i 0))) / ((∑ k, (Model.x2 p (X (i 0))) k * (Model.x2 p (X (i 0))) k) / 1024 + eps))) / 1024 : ℝ) : EReal) :=
  (val_main_v114_apply (F := Idealize.ShloMosaic.Ideal) x0 x1 x2 x3 x4 x5 x6 i).trans (((e_v113 h _)).trans (coe_congr (rfl)))

theorem e_v115 (i : S8192x1024.Idx) : val_main_v115 (F := Idealize.ShloMosaic.Ideal) x0 x1 x2 x3 x4 x5 x6 i = (((Model.x2 p (X (i 0))) (i 1) * ((∑ k, (Model.x2 p (X (i 0))) k * (dxnf p (X (i 0)) (T (i 0))) k) * (-(1 / 2) * (rs (Model.x2 p (X (i 0))) / ((∑ k, (Model.x2 p (X (i 0))) k * (Model.x2 p (X (i 0))) k) / 1024 + eps))) / 1024) : ℝ) : EReal) :=
  (val_main_v115_apply (F := Idealize.ShloMosaic.Ideal) x0 x1 x2 x3 x4 x5 x6 i).trans ((mul_r (e_v50 h _) (e_v114 h _)).trans (coe_congr (rfl)))

theorem e_v116 (i : S8192x1024.Idx) : val_main_v116 (F := Idealize.ShloMosaic.Ideal) x0 x1 x2 x3 x4 x5 x6 i = (((dxnf p (X (i 0)) (T (i 0))) (i 1) * rs (Model.x2 p (X (i 0))) + (Model.x2 p (X (i 0))) (i 1) * ((∑ k, (Model.x2 p (X (i 0))) k * (dxnf p (X (i 0)) (T (i 0))) k) * (-(1 / 2) * (rs (Model.x2 p (X (i 0))) / ((∑ k, (Model.x2 p (X (i 0))) k * (Model.x2 p (X (i 0))) k) / 1024 + eps))) / 1024) : ℝ) : EReal) :=
  (val_main_v116_apply (F := Idealize.ShloMosaic.Ideal) x0 x1 x2 x3 x4 x5 x6 i).trans ((add_r (e_v109 h _) (e_v115 h _)).trans (coe_congr (rfl)))

theorem e_v117 (i : S8192x1024.Idx) : val_main_v117 (F := Idealize.ShloMosaic.Ideal) x0 x1 x2 x3 x4 x5 x6 i = (((∑ k, (Model.x2 p (X (i 0))) k * (dxnf p (X (i 0)) (T (i 0))) k) * (-(1 / 2) * (rs (Model.x2 p (X (i 0))) / ((∑ k, (Model.x2 p (X (i 0))) k * (Model.x2 p (X (i 0))) k) / 1024 + eps))) / 1024 * (Model.x2 p (X (i 0))) (i 1) : ℝ) : EReal) :=
  (val_main_v117_apply (F := Idealize.ShloMosaic.Ideal) x0 x1 x2 x3 x4 x5 x6 i).trans ((mul_r (e_v114 h _) (e_v50 h _)).trans (coe_congr (rfl)))

theorem e_v118 (i : S8192x1024.Idx) : val_main_v118 (F := Idealize.ShloMosaic.Ideal) x0 x1 x2 x3 x4 x5 x6 i = ((dx2 p (X (i 0)) (T (i 0)) (i 1) : ℝ) : EReal) :=
  (val_main_v118_apply (F := Idealize.ShloMosaic.Ideal) x0 x1 x2 x3 x4 x5 x6 i).trans ((add_r (e_v116 h _) (e_v117 h _)).trans (coe_congr (nback_chain _ _ _)))

theorem e_v119 (i : S8192x1024.Idx) : val_main_v119 (F := Idealize.ShloMosaic.Ideal) x2 i = ((p.gate (i 1) : ℝ) : EReal) :=
  (val_main_v119_apply (F := Idealize.ShloMosaic.Ideal) x2 i).trans (((e_v47 h _)).trans (coe_congr (rfl)))

theorem e_v120 (i : S8192x1024.Idx) : val_main_v120 (F := Idealize.ShloMosaic.Ideal) x0 x1 x2 x3 x4 x5 x6 i = ((dff p (X (i 0)) (T (i 0)) (i 1) : ℝ) : EReal) :=
  (val_main_v120_apply (F := Idealize.ShloMosaic.Ideal) x0 x1 x2 x3 x4 x5 x6 i).trans ((mul_r (e_v119 h _) (e_v118 h _)).trans (coe_congr (mul_comm _ _)))

theorem e_v121 (i : S8192x1024.Idx) : val_main_v121 (F := Idealize.ShloMosaic.Ideal) x0 x1 x2 x3 x4 x5 x6 i = ((dx2 p (X (i 0)) (T (i 0)) (i 1) * ff p (X (i 0)) (i 1) : ℝ) : EReal) :=
  (val_main_v121_apply (F := Idealize.ShloMosaic.Ideal) x0 x1 x2 x3 x4 x5 x6 i).trans ((mul_r (e_v118 h _) (e_v46 h _)).trans (coe_congr (rfl)))

theorem e_v122 (i : S1024.Idx) : val_main_v122 (F := Idealize.ShloMosaic.Ideal) x0 x1 x2 x3 x4 x5 x6 i = ((∑ r, dx2 p (X r) (T r) (i 0) * ff p (X r) (i 0) : ℝ) : EReal) :=
  (val_main_v122_apply x0 x1 x2 x3 x4 x5 x6 i).trans ((zsum_r ofBits_zero fun k => (e_v121 h _)).trans (coe_congr (rfl)))

theorem e_v123 (i : S1x1024.Idx) : val_main_v123 (F := Idealize.ShloMosaic.Ideal) x0 x1 x2 x3 x4 x5 x6 i = ((∑ r, dx2 p (X r) (T r) (i 1) * ff p (X r) (i 1) : ℝ) : EReal) :=
  (val_main_v123_apply (F := Idealize.ShloMosaic.Ideal) x0 x1 x2 x3 x4 x5 x6 i).trans (((e_v122 h _)).trans (coe_congr (congrArg (fun c : Fin 1024 => ∑ r, dx2 p (X r) (T r) c * ff p (X r) c) (Fin.ext (q1 i)))))

theorem e_v124 (i : S1024.Idx) : val_main_v124 (F := Idealize.ShloMosaic.Ideal) x0 x1 x2 x3 x4 x5 x6 i = ((∑ r, dx2 p (X r) (T r) (i 0) * ff p (X r) (i 0) : ℝ) : EReal) :=
  (val_main_v124_apply x0 x1 x2 x3 x4 x5 x6 i).trans ((zsum_r ofBits_zero fun k => (e_v123 h _)).trans (coe_congr (Fin.sum_univ_one _)))

theorem e_v125 (i : S1024x2816.Idx) : val_main_v125 (F := Idealize.ShloMosaic.Ideal) x6 i = ((p.wo (i 1) (i 0) : ℝ) : EReal) :=
  (val_main_v125_apply (F := Idealize.ShloMosaic.Ideal) x6 i).trans (((h.hwo _)).trans (coe_congr (rfl)))

theorem e_v126 (i : S8192x2816.Idx) : val_main_v126 (F := Idealize.ShloMosaic.Ideal) x0 x1 x2 x3 x4 x5 x6 i = ((dact p (X (i 0)) (T (i 0)) (i 1) : ℝ) : EReal) :=
  (val_main_v126_apply x0 x1 x2 x3 x4 x5 x6 i).trans ((dot_r (fun k => (e_v120 h _)) (fun k => (e_v125 h _))).trans (coe_congr (rfl)))

theorem e_v127 (i : S8192x2816.Idx) : val_main_v127 (F := Idealize.ShloMosaic.Ideal) x0 x1 x2 x3 x4 x5 x6 i = ((du p (X (i 0)) (T (i 0)) (i 1) : ℝ) : EReal) :=
  (val_main_v127_apply (F := Idealize.ShloMosaic.Ideal) x0 x1 x2 x3 x4 x5 x6 i).trans ((mul_r (e_v44_0 h _) (e_v126 h _)).trans (coe_congr (mul_comm _ _)))

theorem e_v128 (i : S8192x2816.Idx) : val_main_v128 (F := Idealize.ShloMosaic.Ideal) x0 x1 x2 x3 x4 x5 x6 i = ((dact p (X (i 0)) (T (i 0)) (i 1) * zu p (X (i 0)) (i 1) : ℝ) : EReal) :=
  (val_main_v128_apply (F := Idealize.ShloMosaic.Ideal) x0 x1 x2 x3 x4 x5 x6 i).trans ((mul_r (e_v126 h _) (e_v43 h _)).trans (coe_congr (rfl)))

theorem e_call1_v0 (i : S8192x2816.Idx) : val_main_call1_v0 (F := Idealize.ShloMosaic.Ideal) x0 x1 x2 x3 x4 x5 x6 i = ((zg p (X (i 0)) (i 1) * (dact p (X (i 0)) (T (i 0)) (i 1) * zu p (X (i 0)) (i 1)) : ℝ) : EReal) :=
  (val_main_call1_v0_apply (F := Idealize.ShloMosaic.Ideal) x0 x1 x2 x3 x4 x5 x6 i).trans ((mul_r (e_v42 h _) (e_v128 h _)).trans (coe_congr (rfl)))

theorem e_call1_v1 (i : S8192x2816.Idx) : val_main_call1_v1 (F := Idealize.ShloMosaic.Ideal) x0 x1 x2 x3 x4 x5 x6 i = ((dact p (X (i 0)) (T (i 0)) (i 1) * zu p (X (i 0)) (i 1) * sig (zg p (X (i 0)) (i 1)) : ℝ) : EReal) :=
  (val_main_call1_v1_apply (F := Idealize.ShloMosaic.Ideal) x0 x1 x2 x3 x4 x5 x6 i).trans ((mul_r (e_v128 h _) (e_v44_2 h _)).trans (coe_congr (rfl)))

theorem e_call1_v2 (i : S8192x2816.Idx) : val_main_call1_v2 (F := Idealize.ShloMosaic.Ideal) x0 x1 x2 x3 x4 x5 x6 i = ((zg p (X (i 0)) (i 1) * (dact p (X (i 0)) (T (i 0)) (i 1) * zu p (X (i 0)) (i 1)) * (sig (zg p (X (i 0)) (i 1)) * (1 - sig (zg p (X (i 0)) (i 1)))) : ℝ) : EReal) :=
  (val_main_call1_v2_apply (F := Idealize.ShloMosaic.Ideal) x0 x1 x2 x3 x4 x5 x6 i).trans ((mul_r (e_call1_v0 h _) (e_v44_1 h _)).trans (coe_congr (rfl)))

theorem e_v129 (i : S8192x2816.Idx) : val_main_v129 (F := Idealize.ShloMosaic.Ideal) x0 x1 x2 x3 x4 x5 x6 i = ((dg p (X (i 0)) (T (i 0)) (i 1) : ℝ) : EReal) :=
  (val_main_v129_apply (F := Idealize.ShloMosaic.Ideal) x0 x1 x2 x3 x4 x5 x6 i).trans ((add_r (e_call1_v1 h _) (e_call1_v2 h _)).trans (coe_congr (by unfold dg; ring)))

theorem e_v130 (i : S8192x5632.Idx) : val_main_v130 (F := Idealize.ShloMosaic.Ideal) x0 x1 x2 x3 x4 x5 x6 i = ((dz p (X (i 0)) (T (i 0)) (i 1) : ℝ) : EReal) :=
  by
  refine (concatenate_pair_apply 1 _ _ concatenates_S8192x2816_S8192x2816_S8192x5632_d1 i).trans ?_
  by_cases hlt : (i 1).val < 2816
  · exact (dif_pos hlt).trans ((e_v129 h _).trans (coe_congr (dif_pos (c := (i 1).val < 2816)
      (t := fun hl => dg p (X (i 0)) (T (i 0)) ⟨(i 1).val, hl⟩)
      (e := fun _ => du p (X (i 0)) (T (i 0)) ⟨(i 1).val - 2816, by have h1 : (i 1).val < 5632 := (i 1).isLt; omega⟩) hlt).symm))
  · exact (dif_neg hlt).trans ((e_v127 h _).trans (coe_congr (dif_neg (c := (i 1).val < 2816)
      (t := fun hl => dg p (X (i 0)) (T (i 0)) ⟨(i 1).val, hl⟩)
      (e := fun _ => du p (X (i 0)) (T (i 0)) ⟨(i 1).val - 2816, by have h1 : (i 1).val < 5632 := (i 1).isLt; omega⟩) hlt).symm))

theorem e_v131 (i : S5632x1024.Idx) : val_main_v131 (F := Idealize.ShloMosaic.Ideal) x5 i = ((p.wi (i 1) (i 0) : ℝ) : EReal) :=
  (val_main_v131_apply (F := Idealize.ShloMosaic.Ideal) x5 i).trans (((h.hwi _)).trans (coe_congr (rfl)))

theorem e_v132 (i : S8192x1024.Idx) : val_main_v132 (F := Idealize.ShloMosaic.Ideal) x0 x1 x2 x3 x4 x5 x6 i = ((dh2 p (X (i 0)) (T (i 0)) (i 1) : ℝ) : EReal) :=
  (val_main_v132_apply x0 x1 x2 x3 x4 x5 x6 i).trans ((dot_r (fun k => (e_v130 h _)) (fun k => (e_v131 h _))).trans (coe_congr (rfl)))

theorem e_v133 (i : S1024.Idx) : val_main_v133 (F := Idealize.ShloMosaic.Ideal) x0 x1 x2 x3 x4 x5 x6 i = ((∑ r, dh2 p (X r) (T r) (i 0) : ℝ) : EReal) :=
  (val_main_v133_apply x0 x1 x2 x3 x4 x5 x6 i).trans ((zsum_r ofBits_zero fun k => (e_v132 h _)).trans (coe_congr (rfl)))

theorem e_v134 (i : S1x1024.Idx) : val_main_v134 (F := Idealize.ShloMosaic.Ideal) x0 x1 x2 x3 x4 x5 x6 i = ((∑ r, dh2 p (X r) (T r) (i 1) : ℝ) : EReal) :=
  (val_main_v134_apply (F := Idealize.ShloMosaic.Ideal) x0 x1 x2 x3 x4 x5 x6 i).trans (((e_v133 h _)).trans (coe_congr (congrArg (fun c : Fin 1024 => ∑ r, dh2 p (X r) (T r) c) (Fin.ext (q1 i)))))

theorem e_v135 (i : S1024.Idx) : val_main_v135 (F := Idealize.ShloMosaic.Ideal) x0 x1 x2 x3 x4 x5 x6 i = ((∑ r, dh2 p (X r) (T r) (i 0) : ℝ) : EReal) :=
  (val_main_v135_apply x0 x1 x2 x3 x4 x5 x6 i).trans ((zsum_r ofBits_zero fun k => (e_v134 h _)).trans (coe_congr (Fin.sum_univ_one _)))

theorem e_v136 (i : S8192x1024.Idx) : val_main_v136 (F := Idealize.ShloMosaic.Ideal) x0 x1 x2 x3 x4 x5 x6 i = ((dh2 p (X (i 0)) (T (i 0)) (i 1) * nrm (X (i 0)) (i 1) * p.g2 (i 1) : ℝ) : EReal) :=
  (val_main_v136_apply (F := Idealize.ShloMosaic.Ideal) x0 x1 x2 x3 x4 x5 x6 i).trans ((mul_r (e_v32 h _) (e_v132 h _)).trans (coe_congr (by ring)))

theorem e_v137 (i : S1024.Idx) : val_main_v137 (F := Idealize.ShloMosaic.Ideal) x0 x1 x2 x3 x4 x5 x6 i = ((∑ r, dh2 p (X r) (T r) (i 0) * nrm (X r) (i 0) * p.g2 (i 0) : ℝ) : EReal) :=
  (val_main_v137_apply x0 x1 x2 x3 x4 x5 x6 i).trans ((zsum_r ofBits_zero fun k => (e_v136 h _)).trans (coe_congr (rfl)))

theorem e_v138 (i : S1x1024.Idx) : val_main_v138 (F := Idealize.ShloMosaic.Ideal) x0 x1 x2 x3 x4 x5 x6 i = ((∑ r, dh2 p (X r) (T r) (i 1) * nrm (X r) (i 1) * p.g2 (i 1) : ℝ) : EReal) :=
  (val_main_v138_apply (F := Idealize.ShloMosaic.Ideal) x0 x1 x2 x3 x4 x5 x6 i).trans (((e_v137 h _)).trans (coe_congr (congrArg (fun c : Fin 1024 => ∑ r, dh2 p (X r) (T r) c * nrm (X r) c * p.g2 c) (Fin.ext (q1 i)))))

theorem e_v141 (i : S1024.Idx) : val_main_v141 (F := Idealize.ShloMosaic.Ideal) x0 x1 x2 x3 x4 x5 x6 i = ((∑ r, dh2 p (X r) (T r) (i 0) * nrm (X r) (i 0) * p.g2 (i 0) : ℝ) : EReal) :=
  (val_main_v141_apply x0 x1 x2 x3 x4 x5 x6 i).trans ((zsum_r ofBits_zero fun k => (e_v138 h _)).trans (coe_congr (Fin.sum_univ_one _)))

theorem e_v139 (i : S8192x1024.Idx) : val_main_v139 (F := Idealize.ShloMosaic.Ideal) x2 i = ((1 + p.sc2 (i 1) : ℝ) : EReal) :=
  (val_main_v139_apply (F := Idealize.ShloMosaic.Ideal) x2 i).trans (((e_v35 h _)).trans (coe_congr (rfl)))

theorem e_v140 (i : S8192x1024.Idx) : val_main_v140 (F := Idealize.ShloMosaic.Ideal) x0 x1 x2 x3 x4 x5 x6 i = ((dh2 p (X (i 0)) (T (i 0)) (i 1) * (1 + p.sc2 (i 1)) : ℝ) : EReal) :=
  (val_main_v140_apply (F := Idealize.ShloMosaic.Ideal) x0 x1 x2 x3 x4 x5 x6 i).trans ((mul_r (e_v132 h _) (e_v139 h _)).trans (coe_congr (rfl)))

theorem e_v142 (i : S8192x1024.Idx) : val_main_v142 (F := Idealize.ShloMosaic.Ideal) x0 x1 x2 x3 x4 x5 x6 i = ((dh2 p (X (i 0)) (T (i 0)) (i 1) * (1 + p.sc2 (i 1)) * nrm (X (i 0)) (i 1) : ℝ) : EReal) :=
  (val_main_v142_apply (F := Idealize.ShloMosaic.Ideal) x0 x1 x2 x3 x4 x5 x6 i).trans ((mul_r (e_v29 h _) (e_v140 h _)).trans (coe_congr (mul_comm _ _)))

theorem e_v143 (i : S1024.Idx) : val_main_v143 (F := Idealize.ShloMosaic.Ideal) x0 x1 x2 x3 x4 x5 x6 i = ((∑ r, dh2 p (X r) (T r) (i 0) * (1 + p.sc2 (i 0)) * nrm (X r) (i 0) : ℝ) : EReal) :=
  (val_main_v143_apply x0 x1 x2 x3 x4 x5 x6 i).trans ((zsum_r ofBits_zero fun k => (e_v142 h _)).trans (coe_congr (rfl)))

theorem e_v144 (i : S1x1024.Idx) : val_main_v144 (F := Idealize.ShloMosaic.Ideal) x0 x1 x2 x3 x4 x5 x6 i = ((∑ r, dh2 p (X r) (T r) (i 1) * (1 + p.sc2 (i 1)) * nrm (X r) (i 1) : ℝ) : EReal) :=
  (val_main_v144_apply (F := Idealize.ShloMosaic.Ideal) x0 x1 x2 x3 x4 x5 x6 i).trans (((e_v143 h _)).trans (coe_congr (congrArg (fun c : Fin 1024 => ∑ r, dh2 p (X r) (T r) c * (1 + p.sc2 c) * nrm (X r) c) (Fin.ext (q1 i)))))

theorem e_v147 (i : S1024.Idx) : val_main_v147 (F := Idealize.ShloMosaic.Ideal) x0 x1 x2 x3 x4 x5 x6 i = ((∑ r, dh2 p (X r) (T r) (i 0) * (1 + p.sc2 (i 0)) * nrm (X r) (i 0) : ℝ) : EReal) :=
  (val_main_v147_apply x0 x1 x2 x3 x4 x5 x6 i).trans ((zsum_r ofBits_zero fun k => (e_v144 h _)).trans (coe_congr (Fin.sum_univ_one _)))

theorem e_v145 (i : S8192x1024.Idx) : val_main_v145 (F := Idealize.ShloMosaic.Ideal) x3 i = ((p.g2 (i 1) : ℝ) : EReal) :=
  (val_main_v145_apply (F := Idealize.ShloMosaic.Ideal) x3 i).trans (((e_v30 h _)).trans (coe_congr (rfl)))

theorem e_v146 (i : S8192x1024.Idx) : val_main_v146 (F := Idealize.ShloMosaic.Ideal) x0 x1 x2 x3 x4 x5 x6 i = ((dxn2 p (X (i 0)) (T (i 0)) (i 1) : ℝ) : EReal) :=
  (val_main_v146_apply (F := Idealize.ShloMosaic.Ideal) x0 x1 x2 x3 x4 x5 x6 i).trans ((mul_r (e_v140 h _) (e_v145 h _)).trans (coe_congr (rfl)))

theorem e_v148 (i : S8192x1024.Idx) : val_main_v148 (F := Idealize.ShloMosaic.Ideal) x0 x1 x2 x3 x4 x5 x6 i = (((X (i 0)) (i 1) * (dxn2 p (X (i 0)) (T (i 0))) (i 1) : ℝ) : EReal) :=
  (val_main_v148_apply (F := Idealize.ShloMosaic.Ideal) x0 x1 x2 x3 x4 x5 x6 i).trans ((mul_r (h.hx _) (e_v146 h _)).trans (coe_congr (rfl)))

theorem e_v149 (i : S8192.Idx) : val_main_v149 (F := Idealize.ShloMosaic.Ideal) x0 x1 x2 x3 x4 x5 x6 i = (((∑ k, (X (i 0)) k * (dxn2 p (X (i 0)) (T (i 0))) k) : ℝ) : EReal) :=
  (val_main_v149_apply x0 x1 x2 x3 x4 x5 x6 i).trans ((zsum_r ofBits_zero fun k => (e_v148 h _)).trans (coe_congr (rfl)))

theorem e_v150 (i : S8192x1.Idx) : val_main_v150 (F := Idealize.ShloMosaic.Ideal) x0 x1 x2 x3 x4 x5 x6 i = (((∑ k, (X (i 0)) k * (dxn2 p (X (i 0)) (T (i 0))) k) : ℝ) : EReal) :=
  (val_main_v150_apply (F := Idealize.ShloMosaic.Ideal) x0 x1 x2 x3 x4 x5 x6 i).trans (((e_v149 h _)).trans (coe_congr (congrArg (fun q : Fin 8192 => (∑ k, (X q) k * (dxn2 p (X q) (T q)) k)) (Fin.ext (q2 i)))))

theorem e_v151 (i : S8192x1024.Idx) : val_main_v151 (F := Idealize.ShloMosaic.Ideal) x0 i = ((rs (X (i 0)) : ℝ) : EReal) :=
  (val_main_v151_apply (F := Idealize.ShloMosaic.Ideal) x0 i).trans (((e_v24 h _)).trans (coe_congr (rfl)))

theorem e_v152 (i : S8192x1024.Idx) : val_main_v152 (F := Idealize.ShloMosaic.Ideal) x0 x1 x2 x3 x4 x5 x6 i = (((dxn2 p (X (i 0)) (T (i 0))) (i 1) * rs (X (i 0)) : ℝ) : EReal) :=
  (val_main_v152_apply (F := Idealize.ShloMosaic.Ideal) x0 x1 x2 x3 x4 x5 x6 i).trans ((mul_r (e_v146 h _) (e_v151 h _)).trans (coe_congr (rfl)))

theorem e_v153 (i : S8192x1.Idx) : val_main_v153 (F := Idealize.ShloMosaic.Ideal) x0 x1 x2 x3 x4 x5 x6 i = (((∑ k, (X (i 0)) k * (dxn2 p (X (i 0)) (T (i 0))) k) * (-(1 / 2) * (rs (X (i 0)) / ((∑ k, (X (i 0)) k * (X (i 0)) k) / 1024 + eps))) : ℝ) : EReal) :=
  (val_main_v153_apply (F := Idealize.ShloMosaic.Ideal) x0 x1 x2 x3 x4 x5 x6 i).trans ((mul_r (e_v150 h _) (e_v27 h _)).trans (coe_congr (rfl)))

theorem e_v154 (i : S8192x1.Idx) : val_main_v154 (F := Idealize.ShloMosaic.Ideal) i = ((1024 : ℝ) : EReal) :=
  (val_main_v154_apply (F := Idealize.ShloMosaic.Ideal)  i).trans ((ofBits_1024).trans (coe_congr (rfl)))

theorem e_v155 (i : S8192x1.Idx) : val_main_v155 (F := Idealize.ShloMosaic.Ideal) x0 x1 x2 x3 x4 x5 x6 i = (((∑ k, (X (i 0)) k * (dxn2 p (X (i 0)) (T (i 0))) k) * (-(1 / 2) * (rs (X (i 0)) / ((∑ k, (X (i 0)) k * (X (i 0)) k) / 1024 + eps))) / 1024 : ℝ) : EReal) :=
  (val_main_v155_apply (F := Idealize.ShloMosaic.Ideal) x0 x1 x2 x3 x4 x5 x6 i).trans ((div_r (e_v153 h _) (e_v154 h _) h1024).trans (coe_congr (rfl)))

theorem e_v156 (i : S8192.Idx) : val_main_v156 (F := Idealize.ShloMosaic.Ideal) x0 x1 x2 x3 x4 x5 x6 i = (((∑ k, (X (i 0)) k * (dxn2 p (X (i 0)) (T (i 0))) k) * (-(1 / 2) * (rs (X (i 0)) / ((∑ k, (X (i 0)) k * (X (i 0)) k) / 1024 + eps))) / 1024 : ℝ) : EReal) :=
  (val_main_v156_apply x0 x1 x2 x3 x4 x5 x6 i).trans ((zsum_r ofBits_zero fun k => (e_v155 h _)).trans (coe_congr (Fin.sum_univ_one _)))

theorem e_v157 (i : S8192x1024.Idx) : val_main_v157 (F := Idealize.ShloMosaic.Ideal) x0 x1 x2 x3 x4 x5 x6 i = (((∑ k, (X (i 0)) k * (dxn2 p (X (i 0)) (T (i 0))) k) * (-(1 / 2) * (rs (X (i 0)) / ((∑ k, (X (i 0)) k * (X (i 0)) k) / 1024 + eps))) / 1024 : ℝ) : EReal) :=
  (val_main_v157_apply (F := Idealize.ShloMosaic.Ideal) x0 x1 x2 x3 x4 x5 x6 i).trans (((e_v156 h _)).trans (coe_congr (rfl)))

theorem e_v158 (i : S8192x1024.Idx) : val_main_v158 (F := Idealize.ShloMosaic.Ideal) x0 x1 x2 x3 x4 x5 x6 i = (((X (i 0)) (i 1) * ((∑ k, (X (i 0)) k * (dxn2 p (X (i 0)) (T (i 0))) k) * (-(1 / 2) * (rs (X (i 0)) / ((∑ k, (X (i 0)) k * (X (i 0)) k) / 1024 + eps))) / 1024) : ℝ) : EReal) :=
  (val_main_v158_apply (F := Idealize.ShloMosaic.Ideal) x0 x1 x2 x3 x4 x5 x6 i).trans ((mul_r (h.hx _) (e_v157 h _)).trans (coe_congr (rfl)))

theorem e_v159 (i : S8192x1024.Idx) : val_main_v159 (F := Idealize.ShloMosaic.Ideal) x0 x1 x2 x3 x4 x5 x6 i = (((dxn2 p (X (i 0)) (T (i 0))) (i 1) * rs (X (i 0)) + (X (i 0)) (i 1) * ((∑ k, (X (i 0)) k * (dxn2 p (X (i 0)) (T (i 0))) k) * (-(1 / 2) * (rs (X (i 0)) / ((∑ k, (X (i 0)) k * (X (i 0)) k) / 1024 + eps))) / 1024) : ℝ) : EReal) :=
  (val_main_v159_apply (F := Idealize.ShloMosaic.Ideal) x0 x1 x2 x3 x4 x5 x6 i).trans ((add_r (e_v152 h _) (e_v158 h _)).trans (coe_congr (rfl)))

theorem e_v160 (i : S8192x1024.Idx) : val_main_v160 (F := Idealize.ShloMosaic.Ideal) x0 x1 x2 x3 x4 x5 x6 i = (((∑ k, (X (i 0)) k * (dxn2 p (X (i 0)) (T (i 0))) k) * (-(1 / 2) * (rs (X (i 0)) / ((∑ k, (X (i 0)) k * (X (i 0)) k) / 1024 + eps))) / 1024 * (X (i 0)) (i 1) : ℝ) : EReal) :=
  (val_main_v160_apply (F := Idealize.ShloMosaic.Ideal) x0 x1 x2 x3 x4 x5 x6 i).trans ((mul_r (e_v157 h _) (h.hx _)).trans (coe_congr (rfl)))

theorem e_v161 (i : S8192x1024.Idx) : val_main_v161 (F := Idealize.ShloMosaic.Ideal) x0 x1 x2 x3 x4 x5 x6 i = ((nback (X (i 0)) (dxn2 p (X (i 0)) (T (i 0))) (i 1) : ℝ) : EReal) :=
  (val_main_v161_apply (F := Idealize.ShloMosaic.Ideal) x0 x1 x2 x3 x4 x5 x6 i).trans ((add_r (e_v159 h _) (e_v160 h _)).trans (coe_congr (nback_chain _ _ _)))

theorem e_v162 (i : S1024.Idx) : val_main_v162 (F := Idealize.ShloMosaic.Ideal) x0 x1 x2 x3 x4 x5 x6 i = ((∑ r, err p (X r) (T r) (i 0) * err p (X r) (T r) (i 0) : ℝ) : EReal) :=
  (val_main_v162_apply x0 x1 x2 x3 x4 x5 x6 i).trans ((zsum_r ofBits_zero fun k => (e_v76 h _)).trans (coe_congr (rfl)))

theorem e_v163 (i : S1x1024.Idx) : val_main_v163 (F := Idealize.ShloMosaic.Ideal) x0 x1 x2 x3 x4 x5 x6 i = ((∑ r, row p (X r) (T r) 0 (i 1) : ℝ) : EReal) :=
  (val_main_v163_apply (F := Idealize.ShloMosaic.Ideal) x0 x1 x2 x3 x4 x5 x6 i).trans (((e_v92 h _)).trans (coe_congr (rfl)))

theorem e_v164 (i : S1x1024.Idx) : val_main_v164 (F := Idealize.ShloMosaic.Ideal) x0 x1 x2 x3 x4 x5 x6 i = ((∑ r, row p (X r) (T r) 1 (i 1) : ℝ) : EReal) :=
  (val_main_v164_apply (F := Idealize.ShloMosaic.Ideal) x0 x1 x2 x3 x4 x5 x6 i).trans (((e_v98 h _)).trans (coe_congr (rfl)))

theorem e_v165 (i : S1x1024.Idx) : val_main_v165 (F := Idealize.ShloMosaic.Ideal) x0 x1 x2 x3 x4 x5 x6 i = ((∑ r, row p (X r) (T r) 2 (i 1) : ℝ) : EReal) :=
  (val_main_v165_apply (F := Idealize.ShloMosaic.Ideal) x0 x1 x2 x3 x4 x5 x6 i).trans (((e_v104 h _)).trans (coe_congr (rfl)))

theorem e_v166 (i : S1x1024.Idx) : val_main_v166 (F := Idealize.ShloMosaic.Ideal) x0 x1 x2 x3 x4 x5 x6 i = ((∑ r, row p (X r) (T r) 3 (i 1) : ℝ) : EReal) :=
  (val_main_v166_apply (F := Idealize.ShloMosaic.Ideal) x0 x1 x2 x3 x4 x5 x6 i).trans (((e_v124 h _)).trans (coe_congr (rfl)))

theorem e_v167 (i : S1x1024.Idx) : val_main_v167 (F := Idealize.ShloMosaic.Ideal) x0 x1 x2 x3 x4 x5 x6 i = ((∑ r, row p (X r) (T r) 4 (i 1) : ℝ) : EReal) :=
  (val_main_v167_apply (F := Idealize.ShloMosaic.Ideal) x0 x1 x2 x3 x4 x5 x6 i).trans (((e_v135 h _)).trans (coe_congr (rfl)))

theorem e_v168 (i : S1x1024.Idx) : val_main_v168 (F := Idealize.ShloMosaic.Ideal) x0 x1 x2 x3 x4 x5 x6 i = ((∑ r, row p (X r) (T r) 5 (i 1) : ℝ) : EReal) :=
  (val_main_v168_apply (F := Idealize.ShloMosaic.Ideal) x0 x1 x2 x3 x4 x5 x6 i).trans (((e_v141 h _)).trans (coe_congr (rfl)))

theorem e_v169 (i : S1x1024.Idx) : val_main_v169 (F := Idealize.ShloMosaic.Ideal) x0 x1 x2 x3 x4 x5 x6 i = ((∑ r, row p (X r) (T r) 6 (i 1) : ℝ) : EReal) :=
  (val_main_v169_apply (F := Idealize.ShloMosaic.Ideal) x0 x1 x2 x3 x4 x5 x6 i).trans (((e_v147 h _)).trans (coe_congr (rfl)))

theorem e_v170 (i : S1x1024.Idx) : val_main_v170 (F := Idealize.ShloMosaic.Ideal) x0 x1 x2 x3 x4 x5 x6 i = ((∑ r, row p (X r) (T r) 7 (i 1) : ℝ) : EReal) :=
  (val_main_v170_apply (F := Idealize.ShloMosaic.Ideal) x0 x1 x2 x3 x4 x5 x6 i).trans (((e_v162 h _)).trans (coe_congr (rfl)))

theorem e_v171 (i : S8x1024.Idx) : val_main_v171 (F := Idealize.ShloMosaic.Ideal) x0 x1 x2 x3 x4 x5 x6 i = ((∑ r, row p (X r) (T r) (i 0) (i 1) : ℝ) : EReal) :=
  by
  obtain ⟨a, b, rfl⟩ : ∃ a b, i = ix2 a b := ⟨i 0, i 1, by funext k; fin_cases k <;> rfl⟩
  refine (concatenate_cons_apply _ _ _ _ _ _ _).trans ?_
  fin_cases a <;> simp only [concatenateAt_cons, concatenateAt_singleton]
  · exact (dif_pos (show (0 < 1) from by omega)).trans ((e_v163 h _))
  · exact (dif_neg (show ¬(1 < 1) from by omega)).trans ((dif_pos (show (0 < 1) from by omega)).trans ((e_v164 h _)))
  · exact (dif_neg (show ¬(2 < 1) from by omega)).trans ((dif_neg (show ¬(1 < 1) from by omega)).trans ((dif_pos (show (0 < 1) from by omega)).trans ((e_v165 h _))))
  · exact (dif_neg (show ¬(3 < 1) from by omega)).trans ((dif_neg (show ¬(2 < 1) from by omega)).trans ((dif_neg (show ¬(1 < 1) from by omega)).trans ((dif_pos (show (0 < 1) from by omega)).trans ((e_v166 h _)))))
  · exact (dif_neg (show ¬(4 < 1) from by omega)).trans ((dif_neg (show ¬(3 < 1) from by omega)).trans ((dif_neg (show ¬(2 < 1) from by omega)).trans ((dif_neg (show ¬(1 < 1) from by omega)).trans ((dif_pos (show (0 < 1) from by omega)).trans ((e_v167 h _))))))
  · exact (dif_neg (show ¬(5 < 1) from by omega)).trans ((dif_neg (show ¬(4 < 1) from by omega)).trans ((dif_neg (show ¬(3 < 1) from by omega)).trans ((dif_neg (show ¬(2 < 1) from by omega)).trans ((dif_neg (show ¬(1 < 1) from by omega)).trans ((dif_pos (show (0 < 1) from by omega)).trans ((e_v168 h _)))))))
  · exact (dif_neg (show ¬(6 < 1) from by omega)).trans ((dif_neg (show ¬(5 < 1) from by omega)).trans ((dif_neg (show ¬(4 < 1) from by omega)).trans ((dif_neg (show ¬(3 < 1) from by omega)).trans ((dif_neg (show ¬(2 < 1) from by omega)).trans ((dif_neg (show ¬(1 < 1) from by omega)).trans ((dif_pos (show (0 < 1) from by omega)).trans ((e_v169 h _))))))))
  · exact (dif_neg (show ¬(7 < 1) from by omega)).trans ((dif_neg (show ¬(6 < 1) from by omega)).trans ((dif_neg (show ¬(5 < 1) from by omega)).trans ((dif_neg (show ¬(4 < 1) from by omega)).trans ((dif_neg (show ¬(3 < 1) from by omega)).trans ((dif_neg (show ¬(2 < 1) from by omega)).trans ((dif_neg (show ¬(1 < 1) from by omega)).trans ((e_v170 h _))))))))

theorem e_v172 (i : S8192x1024.Idx) : val_main_v172 (F := Idealize.ShloMosaic.Ideal) x0 x1 x2 x3 x4 x5 x6 i = ((dx p (X (i 0)) (T (i 0)) (i 1) : ℝ) : EReal) :=
  (val_main_v172_apply (F := Idealize.ShloMosaic.Ideal) x0 x1 x2 x3 x4 x5 x6 i).trans ((add_r (e_v118 h _) (e_v161 h _)).trans (coe_congr (rfl)))

theorem e_v173 (i : S8192x1024.Idx) : val_main_v173 (F := Idealize.ShloMosaic.Ideal) x0 x2 x3 i = ((h2 p (X (i 0)) (i 1) : ℝ) : EReal) :=
  (val_main_v173_apply (F := Idealize.ShloMosaic.Ideal) x0 x2 x3 i).trans (((e_v40 h _)).trans (coe_congr (rfl)))

theorem e_v174 (i : S8192x5632.Idx) : val_main_v174 (F := Idealize.ShloMosaic.Ideal) x0 x1 x2 x3 x4 x5 x6 i = ((dz p (X (i 0)) (T (i 0)) (i 1) : ℝ) : EReal) :=
  (val_main_v174_apply (F := Idealize.ShloMosaic.Ideal) x0 x1 x2 x3 x4 x5 x6 i).trans (((e_v130 h _)).trans (coe_congr (rfl)))

theorem e_v175 (i : S8192x2816.Idx) : val_main_v175 (F := Idealize.ShloMosaic.Ideal) x0 x2 x3 x5 i = ((act p (X (i 0)) (i 1) : ℝ) : EReal) :=
  (val_main_v175_apply (F := Idealize.ShloMosaic.Ideal) x0 x2 x3 x5 i).trans (((e_v45 h _)).trans (coe_congr (rfl)))

theorem e_v176 (i : S8192x1024.Idx) : val_main_v176 (F := Idealize.ShloMosaic.Ideal) x0 x1 x2 x3 x4 x5 x6 i = ((dff p (X (i 0)) (T (i 0)) (i 1) : ℝ) : EReal) :=
  (val_main_v176_apply (F := Idealize.ShloMosaic.Ideal) x0 x1 x2 x3 x4 x5 x6 i).trans (((e_v120 h _)).trans (coe_congr (rfl)))

end Cert.Ref

end
-- ==== Proof.Arrays.lean ====
/- The feed-forward kernel's six result arrays as real numbers: the five whose blocks are written once, point by point,
   and the rows accumulated over the 32 points. -/
module

public import proofs.«01_k».proof.Proof.Body
public import proofs.«01_k».proof.Proof.Ref
public import Idealize.ShloMosaic.Lib.Pipeline.ValueKit

@[expose] public section

set_option maxRecDepth 16384

noncomputable section

namespace Cert.Kern

open Cert.KernelIdeal Cert.KernelIdeal.Gen Idealize.ShloMosaic Idealize.ShloMosaic.TcCoe Idealize.SL.Sem
open Cert.Coe Cert.Model

/-- The blocks a point stages and writes back. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![t.val, 0] ∧ win0_8.index t = ![t.val, 0]
    ∧ win0_9.index t = ![t.val, 0] ∧ win0_10.index t = ![t.val, 0] ∧ win0_11.index t = ![t.val, 0] ∧ win0_12.index t = ![0, 0] :=
  (by decide +kernel : ∀ t : Fin grid0.N, _)

/-- The token a point's row is. -/
def tok (t : Fin cfg0.N) (r : Fin 256) : Fin 8192 :=
  ⟨256 * t.val + r.val, by have h1 : t.val < 32 := t.isLt; have h2 := r.isLt; omega⟩

variable {m : (ℓ : Loc nD τ sig) → Buf (Elt Ideal) ℓ} {c : Dev nD}
variable {p : Par} {X T : Fin 8192 → Fin 1024 → ℝ}

/-- The arguments are real numbers. -/
abbrev In (m : (ℓ : Loc nD τ sig) → Buf (Elt Ideal) ℓ) (c : Dev nD) (p : Par) (X T : Fin 8192 → Fin 1024 → ℝ) : Prop :=
  Ref.Args (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) p X T

/-- A point's blocks. -/
theorem blk (h : In m c p X T) (t : Fin cfg0.N) :
    Blk (iblk m c 0 t) (iblk m c 1 t) (iblk m c 2 t) (iblk m c 3 t) (iblk m c 4 t) (iblk m c 5 t) (iblk m c 6 t) p (fun r => X (tok t r)) (fun r => T (tok t r)) where
  hx i := by
    refine Eq.trans ?_ (h.hx (ix2 (tok t (i 0)) (i 1)))
    blk_point [iblk, V, idx t]
    show _ = 256 * t.val + (i 0).val
    omega
  ht i := by
    refine Eq.trans ?_ (h.ht (ix2 (tok t (i 0)) (i 1)))
    blk_point [iblk, V, idx t]
    show _ = 256 * t.val + (i 0).val
    omega
  hm3 i hi := by
    refine Eq.trans ?_ (h.hm3 i hi)
    blk_point [iblk, V, idx t]
  hm4 i hi := by
    refine Eq.trans ?_ (h.hm4 i hi)
    blk_point [iblk, V, idx t]
  hm5 i hi := by
    refine Eq.trans ?_ (h.hm5 i hi)
    blk_point [iblk, V, idx t]
  hm6 i hi := by
    refine Eq.trans ?_ (h.hm6 i hi)
    blk_point [iblk, V, idx t]
  hm7 i hi := by
    refine Eq.trans ?_ (h.hm7 i hi)
    blk_point [iblk, V, idx t]
  hg2 i := by
    refine Eq.trans ?_ (h.hg2 i)
    blk_point [iblk, V, idx t]
  hgf i := by
    refine Eq.trans ?_ (h.hgf (ix1 (i 1)))
    blk_point [iblk, V, idx t]
  hwi i := by
    refine Eq.trans ?_ (h.hwi (ix2 (i 1) (i 0)))
    blk_point [iblk, V, idx t]
  hwo i := by
    refine Eq.trans ?_ (h.hwo i)
    blk_point [iblk, V, idx t]

/-- The rows one point adds. -/
def part (p : Par) (X T : Fin 8192 → Fin 1024 → ℝ) (n : ℕ) (r : Fin 8) (k : Fin 1024) : ℝ :=
  if hn : n < cfg0.N then ∑ q : Fin 256, row p (X (tok ⟨n, hn⟩ q)) (T (tok ⟨n, hn⟩ q)) r k else 0

theorem R2.of_eq {a b : ℕ} {φ : FTy} {v : FVec Ideal ⟨2, ![a, b]⟩ φ} {f g : Fin a → Fin b → ℝ} (h : R2 v f) (e : ∀ r k, f r k = g r k) : R2 v g :=
  fun i => (h i).trans (coe_congr (e _ _))

/-- The accumulated rows after each point. -/
theorem acc_rows (h : In m c p X T) : ∀ (n : ℕ) (hn : n < cfg0.N),
    R2 (φ := .f32) (outsAt0 m c n hn).2.2.2.2.2 fun r k => ∑ s ∈ Finset.range (n + 1), part p X T s r k
  | 0, hn => by
    have e := (point_A m c ⟨0, hn⟩ rfl (blk h ⟨0, hn⟩)).2.2.2.2.2
    refine R2.of_eq e fun r k => ?_
    rw [Finset.sum_range_one, part, dif_pos hn]
  | n + 1, hn => by
    have h32 : n + 1 < 32 := hn
    have e := (point_B m c ⟨n + 1, hn⟩ (by show ¬(n + 1) % 32 = 0; omega) (blk h ⟨n + 1, hn⟩) (acc_rows h n (by show n < 32; omega))).2.2.2.2.2
    refine R2.of_eq e fun r k => ?_
    rw [Finset.sum_range_succ _ (n + 1), part, dif_pos hn]

/-- The blocks a point writes. -/
theorem point (h : In m c p X T) (t : Fin cfg0.N) :
    R2 (φ := .f32) (outsAt0 m c t.val t.isLt).1 (fun r k => dx p (X (tok t r)) (T (tok t r)) k)
    ∧ R2 (φ := .bf16) (outsAt0 m c t.val t.isLt).2.1 (fun r k => h2 p (X (tok t r)) k)
    ∧ R2 (φ := .bf16) (outsAt0 m c t.val t.isLt).2.2.1 (fun r k => dz p (X (tok t r)) (T (tok t r)) k)
    ∧ R2 (φ := .bf16) (outsAt0 m c t.val t.isLt).2.2.2.1 (fun r k => act p (X (tok t r)) k)
    ∧ R2 (φ := .bf16) (outsAt0 m c t.val t.isLt).2.2.2.2.1 (fun r k => dff p (X (tok t r)) (T (tok t r)) k) := by
  have h32 : t.val < 32 := t.isLt
  by_cases h0 : t.val % 32 = 0
  · have e := point_A m c t h0 (blk h t)
    exact ⟨e.1, e.2.1, e.2.2.1, e.2.2.2.1, e.2.2.2.2.1⟩
  · have e := point_B m c t h0 (blk h t) (acc_rows h (t.val - 1) (Nat.lt_of_le_of_lt (Nat.sub_le _ _) t.isLt))
    exact ⟨e.1, e.2.1, e.2.2.1, e.2.2.2.1, e.2.2.2.2.1⟩

/-- All the points' rows. -/
theorem part_sum (r : Fin 8) (k : Fin 1024) :
    ∑ s ∈ Finset.range 32, part p X T s r k = ∑ q : Fin 8192, row p (X q) (T q) r k := by
  rw [Finset.sum_range]
  have e : ∀ s : Fin 32, part p X T s.val r k = ∑ q : Fin 256, row p (X (tok s q)) (T (tok s q)) r k := fun s => dif_pos s.isLt
  rw [Finset.sum_congr rfl fun s _ => e s, ← Fintype.sum_prod_type' (f := fun (s : Fin 32) (q : Fin 256) => row p (X (tok s q)) (T (tok s q)) r k)]
  refine Fintype.sum_equiv (finProdFinEquiv (m := 32) (n := 256)) _ (fun q : Fin 8192 => row p (X q) (T q) r k) fun x => ?_
  have hx : tok x.1 x.2 = (finProdFinEquiv (m := 32) (n := 256) x : Fin (32 * 256)) := Fin.ext (Nat.add_comm _ _)
  rw [hx]

/-- The array of window 7. -/
theorem final7 (h : In m c p X T) : (dats m 0 c).arrAt 7 cfg0.N = fun i : S8192x1024.Idx => ((dx p (X (i 0)) (T (i 0)) (i 1) : ℝ) : EReal) := by
  refine (dats m 0 c).arrAt_eq_of_covers 7 _ (by decide +kernel) fun t hf y => ?_
  blk_simp
  rw [after0_7]
  refine ((point h t).1 _).trans ?_
  have key : ∀ G : S8192x1024.Idx → EReal, G (ix2 (tok t (y 0)) (y 1)) = G ((win0_7.blk t).view.emb y) := fun G => by
    blk_point [idx t]
    show 256 * t.val + (y 0).val = _
    omega
  exact key fun i => ((dx p (X (i 0)) (T (i 0)) (i 1) : ℝ) : EReal)

/-- The array of window 8. -/
theorem final8 (h : In m c p X T) : (dats m 0 c).arrAt 8 cfg0.N = fun i : S8192x1024.Idx => ((h2 p (X (i 0)) (i 1) : ℝ) : EReal) := by
  refine (dats m 0 c).arrAt_eq_of_covers 8 _ (by decide +kernel) fun t hf y => ?_
  blk_simp
  rw [after0_8]
  refine ((point h t).2.1 _).trans ?_
  have key : ∀ G : S8192x1024.Idx → EReal, G (ix2 (tok t (y 0)) (y 1)) = G ((win0_8.blk t).view.emb y) := fun G => by
    blk_point [idx t]
    show 256 * t.val + (y 0).val = _
    omega
  exact key fun i => ((h2 p (X (i 0)) (i 1) : ℝ) : EReal)

/-- The array of window 9. -/
theorem final9 (h : In m c p X T) : (dats m 0 c).arrAt 9 cfg0.N = fun i : S8192x5632.Idx => ((dz p (X (i 0)) (T (i 0)) (i 1) : ℝ) : EReal) := by
  refine (dats m 0 c).arrAt_eq_of_covers 9 _ (by decide +kernel) fun t hf y => ?_
  blk_simp
  rw [after0_9]
  refine ((point h t).2.2.1 _).trans ?_
  have key : ∀ G : S8192x5632.Idx → EReal, G (ix2 (tok t (y 0)) (y 1)) = G ((win0_9.blk t).view.emb y) := fun G => by
    blk_point [idx t]
    show 256 * t.val + (y 0).val = _
    omega
  exact key fun i => ((dz p (X (i 0)) (T (i 0)) (i 1) : ℝ) : EReal)

/-- The array of window 10. -/
theorem final10 (h : In m c p X T) : (dats m 0 c).arrAt 10 cfg0.N = fun i : S8192x2816.Idx => ((act p (X (i 0)) (i 1) : ℝ) : EReal) := by
  refine (dats m 0 c).arrAt_eq_of_covers 10 _ (by decide +kernel) fun t hf y => ?_
  blk_simp
  rw [after0_10]
  refine ((point h t).2.2.2.1 _).trans ?_
  have key : ∀ G : S8192x2816.Idx → EReal, G (ix2 (tok t (y 0)) (y 1)) = G ((win0_10.blk t).view.emb y) := fun G => by
    blk_point [idx t]
    show 256 * t.val + (y 0).val = _
    omega
  exact key fun i => ((act p (X (i 0)) (i 1) : ℝ) : EReal)

/-- The array of window 11. -/
theorem final11 (h : In m c p X T) : (dats m 0 c).arrAt 11 cfg0.N = fun i : S8192x1024.Idx => ((dff p (X (i 0)) (T (i 0)) (i 1) : ℝ) : EReal) := by
  refine (dats m 0 c).arrAt_eq_of_covers 11 _ (by decide +kernel) fun t hf y => ?_
  blk_simp
  rw [after0_11]
  refine ((point h t).2.2.2.2 _).trans ?_
  have key : ∀ G : S8192x1024.Idx → EReal, G (ix2 (tok t (y 0)) (y 1)) = G ((win0_11.blk t).view.emb y) := fun G => by
    blk_point [idx t]
    show 256 * t.val + (y 0).val = _
    omega
  exact key fun i => ((dff p (X (i 0)) (T (i 0)) (i 1) : ℝ) : EReal)

/-- The array of window 12. -/
theorem final12 (h : In m c p X T) : (dats m 0 c).arrAt 12 cfg0.N = fun i : S8x1024.Idx => ((∑ q : Fin 8192, row p (X q) (T q) (i 0) (i 1) : ℝ) : EReal) := by
  refine (dats m 0 c).arrAt_eq_of_covers 12 _ (by decide +kernel) fun t hf y => ?_
  have h31 : t.val + 1 = 32 := by have h1 := (flush0_12 t).mp hf; have h2 : t.val < 32 := t.isLt; omega
  blk_simp
  rw [after0_12]
  refine (acc_rows h t.val t.isLt _).trans ?_
  rw [h31]
  refine (coe_congr (part_sum _ _)).trans ?_
  have key : ∀ G : S8x1024.Idx → EReal, G y = G ((win0_12.blk t).view.emb y) := fun G => by
    blk_point [idx t]
  exact key fun i => ((∑ q : Fin 8192, row p (X q) (T q) (i 0) (i 1) : ℝ) : EReal)

end Cert.Kern

end
-- ==== Proof.Ffn.lean ====
/- The feed-forward kernel's results are its reference's, from finite arguments: both are the real numbers of the model. -/
module

public import proofs.«01_k».proof.Defs
public import proofs.«01_k».proof.Proof.Arrays
public import proofs.«01_k».proof.Proof.Gen.Pre_finite
public import Idealize.ShloMosaic.Lib.ReduceAll
public import Idealize.ShloMosaic.Lib.IdealHost

@[expose] public section

set_option maxRecDepth 16384

noncomputable section

namespace Cert.Ffn

open Idealize.ShloMosaic Idealize.ShloMosaic.TcCoe Idealize.SL.Sem
open Cert.Coe Cert.Model

/-- A comparison below infinity that holds says that the array's element is real. -/
theorem real_of_cmp {s : Shape} (x : FVec Ideal s .f32) (i : s.Idx) (y : FVec Ideal s .f32) (hy : y i = (⊤ : EReal))
    (h : cmpf (F := Idealize.ShloMosaic.Ideal) .olt (Host.absf x) y i = 1#1) : ∃ r : ℝ, x i = (r : EReal) := by
  refine real_of_abs_lt _ ?_
  by_contra hn
  have e : cmpf (F := Idealize.ShloMosaic.Ideal) .olt (Host.absf x) y i = BitVec.ofBool (decide (max (x i) (-(x i)) < y i)) := rfl
  rw [e, hy, decide_eq_false hn] at h
  exact absurd h (by decide)

/-- An index of a one-row array. -/
theorem ix2_row {n : ℕ} (i : (⟨2, ![1, n]⟩ : Shape).Idx) : i = ix2 (0 : Fin 1) (i 1) :=
  (ix2_eta i).symm.trans (congrArg (fun a : Fin 1 => ix2 a (i 1)) (Subsingleton.elim (α := Fin 1) (i 0) 0))

open Cert.Pre_finite in
/-- A test that every element is below infinity says that every element is real. -/
theorem reals {s : Shape} (x : FVec Ideal s .f32) {axes : List (Fin s.rank)} (hb : S_.BroadcastsInDim s (![] : Fin 0 → Fin s.rank)) (hr : s.ReducesTo axes S_) (h0 : 0 < S_.numel) (j : S_.Idx)
    (h : Host.reduce IntOp.andi (cmpf (F := Idealize.ShloMosaic.Ideal) .olt (Host.absf x) (broadcastInDim s ![] hb (constant (F := Idealize.ShloMosaic.Ideal) S_ .f32 0x7F800000#32)))
      (constantI S_ 1 1#1) hr h0 j = 1#1) (i : s.Idx) : ∃ r : ℝ, x i = (r : EReal) := by
  haveI : Subsingleton S_.Idx := ⟨fun a b => funext fun k => k.elim0⟩
  exact real_of_cmp x i _ ofBits_inf (Host.reduce_andi_all _ _ hr h0 j h i)

open Cert.Pre_finite Cert.Pre_finite.Facts in
/-- What the precondition says of the arrays. -/
theorem parts (x0 x1 : FVec Ideal S8192x1024 .f32) (x2 : FVec Ideal S8x1024 .f32) (x3 : FVec Ideal S1x1024 .f32) (x4 : FVec Ideal S1024 .f32)
    (x5 : FVec Ideal S1024x5632 .f32) (x6 : FVec Ideal S2816x1024 .f32) [Cert.Pre_finite.Facts]
    (h : Cert.Pre_finite.fn (F := Idealize.ShloMosaic.Ideal) x0 x1 x2 x3 x4 x5 x6 = fun _ => 1#1) :
    (∀ i, ∃ r : ℝ, x0 i = (r : EReal)) ∧ (∀ i, ∃ r : ℝ, x1 i = (r : EReal))
    ∧ (∀ i, ∃ r : ℝ, extractStridedSlice S5x1024 ![3, 0] x2 slices_S8x1024_S5x1024_3_0 i = (r : EReal)) ∧ (∀ i, ∃ r : ℝ, x3 i = (r : EReal))
    ∧ (∀ i, ∃ r : ℝ, x4 i = (r : EReal)) ∧ (∀ i, ∃ r : ℝ, x5 i = (r : EReal)) ∧ ∀ i, ∃ r : ℝ, x6 i = (r : EReal) := by
  have j : S_.Idx := fun k => k.elim0
  dsimp only [fn, fn_part1, fn_part2] at h
  have e := congrFun h j
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨reals x0 bcast_S_S8192x1024 reducesTo_S8192x1024_S_d0_1 h_S_ j e0, reals x1 bcast_S_S8192x1024 reducesTo_S8192x1024_S_d0_1 h_S_ j e1,
    reals _ bcast_S_S5x1024 reducesTo_S5x1024_S_d0_1 h_S_ j e2, reals x3 bcast_S_S1x1024 reducesTo_S1x1024_S_d0_1 h_S_ j e3,
    reals x4 bcast_S_S1024 reducesTo_S1024_S_d0 h_S_ j e4, reals x5 bcast_S_S1024x5632 reducesTo_S1024x5632_S_d0_1 h_S_ j e5,
    reals x6 bcast_S_S2816x1024 reducesTo_S2816x1024_S_d0_1 h_S_ j e6⟩

open Cert.Pre_finite Cert.Pre_finite.Facts in
/-- Arrays on which the precondition holds are real: the model's parameters and rows. -/
theorem args (x0 x1 : FVec Ideal S8192x1024 .f32) (x2 : FVec Ideal S8x1024 .f32) (x3 : FVec Ideal S1x1024 .f32) (x4 : FVec Ideal S1024 .f32)
    (x5 : FVec Ideal S1024x5632 .f32) (x6 : FVec Ideal S2816x1024 .f32) [Cert.Pre_finite.Facts]
    (h : Cert.Pre_finite.fn (F := Idealize.ShloMosaic.Ideal) x0 x1 x2 x3 x4 x5 x6 = fun _ => 1#1) :
    ∃ (p : Par) (X T : Fin 8192 → Fin 1024 → ℝ), Ref.Args x0 x1 x2 x3 x4 x5 x6 p X T := by
  obtain ⟨h0, h1, h2, h3, h4, h5, h6⟩ := parts x0 x1 x2 x3 x4 x5 x6 h
  choose f0 h0 using h0
  choose f1 h1 using h1
  choose f2 h2 using h2
  choose f3 h3 using h3
  choose f4 h4 using h4
  choose f5 h5 using h5
  choose f6 h6 using h6
  have hm : ∀ (k : Fin 5) (i : S8x1024.Idx), (i 0).val = k.val + 3 → x2 i = ((f2 (ix2 k (i 1)) : ℝ) : EReal) := fun k i hi => by
    rw [← h2]
    refine congrArg x2 (funext fun a => Fin.ext ?_)
    fin_cases a
    · exact hi.trans (Nat.add_comm _ _)
    · exact (Nat.zero_add _).symm
  exact ⟨⟨fun k => f3 (ix2 0 k), fun k => f2 (ix2 1 k), fun k => f2 (ix2 0 k), fun k => f2 (ix2 2 k), fun k => f4 (ix1 k), fun k => f2 (ix2 4 k), fun k => f2 (ix2 3 k),
      fun a b => f5 (ix2 a b), fun a b => f6 (ix2 a b)⟩, fun a b => f0 (ix2 a b), fun a b => f1 (ix2 a b),
    { hx := fun i => (h0 i).trans (coe_congr (congrArg f0 (ix2_eta i).symm))
      ht := fun i => (h1 i).trans (coe_congr (congrArg f1 (ix2_eta i).symm))
      hm3 := fun i hi => hm 0 i hi
      hm4 := fun i hi => hm 1 i hi
      hm5 := fun i hi => hm 2 i hi
      hm6 := fun i hi => hm 3 i hi
      hm7 := fun i hi => hm 4 i hi
      hg2 := fun i => (h3 i).trans (coe_congr (congrArg f3 (ix2_row i)))
      hgf := fun i => (h4 i).trans (coe_congr (congrArg f4 (ix1_eta i).symm))
      hwi := fun i => (h5 i).trans (coe_congr (congrArg f5 (ix2_eta i).symm))
      hwo := fun i => (h6 i).trans (coe_congr (congrArg f6 (ix2_eta i).symm)) }⟩

/-- The feed-forward half of the step. -/
theorem ffn : algebraic_KernelIdeal_ReferenceIdeal_pre_finite (hKernelIdeal := Cert.KernelIdeal.Gen.facts) (hReferenceIdeal := Cert.ReferenceIdeal.Gen.facts)
    (hPre_finite := Cert.Pre_finite.Gen.facts) := by
  intro m g m' g' hp hm
  have ex := fun c : Dev Cert.KernelIdeal.nD => args (m ((c : Thread Cert.KernelIdeal.nD Cert.KernelIdeal.τ).loc Cert.KernelIdeal.main_arg0)) (m ((c : Thread Cert.KernelIdeal.nD Cert.KernelIdeal.τ).loc Cert.KernelIdeal.main_arg1))
    (m ((c : Thread Cert.KernelIdeal.nD Cert.KernelIdeal.τ).loc Cert.KernelIdeal.main_arg2)) (m ((c : Thread Cert.KernelIdeal.nD Cert.KernelIdeal.τ).loc Cert.KernelIdeal.main_arg3))
    (m ((c : Thread Cert.KernelIdeal.nD Cert.KernelIdeal.τ).loc Cert.KernelIdeal.main_arg4)) (m ((c : Thread Cert.KernelIdeal.nD Cert.KernelIdeal.τ).loc Cert.KernelIdeal.main_arg5))
    (m ((c : Thread Cert.KernelIdeal.nD Cert.KernelIdeal.τ).loc Cert.KernelIdeal.main_arg6)) (hp c)
  choose p X T hin using ex
  have hin' : ∀ c : Dev Cert.KernelIdeal.nD, Ref.Args (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1))
      (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3))
      (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5))
      (m' ((c : Thread Cert.ReferenceIdeal.nD Cert.ReferenceIdeal.τ).loc Cert.ReferenceIdeal.main_arg6)) (p c) (X c) (T c) := fun c => by
    rw [(hm c).1, (hm c).2.1, (hm c).2.2.1, (hm c).2.2.2.1, (hm c).2.2.2.2.1, (hm c).2.2.2.2.2.1, (hm c).2.2.2.2.2.2]
    exact hin c
  refine ⟨_, _, _, _, _, _, (θ_run _ _ _).mono (fun r h c => ⟨(h c).1.trans (Kern.final7 (hin c)), (h c).2.1.trans (Kern.final8 (hin c)), (h c).2.2.1.trans (Kern.final9 (hin c)),
      (h c).2.2.2.1.trans (Kern.final10 (hin c)), (h c).2.2.2.2.1.trans (Kern.final11 (hin c)), (h c).2.2.2.2.2.1.trans (Kern.final12 (hin c)), (h c).2.2.2.2.2.2⟩)
    (Cert.KernelIdeal.Value.run_blocks m g),
    (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
      (Cert.ReferenceIdeal.Value.run m' g')⟩
  · exact (Cert.ReferenceIdeal.Read.val_main_v172_eq _).trans (funext fun i => Ref.e_v172 (hin' c) i)
  · exact (Cert.ReferenceIdeal.Read.val_main_v173_eq _).trans (funext fun i => Ref.e_v173 (hin' c) i)
  · exact (Cert.ReferenceIdeal.Read.val_main_v174_eq _).trans (funext fun i => Ref.e_v174 (hin' c) i)
  · exact (Cert.ReferenceIdeal.Read.val_main_v175_eq _).trans (funext fun i => Ref.e_v175 (hin' c) i)
  · exact (Cert.ReferenceIdeal.Read.val_main_v176_eq _).trans (funext fun i => Ref.e_v176 (hin' c) i)
  · exact (Cert.ReferenceIdeal.Read.val_main_v171_eq _).trans (funext fun i => Ref.e_v171 (hin' c) i)

end Cert.Ffn

end
-- ==== Proof.Mix.lean ====
/-
The mixer's named results as rows of its arguments: a point's blocks first, then the whole arrays.
-/
module

public import proofs.«01_k».proof.Proof.MixFrame
public import proofs.«01_k».proof.Proof.MixRows
public import proofs.«01_k».proof.Proof.MixHost
public import proofs.«01_k».proof.Proof.Ffn
public import Idealize.ShloMosaic.Lib.Pipeline.ValueKit
public import Idealize.ShloMosaic.Lib.StableHlo.Run
public import Idealize.ShloMosaic.Lib.Claim
public import proofs.«01_k».proof.Proof.Gen.Reference4Ideal.Run
public import proofs.«01_k».proof.Defs

@[expose] public section

set_option maxRecDepth 16384

noncomputable section

namespace Cert.Kernel4Ideal.Mix

open Idealize.ShloMosaic Idealize.ShloMosaic.TcCoe Idealize.SL.Sem
open Cert.Kernel4Ideal Cert.Kernel4Ideal.Gen Cert.Mixer
open Idealize.ShloMosaic.Pipeline (Dat Cfg Window)

/-- A load of a whole matrix. -/
theorem ld_all {n k : ℕ} {e : EltTy} (x : Vec Ideal ⟨2, ![n, k]⟩ e)
    (inb : ∀ a, (![0, 0] : Fin 2 → ℕ) a + (![n, k] : Fin 2 → ℕ) a ≤ (![n, k] : Fin 2 → ℕ) a) (r : Fin n) (j : Fin k) :
    View.ld (Val := Elt Ideal) (e' := e) x (Rect.unit (s := ⟨2, ![n, k]⟩) ![0, 0] ![n, k] inb) (ix2 r j) = x (ix2 r j) :=
  View.ld_unit_apply_of (Val := Elt Ideal) (S := ⟨2, ![n, k]⟩) (e := e) x _ _ inb _ (ix2 r j) fun a => by
    fin_cases a
    · exact (Nat.zero_add _).symm
    · exact (Nat.zero_add _).symm

/-- A load of one row of a matrix. -/
theorem ld_line {n k : ℕ} {e : EltTy} (x : Vec Ideal ⟨2, ![n, k]⟩ e) (o : ℕ) (ho : o < n)
    (inb : ∀ a, (![o, 0] : Fin 2 → ℕ) a + (![1, k] : Fin 2 → ℕ) a ≤ (![n, k] : Fin 2 → ℕ) a) (j : Fin k) :
    View.ld (Val := Elt Ideal) (e' := e) x (Rect.unit (s := ⟨2, ![n, k]⟩) ![o, 0] ![1, k] inb) (ix2 0 j) = x (ix2 ⟨o, ho⟩ j) :=
  View.ld_unit_apply_of (Val := Elt Ideal) (S := ⟨2, ![n, k]⟩) (e := e) x _ _ inb _ (ix2 ⟨o, ho⟩ j) fun a => by
    fin_cases a
    · rfl
    · exact (Nat.zero_add _).symm

/-- A load of one shard of the weight. -/
theorem ld_shard (x : Vec Ideal S8x1024x256 .bf16) (o : ℕ) (ho : o < 8)
    (inb : ∀ a, (![o, 0, 0] : Fin 3 → ℕ) a + (![1, 1024, 256] : Fin 3 → ℕ) a ≤ (![8, 1024, 256] : Fin 3 → ℕ) a) (k : Fin 1024) (j : Fin 256) :
    View.ld (Val := Elt Ideal) (e' := .bf16) x (Rect.unit (s := S8x1024x256) ![o, 0, 0] ![1, 1024, 256] inb) (ix3 0 k j) = x (ix3 ⟨o, ho⟩ k j) :=
  View.ld_unit_apply_of (Val := Elt Ideal) (S := S8x1024x256) (e := .bf16) x _ _ inb _ (ix3 ⟨o, ho⟩ k j) fun a => by
    fin_cases a
    · rfl
    · exact (Nat.zero_add _).symm
    · exact (Nat.zero_add _).symm

section Point

variable (x0 : FVec Ideal S512x1024 .f32) (x1 : FVec Ideal S8x1024 .f32) (x2 : FVec Ideal S1x1024 .f32)
  (x3 : FVec Ideal S8x1024x256 .bf16) (x4 : FVec Ideal S1x2048 .f32)

theorem hV_apply (r : Fin 512) (k : Fin 1024) : hV (F := Ideal) x0 x1 x2 (ix2 r k)
    = rowH (fun k => x0 (ix2 r k)) (fun k => x1 (ix2 1 k)) (fun k => x1 (ix2 0 k)) (fun k => x2 (ix2 0 k)) k := by
  unfold hV
  refine (pay4 _ _ _ _ r k).trans ?_
  have e0 : ∀ k : Fin 1024, View.ld (Val := Elt Ideal) (e' := .f32) (x0 : Vec Ideal S512x1024 .f32) (Rect.unit (s := S512x1024) ![0, 0] S512x1024.size inb_S512x1024_S512x1024_0_0) (ix2 r k) = x0 (ix2 r k) :=
    fun k => ld_all (n := 512) (k := 1024) (e := .f32) x0 inb_S512x1024_S512x1024_0_0 r k
  have e1 : ∀ k : Fin 1024, View.ld (Val := Elt Ideal) (e' := .f32) (x1 : Vec Ideal S8x1024 .f32) (Rect.unit (s := S8x1024) ![0, 0] S1x1024.size inb_S8x1024_S1x1024_0_0) (ix2 0 k) = x1 (ix2 0 k) :=
    fun k => ld_line (e := .f32) x1 0 (by decide) inb_S8x1024_S1x1024_0_0 k
  have e2 : ∀ k : Fin 1024, View.ld (Val := Elt Ideal) (e' := .f32) (x1 : Vec Ideal S8x1024 .f32) (Rect.unit (s := S8x1024) ![1, 0] S1x1024.size inb_S8x1024_S1x1024_1_0) (ix2 0 k) = x1 (ix2 1 k) :=
    fun k => ld_line (e := .f32) x1 1 (by decide) inb_S8x1024_S1x1024_1_0 k
  have e3 : ∀ k : Fin 1024, View.ld (Val := Elt Ideal) (e' := .f32) (x2 : Vec Ideal S1x1024 .f32) (Rect.unit (s := S1x1024) ![0, 0] S1x1024.size inb_S1x1024_S1x1024_0_0) (ix2 0 k) = x2 (ix2 0 k) :=
    fun k => ld_all (e := .f32) x2 inb_S1x1024_S1x1024_0_0 0 k
  unfold rowH
  simp only [e0, e1, e2, e3]

/-- A row of the projection at a point. -/
abbrev ptZ (r : Fin 512) : Fin 2048 → EReal :=
  rowZ (rowH (fun k => x0 (ix2 r k)) (fun k => x1 (ix2 1 k)) (fun k => x1 (ix2 0 k)) (fun k => x2 (ix2 0 k))) (glue x3) (fun j => x4 (ix2 0 j))

theorem zV_apply (r : Fin 512) (j : Fin 2048) : zV (F := Ideal) x0 x1 x2 x3 x4 (ix2 r j) = ptZ x0 x1 x2 x3 x4 r j := by
  have eh : (fun k => hV (F := Ideal) x0 x1 x2 (ix2 r k)) = _ := funext fun k => hV_apply x0 x1 x2 r k
  have eb : (fun j : Fin 2048 => View.ld (Val := Elt Ideal) (e' := .f32) (x4 : Vec Ideal S1x2048 .f32) (Rect.unit (s := S1x2048) ![0, 0] S1x2048.size inb_S1x2048_S1x2048_0_0) (ix2 0 j)) = fun j => x4 (ix2 0 j) :=
    funext fun j => ld_all (n := 1) (k := 2048) (e := .f32) x4 inb_S1x2048_S1x2048_0_0 0 j
  unfold zV ptZ
  refine (pay7 _ _ _ x3 _ _ _ _ _ _ _ r j ?_ ?_ (ld_shard x3 2 (by decide) _) (ld_shard x3 3 (by decide) _) (ld_shard x3 4 (by decide) _)
    (ld_shard x3 5 (by decide) _) (ld_shard x3 6 (by decide) _) (ld_shard x3 7 (by decide) _)).trans ?_
  · intro j
    refine (pay5 _ _ _ _ _ r j).trans (Finset.sum_congr rfl fun k _ => ?_)
    exact congrArg (hV (F := Ideal) x0 x1 x2 (ix2 r k) * ·) (ld_shard x3 0 (by decide) _ k j)
  · intro j
    refine (pay6 _ _ _ _ _ r j).trans (Finset.sum_congr rfl fun k _ => ?_)
    exact congrArg (hV (F := Ideal) x0 x1 x2 (ix2 r k) * ·) (ld_shard x3 1 (by decide) _ k j)
  · rw [eh, eb]

theorem vgV_apply (r : Fin 512) (j : Fin 1024) :
    vgV (F := Ideal) x0 x1 x2 x3 x4 (ix2 r j) = ptZ x0 x1 x2 x3 x4 r ⟨1024 + j.val, by omega⟩ := by
  refine Eq.trans ?_ (zV_apply x0 x1 x2 x3 x4 r ⟨1024 + j.val, by omega⟩)
  unfold vgV zV
  pointwise [k0_pay8]

theorem guV_apply (r : Fin 512) (j : Fin 512) :
    guV (F := Ideal) x0 x1 x2 x3 x4 (ix2 r j) = act (ptZ x0 x1 x2 x3 x4 r ⟨j.val, by omega⟩) := by
  rw [← zV_apply x0 x1 x2 x3 x4 r ⟨j.val, by omega⟩]
  unfold guV zV
  refine (pay13 _ _ r j).trans ?_
  unfold act
  pointwise [k0_pay9, k0_pay10]
  rfl

theorem vhV_apply (r : Fin 512) (j : Fin 512) :
    vhV (F := Ideal) x0 x1 x2 x3 x4 (ix2 r j) = norm (fun j => act (ptZ x0 x1 x2 x3 x4 r ⟨512 + j.val, by omega⟩)) j := by
  unfold vhV
  refine (pay22 _ r j).trans ?_
  simp only [zV_apply]

end Point

/-- The blocks a point stages. -/
theorem idx : ∀ t : Fin cfg0.N, win0_0.index t = ![t.val, 0]
    ∧ win0_1.index t = ![0, 0]
    ∧ win0_2.index t = ![0, 0]
    ∧ win0_3.index t = ![0, 0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0] :=
  (by decide +kernel : ∀ t : Fin grid0.N, _)

/-- The blocks a point writes back. -/
theorem odx : ∀ t : Fin cfg0.N, win0_17.index t = ![t.val, 0]
    ∧ win0_18.index t = ![t.val, 0]
    ∧ win0_19.index t = ![t.val, 0]
    ∧ win0_20.index t = ![t.val, 0]
    ∧ win0_21.index t = ![t.val, 0]
    ∧ win0_22.index t = ![t.val, 0]
    ∧ win0_23.index t = ![t.val, 0]
    ∧ win0_26.index t = ![t.val, 0]
    ∧ win0_27.index t = ![t.val, 0]
    ∧ win0_28.index t = ![t.val, 0]
    ∧ win0_29.index t = ![t.val, 0] :=
  (by decide +kernel : ∀ t : Fin grid0.N, _)

/-- The token a point's row is. -/
def tok (t : Fin cfg0.N) (r : Fin 512) : Fin 8192 :=
  ⟨512 * t.val + r.val, by have h1 : t.val < 16 := t.isLt; have h2 := r.isLt; omega⟩

variable (m : (ℓ : Loc nD τ sig) → Buf (Elt Ideal) ℓ) (c : Dev nD)

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
abbrev a10 := m ((c : Thread nD τ).loc main_arg10)
abbrev a11 := m ((c : Thread nD τ).loc main_arg11)
abbrev a12 := m ((c : Thread nD τ).loc main_arg12)
abbrev a13 := m ((c : Thread nD τ).loc main_arg13)
abbrev a14 := m ((c : Thread nD τ).loc main_arg14)
abbrev a15 := m ((c : Thread nD τ).loc main_arg15)

/-- The weight's shards, as the kernel receives them. -/
theorem V_shards : V m c main_v2 = truncf (F := Ideal) .bf16 (transpose S8x1024x256 [1, 0, 2]
    (shapeCast S1024x8x256 (m ((c : Thread nD τ).loc main_arg3)) shapeCasts_S1024x2048_S1024x8x256) transposes_S1024x8x256_S8x1024x256_1_0_2) bitsLt_bf16_f32 := by
  unfold V
  simp only [hostOps0, hostOps0_1, hostOps0_2, hostOps0_3, hostOps0_4, hostOps0_5, hostOps0_6, hostOps0_7, hostOps0_8, List.flatten_cons, List.flatten_nil, List.append_nil, List.cons_append,
    List.nil_append]
  after_results
  rfl

theorem blk0 (t : Fin cfg0.N) (r : Fin 512) (k : Fin 1024) :
    iblk m c 0 t (ix2 r k) = m ((c : Thread nD τ).loc main_arg0) (ix2 (tok t r) k) := by
  unfold iblk
  rw [show V m c (Pipeline.arrRef spec0 0) = m ((c : Thread nD τ).loc main_arg0) from V_main_arg0 m c]
  blk_point [idx t]
  show _ = 512 * t.val + r.val
  omega

theorem blk1 (t : Fin cfg0.N) (r : Fin 8) (k : Fin 1024) :
    iblk m c 1 t (ix2 r k) = m ((c : Thread nD τ).loc main_arg1) (ix2 r k) := by
  unfold iblk
  rw [show V m c (Pipeline.arrRef spec0 1) = m ((c : Thread nD τ).loc main_arg1) from V_main_arg1 m c]
  blk_point [idx t]

theorem blk2 (t : Fin cfg0.N) (k : Fin 1024) :
    iblk m c 2 t (ix2 0 k) = m ((c : Thread nD τ).loc main_arg2) (ix2 0 k) := by
  unfold iblk
  rw [show V m c (Pipeline.arrRef spec0 2) = m ((c : Thread nD τ).loc main_arg2) from V_main_arg2 m c]
  blk_point [idx t]

theorem blk4 (t : Fin cfg0.N) (k : Fin 2048) :
    iblk m c 4 t (ix2 0 k) = m ((c : Thread nD τ).loc main_arg4) (ix2 0 k) := by
  unfold iblk
  rw [show V m c (Pipeline.arrRef spec0 4) = m ((c : Thread nD τ).loc main_arg4) from V_main_arg4 m c]
  blk_point [idx t]

theorem blk3 (t : Fin cfg0.N) (k : Fin 1024) (j : Fin 2048) :
    glue (iblk m c 3 t) k j = m ((c : Thread nD τ).loc main_arg3) (ix2 k j) := by
  have e : ∀ (a : Fin 8) (k : Fin 1024) (l : Fin 256), iblk m c 3 t (ix3 a k l) = V m c main_v2 (ix3 a k l) := fun a k l => by
    unfold iblk
    show _ = V m c (Pipeline.arrRef spec0 3) _
    generalize V m c (Pipeline.arrRef spec0 3) = y
    blk_point [idx t]
  unfold glue
  rw [e, V_shards]
  pointwise []

/-- A point's row of the modulated input. -/
theorem ptH_eq (t : Fin cfg0.N) (r : Fin 512) :
    rowH (fun k => iblk m c 0 t (ix2 r k)) (fun k => iblk m c 1 t (ix2 1 k)) (fun k => iblk m c 1 t (ix2 0 k)) (fun k => iblk m c 2 t (ix2 0 k))
      = refH (m ((c : Thread nD τ).loc main_arg0)) (m ((c : Thread nD τ).loc main_arg1)) (m ((c : Thread nD τ).loc main_arg2)) (tok t r) := by
  unfold refH
  simp only [blk0, blk1, blk2]

/-- A point's row of the projection. -/
theorem ptZ_eq (t : Fin cfg0.N) (r : Fin 512) :
    ptZ (iblk m c 0 t) (iblk m c 1 t) (iblk m c 2 t) (iblk m c 3 t) (iblk m c 4 t) r
      = refZ (m ((c : Thread nD τ).loc main_arg0)) (m ((c : Thread nD τ).loc main_arg1)) (m ((c : Thread nD τ).loc main_arg2)) (m ((c : Thread nD τ).loc main_arg3))
        (m ((c : Thread nD τ).loc main_arg4)) (tok t r) := by
  unfold ptZ refZ
  rw [ptH_eq]
  have e3 : glue (iblk m c 3 t) = fun k j => m ((c : Thread nD τ).loc main_arg3) (ix2 k j) := funext fun k => funext fun j => blk3 m c t k j
  have e4 : (fun j => iblk m c 4 t (ix2 0 j)) = fun j => m ((c : Thread nD τ).loc main_arg4) (ix2 0 j) := funext fun j => blk4 m c t j
  rw [e3, e4]

theorem blk5 (t : Fin cfg0.N) (k : Fin 512) : iblk m c 5 t (ix2 0 k) = m ((c : Thread nD τ).loc main_arg5) (ix2 0 k) := by
  unfold iblk
  rw [show V m c (Pipeline.arrRef spec0 5) = m ((c : Thread nD τ).loc main_arg5) from V_main_arg5 m c]
  blk_point [idx t]

theorem blk6 (t : Fin cfg0.N) (k : Fin 512) : iblk m c 6 t (ix2 0 k) = m ((c : Thread nD τ).loc main_arg6) (ix2 0 k) := by
  unfold iblk
  rw [show V m c (Pipeline.arrRef spec0 6) = m ((c : Thread nD τ).loc main_arg6) from V_main_arg6 m c]
  blk_point [idx t]

theorem blk10 (t : Fin cfg0.N) (k : Fin 512) : iblk m c 10 t (ix2 0 k) = m ((c : Thread nD τ).loc main_arg10) (ix2 0 k) := by
  unfold iblk
  rw [show V m c (Pipeline.arrRef spec0 10) = m ((c : Thread nD τ).loc main_arg10) from V_main_arg10 m c]
  blk_point [idx t]

theorem blk11 (t : Fin cfg0.N) (k : Fin 512) : iblk m c 11 t (ix2 0 k) = m ((c : Thread nD τ).loc main_arg11) (ix2 0 k) := by
  unfold iblk
  rw [show V m c (Pipeline.arrRef spec0 11) = m ((c : Thread nD τ).loc main_arg11) from V_main_arg11 m c]
  blk_point [idx t]

theorem blk12 (t : Fin cfg0.N) (k : Fin 512) : iblk m c 12 t (ix2 0 k) = m ((c : Thread nD τ).loc main_arg12) (ix2 0 k) := by
  unfold iblk
  rw [show V m c (Pipeline.arrRef spec0 12) = m ((c : Thread nD τ).loc main_arg12) from V_main_arg12 m c]
  blk_point [idx t]

theorem blk13 (t : Fin cfg0.N) (k : Fin 512) : iblk m c 13 t (ix2 0 k) = m ((c : Thread nD τ).loc main_arg13) (ix2 0 k) := by
  unfold iblk
  rw [show V m c (Pipeline.arrRef spec0 13) = m ((c : Thread nD τ).loc main_arg13) from V_main_arg13 m c]
  blk_point [idx t]

theorem blk14 (t : Fin cfg0.N) (k : Fin 512) : iblk m c 14 t (ix2 0 k) = m ((c : Thread nD τ).loc main_arg14) (ix2 0 k) := by
  unfold iblk
  rw [show V m c (Pipeline.arrRef spec0 14) = m ((c : Thread nD τ).loc main_arg14) from V_main_arg14 m c]
  blk_point [idx t]

theorem blk7 (t : Fin cfg0.N) (h : Fin 8) (a b : Fin 128) : iblk m c 7 t (ix2 (⟨128 * h.val + a.val, by omega⟩ : Fin 1024) b) = refW (a7 m c) h a b := by
  refine Eq.trans ?_ (V_heads m c h a b)
  unfold iblk
  show _ = V m c (Pipeline.arrRef spec0 7) _
  generalize V m c (Pipeline.arrRef spec0 7) = y
  blk_point [idx t]

theorem blk8 (t : Fin cfg0.N) (a : Fin 128) (j : Fin 512) : iblk m c 8 t (ix2 a j) = m ((c : Thread nD τ).loc main_arg8) (ix2 (grp j) a) := by
  refine Eq.trans ?_ (V_offs m c a j)
  unfold iblk
  show _ = V m c (Pipeline.arrRef spec0 8) _
  generalize V m c (Pipeline.arrRef spec0 8) = y
  blk_point [idx t]

theorem blk9 (t : Fin cfg0.N) (k : Fin 31) (j : Fin 512) : iblk m c 9 t (ix2 (⟨k.val, by omega⟩ : Fin 32) j) = m ((c : Thread nD τ).loc main_arg9) (ix2 k j) := by
  refine Eq.trans ?_ (V_taps m c k j)
  unfold iblk
  show _ = V m c (Pipeline.arrRef spec0 9) _
  generalize V m c (Pipeline.arrRef spec0 9) = y
  blk_point [idx t]

theorem blk15 (t : Fin cfg0.N) (a j : Fin 1024) : iblk m c 15 t (ix2 a j) = m ((c : Thread nD τ).loc main_arg15) (ix2 a j) := by
  refine Eq.trans ?_ (V_out m c a j)
  unfold iblk
  show _ = V m c (Pipeline.arrRef spec0 15) _
  generalize V m c (Pipeline.arrRef spec0 15) = y
  blk_point [idx t]

theorem blk16 (t : Fin cfg0.N) (a j : Fin 512) : iblk m c 16 t (ix2 a j) = gm a j := by
  refine Eq.trans ?_ (V_mean m c a j)
  unfold iblk
  show _ = V m c (Pipeline.arrRef spec0 16) _
  generalize V m c (Pipeline.arrRef spec0 16) = y
  blk_point [idx t]

/-! ## A point's rows -/

theorem zB_apply (t : Fin cfg0.N) (r : Fin 512) (j : Fin 2048) : zB m c t (ix2 r j) = refZ (a0 m c) (a1 m c) (a2 m c) (a3 m c) (a4 m c) (tok t r) j :=
  (zV_apply _ _ _ _ _ r j).trans (congrFun (ptZ_eq m c t r) j)

theorem uB_apply (t : Fin cfg0.N) (r j : Fin 512) : uB m c t (ix2 r j) = act (refZ (a0 m c) (a1 m c) (a2 m c) (a3 m c) (a4 m c) (tok t r) ⟨j.val, by omega⟩) :=
  (guV_apply _ _ _ _ _ r j).trans (congrArg act (congrFun (ptZ_eq m c t r) _))

theorem ptV_eq (t : Fin cfg0.N) (r : Fin 512) : ptV (zB m c t) r = refV (a0 m c) (a1 m c) (a2 m c) (a3 m c) (a4 m c) (tok t r) := by
  funext k
  unfold ptV refV
  rw [zB_apply]

theorem ptN_eq (t : Fin cfg0.N) (r k : Fin 512) : s11 (F := Ideal) (zB m c t) (iblk m c 5 t) (iblk m c 6 t) (ix2 r k) = refN (a0 m c) (a1 m c) (a2 m c) (a3 m c) (a4 m c) (a5 m c) (a6 m c) (tok t r) k := by
  rw [s11_apply, ptV_eq]
  unfold refN scaled
  simp only [blk5, blk6]

theorem ptM_eq (t : Fin cfg0.N) (r j : Fin 512) : mxV (F := Ideal) (zB m c t) (iblk m c 5 t) (iblk m c 6 t) (iblk m c 7 t) (iblk m c 8 t) (ix2 r j) = refM (a0 m c) (a1 m c) (a2 m c) (a3 m c) (a4 m c) (a5 m c) (a6 m c) (a7 m c) (a8 m c) (tok t r) j := by
  have ha : (⟨r.val % 128, by omega⟩ : Fin 128) = ⟨(tok t r).val % 128, by omega⟩ := Fin.ext (by show r.val % 128 = (512 * t.val + r.val) % 128; omega)
  rw [mxV_apply]
  unfold ptM refM mixed
  refine congrArg₂ (· + ·) (Finset.sum_congr rfl fun s _ => congrArg₂ (· * ·) ?_ ?_) ?_
  · refine (blk7 m c t (grp j) _ s).trans ?_
    rw [ha]
  · refine (ptN_eq m c t _ j).trans (congrArg (fun a => refN (a0 m c) (a1 m c) (a2 m c) (a3 m c) (a4 m c) (a5 m c) (a6 m c) a j) (Fin.ext ?_))
    show 512 * t.val + (128 * (r.val / 128) + s.val) = 128 * ((512 * t.val + r.val) / 128) + s.val
    omega
  · refine (blk8 m c t _ j).trans ?_
    rw [ha]

theorem ptG_eq (t : Fin cfg0.N) (r j : Fin 512) : ptG (zB m c t) r j = refG (a0 m c) (a1 m c) (a2 m c) (a3 m c) (a4 m c) (tok t r) j := by
  unfold ptG refG
  rw [zB_apply, zB_apply]

theorem gB_apply (t : Fin cfg0.N) (i : Fin 544) (j : Fin 512) (hi : 2 ≤ i.val) :
    gB m c t (ix2 i j) = pads (refG (a0 m c) (a1 m c) (a2 m c) (a3 m c) (a4 m c)) (512 * t.val + i.val - 2) j := by
  have ht : t.val < 16 := t.isLt
  have hl := i.isLt
  unfold gB gbuf
  show (if h : i.val < 32 then tB m c t (ix2 ⟨i.val, h⟩ j) else glV (zB m c t) (ix2 ⟨i.val - 32, by omega⟩ j)) = _
  by_cases h : i.val < 32
  · rw [dif_pos h]
    unfold tB
    by_cases h0 : t.val = 0
    · rw [if_pos h0]
      unfold pads
      rw [dif_neg (by omega)]
      pointwise [k0_pay50]
    · rw [if_neg h0]
      refine (carV_apply _ _ j).trans ((ptG_eq m c _ _ j).trans ?_)
      unfold pads
      rw [dif_pos ⟨by omega, by omega⟩]
      refine congrArg (fun a => refG (a0 m c) (a1 m c) (a2 m c) (a3 m c) (a4 m c) a j) (Fin.ext ?_)
      show 512 * (t.val - 1) + (480 + i.val) = 512 * t.val + i.val - 2 - 30
      omega
  · rw [dif_neg h]
    refine (glV_apply _ _ j).trans ((ptG_eq m c _ _ j).trans ?_)
    unfold pads
    rw [dif_pos ⟨by omega, by omega⟩]
    refine congrArg (fun a => refG (a0 m c) (a1 m c) (a2 m c) (a3 m c) (a4 m c) a j) (Fin.ext ?_)
    show 512 * t.val + (i.val - 32) = 512 * t.val + i.val - 2 - 30
    omega

theorem ptC_eq (t : Fin cfg0.N) (r : Fin 512) : ptC (gB m c t) (iblk m c 9 t) (iblk m c 10 t) r = refC (a0 m c) (a1 m c) (a2 m c) (a3 m c) (a4 m c) (a9 m c) (a10 m c) (tok t r) := by
  funext j
  unfold ptC refC
  refine (congrArg₂ (fun w g => conv w g _) (funext fun k => blk9 m c t k j) (funext fun k => ?_)).trans (congrArg _ (blk10 m c t j))
  refine (gB_apply m c t _ j (by show 2 ≤ 2 + k.val + r.val; omega)).trans (congrArg (fun p => pads _ p j) ?_)
  show 512 * t.val + (2 + k.val + r.val) - 2 = 512 * t.val + r.val + k.val
  omega

theorem ptD_eq (t : Fin cfg0.N) (r : Fin 512) : ptD (gB m c t) (iblk m c 9 t) (iblk m c 10 t) (iblk m c 16 t) r = kcent (refC (a0 m c) (a1 m c) (a2 m c) (a3 m c) (a4 m c) (a9 m c) (a10 m c) (tok t r)) := by
  funext j
  unfold ptD
  simp only [blk16, ptC_eq]
  rfl

theorem ptS_eq (t : Fin cfg0.N) (r : Fin 512) : ptS (gB m c t) (iblk m c 9 t) (iblk m c 10 t) (iblk m c 16 t) r = kscal (kcent (refC (a0 m c) (a1 m c) (a2 m c) (a3 m c) (a4 m c) (a9 m c) (a10 m c) (tok t r))) := by
  funext j
  unfold ptS
  simp only [blk16, ptD_eq]
  rfl

/-- The convolved group is real. -/
abbrev RealC : Prop := ∀ (r : Fin 8192) (j : Fin 512), IsR (refC (a0 m c) (a1 m c) (a2 m c) (a3 m c) (a4 m c) (a9 m c) (a10 m c) r j)

variable {m c} in
theorem ptB_eq (hC : RealC m c) (t : Fin cfg0.N) (r : Fin 512) : ptB (gB m c t) (iblk m c 9 t) (iblk m c 10 t) (iblk m c 16 t) (iblk m c 11 t) (iblk m c 12 t) r = refB (a0 m c) (a1 m c) (a2 m c) (a3 m c) (a4 m c) (a9 m c) (a10 m c) (a11 m c) (a12 m c) (tok t r) := by
  funext j
  unfold ptB refB
  simp only [ptD_eq, ptS_eq, knorm_eq (hC _), blk11, blk12]
  rfl

theorem ptA_eq (t : Fin cfg0.N) (r : Fin 512) : ptA (zB m c t) (uB m c t) (iblk m c 5 t) (iblk m c 6 t) (iblk m c 7 t) (iblk m c 8 t) r = refA (a0 m c) (a1 m c) (a2 m c) (a3 m c) (a4 m c) (a5 m c) (a6 m c) (a7 m c) (a8 m c) (tok t r) := by
  funext j
  unfold ptA refA
  rw [uB_apply, ptM_eq]

variable {m c} in
theorem ptJ_eq (hC : RealC m c) (t : Fin cfg0.N) (r : Fin 512) :
    ptJ (zB m c t) (uB m c t) (gB m c t) (iblk m c 5 t) (iblk m c 6 t) (iblk m c 7 t) (iblk m c 8 t) (iblk m c 9 t) (iblk m c 10 t) (iblk m c 11 t) (iblk m c 12 t) (iblk m c 13 t) (iblk m c 14 t) (iblk m c 16 t) r = refJ (a0 m c) (a1 m c) (a2 m c) (a3 m c) (a4 m c) (a5 m c) (a6 m c) (a7 m c) (a8 m c) (a9 m c) (a10 m c) (a11 m c) (a12 m c) (a13 m c) (a14 m c) (tok t r) := by
  unfold ptJ refJ
  rw [ptA_eq, ptB_eq hC]
  simp only [blk13, blk14]

variable {m c} in
theorem point17 (hC : RealC m c) (t : Fin cfg0.N) (r : Fin 512) (j : Fin 1024) :
    x1V (F := Ideal) (zB m c t) (uB m c t) (gB m c t) (iblk m c 0 t) (iblk m c 1 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r j) = Cert.Reference4Ideal.Read.val_main_v368 (F := Ideal) (a0 m c) (a1 m c) (a2 m c) (a3 m c) (a4 m c) (a5 m c) (a6 m c) (a7 m c) (a8 m c) (a9 m c) (a10 m c) (a11 m c) (a12 m c) (a13 m c) (a14 m c) (a15 m c) (ix2 (tok t r) j) := by
  refine (x1V_apply _ _ _ _ _ _ _ _ _ _ _ _ _ _ _ _ _ r j).trans (Eq.trans ?_ (v368_eq (a0 m c) (a1 m c) (a2 m c) (a3 m c) (a4 m c) (a5 m c) (a6 m c) (a7 m c) (a8 m c) (a9 m c) (a10 m c) (a11 m c) (a12 m c) (a13 m c) (a14 m c) (a15 m c) (tok t r) j).symm)
  simp only [ptJ_eq hC, blk15, blk0, blk1]
  rfl

variable {m c} in
/-- The array of window 17. -/
theorem final17 (hC : RealC m c) : (data m 0 c).arrAt 17 cfg0.N = Cert.Reference4Ideal.Read.val_main_v368 (F := Ideal) (a0 m c) (a1 m c) (a2 m c) (a3 m c) (a4 m c) (a5 m c) (a6 m c) (a7 m c) (a8 m c) (a9 m c) (a10 m c) (a11 m c) (a12 m c) (a13 m c) (a14 m c) (a15 m c) := by
  refine (data m 0 c).arrAt_eq_of_covers 17 _ (by decide +kernel) fun t hf y => ?_
  blk_simp
  rw [after17]
  refine ((congrArg _ (ix2_eta y).symm).trans (point17 hC t (y 0) (y 1))).trans ?_
  have key : ∀ G : S8192x1024.Idx → EReal, G (ix2 (tok t (y 0)) (y 1)) = G ((win0_17.blk t).view.emb y) := fun G => by
    blk_point [odx t]
    show 512 * t.val + (y 0).val = _
    omega
  exact key _

theorem point18 (t : Fin cfg0.N) (r : Fin 512) (j : Fin 1024) :
    hV (F := Ideal) (iblk m c 0 t) (iblk m c 1 t) (iblk m c 2 t) (ix2 r j) = Cert.Reference4Ideal.Read.val_main_v369 (F := Ideal) (a0 m c) (a1 m c) (a2 m c) (ix2 (tok t r) j) := by
  refine (hV_apply (iblk m c 0 t) (iblk m c 1 t) (iblk m c 2 t) r j).trans (Eq.trans ?_ (v369_eq (a0 m c) (a1 m c) (a2 m c) (tok t r) j).symm)
  rw [← ptH_eq]

/-- The array of window 18. -/
theorem final18  : (data m 0 c).arrAt 18 cfg0.N = Cert.Reference4Ideal.Read.val_main_v369 (F := Ideal) (a0 m c) (a1 m c) (a2 m c) := by
  refine (data m 0 c).arrAt_eq_of_covers 18 _ (by decide +kernel) fun t hf y => ?_
  blk_simp
  rw [after18]
  refine ((congrArg _ (ix2_eta y).symm).trans (point18 m c t (y 0) (y 1))).trans ?_
  have key : ∀ G : S8192x1024.Idx → EReal, G (ix2 (tok t (y 0)) (y 1)) = G ((win0_18.blk t).view.emb y) := fun G => by
    blk_point [odx t]
    show 512 * t.val + (y 0).val = _
    omega
  exact key _

theorem point19 (t : Fin cfg0.N) (r : Fin 512) (j : Fin 1024) :
    vgV (F := Ideal) (iblk m c 0 t) (iblk m c 1 t) (iblk m c 2 t) (iblk m c 3 t) (iblk m c 4 t) (ix2 r j) = Cert.Reference4Ideal.Read.val_main_v31 (F := Ideal) (a0 m c) (a1 m c) (a2 m c) (a3 m c) (a4 m c) (ix2 (tok t r) j) := by
  refine (vgV_apply (iblk m c 0 t) (iblk m c 1 t) (iblk m c 2 t) (iblk m c 3 t) (iblk m c 4 t) r j).trans (Eq.trans ?_ (v31_eq (a0 m c) (a1 m c) (a2 m c) (a3 m c) (a4 m c) (tok t r) j).symm)
  rw [← ptZ_eq]

/-- The array of window 19. -/
theorem final19  : (data m 0 c).arrAt 19 cfg0.N = Cert.Reference4Ideal.Read.val_main_v31 (F := Ideal) (a0 m c) (a1 m c) (a2 m c) (a3 m c) (a4 m c) := by
  refine (data m 0 c).arrAt_eq_of_covers 19 _ (by decide +kernel) fun t hf y => ?_
  blk_simp
  rw [after19]
  refine ((congrArg _ (ix2_eta y).symm).trans (point19 m c t (y 0) (y 1))).trans ?_
  have key : ∀ G : S8192x1024.Idx → EReal, G (ix2 (tok t (y 0)) (y 1)) = G ((win0_19.blk t).view.emb y) := fun G => by
    blk_point [odx t]
    show 512 * t.val + (y 0).val = _
    omega
  exact key _

theorem point20 (t : Fin cfg0.N) (r : Fin 512) (j : Fin 512) :
    mxV (F := Ideal) (zB m c t) (iblk m c 5 t) (iblk m c 6 t) (iblk m c 7 t) (iblk m c 8 t) (ix2 r j) = Cert.Reference4Ideal.Read.val_main_v78 (F := Ideal) (a0 m c) (a1 m c) (a2 m c) (a3 m c) (a4 m c) (a5 m c) (a6 m c) (a7 m c) (a8 m c) (ix2 (tok t r) j) := by
  exact (ptM_eq m c t r j).trans (v78_eq (a0 m c) (a1 m c) (a2 m c) (a3 m c) (a4 m c) (a5 m c) (a6 m c) (a7 m c) (a8 m c) (tok t r) j).symm

/-- The array of window 20. -/
theorem final20  : (data m 0 c).arrAt 20 cfg0.N = Cert.Reference4Ideal.Read.val_main_v78 (F := Ideal) (a0 m c) (a1 m c) (a2 m c) (a3 m c) (a4 m c) (a5 m c) (a6 m c) (a7 m c) (a8 m c) := by
  refine (data m 0 c).arrAt_eq_of_covers 20 _ (by decide +kernel) fun t hf y => ?_
  blk_simp
  rw [after20]
  refine ((congrArg _ (ix2_eta y).symm).trans (point20 m c t (y 0) (y 1))).trans ?_
  have key : ∀ G : S8192x512.Idx → EReal, G (ix2 (tok t (y 0)) (y 1)) = G ((win0_20.blk t).view.emb y) := fun G => by
    blk_point [odx t]
    show 512 * t.val + (y 0).val = _
    omega
  exact key _

variable {m c} in
theorem point21 (hC : RealC m c) (t : Fin cfg0.N) (r : Fin 512) (j : Fin 1024) :
    yV (F := Ideal) (zB m c t) (uB m c t) (gB m c t) (iblk m c 5 t) (iblk m c 6 t) (iblk m c 7 t) (iblk m c 8 t) (iblk m c 9 t) (iblk m c 10 t) (iblk m c 11 t) (iblk m c 12 t) (iblk m c 13 t) (iblk m c 14 t) (iblk m c 16 t) (ix2 r j) = Cert.Reference4Ideal.Read.val_main_v370 (F := Ideal) (a0 m c) (a1 m c) (a2 m c) (a3 m c) (a4 m c) (a5 m c) (a6 m c) (a7 m c) (a8 m c) (a9 m c) (a10 m c) (a11 m c) (a12 m c) (a13 m c) (a14 m c) (ix2 (tok t r) j) := by
  refine (yV_apply _ _ _ _ _ _ _ _ _ _ _ _ _ _ r j).trans (Eq.trans ?_ (v370_eq (a0 m c) (a1 m c) (a2 m c) (a3 m c) (a4 m c) (a5 m c) (a6 m c) (a7 m c) (a8 m c) (a9 m c) (a10 m c) (a11 m c) (a12 m c) (a13 m c) (a14 m c) (tok t r) j).symm)
  rw [ptJ_eq hC]

variable {m c} in
/-- The array of window 21. -/
theorem final21 (hC : RealC m c) : (data m 0 c).arrAt 21 cfg0.N = Cert.Reference4Ideal.Read.val_main_v370 (F := Ideal) (a0 m c) (a1 m c) (a2 m c) (a3 m c) (a4 m c) (a5 m c) (a6 m c) (a7 m c) (a8 m c) (a9 m c) (a10 m c) (a11 m c) (a12 m c) (a13 m c) (a14 m c) := by
  refine (data m 0 c).arrAt_eq_of_covers 21 _ (by decide +kernel) fun t hf y => ?_
  blk_simp
  rw [after21]
  refine ((congrArg _ (ix2_eta y).symm).trans (point21 hC t (y 0) (y 1))).trans ?_
  have key : ∀ G : S8192x1024.Idx → EReal, G (ix2 (tok t (y 0)) (y 1)) = G ((win0_21.blk t).view.emb y) := fun G => by
    blk_point [odx t]
    show 512 * t.val + (y 0).val = _
    omega
  exact key _

variable {m c} in
theorem point22 (hC : RealC m c) (t : Fin cfg0.N) (r : Fin 512) (j : Fin 1024) :
    oV (F := Ideal) (zB m c t) (uB m c t) (gB m c t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r j) = Cert.Reference4Ideal.Read.val_main_v362 (F := Ideal) (a0 m c) (a1 m c) (a2 m c) (a3 m c) (a4 m c) (a5 m c) (a6 m c) (a7 m c) (a8 m c) (a9 m c) (a10 m c) (a11 m c) (a12 m c) (a13 m c) (a14 m c) (a15 m c) (ix2 (tok t r) j) := by
  refine (oV_apply _ _ _ _ _ _ _ _ _ _ _ _ _ _ _ r j).trans (Eq.trans ?_ (v362_eq (a0 m c) (a1 m c) (a2 m c) (a3 m c) (a4 m c) (a5 m c) (a6 m c) (a7 m c) (a8 m c) (a9 m c) (a10 m c) (a11 m c) (a12 m c) (a13 m c) (a14 m c) (a15 m c) (tok t r) j).symm)
  simp only [ptJ_eq hC, blk15]
  rfl

variable {m c} in
/-- The array of window 22. -/
theorem final22 (hC : RealC m c) : (data m 0 c).arrAt 22 cfg0.N = Cert.Reference4Ideal.Read.val_main_v362 (F := Ideal) (a0 m c) (a1 m c) (a2 m c) (a3 m c) (a4 m c) (a5 m c) (a6 m c) (a7 m c) (a8 m c) (a9 m c) (a10 m c) (a11 m c) (a12 m c) (a13 m c) (a14 m c) (a15 m c) := by
  refine (data m 0 c).arrAt_eq_of_covers 22 _ (by decide +kernel) fun t hf y => ?_
  blk_simp
  rw [after22]
  refine ((congrArg _ (ix2_eta y).symm).trans (point22 hC t (y 0) (y 1))).trans ?_
  have key : ∀ G : S8192x1024.Idx → EReal, G (ix2 (tok t (y 0)) (y 1)) = G ((win0_22.blk t).view.emb y) := fun G => by
    blk_point [odx t]
    show 512 * t.val + (y 0).val = _
    omega
  exact key _

theorem point23 (t : Fin cfg0.N) (r : Fin 512) (j : Fin 512) :
    guV (F := Ideal) (iblk m c 0 t) (iblk m c 1 t) (iblk m c 2 t) (iblk m c 3 t) (iblk m c 4 t) (ix2 r j) = Cert.Reference4Ideal.Read.val_main_v38 (F := Ideal) (a0 m c) (a1 m c) (a2 m c) (a3 m c) (a4 m c) (ix2 (tok t r) j) := by
  refine (guV_apply (iblk m c 0 t) (iblk m c 1 t) (iblk m c 2 t) (iblk m c 3 t) (iblk m c 4 t) r j).trans (Eq.trans ?_ (v38_eq (a0 m c) (a1 m c) (a2 m c) (a3 m c) (a4 m c) (tok t r) j).symm)
  rw [← ptZ_eq]

/-- The array of window 23. -/
theorem final23  : (data m 0 c).arrAt 23 cfg0.N = Cert.Reference4Ideal.Read.val_main_v38 (F := Ideal) (a0 m c) (a1 m c) (a2 m c) (a3 m c) (a4 m c) := by
  refine (data m 0 c).arrAt_eq_of_covers 23 _ (by decide +kernel) fun t hf y => ?_
  blk_simp
  rw [after23]
  refine ((congrArg _ (ix2_eta y).symm).trans (point23 m c t (y 0) (y 1))).trans ?_
  have key : ∀ G : S8192x512.Idx → EReal, G (ix2 (tok t (y 0)) (y 1)) = G ((win0_23.blk t).view.emb y) := fun G => by
    blk_point [odx t]
    show 512 * t.val + (y 0).val = _
    omega
  exact key _

theorem point26 (t : Fin cfg0.N) (r : Fin 512) (j : Fin 512) :
    vhV (F := Ideal) (iblk m c 0 t) (iblk m c 1 t) (iblk m c 2 t) (iblk m c 3 t) (iblk m c 4 t) (ix2 r j) = Cert.Reference4Ideal.Read.val_main_v61 (F := Ideal) (a0 m c) (a1 m c) (a2 m c) (a3 m c) (a4 m c) (ix2 (tok t r) j) := by
  refine (vhV_apply (iblk m c 0 t) (iblk m c 1 t) (iblk m c 2 t) (iblk m c 3 t) (iblk m c 4 t) r j).trans (Eq.trans ?_ (v61_eq (a0 m c) (a1 m c) (a2 m c) (a3 m c) (a4 m c) (tok t r) j).symm)
  unfold refV
  rw [← ptZ_eq]

/-- The array of window 26. -/
theorem final26  : (data m 0 c).arrAt 26 cfg0.N = Cert.Reference4Ideal.Read.val_main_v61 (F := Ideal) (a0 m c) (a1 m c) (a2 m c) (a3 m c) (a4 m c) := by
  refine (data m 0 c).arrAt_eq_of_covers 26 _ (by decide +kernel) fun t hf y => ?_
  blk_simp
  rw [after26]
  refine ((congrArg _ (ix2_eta y).symm).trans (point26 m c t (y 0) (y 1))).trans ?_
  have key : ∀ G : S8192x512.Idx → EReal, G (ix2 (tok t (y 0)) (y 1)) = G ((win0_26.blk t).view.emb y) := fun G => by
    blk_point [odx t]
    show 512 * t.val + (y 0).val = _
    omega
  exact key _

theorem point27 (t : Fin cfg0.N) (r : Fin 512) (j : Fin 128) :
    rsV (F := Ideal) (zB m c t) (ix2 r j) = Cert.Reference4Ideal.Read.val_main_v371 (F := Ideal) (a0 m c) (a1 m c) (a2 m c) (a3 m c) (a4 m c) (ix2 (tok t r) j) := by
  refine (rsV_apply _ r j).trans (Eq.trans ?_ (v371_eq (a0 m c) (a1 m c) (a2 m c) (a3 m c) (a4 m c) (tok t r) j).symm)
  rw [ptV_eq]

/-- The array of window 27. -/
theorem final27  : (data m 0 c).arrAt 27 cfg0.N = Cert.Reference4Ideal.Read.val_main_v371 (F := Ideal) (a0 m c) (a1 m c) (a2 m c) (a3 m c) (a4 m c) := by
  refine (data m 0 c).arrAt_eq_of_covers 27 _ (by decide +kernel) fun t hf y => ?_
  blk_simp
  rw [after27]
  refine ((congrArg _ (ix2_eta y).symm).trans (point27 m c t (y 0) (y 1))).trans ?_
  have key : ∀ G : S8192x128.Idx → EReal, G (ix2 (tok t (y 0)) (y 1)) = G ((win0_27.blk t).view.emb y) := fun G => by
    blk_point [odx t]
    show 512 * t.val + (y 0).val = _
    omega
  exact key _

variable {m c} in
theorem point28 (hC : RealC m c) (t : Fin cfg0.N) (r : Fin 512) (j : Fin 512) :
    yhV (F := Ideal) (gB m c t) (iblk m c 9 t) (iblk m c 10 t) (iblk m c 16 t) (ix2 r j) = Cert.Reference4Ideal.Read.val_main_v326 (F := Ideal) (a0 m c) (a1 m c) (a2 m c) (a3 m c) (a4 m c) (a9 m c) (a10 m c) (ix2 (tok t r) j) := by
  refine (yhV_apply _ _ _ _ r j).trans (Eq.trans ?_ (v326_eq (a0 m c) (a1 m c) (a2 m c) (a3 m c) (a4 m c) (a9 m c) (a10 m c) (tok t r) j).symm)
  rw [ptD_eq, ptS_eq, knorm_eq (hC _)]
  rfl

variable {m c} in
/-- The array of window 28. -/
theorem final28 (hC : RealC m c) : (data m 0 c).arrAt 28 cfg0.N = Cert.Reference4Ideal.Read.val_main_v326 (F := Ideal) (a0 m c) (a1 m c) (a2 m c) (a3 m c) (a4 m c) (a9 m c) (a10 m c) := by
  refine (data m 0 c).arrAt_eq_of_covers 28 _ (by decide +kernel) fun t hf y => ?_
  blk_simp
  rw [after28]
  refine ((congrArg _ (ix2_eta y).symm).trans (point28 hC t (y 0) (y 1))).trans ?_
  have key : ∀ G : S8192x512.Idx → EReal, G (ix2 (tok t (y 0)) (y 1)) = G ((win0_28.blk t).view.emb y) := fun G => by
    blk_point [odx t]
    show 512 * t.val + (y 0).val = _
    omega
  exact key _

variable {m c} in
theorem point29 (hC : RealC m c) (t : Fin cfg0.N) (r : Fin 512) (j : Fin 512) :
    rgV (F := Ideal) (gB m c t) (iblk m c 9 t) (iblk m c 10 t) (iblk m c 16 t) (ix2 r j) = Cert.Reference4Ideal.Read.val_main_v325 (F := Ideal) (a0 m c) (a1 m c) (a2 m c) (a3 m c) (a4 m c) (a9 m c) (a10 m c) (ix2 (tok t r) j) := by
  refine (rgV_apply _ _ _ _ r j).trans (Eq.trans ?_ (v325_eq (a0 m c) (a1 m c) (a2 m c) (a3 m c) (a4 m c) (a9 m c) (a10 m c) (tok t r) j).symm)
  rw [ptS_eq, kscal_eq (hC _)]

variable {m c} in
/-- The array of window 29. -/
theorem final29 (hC : RealC m c) : (data m 0 c).arrAt 29 cfg0.N = Cert.Reference4Ideal.Read.val_main_v325 (F := Ideal) (a0 m c) (a1 m c) (a2 m c) (a3 m c) (a4 m c) (a9 m c) (a10 m c) := by
  refine (data m 0 c).arrAt_eq_of_covers 29 _ (by decide +kernel) fun t hf y => ?_
  blk_simp
  rw [after29]
  refine ((congrArg _ (ix2_eta y).symm).trans (point29 hC t (y 0) (y 1))).trans ?_
  have key : ∀ G : S8192x512.Idx → EReal, G (ix2 (tok t (y 0)) (y 1)) = G ((win0_29.blk t).view.emb y) := fun G => by
    blk_point [odx t]
    show 512 * t.val + (y 0).val = _
    omega
  exact key _

set_option maxHeartbeats 4000000 in
/-- The launch's named results, as the reference's arrays of the arguments. -/
theorem run_values (ρ : Dev nD → PrngReg) (hC : ∀ c, RealC m c) : θ_run (defs (F := Ideal)) (onTc (τ := τ) (main (F := Ideal))) ⟨m, fun _ => 0, ρ⟩ (fun r => ∀ c : Dev nD,
      r.2.mem ((c.tc : Thread nD τ).loc main_v26_0) = Cert.Reference4Ideal.Read.val_main_v368 (F := Ideal) (a0 m c) (a1 m c) (a2 m c) (a3 m c) (a4 m c) (a5 m c) (a6 m c) (a7 m c) (a8 m c) (a9 m c) (a10 m c) (a11 m c) (a12 m c) (a13 m c) (a14 m c) (a15 m c)
      ∧ r.2.mem ((c.tc : Thread nD τ).loc main_v26_1) = Cert.Reference4Ideal.Read.val_main_v369 (F := Ideal) (a0 m c) (a1 m c) (a2 m c)
      ∧ r.2.mem ((c.tc : Thread nD τ).loc main_v26_2) = Cert.Reference4Ideal.Read.val_main_v31 (F := Ideal) (a0 m c) (a1 m c) (a2 m c) (a3 m c) (a4 m c)
      ∧ r.2.mem ((c.tc : Thread nD τ).loc main_v26_3) = Cert.Reference4Ideal.Read.val_main_v78 (F := Ideal) (a0 m c) (a1 m c) (a2 m c) (a3 m c) (a4 m c) (a5 m c) (a6 m c) (a7 m c) (a8 m c)
      ∧ r.2.mem ((c.tc : Thread nD τ).loc main_v26_4) = Cert.Reference4Ideal.Read.val_main_v370 (F := Ideal) (a0 m c) (a1 m c) (a2 m c) (a3 m c) (a4 m c) (a5 m c) (a6 m c) (a7 m c) (a8 m c) (a9 m c) (a10 m c) (a11 m c) (a12 m c) (a13 m c) (a14 m c)
      ∧ r.2.mem ((c.tc : Thread nD τ).loc main_v26_5) = Cert.Reference4Ideal.Read.val_main_v362 (F := Ideal) (a0 m c) (a1 m c) (a2 m c) (a3 m c) (a4 m c) (a5 m c) (a6 m c) (a7 m c) (a8 m c) (a9 m c) (a10 m c) (a11 m c) (a12 m c) (a13 m c) (a14 m c) (a15 m c)
      ∧ r.2.mem ((c.tc : Thread nD τ).loc main_v26_6) = Cert.Reference4Ideal.Read.val_main_v38 (F := Ideal) (a0 m c) (a1 m c) (a2 m c) (a3 m c) (a4 m c)
      ∧ r.2.mem ((c.tc : Thread nD τ).loc main_v26_9) = Cert.Reference4Ideal.Read.val_main_v61 (F := Ideal) (a0 m c) (a1 m c) (a2 m c) (a3 m c) (a4 m c)
      ∧ r.2.mem ((c.tc : Thread nD τ).loc main_v26_10) = Cert.Reference4Ideal.Read.val_main_v371 (F := Ideal) (a0 m c) (a1 m c) (a2 m c) (a3 m c) (a4 m c)
      ∧ r.2.mem ((c.tc : Thread nD τ).loc main_v26_11) = Cert.Reference4Ideal.Read.val_main_v326 (F := Ideal) (a0 m c) (a1 m c) (a2 m c) (a3 m c) (a4 m c) (a9 m c) (a10 m c)
      ∧ r.2.mem ((c.tc : Thread nD τ).loc main_v26_12) = Cert.Reference4Ideal.Read.val_main_v325 (F := Ideal) (a0 m c) (a1 m c) (a2 m c) (a3 m c) (a4 m c) (a9 m c) (a10 m c)) :=
  (θ_run _ _ _).mono (fun r hq c => by
    have h := hq.1
    exact ⟨(((data m 0 c).toRForget_arrAt_iff (fgt := unseen) (w := 17) rfl _ _).mp ((h c).1 17)).trans (final17 (hC c)),
      (((data m 0 c).toRForget_arrAt_iff (fgt := unseen) (w := 18) rfl _ _).mp ((h c).1 18)).trans (final18 m c),
      (((data m 0 c).toRForget_arrAt_iff (fgt := unseen) (w := 19) rfl _ _).mp ((h c).1 19)).trans (final19 m c),
      (((data m 0 c).toRForget_arrAt_iff (fgt := unseen) (w := 20) rfl _ _).mp ((h c).1 20)).trans (final20 m c),
      (((data m 0 c).toRForget_arrAt_iff (fgt := unseen) (w := 21) rfl _ _).mp ((h c).1 21)).trans (final21 (hC c)),
      (((data m 0 c).toRForget_arrAt_iff (fgt := unseen) (w := 22) rfl _ _).mp ((h c).1 22)).trans (final22 (hC c)),
      (((data m 0 c).toRForget_arrAt_iff (fgt := unseen) (w := 23) rfl _ _).mp ((h c).1 23)).trans (final23 m c),
      (((data m 0 c).toRForget_arrAt_iff (fgt := unseen) (w := 26) rfl _ _).mp ((h c).1 26)).trans (final26 m c),
      (((data m 0 c).toRForget_arrAt_iff (fgt := unseen) (w := 27) rfl _ _).mp ((h c).1 27)).trans (final27 m c),
      (((data m 0 c).toRForget_arrAt_iff (fgt := unseen) (w := 28) rfl _ _).mp ((h c).1 28)).trans (final28 (hC c)),
      (((data m 0 c).toRForget_arrAt_iff (fgt := unseen) (w := 29) rfl _ _).mp ((h c).1 29)).trans (final29 (hC c))⟩) (ran m ρ)

end Cert.Kernel4Ideal.Mix

namespace Cert.Mixer

open Idealize.ShloMosaic Idealize.ShloMosaic.TcCoe Idealize.SL.Sem Cert.Coe

/-- The precondition's side conditions. -/
theorem preFacts : Cert.Pre_finite4.Facts where
  slices_S8x1024_S2x1024_0_0 := by decide
  bcast_S_S2x1024 := by decide
  reducesTo_S2x1024_S_d0_1 := by decide
  h_S_ := by decide
  slices_S1024x2048_S1024x512_0_1024 := by decide
  slices_S1x2048_S1x512_0_1024 := by decide
  bcast_S_S1x1024 := by decide
  reducesTo_S1x1024_S_d0_1 := by decide
  bcast_S_S1024x512 := by decide
  reducesTo_S1024x512_S_d0_1 := by decide
  bcast_S_S1x512 := by decide
  reducesTo_S1x512_S_d0_1 := by decide
  bcast_S_S31x512 := by decide
  reducesTo_S31x512_S_d0_1 := by decide

open Cert.Pre_finite4 in
/-- A test that every element is below infinity says that every element is real. -/
theorem all_real {s : Shape} (x : FVec Ideal s .f32) {axes : List (Fin s.rank)} (hb : S_.BroadcastsInDim s (![] : Fin 0 → Fin s.rank)) (hr : s.ReducesTo axes S_) (h0 : 0 < S_.numel) (j : S_.Idx)
    (h : Host.reduce IntOp.andi (cmpf (F := Ideal) .olt (Host.absf x) (broadcastInDim s ![] hb (constant (F := Ideal) S_ .f32 0x7F800000#32)))
      (constantI S_ 1 1#1) hr h0 j = 1#1) (i : s.Idx) : IsR (x i) := by
  haveI : Subsingleton S_.Idx := ⟨fun a b => funext fun k => k.elim0⟩
  exact Cert.Ffn.real_of_cmp x i _ ofBits_inf (Host.reduce_andi_all _ _ hr h0 j h i)

open Cert.Pre_finite4 Cert.Pre_finite4.Facts in
/-- What the precondition says of the convolved group. -/
theorem real_of_pre (x0 : FVec Ideal S8192x1024 .f32) (x1 : FVec Ideal S8x1024 .f32) (x2 : FVec Ideal S1x1024 .f32) (x3 : FVec Ideal S1024x2048 .f32) (x4 : FVec Ideal S1x2048 .f32) (x5 : FVec Ideal S1x512 .f32) (x6 : FVec Ideal S1x512 .f32) (x7 : FVec Ideal S8x128x128 .f32) (x8 : FVec Ideal S8x128 .f32) (x9 : FVec Ideal S31x512 .f32) (x10 : FVec Ideal S1x512 .f32) (x11 : FVec Ideal S1x512 .f32) (x12 : FVec Ideal S1x512 .f32) (x13 : FVec Ideal S1x512 .f32) (x14 : FVec Ideal S1x512 .f32) (x15 : FVec Ideal S1024x1024 .f32) [Cert.Pre_finite4.Facts]
    (h : Cert.Pre_finite4.fn (F := Ideal) x0 x1 x2 x3 x4 x5 x6 x7 x8 x9 x10 x11 x12 x13 x14 x15 = fun _ => 1#1) (r : Fin 8192) (j : Fin 512) : IsR (refC x0 x1 x2 x3 x4 x9 x10 r j) := by
  have k : S_.Idx := fun k => k.elim0
  dsimp only [fn, fn_part1] at h
  have e := congrFun h k
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  have h1 := all_real _ bcast_S_S2x1024 reducesTo_S2x1024_S_d0_1 h_S_ k e1
  have h3 := all_real _ bcast_S_S1024x512 reducesTo_S1024x512_S_d0_1 h_S_ k e3
  have h4 := all_real _ bcast_S_S1x512 reducesTo_S1x512_S_d0_1 h_S_ k e4
  refine real_refC x0 x1 x2 x3 x4 x9 x10 (fun a b ha => ?_) (all_real x2 bcast_S_S1x1024 reducesTo_S1x1024_S_d0_1 h_S_ k e2) (fun a b => ?_) (fun b => ?_)
    (all_real x9 bcast_S_S31x512 reducesTo_S31x512_S_d0_1 h_S_ k e5) (all_real x10 bcast_S_S1x512 reducesTo_S1x512_S_d0_1 h_S_ k e6) r j
  · obtain ⟨f, hf⟩ := h1 (ix2 (⟨a.val, ha⟩ : Fin 2) b)
    refine ⟨f, Eq.trans (congrArg x1 (funext fun d => Fin.ext ?_)) hf⟩
    fin_cases d
    · exact (Nat.zero_add _).symm
    · exact (Nat.zero_add _).symm
  · obtain ⟨f, hf⟩ := h3 (ix2 a b)
    refine ⟨f, Eq.trans (congrArg x3 (funext fun d => Fin.ext ?_)) hf⟩
    fin_cases d
    · exact (Nat.zero_add _).symm
    · rfl
  · obtain ⟨f, hf⟩ := h4 (ix2 0 b)
    refine ⟨f, Eq.trans (congrArg x4 (funext fun d => Fin.ext ?_)) hf⟩
    fin_cases d
    · rfl
    · rfl

set_option maxHeartbeats 8000000 in
/-- The mixer. -/
theorem mixer : Cert.algebraic_Kernel4Ideal_Reference4Ideal_pre_finite4 (hKernel4Ideal := Cert.Kernel4Ideal.Gen.facts) (hReference4Ideal := Cert.Reference4Ideal.Gen.facts)
    (hPre_finite4 := preFacts) := by
  intro m g m' g' hp hm
  haveI := preFacts
  have hC : ∀ c, Cert.Kernel4Ideal.Mix.RealC m c := fun c => real_of_pre _ _ _ _ _ _ _ _ _ _ _ _ _ _ _ _ (hp c)
  refine ⟨_, _, _, _, _, _, _, _, _, _, _, (θ_run _ _ _).mono (fun r h c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1, (h.1 c).2.2.2.2.2.2.2.2.2.1, (h.1 c).2.2.2.2.2.2.2.2.2.2, h.2.1 c⟩)
      (θ_run_and (Cert.Kernel4Ideal.Mix.run_values m g hC) (Cert.Kernel4Ideal.Mix.frame m g)),
    (θ_run _ _ _).mono (fun r h c => ⟨((h c).1).trans ?_, ((h c).2.1).trans ?_, ((h c).2.2.1).trans ?_, ((h c).2.2.2.1).trans ?_, ((h c).2.2.2.2.1).trans ?_, ((h c).2.2.2.2.2.1).trans ?_, ((h c).2.2.2.2.2.2.1).trans ?_, ((h c).2.2.2.2.2.2.2.1).trans ?_, ((h c).2.2.2.2.2.2.2.2.1).trans ?_, ((h c).2.2.2.2.2.2.2.2.2.1).trans ?_, ((h c).2.2.2.2.2.2.2.2.2.2.1).trans ?_, (h c).2.2.2.2.2.2.2.2.2.2.2⟩)
      (Cert.Reference4Ideal.Value.run m' g')⟩
  · refine (Cert.Reference4Ideal.Read.val_main_v368_eq (StableHlo.launchContents m' c)).trans ?_
    show Cert.Reference4Ideal.Read.val_main_v368 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10)) (m' ((c.tc : Thread Cert.Reference4Ideal.nD Cert.Reference4Ideal.τ).loc Cert.Reference4Ideal.main_arg11)) (m' ((c.tc : Thread Cert.Reference4Ideal.nD Cert.Reference4Ideal.τ).loc Cert.Reference4Ideal.main_arg12)) (m' ((c.tc : Thread Cert.Reference4Ideal.nD Cert.Reference4Ideal.τ).loc Cert.Reference4Ideal.main_arg13)) (m' ((c.tc : Thread Cert.Reference4Ideal.nD Cert.Reference4Ideal.τ).loc Cert.Reference4Ideal.main_arg14)) (m' ((c.tc : Thread Cert.Reference4Ideal.nD Cert.Reference4Ideal.τ).loc Cert.Reference4Ideal.main_arg15)) = _
    rw [(hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2.1, (hm c).2.2.2.2.2.2.2.2.2.1, (hm c).2.2.2.2.2.2.2.2.2.2.1, (hm c).2.2.2.2.2.2.2.2.2.2.2.1, (hm c).2.2.2.2.2.2.2.2.2.2.2.2.1, (hm c).2.2.2.2.2.2.2.2.2.2.2.2.2.1, (hm c).2.2.2.2.2.2.2.2.2.2.2.2.2.2.1, (hm c).2.2.2.2.2.2.2.2.2.2.2.2.2.2.2]
  · refine (Cert.Reference4Ideal.Read.val_main_v369_eq (StableHlo.launchContents m' c)).trans ?_
    show Cert.Reference4Ideal.Read.val_main_v369 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) = _
    rw [(hm c).1, (hm c).2.1, (hm c).2.2.1]
  · refine (Cert.Reference4Ideal.Read.val_main_v31_eq (StableHlo.launchContents m' c)).trans ?_
    show Cert.Reference4Ideal.Read.val_main_v31 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) = _
    rw [(hm c).1, (hm c).2.1, (hm c).2.2.1, (hm c).2.2.2.1, (hm c).2.2.2.2.1]
  · refine (Cert.Reference4Ideal.Read.val_main_v78_eq (StableHlo.launchContents m' c)).trans ?_
    show Cert.Reference4Ideal.Read.val_main_v78 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) = _
    rw [(hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2.1]
  · refine (Cert.Reference4Ideal.Read.val_main_v370_eq (StableHlo.launchContents m' c)).trans ?_
    show Cert.Reference4Ideal.Read.val_main_v370 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10)) (m' ((c.tc : Thread Cert.Reference4Ideal.nD Cert.Reference4Ideal.τ).loc Cert.Reference4Ideal.main_arg11)) (m' ((c.tc : Thread Cert.Reference4Ideal.nD Cert.Reference4Ideal.τ).loc Cert.Reference4Ideal.main_arg12)) (m' ((c.tc : Thread Cert.Reference4Ideal.nD Cert.Reference4Ideal.τ).loc Cert.Reference4Ideal.main_arg13)) (m' ((c.tc : Thread Cert.Reference4Ideal.nD Cert.Reference4Ideal.τ).loc Cert.Reference4Ideal.main_arg14)) = _
    rw [(hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2.1, (hm c).2.2.2.2.2.2.2.2.2.1, (hm c).2.2.2.2.2.2.2.2.2.2.1, (hm c).2.2.2.2.2.2.2.2.2.2.2.1, (hm c).2.2.2.2.2.2.2.2.2.2.2.2.1, (hm c).2.2.2.2.2.2.2.2.2.2.2.2.2.1, (hm c).2.2.2.2.2.2.2.2.2.2.2.2.2.2.1]
  · refine (Cert.Reference4Ideal.Read.val_main_v362_eq (StableHlo.launchContents m' c)).trans ?_
    show Cert.Reference4Ideal.Read.val_main_v362 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10)) (m' ((c.tc : Thread Cert.Reference4Ideal.nD Cert.Reference4Ideal.τ).loc Cert.Reference4Ideal.main_arg11)) (m' ((c.tc : Thread Cert.Reference4Ideal.nD Cert.Reference4Ideal.τ).loc Cert.Reference4Ideal.main_arg12)) (m' ((c.tc : Thread Cert.Reference4Ideal.nD Cert.Reference4Ideal.τ).loc Cert.Reference4Ideal.main_arg13)) (m' ((c.tc : Thread Cert.Reference4Ideal.nD Cert.Reference4Ideal.τ).loc Cert.Reference4Ideal.main_arg14)) (m' ((c.tc : Thread Cert.Reference4Ideal.nD Cert.Reference4Ideal.τ).loc Cert.Reference4Ideal.main_arg15)) = _
    rw [(hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2.1, (hm c).2.2.2.2.2.2.2.2.2.1, (hm c).2.2.2.2.2.2.2.2.2.2.1, (hm c).2.2.2.2.2.2.2.2.2.2.2.1, (hm c).2.2.2.2.2.2.2.2.2.2.2.2.1, (hm c).2.2.2.2.2.2.2.2.2.2.2.2.2.1, (hm c).2.2.2.2.2.2.2.2.2.2.2.2.2.2.1, (hm c).2.2.2.2.2.2.2.2.2.2.2.2.2.2.2]
  · refine (Cert.Reference4Ideal.Read.val_main_v38_eq (StableHlo.launchContents m' c)).trans ?_
    show Cert.Reference4Ideal.Read.val_main_v38 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) = _
    rw [(hm c).1, (hm c).2.1, (hm c).2.2.1, (hm c).2.2.2.1, (hm c).2.2.2.2.1]
  · refine (Cert.Reference4Ideal.Read.val_main_v61_eq (StableHlo.launchContents m' c)).trans ?_
    show Cert.Reference4Ideal.Read.val_main_v61 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) = _
    rw [(hm c).1, (hm c).2.1, (hm c).2.2.1, (hm c).2.2.2.1, (hm c).2.2.2.2.1]
  · refine (Cert.Reference4Ideal.Read.val_main_v371_eq (StableHlo.launchContents m' c)).trans ?_
    show Cert.Reference4Ideal.Read.val_main_v371 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) = _
    rw [(hm c).1, (hm c).2.1, (hm c).2.2.1, (hm c).2.2.2.1, (hm c).2.2.2.2.1]
  · refine (Cert.Reference4Ideal.Read.val_main_v326_eq (StableHlo.launchContents m' c)).trans ?_
    show Cert.Reference4Ideal.Read.val_main_v326 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10)) = _
    rw [(hm c).1, (hm c).2.1, (hm c).2.2.1, (hm c).2.2.2.1, (hm c).2.2.2.2.1, (hm c).2.2.2.2.2.2.2.2.2.1, (hm c).2.2.2.2.2.2.2.2.2.2.1]
  · refine (Cert.Reference4Ideal.Read.val_main_v325_eq (StableHlo.launchContents m' c)).trans ?_
    show Cert.Reference4Ideal.Read.val_main_v325 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10)) = _
    rw [(hm c).1, (hm c).2.1, (hm c).2.2.1, (hm c).2.2.2.1, (hm c).2.2.2.2.1, (hm c).2.2.2.2.2.2.2.2.2.1, (hm c).2.2.2.2.2.2.2.2.2.2.1]

end Cert.Mixer
-- ==== Proof.MixRunBits.lean ====
/-
The mixer's forward call, run at one grid point: from the staging buffers of its operands, whatever the outputs' and
the two scratch buffers hold, the body ends with its operands as they were, and with four of the outputs (the modulated
input, the gate half of the projection, the activated first group and the normalised second group) written whole.
The other outputs and the scratch buffers end at contents that are not named.
-/
module

public import proofs.«01_k».proof.Proof.Gen.Kernel4.Frame
public import proofs.«01_k».proof.Proof.Gen.Kernel4.Skeleton

@[expose] public section

set_option maxRecDepth 16384

noncomputable section

namespace Cert.Kernel4.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4.Gen

variable {F : FTy → Type} [FloatOps F]

/-- Assertions about the machine this program runs on. -/
abbrev Asr (F : FTy → Type) := sProp (MT nD τ sig Unit (Elt F) ℕ (UR sig nD τ) ℕ)

/-- Whether the body clears the first rows of its carried buffer at this point. -/
abbrev starts (i : grid0.Coords) : Prop :=
  (Scalar.cmpi .ne (Scalar.extui (Scalar.cmpi .eq (BitVec.ofNat 32 (i 0).val) 0#32)) 0#32) = 1#1

variable (c : Dev nD) (i : grid0.Coords)
  (a0 : Memref sig .tc .vmem S512x1024 .f32) (h0 : a0.IsWhole)
  (a1 : Memref sig .tc .vmem S8x1024 .f32) (h1 : a1.IsWhole)
  (a2 : Memref sig .tc .vmem S1x1024 .f32) (h2 : a2.IsWhole)
  (a3 : Memref sig .tc .vmem S8x1024x256 .bf16) (h3 : a3.IsWhole)
  (a4 : Memref sig .tc .vmem S1x2048 .f32) (h4 : a4.IsWhole)
  (a5 : Memref sig .tc .vmem S1x512 .f32) (h5 : a5.IsWhole)
  (a6 : Memref sig .tc .vmem S1x512 .f32) (h6 : a6.IsWhole)
  (a7 : Memref sig .tc .vmem S1024x128 .bf16) (h7 : a7.IsWhole)
  (a8 : Memref sig .tc .vmem S128x512 .f32) (h8 : a8.IsWhole)
  (a9 : Memref sig .tc .vmem S32x512 .f32) (h9 : a9.IsWhole)
  (a10 : Memref sig .tc .vmem S1x512 .f32) (h10 : a10.IsWhole)
  (a11 : Memref sig .tc .vmem S1x512 .f32) (h11 : a11.IsWhole)
  (a12 : Memref sig .tc .vmem S1x512 .f32) (h12 : a12.IsWhole)
  (a13 : Memref sig .tc .vmem S1x512 .f32) (h13 : a13.IsWhole)
  (a14 : Memref sig .tc .vmem S1x512 .f32) (h14 : a14.IsWhole)
  (a15 : Memref sig .tc .vmem S1024x1024 .bf16) (h15 : a15.IsWhole)
  (a16 : Memref sig .tc .vmem S512x512 .bf16) (h16 : a16.IsWhole)
  (a17 : Memref sig .tc .vmem S512x1024 .f32) (h17 : a17.IsWhole)
  (a18 : Memref sig .tc .vmem S512x1024 .bf16) (h18 : a18.IsWhole)
  (a19 : Memref sig .tc .vmem S512x1024 .f32) (h19 : a19.IsWhole)
  (a20 : Memref sig .tc .vmem S512x512 .f32) (h20 : a20.IsWhole)
  (a21 : Memref sig .tc .vmem S512x1024 .bf16) (h21 : a21.IsWhole)
  (a22 : Memref sig .tc .vmem S512x1024 .f32) (h22 : a22.IsWhole)
  (a23 : Memref sig .tc .vmem S512x512 .f32) (h23 : a23.IsWhole)
  (a24 : Memref sig .tc .vmem S512x512 .f32) (h24 : a24.IsWhole)
  (a25 : Memref sig .tc .vmem S512x512 .f32) (h25 : a25.IsWhole)
  (a26 : Memref sig .tc .vmem S512x512 .f32) (h26 : a26.IsWhole)
  (a27 : Memref sig .tc .vmem S512x128 .f32) (h27 : a27.IsWhole)
  (a28 : Memref sig .tc .vmem S512x512 .f32) (h28 : a28.IsWhole)
  (a29 : Memref sig .tc .vmem S512x512 .f32) (h29 : a29.IsWhole)
  (a30 : Memref sig .tc .vmem S544x512 .f32) (h30 : a30.IsWhole)
  (a31 : Memref sig .tc .vmem S7x536x512 .f32) (h31 : a31.IsWhole)
  (x0 : Vec F S512x1024 .f32) (x1 : Vec F S8x1024 .f32) (x2 : Vec F S1x1024 .f32) (x3 : Vec F S8x1024x256 .bf16) (x4 : Vec F S1x2048 .f32) (x5 : Vec F S1x512 .f32) (x6 : Vec F S1x512 .f32) (x7 : Vec F S1024x128 .bf16) (x8 : Vec F S128x512 .f32) (x9 : Vec F S32x512 .f32) (x10 : Vec F S1x512 .f32) (x11 : Vec F S1x512 .f32) (x12 : Vec F S1x512 .f32) (x13 : Vec F S1x512 .f32) (x14 : Vec F S1x512 .f32) (x15 : Vec F S1024x1024 .bf16) (x16 : Vec F S512x512 .bf16)

/-- The operands' buffers, at their contents. -/
def held : Asr F :=
  iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16)

/-- The buffers of which nothing is named. -/
def free : Asr F :=
  iprop((∃ d, owns (c : Thread nD τ) a17 fullShare d) ∗ (∃ d, owns (c : Thread nD τ) a20 fullShare d) ∗ (∃ d, owns (c : Thread nD τ) a21 fullShare d) ∗ (∃ d, owns (c : Thread nD τ) a22 fullShare d) ∗ (∃ d, owns (c : Thread nD τ) a24 fullShare d) ∗ (∃ d, owns (c : Thread nD τ) a25 fullShare d) ∗ (∃ d, owns (c : Thread nD τ) a27 fullShare d) ∗ (∃ d, owns (c : Thread nD τ) a28 fullShare d) ∗ (∃ d, owns (c : Thread nD τ) a29 fullShare d) ∗ (∃ d, owns (c : Thread nD τ) a30 fullShare d) ∗ (∃ d, owns (c : Thread nD τ) a31 fullShare d))

set_option maxHeartbeats 20000000 in
/-- The body at a point that clears the carried rows, with the pieces it writes into the four named outputs. -/
def runA (hc : starts i) :
    Σ' (L18 : List (View.Piece (Elt F) S512x1024 .bf16)), Σ' (L19 : List (View.Piece (Elt F) S512x1024 .f32)),
      Σ' (L23 : List (View.Piece (Elt F) S512x512 .f32)), { L26 : List (View.Piece (Elt F) S512x512 .f32) //
      ∀ (E : Set ℕ) (K : PUnit → Asr F),
        iprop(held c a0 a1 a2 a3 a4 a5 a6 a7 a8 a9 a10 a11 a12 a13 a14 a15 a16 x0 x1 x2 x3 x4 x5 x6 x7 x8 x9 x10 x11 x12 x13 x14 x15 x16 ∗ free (F := F) c a17 a20 a21 a22 a24 a25 a27 a28 a29 a30 a31
            ∗ (∃ d, owns (c : Thread nD τ) a18 fullShare d) ∗ (∃ d, owns (c : Thread nD τ) a19 fullShare d) ∗ (∃ d, owns (c : Thread nD τ) a23 fullShare d) ∗ (∃ d, owns (c : Thread nD τ) a26 fullShare d)
            ∗ (iprop(held c a0 a1 a2 a3 a4 a5 a6 a7 a8 a9 a10 a11 a12 a13 a14 a15 a16 x0 x1 x2 x3 x4 x5 x6 x7 x8 x9 x10 x11 x12 x13 x14 x15 x16 ∗ free (F := F) c a17 a20 a21 a22 a24 a25 a27 a28 a29 a30 a31
              ∗ (∃ f, a18.view.loc (c : Thread nD τ) ↦[a18.view.set]{fullShare} a18.view.writes (Elt F) f L18) ∗ (∃ f, a19.view.loc (c : Thread nD τ) ↦[a19.view.set]{fullShare} a19.view.writes (Elt F) f L19) ∗ (∃ f, a23.view.loc (c : Thread nD τ) ↦[a23.view.set]{fullShare} a23.view.writes (Elt F) f L23) ∗ (∃ f, a26.view.loc (c : Thread nD τ) ↦[a26.view.set]{fullShare} a26.view.writes (Elt F) f L26)) -∗ K ⟨⟩))
          ⊢ wp frame (wpE (defs₀ (F := F)) Variants.none c none) E (cc0_mix_fwd i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31) K } := by
  refine ⟨?_, ?_, ?_, ?_, fun E K => ?run⟩
  case run =>
    simp only [cc0_mix_fwd_eq_skeleton]; unfold cc0_mix_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold held free owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, ⟨⟨%d17, %f17, -, H17⟩, ⟨%d20, %f20, -, H20⟩, ⟨%d21, %f21, -, H21⟩, ⟨%d22, %f22, -, H22⟩, ⟨%d24, %f24, -, H24⟩, ⟨%d25, %f25, -, H25⟩, ⟨%d27, %f27, -, H27⟩, ⟨%d28, %f28, -, H28⟩, ⟨%d29, %f29, -, H29⟩, ⟨%d30, %f30, -, H30⟩, ⟨%d31, %f31, -, H31⟩⟩, ⟨%d18, %f18, -, H18⟩, ⟨%d19, %f19, -, H19⟩, ⟨%d23, %f23, -, H23⟩, ⟨%d26, %f26, -, H26⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15; obtain rfl := h16.eq_unread hf16
    sl_exec (disch := first | sl_exact hc)
    sl_step
    iapply Hk
    isplitl [H0 H1 H2 H3 H4 H5 H6 H7 H8 H9 H10 H11 H12 H13 H14 H15 H16]
    · isplitl [H0]
      · iexists _; isplitr; · ipureintro; exact h0.read_unread _
        iexact H0
      isplitl [H1]
      · iexists _; isplitr; · ipureintro; exact h1.read_unread _
        iexact H1
      isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      isplitl [H12]
      · iexists _; isplitr; · ipureintro; exact h12.read_unread _
        iexact H12
      isplitl [H13]
      · iexists _; isplitr; · ipureintro; exact h13.read_unread _
        iexact H13
      isplitl [H14]
      · iexists _; isplitr; · ipureintro; exact h14.read_unread _
        iexact H14
      isplitl [H15]
      · iexists _; isplitr; · ipureintro; exact h15.read_unread _
        iexact H15
      iexists _; isplitr; · ipureintro; exact h16.read_unread _
      iexact H16
    isplitl [H17 H20 H21 H22 H24 H25 H27 H28 H29 H30 H31]
    · isplitl [H17]
      · iexists _, _; isplitr; swap; · iexact H17
        ipureintro; rfl
      isplitl [H20]
      · iexists _, _; isplitr; swap; · iexact H20
        ipureintro; rfl
      isplitl [H21]
      · iexists _, _; isplitr; swap; · iexact H21
        ipureintro; rfl
      isplitl [H22]
      · iexists _, _; isplitr; swap; · iexact H22
        ipureintro; rfl
      isplitl [H24]
      · iexists _, _; isplitr; swap; · iexact H24
        ipureintro; rfl
      isplitl [H25]
      · iexists _, _; isplitr; swap; · iexact H25
        ipureintro; rfl
      isplitl [H27]
      · iexists _, _; isplitr; swap; · iexact H27
        ipureintro; rfl
      isplitl [H28]
      · iexists _, _; isplitr; swap; · iexact H28
        ipureintro; rfl
      isplitl [H29]
      · iexists _, _; isplitr; swap; · iexact H29
        ipureintro; rfl
      isplitl [H30]
      · iexists _, _; isplitr; swap; · iexact H30
        ipureintro; rfl
      iexists _, _; isplitr; swap; · iexact H31
      ipureintro; rfl
    isplitl [H18]; · iexists _; iexact H18
    isplitl [H19]; · iexists _; iexact H19
    isplitl [H23]; · iexists _; iexact H23
    iexists _; iexact H26

set_option maxHeartbeats 20000000 in
/-- The body at a point that does not clear the carried rows, with the pieces it writes into the four named outputs. -/
def runB (hc : ¬starts i) :
    Σ' (L18 : List (View.Piece (Elt F) S512x1024 .bf16)), Σ' (L19 : List (View.Piece (Elt F) S512x1024 .f32)),
      Σ' (L23 : List (View.Piece (Elt F) S512x512 .f32)), { L26 : List (View.Piece (Elt F) S512x512 .f32) //
      ∀ (E : Set ℕ) (K : PUnit → Asr F),
        iprop(held c a0 a1 a2 a3 a4 a5 a6 a7 a8 a9 a10 a11 a12 a13 a14 a15 a16 x0 x1 x2 x3 x4 x5 x6 x7 x8 x9 x10 x11 x12 x13 x14 x15 x16 ∗ free (F := F) c a17 a20 a21 a22 a24 a25 a27 a28 a29 a30 a31
            ∗ (∃ d, owns (c : Thread nD τ) a18 fullShare d) ∗ (∃ d, owns (c : Thread nD τ) a19 fullShare d) ∗ (∃ d, owns (c : Thread nD τ) a23 fullShare d) ∗ (∃ d, owns (c : Thread nD τ) a26 fullShare d)
            ∗ (iprop(held c a0 a1 a2 a3 a4 a5 a6 a7 a8 a9 a10 a11 a12 a13 a14 a15 a16 x0 x1 x2 x3 x4 x5 x6 x7 x8 x9 x10 x11 x12 x13 x14 x15 x16 ∗ free (F := F) c a17 a20 a21 a22 a24 a25 a27 a28 a29 a30 a31
              ∗ (∃ f, a18.view.loc (c : Thread nD τ) ↦[a18.view.set]{fullShare} a18.view.writes (Elt F) f L18) ∗ (∃ f, a19.view.loc (c : Thread nD τ) ↦[a19.view.set]{fullShare} a19.view.writes (Elt F) f L19) ∗ (∃ f, a23.view.loc (c : Thread nD τ) ↦[a23.view.set]{fullShare} a23.view.writes (Elt F) f L23) ∗ (∃ f, a26.view.loc (c : Thread nD τ) ↦[a26.view.set]{fullShare} a26.view.writes (Elt F) f L26)) -∗ K ⟨⟩))
          ⊢ wp frame (wpE (defs₀ (F := F)) Variants.none c none) E (cc0_mix_fwd i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31) K } := by
  refine ⟨?_, ?_, ?_, ?_, fun E K => ?run⟩
  case run =>
    simp only [cc0_mix_fwd_eq_skeleton]; unfold cc0_mix_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold held free owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, ⟨⟨%d17, %f17, -, H17⟩, ⟨%d20, %f20, -, H20⟩, ⟨%d21, %f21, -, H21⟩, ⟨%d22, %f22, -, H22⟩, ⟨%d24, %f24, -, H24⟩, ⟨%d25, %f25, -, H25⟩, ⟨%d27, %f27, -, H27⟩, ⟨%d28, %f28, -, H28⟩, ⟨%d29, %f29, -, H29⟩, ⟨%d30, %f30, -, H30⟩, ⟨%d31, %f31, -, H31⟩⟩, ⟨%d18, %f18, -, H18⟩, ⟨%d19, %f19, -, H19⟩, ⟨%d23, %f23, -, H23⟩, ⟨%d26, %f26, -, H26⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15; obtain rfl := h16.eq_unread hf16
    sl_exec (disch := first | sl_exact hc)
    sl_step
    iapply Hk
    isplitl [H0 H1 H2 H3 H4 H5 H6 H7 H8 H9 H10 H11 H12 H13 H14 H15 H16]
    · isplitl [H0]
      · iexists _; isplitr; · ipureintro; exact h0.read_unread _
        iexact H0
      isplitl [H1]
      · iexists _; isplitr; · ipureintro; exact h1.read_unread _
        iexact H1
      isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      isplitl [H12]
      · iexists _; isplitr; · ipureintro; exact h12.read_unread _
        iexact H12
      isplitl [H13]
      · iexists _; isplitr; · ipureintro; exact h13.read_unread _
        iexact H13
      isplitl [H14]
      · iexists _; isplitr; · ipureintro; exact h14.read_unread _
        iexact H14
      isplitl [H15]
      · iexists _; isplitr; · ipureintro; exact h15.read_unread _
        iexact H15
      iexists _; isplitr; · ipureintro; exact h16.read_unread _
      iexact H16
    isplitl [H17 H20 H21 H22 H24 H25 H27 H28 H29 H30 H31]
    · isplitl [H17]
      · iexists _, _; isplitr; swap; · iexact H17
        ipureintro; rfl
      isplitl [H20]
      · iexists _, _; isplitr; swap; · iexact H20
        ipureintro; rfl
      isplitl [H21]
      · iexists _, _; isplitr; swap; · iexact H21
        ipureintro; rfl
      isplitl [H22]
      · iexists _, _; isplitr; swap; · iexact H22
        ipureintro; rfl
      isplitl [H24]
      · iexists _, _; isplitr; swap; · iexact H24
        ipureintro; rfl
      isplitl [H25]
      · iexists _, _; isplitr; swap; · iexact H25
        ipureintro; rfl
      isplitl [H27]
      · iexists _, _; isplitr; swap; · iexact H27
        ipureintro; rfl
      isplitl [H28]
      · iexists _, _; isplitr; swap; · iexact H28
        ipureintro; rfl
      isplitl [H29]
      · iexists _, _; isplitr; swap; · iexact H29
        ipureintro; rfl
      isplitl [H30]
      · iexists _, _; isplitr; swap; · iexact H30
        ipureintro; rfl
      iexists _, _; isplitr; swap; · iexact H31
      ipureintro; rfl
    isplitl [H18]; · iexists _; iexact H18
    isplitl [H19]; · iexists _; iexact H19
    isplitl [H23]; · iexists _; iexact H23
    iexists _; iexact H26

end Cert.Kernel4.Mix

end
-- ==== Proof.MixValsBits.lean ====
/-
What the four named outputs hold after one grid point, as functions of the blocks of the operands, and that the pieces
the body writes read back as these.
-/
module

public import proofs.«01_k».proof.Proof.MixRunBits
public import Idealize.ShloMosaic.Lib.Pipeline.ReadBack
public import Idealize.ShloMosaic.Lib.WholeRead
public import Idealize.ShloMosaic.Lib.Pipeline.ValueKit

@[expose] public section

set_option maxRecDepth 16384

noncomputable section

namespace Cert.Kernel4.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4.Gen

variable {F : FTy → Type} [FloatOps F]

/-- The modulated input's block. -/
def hV (x0 : Vec F S512x1024 .f32) (x1 : Vec F S8x1024 .f32) (x2 : Vec F S1x1024 .f32) : FVec F S512x1024 .bf16 :=
  k0_pay4 (View.ld (Val := Elt F) x0 (Rect.unit ![0, 0] S512x1024.size inb_S512x1024_S512x1024_0_0)) (View.ld (Val := Elt F) x1 (Rect.unit ![0, 0] S1x1024.size inb_S8x1024_S1x1024_0_0))
    (View.ld (Val := Elt F) x1 (Rect.unit ![1, 0] S1x1024.size inb_S8x1024_S1x1024_1_0)) (View.ld (Val := Elt F) x2 (Rect.unit ![0, 0] S1x1024.size inb_S1x1024_S1x1024_0_0))

/-- The projection's block, with its bias. -/
def zV (x0 : Vec F S512x1024 .f32) (x1 : Vec F S8x1024 .f32) (x2 : Vec F S1x1024 .f32) (x3 : Vec F S8x1024x256 .bf16) (x4 : Vec F S1x2048 .f32) : FVec F S512x2048 .f32 :=
  k0_pay7 (hV x0 x1 x2) (k0_pay5 (View.ld (Val := Elt F) x0 (Rect.unit ![0, 0] S512x1024.size inb_S512x1024_S512x1024_0_0)) (View.ld (Val := Elt F) x1 (Rect.unit ![0, 0] S1x1024.size inb_S8x1024_S1x1024_0_0)) (View.ld (Val := Elt F) x1 (Rect.unit ![1, 0] S1x1024.size inb_S8x1024_S1x1024_1_0)) (View.ld (Val := Elt F) x2 (Rect.unit ![0, 0] S1x1024.size inb_S1x1024_S1x1024_0_0)) (View.ld (Val := Elt F) x3 (Rect.unit ![0, 0, 0] S1x1024x256.size inb_S8x1024x256_S1x1024x256_0_0_0))) (k0_pay6 (View.ld (Val := Elt F) x0 (Rect.unit ![0, 0] S512x1024.size inb_S512x1024_S512x1024_0_0)) (View.ld (Val := Elt F) x1 (Rect.unit ![0, 0] S1x1024.size inb_S8x1024_S1x1024_0_0)) (View.ld (Val := Elt F) x1 (Rect.unit ![1, 0] S1x1024.size inb_S8x1024_S1x1024_1_0)) (View.ld (Val := Elt F) x2 (Rect.unit ![0, 0] S1x1024.size inb_S1x1024_S1x1024_0_0)) (View.ld (Val := Elt F) x3 (Rect.unit ![1, 0, 0] S1x1024x256.size inb_S8x1024x256_S1x1024x256_1_0_0)))
    (View.ld (Val := Elt F) x3 (Rect.unit ![2, 0, 0] S1x1024x256.size inb_S8x1024x256_S1x1024x256_2_0_0))
    (View.ld (Val := Elt F) x3 (Rect.unit ![3, 0, 0] S1x1024x256.size inb_S8x1024x256_S1x1024x256_3_0_0))
    (View.ld (Val := Elt F) x3 (Rect.unit ![4, 0, 0] S1x1024x256.size inb_S8x1024x256_S1x1024x256_4_0_0))
    (View.ld (Val := Elt F) x3 (Rect.unit ![5, 0, 0] S1x1024x256.size inb_S8x1024x256_S1x1024x256_5_0_0))
    (View.ld (Val := Elt F) x3 (Rect.unit ![6, 0, 0] S1x1024x256.size inb_S8x1024x256_S1x1024x256_6_0_0))
    (View.ld (Val := Elt F) x3 (Rect.unit ![7, 0, 0] S1x1024x256.size inb_S8x1024x256_S1x1024x256_7_0_0)) (View.ld (Val := Elt F) x4 (Rect.unit ![0, 0] S1x2048.size inb_S1x2048_S1x2048_0_0))

/-- The gate half's block. -/
def vgV (x0 : Vec F S512x1024 .f32) (x1 : Vec F S8x1024 .f32) (x2 : Vec F S1x1024 .f32) (x3 : Vec F S8x1024x256 .bf16) (x4 : Vec F S1x2048 .f32) : FVec F S512x1024 .f32 :=
  k0_pay8 (hV x0 x1 x2) (k0_pay5 (View.ld (Val := Elt F) x0 (Rect.unit ![0, 0] S512x1024.size inb_S512x1024_S512x1024_0_0)) (View.ld (Val := Elt F) x1 (Rect.unit ![0, 0] S1x1024.size inb_S8x1024_S1x1024_0_0)) (View.ld (Val := Elt F) x1 (Rect.unit ![1, 0] S1x1024.size inb_S8x1024_S1x1024_1_0)) (View.ld (Val := Elt F) x2 (Rect.unit ![0, 0] S1x1024.size inb_S1x1024_S1x1024_0_0)) (View.ld (Val := Elt F) x3 (Rect.unit ![0, 0, 0] S1x1024x256.size inb_S8x1024x256_S1x1024x256_0_0_0))) (k0_pay6 (View.ld (Val := Elt F) x0 (Rect.unit ![0, 0] S512x1024.size inb_S512x1024_S512x1024_0_0)) (View.ld (Val := Elt F) x1 (Rect.unit ![0, 0] S1x1024.size inb_S8x1024_S1x1024_0_0)) (View.ld (Val := Elt F) x1 (Rect.unit ![1, 0] S1x1024.size inb_S8x1024_S1x1024_1_0)) (View.ld (Val := Elt F) x2 (Rect.unit ![0, 0] S1x1024.size inb_S1x1024_S1x1024_0_0)) (View.ld (Val := Elt F) x3 (Rect.unit ![1, 0, 0] S1x1024x256.size inb_S8x1024x256_S1x1024x256_1_0_0)))
    (View.ld (Val := Elt F) x3 (Rect.unit ![2, 0, 0] S1x1024x256.size inb_S8x1024x256_S1x1024x256_2_0_0))
    (View.ld (Val := Elt F) x3 (Rect.unit ![3, 0, 0] S1x1024x256.size inb_S8x1024x256_S1x1024x256_3_0_0))
    (View.ld (Val := Elt F) x3 (Rect.unit ![4, 0, 0] S1x1024x256.size inb_S8x1024x256_S1x1024x256_4_0_0))
    (View.ld (Val := Elt F) x3 (Rect.unit ![5, 0, 0] S1x1024x256.size inb_S8x1024x256_S1x1024x256_5_0_0))
    (View.ld (Val := Elt F) x3 (Rect.unit ![6, 0, 0] S1x1024x256.size inb_S8x1024x256_S1x1024x256_6_0_0))
    (View.ld (Val := Elt F) x3 (Rect.unit ![7, 0, 0] S1x1024x256.size inb_S8x1024x256_S1x1024x256_7_0_0)) (View.ld (Val := Elt F) x4 (Rect.unit ![0, 0] S1x2048.size inb_S1x2048_S1x2048_0_0))

/-- The activated first group's block. -/
def guV (x0 : Vec F S512x1024 .f32) (x1 : Vec F S8x1024 .f32) (x2 : Vec F S1x1024 .f32) (x3 : Vec F S8x1024x256 .bf16) (x4 : Vec F S1x2048 .f32) : FVec F S512x512 .f32 :=
  k0_pay13 (k0_pay9 (hV x0 x1 x2) (k0_pay5 (View.ld (Val := Elt F) x0 (Rect.unit ![0, 0] S512x1024.size inb_S512x1024_S512x1024_0_0)) (View.ld (Val := Elt F) x1 (Rect.unit ![0, 0] S1x1024.size inb_S8x1024_S1x1024_0_0)) (View.ld (Val := Elt F) x1 (Rect.unit ![1, 0] S1x1024.size inb_S8x1024_S1x1024_1_0)) (View.ld (Val := Elt F) x2 (Rect.unit ![0, 0] S1x1024.size inb_S1x1024_S1x1024_0_0)) (View.ld (Val := Elt F) x3 (Rect.unit ![0, 0, 0] S1x1024x256.size inb_S8x1024x256_S1x1024x256_0_0_0))) (k0_pay6 (View.ld (Val := Elt F) x0 (Rect.unit ![0, 0] S512x1024.size inb_S512x1024_S512x1024_0_0)) (View.ld (Val := Elt F) x1 (Rect.unit ![0, 0] S1x1024.size inb_S8x1024_S1x1024_0_0)) (View.ld (Val := Elt F) x1 (Rect.unit ![1, 0] S1x1024.size inb_S8x1024_S1x1024_1_0)) (View.ld (Val := Elt F) x2 (Rect.unit ![0, 0] S1x1024.size inb_S1x1024_S1x1024_0_0)) (View.ld (Val := Elt F) x3 (Rect.unit ![1, 0, 0] S1x1024x256.size inb_S8x1024x256_S1x1024x256_1_0_0)))
    (View.ld (Val := Elt F) x3 (Rect.unit ![2, 0, 0] S1x1024x256.size inb_S8x1024x256_S1x1024x256_2_0_0))
    (View.ld (Val := Elt F) x3 (Rect.unit ![3, 0, 0] S1x1024x256.size inb_S8x1024x256_S1x1024x256_3_0_0))
    (View.ld (Val := Elt F) x3 (Rect.unit ![4, 0, 0] S1x1024x256.size inb_S8x1024x256_S1x1024x256_4_0_0))
    (View.ld (Val := Elt F) x3 (Rect.unit ![5, 0, 0] S1x1024x256.size inb_S8x1024x256_S1x1024x256_5_0_0))
    (View.ld (Val := Elt F) x3 (Rect.unit ![6, 0, 0] S1x1024x256.size inb_S8x1024x256_S1x1024x256_6_0_0))
    (View.ld (Val := Elt F) x3 (Rect.unit ![7, 0, 0] S1x1024x256.size inb_S8x1024x256_S1x1024x256_7_0_0)) (View.ld (Val := Elt F) x4 (Rect.unit ![0, 0] S1x2048.size inb_S1x2048_S1x2048_0_0)))
    (k0_pay10 (hV x0 x1 x2) (k0_pay5 (View.ld (Val := Elt F) x0 (Rect.unit ![0, 0] S512x1024.size inb_S512x1024_S512x1024_0_0)) (View.ld (Val := Elt F) x1 (Rect.unit ![0, 0] S1x1024.size inb_S8x1024_S1x1024_0_0)) (View.ld (Val := Elt F) x1 (Rect.unit ![1, 0] S1x1024.size inb_S8x1024_S1x1024_1_0)) (View.ld (Val := Elt F) x2 (Rect.unit ![0, 0] S1x1024.size inb_S1x1024_S1x1024_0_0)) (View.ld (Val := Elt F) x3 (Rect.unit ![0, 0, 0] S1x1024x256.size inb_S8x1024x256_S1x1024x256_0_0_0))) (k0_pay6 (View.ld (Val := Elt F) x0 (Rect.unit ![0, 0] S512x1024.size inb_S512x1024_S512x1024_0_0)) (View.ld (Val := Elt F) x1 (Rect.unit ![0, 0] S1x1024.size inb_S8x1024_S1x1024_0_0)) (View.ld (Val := Elt F) x1 (Rect.unit ![1, 0] S1x1024.size inb_S8x1024_S1x1024_1_0)) (View.ld (Val := Elt F) x2 (Rect.unit ![0, 0] S1x1024.size inb_S1x1024_S1x1024_0_0)) (View.ld (Val := Elt F) x3 (Rect.unit ![1, 0, 0] S1x1024x256.size inb_S8x1024x256_S1x1024x256_1_0_0)))
    (View.ld (Val := Elt F) x3 (Rect.unit ![2, 0, 0] S1x1024x256.size inb_S8x1024x256_S1x1024x256_2_0_0))
    (View.ld (Val := Elt F) x3 (Rect.unit ![3, 0, 0] S1x1024x256.size inb_S8x1024x256_S1x1024x256_3_0_0))
    (View.ld (Val := Elt F) x3 (Rect.unit ![4, 0, 0] S1x1024x256.size inb_S8x1024x256_S1x1024x256_4_0_0))
    (View.ld (Val := Elt F) x3 (Rect.unit ![5, 0, 0] S1x1024x256.size inb_S8x1024x256_S1x1024x256_5_0_0))
    (View.ld (Val := Elt F) x3 (Rect.unit ![6, 0, 0] S1x1024x256.size inb_S8x1024x256_S1x1024x256_6_0_0))
    (View.ld (Val := Elt F) x3 (Rect.unit ![7, 0, 0] S1x1024x256.size inb_S8x1024x256_S1x1024x256_7_0_0)) (View.ld (Val := Elt F) x4 (Rect.unit ![0, 0] S1x2048.size inb_S1x2048_S1x2048_0_0))) k0_pay11

/-- The normalised second group's block. -/
def vhV (x0 : Vec F S512x1024 .f32) (x1 : Vec F S8x1024 .f32) (x2 : Vec F S1x1024 .f32) (x3 : Vec F S8x1024x256 .bf16) (x4 : Vec F S1x2048 .f32) : FVec F S512x512 .f32 :=
  k0_pay22 (k0_pay18 (zV x0 x1 x2 x3 x4)) (k0_pay19 (zV x0 x1 x2 x3 x4)) k0_pay20

/-- A load out of a whole buffer at known contents. -/
theorem load_eq {s : Shape} {e : EltTy} {a : Memref sig .tc .vmem s e} (h : a.IsWhole) (x : Vec F s e) (R : Rect s) :
    View.readAt (Elt F) a.view R.toLoadRect (h.unread x) = View.ld (Val := Elt F) x R := funext fun j => h.readAt_unread x R.toLoadRect j

/-- A buffer written whole reads back as what was written. -/
theorem whole_eq {n k : ℕ} {e : EltTy} {a : Memref sig .tc .vmem ⟨2, ![n, k]⟩ e} (f) (inb : ∀ d, (![0, 0] : Fin 2 → ℕ) d + (![n, k] : Fin 2 → ℕ) d ≤ (![n, k] : Fin 2 → ℕ) d)
    (v : (⟨2, ![n, k]⟩ : Shape).Idx → Elt F e) :
    a.view.read (Elt F) (a.view.writes (Elt F) f [⟨Rect.unit (s := ⟨2, ![n, k]⟩) ![0, 0] ![n, k] inb, v⟩]) = v := by
  funext y
  have hy : (Rect.unit (s := ⟨2, ![n, k]⟩) ![0, 0] ![n, k] inb).emb y = y := by
    funext d; refine Fin.ext ((ValueKit.rect_emb_unit_val _ _ inb y d).trans ?_); fin_cases d <;> exact Nat.zero_add _
  have := View.read_writes_cons_emb a.view f (Rect.unit (s := ⟨2, ![n, k]⟩) ![0, 0] ![n, k] inb) v [] y
  rw [hy] at this
  exact this

variable (c : Dev nD) (i : grid0.Coords)
  (a0 : Memref sig .tc .vmem S512x1024 .f32) (h0 : a0.IsWhole)
  (a1 : Memref sig .tc .vmem S8x1024 .f32) (h1 : a1.IsWhole)
  (a2 : Memref sig .tc .vmem S1x1024 .f32) (h2 : a2.IsWhole)
  (a3 : Memref sig .tc .vmem S8x1024x256 .bf16) (h3 : a3.IsWhole)
  (a4 : Memref sig .tc .vmem S1x2048 .f32) (h4 : a4.IsWhole)
  (a5 : Memref sig .tc .vmem S1x512 .f32) (h5 : a5.IsWhole)
  (a6 : Memref sig .tc .vmem S1x512 .f32) (h6 : a6.IsWhole)
  (a7 : Memref sig .tc .vmem S1024x128 .bf16) (h7 : a7.IsWhole)
  (a8 : Memref sig .tc .vmem S128x512 .f32) (h8 : a8.IsWhole)
  (a9 : Memref sig .tc .vmem S32x512 .f32) (h9 : a9.IsWhole)
  (a10 : Memref sig .tc .vmem S1x512 .f32) (h10 : a10.IsWhole)
  (a11 : Memref sig .tc .vmem S1x512 .f32) (h11 : a11.IsWhole)
  (a12 : Memref sig .tc .vmem S1x512 .f32) (h12 : a12.IsWhole)
  (a13 : Memref sig .tc .vmem S1x512 .f32) (h13 : a13.IsWhole)
  (a14 : Memref sig .tc .vmem S1x512 .f32) (h14 : a14.IsWhole)
  (a15 : Memref sig .tc .vmem S1024x1024 .bf16) (h15 : a15.IsWhole)
  (a16 : Memref sig .tc .vmem S512x512 .bf16) (h16 : a16.IsWhole)
  (a17 : Memref sig .tc .vmem S512x1024 .f32) (h17 : a17.IsWhole)
  (a18 : Memref sig .tc .vmem S512x1024 .bf16) (h18 : a18.IsWhole)
  (a19 : Memref sig .tc .vmem S512x1024 .f32) (h19 : a19.IsWhole)
  (a20 : Memref sig .tc .vmem S512x512 .f32) (h20 : a20.IsWhole)
  (a21 : Memref sig .tc .vmem S512x1024 .bf16) (h21 : a21.IsWhole)
  (a22 : Memref sig .tc .vmem S512x1024 .f32) (h22 : a22.IsWhole)
  (a23 : Memref sig .tc .vmem S512x512 .f32) (h23 : a23.IsWhole)
  (a24 : Memref sig .tc .vmem S512x512 .f32) (h24 : a24.IsWhole)
  (a25 : Memref sig .tc .vmem S512x512 .f32) (h25 : a25.IsWhole)
  (a26 : Memref sig .tc .vmem S512x512 .f32) (h26 : a26.IsWhole)
  (a27 : Memref sig .tc .vmem S512x128 .f32) (h27 : a27.IsWhole)
  (a28 : Memref sig .tc .vmem S512x512 .f32) (h28 : a28.IsWhole)
  (a29 : Memref sig .tc .vmem S512x512 .f32) (h29 : a29.IsWhole)
  (a30 : Memref sig .tc .vmem S544x512 .f32) (h30 : a30.IsWhole)
  (a31 : Memref sig .tc .vmem S7x536x512 .f32) (h31 : a31.IsWhole)
  (x0 : Vec F S512x1024 .f32) (x1 : Vec F S8x1024 .f32) (x2 : Vec F S1x1024 .f32) (x3 : Vec F S8x1024x256 .bf16) (x4 : Vec F S1x2048 .f32) (x5 : Vec F S1x512 .f32) (x6 : Vec F S1x512 .f32) (x7 : Vec F S1024x128 .bf16) (x8 : Vec F S128x512 .f32) (x9 : Vec F S32x512 .f32) (x10 : Vec F S1x512 .f32) (x11 : Vec F S1x512 .f32) (x12 : Vec F S1x512 .f32) (x13 : Vec F S1x512 .f32) (x14 : Vec F S1x512 .f32) (x15 : Vec F S1024x1024 .bf16) (x16 : Vec F S512x512 .bf16)

theorem out18_A (hc : starts i) (f) :
    a18.view.read (Elt F) (a18.view.writes (Elt F) f (runA c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 hc).1) = hV x0 x1 x2 := by
  refine Eq.trans ?_ (whole_eq f inb_S512x1024_S512x1024_0_0 _)
  unfold runA
  dsimp only
  simp only [runA.sl.r_2, runA.sl.r_3, runA.sl.r_4, runA.sl.r_5, runA.sl.r_6, runA.sl.r_7, runA.sl.r_9, runA.sl.r_10, load_eq, hV, zV, vgV, guV, vhV]

theorem out19_A (hc : starts i) (f) :
    a19.view.read (Elt F) (a19.view.writes (Elt F) f (runA c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 hc).2.1) = vgV x0 x1 x2 x3 x4 := by
  refine Eq.trans ?_ (whole_eq f inb_S512x1024_S512x1024_0_0 _)
  unfold runA
  dsimp only
  simp only [runA.sl.r_2, runA.sl.r_3, runA.sl.r_4, runA.sl.r_5, runA.sl.r_6, runA.sl.r_7, runA.sl.r_9, runA.sl.r_10, load_eq, hV, zV, vgV, guV, vhV]

theorem out23_A (hc : starts i) (f) :
    a23.view.read (Elt F) (a23.view.writes (Elt F) f (runA c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 hc).2.2.1) = guV x0 x1 x2 x3 x4 := by
  refine Eq.trans ?_ (whole_eq f inb_S512x512_S512x512_0_0 _)
  unfold runA
  dsimp only
  simp only [runA.sl.r_2, runA.sl.r_3, runA.sl.r_4, runA.sl.r_5, runA.sl.r_6, runA.sl.r_7, runA.sl.r_9, runA.sl.r_10, load_eq, hV, zV, vgV, guV, vhV]

theorem out26_A (hc : starts i) (f) :
    a26.view.read (Elt F) (a26.view.writes (Elt F) f (runA c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 hc).2.2.2.1) = vhV x0 x1 x2 x3 x4 := by
  refine Eq.trans ?_ (whole_eq f inb_S512x512_S512x512_0_0 _)
  unfold runA
  dsimp only
  simp only [runA.sl.r_2, runA.sl.r_3, runA.sl.r_4, runA.sl.r_5, runA.sl.r_6, runA.sl.r_7, runA.sl.r_9, runA.sl.r_10, load_eq, hV, zV, vgV, guV, vhV]

theorem out18_B (hc : ¬starts i) (f) :
    a18.view.read (Elt F) (a18.view.writes (Elt F) f (runB c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 hc).1) = hV x0 x1 x2 := by
  refine Eq.trans ?_ (whole_eq f inb_S512x1024_S512x1024_0_0 _)
  unfold runB
  dsimp only
  simp only [runB.sl.r_2, runB.sl.r_3, runB.sl.r_4, runB.sl.r_5, runB.sl.r_6, runB.sl.r_7, runB.sl.r_9, runB.sl.r_10, load_eq, hV, zV, vgV, guV, vhV]

theorem out19_B (hc : ¬starts i) (f) :
    a19.view.read (Elt F) (a19.view.writes (Elt F) f (runB c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 hc).2.1) = vgV x0 x1 x2 x3 x4 := by
  refine Eq.trans ?_ (whole_eq f inb_S512x1024_S512x1024_0_0 _)
  unfold runB
  dsimp only
  simp only [runB.sl.r_2, runB.sl.r_3, runB.sl.r_4, runB.sl.r_5, runB.sl.r_6, runB.sl.r_7, runB.sl.r_9, runB.sl.r_10, load_eq, hV, zV, vgV, guV, vhV]

theorem out23_B (hc : ¬starts i) (f) :
    a23.view.read (Elt F) (a23.view.writes (Elt F) f (runB c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 hc).2.2.1) = guV x0 x1 x2 x3 x4 := by
  refine Eq.trans ?_ (whole_eq f inb_S512x512_S512x512_0_0 _)
  unfold runB
  dsimp only
  simp only [runB.sl.r_2, runB.sl.r_3, runB.sl.r_4, runB.sl.r_5, runB.sl.r_6, runB.sl.r_7, runB.sl.r_9, runB.sl.r_10, load_eq, hV, zV, vgV, guV, vhV]

theorem out26_B (hc : ¬starts i) (f) :
    a26.view.read (Elt F) (a26.view.writes (Elt F) f (runB c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 x0 x1 x2 x3 x4 x5 x6 x7 x8 x9 x10 x11 x12 x13 x14 x15 x16 hc).2.2.2.1) = vhV x0 x1 x2 x3 x4 := by
  refine Eq.trans ?_ (whole_eq f inb_S512x512_S512x512_0_0 _)
  unfold runB
  dsimp only
  simp only [runB.sl.r_2, runB.sl.r_3, runB.sl.r_4, runB.sl.r_5, runB.sl.r_6, runB.sl.r_7, runB.sl.r_9, runB.sl.r_10, load_eq, hV, zV, vgV, guV, vhV]

end Cert.Kernel4.Mix

end
-- ==== Proof.MixFrameBits.lean ====
/-
The mixer's forward call over its whole grid: the operands end unchanged, and four of the results end as their blocks,
point after point. The other results and the scratch buffers end at contents that are not named.
-/
module

public import proofs.«01_k».proof.Proof.MixValsBits

@[expose] public section

set_option maxRecDepth 16384

noncomputable section

namespace Cert.Kernel4.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4.Gen

variable {F : FTy → Type} [FloatOps F]

variable (m : (ℓ : Loc nD τ sig) → Buf (Elt F) ℓ) (ρ : Dev nD → PrngReg)

/-- The buffer window 0 is staged in at a point. -/
abbrev buf0 (t : Fin cfg0.N) : Memref sig .tc .vmem S512x1024 .f32 := win0_0.stage (cfg0.slots t 0)
/-- The buffer window 1 is staged in at a point. -/
abbrev buf1 (t : Fin cfg0.N) : Memref sig .tc .vmem S8x1024 .f32 := win0_1.stage (cfg0.slots t 1)
/-- The buffer window 2 is staged in at a point. -/
abbrev buf2 (t : Fin cfg0.N) : Memref sig .tc .vmem S1x1024 .f32 := win0_2.stage (cfg0.slots t 2)
/-- The buffer window 3 is staged in at a point. -/
abbrev buf3 (t : Fin cfg0.N) : Memref sig .tc .vmem S8x1024x256 .bf16 := win0_3.stage (cfg0.slots t 3)
/-- The buffer window 4 is staged in at a point. -/
abbrev buf4 (t : Fin cfg0.N) : Memref sig .tc .vmem S1x2048 .f32 := win0_4.stage (cfg0.slots t 4)
/-- The buffer window 5 is staged in at a point. -/
abbrev buf5 (t : Fin cfg0.N) : Memref sig .tc .vmem S1x512 .f32 := win0_5.stage (cfg0.slots t 5)
/-- The buffer window 6 is staged in at a point. -/
abbrev buf6 (t : Fin cfg0.N) : Memref sig .tc .vmem S1x512 .f32 := win0_6.stage (cfg0.slots t 6)
/-- The buffer window 7 is staged in at a point. -/
abbrev buf7 (t : Fin cfg0.N) : Memref sig .tc .vmem S1024x128 .bf16 := win0_7.stage (cfg0.slots t 7)
/-- The buffer window 8 is staged in at a point. -/
abbrev buf8 (t : Fin cfg0.N) : Memref sig .tc .vmem S128x512 .f32 := win0_8.stage (cfg0.slots t 8)
/-- The buffer window 9 is staged in at a point. -/
abbrev buf9 (t : Fin cfg0.N) : Memref sig .tc .vmem S32x512 .f32 := win0_9.stage (cfg0.slots t 9)
/-- The buffer window 10 is staged in at a point. -/
abbrev buf10 (t : Fin cfg0.N) : Memref sig .tc .vmem S1x512 .f32 := win0_10.stage (cfg0.slots t 10)
/-- The buffer window 11 is staged in at a point. -/
abbrev buf11 (t : Fin cfg0.N) : Memref sig .tc .vmem S1x512 .f32 := win0_11.stage (cfg0.slots t 11)
/-- The buffer window 12 is staged in at a point. -/
abbrev buf12 (t : Fin cfg0.N) : Memref sig .tc .vmem S1x512 .f32 := win0_12.stage (cfg0.slots t 12)
/-- The buffer window 13 is staged in at a point. -/
abbrev buf13 (t : Fin cfg0.N) : Memref sig .tc .vmem S1x512 .f32 := win0_13.stage (cfg0.slots t 13)
/-- The buffer window 14 is staged in at a point. -/
abbrev buf14 (t : Fin cfg0.N) : Memref sig .tc .vmem S1x512 .f32 := win0_14.stage (cfg0.slots t 14)
/-- The buffer window 15 is staged in at a point. -/
abbrev buf15 (t : Fin cfg0.N) : Memref sig .tc .vmem S1024x1024 .bf16 := win0_15.stage (cfg0.slots t 15)
/-- The buffer window 16 is staged in at a point. -/
abbrev buf16 (t : Fin cfg0.N) : Memref sig .tc .vmem S512x512 .bf16 := win0_16.stage (cfg0.slots t 16)
/-- The buffer window 17 is staged in at a point. -/
abbrev buf17 (t : Fin cfg0.N) : Memref sig .tc .vmem S512x1024 .f32 := win0_17.stage (cfg0.slots t 17)
/-- The buffer window 18 is staged in at a point. -/
abbrev buf18 (t : Fin cfg0.N) : Memref sig .tc .vmem S512x1024 .bf16 := win0_18.stage (cfg0.slots t 18)
/-- The buffer window 19 is staged in at a point. -/
abbrev buf19 (t : Fin cfg0.N) : Memref sig .tc .vmem S512x1024 .f32 := win0_19.stage (cfg0.slots t 19)
/-- The buffer window 20 is staged in at a point. -/
abbrev buf20 (t : Fin cfg0.N) : Memref sig .tc .vmem S512x512 .f32 := win0_20.stage (cfg0.slots t 20)
/-- The buffer window 21 is staged in at a point. -/
abbrev buf21 (t : Fin cfg0.N) : Memref sig .tc .vmem S512x1024 .bf16 := win0_21.stage (cfg0.slots t 21)
/-- The buffer window 22 is staged in at a point. -/
abbrev buf22 (t : Fin cfg0.N) : Memref sig .tc .vmem S512x1024 .f32 := win0_22.stage (cfg0.slots t 22)
/-- The buffer window 23 is staged in at a point. -/
abbrev buf23 (t : Fin cfg0.N) : Memref sig .tc .vmem S512x512 .f32 := win0_23.stage (cfg0.slots t 23)
/-- The buffer window 24 is staged in at a point. -/
abbrev buf24 (t : Fin cfg0.N) : Memref sig .tc .vmem S512x512 .f32 := win0_24.stage (cfg0.slots t 24)
/-- The buffer window 25 is staged in at a point. -/
abbrev buf25 (t : Fin cfg0.N) : Memref sig .tc .vmem S512x512 .f32 := win0_25.stage (cfg0.slots t 25)
/-- The buffer window 26 is staged in at a point. -/
abbrev buf26 (t : Fin cfg0.N) : Memref sig .tc .vmem S512x512 .f32 := win0_26.stage (cfg0.slots t 26)
/-- The buffer window 27 is staged in at a point. -/
abbrev buf27 (t : Fin cfg0.N) : Memref sig .tc .vmem S512x128 .f32 := win0_27.stage (cfg0.slots t 27)
/-- The buffer window 28 is staged in at a point. -/
abbrev buf28 (t : Fin cfg0.N) : Memref sig .tc .vmem S512x512 .f32 := win0_28.stage (cfg0.slots t 28)
/-- The buffer window 29 is staged in at a point. -/
abbrev buf29 (t : Fin cfg0.N) : Memref sig .tc .vmem S512x512 .f32 := win0_29.stage (cfg0.slots t 29)

/-- The first scratch buffer. -/
abbrev scr0 : Memref sig .tc .vmem S544x512 .f32 := Memref.whole cc0_scratch0
/-- The second scratch buffer. -/
abbrev scr1 : Memref sig .tc .vmem S7x536x512 .f32 := Memref.whole cc0_scratch1

/-- What the loop keeps: the scratch buffers and the generator's register, at anything. -/
theorem kept_eq (c : Dev nD) :
    (Pipeline.ΦA spec0 c : Asr F)
      = iprop(((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; rfl

/-- The carried rows are cleared at the first point only. -/
theorem starts_iff (t : Fin cfg0.N) : starts (grid0.coords t) ↔ t.val = 0 := by
  have ht : t.val < 16 := Nat.lt_of_lt_of_eq t.isLt N_0
  have e0 : (grid0.coords t 0).val = t.val / 1 % 16 := Pipeline.Grid.coords_val t 0 (by decide) rfl
  have h1 : starts (grid0.coords t) ↔ t.val % 16 = 0 := by
    simp only [starts, e0]
    word_cmp
  rw [h1]; omega

/-- The results of which nothing is named. -/
def unseen : Fin 30 → Bool := fun w =>
  w.val == 17 || w.val == 20 || w.val == 21 || w.val == 22 || w.val == 24 || w.val == 25 || w.val == 27 || w.val == 28 || w.val == 29

/-- The contents the loop is followed by: each operand's buffer at its block, the four named outputs at their values. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, h⟩ => Pipeline.Dat.unnamed (cfg := cfg0) ⟨17, h⟩ t
    | ⟨18, _⟩ => hV (iblk m c 0 t) (iblk m c 1 t) (iblk m c 2 t)
    | ⟨19, _⟩ => vgV (iblk m c 0 t) (iblk m c 1 t) (iblk m c 2 t) (iblk m c 3 t) (iblk m c 4 t)
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, _⟩ => guV (iblk m c 0 t) (iblk m c 1 t) (iblk m c 2 t) (iblk m c 3 t) (iblk m c 4 t)
    | ⟨24, h⟩ => Pipeline.Dat.unnamed (cfg := cfg0) ⟨24, h⟩ t
    | ⟨25, h⟩ => Pipeline.Dat.unnamed (cfg := cfg0) ⟨25, h⟩ t
    | ⟨26, _⟩ => vhV (iblk m c 0 t) (iblk m c 1 t) (iblk m c 2 t) (iblk m c 3 t) (iblk m c 4 t)
    | ⟨27, h⟩ => Pipeline.Dat.unnamed (cfg := cfg0) ⟨27, h⟩ t
    | ⟨28, h⟩ => Pipeline.Dat.unnamed (cfg := cfg0) ⟨28, h⟩ t
    | ⟨29, h⟩ => Pipeline.Dat.unnamed (cfg := cfg0) ⟨29, h⟩ t
    | ⟨_ + 30, h⟩ => absurd h (Nat.not_lt.2 (Nat.le_add_left _ _))
  Φ _ := Pipeline.ΦA spec0 c
  q _ := fullShare
  owed _ := 0

theorem data_A (c : Dev nD) (w : Fin cfg0.W) : (data m 0 c).A w = V m c (Pipeline.arrRef spec0 w) := by
  dsimp only [data]

theorem after0 (c : Dev nD) (t : Fin cfg0.N) : (data m 0 c).after 0 t = iblk m c 0 t := by dsimp only [data]
theorem after1 (c : Dev nD) (t : Fin cfg0.N) : (data m 0 c).after 1 t = iblk m c 1 t := by dsimp only [data]
theorem after2 (c : Dev nD) (t : Fin cfg0.N) : (data m 0 c).after 2 t = iblk m c 2 t := by dsimp only [data]
theorem after3 (c : Dev nD) (t : Fin cfg0.N) : (data m 0 c).after 3 t = iblk m c 3 t := by dsimp only [data]
theorem after4 (c : Dev nD) (t : Fin cfg0.N) : (data m 0 c).after 4 t = iblk m c 4 t := by dsimp only [data]
theorem after5 (c : Dev nD) (t : Fin cfg0.N) : (data m 0 c).after 5 t = iblk m c 5 t := by dsimp only [data]
theorem after6 (c : Dev nD) (t : Fin cfg0.N) : (data m 0 c).after 6 t = iblk m c 6 t := by dsimp only [data]
theorem after7 (c : Dev nD) (t : Fin cfg0.N) : (data m 0 c).after 7 t = iblk m c 7 t := by dsimp only [data]
theorem after8 (c : Dev nD) (t : Fin cfg0.N) : (data m 0 c).after 8 t = iblk m c 8 t := by dsimp only [data]
theorem after9 (c : Dev nD) (t : Fin cfg0.N) : (data m 0 c).after 9 t = iblk m c 9 t := by dsimp only [data]
theorem after10 (c : Dev nD) (t : Fin cfg0.N) : (data m 0 c).after 10 t = iblk m c 10 t := by dsimp only [data]
theorem after11 (c : Dev nD) (t : Fin cfg0.N) : (data m 0 c).after 11 t = iblk m c 11 t := by dsimp only [data]
theorem after12 (c : Dev nD) (t : Fin cfg0.N) : (data m 0 c).after 12 t = iblk m c 12 t := by dsimp only [data]
theorem after13 (c : Dev nD) (t : Fin cfg0.N) : (data m 0 c).after 13 t = iblk m c 13 t := by dsimp only [data]
theorem after14 (c : Dev nD) (t : Fin cfg0.N) : (data m 0 c).after 14 t = iblk m c 14 t := by dsimp only [data]
theorem after15 (c : Dev nD) (t : Fin cfg0.N) : (data m 0 c).after 15 t = iblk m c 15 t := by dsimp only [data]
theorem after16 (c : Dev nD) (t : Fin cfg0.N) : (data m 0 c).after 16 t = iblk m c 16 t := by dsimp only [data]
theorem after18 (c : Dev nD) (t : Fin cfg0.N) : (data m 0 c).after 18 t = hV (iblk m c 0 t) (iblk m c 1 t) (iblk m c 2 t) := by dsimp only [data]
theorem after19 (c : Dev nD) (t : Fin cfg0.N) : (data m 0 c).after 19 t = vgV (iblk m c 0 t) (iblk m c 1 t) (iblk m c 2 t) (iblk m c 3 t) (iblk m c 4 t) := by dsimp only [data]
theorem after23 (c : Dev nD) (t : Fin cfg0.N) : (data m 0 c).after 23 t = guV (iblk m c 0 t) (iblk m c 1 t) (iblk m c 2 t) (iblk m c 3 t) (iblk m c 4 t) := by dsimp only [data]
theorem after26 (c : Dev nD) (t : Fin cfg0.N) : (data m 0 c).after 26 t = vhV (iblk m c 0 t) (iblk m c 1 t) (iblk m c 2 t) (iblk m c 3 t) (iblk m c 4 t) := by dsimp only [data]
theorem before0 (c : Dev nD) (t : Fin cfg0.N) (d) : (data m 0 c).before 0 t d = iblk m c 0 t :=
  before0_0_of m (data m 0 c) (data_A m c 0) (after0 m c) t d
theorem before1 (c : Dev nD) (t : Fin cfg0.N) (d) : (data m 0 c).before 1 t d = iblk m c 1 t :=
  before0_1_of m (data m 0 c) (data_A m c 1) (after1 m c) t d
theorem before2 (c : Dev nD) (t : Fin cfg0.N) (d) : (data m 0 c).before 2 t d = iblk m c 2 t :=
  before0_2_of m (data m 0 c) (data_A m c 2) (after2 m c) t d
theorem before3 (c : Dev nD) (t : Fin cfg0.N) (d) : (data m 0 c).before 3 t d = iblk m c 3 t :=
  before0_3_of m (data m 0 c) (data_A m c 3) (after3 m c) t d
theorem before4 (c : Dev nD) (t : Fin cfg0.N) (d) : (data m 0 c).before 4 t d = iblk m c 4 t :=
  before0_4_of m (data m 0 c) (data_A m c 4) (after4 m c) t d
theorem before5 (c : Dev nD) (t : Fin cfg0.N) (d) : (data m 0 c).before 5 t d = iblk m c 5 t :=
  before0_5_of m (data m 0 c) (data_A m c 5) (after5 m c) t d
theorem before6 (c : Dev nD) (t : Fin cfg0.N) (d) : (data m 0 c).before 6 t d = iblk m c 6 t :=
  before0_6_of m (data m 0 c) (data_A m c 6) (after6 m c) t d
theorem before7 (c : Dev nD) (t : Fin cfg0.N) (d) : (data m 0 c).before 7 t d = iblk m c 7 t :=
  before0_7_of m (data m 0 c) (data_A m c 7) (after7 m c) t d
theorem before8 (c : Dev nD) (t : Fin cfg0.N) (d) : (data m 0 c).before 8 t d = iblk m c 8 t :=
  before0_8_of m (data m 0 c) (data_A m c 8) (after8 m c) t d
theorem before9 (c : Dev nD) (t : Fin cfg0.N) (d) : (data m 0 c).before 9 t d = iblk m c 9 t :=
  before0_9_of m (data m 0 c) (data_A m c 9) (after9 m c) t d
theorem before10 (c : Dev nD) (t : Fin cfg0.N) (d) : (data m 0 c).before 10 t d = iblk m c 10 t :=
  before0_10_of m (data m 0 c) (data_A m c 10) (after10 m c) t d
theorem before11 (c : Dev nD) (t : Fin cfg0.N) (d) : (data m 0 c).before 11 t d = iblk m c 11 t :=
  before0_11_of m (data m 0 c) (data_A m c 11) (after11 m c) t d
theorem before12 (c : Dev nD) (t : Fin cfg0.N) (d) : (data m 0 c).before 12 t d = iblk m c 12 t :=
  before0_12_of m (data m 0 c) (data_A m c 12) (after12 m c) t d
theorem before13 (c : Dev nD) (t : Fin cfg0.N) (d) : (data m 0 c).before 13 t d = iblk m c 13 t :=
  before0_13_of m (data m 0 c) (data_A m c 13) (after13 m c) t d
theorem before14 (c : Dev nD) (t : Fin cfg0.N) (d) : (data m 0 c).before 14 t d = iblk m c 14 t :=
  before0_14_of m (data m 0 c) (data_A m c 14) (after14 m c) t d
theorem before15 (c : Dev nD) (t : Fin cfg0.N) (d) : (data m 0 c).before 15 t d = iblk m c 15 t :=
  before0_15_of m (data m 0 c) (data_A m c 15) (after15 m c) t d
theorem before16 (c : Dev nD) (t : Fin cfg0.N) (d) : (data m 0 c).before 16 t d = iblk m c 16 t :=
  before0_16_of m (data m 0 c) (data_A m c 16) (after16 m c) t d

/-- What the body finds at a point. -/
def found (c : Dev nD) (t : Fin cfg0.N) : Asr F :=
  iprop((data m 0 c).Φ t.castSucc ∗ (data m 0 c).owesAt () t.castSucc
    ∗ (∃ d, owns (c : Thread nD τ) (buf0 t) fullShare ((data m 0 c).before 0 t d))
    ∗ (∃ d, owns (c : Thread nD τ) (buf1 t) fullShare ((data m 0 c).before 1 t d))
    ∗ (∃ d, owns (c : Thread nD τ) (buf2 t) fullShare ((data m 0 c).before 2 t d))
    ∗ (∃ d, owns (c : Thread nD τ) (buf3 t) fullShare ((data m 0 c).before 3 t d))
    ∗ (∃ d, owns (c : Thread nD τ) (buf4 t) fullShare ((data m 0 c).before 4 t d))
    ∗ (∃ d, owns (c : Thread nD τ) (buf5 t) fullShare ((data m 0 c).before 5 t d))
    ∗ (∃ d, owns (c : Thread nD τ) (buf6 t) fullShare ((data m 0 c).before 6 t d))
    ∗ (∃ d, owns (c : Thread nD τ) (buf7 t) fullShare ((data m 0 c).before 7 t d))
    ∗ (∃ d, owns (c : Thread nD τ) (buf8 t) fullShare ((data m 0 c).before 8 t d))
    ∗ (∃ d, owns (c : Thread nD τ) (buf9 t) fullShare ((data m 0 c).before 9 t d))
    ∗ (∃ d, owns (c : Thread nD τ) (buf10 t) fullShare ((data m 0 c).before 10 t d))
    ∗ (∃ d, owns (c : Thread nD τ) (buf11 t) fullShare ((data m 0 c).before 11 t d))
    ∗ (∃ d, owns (c : Thread nD τ) (buf12 t) fullShare ((data m 0 c).before 12 t d))
    ∗ (∃ d, owns (c : Thread nD τ) (buf13 t) fullShare ((data m 0 c).before 13 t d))
    ∗ (∃ d, owns (c : Thread nD τ) (buf14 t) fullShare ((data m 0 c).before 14 t d))
    ∗ (∃ d, owns (c : Thread nD τ) (buf15 t) fullShare ((data m 0 c).before 15 t d))
    ∗ (∃ d, owns (c : Thread nD τ) (buf16 t) fullShare ((data m 0 c).before 16 t d))
    ∗ (∃ d, owns (c : Thread nD τ) (buf17 t) fullShare d)
    ∗ (∃ d, owns (c : Thread nD τ) (buf18 t) fullShare ((data m 0 c).before 18 t d))
    ∗ (∃ d, owns (c : Thread nD τ) (buf19 t) fullShare ((data m 0 c).before 19 t d))
    ∗ (∃ d, owns (c : Thread nD τ) (buf20 t) fullShare d)
    ∗ (∃ d, owns (c : Thread nD τ) (buf21 t) fullShare d)
    ∗ (∃ d, owns (c : Thread nD τ) (buf22 t) fullShare d)
    ∗ (∃ d, owns (c : Thread nD τ) (buf23 t) fullShare ((data m 0 c).before 23 t d))
    ∗ (∃ d, owns (c : Thread nD τ) (buf24 t) fullShare d)
    ∗ (∃ d, owns (c : Thread nD τ) (buf25 t) fullShare d)
    ∗ (∃ d, owns (c : Thread nD τ) (buf26 t) fullShare ((data m 0 c).before 26 t d))
    ∗ (∃ d, owns (c : Thread nD τ) (buf27 t) fullShare d)
    ∗ (∃ d, owns (c : Thread nD τ) (buf28 t) fullShare d)
    ∗ (∃ d, owns (c : Thread nD τ) (buf29 t) fullShare d))

/-- What the body leaves at a point. -/
def left (c : Dev nD) (t : Fin cfg0.N) : Asr F :=
  iprop((data m 0 c).Φ t.succ ∗ (data m 0 c).owesAt () t.succ
    ∗ owns (c : Thread nD τ) (buf0 t) fullShare ((data m 0 c).after 0 t)
    ∗ owns (c : Thread nD τ) (buf1 t) fullShare ((data m 0 c).after 1 t)
    ∗ owns (c : Thread nD τ) (buf2 t) fullShare ((data m 0 c).after 2 t)
    ∗ owns (c : Thread nD τ) (buf3 t) fullShare ((data m 0 c).after 3 t)
    ∗ owns (c : Thread nD τ) (buf4 t) fullShare ((data m 0 c).after 4 t)
    ∗ owns (c : Thread nD τ) (buf5 t) fullShare ((data m 0 c).after 5 t)
    ∗ owns (c : Thread nD τ) (buf6 t) fullShare ((data m 0 c).after 6 t)
    ∗ owns (c : Thread nD τ) (buf7 t) fullShare ((data m 0 c).after 7 t)
    ∗ owns (c : Thread nD τ) (buf8 t) fullShare ((data m 0 c).after 8 t)
    ∗ owns (c : Thread nD τ) (buf9 t) fullShare ((data m 0 c).after 9 t)
    ∗ owns (c : Thread nD τ) (buf10 t) fullShare ((data m 0 c).after 10 t)
    ∗ owns (c : Thread nD τ) (buf11 t) fullShare ((data m 0 c).after 11 t)
    ∗ owns (c : Thread nD τ) (buf12 t) fullShare ((data m 0 c).after 12 t)
    ∗ owns (c : Thread nD τ) (buf13 t) fullShare ((data m 0 c).after 13 t)
    ∗ owns (c : Thread nD τ) (buf14 t) fullShare ((data m 0 c).after 14 t)
    ∗ owns (c : Thread nD τ) (buf15 t) fullShare ((data m 0 c).after 15 t)
    ∗ owns (c : Thread nD τ) (buf16 t) fullShare ((data m 0 c).after 16 t)
    ∗ (∃ d, owns (c : Thread nD τ) (buf17 t) fullShare d)
    ∗ owns (c : Thread nD τ) (buf18 t) fullShare ((data m 0 c).after 18 t)
    ∗ owns (c : Thread nD τ) (buf19 t) fullShare ((data m 0 c).after 19 t)
    ∗ (∃ d, owns (c : Thread nD τ) (buf20 t) fullShare d)
    ∗ (∃ d, owns (c : Thread nD τ) (buf21 t) fullShare d)
    ∗ (∃ d, owns (c : Thread nD τ) (buf22 t) fullShare d)
    ∗ owns (c : Thread nD τ) (buf23 t) fullShare ((data m 0 c).after 23 t)
    ∗ (∃ d, owns (c : Thread nD τ) (buf24 t) fullShare d)
    ∗ (∃ d, owns (c : Thread nD τ) (buf25 t) fullShare d)
    ∗ owns (c : Thread nD τ) (buf26 t) fullShare ((data m 0 c).after 26 t)
    ∗ (∃ d, owns (c : Thread nD τ) (buf27 t) fullShare d)
    ∗ (∃ d, owns (c : Thread nD τ) (buf28 t) fullShare d)
    ∗ (∃ d, owns (c : Thread nD τ) (buf29 t) fullShare d))

set_option maxHeartbeats 20000000 in
theorem sound (c : Dev nD) (t : Fin cfg0.N) :
    found m c t ⊢ wp frame (wpE (defs₀ (F := F)) Variants.none c none) Set.univ (bodyAt0 t) (fun _ => left m c t) := by
  unfold found left bodyAt0
  simp only [before0, before1, before2, before3, before4, before5, before6, before7, before8, before9, before10, before11, before12, before13, before14, before15, before16]
  rw [show (data m 0 c).owesAt () t.succ = (data m 0 c).owesAt () t.castSucc from rfl,
    after0, after1, after2, after3, after4, after5, after6, after7, after8, after9, after10, after11, after12, after13, after14, after15, after16, after18, after19, after23, after26]
  rw [show (data m 0 c).Φ t.succ = Pipeline.ΦA spec0 c from rfl, show (data m 0 c).Φ t.castSucc = Pipeline.ΦA spec0 c from rfl, kept_eq]
  by_cases hz : t.val = 0
  · iintro ⟨⟨⟨H30, H31⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, H17, H18, H19, H20, H21, H22, H23, H24, H25, H26, H27, H28, H29⟩
    iapply ((runA c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) ((starts_iff t).mpr hz)).2.2.2.2 Set.univ _)
    unfold held free
    isplitl [H0 H1 H2 H3 H4 H5 H6 H7 H8 H9 H10 H11 H12 H13 H14 H15 H16]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    isplitl [H17 H20 H21 H22 H24 H25 H27 H28 H29 H30 H31]
    · isplitl [H17]; · iexact H17
      isplitl [H20]; · iexact H20
      isplitl [H21]; · iexact H21
      isplitl [H22]; · iexact H22
      isplitl [H24]; · iexact H24
      isplitl [H25]; · iexact H25
      isplitl [H27]; · iexact H27
      isplitl [H28]; · iexact H28
      isplitl [H29]; · iexact H29
      isplitl [H30]; · iexact H30
      iexact H31
    isplitl [H18]; · icases H18 with ⟨%d, H18⟩; iexists _; iexact H18
    isplitl [H19]; · icases H19 with ⟨%d, H19⟩; iexists _; iexact H19
    isplitl [H23]; · icases H23 with ⟨%d, H23⟩; iexists _; iexact H23
    isplitl [H26]; · icases H26 with ⟨%d, H26⟩; iexists _; iexact H26
    iintro ⟨⟨H0, H1, H2, H3, H4, H5, H6, H7, H8, H9, H10, H11, H12, H13, H14, H15, H16⟩, ⟨H17, H20, H21, H22, H24, H25, H27, H28, H29, H30, H31⟩, ⟨%f18, H18⟩, ⟨%f19, H19⟩, ⟨%f23, H23⟩, ⟨%f26, H26⟩⟩
    isplitl [H30 H31 Hg]
    · isplitl [H30 H31]
      · isplitl [H30]; · iexact H30
        iexact H31
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]
    · unfold owns; iexists _; isplitr; swap; · iexact H18
      ipureintro; exact out18_A c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) ((starts_iff t).mpr hz) _
    isplitl [H19]
    · unfold owns; iexists _; isplitr; swap; · iexact H19
      ipureintro; exact out19_A c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) ((starts_iff t).mpr hz) _
    isplitl [H20]; · iexact H20
    isplitl [H21]; · iexact H21
    isplitl [H22]; · iexact H22
    isplitl [H23]
    · unfold owns; iexists _; isplitr; swap; · iexact H23
      ipureintro; exact out23_A c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) ((starts_iff t).mpr hz) _
    isplitl [H24]; · iexact H24
    isplitl [H25]; · iexact H25
    isplitl [H26]
    · unfold owns; iexists _; isplitr; swap; · iexact H26
      ipureintro; exact out26_A c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) ((starts_iff t).mpr hz) _
    isplitl [H27]; · iexact H27
    isplitl [H28]; · iexact H28
    iexact H29
  · iintro ⟨⟨⟨H30, H31⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, H17, H18, H19, H20, H21, H22, H23, H24, H25, H26, H27, H28, H29⟩
    iapply ((runB c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (fun h => hz ((starts_iff t).mp h))).2.2.2.2 Set.univ _)
    unfold held free
    isplitl [H0 H1 H2 H3 H4 H5 H6 H7 H8 H9 H10 H11 H12 H13 H14 H15 H16]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    isplitl [H17 H20 H21 H22 H24 H25 H27 H28 H29 H30 H31]
    · isplitl [H17]; · iexact H17
      isplitl [H20]; · iexact H20
      isplitl [H21]; · iexact H21
      isplitl [H22]; · iexact H22
      isplitl [H24]; · iexact H24
      isplitl [H25]; · iexact H25
      isplitl [H27]; · iexact H27
      isplitl [H28]; · iexact H28
      isplitl [H29]; · iexact H29
      isplitl [H30]; · iexact H30
      iexact H31
    isplitl [H18]; · icases H18 with ⟨%d, H18⟩; iexists _; iexact H18
    isplitl [H19]; · icases H19 with ⟨%d, H19⟩; iexists _; iexact H19
    isplitl [H23]; · icases H23 with ⟨%d, H23⟩; iexists _; iexact H23
    isplitl [H26]; · icases H26 with ⟨%d, H26⟩; iexists _; iexact H26
    iintro ⟨⟨H0, H1, H2, H3, H4, H5, H6, H7, H8, H9, H10, H11, H12, H13, H14, H15, H16⟩, ⟨H17, H20, H21, H22, H24, H25, H27, H28, H29, H30, H31⟩, ⟨%f18, H18⟩, ⟨%f19, H19⟩, ⟨%f23, H23⟩, ⟨%f26, H26⟩⟩
    isplitl [H30 H31 Hg]
    · isplitl [H30 H31]
      · isplitl [H30]; · iexact H30
        iexact H31
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]
    · unfold owns; iexists _; isplitr; swap; · iexact H18
      ipureintro; exact out18_B c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (fun h => hz ((starts_iff t).mp h)) _
    isplitl [H19]
    · unfold owns; iexists _; isplitr; swap; · iexact H19
      ipureintro; exact out19_B c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (fun h => hz ((starts_iff t).mp h)) _
    isplitl [H20]; · iexact H20
    isplitl [H21]; · iexact H21
    isplitl [H22]; · iexact H22
    isplitl [H23]
    · unfold owns; iexists _; isplitr; swap; · iexact H23
      ipureintro; exact out23_B c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (fun h => hz ((starts_iff t).mp h)) _
    isplitl [H24]; · iexact H24
    isplitl [H25]; · iexact H25
    isplitl [H26]
    · unfold owns; iexists _; isplitr; swap; · iexact H26
      ipureintro; exact out26_B c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (fun h => hz ((starts_iff t).mp h)) _
    isplitl [H27]; · iexact H27
    isplitl [H28]; · iexact H28
    iexact H29

theorem row (t : Fin cfg0.N) :
    defs₀ (F := F) .tc cfg0.body (cfg0.bodyArgs t (cfg0.slots t)) = bodyAt0 t := by
  unfold defs₀; rw [Defs.onTc_tc]

set_option maxHeartbeats 4000000 in
theorem obligation (c : Dev nD) : BodyObligation (data (F := F) m 0 c) (defs₀ (F := F)) Variants.none () Set.univ unseen := fun t => by
  rw [bigSep_W0, bigSep_W0, row]
  exact triple_restated (sound m c t) rfl .rfl fun _ => .rfl

set_option maxHeartbeats 4000000 in
set_option backward.isDefEq.respectTransparency.types false in
/-- The launch: every array as the loop leaves it, every counter at zero. -/
theorem ran : θ_run defs (onTc (τ := τ) (main (F := F))) (s₀ m ρ)
    (fun r => (Pipeline.RDat.FramePost (cfgs 0) (fun c => (data m 0 c).toRForget unseen) (V m)) r ∧ r.2.sem = fun _ => 0) :=
  Pipeline.θ_run_frame_track_forget (Q' := _) cfgs (data m) (0 : Fin 1) launch0 defs₀ Variants.none unseen m ρ main
    (hbody := fun c => (obligation m c).loose) (hshare := fun c => (data m 0 c).share_full fun _ => rfl)
    (howed := fun _ _ => rfl) (V := V m) (hmain := hmain m Variants.none) (hA := data_A m) (hin := fun _ => .rfl) (hout := fun _ => .rfl)

set_option maxHeartbeats 2000000 in
/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun _ hq => ⟨fun c => by
    have h := hq.1
    exact ⟨(Pipeline.RDat.FramePost.arr_in (cfg₁ := cfgs 0) (rdat := fun c => (data m 0 c).toRForget unseen) h c 0 rfl).trans ((data_A m c 0).trans (V_main_arg0 m c)),
      (Pipeline.RDat.FramePost.arr_in (cfg₁ := cfgs 0) (rdat := fun c => (data m 0 c).toRForget unseen) h c 1 rfl).trans ((data_A m c 1).trans (V_main_arg1 m c)),
      (Pipeline.RDat.FramePost.arr_in (cfg₁ := cfgs 0) (rdat := fun c => (data m 0 c).toRForget unseen) h c 2 rfl).trans ((data_A m c 2).trans (V_main_arg2 m c)),
      ((h c).2 main_arg3 (Pipeline.mem_restRefs_of main_arg3 (by decide) (by decide))).trans (V_main_arg3 m c),
      (Pipeline.RDat.FramePost.arr_in (cfg₁ := cfgs 0) (rdat := fun c => (data m 0 c).toRForget unseen) h c 4 rfl).trans ((data_A m c 4).trans (V_main_arg4 m c)),
      (Pipeline.RDat.FramePost.arr_in (cfg₁ := cfgs 0) (rdat := fun c => (data m 0 c).toRForget unseen) h c 5 rfl).trans ((data_A m c 5).trans (V_main_arg5 m c)),
      (Pipeline.RDat.FramePost.arr_in (cfg₁ := cfgs 0) (rdat := fun c => (data m 0 c).toRForget unseen) h c 6 rfl).trans ((data_A m c 6).trans (V_main_arg6 m c)),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      (Pipeline.RDat.FramePost.arr_in (cfg₁ := cfgs 0) (rdat := fun c => (data m 0 c).toRForget unseen) h c 10 rfl).trans ((data_A m c 10).trans (V_main_arg10 m c)),
      (Pipeline.RDat.FramePost.arr_in (cfg₁ := cfgs 0) (rdat := fun c => (data m 0 c).toRForget unseen) h c 11 rfl).trans ((data_A m c 11).trans (V_main_arg11 m c)),
      (Pipeline.RDat.FramePost.arr_in (cfg₁ := cfgs 0) (rdat := fun c => (data m 0 c).toRForget unseen) h c 12 rfl).trans ((data_A m c 12).trans (V_main_arg12 m c)),
      (Pipeline.RDat.FramePost.arr_in (cfg₁ := cfgs 0) (rdat := fun c => (data m 0 c).toRForget unseen) h c 13 rfl).trans ((data_A m c 13).trans (V_main_arg13 m c)),
      (Pipeline.RDat.FramePost.arr_in (cfg₁ := cfgs 0) (rdat := fun c => (data m 0 c).toRForget unseen) h c 14 rfl).trans ((data_A m c 14).trans (V_main_arg14 m c)),
      ((h c).2 main_arg15 (Pipeline.mem_restRefs_of main_arg15 (by decide) (by decide))).trans (V_main_arg15 m c)⟩, hq.2⟩) (ran m ρ)

end Cert.Kernel4.Mix

end
-- ==== Proof.Wgrad2.lean ====
/- The gradient of a weight of the feed-forward half: one product over the tokens, accumulated 2048 tokens at a time
   in the kernel and taken at once in the reference. -/
module

public import proofs.«01_k».proof.Proof.Gen.Kernel2Ideal.Value
public import proofs.«01_k».proof.Proof.Gen.Reference2Ideal.Read
public import Idealize.ShloMosaic.Lib.Pipeline.ValueKit
public import Idealize.ShloMosaic.Lib.Pipeline.ReadBack

@[expose] public section

set_option maxRecDepth 16384

noncomputable section

namespace Cert.Wgrad2

open Cert.Kernel2Ideal Cert.Kernel2Ideal.Gen Cert.Reference2Ideal.Read Idealize.ShloMosaic Idealize.ShloMosaic.TcCoe Idealize.SL.Sem
open Idealize.ShloMosaic.StableHlo

/-- The accumulator starts at zero. -/
theorem zero_apply (j : S1408x1024.Idx) : k0_pay1 (F := Ideal) j = 0 := by pointwise [k0_pay1]

/-- One point adds its 2048 tokens' product. -/
theorem step_apply (acc : Vec Ideal S1408x1024 .f32) (a : Vec Ideal S2048x1408 .bf16) (b : Vec Ideal S2048x1024 .bf16) (j : S1408x1024.Idx) :
    k0_pay2 (F := Ideal) acc a b j = acc j + ∑ k : Fin 2048, a (ix2 k (j 0)) * b (ix2 k (j 1)) := by pointwise [k0_pay2]

/-- The result is the accumulator's contents. -/
theorem last_apply (acc : Vec Ideal S1408x1024 .f32) (j : S1408x1024.Idx) : k0_pay3 (F := Ideal) acc j = acc j := by pointwise [k0_pay3]

/-- The reference's gradient, read at an index. -/
theorem ref_apply (x0 : (⟨S8192x5632, .bf16⟩ : BufTy).Contents (Elt Ideal)) (x1 : (⟨S8192x1024, .bf16⟩ : BufTy).Contents (Elt Ideal)) (j : S5632x1024.Idx) :
    val_main_v7 (F := Ideal) x0 x1 j = ∑ k : Fin 8192, x0 (ix2 k (j 0)) * x1 (ix2 k (j 1)) := by
  pointwise [val_main_v7, val_main_v6, val_main_v5, val_main_v4, val_main_v1, val_main_v0]

/-- The blocks a point stages and writes back. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

variable (m : (ℓ : Loc nD τ sig) → Buf (Elt Ideal) ℓ) (c : Dev nD)

/-- At the last point of a run the block written back is the accumulator. -/
theorem written (t : Fin cfg0.N) (h : t.val % 4 = 3) (y : S1408x1024.Idx) :
    (outsAt0 m c t.val t.isLt).1 y = (outsAt0 m c t.val t.isLt).2 y := by
  rw [outsAt0_C m c t (by omega) h]
  frame_out
  rw [last_apply]

/-- The result array. -/
theorem final : (dats m 0 c).arrAt 2 cfg0.N
    = val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2, written m c t ((flush0_2 t).mp hf),
    Pipeline.eq_sum_fin_of_reset_step_apply_of_flush (fun n h => (outsAt0 m c n h).2) 4 (fun _ => 0)
    (fun p j => ∑ k : Fin 2048, (show FVec Ideal S2048x1408 .bf16 from iblk m c 0 p) (ix2 k (j 0)) * (show FVec Ideal S2048x1024 .bf16 from iblk m c 1 p) (ix2 k (j 1)))
    (fun t h j => by rw [outsAt0_A m c t h (by omega)]; frame_out; rw [step_apply, zero_apply])
    (fun t h j => by
      by_cases h3 : t.val % 4 = 3
      · rw [outsAt0_C m c t h h3]; frame_out; rw [step_apply, read_unread_whole]
      · rw [outsAt0_B m c t h h3]; frame_out; rw [step_apply, read_unread_whole])
    t ((flush0_2 t).mp hf) _, zero_add, ref_apply]
  refine Fin.sum_mul_add_congr fun s k hl => ?_
  blk_point [iblk, V, idx t, idx ⟨_, Pipeline.run_point_lt_of_flush t ((flush0_2 t).mp hf) s⟩]

end Cert.Wgrad2

end
-- ==== Proof.Wgrad3.lean ====
/- The gradient of a weight of the feed-forward half: one product over the tokens, accumulated 2048 tokens at a time
   in the kernel and taken at once in the reference. -/
module

public import proofs.«01_k».proof.Proof.Gen.Kernel3Ideal.Value
public import proofs.«01_k».proof.Proof.Gen.Reference3Ideal.Read
public import Idealize.ShloMosaic.Lib.Pipeline.ValueKit
public import Idealize.ShloMosaic.Lib.Pipeline.ReadBack

@[expose] public section

set_option maxRecDepth 16384

noncomputable section

namespace Cert.Wgrad3

open Cert.Kernel3Ideal Cert.Kernel3Ideal.Gen Cert.Reference3Ideal.Read Idealize.ShloMosaic Idealize.ShloMosaic.TcCoe Idealize.SL.Sem
open Idealize.ShloMosaic.StableHlo

/-- The accumulator starts at zero. -/
theorem zero_apply (j : S1408x1024.Idx) : k0_pay1 (F := Ideal) j = 0 := by pointwise [k0_pay1]

/-- One point adds its 2048 tokens' product. -/
theorem step_apply (acc : Vec Ideal S1408x1024 .f32) (a : Vec Ideal S2048x1408 .bf16) (b : Vec Ideal S2048x1024 .bf16) (j : S1408x1024.Idx) :
    k0_pay2 (F := Ideal) acc a b j = acc j + ∑ k : Fin 2048, a (ix2 k (j 0)) * b (ix2 k (j 1)) := by pointwise [k0_pay2]

/-- The result is the accumulator's contents. -/
theorem last_apply (acc : Vec Ideal S1408x1024 .f32) (j : S1408x1024.Idx) : k0_pay3 (F := Ideal) acc j = acc j := by pointwise [k0_pay3]

/-- The reference's gradient, read at an index. -/
theorem ref_apply (x0 : (⟨S8192x2816, .bf16⟩ : BufTy).Contents (Elt Ideal)) (x1 : (⟨S8192x1024, .bf16⟩ : BufTy).Contents (Elt Ideal)) (j : S2816x1024.Idx) :
    val_main_v6 (F := Ideal) x0 x1 j = ∑ k : Fin 8192, x0 (ix2 k (j 0)) * x1 (ix2 k (j 1)) := by
  pointwise [val_main_v6, val_main_v5, val_main_v4, val_main_v3, val_main_v2, val_main_v1, val_main_v0, val_main_cst]
  exact Fin.sum_fin_congr fun k => mul_comm _ _

/-- The blocks a point stages and writes back. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

variable (m : (ℓ : Loc nD τ sig) → Buf (Elt Ideal) ℓ) (c : Dev nD)

/-- At the last point of a run the block written back is the accumulator. -/
theorem written (t : Fin cfg0.N) (h : t.val % 4 = 3) (y : S1408x1024.Idx) :
    (outsAt0 m c t.val t.isLt).1 y = (outsAt0 m c t.val t.isLt).2 y := by
  rw [outsAt0_C m c t (by omega) h]
  frame_out
  rw [last_apply]

/-- The result array. -/
theorem final : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2, written m c t ((flush0_2 t).mp hf),
    Pipeline.eq_sum_fin_of_reset_step_apply_of_flush (fun n h => (outsAt0 m c n h).2) 4 (fun _ => 0)
    (fun p j => ∑ k : Fin 2048, (show FVec Ideal S2048x1408 .bf16 from iblk m c 0 p) (ix2 k (j 0)) * (show FVec Ideal S2048x1024 .bf16 from iblk m c 1 p) (ix2 k (j 1)))
    (fun t h j => by rw [outsAt0_A m c t h (by omega)]; frame_out; rw [step_apply, zero_apply])
    (fun t h j => by
      by_cases h3 : t.val % 4 = 3
      · rw [outsAt0_C m c t h h3]; frame_out; rw [step_apply, read_unread_whole]
      · rw [outsAt0_B m c t h h3]; frame_out; rw [step_apply, read_unread_whole])
    t ((flush0_2 t).mp hf) _, zero_add, ref_apply]
  refine Fin.sum_mul_add_congr fun s k hl => ?_
  blk_point [iblk, V, idx t, idx ⟨_, Pipeline.run_point_lt_of_flush t ((flush0_2 t).mp hf) s⟩]

end Cert.Wgrad3

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Mix
public import proofs.«01_k».proof.Proof.MixFrameBits
public import proofs.«01_k».proof.Proof.Ffn
public import proofs.«01_k».proof.Proof.Wgrad2
public import proofs.«01_k».proof.Proof.Wgrad3
public import Idealize.ShloMosaic.Adequacy
public import Idealize.ShloMosaic.Init

@[expose] public section

noncomputable section

namespace Cert.Proof

open Idealize.ShloMosaic Idealize.SL.Sem

/-- The gradient of the widening weight. -/
theorem wgrad2 : algebraic_Kernel2Ideal_Reference2Ideal (hKernel2Ideal := Cert.Kernel2Ideal.Gen.facts) (hReference2Ideal := Cert.Reference2Ideal.Gen.facts) := by
  intro m g m' g' _ hm
  refine ⟨_, (θ_run _ _ _).mono (fun r h c => ⟨(h c).1.trans ((Cert.Kernel2Ideal.Value.final2 m c).symm.trans (Cert.Wgrad2.final m c)), (h c).2⟩) (Cert.Kernel2Ideal.Value.run m g),
    (θ_run _ _ _).mono (fun r h c => ⟨(h c).1.trans ?_, (h c).2⟩) (Cert.Reference2Ideal.Value.run m' g')⟩
  refine (Cert.Reference2Ideal.Read.val_main_v7_eq _ _).trans ?_
  rw [(hm c).1, (hm c).2]

/-- The gradient of the narrowing weight. -/
theorem wgrad3 : algebraic_Kernel3Ideal_Reference3Ideal (hKernel3Ideal := Cert.Kernel3Ideal.Gen.facts) (hReference3Ideal := Cert.Reference3Ideal.Gen.facts) := by
  intro m g m' g' _ hm
  refine ⟨_, (θ_run _ _ _).mono (fun r h c => ⟨(h c).1.trans ((Cert.Kernel3Ideal.Value.final2 m c).symm.trans (Cert.Wgrad3.final m c)), (h c).2⟩) (Cert.Kernel3Ideal.Value.run m g),
    (θ_run _ _ _).mono (fun r h c => ⟨(h c).1.trans ?_, (h c).2⟩) (Cert.Reference3Ideal.Value.run m' g')⟩
  refine (Cert.Reference3Ideal.Read.val_main_v6_eq _ _).trans ?_
  rw [(hm c).1, (hm c).2]

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_finite.Gen.facts, Cert.Mixer.preFacts,
  fun m ρ _ => Cert.Kernel.Gen.frame m ρ,
  fun m ρ _ => Cert.KernelIdeal.Gen.frame m ρ,
  fun m ρ _ => Cert.KernelIdeal.Gen.frame m ρ,
  fun m ρ _ => (θ_run _ _ _).mono (fun r h => ⟨fun c => (h c).2.2.2.2.2.2, sem_eq_zero_of_no_sems (by decide) r.2⟩) (Cert.ReferenceIdeal.Value.run m ρ),
  fun m ρ _ => (θ_run _ _ _).mono (fun r h => ⟨fun c => (h c).2.2.2.2.2.2, sem_eq_zero_of_no_sems (by decide) r.2⟩) (Cert.ReferenceIdeal.Value.run m ρ),
  fun m ρ _ => Cert.Kernel2.Gen.frame m ρ,
  fun m ρ _ => Cert.Kernel2Ideal.Gen.frame m ρ,
  fun m ρ _ => (θ_run _ _ _).mono (fun r h => ⟨fun c => (h c).2, sem_eq_zero_of_no_sems (by decide) r.2⟩) (Cert.Reference2Ideal.Value.run m ρ),
  fun m ρ _ => Cert.Kernel3.Gen.frame m ρ,
  fun m ρ _ => Cert.Kernel3Ideal.Gen.frame m ρ,
  fun m ρ _ => (θ_run _ _ _).mono (fun r h => ⟨fun c => (h c).2, sem_eq_zero_of_no_sems (by decide) r.2⟩) (Cert.Reference3Ideal.Value.run m ρ),
  fun m ρ _ => Cert.Kernel4.Mix.frame m ρ,
  fun m ρ _ => Cert.Kernel4Ideal.Mix.frame m ρ,
  fun m ρ _ => Cert.Kernel4Ideal.Mix.frame m ρ,
  fun m ρ _ => (θ_run _ _ _).mono (fun r h => ⟨fun c => (h c).2.2.2.2.2.2.2.2.2.2.2, sem_eq_zero_of_no_sems (by decide) r.2⟩) (Cert.Reference4Ideal.Value.run m ρ),
  fun m ρ _ => (θ_run _ _ _).mono (fun r h => ⟨fun c => (h c).2.2.2.2.2.2.2.2.2.2.2, sem_eq_zero_of_no_sems (by decide) r.2⟩) (Cert.Reference4Ideal.Value.run m ρ),
  trivial, Cert.Ffn.ffn, trivial, wgrad2, trivial, wgrad3, trivial, Cert.Mixer.mixer⟩

end Cert.Proof

end
